-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InDa (m : (ℓ : Loc Cert.InDa.nD Cert.InDa.τ Cert.InDa.sig) → Buf (Elt Bits) ℓ) : Prop :=
  True

def Pre_InDaIdeal (m : (ℓ : Loc Cert.InDaIdeal.nD Cert.InDaIdeal.τ Cert.InDaIdeal.sig) → Buf (Elt Ideal) ℓ) : Prop :=
  True

def Pre_InDaRefIdeal (m : (ℓ : Loc Cert.InDaRefIdeal.nD Cert.InDaRefIdeal.τ Cert.InDaRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_DbGate (m : (ℓ : Loc Cert.DbGate.nD Cert.DbGate.τ Cert.DbGate.sig) → Buf (Elt Bits) ℓ) : Prop :=
  True

def Pre_DbGateIdeal (m : (ℓ : Loc Cert.DbGateIdeal.nD Cert.DbGateIdeal.τ Cert.DbGateIdeal.sig) → Buf (Elt Ideal) ℓ) : Prop :=
  True

def Pre_DbGateRefIdeal (m : (ℓ : Loc Cert.DbGateRefIdeal.nD Cert.DbGateRefIdeal.τ Cert.DbGateRefIdeal.sig) → Buf (Elt Ideal) ℓ) : Prop :=
  True

def Pre_DbQkv (m : (ℓ : Loc Cert.DbQkv.nD Cert.DbQkv.τ Cert.DbQkv.sig) → Buf (Elt Bits) ℓ) : Prop :=
  True

def Pre_DbQkvIdeal (m : (ℓ : Loc Cert.DbQkvIdeal.nD Cert.DbQkvIdeal.τ Cert.DbQkvIdeal.sig) → Buf (Elt Ideal) ℓ) : Prop :=
  True

def Pre_DbQkvRefIdeal (m : (ℓ : Loc Cert.DbQkvRefIdeal.nD Cert.DbQkvRefIdeal.τ Cert.DbQkvRefIdeal.sig) → Buf (Elt Ideal) ℓ) : Prop :=
  True

def Pre_DbXbc (m : (ℓ : Loc Cert.DbXbc.nD Cert.DbXbc.τ Cert.DbXbc.sig) → Buf (Elt Bits) ℓ) : Prop :=
  True

def Pre_DbXbcIdeal (m : (ℓ : Loc Cert.DbXbcIdeal.nD Cert.DbXbcIdeal.τ Cert.DbXbcIdeal.sig) → Buf (Elt Ideal) ℓ) : Prop :=
  True

def Pre_DbXbcRefIdeal (m : (ℓ : Loc Cert.DbXbcRefIdeal.nD Cert.DbXbcRefIdeal.τ Cert.DbXbcRefIdeal.sig) → Buf (Elt Ideal) ℓ) : Prop :=
  True

def Pre_DbS5u (m : (ℓ : Loc Cert.DbS5u.nD Cert.DbS5u.τ Cert.DbS5u.sig) → Buf (Elt Bits) ℓ) : Prop :=
  True

def Pre_DbS5uIdeal (m : (ℓ : Loc Cert.DbS5uIdeal.nD Cert.DbS5uIdeal.τ Cert.DbS5uIdeal.sig) → Buf (Elt Ideal) ℓ) : Prop :=
  True

def Pre_DbS5uRefIdeal (m : (ℓ : Loc Cert.DbS5uRefIdeal.nD Cert.DbS5uRefIdeal.τ Cert.DbS5uRefIdeal.sig) → Buf (Elt Ideal) ℓ) : Prop :=
  True

def Pre_S5Tail (m : (ℓ : Loc Cert.S5Tail.nD Cert.S5Tail.τ Cert.S5Tail.sig) → Buf (Elt Bits) ℓ) : Prop :=
  True

def Pre_S5TailIdeal (m : (ℓ : Loc Cert.S5TailIdeal.nD Cert.S5TailIdeal.τ Cert.S5TailIdeal.sig) → Buf (Elt Ideal) ℓ) : Prop :=
  True

def Pre_S5TailRefIdeal (m : (ℓ : Loc Cert.S5TailRefIdeal.nD Cert.S5TailRefIdeal.τ Cert.S5TailRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_SsdTail (m : (ℓ : Loc Cert.SsdTail.nD Cert.SsdTail.τ Cert.SsdTail.sig) → Buf (Elt Bits) ℓ) : Prop :=
  True

def Pre_SsdTailIdeal (m : (ℓ : Loc Cert.SsdTailIdeal.nD Cert.SsdTailIdeal.τ Cert.SsdTailIdeal.sig) → Buf (Elt Ideal) ℓ) : Prop :=
  True

def Pre_SsdTailRefIdeal (m : (ℓ : Loc Cert.SsdTailRefIdeal.nD Cert.SsdTailRefIdeal.τ Cert.SsdTailRefIdeal.sig) → Buf (Elt Ideal) ℓ) : Prop :=
  True

def Pre_GdnTail (m : (ℓ : Loc Cert.GdnTail.nD Cert.GdnTail.τ Cert.GdnTail.sig) → Buf (Elt Bits) ℓ) : Prop :=
  True

def Pre_GdnTailIdeal (m : (ℓ : Loc Cert.GdnTailIdeal.nD Cert.GdnTailIdeal.τ Cert.GdnTailIdeal.sig) → Buf (Elt Ideal) ℓ) : Prop :=
  True

def Pre_GdnTailRefIdeal (m : (ℓ : Loc Cert.GdnTailRefIdeal.nD Cert.GdnTailRefIdeal.τ Cert.GdnTailRefIdeal.sig) → Buf (Elt Ideal) ℓ) : Prop :=
  True

def Pre_AdamRest (m : (ℓ : Loc Cert.AdamRest.nD Cert.AdamRest.τ Cert.AdamRest.sig) → Buf (Elt Bits) ℓ) : Prop :=
  True

def Pre_AdamRestIdeal (m : (ℓ : Loc Cert.AdamRestIdeal.nD Cert.AdamRestIdeal.τ Cert.AdamRestIdeal.sig) → Buf (Elt Ideal) ℓ) : Prop :=
  True

def Pre_AdamRestRefIdeal (m : (ℓ : Loc Cert.AdamRestRefIdeal.nD Cert.AdamRestRefIdeal.τ Cert.AdamRestRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_InDa [hInDa : Cert.InDa.Facts] : Prop :=
  ∀ (m : (ℓ : Loc Cert.InDa.nD Cert.InDa.τ Cert.InDa.sig) → Buf (Elt Bits) ℓ) (g : Dev Cert.InDa.nD → PrngReg), Pre_InDa m →
    θ_run (Cert.InDa.defs (F := Bits)) (onTc (τ := Cert.InDa.τ) (Cert.InDa.main (F := Bits))) ⟨m, fun _ => 0, g⟩ (fun r => (∀ c : Dev Cert.InDa.nD,
      r.2.mem ((c.tc : Thread Cert.InDa.nD Cert.InDa.τ).loc Cert.InDa.main_arg0) = m ((c.tc : Thread Cert.InDa.nD Cert.InDa.τ).loc Cert.InDa.main_arg0)
      ∧ r.2.mem ((c.tc : Thread Cert.InDa.nD Cert.InDa.τ).loc Cert.InDa.main_arg1) = m ((c.tc : Thread Cert.InDa.nD Cert.InDa.τ).loc Cert.InDa.main_arg1)
      ∧ r.2.mem ((c.tc : Thread Cert.InDa.nD Cert.InDa.τ).loc Cert.InDa.main_arg2) = m ((c.tc : Thread Cert.InDa.nD Cert.InDa.τ).loc Cert.InDa.main_arg2)
      ∧ r.2.mem ((c.tc : Thread Cert.InDa.nD Cert.InDa.τ).loc Cert.InDa.main_arg3) = m ((c.tc : Thread Cert.InDa.nD Cert.InDa.τ).loc Cert.InDa.main_arg3)
      ∧ r.2.mem ((c.tc : Thread Cert.InDa.nD Cert.InDa.τ).loc Cert.InDa.main_arg4) = m ((c.tc : Thread Cert.InDa.nD Cert.InDa.τ).loc Cert.InDa.main_arg4)
      ∧ r.2.mem ((c.tc : Thread Cert.InDa.nD Cert.InDa.τ).loc Cert.InDa.main_arg5) = m ((c.tc : Thread Cert.InDa.nD Cert.InDa.τ).loc Cert.InDa.main_arg5)
      ∧ r.2.mem ((c.tc : Thread Cert.InDa.nD Cert.InDa.τ).loc Cert.InDa.main_arg6) = m ((c.tc : Thread Cert.InDa.nD Cert.InDa.τ).loc Cert.InDa.main_arg6)
      ∧ r.2.mem ((c.tc : Thread Cert.InDa.nD Cert.InDa.τ).loc Cert.InDa.main_arg7) = m ((c.tc : Thread Cert.InDa.nD Cert.InDa.τ).loc Cert.InDa.main_arg7)
      ∧ r.2.mem ((c.tc : Thread Cert.InDa.nD Cert.InDa.τ).loc Cert.InDa.main_arg8) = m ((c.tc : Thread Cert.InDa.nD Cert.InDa.τ).loc Cert.InDa.main_arg8))
      ∧ r.2.sem = fun _ => 0)

def quiescent_InDaIdeal [hInDaIdeal : Cert.InDaIdeal.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
      ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2)
      ∧ r.2.mem ((c.tc : Thread Cert.InDaIdeal.nD Cert.InDaIdeal.τ).loc Cert.InDaIdeal.main_arg3) = m ((c.tc : Thread Cert.InDaIdeal.nD Cert.InDaIdeal.τ).loc Cert.InDaIdeal.main_arg3)
      ∧ r.2.mem ((c.tc : Thread Cert.InDaIdeal.nD Cert.InDaIdeal.τ).loc Cert.InDaIdeal.main_arg4) = m ((c.tc : Thread Cert.InDaIdeal.nD Cert.InDaIdeal.τ).loc Cert.InDaIdeal.main_arg4)
      ∧ r.2.mem ((c.tc : Thread Cert.InDaIdeal.nD Cert.InDaIdeal.τ).loc Cert.InDaIdeal.main_arg5) = m ((c.tc : Thread Cert.InDaIdeal.nD Cert.InDaIdeal.τ).loc Cert.InDaIdeal.main_arg5)
      ∧ r.2.mem ((c.tc : Thread Cert.InDaIdeal.nD Cert.InDaIdeal.τ).loc Cert.InDaIdeal.main_arg6) = m ((c.tc : Thread Cert.InDaIdeal.nD Cert.InDaIdeal.τ).loc Cert.InDaIdeal.main_arg6)
      ∧ r.2.mem ((c.tc : Thread Cert.InDaIdeal.nD Cert.InDaIdeal.τ).loc Cert.InDaIdeal.main_arg7) = m ((c.tc : Thread Cert.InDaIdeal.nD Cert.InDaIdeal.τ).loc Cert.InDaIdeal.main_arg7)
      ∧ r.2.mem ((c.tc : Thread Cert.InDaIdeal.nD Cert.InDaIdeal.τ).loc Cert.InDaIdeal.main_arg8) = m ((c.tc : Thread Cert.InDaIdeal.nD Cert.InDaIdeal.τ).loc Cert.InDaIdeal.main_arg8))
      ∧ r.2.sem = fun _ => 0)

def quiescent_InDaRefIdeal [hInDaRefIdeal : Cert.InDaRefIdeal.Facts] : Prop :=
  ∀ (m : (ℓ : Loc Cert.InDaRefIdeal.nD Cert.InDaRefIdeal.τ Cert.InDaRefIdeal.sig) → Buf (Elt Ideal) ℓ) (g : Dev Cert.InDaRefIdeal.nD → PrngReg), Pre_InDaRefIdeal m →
    θ_run (Cert.InDaRefIdeal.defs (F := Ideal)) (onTc (τ := Cert.InDaRefIdeal.τ) (Cert.InDaRefIdeal.main (F := Ideal))) ⟨m, fun _ => 0, g⟩ (fun r => (∀ c : Dev Cert.InDaRefIdeal.nD,
      r.2.mem ((c.tc : Thread Cert.InDaRefIdeal.nD Cert.InDaRefIdeal.τ).loc Cert.InDaRefIdeal.main_arg0) = m ((c.tc : Thread Cert.InDaRefIdeal.nD Cert.InDaRefIdeal.τ).loc Cert.InDaRefIdeal.main_arg0)
      ∧ r.2.mem ((c.tc : Thread Cert.InDaRefIdeal.nD Cert.InDaRefIdeal.τ).loc Cert.InDaRefIdeal.main_arg1) = m ((c.tc : Thread Cert.InDaRefIdeal.nD Cert.InDaRefIdeal.τ).loc Cert.InDaRefIdeal.main_arg1)
      ∧ r.2.mem ((c.tc : Thread Cert.InDaRefIdeal.nD Cert.InDaRefIdeal.τ).loc Cert.InDaRefIdeal.main_arg2) = m ((c.tc : Thread Cert.InDaRefIdeal.nD Cert.InDaRefIdeal.τ).loc Cert.InDaRefIdeal.main_arg2)
      ∧ r.2.mem ((c.tc : Thread Cert.InDaRefIdeal.nD Cert.InDaRefIdeal.τ).loc Cert.InDaRefIdeal.main_arg3) = m ((c.tc : Thread Cert.InDaRefIdeal.nD Cert.InDaRefIdeal.τ).loc Cert.InDaRefIdeal.main_arg3)
      ∧ r.2.mem ((c.tc : Thread Cert.InDaRefIdeal.nD Cert.InDaRefIdeal.τ).loc Cert.InDaRefIdeal.main_arg4) = m ((c.tc : Thread Cert.InDaRefIdeal.nD Cert.InDaRefIdeal.τ).loc Cert.InDaRefIdeal.main_arg4)
      ∧ r.2.mem ((c.tc : Thread Cert.InDaRefIdeal.nD Cert.InDaRefIdeal.τ).loc Cert.InDaRefIdeal.main_arg5) = m ((c.tc : Thread Cert.InDaRefIdeal.nD Cert.InDaRefIdeal.τ).loc Cert.InDaRefIdeal.main_arg5)
      ∧ r.2.mem ((c.tc : Thread Cert.InDaRefIdeal.nD Cert.InDaRefIdeal.τ).loc Cert.InDaRefIdeal.main_arg6) = m ((c.tc : Thread Cert.InDaRefIdeal.nD Cert.InDaRefIdeal.τ).loc Cert.InDaRefIdeal.main_arg6)
      ∧ r.2.mem ((c.tc : Thread Cert.InDaRefIdeal.nD Cert.InDaRefIdeal.τ).loc Cert.InDaRefIdeal.main_arg7) = m ((c.tc : Thread Cert.InDaRefIdeal.nD Cert.InDaRefIdeal.τ).loc Cert.InDaRefIdeal.main_arg7)
      ∧ r.2.mem ((c.tc : Thread Cert.InDaRefIdeal.nD Cert.InDaRefIdeal.τ).loc Cert.InDaRefIdeal.main_arg8) = m ((c.tc : Thread Cert.InDaRefIdeal.nD Cert.InDaRefIdeal.τ).loc Cert.InDaRefIdeal.main_arg8))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_DbGate [hDbGate : Cert.DbGate.Facts] : Prop :=
  ∀ (m : (ℓ : Loc Cert.DbGate.nD Cert.DbGate.τ Cert.DbGate.sig) → Buf (Elt Bits) ℓ) (g : Dev Cert.DbGate.nD → PrngReg), Pre_DbGate m →
    θ_run (Cert.DbGate.defs (F := Bits)) (onTc (τ := Cert.DbGate.τ) (Cert.DbGate.main (F := Bits))) ⟨m, fun _ => 0, g⟩ (fun r => (∀ c : Dev Cert.DbGate.nD,
      r.2.mem ((c.tc : Thread Cert.DbGate.nD Cert.DbGate.τ).loc Cert.DbGate.main_arg0) = m ((c.tc : Thread Cert.DbGate.nD Cert.DbGate.τ).loc Cert.DbGate.main_arg0)
      ∧ r.2.mem ((c.tc : Thread Cert.DbGate.nD Cert.DbGate.τ).loc Cert.DbGate.main_arg1) = m ((c.tc : Thread Cert.DbGate.nD Cert.DbGate.τ).loc Cert.DbGate.main_arg1))
      ∧ r.2.sem = fun _ => 0)

def quiescent_DbGateIdeal [hDbGateIdeal : Cert.DbGateIdeal.Facts] : Prop :=
  ∀ (m : (ℓ : Loc Cert.DbGateIdeal.nD Cert.DbGateIdeal.τ Cert.DbGateIdeal.sig) → Buf (Elt Ideal) ℓ) (g : Dev Cert.DbGateIdeal.nD → PrngReg), Pre_DbGateIdeal m →
    θ_run (Cert.DbGateIdeal.defs (F := Ideal)) (onTc (τ := Cert.DbGateIdeal.τ) (Cert.DbGateIdeal.main (F := Ideal))) ⟨m, fun _ => 0, g⟩ (fun r => (∀ c : Dev Cert.DbGateIdeal.nD,
      r.2.mem ((c.tc : Thread Cert.DbGateIdeal.nD Cert.DbGateIdeal.τ).loc Cert.DbGateIdeal.main_arg0) = m ((c.tc : Thread Cert.DbGateIdeal.nD Cert.DbGateIdeal.τ).loc Cert.DbGateIdeal.main_arg0)
      ∧ r.2.mem ((c.tc : Thread Cert.DbGateIdeal.nD Cert.DbGateIdeal.τ).loc Cert.DbGateIdeal.main_arg1) = m ((c.tc : Thread Cert.DbGateIdeal.nD Cert.DbGateIdeal.τ).loc Cert.DbGateIdeal.main_arg1))
      ∧ r.2.sem = fun _ => 0)

def quiescent_DbGateRefIdeal [hDbGateRefIdeal : Cert.DbGateRefIdeal.Facts] : Prop :=
  ∀ (m : (ℓ : Loc Cert.DbGateRefIdeal.nD Cert.DbGateRefIdeal.τ Cert.DbGateRefIdeal.sig) → Buf (Elt Ideal) ℓ) (g : Dev Cert.DbGateRefIdeal.nD → PrngReg), Pre_DbGateRefIdeal m →
    θ_run (Cert.DbGateRefIdeal.defs (F := Ideal)) (onTc (τ := Cert.DbGateRefIdeal.τ) (Cert.DbGateRefIdeal.main (F := Ideal))) ⟨m, fun _ => 0, g⟩ (fun r => (∀ c : Dev Cert.DbGateRefIdeal.nD,
      r.2.mem ((c.tc : Thread Cert.DbGateRefIdeal.nD Cert.DbGateRefIdeal.τ).loc Cert.DbGateRefIdeal.main_arg0) = m ((c.tc : Thread Cert.DbGateRefIdeal.nD Cert.DbGateRefIdeal.τ).loc Cert.DbGateRefIdeal.main_arg0)
      ∧ r.2.mem ((c.tc : Thread Cert.DbGateRefIdeal.nD Cert.DbGateRefIdeal.τ).loc Cert.DbGateRefIdeal.main_arg1) = m ((c.tc : Thread Cert.DbGateRefIdeal.nD Cert.DbGateRefIdeal.τ).loc Cert.DbGateRefIdeal.main_arg1))
      ∧ r.2.sem = fun _ => 0)

def quiescent_DbQkv [hDbQkv : Cert.DbQkv.Facts] : Prop :=
  ∀ (m : (ℓ : Loc Cert.DbQkv.nD Cert.DbQkv.τ Cert.DbQkv.sig) → Buf (Elt Bits) ℓ) (g : Dev Cert.DbQkv.nD → PrngReg), Pre_DbQkv m →
    θ_run (Cert.DbQkv.defs (F := Bits)) (onTc (τ := Cert.DbQkv.τ) (Cert.DbQkv.main (F := Bits))) ⟨m, fun _ => 0, g⟩ (fun r => (∀ c : Dev Cert.DbQkv.nD,
      r.2.mem ((c.tc : Thread Cert.DbQkv.nD Cert.DbQkv.τ).loc Cert.DbQkv.main_arg0) = m ((c.tc : Thread Cert.DbQkv.nD Cert.DbQkv.τ).loc Cert.DbQkv.main_arg0)
      ∧ r.2.mem ((c.tc : Thread Cert.DbQkv.nD Cert.DbQkv.τ).loc Cert.DbQkv.main_arg1) = m ((c.tc : Thread Cert.DbQkv.nD Cert.DbQkv.τ).loc Cert.DbQkv.main_arg1))
      ∧ r.2.sem = fun _ => 0)

def quiescent_DbQkvIdeal [hDbQkvIdeal : Cert.DbQkvIdeal.Facts] : Prop :=
  ∀ (m : (ℓ : Loc Cert.DbQkvIdeal.nD Cert.DbQkvIdeal.τ Cert.DbQkvIdeal.sig) → Buf (Elt Ideal) ℓ) (g : Dev Cert.DbQkvIdeal.nD → PrngReg), Pre_DbQkvIdeal m →
    θ_run (Cert.DbQkvIdeal.defs (F := Ideal)) (onTc (τ := Cert.DbQkvIdeal.τ) (Cert.DbQkvIdeal.main (F := Ideal))) ⟨m, fun _ => 0, g⟩ (fun r => (∀ c : Dev Cert.DbQkvIdeal.nD,
      r.2.mem ((c.tc : Thread Cert.DbQkvIdeal.nD Cert.DbQkvIdeal.τ).loc Cert.DbQkvIdeal.main_arg0) = m ((c.tc : Thread Cert.DbQkvIdeal.nD Cert.DbQkvIdeal.τ).loc Cert.DbQkvIdeal.main_arg0)
      ∧ r.2.mem ((c.tc : Thread Cert.DbQkvIdeal.nD Cert.DbQkvIdeal.τ).loc Cert.DbQkvIdeal.main_arg1) = m ((c.tc : Thread Cert.DbQkvIdeal.nD Cert.DbQkvIdeal.τ).loc Cert.DbQkvIdeal.main_arg1))
      ∧ r.2.sem = fun _ => 0)

def quiescent_DbQkvRefIdeal [hDbQkvRefIdeal : Cert.DbQkvRefIdeal.Facts] : Prop :=
  ∀ (m : (ℓ : Loc Cert.DbQkvRefIdeal.nD Cert.DbQkvRefIdeal.τ Cert.DbQkvRefIdeal.sig) → Buf (Elt Ideal) ℓ) (g : Dev Cert.DbQkvRefIdeal.nD → PrngReg), Pre_DbQkvRefIdeal m →
    θ_run (Cert.DbQkvRefIdeal.defs (F := Ideal)) (onTc (τ := Cert.DbQkvRefIdeal.τ) (Cert.DbQkvRefIdeal.main (F := Ideal))) ⟨m, fun _ => 0, g⟩ (fun r => (∀ c : Dev Cert.DbQkvRefIdeal.nD,
      r.2.mem ((c.tc : Thread Cert.DbQkvRefIdeal.nD Cert.DbQkvRefIdeal.τ).loc Cert.DbQkvRefIdeal.main_arg0) = m ((c.tc : Thread Cert.DbQkvRefIdeal.nD Cert.DbQkvRefIdeal.τ).loc Cert.DbQkvRefIdeal.main_arg0)
      ∧ r.2.mem ((c.tc : Thread Cert.DbQkvRefIdeal.nD Cert.DbQkvRefIdeal.τ).loc Cert.DbQkvRefIdeal.main_arg1) = m ((c.tc : Thread Cert.DbQkvRefIdeal.nD Cert.DbQkvRefIdeal.τ).loc Cert.DbQkvRefIdeal.main_arg1))
      ∧ r.2.sem = fun _ => 0)

def quiescent_DbXbc [hDbXbc : Cert.DbXbc.Facts] : Prop :=
  ∀ (m : (ℓ : Loc Cert.DbXbc.nD Cert.DbXbc.τ Cert.DbXbc.sig) → Buf (Elt Bits) ℓ) (g : Dev Cert.DbXbc.nD → PrngReg), Pre_DbXbc m →
    θ_run (Cert.DbXbc.defs (F := Bits)) (onTc (τ := Cert.DbXbc.τ) (Cert.DbXbc.main (F := Bits))) ⟨m, fun _ => 0, g⟩ (fun r => (∀ c : Dev Cert.DbXbc.nD,
      r.2.mem ((c.tc : Thread Cert.DbXbc.nD Cert.DbXbc.τ).loc Cert.DbXbc.main_arg0) = m ((c.tc : Thread Cert.DbXbc.nD Cert.DbXbc.τ).loc Cert.DbXbc.main_arg0)
      ∧ r.2.mem ((c.tc : Thread Cert.DbXbc.nD Cert.DbXbc.τ).loc Cert.DbXbc.main_arg1) = m ((c.tc : Thread Cert.DbXbc.nD Cert.DbXbc.τ).loc Cert.DbXbc.main_arg1))
      ∧ r.2.sem = fun _ => 0)

def quiescent_DbXbcIdeal [hDbXbcIdeal : Cert.DbXbcIdeal.Facts] : Prop :=
  ∀ (m : (ℓ : Loc Cert.DbXbcIdeal.nD Cert.DbXbcIdeal.τ Cert.DbXbcIdeal.sig) → Buf (Elt Ideal) ℓ) (g : Dev Cert.DbXbcIdeal.nD → PrngReg), Pre_DbXbcIdeal m →
    θ_run (Cert.DbXbcIdeal.defs (F := Ideal)) (onTc (τ := Cert.DbXbcIdeal.τ) (Cert.DbXbcIdeal.main (F := Ideal))) ⟨m, fun _ => 0, g⟩ (fun r => (∀ c : Dev Cert.DbXbcIdeal.nD,
      r.2.mem ((c.tc : Thread Cert.DbXbcIdeal.nD Cert.DbXbcIdeal.τ).loc Cert.DbXbcIdeal.main_arg0) = m ((c.tc : Thread Cert.DbXbcIdeal.nD Cert.DbXbcIdeal.τ).loc Cert.DbXbcIdeal.main_arg0)
      ∧ r.2.mem ((c.tc : Thread Cert.DbXbcIdeal.nD Cert.DbXbcIdeal.τ).loc Cert.DbXbcIdeal.main_arg1) = m ((c.tc : Thread Cert.DbXbcIdeal.nD Cert.DbXbcIdeal.τ).loc Cert.DbXbcIdeal.main_arg1))
      ∧ r.2.sem = fun _ => 0)

def quiescent_DbXbcRefIdeal [hDbXbcRefIdeal : Cert.DbXbcRefIdeal.Facts] : Prop :=
  ∀ (m : (ℓ : Loc Cert.DbXbcRefIdeal.nD Cert.DbXbcRefIdeal.τ Cert.DbXbcRefIdeal.sig) → Buf (Elt Ideal) ℓ) (g : Dev Cert.DbXbcRefIdeal.nD → PrngReg), Pre_DbXbcRefIdeal m →
    θ_run (Cert.DbXbcRefIdeal.defs (F := Ideal)) (onTc (τ := Cert.DbXbcRefIdeal.τ) (Cert.DbXbcRefIdeal.main (F := Ideal))) ⟨m, fun _ => 0, g⟩ (fun r => (∀ c : Dev Cert.DbXbcRefIdeal.nD,
      r.2.mem ((c.tc : Thread Cert.DbXbcRefIdeal.nD Cert.DbXbcRefIdeal.τ).loc Cert.DbXbcRefIdeal.main_arg0) = m ((c.tc : Thread Cert.DbXbcRefIdeal.nD Cert.DbXbcRefIdeal.τ).loc Cert.DbXbcRefIdeal.main_arg0)
      ∧ r.2.mem ((c.tc : Thread Cert.DbXbcRefIdeal.nD Cert.DbXbcRefIdeal.τ).loc Cert.DbXbcRefIdeal.main_arg1) = m ((c.tc : Thread Cert.DbXbcRefIdeal.nD Cert.DbXbcRefIdeal.τ).loc Cert.DbXbcRefIdeal.main_arg1))
      ∧ r.2.sem = fun _ => 0)

def quiescent_DbS5u [hDbS5u : Cert.DbS5u.Facts] : Prop :=
  ∀ (m : (ℓ : Loc Cert.DbS5u.nD Cert.DbS5u.τ Cert.DbS5u.sig) → Buf (Elt Bits) ℓ) (g : Dev Cert.DbS5u.nD → PrngReg), Pre_DbS5u m →
    θ_run (Cert.DbS5u.defs (F := Bits)) (onTc (τ := Cert.DbS5u.τ) (Cert.DbS5u.main (F := Bits))) ⟨m, fun _ => 0, g⟩ (fun r => (∀ c : Dev Cert.DbS5u.nD,
      r.2.mem ((c.tc : Thread Cert.DbS5u.nD Cert.DbS5u.τ).loc Cert.DbS5u.main_arg0) = m ((c.tc : Thread Cert.DbS5u.nD Cert.DbS5u.τ).loc Cert.DbS5u.main_arg0)
      ∧ r.2.mem ((c.tc : Thread Cert.DbS5u.nD Cert.DbS5u.τ).loc Cert.DbS5u.main_arg1) = m ((c.tc : Thread Cert.DbS5u.nD Cert.DbS5u.τ).loc Cert.DbS5u.main_arg1))
      ∧ r.2.sem = fun _ => 0)

def quiescent_DbS5uIdeal [hDbS5uIdeal : Cert.DbS5uIdeal.Facts] : Prop :=
  ∀ (m : (ℓ : Loc Cert.DbS5uIdeal.nD Cert.DbS5uIdeal.τ Cert.DbS5uIdeal.sig) → Buf (Elt Ideal) ℓ) (g : Dev Cert.DbS5uIdeal.nD → PrngReg), Pre_DbS5uIdeal m →
    θ_run (Cert.DbS5uIdeal.defs (F := Ideal)) (onTc (τ := Cert.DbS5uIdeal.τ) (Cert.DbS5uIdeal.main (F := Ideal))) ⟨m, fun _ => 0, g⟩ (fun r => (∀ c : Dev Cert.DbS5uIdeal.nD,
      r.2.mem ((c.tc : Thread Cert.DbS5uIdeal.nD Cert.DbS5uIdeal.τ).loc Cert.DbS5uIdeal.main_arg0) = m ((c.tc : Thread Cert.DbS5uIdeal.nD Cert.DbS5uIdeal.τ).loc Cert.DbS5uIdeal.main_arg0)
      ∧ r.2.mem ((c.tc : Thread Cert.DbS5uIdeal.nD Cert.DbS5uIdeal.τ).loc Cert.DbS5uIdeal.main_arg1) = m ((c.tc : Thread Cert.DbS5uIdeal.nD Cert.DbS5uIdeal.τ).loc Cert.DbS5uIdeal.main_arg1))
      ∧ r.2.sem = fun _ => 0)

def quiescent_DbS5uRefIdeal [hDbS5uRefIdeal : Cert.DbS5uRefIdeal.Facts] : Prop :=
  ∀ (m : (ℓ : Loc Cert.DbS5uRefIdeal.nD Cert.DbS5uRefIdeal.τ Cert.DbS5uRefIdeal.sig) → Buf (Elt Ideal) ℓ) (g : Dev Cert.DbS5uRefIdeal.nD → PrngReg), Pre_DbS5uRefIdeal m →
    θ_run (Cert.DbS5uRefIdeal.defs (F := Ideal)) (onTc (τ := Cert.DbS5uRefIdeal.τ) (Cert.DbS5uRefIdeal.main (F := Ideal))) ⟨m, fun _ => 0, g⟩ (fun r => (∀ c : Dev Cert.DbS5uRefIdeal.nD,
      r.2.mem ((c.tc : Thread Cert.DbS5uRefIdeal.nD Cert.DbS5uRefIdeal.τ).loc Cert.DbS5uRefIdeal.main_arg0) = m ((c.tc : Thread Cert.DbS5uRefIdeal.nD Cert.DbS5uRefIdeal.τ).loc Cert.DbS5uRefIdeal.main_arg0)
      ∧ r.2.mem ((c.tc : Thread Cert.DbS5uRefIdeal.nD Cert.DbS5uRefIdeal.τ).loc Cert.DbS5uRefIdeal.main_arg1) = m ((c.tc : Thread Cert.DbS5uRefIdeal.nD Cert.DbS5uRefIdeal.τ).loc Cert.DbS5uRefIdeal.main_arg1))
      ∧ r.2.sem = fun _ => 0)

def quiescent_S5Tail [hS5Tail : Cert.S5Tail.Facts] : Prop :=
  ∀ (m : (ℓ : Loc Cert.S5Tail.nD Cert.S5Tail.τ Cert.S5Tail.sig) → Buf (Elt Bits) ℓ) (g : Dev Cert.S5Tail.nD → PrngReg), Pre_S5Tail m →
    θ_run (Cert.S5Tail.defs (F := Bits)) (onTc (τ := Cert.S5Tail.τ) (Cert.S5Tail.main (F := Bits))) ⟨m, fun _ => 0, g⟩ (fun r => (∀ c : Dev Cert.S5Tail.nD,
      r.2.mem ((c.tc : Thread Cert.S5Tail.nD Cert.S5Tail.τ).loc Cert.S5Tail.main_arg0) = m ((c.tc : Thread Cert.S5Tail.nD Cert.S5Tail.τ).loc Cert.S5Tail.main_arg0)
      ∧ r.2.mem ((c.tc : Thread Cert.S5Tail.nD Cert.S5Tail.τ).loc Cert.S5Tail.main_arg1) = m ((c.tc : Thread Cert.S5Tail.nD Cert.S5Tail.τ).loc Cert.S5Tail.main_arg1)
      ∧ r.2.mem ((c.tc : Thread Cert.S5Tail.nD Cert.S5Tail.τ).loc Cert.S5Tail.main_arg2) = m ((c.tc : Thread Cert.S5Tail.nD Cert.S5Tail.τ).loc Cert.S5Tail.main_arg2)
      ∧ r.2.mem ((c.tc : Thread Cert.S5Tail.nD Cert.S5Tail.τ).loc Cert.S5Tail.main_arg3) = m ((c.tc : Thread Cert.S5Tail.nD Cert.S5Tail.τ).loc Cert.S5Tail.main_arg3)
      ∧ r.2.mem ((c.tc : Thread Cert.S5Tail.nD Cert.S5Tail.τ).loc Cert.S5Tail.main_arg4) = m ((c.tc : Thread Cert.S5Tail.nD Cert.S5Tail.τ).loc Cert.S5Tail.main_arg4)
      ∧ r.2.mem ((c.tc : Thread Cert.S5Tail.nD Cert.S5Tail.τ).loc Cert.S5Tail.main_arg5) = m ((c.tc : Thread Cert.S5Tail.nD Cert.S5Tail.τ).loc Cert.S5Tail.main_arg5)
      ∧ r.2.mem ((c.tc : Thread Cert.S5Tail.nD Cert.S5Tail.τ).loc Cert.S5Tail.main_arg6) = m ((c.tc : Thread Cert.S5Tail.nD Cert.S5Tail.τ).loc Cert.S5Tail.main_arg6)
      ∧ r.2.mem ((c.tc : Thread Cert.S5Tail.nD Cert.S5Tail.τ).loc Cert.S5Tail.main_arg7) = m ((c.tc : Thread Cert.S5Tail.nD Cert.S5Tail.τ).loc Cert.S5Tail.main_arg7))
      ∧ r.2.sem = fun _ => 0)

def quiescent_S5TailIdeal [hS5TailIdeal : Cert.S5TailIdeal.Facts] : Prop :=
  ∀ (m : (ℓ : Loc Cert.S5TailIdeal.nD Cert.S5TailIdeal.τ Cert.S5TailIdeal.sig) → Buf (Elt Ideal) ℓ) (g : Dev Cert.S5TailIdeal.nD → PrngReg), Pre_S5TailIdeal m →
    θ_run (Cert.S5TailIdeal.defs (F := Ideal)) (onTc (τ := Cert.S5TailIdeal.τ) (Cert.S5TailIdeal.main (F := Ideal))) ⟨m, fun _ => 0, g⟩ (fun r => (∀ c : Dev Cert.S5TailIdeal.nD,
      r.2.mem ((c.tc : Thread Cert.S5TailIdeal.nD Cert.S5TailIdeal.τ).loc Cert.S5TailIdeal.main_arg0) = m ((c.tc : Thread Cert.S5TailIdeal.nD Cert.S5TailIdeal.τ).loc Cert.S5TailIdeal.main_arg0)
      ∧ r.2.mem ((c.tc : Thread Cert.S5TailIdeal.nD Cert.S5TailIdeal.τ).loc Cert.S5TailIdeal.main_arg1) = m ((c.tc : Thread Cert.S5TailIdeal.nD Cert.S5TailIdeal.τ).loc Cert.S5TailIdeal.main_arg1)
      ∧ r.2.mem ((c.tc : Thread Cert.S5TailIdeal.nD Cert.S5TailIdeal.τ).loc Cert.S5TailIdeal.main_arg2) = m ((c.tc : Thread Cert.S5TailIdeal.nD Cert.S5TailIdeal.τ).loc Cert.S5TailIdeal.main_arg2)
      ∧ r.2.mem ((c.tc : Thread Cert.S5TailIdeal.nD Cert.S5TailIdeal.τ).loc Cert.S5TailIdeal.main_arg3) = m ((c.tc : Thread Cert.S5TailIdeal.nD Cert.S5TailIdeal.τ).loc Cert.S5TailIdeal.main_arg3)
      ∧ r.2.mem ((c.tc : Thread Cert.S5TailIdeal.nD Cert.S5TailIdeal.τ).loc Cert.S5TailIdeal.main_arg4) = m ((c.tc : Thread Cert.S5TailIdeal.nD Cert.S5TailIdeal.τ).loc Cert.S5TailIdeal.main_arg4)
      ∧ r.2.mem ((c.tc : Thread Cert.S5TailIdeal.nD Cert.S5TailIdeal.τ).loc Cert.S5TailIdeal.main_arg5) = m ((c.tc : Thread Cert.S5TailIdeal.nD Cert.S5TailIdeal.τ).loc Cert.S5TailIdeal.main_arg5)
      ∧ r.2.mem ((c.tc : Thread Cert.S5TailIdeal.nD Cert.S5TailIdeal.τ).loc Cert.S5TailIdeal.main_arg6) = m ((c.tc : Thread Cert.S5TailIdeal.nD Cert.S5TailIdeal.τ).loc Cert.S5TailIdeal.main_arg6)
      ∧ r.2.mem ((c.tc : Thread Cert.S5TailIdeal.nD Cert.S5TailIdeal.τ).loc Cert.S5TailIdeal.main_arg7) = m ((c.tc : Thread Cert.S5TailIdeal.nD Cert.S5TailIdeal.τ).loc Cert.S5TailIdeal.main_arg7))
      ∧ r.2.sem = fun _ => 0)

def quiescent_S5TailRefIdeal [hS5TailRefIdeal : Cert.S5TailRefIdeal.Facts] : Prop :=
  ∀ (m : (ℓ : Loc Cert.S5TailRefIdeal.nD Cert.S5TailRefIdeal.τ Cert.S5TailRefIdeal.sig) → Buf (Elt Ideal) ℓ) (g : Dev Cert.S5TailRefIdeal.nD → PrngReg), Pre_S5TailRefIdeal m →
    θ_run (Cert.S5TailRefIdeal.defs (F := Ideal)) (onTc (τ := Cert.S5TailRefIdeal.τ) (Cert.S5TailRefIdeal.main (F := Ideal))) ⟨m, fun _ => 0, g⟩ (fun r => (∀ c : Dev Cert.S5TailRefIdeal.nD,
      r.2.mem ((c.tc : Thread Cert.S5TailRefIdeal.nD Cert.S5TailRefIdeal.τ).loc Cert.S5TailRefIdeal.main_arg0) = m ((c.tc : Thread Cert.S5TailRefIdeal.nD Cert.S5TailRefIdeal.τ).loc Cert.S5TailRefIdeal.main_arg0)
      ∧ r.2.mem ((c.tc : Thread Cert.S5TailRefIdeal.nD Cert.S5TailRefIdeal.τ).loc Cert.S5TailRefIdeal.main_arg1) = m ((c.tc : Thread Cert.S5TailRefIdeal.nD Cert.S5TailRefIdeal.τ).loc Cert.S5TailRefIdeal.main_arg1)
      ∧ r.2.mem ((c.tc : Thread Cert.S5TailRefIdeal.nD Cert.S5TailRefIdeal.τ).loc Cert.S5TailRefIdeal.main_arg2) = m ((c.tc : Thread Cert.S5TailRefIdeal.nD Cert.S5TailRefIdeal.τ).loc Cert.S5TailRefIdeal.main_arg2)
      ∧ r.2.mem ((c.tc : Thread Cert.S5TailRefIdeal.nD Cert.S5TailRefIdeal.τ).loc Cert.S5TailRefIdeal.main_arg3) = m ((c.tc : Thread Cert.S5TailRefIdeal.nD Cert.S5TailRefIdeal.τ).loc Cert.S5TailRefIdeal.main_arg3)
      ∧ r.2.mem ((c.tc : Thread Cert.S5TailRefIdeal.nD Cert.S5TailRefIdeal.τ).loc Cert.S5TailRefIdeal.main_arg4) = m ((c.tc : Thread Cert.S5TailRefIdeal.nD Cert.S5TailRefIdeal.τ).loc Cert.S5TailRefIdeal.main_arg4)
      ∧ r.2.mem ((c.tc : Thread Cert.S5TailRefIdeal.nD Cert.S5TailRefIdeal.τ).loc Cert.S5TailRefIdeal.main_arg5) = m ((c.tc : Thread Cert.S5TailRefIdeal.nD Cert.S5TailRefIdeal.τ).loc Cert.S5TailRefIdeal.main_arg5)
      ∧ r.2.mem ((c.tc : Thread Cert.S5TailRefIdeal.nD Cert.S5TailRefIdeal.τ).loc Cert.S5TailRefIdeal.main_arg6) = m ((c.tc : Thread Cert.S5TailRefIdeal.nD Cert.S5TailRefIdeal.τ).loc Cert.S5TailRefIdeal.main_arg6)
      ∧ r.2.mem ((c.tc : Thread Cert.S5TailRefIdeal.nD Cert.S5TailRefIdeal.τ).loc Cert.S5TailRefIdeal.main_arg7) = m ((c.tc : Thread Cert.S5TailRefIdeal.nD Cert.S5TailRefIdeal.τ).loc Cert.S5TailRefIdeal.main_arg7))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_SsdTail [hSsdTail : Cert.SsdTail.Facts] : Prop :=
  ∀ (m : (ℓ : Loc Cert.SsdTail.nD Cert.SsdTail.τ Cert.SsdTail.sig) → Buf (Elt Bits) ℓ) (g : Dev Cert.SsdTail.nD → PrngReg), Pre_SsdTail m →
    θ_run (Cert.SsdTail.defs (F := Bits)) (onTc (τ := Cert.SsdTail.τ) (Cert.SsdTail.main (F := Bits))) ⟨m, fun _ => 0, g⟩ (fun r => (∀ c : Dev Cert.SsdTail.nD,
      r.2.mem ((c.tc : Thread Cert.SsdTail.nD Cert.SsdTail.τ).loc Cert.SsdTail.main_arg0) = m ((c.tc : Thread Cert.SsdTail.nD Cert.SsdTail.τ).loc Cert.SsdTail.main_arg0)
      ∧ r.2.mem ((c.tc : Thread Cert.SsdTail.nD Cert.SsdTail.τ).loc Cert.SsdTail.main_arg1) = m ((c.tc : Thread Cert.SsdTail.nD Cert.SsdTail.τ).loc Cert.SsdTail.main_arg1)
      ∧ r.2.mem ((c.tc : Thread Cert.SsdTail.nD Cert.SsdTail.τ).loc Cert.SsdTail.main_arg2) = m ((c.tc : Thread Cert.SsdTail.nD Cert.SsdTail.τ).loc Cert.SsdTail.main_arg2)
      ∧ r.2.mem ((c.tc : Thread Cert.SsdTail.nD Cert.SsdTail.τ).loc Cert.SsdTail.main_arg3) = m ((c.tc : Thread Cert.SsdTail.nD Cert.SsdTail.τ).loc Cert.SsdTail.main_arg3)
      ∧ r.2.mem ((c.tc : Thread Cert.SsdTail.nD Cert.SsdTail.τ).loc Cert.SsdTail.main_arg4) = m ((c.tc : Thread Cert.SsdTail.nD Cert.SsdTail.τ).loc Cert.SsdTail.main_arg4))
      ∧ r.2.sem = fun _ => 0)

def quiescent_SsdTailIdeal [hSsdTailIdeal : Cert.SsdTailIdeal.Facts] : Prop :=
  ∀ (m : (ℓ : Loc Cert.SsdTailIdeal.nD Cert.SsdTailIdeal.τ Cert.SsdTailIdeal.sig) → Buf (Elt Ideal) ℓ) (g : Dev Cert.SsdTailIdeal.nD → PrngReg), Pre_SsdTailIdeal m →
    θ_run (Cert.SsdTailIdeal.defs (F := Ideal)) (onTc (τ := Cert.SsdTailIdeal.τ) (Cert.SsdTailIdeal.main (F := Ideal))) ⟨m, fun _ => 0, g⟩ (fun r => (∀ c : Dev Cert.SsdTailIdeal.nD,
      r.2.mem ((c.tc : Thread Cert.SsdTailIdeal.nD Cert.SsdTailIdeal.τ).loc Cert.SsdTailIdeal.main_arg0) = m ((c.tc : Thread Cert.SsdTailIdeal.nD Cert.SsdTailIdeal.τ).loc Cert.SsdTailIdeal.main_arg0)
      ∧ r.2.mem ((c.tc : Thread Cert.SsdTailIdeal.nD Cert.SsdTailIdeal.τ).loc Cert.SsdTailIdeal.main_arg1) = m ((c.tc : Thread Cert.SsdTailIdeal.nD Cert.SsdTailIdeal.τ).loc Cert.SsdTailIdeal.main_arg1)
      ∧ r.2.mem ((c.tc : Thread Cert.SsdTailIdeal.nD Cert.SsdTailIdeal.τ).loc Cert.SsdTailIdeal.main_arg2) = m ((c.tc : Thread Cert.SsdTailIdeal.nD Cert.SsdTailIdeal.τ).loc Cert.SsdTailIdeal.main_arg2)
      ∧ r.2.mem ((c.tc : Thread Cert.SsdTailIdeal.nD Cert.SsdTailIdeal.τ).loc Cert.SsdTailIdeal.main_arg3) = m ((c.tc : Thread Cert.SsdTailIdeal.nD Cert.SsdTailIdeal.τ).loc Cert.SsdTailIdeal.main_arg3)
      ∧ r.2.mem ((c.tc : Thread Cert.SsdTailIdeal.nD Cert.SsdTailIdeal.τ).loc Cert.SsdTailIdeal.main_arg4) = m ((c.tc : Thread Cert.SsdTailIdeal.nD Cert.SsdTailIdeal.τ).loc Cert.SsdTailIdeal.main_arg4))
      ∧ r.2.sem = fun _ => 0)

def quiescent_SsdTailRefIdeal [hSsdTailRefIdeal : Cert.SsdTailRefIdeal.Facts] : Prop :=
  ∀ (m : (ℓ : Loc Cert.SsdTailRefIdeal.nD Cert.SsdTailRefIdeal.τ Cert.SsdTailRefIdeal.sig) → Buf (Elt Ideal) ℓ) (g : Dev Cert.SsdTailRefIdeal.nD → PrngReg), Pre_SsdTailRefIdeal m →
    θ_run (Cert.SsdTailRefIdeal.defs (F := Ideal)) (onTc (τ := Cert.SsdTailRefIdeal.τ) (Cert.SsdTailRefIdeal.main (F := Ideal))) ⟨m, fun _ => 0, g⟩ (fun r => (∀ c : Dev Cert.SsdTailRefIdeal.nD,
      r.2.mem ((c.tc : Thread Cert.SsdTailRefIdeal.nD Cert.SsdTailRefIdeal.τ).loc Cert.SsdTailRefIdeal.main_arg0) = m ((c.tc : Thread Cert.SsdTailRefIdeal.nD Cert.SsdTailRefIdeal.τ).loc Cert.SsdTailRefIdeal.main_arg0)
      ∧ r.2.mem ((c.tc : Thread Cert.SsdTailRefIdeal.nD Cert.SsdTailRefIdeal.τ).loc Cert.SsdTailRefIdeal.main_arg1) = m ((c.tc : Thread Cert.SsdTailRefIdeal.nD Cert.SsdTailRefIdeal.τ).loc Cert.SsdTailRefIdeal.main_arg1)
      ∧ r.2.mem ((c.tc : Thread Cert.SsdTailRefIdeal.nD Cert.SsdTailRefIdeal.τ).loc Cert.SsdTailRefIdeal.main_arg2) = m ((c.tc : Thread Cert.SsdTailRefIdeal.nD Cert.SsdTailRefIdeal.τ).loc Cert.SsdTailRefIdeal.main_arg2)
      ∧ r.2.mem ((c.tc : Thread Cert.SsdTailRefIdeal.nD Cert.SsdTailRefIdeal.τ).loc Cert.SsdTailRefIdeal.main_arg3) = m ((c.tc : Thread Cert.SsdTailRefIdeal.nD Cert.SsdTailRefIdeal.τ).loc Cert.SsdTailRefIdeal.main_arg3)
      ∧ r.2.mem ((c.tc : Thread Cert.SsdTailRefIdeal.nD Cert.SsdTailRefIdeal.τ).loc Cert.SsdTailRefIdeal.main_arg4) = m ((c.tc : Thread Cert.SsdTailRefIdeal.nD Cert.SsdTailRefIdeal.τ).loc Cert.SsdTailRefIdeal.main_arg4))
      ∧ r.2.sem = fun _ => 0)

def quiescent_GdnTail [hGdnTail : Cert.GdnTail.Facts] : Prop :=
  ∀ (m : (ℓ : Loc Cert.GdnTail.nD Cert.GdnTail.τ Cert.GdnTail.sig) → Buf (Elt Bits) ℓ) (g : Dev Cert.GdnTail.nD → PrngReg), Pre_GdnTail m →
    θ_run (Cert.GdnTail.defs (F := Bits)) (onTc (τ := Cert.GdnTail.τ) (Cert.GdnTail.main (F := Bits))) ⟨m, fun _ => 0, g⟩ (fun r => (∀ c : Dev Cert.GdnTail.nD,
      r.2.mem ((c.tc : Thread Cert.GdnTail.nD Cert.GdnTail.τ).loc Cert.GdnTail.main_arg0) = m ((c.tc : Thread Cert.GdnTail.nD Cert.GdnTail.τ).loc Cert.GdnTail.main_arg0)
      ∧ r.2.mem ((c.tc : Thread Cert.GdnTail.nD Cert.GdnTail.τ).loc Cert.GdnTail.main_arg1) = m ((c.tc : Thread Cert.GdnTail.nD Cert.GdnTail.τ).loc Cert.GdnTail.main_arg1)
      ∧ r.2.mem ((c.tc : Thread Cert.GdnTail.nD Cert.GdnTail.τ).loc Cert.GdnTail.main_arg2) = m ((c.tc : Thread Cert.GdnTail.nD Cert.GdnTail.τ).loc Cert.GdnTail.main_arg2)
      ∧ r.2.mem ((c.tc : Thread Cert.GdnTail.nD Cert.GdnTail.τ).loc Cert.GdnTail.main_arg3) = m ((c.tc : Thread Cert.GdnTail.nD Cert.GdnTail.τ).loc Cert.GdnTail.main_arg3)
      ∧ r.2.mem ((c.tc : Thread Cert.GdnTail.nD Cert.GdnTail.τ).loc Cert.GdnTail.main_arg4) = m ((c.tc : Thread Cert.GdnTail.nD Cert.GdnTail.τ).loc Cert.GdnTail.main_arg4))
      ∧ r.2.sem = fun _ => 0)

def quiescent_GdnTailIdeal [hGdnTailIdeal : Cert.GdnTailIdeal.Facts] : Prop :=
  ∀ (m : (ℓ : Loc Cert.GdnTailIdeal.nD Cert.GdnTailIdeal.τ Cert.GdnTailIdeal.sig) → Buf (Elt Ideal) ℓ) (g : Dev Cert.GdnTailIdeal.nD → PrngReg), Pre_GdnTailIdeal m →
    θ_run (Cert.GdnTailIdeal.defs (F := Ideal)) (onTc (τ := Cert.GdnTailIdeal.τ) (Cert.GdnTailIdeal.main (F := Ideal))) ⟨m, fun _ => 0, g⟩ (fun r => (∀ c : Dev Cert.GdnTailIdeal.nD,
      r.2.mem ((c.tc : Thread Cert.GdnTailIdeal.nD Cert.GdnTailIdeal.τ).loc Cert.GdnTailIdeal.main_arg0) = m ((c.tc : Thread Cert.GdnTailIdeal.nD Cert.GdnTailIdeal.τ).loc Cert.GdnTailIdeal.main_arg0)
      ∧ r.2.mem ((c.tc : Thread Cert.GdnTailIdeal.nD Cert.GdnTailIdeal.τ).loc Cert.GdnTailIdeal.main_arg1) = m ((c.tc : Thread Cert.GdnTailIdeal.nD Cert.GdnTailIdeal.τ).loc Cert.GdnTailIdeal.main_arg1)
      ∧ r.2.mem ((c.tc : Thread Cert.GdnTailIdeal.nD Cert.GdnTailIdeal.τ).loc Cert.GdnTailIdeal.main_arg2) = m ((c.tc : Thread Cert.GdnTailIdeal.nD Cert.GdnTailIdeal.τ).loc Cert.GdnTailIdeal.main_arg2)
      ∧ r.2.mem ((c.tc : Thread Cert.GdnTailIdeal.nD Cert.GdnTailIdeal.τ).loc Cert.GdnTailIdeal.main_arg3) = m ((c.tc : Thread Cert.GdnTailIdeal.nD Cert.GdnTailIdeal.τ).loc Cert.GdnTailIdeal.main_arg3)
      ∧ r.2.mem ((c.tc : Thread Cert.GdnTailIdeal.nD Cert.GdnTailIdeal.τ).loc Cert.GdnTailIdeal.main_arg4) = m ((c.tc : Thread Cert.GdnTailIdeal.nD Cert.GdnTailIdeal.τ).loc Cert.GdnTailIdeal.main_arg4))
      ∧ r.2.sem = fun _ => 0)

def quiescent_GdnTailRefIdeal [hGdnTailRefIdeal : Cert.GdnTailRefIdeal.Facts] : Prop :=
  ∀ (m : (ℓ : Loc Cert.GdnTailRefIdeal.nD Cert.GdnTailRefIdeal.τ Cert.GdnTailRefIdeal.sig) → Buf (Elt Ideal) ℓ) (g : Dev Cert.GdnTailRefIdeal.nD → PrngReg), Pre_GdnTailRefIdeal m →
    θ_run (Cert.GdnTailRefIdeal.defs (F := Ideal)) (onTc (τ := Cert.GdnTailRefIdeal.τ) (Cert.GdnTailRefIdeal.main (F := Ideal))) ⟨m, fun _ => 0, g⟩ (fun r => (∀ c : Dev Cert.GdnTailRefIdeal.nD,
      r.2.mem ((c.tc : Thread Cert.GdnTailRefIdeal.nD Cert.GdnTailRefIdeal.τ).loc Cert.GdnTailRefIdeal.main_arg0) = m ((c.tc : Thread Cert.GdnTailRefIdeal.nD Cert.GdnTailRefIdeal.τ).loc Cert.GdnTailRefIdeal.main_arg0)
      ∧ r.2.mem ((c.tc : Thread Cert.GdnTailRefIdeal.nD Cert.GdnTailRefIdeal.τ).loc Cert.GdnTailRefIdeal.main_arg1) = m ((c.tc : Thread Cert.GdnTailRefIdeal.nD Cert.GdnTailRefIdeal.τ).loc Cert.GdnTailRefIdeal.main_arg1)
      ∧ r.2.mem ((c.tc : Thread Cert.GdnTailRefIdeal.nD Cert.GdnTailRefIdeal.τ).loc Cert.GdnTailRefIdeal.main_arg2) = m ((c.tc : Thread Cert.GdnTailRefIdeal.nD Cert.GdnTailRefIdeal.τ).loc Cert.GdnTailRefIdeal.main_arg2)
      ∧ r.2.mem ((c.tc : Thread Cert.GdnTailRefIdeal.nD Cert.GdnTailRefIdeal.τ).loc Cert.GdnTailRefIdeal.main_arg3) = m ((c.tc : Thread Cert.GdnTailRefIdeal.nD Cert.GdnTailRefIdeal.τ).loc Cert.GdnTailRefIdeal.main_arg3)
      ∧ r.2.mem ((c.tc : Thread Cert.GdnTailRefIdeal.nD Cert.GdnTailRefIdeal.τ).loc Cert.GdnTailRefIdeal.main_arg4) = m ((c.tc : Thread Cert.GdnTailRefIdeal.nD Cert.GdnTailRefIdeal.τ).loc Cert.GdnTailRefIdeal.main_arg4))
      ∧ r.2.sem = fun _ => 0)

def quiescent_AdamRest [hAdamRest : Cert.AdamRest.Facts] : Prop :=
  ∀ (m : (ℓ : Loc Cert.AdamRest.nD Cert.AdamRest.τ Cert.AdamRest.sig) → Buf (Elt Bits) ℓ) (g : Dev Cert.AdamRest.nD → PrngReg), Pre_AdamRest m →
    θ_run (Cert.AdamRest.defs (F := Bits)) (onTc (τ := Cert.AdamRest.τ) (Cert.AdamRest.main (F := Bits))) ⟨m, fun _ => 0, g⟩ (fun r => (∀ c : Dev Cert.AdamRest.nD,
      r.2.mem ((c.tc : Thread Cert.AdamRest.nD Cert.AdamRest.τ).loc Cert.AdamRest.main_arg0) = m ((c.tc : Thread Cert.AdamRest.nD Cert.AdamRest.τ).loc Cert.AdamRest.main_arg0)
      ∧ r.2.mem ((c.tc : Thread Cert.AdamRest.nD Cert.AdamRest.τ).loc Cert.AdamRest.main_arg1) = m ((c.tc : Thread Cert.AdamRest.nD Cert.AdamRest.τ).loc Cert.AdamRest.main_arg1)
      ∧ r.2.mem ((c.tc : Thread Cert.AdamRest.nD Cert.AdamRest.τ).loc Cert.AdamRest.main_arg2) = m ((c.tc : Thread Cert.AdamRest.nD Cert.AdamRest.τ).loc Cert.AdamRest.main_arg2)
      ∧ r.2.mem ((c.tc : Thread Cert.AdamRest.nD Cert.AdamRest.τ).loc Cert.AdamRest.main_arg3) = m ((c.tc : Thread Cert.AdamRest.nD Cert.AdamRest.τ).loc Cert.AdamRest.main_arg3)
      ∧ r.2.mem ((c.tc : Thread Cert.AdamRest.nD Cert.AdamRest.τ).loc Cert.AdamRest.main_arg4) = m ((c.tc : Thread Cert.AdamRest.nD Cert.AdamRest.τ).loc Cert.AdamRest.main_arg4)
      ∧ r.2.mem ((c.tc : Thread Cert.AdamRest.nD Cert.AdamRest.τ).loc Cert.AdamRest.main_arg5) = m ((c.tc : Thread Cert.AdamRest.nD Cert.AdamRest.τ).loc Cert.AdamRest.main_arg5)
      ∧ r.2.mem ((c.tc : Thread Cert.AdamRest.nD Cert.AdamRest.τ).loc Cert.AdamRest.main_arg6) = m ((c.tc : Thread Cert.AdamRest.nD Cert.AdamRest.τ).loc Cert.AdamRest.main_arg6)
      ∧ r.2.mem ((c.tc : Thread Cert.AdamRest.nD Cert.AdamRest.τ).loc Cert.AdamRest.main_arg7) = m ((c.tc : Thread Cert.AdamRest.nD Cert.AdamRest.τ).loc Cert.AdamRest.main_arg7)
      ∧ r.2.mem ((c.tc : Thread Cert.AdamRest.nD Cert.AdamRest.τ).loc Cert.AdamRest.main_arg8) = m ((c.tc : Thread Cert.AdamRest.nD Cert.AdamRest.τ).loc Cert.AdamRest.main_arg8)
      ∧ r.2.mem ((c.tc : Thread Cert.AdamRest.nD Cert.AdamRest.τ).loc Cert.AdamRest.main_arg9) = m ((c.tc : Thread Cert.AdamRest.nD Cert.AdamRest.τ).loc Cert.AdamRest.main_arg9)
      ∧ r.2.mem ((c.tc : Thread Cert.AdamRest.nD Cert.AdamRest.τ).loc Cert.AdamRest.main_arg10) = m ((c.tc : Thread Cert.AdamRest.nD Cert.AdamRest.τ).loc Cert.AdamRest.main_arg10)
      ∧ r.2.mem ((c.tc : Thread Cert.AdamRest.nD Cert.AdamRest.τ).loc Cert.AdamRest.main_arg11) = m ((c.tc : Thread Cert.AdamRest.nD Cert.AdamRest.τ).loc Cert.AdamRest.main_arg11)
      ∧ r.2.mem ((c.tc : Thread Cert.AdamRest.nD Cert.AdamRest.τ).loc Cert.AdamRest.main_arg12) = m ((c.tc : Thread Cert.AdamRest.nD Cert.AdamRest.τ).loc Cert.AdamRest.main_arg12)
      ∧ r.2.mem ((c.tc : Thread Cert.AdamRest.nD Cert.AdamRest.τ).loc Cert.AdamRest.main_arg13) = m ((c.tc : Thread Cert.AdamRest.nD Cert.AdamRest.τ).loc Cert.AdamRest.main_arg13)
      ∧ r.2.mem ((c.tc : Thread Cert.AdamRest.nD Cert.AdamRest.τ).loc Cert.AdamRest.main_arg14) = m ((c.tc : Thread Cert.AdamRest.nD Cert.AdamRest.τ).loc Cert.AdamRest.main_arg14)
      ∧ r.2.mem ((c.tc : Thread Cert.AdamRest.nD Cert.AdamRest.τ).loc Cert.AdamRest.main_arg15) = m ((c.tc : Thread Cert.AdamRest.nD Cert.AdamRest.τ).loc Cert.AdamRest.main_arg15)
      ∧ r.2.mem ((c.tc : Thread Cert.AdamRest.nD Cert.AdamRest.τ).loc Cert.AdamRest.main_arg16) = m ((c.tc : Thread Cert.AdamRest.nD Cert.AdamRest.τ).loc Cert.AdamRest.main_arg16)
      ∧ r.2.mem ((c.tc : Thread Cert.AdamRest.nD Cert.AdamRest.τ).loc Cert.AdamRest.main_arg17) = m ((c.tc : Thread Cert.AdamRest.nD Cert.AdamRest.τ).loc Cert.AdamRest.main_arg17)
      ∧ r.2.mem ((c.tc : Thread Cert.AdamRest.nD Cert.AdamRest.τ).loc Cert.AdamRest.main_arg18) = m ((c.tc : Thread Cert.AdamRest.nD Cert.AdamRest.τ).loc Cert.AdamRest.main_arg18)
      ∧ r.2.mem ((c.tc : Thread Cert.AdamRest.nD Cert.AdamRest.τ).loc Cert.AdamRest.main_arg19) = m ((c.tc : Thread Cert.AdamRest.nD Cert.AdamRest.τ).loc Cert.AdamRest.main_arg19)
      ∧ r.2.mem ((c.tc : Thread Cert.AdamRest.nD Cert.AdamRest.τ).loc Cert.AdamRest.main_arg20) = m ((c.tc : Thread Cert.AdamRest.nD Cert.AdamRest.τ).loc Cert.AdamRest.main_arg20)
      ∧ r.2.mem ((c.tc : Thread Cert.AdamRest.nD Cert.AdamRest.τ).loc Cert.AdamRest.main_arg21) = m ((c.tc : Thread Cert.AdamRest.nD Cert.AdamRest.τ).loc Cert.AdamRest.main_arg21)
      ∧ r.2.mem ((c.tc : Thread Cert.AdamRest.nD Cert.AdamRest.τ).loc Cert.AdamRest.main_arg22) = m ((c.tc : Thread Cert.AdamRest.nD Cert.AdamRest.τ).loc Cert.AdamRest.main_arg22)
      ∧ r.2.mem ((c.tc : Thread Cert.AdamRest.nD Cert.AdamRest.τ).loc Cert.AdamRest.main_arg23) = m ((c.tc : Thread Cert.AdamRest.nD Cert.AdamRest.τ).loc Cert.AdamRest.main_arg23)
      ∧ r.2.mem ((c.tc : Thread Cert.AdamRest.nD Cert.AdamRest.τ).loc Cert.AdamRest.main_arg24) = m ((c.tc : Thread Cert.AdamRest.nD Cert.AdamRest.τ).loc Cert.AdamRest.main_arg24)
      ∧ r.2.mem ((c.tc : Thread Cert.AdamRest.nD Cert.AdamRest.τ).loc Cert.AdamRest.main_arg25) = m ((c.tc : Thread Cert.AdamRest.nD Cert.AdamRest.τ).loc Cert.AdamRest.main_arg25)
      ∧ r.2.mem ((c.tc : Thread Cert.AdamRest.nD Cert.AdamRest.τ).loc Cert.AdamRest.main_arg26) = m ((c.tc : Thread Cert.AdamRest.nD Cert.AdamRest.τ).loc Cert.AdamRest.main_arg26)
      ∧ r.2.mem ((c.tc : Thread Cert.AdamRest.nD Cert.AdamRest.τ).loc Cert.AdamRest.main_arg27) = m ((c.tc : Thread Cert.AdamRest.nD Cert.AdamRest.τ).loc Cert.AdamRest.main_arg27)
      ∧ r.2.mem ((c.tc : Thread Cert.AdamRest.nD Cert.AdamRest.τ).loc Cert.AdamRest.main_arg28) = m ((c.tc : Thread Cert.AdamRest.nD Cert.AdamRest.τ).loc Cert.AdamRest.main_arg28)
      ∧ r.2.mem ((c.tc : Thread Cert.AdamRest.nD Cert.AdamRest.τ).loc Cert.AdamRest.main_arg29) = m ((c.tc : Thread Cert.AdamRest.nD Cert.AdamRest.τ).loc Cert.AdamRest.main_arg29)
      ∧ r.2.mem ((c.tc : Thread Cert.AdamRest.nD Cert.AdamRest.τ).loc Cert.AdamRest.main_arg30) = m ((c.tc : Thread Cert.AdamRest.nD Cert.AdamRest.τ).loc Cert.AdamRest.main_arg30)
      ∧ r.2.mem ((c.tc : Thread Cert.AdamRest.nD Cert.AdamRest.τ).loc Cert.AdamRest.main_arg31) = m ((c.tc : Thread Cert.AdamRest.nD Cert.AdamRest.τ).loc Cert.AdamRest.main_arg31)
      ∧ r.2.mem ((c.tc : Thread Cert.AdamRest.nD Cert.AdamRest.τ).loc Cert.AdamRest.main_arg32) = m ((c.tc : Thread Cert.AdamRest.nD Cert.AdamRest.τ).loc Cert.AdamRest.main_arg32)
      ∧ r.2.mem ((c.tc : Thread Cert.AdamRest.nD Cert.AdamRest.τ).loc Cert.AdamRest.main_arg33) = m ((c.tc : Thread Cert.AdamRest.nD Cert.AdamRest.τ).loc Cert.AdamRest.main_arg33)
      ∧ r.2.mem ((c.tc : Thread Cert.AdamRest.nD Cert.AdamRest.τ).loc Cert.AdamRest.main_arg34) = m ((c.tc : Thread Cert.AdamRest.nD Cert.AdamRest.τ).loc Cert.AdamRest.main_arg34)
      ∧ r.2.mem ((c.tc : Thread Cert.AdamRest.nD Cert.AdamRest.τ).loc Cert.AdamRest.main_arg35) = m ((c.tc : Thread Cert.AdamRest.nD Cert.AdamRest.τ).loc Cert.AdamRest.main_arg35)
      ∧ r.2.mem ((c.tc : Thread Cert.AdamRest.nD Cert.AdamRest.τ).loc Cert.AdamRest.main_arg36) = m ((c.tc : Thread Cert.AdamRest.nD Cert.AdamRest.τ).loc Cert.AdamRest.main_arg36)
      ∧ r.2.mem ((c.tc : Thread Cert.AdamRest.nD Cert.AdamRest.τ).loc Cert.AdamRest.main_arg37) = m ((c.tc : Thread Cert.AdamRest.nD Cert.AdamRest.τ).loc Cert.AdamRest.main_arg37)
      ∧ r.2.mem ((c.tc : Thread Cert.AdamRest.nD Cert.AdamRest.τ).loc Cert.AdamRest.main_arg38) = m ((c.tc : Thread Cert.AdamRest.nD Cert.AdamRest.τ).loc Cert.AdamRest.main_arg38)
      ∧ r.2.mem ((c.tc : Thread Cert.AdamRest.nD Cert.AdamRest.τ).loc Cert.AdamRest.main_arg39) = m ((c.tc : Thread Cert.AdamRest.nD Cert.AdamRest.τ).loc Cert.AdamRest.main_arg39)
      ∧ r.2.mem ((c.tc : Thread Cert.AdamRest.nD Cert.AdamRest.τ).loc Cert.AdamRest.main_arg40) = m ((c.tc : Thread Cert.AdamRest.nD Cert.AdamRest.τ).loc Cert.AdamRest.main_arg40)
      ∧ r.2.mem ((c.tc : Thread Cert.AdamRest.nD Cert.AdamRest.τ).loc Cert.AdamRest.main_arg41) = m ((c.tc : Thread Cert.AdamRest.nD Cert.AdamRest.τ).loc Cert.AdamRest.main_arg41)
      ∧ r.2.mem ((c.tc : Thread Cert.AdamRest.nD Cert.AdamRest.τ).loc Cert.AdamRest.main_arg42) = m ((c.tc : Thread Cert.AdamRest.nD Cert.AdamRest.τ).loc Cert.AdamRest.main_arg42)
      ∧ r.2.mem ((c.tc : Thread Cert.AdamRest.nD Cert.AdamRest.τ).loc Cert.AdamRest.main_arg43) = m ((c.tc : Thread Cert.AdamRest.nD Cert.AdamRest.τ).loc Cert.AdamRest.main_arg43)
      ∧ r.2.mem ((c.tc : Thread Cert.AdamRest.nD Cert.AdamRest.τ).loc Cert.AdamRest.main_arg44) = m ((c.tc : Thread Cert.AdamRest.nD Cert.AdamRest.τ).loc Cert.AdamRest.main_arg44)
      ∧ r.2.mem ((c.tc : Thread Cert.AdamRest.nD Cert.AdamRest.τ).loc Cert.AdamRest.main_arg45) = m ((c.tc : Thread Cert.AdamRest.nD Cert.AdamRest.τ).loc Cert.AdamRest.main_arg45)
      ∧ r.2.mem ((c.tc : Thread Cert.AdamRest.nD Cert.AdamRest.τ).loc Cert.AdamRest.main_arg46) = m ((c.tc : Thread Cert.AdamRest.nD Cert.AdamRest.τ).loc Cert.AdamRest.main_arg46)
      ∧ r.2.mem ((c.tc : Thread Cert.AdamRest.nD Cert.AdamRest.τ).loc Cert.AdamRest.main_arg47) = m ((c.tc : Thread Cert.AdamRest.nD Cert.AdamRest.τ).loc Cert.AdamRest.main_arg47)
      ∧ r.2.mem ((c.tc : Thread Cert.AdamRest.nD Cert.AdamRest.τ).loc Cert.AdamRest.main_arg48) = m ((c.tc : Thread Cert.AdamRest.nD Cert.AdamRest.τ).loc Cert.AdamRest.main_arg48)
      ∧ r.2.mem ((c.tc : Thread Cert.AdamRest.nD Cert.AdamRest.τ).loc Cert.AdamRest.main_arg49) = m ((c.tc : Thread Cert.AdamRest.nD Cert.AdamRest.τ).loc Cert.AdamRest.main_arg49)
      ∧ r.2.mem ((c.tc : Thread Cert.AdamRest.nD Cert.AdamRest.τ).loc Cert.AdamRest.main_arg50) = m ((c.tc : Thread Cert.AdamRest.nD Cert.AdamRest.τ).loc Cert.AdamRest.main_arg50)
      ∧ r.2.mem ((c.tc : Thread Cert.AdamRest.nD Cert.AdamRest.τ).loc Cert.AdamRest.main_arg51) = m ((c.tc : Thread Cert.AdamRest.nD Cert.AdamRest.τ).loc Cert.AdamRest.main_arg51)
      ∧ r.2.mem ((c.tc : Thread Cert.AdamRest.nD Cert.AdamRest.τ).loc Cert.AdamRest.main_arg52) = m ((c.tc : Thread Cert.AdamRest.nD Cert.AdamRest.τ).loc Cert.AdamRest.main_arg52)
      ∧ r.2.mem ((c.tc : Thread Cert.AdamRest.nD Cert.AdamRest.τ).loc Cert.AdamRest.main_arg53) = m ((c.tc : Thread Cert.AdamRest.nD Cert.AdamRest.τ).loc Cert.AdamRest.main_arg53)
      ∧ r.2.mem ((c.tc : Thread Cert.AdamRest.nD Cert.AdamRest.τ).loc Cert.AdamRest.main_arg54) = m ((c.tc : Thread Cert.AdamRest.nD Cert.AdamRest.τ).loc Cert.AdamRest.main_arg54)
      ∧ r.2.mem ((c.tc : Thread Cert.AdamRest.nD Cert.AdamRest.τ).loc Cert.AdamRest.main_arg55) = m ((c.tc : Thread Cert.AdamRest.nD Cert.AdamRest.τ).loc Cert.AdamRest.main_arg55)
      ∧ r.2.mem ((c.tc : Thread Cert.AdamRest.nD Cert.AdamRest.τ).loc Cert.AdamRest.main_arg56) = m ((c.tc : Thread Cert.AdamRest.nD Cert.AdamRest.τ).loc Cert.AdamRest.main_arg56)
      ∧ r.2.mem ((c.tc : Thread Cert.AdamRest.nD Cert.AdamRest.τ).loc Cert.AdamRest.main_arg57) = m ((c.tc : Thread Cert.AdamRest.nD Cert.AdamRest.τ).loc Cert.AdamRest.main_arg57)
      ∧ r.2.mem ((c.tc : Thread Cert.AdamRest.nD Cert.AdamRest.τ).loc Cert.AdamRest.main_arg58) = m ((c.tc : Thread Cert.AdamRest.nD Cert.AdamRest.τ).loc Cert.AdamRest.main_arg58)
      ∧ r.2.mem ((c.tc : Thread Cert.AdamRest.nD Cert.AdamRest.τ).loc Cert.AdamRest.main_arg59) = m ((c.tc : Thread Cert.AdamRest.nD Cert.AdamRest.τ).loc Cert.AdamRest.main_arg59)
      ∧ r.2.mem ((c.tc : Thread Cert.AdamRest.nD Cert.AdamRest.τ).loc Cert.AdamRest.main_arg60) = m ((c.tc : Thread Cert.AdamRest.nD Cert.AdamRest.τ).loc Cert.AdamRest.main_arg60)
      ∧ r.2.mem ((c.tc : Thread Cert.AdamRest.nD Cert.AdamRest.τ).loc Cert.AdamRest.main_arg61) = m ((c.tc : Thread Cert.AdamRest.nD Cert.AdamRest.τ).loc Cert.AdamRest.main_arg61)
      ∧ r.2.mem ((c.tc : Thread Cert.AdamRest.nD Cert.AdamRest.τ).loc Cert.AdamRest.main_arg62) = m ((c.tc : Thread Cert.AdamRest.nD Cert.AdamRest.τ).loc Cert.AdamRest.main_arg62)
      ∧ r.2.mem ((c.tc : Thread Cert.AdamRest.nD Cert.AdamRest.τ).loc Cert.AdamRest.main_arg63) = m ((c.tc : Thread Cert.AdamRest.nD Cert.AdamRest.τ).loc Cert.AdamRest.main_arg63)
      ∧ r.2.mem ((c.tc : Thread Cert.AdamRest.nD Cert.AdamRest.τ).loc Cert.AdamRest.main_arg64) = m ((c.tc : Thread Cert.AdamRest.nD Cert.AdamRest.τ).loc Cert.AdamRest.main_arg64)
      ∧ r.2.mem ((c.tc : Thread Cert.AdamRest.nD Cert.AdamRest.τ).loc Cert.AdamRest.main_arg65) = m ((c.tc : Thread Cert.AdamRest.nD Cert.AdamRest.τ).loc Cert.AdamRest.main_arg65)
      ∧ r.2.mem ((c.tc : Thread Cert.AdamRest.nD Cert.AdamRest.τ).loc Cert.AdamRest.main_arg66) = m ((c.tc : Thread Cert.AdamRest.nD Cert.AdamRest.τ).loc Cert.AdamRest.main_arg66)
      ∧ r.2.mem ((c.tc : Thread Cert.AdamRest.nD Cert.AdamRest.τ).loc Cert.AdamRest.main_arg67) = m ((c.tc : Thread Cert.AdamRest.nD Cert.AdamRest.τ).loc Cert.AdamRest.main_arg67)
      ∧ r.2.mem ((c.tc : Thread Cert.AdamRest.nD Cert.AdamRest.τ).loc Cert.AdamRest.main_arg68) = m ((c.tc : Thread Cert.AdamRest.nD Cert.AdamRest.τ).loc Cert.AdamRest.main_arg68)
      ∧ r.2.mem ((c.tc : Thread Cert.AdamRest.nD Cert.AdamRest.τ).loc Cert.AdamRest.main_arg69) = m ((c.tc : Thread Cert.AdamRest.nD Cert.AdamRest.τ).loc Cert.AdamRest.main_arg69)
      ∧ r.2.mem ((c.tc : Thread Cert.AdamRest.nD Cert.AdamRest.τ).loc Cert.AdamRest.main_arg70) = m ((c.tc : Thread Cert.AdamRest.nD Cert.AdamRest.τ).loc Cert.AdamRest.main_arg70)
      ∧ r.2.mem ((c.tc : Thread Cert.AdamRest.nD Cert.AdamRest.τ).loc Cert.AdamRest.main_arg71) = m ((c.tc : Thread Cert.AdamRest.nD Cert.AdamRest.τ).loc Cert.AdamRest.main_arg71)
      ∧ r.2.mem ((c.tc : Thread Cert.AdamRest.nD Cert.AdamRest.τ).loc Cert.AdamRest.main_arg72) = m ((c.tc : Thread Cert.AdamRest.nD Cert.AdamRest.τ).loc Cert.AdamRest.main_arg72)
      ∧ r.2.mem ((c.tc : Thread Cert.AdamRest.nD Cert.AdamRest.τ).loc Cert.AdamRest.main_arg73) = m ((c.tc : Thread Cert.AdamRest.nD Cert.AdamRest.τ).loc Cert.AdamRest.main_arg73)
      ∧ r.2.mem ((c.tc : Thread Cert.AdamRest.nD Cert.AdamRest.τ).loc Cert.AdamRest.main_arg74) = m ((c.tc : Thread Cert.AdamRest.nD Cert.AdamRest.τ).loc Cert.AdamRest.main_arg74)
      ∧ r.2.mem ((c.tc : Thread Cert.AdamRest.nD Cert.AdamRest.τ).loc Cert.AdamRest.main_arg75) = m ((c.tc : Thread Cert.AdamRest.nD Cert.AdamRest.τ).loc Cert.AdamRest.main_arg75)
      ∧ r.2.mem ((c.tc : Thread Cert.AdamRest.nD Cert.AdamRest.τ).loc Cert.AdamRest.main_arg76) = m ((c.tc : Thread Cert.AdamRest.nD Cert.AdamRest.τ).loc Cert.AdamRest.main_arg76)
      ∧ r.2.mem ((c.tc : Thread Cert.AdamRest.nD Cert.AdamRest.τ).loc Cert.AdamRest.main_arg77) = m ((c.tc : Thread Cert.AdamRest.nD Cert.AdamRest.τ).loc Cert.AdamRest.main_arg77)
      ∧ r.2.mem ((c.tc : Thread Cert.AdamRest.nD Cert.AdamRest.τ).loc Cert.AdamRest.main_arg78) = m ((c.tc : Thread Cert.AdamRest.nD Cert.AdamRest.τ).loc Cert.AdamRest.main_arg78)
      ∧ r.2.mem ((c.tc : Thread Cert.AdamRest.nD Cert.AdamRest.τ).loc Cert.AdamRest.main_arg79) = m ((c.tc : Thread Cert.AdamRest.nD Cert.AdamRest.τ).loc Cert.AdamRest.main_arg79)
      ∧ r.2.mem ((c.tc : Thread Cert.AdamRest.nD Cert.AdamRest.τ).loc Cert.AdamRest.main_arg80) = m ((c.tc : Thread Cert.AdamRest.nD Cert.AdamRest.τ).loc Cert.AdamRest.main_arg80)
      ∧ r.2.mem ((c.tc : Thread Cert.AdamRest.nD Cert.AdamRest.τ).loc Cert.AdamRest.main_arg81) = m ((c.tc : Thread Cert.AdamRest.nD Cert.AdamRest.τ).loc Cert.AdamRest.main_arg81)
      ∧ r.2.mem ((c.tc : Thread Cert.AdamRest.nD Cert.AdamRest.τ).loc Cert.AdamRest.main_arg82) = m ((c.tc : Thread Cert.AdamRest.nD Cert.AdamRest.τ).loc Cert.AdamRest.main_arg82)
      ∧ r.2.mem ((c.tc : Thread Cert.AdamRest.nD Cert.AdamRest.τ).loc Cert.AdamRest.main_arg83) = m ((c.tc : Thread Cert.AdamRest.nD Cert.AdamRest.τ).loc Cert.AdamRest.main_arg83)
      ∧ r.2.mem ((c.tc : Thread Cert.AdamRest.nD Cert.AdamRest.τ).loc Cert.AdamRest.main_arg84) = m ((c.tc : Thread Cert.AdamRest.nD Cert.AdamRest.τ).loc Cert.AdamRest.main_arg84)
      ∧ r.2.mem ((c.tc : Thread Cert.AdamRest.nD Cert.AdamRest.τ).loc Cert.AdamRest.main_arg85) = m ((c.tc : Thread Cert.AdamRest.nD Cert.AdamRest.τ).loc Cert.AdamRest.main_arg85)
      ∧ r.2.mem ((c.tc : Thread Cert.AdamRest.nD Cert.AdamRest.τ).loc Cert.AdamRest.main_arg86) = m ((c.tc : Thread Cert.AdamRest.nD Cert.AdamRest.τ).loc Cert.AdamRest.main_arg86)
      ∧ r.2.mem ((c.tc : Thread Cert.AdamRest.nD Cert.AdamRest.τ).loc Cert.AdamRest.main_arg87) = m ((c.tc : Thread Cert.AdamRest.nD Cert.AdamRest.τ).loc Cert.AdamRest.main_arg87)
      ∧ r.2.mem ((c.tc : Thread Cert.AdamRest.nD Cert.AdamRest.τ).loc Cert.AdamRest.main_arg88) = m ((c.tc : Thread Cert.AdamRest.nD Cert.AdamRest.τ).loc Cert.AdamRest.main_arg88)
      ∧ r.2.mem ((c.tc : Thread Cert.AdamRest.nD Cert.AdamRest.τ).loc Cert.AdamRest.main_arg89) = m ((c.tc : Thread Cert.AdamRest.nD Cert.AdamRest.τ).loc Cert.AdamRest.main_arg89)
      ∧ r.2.mem ((c.tc : Thread Cert.AdamRest.nD Cert.AdamRest.τ).loc Cert.AdamRest.main_arg90) = m ((c.tc : Thread Cert.AdamRest.nD Cert.AdamRest.τ).loc Cert.AdamRest.main_arg90)
      ∧ r.2.mem ((c.tc : Thread Cert.AdamRest.nD Cert.AdamRest.τ).loc Cert.AdamRest.main_arg91) = m ((c.tc : Thread Cert.AdamRest.nD Cert.AdamRest.τ).loc Cert.AdamRest.main_arg91)
      ∧ r.2.mem ((c.tc : Thread Cert.AdamRest.nD Cert.AdamRest.τ).loc Cert.AdamRest.main_arg92) = m ((c.tc : Thread Cert.AdamRest.nD Cert.AdamRest.τ).loc Cert.AdamRest.main_arg92)
      ∧ r.2.mem ((c.tc : Thread Cert.AdamRest.nD Cert.AdamRest.τ).loc Cert.AdamRest.main_arg93) = m ((c.tc : Thread Cert.AdamRest.nD Cert.AdamRest.τ).loc Cert.AdamRest.main_arg93)
      ∧ r.2.mem ((c.tc : Thread Cert.AdamRest.nD Cert.AdamRest.τ).loc Cert.AdamRest.main_arg94) = m ((c.tc : Thread Cert.AdamRest.nD Cert.AdamRest.τ).loc Cert.AdamRest.main_arg94)
      ∧ r.2.mem ((c.tc : Thread Cert.AdamRest.nD Cert.AdamRest.τ).loc Cert.AdamRest.main_arg95) = m ((c.tc : Thread Cert.AdamRest.nD Cert.AdamRest.τ).loc Cert.AdamRest.main_arg95)
      ∧ r.2.mem ((c.tc : Thread Cert.AdamRest.nD Cert.AdamRest.τ).loc Cert.AdamRest.main_arg96) = m ((c.tc : Thread Cert.AdamRest.nD Cert.AdamRest.τ).loc Cert.AdamRest.main_arg96)
      ∧ r.2.mem ((c.tc : Thread Cert.AdamRest.nD Cert.AdamRest.τ).loc Cert.AdamRest.main_arg97) = m ((c.tc : Thread Cert.AdamRest.nD Cert.AdamRest.τ).loc Cert.AdamRest.main_arg97)
      ∧ r.2.mem ((c.tc : Thread Cert.AdamRest.nD Cert.AdamRest.τ).loc Cert.AdamRest.main_arg98) = m ((c.tc : Thread Cert.AdamRest.nD Cert.AdamRest.τ).loc Cert.AdamRest.main_arg98)
      ∧ r.2.mem ((c.tc : Thread Cert.AdamRest.nD Cert.AdamRest.τ).loc Cert.AdamRest.main_arg99) = m ((c.tc : Thread Cert.AdamRest.nD Cert.AdamRest.τ).loc Cert.AdamRest.main_arg99))
      ∧ r.2.sem = fun _ => 0)

def quiescent_AdamRestIdeal [hAdamRestIdeal : Cert.AdamRestIdeal.Facts] : Prop :=
  ∀ (m : (ℓ : Loc Cert.AdamRestIdeal.nD Cert.AdamRestIdeal.τ Cert.AdamRestIdeal.sig) → Buf (Elt Ideal) ℓ) (g : Dev Cert.AdamRestIdeal.nD → PrngReg), Pre_AdamRestIdeal m →
    θ_run (Cert.AdamRestIdeal.defs (F := Ideal)) (onTc (τ := Cert.AdamRestIdeal.τ) (Cert.AdamRestIdeal.main (F := Ideal))) ⟨m, fun _ => 0, g⟩ (fun r => (∀ c : Dev Cert.AdamRestIdeal.nD,
      r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
      ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
      ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
      ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3)
      ∧ r.2.mem ((c.tc : Thread Cert.AdamRestIdeal.nD Cert.AdamRestIdeal.τ).loc Cert.AdamRestIdeal.main_arg4) = m ((c.tc : Thread Cert.AdamRestIdeal.nD Cert.AdamRestIdeal.τ).loc Cert.AdamRestIdeal.main_arg4)
      ∧ r.2.mem ((c.tc : Thread Cert.AdamRestIdeal.nD Cert.AdamRestIdeal.τ).loc Cert.AdamRestIdeal.main_arg5) = m ((c.tc : Thread Cert.AdamRestIdeal.nD Cert.AdamRestIdeal.τ).loc Cert.AdamRestIdeal.main_arg5)
      ∧ r.2.mem ((c.tc : Thread Cert.AdamRestIdeal.nD Cert.AdamRestIdeal.τ).loc Cert.AdamRestIdeal.main_arg6) = m ((c.tc : Thread Cert.AdamRestIdeal.nD Cert.AdamRestIdeal.τ).loc Cert.AdamRestIdeal.main_arg6)
      ∧ r.2.mem ((c.tc : Thread Cert.AdamRestIdeal.nD Cert.AdamRestIdeal.τ).loc Cert.AdamRestIdeal.main_arg7) = m ((c.tc : Thread Cert.AdamRestIdeal.nD Cert.AdamRestIdeal.τ).loc Cert.AdamRestIdeal.main_arg7)
      ∧ r.2.mem ((c.tc : Thread Cert.AdamRestIdeal.nD Cert.AdamRestIdeal.τ).loc Cert.AdamRestIdeal.main_arg8) = m ((c.tc : Thread Cert.AdamRestIdeal.nD Cert.AdamRestIdeal.τ).loc Cert.AdamRestIdeal.main_arg8)
      ∧ r.2.mem ((c.tc : Thread Cert.AdamRestIdeal.nD Cert.AdamRestIdeal.τ).loc Cert.AdamRestIdeal.main_arg9) = m ((c.tc : Thread Cert.AdamRestIdeal.nD Cert.AdamRestIdeal.τ).loc Cert.AdamRestIdeal.main_arg9)
      ∧ r.2.mem ((c.tc : Thread Cert.AdamRestIdeal.nD Cert.AdamRestIdeal.τ).loc Cert.AdamRestIdeal.main_arg10) = m ((c.tc : Thread Cert.AdamRestIdeal.nD Cert.AdamRestIdeal.τ).loc Cert.AdamRestIdeal.main_arg10)
      ∧ r.2.mem ((c.tc : Thread Cert.AdamRestIdeal.nD Cert.AdamRestIdeal.τ).loc Cert.AdamRestIdeal.main_arg11) = m ((c.tc : Thread Cert.AdamRestIdeal.nD Cert.AdamRestIdeal.τ).loc Cert.AdamRestIdeal.main_arg11)
      ∧ r.2.mem ((c.tc : Thread Cert.AdamRestIdeal.nD Cert.AdamRestIdeal.τ).loc Cert.AdamRestIdeal.main_arg12) = m ((c.tc : Thread Cert.AdamRestIdeal.nD Cert.AdamRestIdeal.τ).loc Cert.AdamRestIdeal.main_arg12)
      ∧ r.2.mem ((c.tc : Thread Cert.AdamRestIdeal.nD Cert.AdamRestIdeal.τ).loc Cert.AdamRestIdeal.main_arg13) = m ((c.tc : Thread Cert.AdamRestIdeal.nD Cert.AdamRestIdeal.τ).loc Cert.AdamRestIdeal.main_arg13)
      ∧ r.2.mem ((c.tc : Thread Cert.AdamRestIdeal.nD Cert.AdamRestIdeal.τ).loc Cert.AdamRestIdeal.main_arg14) = m ((c.tc : Thread Cert.AdamRestIdeal.nD Cert.AdamRestIdeal.τ).loc Cert.AdamRestIdeal.main_arg14)
      ∧ r.2.mem ((c.tc : Thread Cert.AdamRestIdeal.nD Cert.AdamRestIdeal.τ).loc Cert.AdamRestIdeal.main_arg15) = m ((c.tc : Thread Cert.AdamRestIdeal.nD Cert.AdamRestIdeal.τ).loc Cert.AdamRestIdeal.main_arg15)
      ∧ r.2.mem ((c.tc : Thread Cert.AdamRestIdeal.nD Cert.AdamRestIdeal.τ).loc Cert.AdamRestIdeal.main_arg16) = m ((c.tc : Thread Cert.AdamRestIdeal.nD Cert.AdamRestIdeal.τ).loc Cert.AdamRestIdeal.main_arg16)
      ∧ r.2.mem ((c.tc : Thread Cert.AdamRestIdeal.nD Cert.AdamRestIdeal.τ).loc Cert.AdamRestIdeal.main_arg17) = m ((c.tc : Thread Cert.AdamRestIdeal.nD Cert.AdamRestIdeal.τ).loc Cert.AdamRestIdeal.main_arg17)
      ∧ r.2.mem ((c.tc : Thread Cert.AdamRestIdeal.nD Cert.AdamRestIdeal.τ).loc Cert.AdamRestIdeal.main_arg18) = m ((c.tc : Thread Cert.AdamRestIdeal.nD Cert.AdamRestIdeal.τ).loc Cert.AdamRestIdeal.main_arg18)
      ∧ r.2.mem ((c.tc : Thread Cert.AdamRestIdeal.nD Cert.AdamRestIdeal.τ).loc Cert.AdamRestIdeal.main_arg19) = m ((c.tc : Thread Cert.AdamRestIdeal.nD Cert.AdamRestIdeal.τ).loc Cert.AdamRestIdeal.main_arg19)
      ∧ r.2.mem ((c.tc : Thread Cert.AdamRestIdeal.nD Cert.AdamRestIdeal.τ).loc Cert.AdamRestIdeal.main_arg20) = m ((c.tc : Thread Cert.AdamRestIdeal.nD Cert.AdamRestIdeal.τ).loc Cert.AdamRestIdeal.main_arg20)
      ∧ r.2.mem ((c.tc : Thread Cert.AdamRestIdeal.nD Cert.AdamRestIdeal.τ).loc Cert.AdamRestIdeal.main_arg21) = m ((c.tc : Thread Cert.AdamRestIdeal.nD Cert.AdamRestIdeal.τ).loc Cert.AdamRestIdeal.main_arg21)
      ∧ r.2.mem ((c.tc : Thread Cert.AdamRestIdeal.nD Cert.AdamRestIdeal.τ).loc Cert.AdamRestIdeal.main_arg22) = m ((c.tc : Thread Cert.AdamRestIdeal.nD Cert.AdamRestIdeal.τ).loc Cert.AdamRestIdeal.main_arg22)
      ∧ r.2.mem ((c.tc : Thread Cert.AdamRestIdeal.nD Cert.AdamRestIdeal.τ).loc Cert.AdamRestIdeal.main_arg23) = m ((c.tc : Thread Cert.AdamRestIdeal.nD Cert.AdamRestIdeal.τ).loc Cert.AdamRestIdeal.main_arg23)
      ∧ r.2.mem ((c.tc : Thread Cert.AdamRestIdeal.nD Cert.AdamRestIdeal.τ).loc Cert.AdamRestIdeal.main_arg24) = m ((c.tc : Thread Cert.AdamRestIdeal.nD Cert.AdamRestIdeal.τ).loc Cert.AdamRestIdeal.main_arg24)
      ∧ r.2.mem ((c.tc : Thread Cert.AdamRestIdeal.nD Cert.AdamRestIdeal.τ).loc Cert.AdamRestIdeal.main_arg25) = m ((c.tc : Thread Cert.AdamRestIdeal.nD Cert.AdamRestIdeal.τ).loc Cert.AdamRestIdeal.main_arg25)
      ∧ r.2.mem ((c.tc : Thread Cert.AdamRestIdeal.nD Cert.AdamRestIdeal.τ).loc Cert.AdamRestIdeal.main_arg26) = m ((c.tc : Thread Cert.AdamRestIdeal.nD Cert.AdamRestIdeal.τ).loc Cert.AdamRestIdeal.main_arg26)
      ∧ r.2.mem ((c.tc : Thread Cert.AdamRestIdeal.nD Cert.AdamRestIdeal.τ).loc Cert.AdamRestIdeal.main_arg27) = m ((c.tc : Thread Cert.AdamRestIdeal.nD Cert.AdamRestIdeal.τ).loc Cert.AdamRestIdeal.main_arg27)
      ∧ r.2.mem ((c.tc : Thread Cert.AdamRestIdeal.nD Cert.AdamRestIdeal.τ).loc Cert.AdamRestIdeal.main_arg28) = m ((c.tc : Thread Cert.AdamRestIdeal.nD Cert.AdamRestIdeal.τ).loc Cert.AdamRestIdeal.main_arg28)
      ∧ r.2.mem ((c.tc : Thread Cert.AdamRestIdeal.nD Cert.AdamRestIdeal.τ).loc Cert.AdamRestIdeal.main_arg29) = m ((c.tc : Thread Cert.AdamRestIdeal.nD Cert.AdamRestIdeal.τ).loc Cert.AdamRestIdeal.main_arg29)
      ∧ r.2.mem ((c.tc : Thread Cert.AdamRestIdeal.nD Cert.AdamRestIdeal.τ).loc Cert.AdamRestIdeal.main_arg30) = m ((c.tc : Thread Cert.AdamRestIdeal.nD Cert.AdamRestIdeal.τ).loc Cert.AdamRestIdeal.main_arg30)
      ∧ r.2.mem ((c.tc : Thread Cert.AdamRestIdeal.nD Cert.AdamRestIdeal.τ).loc Cert.AdamRestIdeal.main_arg31) = m ((c.tc : Thread Cert.AdamRestIdeal.nD Cert.AdamRestIdeal.τ).loc Cert.AdamRestIdeal.main_arg31)
      ∧ r.2.mem ((c.tc : Thread Cert.AdamRestIdeal.nD Cert.AdamRestIdeal.τ).loc Cert.AdamRestIdeal.main_arg32) = m ((c.tc : Thread Cert.AdamRestIdeal.nD Cert.AdamRestIdeal.τ).loc Cert.AdamRestIdeal.main_arg32)
      ∧ r.2.mem ((c.tc : Thread Cert.AdamRestIdeal.nD Cert.AdamRestIdeal.τ).loc Cert.AdamRestIdeal.main_arg33) = m ((c.tc : Thread Cert.AdamRestIdeal.nD Cert.AdamRestIdeal.τ).loc Cert.AdamRestIdeal.main_arg33)
      ∧ r.2.mem ((c.tc : Thread Cert.AdamRestIdeal.nD Cert.AdamRestIdeal.τ).loc Cert.AdamRestIdeal.main_arg34) = m ((c.tc : Thread Cert.AdamRestIdeal.nD Cert.AdamRestIdeal.τ).loc Cert.AdamRestIdeal.main_arg34)
      ∧ r.2.mem ((c.tc : Thread Cert.AdamRestIdeal.nD Cert.AdamRestIdeal.τ).loc Cert.AdamRestIdeal.main_arg35) = m ((c.tc : Thread Cert.AdamRestIdeal.nD Cert.AdamRestIdeal.τ).loc Cert.AdamRestIdeal.main_arg35)
      ∧ r.2.mem ((c.tc : Thread Cert.AdamRestIdeal.nD Cert.AdamRestIdeal.τ).loc Cert.AdamRestIdeal.main_arg36) = m ((c.tc : Thread Cert.AdamRestIdeal.nD Cert.AdamRestIdeal.τ).loc Cert.AdamRestIdeal.main_arg36)
      ∧ r.2.mem ((c.tc : Thread Cert.AdamRestIdeal.nD Cert.AdamRestIdeal.τ).loc Cert.AdamRestIdeal.main_arg37) = m ((c.tc : Thread Cert.AdamRestIdeal.nD Cert.AdamRestIdeal.τ).loc Cert.AdamRestIdeal.main_arg37)
      ∧ r.2.mem ((c.tc : Thread Cert.AdamRestIdeal.nD Cert.AdamRestIdeal.τ).loc Cert.AdamRestIdeal.main_arg38) = m ((c.tc : Thread Cert.AdamRestIdeal.nD Cert.AdamRestIdeal.τ).loc Cert.AdamRestIdeal.main_arg38)
      ∧ r.2.mem ((c.tc : Thread Cert.AdamRestIdeal.nD Cert.AdamRestIdeal.τ).loc Cert.AdamRestIdeal.main_arg39) = m ((c.tc : Thread Cert.AdamRestIdeal.nD Cert.AdamRestIdeal.τ).loc Cert.AdamRestIdeal.main_arg39)
      ∧ r.2.mem ((c.tc : Thread Cert.AdamRestIdeal.nD Cert.AdamRestIdeal.τ).loc Cert.AdamRestIdeal.main_arg40) = m ((c.tc : Thread Cert.AdamRestIdeal.nD Cert.AdamRestIdeal.τ).loc Cert.AdamRestIdeal.main_arg40)
      ∧ r.2.mem ((c.tc : Thread Cert.AdamRestIdeal.nD Cert.AdamRestIdeal.τ).loc Cert.AdamRestIdeal.main_arg41) = m ((c.tc : Thread Cert.AdamRestIdeal.nD Cert.AdamRestIdeal.τ).loc Cert.AdamRestIdeal.main_arg41)
      ∧ r.2.mem ((c.tc : Thread Cert.AdamRestIdeal.nD Cert.AdamRestIdeal.τ).loc Cert.AdamRestIdeal.main_arg42) = m ((c.tc : Thread Cert.AdamRestIdeal.nD Cert.AdamRestIdeal.τ).loc Cert.AdamRestIdeal.main_arg42)
      ∧ r.2.mem ((c.tc : Thread Cert.AdamRestIdeal.nD Cert.AdamRestIdeal.τ).loc Cert.AdamRestIdeal.main_arg43) = m ((c.tc : Thread Cert.AdamRestIdeal.nD Cert.AdamRestIdeal.τ).loc Cert.AdamRestIdeal.main_arg43)
      ∧ r.2.mem ((c.tc : Thread Cert.AdamRestIdeal.nD Cert.AdamRestIdeal.τ).loc Cert.AdamRestIdeal.main_arg44) = m ((c.tc : Thread Cert.AdamRestIdeal.nD Cert.AdamRestIdeal.τ).loc Cert.AdamRestIdeal.main_arg44)
      ∧ r.2.mem ((c.tc : Thread Cert.AdamRestIdeal.nD Cert.AdamRestIdeal.τ).loc Cert.AdamRestIdeal.main_arg45) = m ((c.tc : Thread Cert.AdamRestIdeal.nD Cert.AdamRestIdeal.τ).loc Cert.AdamRestIdeal.main_arg45)
      ∧ r.2.mem ((c.tc : Thread Cert.AdamRestIdeal.nD Cert.AdamRestIdeal.τ).loc Cert.AdamRestIdeal.main_arg46) = m ((c.tc : Thread Cert.AdamRestIdeal.nD Cert.AdamRestIdeal.τ).loc Cert.AdamRestIdeal.main_arg46)
      ∧ r.2.mem ((c.tc : Thread Cert.AdamRestIdeal.nD Cert.AdamRestIdeal.τ).loc Cert.AdamRestIdeal.main_arg47) = m ((c.tc : Thread Cert.AdamRestIdeal.nD Cert.AdamRestIdeal.τ).loc Cert.AdamRestIdeal.main_arg47)
      ∧ r.2.mem ((c.tc : Thread Cert.AdamRestIdeal.nD Cert.AdamRestIdeal.τ).loc Cert.AdamRestIdeal.main_arg48) = m ((c.tc : Thread Cert.AdamRestIdeal.nD Cert.AdamRestIdeal.τ).loc Cert.AdamRestIdeal.main_arg48)
      ∧ r.2.mem ((c.tc : Thread Cert.AdamRestIdeal.nD Cert.AdamRestIdeal.τ).loc Cert.AdamRestIdeal.main_arg49) = m ((c.tc : Thread Cert.AdamRestIdeal.nD Cert.AdamRestIdeal.τ).loc Cert.AdamRestIdeal.main_arg49)
      ∧ r.2.mem ((c.tc : Thread Cert.AdamRestIdeal.nD Cert.AdamRestIdeal.τ).loc Cert.AdamRestIdeal.main_arg50) = m ((c.tc : Thread Cert.AdamRestIdeal.nD Cert.AdamRestIdeal.τ).loc Cert.AdamRestIdeal.main_arg50)
      ∧ r.2.mem ((c.tc : Thread Cert.AdamRestIdeal.nD Cert.AdamRestIdeal.τ).loc Cert.AdamRestIdeal.main_arg51) = m ((c.tc : Thread Cert.AdamRestIdeal.nD Cert.AdamRestIdeal.τ).loc Cert.AdamRestIdeal.main_arg51)
      ∧ r.2.mem ((c.tc : Thread Cert.AdamRestIdeal.nD Cert.AdamRestIdeal.τ).loc Cert.AdamRestIdeal.main_arg52) = m ((c.tc : Thread Cert.AdamRestIdeal.nD Cert.AdamRestIdeal.τ).loc Cert.AdamRestIdeal.main_arg52)
      ∧ r.2.mem ((c.tc : Thread Cert.AdamRestIdeal.nD Cert.AdamRestIdeal.τ).loc Cert.AdamRestIdeal.main_arg53) = m ((c.tc : Thread Cert.AdamRestIdeal.nD Cert.AdamRestIdeal.τ).loc Cert.AdamRestIdeal.main_arg53)
      ∧ r.2.mem ((c.tc : Thread Cert.AdamRestIdeal.nD Cert.AdamRestIdeal.τ).loc Cert.AdamRestIdeal.main_arg54) = m ((c.tc : Thread Cert.AdamRestIdeal.nD Cert.AdamRestIdeal.τ).loc Cert.AdamRestIdeal.main_arg54)
      ∧ r.2.mem ((c.tc : Thread Cert.AdamRestIdeal.nD Cert.AdamRestIdeal.τ).loc Cert.AdamRestIdeal.main_arg55) = m ((c.tc : Thread Cert.AdamRestIdeal.nD Cert.AdamRestIdeal.τ).loc Cert.AdamRestIdeal.main_arg55)
      ∧ r.2.mem ((c.tc : Thread Cert.AdamRestIdeal.nD Cert.AdamRestIdeal.τ).loc Cert.AdamRestIdeal.main_arg56) = m ((c.tc : Thread Cert.AdamRestIdeal.nD Cert.AdamRestIdeal.τ).loc Cert.AdamRestIdeal.main_arg56)
      ∧ r.2.mem ((c.tc : Thread Cert.AdamRestIdeal.nD Cert.AdamRestIdeal.τ).loc Cert.AdamRestIdeal.main_arg57) = m ((c.tc : Thread Cert.AdamRestIdeal.nD Cert.AdamRestIdeal.τ).loc Cert.AdamRestIdeal.main_arg57)
      ∧ r.2.mem ((c.tc : Thread Cert.AdamRestIdeal.nD Cert.AdamRestIdeal.τ).loc Cert.AdamRestIdeal.main_arg58) = m ((c.tc : Thread Cert.AdamRestIdeal.nD Cert.AdamRestIdeal.τ).loc Cert.AdamRestIdeal.main_arg58)
      ∧ r.2.mem ((c.tc : Thread Cert.AdamRestIdeal.nD Cert.AdamRestIdeal.τ).loc Cert.AdamRestIdeal.main_arg59) = m ((c.tc : Thread Cert.AdamRestIdeal.nD Cert.AdamRestIdeal.τ).loc Cert.AdamRestIdeal.main_arg59)
      ∧ r.2.mem ((c.tc : Thread Cert.AdamRestIdeal.nD Cert.AdamRestIdeal.τ).loc Cert.AdamRestIdeal.main_arg60) = m ((c.tc : Thread Cert.AdamRestIdeal.nD Cert.AdamRestIdeal.τ).loc Cert.AdamRestIdeal.main_arg60)
      ∧ r.2.mem ((c.tc : Thread Cert.AdamRestIdeal.nD Cert.AdamRestIdeal.τ).loc Cert.AdamRestIdeal.main_arg61) = m ((c.tc : Thread Cert.AdamRestIdeal.nD Cert.AdamRestIdeal.τ).loc Cert.AdamRestIdeal.main_arg61)
      ∧ r.2.mem ((c.tc : Thread Cert.AdamRestIdeal.nD Cert.AdamRestIdeal.τ).loc Cert.AdamRestIdeal.main_arg62) = m ((c.tc : Thread Cert.AdamRestIdeal.nD Cert.AdamRestIdeal.τ).loc Cert.AdamRestIdeal.main_arg62)
      ∧ r.2.mem ((c.tc : Thread Cert.AdamRestIdeal.nD Cert.AdamRestIdeal.τ).loc Cert.AdamRestIdeal.main_arg63) = m ((c.tc : Thread Cert.AdamRestIdeal.nD Cert.AdamRestIdeal.τ).loc Cert.AdamRestIdeal.main_arg63)
      ∧ r.2.mem ((c.tc : Thread Cert.AdamRestIdeal.nD Cert.AdamRestIdeal.τ).loc Cert.AdamRestIdeal.main_arg64) = m ((c.tc : Thread Cert.AdamRestIdeal.nD Cert.AdamRestIdeal.τ).loc Cert.AdamRestIdeal.main_arg64)
      ∧ r.2.mem ((c.tc : Thread Cert.AdamRestIdeal.nD Cert.AdamRestIdeal.τ).loc Cert.AdamRestIdeal.main_arg65) = m ((c.tc : Thread Cert.AdamRestIdeal.nD Cert.AdamRestIdeal.τ).loc Cert.AdamRestIdeal.main_arg65)
      ∧ r.2.mem ((c.tc : Thread Cert.AdamRestIdeal.nD Cert.AdamRestIdeal.τ).loc Cert.AdamRestIdeal.main_arg66) = m ((c.tc : Thread Cert.AdamRestIdeal.nD Cert.AdamRestIdeal.τ).loc Cert.AdamRestIdeal.main_arg66)
      ∧ r.2.mem ((c.tc : Thread Cert.AdamRestIdeal.nD Cert.AdamRestIdeal.τ).loc Cert.AdamRestIdeal.main_arg67) = m ((c.tc : Thread Cert.AdamRestIdeal.nD Cert.AdamRestIdeal.τ).loc Cert.AdamRestIdeal.main_arg67)
      ∧ r.2.mem ((c.tc : Thread Cert.AdamRestIdeal.nD Cert.AdamRestIdeal.τ).loc Cert.AdamRestIdeal.main_arg68) = m ((c.tc : Thread Cert.AdamRestIdeal.nD Cert.AdamRestIdeal.τ).loc Cert.AdamRestIdeal.main_arg68)
      ∧ r.2.mem ((c.tc : Thread Cert.AdamRestIdeal.nD Cert.AdamRestIdeal.τ).loc Cert.AdamRestIdeal.main_arg69) = m ((c.tc : Thread Cert.AdamRestIdeal.nD Cert.AdamRestIdeal.τ).loc Cert.AdamRestIdeal.main_arg69)
      ∧ r.2.mem ((c.tc : Thread Cert.AdamRestIdeal.nD Cert.AdamRestIdeal.τ).loc Cert.AdamRestIdeal.main_arg70) = m ((c.tc : Thread Cert.AdamRestIdeal.nD Cert.AdamRestIdeal.τ).loc Cert.AdamRestIdeal.main_arg70)
      ∧ r.2.mem ((c.tc : Thread Cert.AdamRestIdeal.nD Cert.AdamRestIdeal.τ).loc Cert.AdamRestIdeal.main_arg71) = m ((c.tc : Thread Cert.AdamRestIdeal.nD Cert.AdamRestIdeal.τ).loc Cert.AdamRestIdeal.main_arg71)
      ∧ r.2.mem ((c.tc : Thread Cert.AdamRestIdeal.nD Cert.AdamRestIdeal.τ).loc Cert.AdamRestIdeal.main_arg72) = m ((c.tc : Thread Cert.AdamRestIdeal.nD Cert.AdamRestIdeal.τ).loc Cert.AdamRestIdeal.main_arg72)
      ∧ r.2.mem ((c.tc : Thread Cert.AdamRestIdeal.nD Cert.AdamRestIdeal.τ).loc Cert.AdamRestIdeal.main_arg73) = m ((c.tc : Thread Cert.AdamRestIdeal.nD Cert.AdamRestIdeal.τ).loc Cert.AdamRestIdeal.main_arg73)
      ∧ r.2.mem ((c.tc : Thread Cert.AdamRestIdeal.nD Cert.AdamRestIdeal.τ).loc Cert.AdamRestIdeal.main_arg74) = m ((c.tc : Thread Cert.AdamRestIdeal.nD Cert.AdamRestIdeal.τ).loc Cert.AdamRestIdeal.main_arg74)
      ∧ r.2.mem ((c.tc : Thread Cert.AdamRestIdeal.nD Cert.AdamRestIdeal.τ).loc Cert.AdamRestIdeal.main_arg75) = m ((c.tc : Thread Cert.AdamRestIdeal.nD Cert.AdamRestIdeal.τ).loc Cert.AdamRestIdeal.main_arg75)
      ∧ r.2.mem ((c.tc : Thread Cert.AdamRestIdeal.nD Cert.AdamRestIdeal.τ).loc Cert.AdamRestIdeal.main_arg76) = m ((c.tc : Thread Cert.AdamRestIdeal.nD Cert.AdamRestIdeal.τ).loc Cert.AdamRestIdeal.main_arg76)
      ∧ r.2.mem ((c.tc : Thread Cert.AdamRestIdeal.nD Cert.AdamRestIdeal.τ).loc Cert.AdamRestIdeal.main_arg77) = m ((c.tc : Thread Cert.AdamRestIdeal.nD Cert.AdamRestIdeal.τ).loc Cert.AdamRestIdeal.main_arg77)
      ∧ r.2.mem ((c.tc : Thread Cert.AdamRestIdeal.nD Cert.AdamRestIdeal.τ).loc Cert.AdamRestIdeal.main_arg78) = m ((c.tc : Thread Cert.AdamRestIdeal.nD Cert.AdamRestIdeal.τ).loc Cert.AdamRestIdeal.main_arg78)
      ∧ r.2.mem ((c.tc : Thread Cert.AdamRestIdeal.nD Cert.AdamRestIdeal.τ).loc Cert.AdamRestIdeal.main_arg79) = m ((c.tc : Thread Cert.AdamRestIdeal.nD Cert.AdamRestIdeal.τ).loc Cert.AdamRestIdeal.main_arg79)
      ∧ r.2.mem ((c.tc : Thread Cert.AdamRestIdeal.nD Cert.AdamRestIdeal.τ).loc Cert.AdamRestIdeal.main_arg80) = m ((c.tc : Thread Cert.AdamRestIdeal.nD Cert.AdamRestIdeal.τ).loc Cert.AdamRestIdeal.main_arg80)
      ∧ r.2.mem ((c.tc : Thread Cert.AdamRestIdeal.nD Cert.AdamRestIdeal.τ).loc Cert.AdamRestIdeal.main_arg81) = m ((c.tc : Thread Cert.AdamRestIdeal.nD Cert.AdamRestIdeal.τ).loc Cert.AdamRestIdeal.main_arg81)
      ∧ r.2.mem ((c.tc : Thread Cert.AdamRestIdeal.nD Cert.AdamRestIdeal.τ).loc Cert.AdamRestIdeal.main_arg82) = m ((c.tc : Thread Cert.AdamRestIdeal.nD Cert.AdamRestIdeal.τ).loc Cert.AdamRestIdeal.main_arg82)
      ∧ r.2.mem ((c.tc : Thread Cert.AdamRestIdeal.nD Cert.AdamRestIdeal.τ).loc Cert.AdamRestIdeal.main_arg83) = m ((c.tc : Thread Cert.AdamRestIdeal.nD Cert.AdamRestIdeal.τ).loc Cert.AdamRestIdeal.main_arg83)
      ∧ r.2.mem ((c.tc : Thread Cert.AdamRestIdeal.nD Cert.AdamRestIdeal.τ).loc Cert.AdamRestIdeal.main_arg84) = m ((c.tc : Thread Cert.AdamRestIdeal.nD Cert.AdamRestIdeal.τ).loc Cert.AdamRestIdeal.main_arg84)
      ∧ r.2.mem ((c.tc : Thread Cert.AdamRestIdeal.nD Cert.AdamRestIdeal.τ).loc Cert.AdamRestIdeal.main_arg85) = m ((c.tc : Thread Cert.AdamRestIdeal.nD Cert.AdamRestIdeal.τ).loc Cert.AdamRestIdeal.main_arg85)
      ∧ r.2.mem ((c.tc : Thread Cert.AdamRestIdeal.nD Cert.AdamRestIdeal.τ).loc Cert.AdamRestIdeal.main_arg86) = m ((c.tc : Thread Cert.AdamRestIdeal.nD Cert.AdamRestIdeal.τ).loc Cert.AdamRestIdeal.main_arg86)
      ∧ r.2.mem ((c.tc : Thread Cert.AdamRestIdeal.nD Cert.AdamRestIdeal.τ).loc Cert.AdamRestIdeal.main_arg87) = m ((c.tc : Thread Cert.AdamRestIdeal.nD Cert.AdamRestIdeal.τ).loc Cert.AdamRestIdeal.main_arg87)
      ∧ r.2.mem ((c.tc : Thread Cert.AdamRestIdeal.nD Cert.AdamRestIdeal.τ).loc Cert.AdamRestIdeal.main_arg88) = m ((c.tc : Thread Cert.AdamRestIdeal.nD Cert.AdamRestIdeal.τ).loc Cert.AdamRestIdeal.main_arg88)
      ∧ r.2.mem ((c.tc : Thread Cert.AdamRestIdeal.nD Cert.AdamRestIdeal.τ).loc Cert.AdamRestIdeal.main_arg89) = m ((c.tc : Thread Cert.AdamRestIdeal.nD Cert.AdamRestIdeal.τ).loc Cert.AdamRestIdeal.main_arg89)
      ∧ r.2.mem ((c.tc : Thread Cert.AdamRestIdeal.nD Cert.AdamRestIdeal.τ).loc Cert.AdamRestIdeal.main_arg90) = m ((c.tc : Thread Cert.AdamRestIdeal.nD Cert.AdamRestIdeal.τ).loc Cert.AdamRestIdeal.main_arg90)
      ∧ r.2.mem ((c.tc : Thread Cert.AdamRestIdeal.nD Cert.AdamRestIdeal.τ).loc Cert.AdamRestIdeal.main_arg91) = m ((c.tc : Thread Cert.AdamRestIdeal.nD Cert.AdamRestIdeal.τ).loc Cert.AdamRestIdeal.main_arg91)
      ∧ r.2.mem ((c.tc : Thread Cert.AdamRestIdeal.nD Cert.AdamRestIdeal.τ).loc Cert.AdamRestIdeal.main_arg92) = m ((c.tc : Thread Cert.AdamRestIdeal.nD Cert.AdamRestIdeal.τ).loc Cert.AdamRestIdeal.main_arg92)
      ∧ r.2.mem ((c.tc : Thread Cert.AdamRestIdeal.nD Cert.AdamRestIdeal.τ).loc Cert.AdamRestIdeal.main_arg93) = m ((c.tc : Thread Cert.AdamRestIdeal.nD Cert.AdamRestIdeal.τ).loc Cert.AdamRestIdeal.main_arg93)
      ∧ r.2.mem ((c.tc : Thread Cert.AdamRestIdeal.nD Cert.AdamRestIdeal.τ).loc Cert.AdamRestIdeal.main_arg94) = m ((c.tc : Thread Cert.AdamRestIdeal.nD Cert.AdamRestIdeal.τ).loc Cert.AdamRestIdeal.main_arg94)
      ∧ r.2.mem ((c.tc : Thread Cert.AdamRestIdeal.nD Cert.AdamRestIdeal.τ).loc Cert.AdamRestIdeal.main_arg95) = m ((c.tc : Thread Cert.AdamRestIdeal.nD Cert.AdamRestIdeal.τ).loc Cert.AdamRestIdeal.main_arg95)
      ∧ r.2.mem ((c.tc : Thread Cert.AdamRestIdeal.nD Cert.AdamRestIdeal.τ).loc Cert.AdamRestIdeal.main_arg96) = m ((c.tc : Thread Cert.AdamRestIdeal.nD Cert.AdamRestIdeal.τ).loc Cert.AdamRestIdeal.main_arg96)
      ∧ r.2.mem ((c.tc : Thread Cert.AdamRestIdeal.nD Cert.AdamRestIdeal.τ).loc Cert.AdamRestIdeal.main_arg97) = m ((c.tc : Thread Cert.AdamRestIdeal.nD Cert.AdamRestIdeal.τ).loc Cert.AdamRestIdeal.main_arg97)
      ∧ r.2.mem ((c.tc : Thread Cert.AdamRestIdeal.nD Cert.AdamRestIdeal.τ).loc Cert.AdamRestIdeal.main_arg98) = m ((c.tc : Thread Cert.AdamRestIdeal.nD Cert.AdamRestIdeal.τ).loc Cert.AdamRestIdeal.main_arg98)
      ∧ r.2.mem ((c.tc : Thread Cert.AdamRestIdeal.nD Cert.AdamRestIdeal.τ).loc Cert.AdamRestIdeal.main_arg99) = m ((c.tc : Thread Cert.AdamRestIdeal.nD Cert.AdamRestIdeal.τ).loc Cert.AdamRestIdeal.main_arg99))
      ∧ r.2.sem = fun _ => 0)

def quiescent_AdamRestRefIdeal [hAdamRestRefIdeal : Cert.AdamRestRefIdeal.Facts] : Prop :=
  ∀ (m : (ℓ : Loc Cert.AdamRestRefIdeal.nD Cert.AdamRestRefIdeal.τ Cert.AdamRestRefIdeal.sig) → Buf (Elt Ideal) ℓ) (g : Dev Cert.AdamRestRefIdeal.nD → PrngReg), Pre_AdamRestRefIdeal m →
    θ_run (Cert.AdamRestRefIdeal.defs (F := Ideal)) (onTc (τ := Cert.AdamRestRefIdeal.τ) (Cert.AdamRestRefIdeal.main (F := Ideal))) ⟨m, fun _ => 0, g⟩ (fun r => (∀ c : Dev Cert.AdamRestRefIdeal.nD,
      r.2.mem ((c.tc : Thread Cert.AdamRestRefIdeal.nD Cert.AdamRestRefIdeal.τ).loc Cert.AdamRestRefIdeal.main_arg0) = m ((c.tc : Thread Cert.AdamRestRefIdeal.nD Cert.AdamRestRefIdeal.τ).loc Cert.AdamRestRefIdeal.main_arg0)
      ∧ r.2.mem ((c.tc : Thread Cert.AdamRestRefIdeal.nD Cert.AdamRestRefIdeal.τ).loc Cert.AdamRestRefIdeal.main_arg1) = m ((c.tc : Thread Cert.AdamRestRefIdeal.nD Cert.AdamRestRefIdeal.τ).loc Cert.AdamRestRefIdeal.main_arg1)
      ∧ r.2.mem ((c.tc : Thread Cert.AdamRestRefIdeal.nD Cert.AdamRestRefIdeal.τ).loc Cert.AdamRestRefIdeal.main_arg2) = m ((c.tc : Thread Cert.AdamRestRefIdeal.nD Cert.AdamRestRefIdeal.τ).loc Cert.AdamRestRefIdeal.main_arg2)
      ∧ r.2.mem ((c.tc : Thread Cert.AdamRestRefIdeal.nD Cert.AdamRestRefIdeal.τ).loc Cert.AdamRestRefIdeal.main_arg3) = m ((c.tc : Thread Cert.AdamRestRefIdeal.nD Cert.AdamRestRefIdeal.τ).loc Cert.AdamRestRefIdeal.main_arg3)
      ∧ r.2.mem ((c.tc : Thread Cert.AdamRestRefIdeal.nD Cert.AdamRestRefIdeal.τ).loc Cert.AdamRestRefIdeal.main_arg4) = m ((c.tc : Thread Cert.AdamRestRefIdeal.nD Cert.AdamRestRefIdeal.τ).loc Cert.AdamRestRefIdeal.main_arg4)
      ∧ r.2.mem ((c.tc : Thread Cert.AdamRestRefIdeal.nD Cert.AdamRestRefIdeal.τ).loc Cert.AdamRestRefIdeal.main_arg5) = m ((c.tc : Thread Cert.AdamRestRefIdeal.nD Cert.AdamRestRefIdeal.τ).loc Cert.AdamRestRefIdeal.main_arg5)
      ∧ r.2.mem ((c.tc : Thread Cert.AdamRestRefIdeal.nD Cert.AdamRestRefIdeal.τ).loc Cert.AdamRestRefIdeal.main_arg6) = m ((c.tc : Thread Cert.AdamRestRefIdeal.nD Cert.AdamRestRefIdeal.τ).loc Cert.AdamRestRefIdeal.main_arg6)
      ∧ r.2.mem ((c.tc : Thread Cert.AdamRestRefIdeal.nD Cert.AdamRestRefIdeal.τ).loc Cert.AdamRestRefIdeal.main_arg7) = m ((c.tc : Thread Cert.AdamRestRefIdeal.nD Cert.AdamRestRefIdeal.τ).loc Cert.AdamRestRefIdeal.main_arg7)
      ∧ r.2.mem ((c.tc : Thread Cert.AdamRestRefIdeal.nD Cert.AdamRestRefIdeal.τ).loc Cert.AdamRestRefIdeal.main_arg8) = m ((c.tc : Thread Cert.AdamRestRefIdeal.nD Cert.AdamRestRefIdeal.τ).loc Cert.AdamRestRefIdeal.main_arg8)
      ∧ r.2.mem ((c.tc : Thread Cert.AdamRestRefIdeal.nD Cert.AdamRestRefIdeal.τ).loc Cert.AdamRestRefIdeal.main_arg9) = m ((c.tc : Thread Cert.AdamRestRefIdeal.nD Cert.AdamRestRefIdeal.τ).loc Cert.AdamRestRefIdeal.main_arg9)
      ∧ r.2.mem ((c.tc : Thread Cert.AdamRestRefIdeal.nD Cert.AdamRestRefIdeal.τ).loc Cert.AdamRestRefIdeal.main_arg10) = m ((c.tc : Thread Cert.AdamRestRefIdeal.nD Cert.AdamRestRefIdeal.τ).loc Cert.AdamRestRefIdeal.main_arg10)
      ∧ r.2.mem ((c.tc : Thread Cert.AdamRestRefIdeal.nD Cert.AdamRestRefIdeal.τ).loc Cert.AdamRestRefIdeal.main_arg11) = m ((c.tc : Thread Cert.AdamRestRefIdeal.nD Cert.AdamRestRefIdeal.τ).loc Cert.AdamRestRefIdeal.main_arg11)
      ∧ r.2.mem ((c.tc : Thread Cert.AdamRestRefIdeal.nD Cert.AdamRestRefIdeal.τ).loc Cert.AdamRestRefIdeal.main_arg12) = m ((c.tc : Thread Cert.AdamRestRefIdeal.nD Cert.AdamRestRefIdeal.τ).loc Cert.AdamRestRefIdeal.main_arg12)
      ∧ r.2.mem ((c.tc : Thread Cert.AdamRestRefIdeal.nD Cert.AdamRestRefIdeal.τ).loc Cert.AdamRestRefIdeal.main_arg13) = m ((c.tc : Thread Cert.AdamRestRefIdeal.nD Cert.AdamRestRefIdeal.τ).loc Cert.AdamRestRefIdeal.main_arg13)
      ∧ r.2.mem ((c.tc : Thread Cert.AdamRestRefIdeal.nD Cert.AdamRestRefIdeal.τ).loc Cert.AdamRestRefIdeal.main_arg14) = m ((c.tc : Thread Cert.AdamRestRefIdeal.nD Cert.AdamRestRefIdeal.τ).loc Cert.AdamRestRefIdeal.main_arg14)
      ∧ r.2.mem ((c.tc : Thread Cert.AdamRestRefIdeal.nD Cert.AdamRestRefIdeal.τ).loc Cert.AdamRestRefIdeal.main_arg15) = m ((c.tc : Thread Cert.AdamRestRefIdeal.nD Cert.AdamRestRefIdeal.τ).loc Cert.AdamRestRefIdeal.main_arg15)
      ∧ r.2.mem ((c.tc : Thread Cert.AdamRestRefIdeal.nD Cert.AdamRestRefIdeal.τ).loc Cert.AdamRestRefIdeal.main_arg16) = m ((c.tc : Thread Cert.AdamRestRefIdeal.nD Cert.AdamRestRefIdeal.τ).loc Cert.AdamRestRefIdeal.main_arg16)
      ∧ r.2.mem ((c.tc : Thread Cert.AdamRestRefIdeal.nD Cert.AdamRestRefIdeal.τ).loc Cert.AdamRestRefIdeal.main_arg17) = m ((c.tc : Thread Cert.AdamRestRefIdeal.nD Cert.AdamRestRefIdeal.τ).loc Cert.AdamRestRefIdeal.main_arg17)
      ∧ r.2.mem ((c.tc : Thread Cert.AdamRestRefIdeal.nD Cert.AdamRestRefIdeal.τ).loc Cert.AdamRestRefIdeal.main_arg18) = m ((c.tc : Thread Cert.AdamRestRefIdeal.nD Cert.AdamRestRefIdeal.τ).loc Cert.AdamRestRefIdeal.main_arg18)
      ∧ r.2.mem ((c.tc : Thread Cert.AdamRestRefIdeal.nD Cert.AdamRestRefIdeal.τ).loc Cert.AdamRestRefIdeal.main_arg19) = m ((c.tc : Thread Cert.AdamRestRefIdeal.nD Cert.AdamRestRefIdeal.τ).loc Cert.AdamRestRefIdeal.main_arg19)
      ∧ r.2.mem ((c.tc : Thread Cert.AdamRestRefIdeal.nD Cert.AdamRestRefIdeal.τ).loc Cert.AdamRestRefIdeal.main_arg20) = m ((c.tc : Thread Cert.AdamRestRefIdeal.nD Cert.AdamRestRefIdeal.τ).loc Cert.AdamRestRefIdeal.main_arg20)
      ∧ r.2.mem ((c.tc : Thread Cert.AdamRestRefIdeal.nD Cert.AdamRestRefIdeal.τ).loc Cert.AdamRestRefIdeal.main_arg21) = m ((c.tc : Thread Cert.AdamRestRefIdeal.nD Cert.AdamRestRefIdeal.τ).loc Cert.AdamRestRefIdeal.main_arg21)
      ∧ r.2.mem ((c.tc : Thread Cert.AdamRestRefIdeal.nD Cert.AdamRestRefIdeal.τ).loc Cert.AdamRestRefIdeal.main_arg22) = m ((c.tc : Thread Cert.AdamRestRefIdeal.nD Cert.AdamRestRefIdeal.τ).loc Cert.AdamRestRefIdeal.main_arg22)
      ∧ r.2.mem ((c.tc : Thread Cert.AdamRestRefIdeal.nD Cert.AdamRestRefIdeal.τ).loc Cert.AdamRestRefIdeal.main_arg23) = m ((c.tc : Thread Cert.AdamRestRefIdeal.nD Cert.AdamRestRefIdeal.τ).loc Cert.AdamRestRefIdeal.main_arg23)
      ∧ r.2.mem ((c.tc : Thread Cert.AdamRestRefIdeal.nD Cert.AdamRestRefIdeal.τ).loc Cert.AdamRestRefIdeal.main_arg24) = m ((c.tc : Thread Cert.AdamRestRefIdeal.nD Cert.AdamRestRefIdeal.τ).loc Cert.AdamRestRefIdeal.main_arg24)
      ∧ r.2.mem ((c.tc : Thread Cert.AdamRestRefIdeal.nD Cert.AdamRestRefIdeal.τ).loc Cert.AdamRestRefIdeal.main_arg25) = m ((c.tc : Thread Cert.AdamRestRefIdeal.nD Cert.AdamRestRefIdeal.τ).loc Cert.AdamRestRefIdeal.main_arg25)
      ∧ r.2.mem ((c.tc : Thread Cert.AdamRestRefIdeal.nD Cert.AdamRestRefIdeal.τ).loc Cert.AdamRestRefIdeal.main_arg26) = m ((c.tc : Thread Cert.AdamRestRefIdeal.nD Cert.AdamRestRefIdeal.τ).loc Cert.AdamRestRefIdeal.main_arg26)
      ∧ r.2.mem ((c.tc : Thread Cert.AdamRestRefIdeal.nD Cert.AdamRestRefIdeal.τ).loc Cert.AdamRestRefIdeal.main_arg27) = m ((c.tc : Thread Cert.AdamRestRefIdeal.nD Cert.AdamRestRefIdeal.τ).loc Cert.AdamRestRefIdeal.main_arg27)
      ∧ r.2.mem ((c.tc : Thread Cert.AdamRestRefIdeal.nD Cert.AdamRestRefIdeal.τ).loc Cert.AdamRestRefIdeal.main_arg28) = m ((c.tc : Thread Cert.AdamRestRefIdeal.nD Cert.AdamRestRefIdeal.τ).loc Cert.AdamRestRefIdeal.main_arg28)
      ∧ r.2.mem ((c.tc : Thread Cert.AdamRestRefIdeal.nD Cert.AdamRestRefIdeal.τ).loc Cert.AdamRestRefIdeal.main_arg29) = m ((c.tc : Thread Cert.AdamRestRefIdeal.nD Cert.AdamRestRefIdeal.τ).loc Cert.AdamRestRefIdeal.main_arg29)
      ∧ r.2.mem ((c.tc : Thread Cert.AdamRestRefIdeal.nD Cert.AdamRestRefIdeal.τ).loc Cert.AdamRestRefIdeal.main_arg30) = m ((c.tc : Thread Cert.AdamRestRefIdeal.nD Cert.AdamRestRefIdeal.τ).loc Cert.AdamRestRefIdeal.main_arg30)
      ∧ r.2.mem ((c.tc : Thread Cert.AdamRestRefIdeal.nD Cert.AdamRestRefIdeal.τ).loc Cert.AdamRestRefIdeal.main_arg31) = m ((c.tc : Thread Cert.AdamRestRefIdeal.nD Cert.AdamRestRefIdeal.τ).loc Cert.AdamRestRefIdeal.main_arg31)
      ∧ r.2.mem ((c.tc : Thread Cert.AdamRestRefIdeal.nD Cert.AdamRestRefIdeal.τ).loc Cert.AdamRestRefIdeal.main_arg32) = m ((c.tc : Thread Cert.AdamRestRefIdeal.nD Cert.AdamRestRefIdeal.τ).loc Cert.AdamRestRefIdeal.main_arg32)
      ∧ r.2.mem ((c.tc : Thread Cert.AdamRestRefIdeal.nD Cert.AdamRestRefIdeal.τ).loc Cert.AdamRestRefIdeal.main_arg33) = m ((c.tc : Thread Cert.AdamRestRefIdeal.nD Cert.AdamRestRefIdeal.τ).loc Cert.AdamRestRefIdeal.main_arg33)
      ∧ r.2.mem ((c.tc : Thread Cert.AdamRestRefIdeal.nD Cert.AdamRestRefIdeal.τ).loc Cert.AdamRestRefIdeal.main_arg34) = m ((c.tc : Thread Cert.AdamRestRefIdeal.nD Cert.AdamRestRefIdeal.τ).loc Cert.AdamRestRefIdeal.main_arg34)
      ∧ r.2.mem ((c.tc : Thread Cert.AdamRestRefIdeal.nD Cert.AdamRestRefIdeal.τ).loc Cert.AdamRestRefIdeal.main_arg35) = m ((c.tc : Thread Cert.AdamRestRefIdeal.nD Cert.AdamRestRefIdeal.τ).loc Cert.AdamRestRefIdeal.main_arg35)
      ∧ r.2.mem ((c.tc : Thread Cert.AdamRestRefIdeal.nD Cert.AdamRestRefIdeal.τ).loc Cert.AdamRestRefIdeal.main_arg36) = m ((c.tc : Thread Cert.AdamRestRefIdeal.nD Cert.AdamRestRefIdeal.τ).loc Cert.AdamRestRefIdeal.main_arg36)
      ∧ r.2.mem ((c.tc : Thread Cert.AdamRestRefIdeal.nD Cert.AdamRestRefIdeal.τ).loc Cert.AdamRestRefIdeal.main_arg37) = m ((c.tc : Thread Cert.AdamRestRefIdeal.nD Cert.AdamRestRefIdeal.τ).loc Cert.AdamRestRefIdeal.main_arg37)
      ∧ r.2.mem ((c.tc : Thread Cert.AdamRestRefIdeal.nD Cert.AdamRestRefIdeal.τ).loc Cert.AdamRestRefIdeal.main_arg38) = m ((c.tc : Thread Cert.AdamRestRefIdeal.nD Cert.AdamRestRefIdeal.τ).loc Cert.AdamRestRefIdeal.main_arg38)
      ∧ r.2.mem ((c.tc : Thread Cert.AdamRestRefIdeal.nD Cert.AdamRestRefIdeal.τ).loc Cert.AdamRestRefIdeal.main_arg39) = m ((c.tc : Thread Cert.AdamRestRefIdeal.nD Cert.AdamRestRefIdeal.τ).loc Cert.AdamRestRefIdeal.main_arg39)
      ∧ r.2.mem ((c.tc : Thread Cert.AdamRestRefIdeal.nD Cert.AdamRestRefIdeal.τ).loc Cert.AdamRestRefIdeal.main_arg40) = m ((c.tc : Thread Cert.AdamRestRefIdeal.nD Cert.AdamRestRefIdeal.τ).loc Cert.AdamRestRefIdeal.main_arg40)
      ∧ r.2.mem ((c.tc : Thread Cert.AdamRestRefIdeal.nD Cert.AdamRestRefIdeal.τ).loc Cert.AdamRestRefIdeal.main_arg41) = m ((c.tc : Thread Cert.AdamRestRefIdeal.nD Cert.AdamRestRefIdeal.τ).loc Cert.AdamRestRefIdeal.main_arg41)
      ∧ r.2.mem ((c.tc : Thread Cert.AdamRestRefIdeal.nD Cert.AdamRestRefIdeal.τ).loc Cert.AdamRestRefIdeal.main_arg42) = m ((c.tc : Thread Cert.AdamRestRefIdeal.nD Cert.AdamRestRefIdeal.τ).loc Cert.AdamRestRefIdeal.main_arg42)
      ∧ r.2.mem ((c.tc : Thread Cert.AdamRestRefIdeal.nD Cert.AdamRestRefIdeal.τ).loc Cert.AdamRestRefIdeal.main_arg43) = m ((c.tc : Thread Cert.AdamRestRefIdeal.nD Cert.AdamRestRefIdeal.τ).loc Cert.AdamRestRefIdeal.main_arg43)
      ∧ r.2.mem ((c.tc : Thread Cert.AdamRestRefIdeal.nD Cert.AdamRestRefIdeal.τ).loc Cert.AdamRestRefIdeal.main_arg44) = m ((c.tc : Thread Cert.AdamRestRefIdeal.nD Cert.AdamRestRefIdeal.τ).loc Cert.AdamRestRefIdeal.main_arg44)
      ∧ r.2.mem ((c.tc : Thread Cert.AdamRestRefIdeal.nD Cert.AdamRestRefIdeal.τ).loc Cert.AdamRestRefIdeal.main_arg45) = m ((c.tc : Thread Cert.AdamRestRefIdeal.nD Cert.AdamRestRefIdeal.τ).loc Cert.AdamRestRefIdeal.main_arg45)
      ∧ r.2.mem ((c.tc : Thread Cert.AdamRestRefIdeal.nD Cert.AdamRestRefIdeal.τ).loc Cert.AdamRestRefIdeal.main_arg46) = m ((c.tc : Thread Cert.AdamRestRefIdeal.nD Cert.AdamRestRefIdeal.τ).loc Cert.AdamRestRefIdeal.main_arg46)
      ∧ r.2.mem ((c.tc : Thread Cert.AdamRestRefIdeal.nD Cert.AdamRestRefIdeal.τ).loc Cert.AdamRestRefIdeal.main_arg47) = m ((c.tc : Thread Cert.AdamRestRefIdeal.nD Cert.AdamRestRefIdeal.τ).loc Cert.AdamRestRefIdeal.main_arg47)
      ∧ r.2.mem ((c.tc : Thread Cert.AdamRestRefIdeal.nD Cert.AdamRestRefIdeal.τ).loc Cert.AdamRestRefIdeal.main_arg48) = m ((c.tc : Thread Cert.AdamRestRefIdeal.nD Cert.AdamRestRefIdeal.τ).loc Cert.AdamRestRefIdeal.main_arg48)
      ∧ r.2.mem ((c.tc : Thread Cert.AdamRestRefIdeal.nD Cert.AdamRestRefIdeal.τ).loc Cert.AdamRestRefIdeal.main_arg49) = m ((c.tc : Thread Cert.AdamRestRefIdeal.nD Cert.AdamRestRefIdeal.τ).loc Cert.AdamRestRefIdeal.main_arg49)
      ∧ r.2.mem ((c.tc : Thread Cert.AdamRestRefIdeal.nD Cert.AdamRestRefIdeal.τ).loc Cert.AdamRestRefIdeal.main_arg50) = m ((c.tc : Thread Cert.AdamRestRefIdeal.nD Cert.AdamRestRefIdeal.τ).loc Cert.AdamRestRefIdeal.main_arg50)
      ∧ r.2.mem ((c.tc : Thread Cert.AdamRestRefIdeal.nD Cert.AdamRestRefIdeal.τ).loc Cert.AdamRestRefIdeal.main_arg51) = m ((c.tc : Thread Cert.AdamRestRefIdeal.nD Cert.AdamRestRefIdeal.τ).loc Cert.AdamRestRefIdeal.main_arg51)
      ∧ r.2.mem ((c.tc : Thread Cert.AdamRestRefIdeal.nD Cert.AdamRestRefIdeal.τ).loc Cert.AdamRestRefIdeal.main_arg52) = m ((c.tc : Thread Cert.AdamRestRefIdeal.nD Cert.AdamRestRefIdeal.τ).loc Cert.AdamRestRefIdeal.main_arg52)
      ∧ r.2.mem ((c.tc : Thread Cert.AdamRestRefIdeal.nD Cert.AdamRestRefIdeal.τ).loc Cert.AdamRestRefIdeal.main_arg53) = m ((c.tc : Thread Cert.AdamRestRefIdeal.nD Cert.AdamRestRefIdeal.τ).loc Cert.AdamRestRefIdeal.main_arg53)
      ∧ r.2.mem ((c.tc : Thread Cert.AdamRestRefIdeal.nD Cert.AdamRestRefIdeal.τ).loc Cert.AdamRestRefIdeal.main_arg54) = m ((c.tc : Thread Cert.AdamRestRefIdeal.nD Cert.AdamRestRefIdeal.τ).loc Cert.AdamRestRefIdeal.main_arg54)
      ∧ r.2.mem ((c.tc : Thread Cert.AdamRestRefIdeal.nD Cert.AdamRestRefIdeal.τ).loc Cert.AdamRestRefIdeal.main_arg55) = m ((c.tc : Thread Cert.AdamRestRefIdeal.nD Cert.AdamRestRefIdeal.τ).loc Cert.AdamRestRefIdeal.main_arg55)
      ∧ r.2.mem ((c.tc : Thread Cert.AdamRestRefIdeal.nD Cert.AdamRestRefIdeal.τ).loc Cert.AdamRestRefIdeal.main_arg56) = m ((c.tc : Thread Cert.AdamRestRefIdeal.nD Cert.AdamRestRefIdeal.τ).loc Cert.AdamRestRefIdeal.main_arg56)
      ∧ r.2.mem ((c.tc : Thread Cert.AdamRestRefIdeal.nD Cert.AdamRestRefIdeal.τ).loc Cert.AdamRestRefIdeal.main_arg57) = m ((c.tc : Thread Cert.AdamRestRefIdeal.nD Cert.AdamRestRefIdeal.τ).loc Cert.AdamRestRefIdeal.main_arg57)
      ∧ r.2.mem ((c.tc : Thread Cert.AdamRestRefIdeal.nD Cert.AdamRestRefIdeal.τ).loc Cert.AdamRestRefIdeal.main_arg58) = m ((c.tc : Thread Cert.AdamRestRefIdeal.nD Cert.AdamRestRefIdeal.τ).loc Cert.AdamRestRefIdeal.main_arg58)
      ∧ r.2.mem ((c.tc : Thread Cert.AdamRestRefIdeal.nD Cert.AdamRestRefIdeal.τ).loc Cert.AdamRestRefIdeal.main_arg59) = m ((c.tc : Thread Cert.AdamRestRefIdeal.nD Cert.AdamRestRefIdeal.τ).loc Cert.AdamRestRefIdeal.main_arg59)
      ∧ r.2.mem ((c.tc : Thread Cert.AdamRestRefIdeal.nD Cert.AdamRestRefIdeal.τ).loc Cert.AdamRestRefIdeal.main_arg60) = m ((c.tc : Thread Cert.AdamRestRefIdeal.nD Cert.AdamRestRefIdeal.τ).loc Cert.AdamRestRefIdeal.main_arg60)
      ∧ r.2.mem ((c.tc : Thread Cert.AdamRestRefIdeal.nD Cert.AdamRestRefIdeal.τ).loc Cert.AdamRestRefIdeal.main_arg61) = m ((c.tc : Thread Cert.AdamRestRefIdeal.nD Cert.AdamRestRefIdeal.τ).loc Cert.AdamRestRefIdeal.main_arg61)
      ∧ r.2.mem ((c.tc : Thread Cert.AdamRestRefIdeal.nD Cert.AdamRestRefIdeal.τ).loc Cert.AdamRestRefIdeal.main_arg62) = m ((c.tc : Thread Cert.AdamRestRefIdeal.nD Cert.AdamRestRefIdeal.τ).loc Cert.AdamRestRefIdeal.main_arg62)
      ∧ r.2.mem ((c.tc : Thread Cert.AdamRestRefIdeal.nD Cert.AdamRestRefIdeal.τ).loc Cert.AdamRestRefIdeal.main_arg63) = m ((c.tc : Thread Cert.AdamRestRefIdeal.nD Cert.AdamRestRefIdeal.τ).loc Cert.AdamRestRefIdeal.main_arg63)
      ∧ r.2.mem ((c.tc : Thread Cert.AdamRestRefIdeal.nD Cert.AdamRestRefIdeal.τ).loc Cert.AdamRestRefIdeal.main_arg64) = m ((c.tc : Thread Cert.AdamRestRefIdeal.nD Cert.AdamRestRefIdeal.τ).loc Cert.AdamRestRefIdeal.main_arg64)
      ∧ r.2.mem ((c.tc : Thread Cert.AdamRestRefIdeal.nD Cert.AdamRestRefIdeal.τ).loc Cert.AdamRestRefIdeal.main_arg65) = m ((c.tc : Thread Cert.AdamRestRefIdeal.nD Cert.AdamRestRefIdeal.τ).loc Cert.AdamRestRefIdeal.main_arg65)
      ∧ r.2.mem ((c.tc : Thread Cert.AdamRestRefIdeal.nD Cert.AdamRestRefIdeal.τ).loc Cert.AdamRestRefIdeal.main_arg66) = m ((c.tc : Thread Cert.AdamRestRefIdeal.nD Cert.AdamRestRefIdeal.τ).loc Cert.AdamRestRefIdeal.main_arg66)
      ∧ r.2.mem ((c.tc : Thread Cert.AdamRestRefIdeal.nD Cert.AdamRestRefIdeal.τ).loc Cert.AdamRestRefIdeal.main_arg67) = m ((c.tc : Thread Cert.AdamRestRefIdeal.nD Cert.AdamRestRefIdeal.τ).loc Cert.AdamRestRefIdeal.main_arg67)
      ∧ r.2.mem ((c.tc : Thread Cert.AdamRestRefIdeal.nD Cert.AdamRestRefIdeal.τ).loc Cert.AdamRestRefIdeal.main_arg68) = m ((c.tc : Thread Cert.AdamRestRefIdeal.nD Cert.AdamRestRefIdeal.τ).loc Cert.AdamRestRefIdeal.main_arg68)
      ∧ r.2.mem ((c.tc : Thread Cert.AdamRestRefIdeal.nD Cert.AdamRestRefIdeal.τ).loc Cert.AdamRestRefIdeal.main_arg69) = m ((c.tc : Thread Cert.AdamRestRefIdeal.nD Cert.AdamRestRefIdeal.τ).loc Cert.AdamRestRefIdeal.main_arg69)
      ∧ r.2.mem ((c.tc : Thread Cert.AdamRestRefIdeal.nD Cert.AdamRestRefIdeal.τ).loc Cert.AdamRestRefIdeal.main_arg70) = m ((c.tc : Thread Cert.AdamRestRefIdeal.nD Cert.AdamRestRefIdeal.τ).loc Cert.AdamRestRefIdeal.main_arg70)
      ∧ r.2.mem ((c.tc : Thread Cert.AdamRestRefIdeal.nD Cert.AdamRestRefIdeal.τ).loc Cert.AdamRestRefIdeal.main_arg71) = m ((c.tc : Thread Cert.AdamRestRefIdeal.nD Cert.AdamRestRefIdeal.τ).loc Cert.AdamRestRefIdeal.main_arg71)
      ∧ r.2.mem ((c.tc : Thread Cert.AdamRestRefIdeal.nD Cert.AdamRestRefIdeal.τ).loc Cert.AdamRestRefIdeal.main_arg72) = m ((c.tc : Thread Cert.AdamRestRefIdeal.nD Cert.AdamRestRefIdeal.τ).loc Cert.AdamRestRefIdeal.main_arg72)
      ∧ r.2.mem ((c.tc : Thread Cert.AdamRestRefIdeal.nD Cert.AdamRestRefIdeal.τ).loc Cert.AdamRestRefIdeal.main_arg73) = m ((c.tc : Thread Cert.AdamRestRefIdeal.nD Cert.AdamRestRefIdeal.τ).loc Cert.AdamRestRefIdeal.main_arg73)
      ∧ r.2.mem ((c.tc : Thread Cert.AdamRestRefIdeal.nD Cert.AdamRestRefIdeal.τ).loc Cert.AdamRestRefIdeal.main_arg74) = m ((c.tc : Thread Cert.AdamRestRefIdeal.nD Cert.AdamRestRefIdeal.τ).loc Cert.AdamRestRefIdeal.main_arg74)
      ∧ r.2.mem ((c.tc : Thread Cert.AdamRestRefIdeal.nD Cert.AdamRestRefIdeal.τ).loc Cert.AdamRestRefIdeal.main_arg75) = m ((c.tc : Thread Cert.AdamRestRefIdeal.nD Cert.AdamRestRefIdeal.τ).loc Cert.AdamRestRefIdeal.main_arg75)
      ∧ r.2.mem ((c.tc : Thread Cert.AdamRestRefIdeal.nD Cert.AdamRestRefIdeal.τ).loc Cert.AdamRestRefIdeal.main_arg76) = m ((c.tc : Thread Cert.AdamRestRefIdeal.nD Cert.AdamRestRefIdeal.τ).loc Cert.AdamRestRefIdeal.main_arg76)
      ∧ r.2.mem ((c.tc : Thread Cert.AdamRestRefIdeal.nD Cert.AdamRestRefIdeal.τ).loc Cert.AdamRestRefIdeal.main_arg77) = m ((c.tc : Thread Cert.AdamRestRefIdeal.nD Cert.AdamRestRefIdeal.τ).loc Cert.AdamRestRefIdeal.main_arg77)
      ∧ r.2.mem ((c.tc : Thread Cert.AdamRestRefIdeal.nD Cert.AdamRestRefIdeal.τ).loc Cert.AdamRestRefIdeal.main_arg78) = m ((c.tc : Thread Cert.AdamRestRefIdeal.nD Cert.AdamRestRefIdeal.τ).loc Cert.AdamRestRefIdeal.main_arg78)
      ∧ r.2.mem ((c.tc : Thread Cert.AdamRestRefIdeal.nD Cert.AdamRestRefIdeal.τ).loc Cert.AdamRestRefIdeal.main_arg79) = m ((c.tc : Thread Cert.AdamRestRefIdeal.nD Cert.AdamRestRefIdeal.τ).loc Cert.AdamRestRefIdeal.main_arg79)
      ∧ r.2.mem ((c.tc : Thread Cert.AdamRestRefIdeal.nD Cert.AdamRestRefIdeal.τ).loc Cert.AdamRestRefIdeal.main_arg80) = m ((c.tc : Thread Cert.AdamRestRefIdeal.nD Cert.AdamRestRefIdeal.τ).loc Cert.AdamRestRefIdeal.main_arg80)
      ∧ r.2.mem ((c.tc : Thread Cert.AdamRestRefIdeal.nD Cert.AdamRestRefIdeal.τ).loc Cert.AdamRestRefIdeal.main_arg81) = m ((c.tc : Thread Cert.AdamRestRefIdeal.nD Cert.AdamRestRefIdeal.τ).loc Cert.AdamRestRefIdeal.main_arg81)
      ∧ r.2.mem ((c.tc : Thread Cert.AdamRestRefIdeal.nD Cert.AdamRestRefIdeal.τ).loc Cert.AdamRestRefIdeal.main_arg82) = m ((c.tc : Thread Cert.AdamRestRefIdeal.nD Cert.AdamRestRefIdeal.τ).loc Cert.AdamRestRefIdeal.main_arg82)
      ∧ r.2.mem ((c.tc : Thread Cert.AdamRestRefIdeal.nD Cert.AdamRestRefIdeal.τ).loc Cert.AdamRestRefIdeal.main_arg83) = m ((c.tc : Thread Cert.AdamRestRefIdeal.nD Cert.AdamRestRefIdeal.τ).loc Cert.AdamRestRefIdeal.main_arg83)
      ∧ r.2.mem ((c.tc : Thread Cert.AdamRestRefIdeal.nD Cert.AdamRestRefIdeal.τ).loc Cert.AdamRestRefIdeal.main_arg84) = m ((c.tc : Thread Cert.AdamRestRefIdeal.nD Cert.AdamRestRefIdeal.τ).loc Cert.AdamRestRefIdeal.main_arg84)
      ∧ r.2.mem ((c.tc : Thread Cert.AdamRestRefIdeal.nD Cert.AdamRestRefIdeal.τ).loc Cert.AdamRestRefIdeal.main_arg85) = m ((c.tc : Thread Cert.AdamRestRefIdeal.nD Cert.AdamRestRefIdeal.τ).loc Cert.AdamRestRefIdeal.main_arg85)
      ∧ r.2.mem ((c.tc : Thread Cert.AdamRestRefIdeal.nD Cert.AdamRestRefIdeal.τ).loc Cert.AdamRestRefIdeal.main_arg86) = m ((c.tc : Thread Cert.AdamRestRefIdeal.nD Cert.AdamRestRefIdeal.τ).loc Cert.AdamRestRefIdeal.main_arg86)
      ∧ r.2.mem ((c.tc : Thread Cert.AdamRestRefIdeal.nD Cert.AdamRestRefIdeal.τ).loc Cert.AdamRestRefIdeal.main_arg87) = m ((c.tc : Thread Cert.AdamRestRefIdeal.nD Cert.AdamRestRefIdeal.τ).loc Cert.AdamRestRefIdeal.main_arg87)
      ∧ r.2.mem ((c.tc : Thread Cert.AdamRestRefIdeal.nD Cert.AdamRestRefIdeal.τ).loc Cert.AdamRestRefIdeal.main_arg88) = m ((c.tc : Thread Cert.AdamRestRefIdeal.nD Cert.AdamRestRefIdeal.τ).loc Cert.AdamRestRefIdeal.main_arg88)
      ∧ r.2.mem ((c.tc : Thread Cert.AdamRestRefIdeal.nD Cert.AdamRestRefIdeal.τ).loc Cert.AdamRestRefIdeal.main_arg89) = m ((c.tc : Thread Cert.AdamRestRefIdeal.nD Cert.AdamRestRefIdeal.τ).loc Cert.AdamRestRefIdeal.main_arg89)
      ∧ r.2.mem ((c.tc : Thread Cert.AdamRestRefIdeal.nD Cert.AdamRestRefIdeal.τ).loc Cert.AdamRestRefIdeal.main_arg90) = m ((c.tc : Thread Cert.AdamRestRefIdeal.nD Cert.AdamRestRefIdeal.τ).loc Cert.AdamRestRefIdeal.main_arg90)
      ∧ r.2.mem ((c.tc : Thread Cert.AdamRestRefIdeal.nD Cert.AdamRestRefIdeal.τ).loc Cert.AdamRestRefIdeal.main_arg91) = m ((c.tc : Thread Cert.AdamRestRefIdeal.nD Cert.AdamRestRefIdeal.τ).loc Cert.AdamRestRefIdeal.main_arg91)
      ∧ r.2.mem ((c.tc : Thread Cert.AdamRestRefIdeal.nD Cert.AdamRestRefIdeal.τ).loc Cert.AdamRestRefIdeal.main_arg92) = m ((c.tc : Thread Cert.AdamRestRefIdeal.nD Cert.AdamRestRefIdeal.τ).loc Cert.AdamRestRefIdeal.main_arg92)
      ∧ r.2.mem ((c.tc : Thread Cert.AdamRestRefIdeal.nD Cert.AdamRestRefIdeal.τ).loc Cert.AdamRestRefIdeal.main_arg93) = m ((c.tc : Thread Cert.AdamRestRefIdeal.nD Cert.AdamRestRefIdeal.τ).loc Cert.AdamRestRefIdeal.main_arg93)
      ∧ r.2.mem ((c.tc : Thread Cert.AdamRestRefIdeal.nD Cert.AdamRestRefIdeal.τ).loc Cert.AdamRestRefIdeal.main_arg94) = m ((c.tc : Thread Cert.AdamRestRefIdeal.nD Cert.AdamRestRefIdeal.τ).loc Cert.AdamRestRefIdeal.main_arg94)
      ∧ r.2.mem ((c.tc : Thread Cert.AdamRestRefIdeal.nD Cert.AdamRestRefIdeal.τ).loc Cert.AdamRestRefIdeal.main_arg95) = m ((c.tc : Thread Cert.AdamRestRefIdeal.nD Cert.AdamRestRefIdeal.τ).loc Cert.AdamRestRefIdeal.main_arg95)
      ∧ r.2.mem ((c.tc : Thread Cert.AdamRestRefIdeal.nD Cert.AdamRestRefIdeal.τ).loc Cert.AdamRestRefIdeal.main_arg96) = m ((c.tc : Thread Cert.AdamRestRefIdeal.nD Cert.AdamRestRefIdeal.τ).loc Cert.AdamRestRefIdeal.main_arg96)
      ∧ r.2.mem ((c.tc : Thread Cert.AdamRestRefIdeal.nD Cert.AdamRestRefIdeal.τ).loc Cert.AdamRestRefIdeal.main_arg97) = m ((c.tc : Thread Cert.AdamRestRefIdeal.nD Cert.AdamRestRefIdeal.τ).loc Cert.AdamRestRefIdeal.main_arg97)
      ∧ r.2.mem ((c.tc : Thread Cert.AdamRestRefIdeal.nD Cert.AdamRestRefIdeal.τ).loc Cert.AdamRestRefIdeal.main_arg98) = m ((c.tc : Thread Cert.AdamRestRefIdeal.nD Cert.AdamRestRefIdeal.τ).loc Cert.AdamRestRefIdeal.main_arg98)
      ∧ r.2.mem ((c.tc : Thread Cert.AdamRestRefIdeal.nD Cert.AdamRestRefIdeal.τ).loc Cert.AdamRestRefIdeal.main_arg99) = m ((c.tc : Thread Cert.AdamRestRefIdeal.nD Cert.AdamRestRefIdeal.τ).loc Cert.AdamRestRefIdeal.main_arg99))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v5_7)) (v8 : (c : Dev Cert.KernelIdeal.nD) → Buf (Elt Ideal) ((c.tc : Thread Cert.KernelIdeal.nD Cert.KernelIdeal.τ).loc Cert.KernelIdeal.main_v5_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_v5_7) = v7 c
          ∧ r.2.mem ((c.tc : Thread Cert.KernelIdeal.nD Cert.KernelIdeal.τ).loc Cert.KernelIdeal.main_v5_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_v111) = v5 c
          ∧ r.2.mem ((c.tc : Thread Cert.ReferenceIdeal.nD Cert.ReferenceIdeal.τ).loc Cert.ReferenceIdeal.main_v112) = v6 c
          ∧ r.2.mem ((c.tc : Thread Cert.ReferenceIdeal.nD Cert.ReferenceIdeal.τ).loc Cert.ReferenceIdeal.main_v113) = v7 c
          ∧ r.2.mem ((c.tc : Thread Cert.ReferenceIdeal.nD Cert.ReferenceIdeal.τ).loc Cert.ReferenceIdeal.main_v90) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_InDa_InDaIdeal : Prop :=
  True

def algebraic_InDaIdeal_InDaRefIdeal [hInDaIdeal : Cert.InDaIdeal.Facts] [hInDaRefIdeal : Cert.InDaRefIdeal.Facts] : Prop :=
  ∀ (m : (ℓ : Loc Cert.InDaIdeal.nD Cert.InDaIdeal.τ Cert.InDaIdeal.sig) → Buf (Elt Ideal) ℓ) (g : Dev Cert.InDaIdeal.nD → PrngReg)
    (m' : (ℓ : Loc Cert.InDaRefIdeal.nD Cert.InDaRefIdeal.τ Cert.InDaRefIdeal.sig) → Buf (Elt Ideal) ℓ) (g' : Dev Cert.InDaRefIdeal.nD → PrngReg), Pre_InDaIdeal m →
    (∀ c : Dev Cert.InDaIdeal.nD,
      m' ((c.tc : Thread Cert.InDaRefIdeal.nD Cert.InDaRefIdeal.τ).loc Cert.InDaRefIdeal.main_arg0) = m ((c.tc : Thread Cert.InDaIdeal.nD Cert.InDaIdeal.τ).loc Cert.InDaIdeal.main_arg0)
      ∧ m' ((c.tc : Thread Cert.InDaRefIdeal.nD Cert.InDaRefIdeal.τ).loc Cert.InDaRefIdeal.main_arg1) = m ((c.tc : Thread Cert.InDaIdeal.nD Cert.InDaIdeal.τ).loc Cert.InDaIdeal.main_arg1)
      ∧ m' ((c.tc : Thread Cert.InDaRefIdeal.nD Cert.InDaRefIdeal.τ).loc Cert.InDaRefIdeal.main_arg2) = m ((c.tc : Thread Cert.InDaIdeal.nD Cert.InDaIdeal.τ).loc Cert.InDaIdeal.main_arg2)
      ∧ m' ((c.tc : Thread Cert.InDaRefIdeal.nD Cert.InDaRefIdeal.τ).loc Cert.InDaRefIdeal.main_arg3) = m ((c.tc : Thread Cert.InDaIdeal.nD Cert.InDaIdeal.τ).loc Cert.InDaIdeal.main_arg3)
      ∧ m' ((c.tc : Thread Cert.InDaRefIdeal.nD Cert.InDaRefIdeal.τ).loc Cert.InDaRefIdeal.main_arg4) = m ((c.tc : Thread Cert.InDaIdeal.nD Cert.InDaIdeal.τ).loc Cert.InDaIdeal.main_arg4)
      ∧ m' ((c.tc : Thread Cert.InDaRefIdeal.nD Cert.InDaRefIdeal.τ).loc Cert.InDaRefIdeal.main_arg5) = m ((c.tc : Thread Cert.InDaIdeal.nD Cert.InDaIdeal.τ).loc Cert.InDaIdeal.main_arg5)
      ∧ m' ((c.tc : Thread Cert.InDaRefIdeal.nD Cert.InDaRefIdeal.τ).loc Cert.InDaRefIdeal.main_arg6) = m ((c.tc : Thread Cert.InDaIdeal.nD Cert.InDaIdeal.τ).loc Cert.InDaIdeal.main_arg6)
      ∧ m' ((c.tc : Thread Cert.InDaRefIdeal.nD Cert.InDaRefIdeal.τ).loc Cert.InDaRefIdeal.main_arg7) = m ((c.tc : Thread Cert.InDaIdeal.nD Cert.InDaIdeal.τ).loc Cert.InDaIdeal.main_arg7)
      ∧ m' ((c.tc : Thread Cert.InDaRefIdeal.nD Cert.InDaRefIdeal.τ).loc Cert.InDaRefIdeal.main_arg8) = m ((c.tc : Thread Cert.InDaIdeal.nD Cert.InDaIdeal.τ).loc Cert.InDaIdeal.main_arg8)) →
    ∃ (v0 : (c : Dev Cert.InDaIdeal.nD) → Buf (Elt Ideal) ((c.tc : Thread Cert.InDaIdeal.nD Cert.InDaIdeal.τ).loc Cert.InDaIdeal.main_v22)),
      θ_run (Cert.InDaIdeal.defs (F := Ideal)) (onTc (τ := Cert.InDaIdeal.τ) (Cert.InDaIdeal.main (F := Ideal))) ⟨m, fun _ => 0, g⟩ (fun r => ∀ c : Dev Cert.InDaIdeal.nD,
          r.2.mem ((c.tc : Thread Cert.InDaIdeal.nD Cert.InDaIdeal.τ).loc Cert.InDaIdeal.main_v22) = v0 c
          ∧ r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
          ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
          ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2)
          ∧ r.2.mem ((c.tc : Thread Cert.InDaIdeal.nD Cert.InDaIdeal.τ).loc Cert.InDaIdeal.main_arg3) = m ((c.tc : Thread Cert.InDaIdeal.nD Cert.InDaIdeal.τ).loc Cert.InDaIdeal.main_arg3)
          ∧ r.2.mem ((c.tc : Thread Cert.InDaIdeal.nD Cert.InDaIdeal.τ).loc Cert.InDaIdeal.main_arg4) = m ((c.tc : Thread Cert.InDaIdeal.nD Cert.InDaIdeal.τ).loc Cert.InDaIdeal.main_arg4)
          ∧ r.2.mem ((c.tc : Thread Cert.InDaIdeal.nD Cert.InDaIdeal.τ).loc Cert.InDaIdeal.main_arg5) = m ((c.tc : Thread Cert.InDaIdeal.nD Cert.InDaIdeal.τ).loc Cert.InDaIdeal.main_arg5)
          ∧ r.2.mem ((c.tc : Thread Cert.InDaIdeal.nD Cert.InDaIdeal.τ).loc Cert.InDaIdeal.main_arg6) = m ((c.tc : Thread Cert.InDaIdeal.nD Cert.InDaIdeal.τ).loc Cert.InDaIdeal.main_arg6)
          ∧ r.2.mem ((c.tc : Thread Cert.InDaIdeal.nD Cert.InDaIdeal.τ).loc Cert.InDaIdeal.main_arg7) = m ((c.tc : Thread Cert.InDaIdeal.nD Cert.InDaIdeal.τ).loc Cert.InDaIdeal.main_arg7)
          ∧ r.2.mem ((c.tc : Thread Cert.InDaIdeal.nD Cert.InDaIdeal.τ).loc Cert.InDaIdeal.main_arg8) = m ((c.tc : Thread Cert.InDaIdeal.nD Cert.InDaIdeal.τ).loc Cert.InDaIdeal.main_arg8))
      ∧ θ_run (Cert.InDaRefIdeal.defs (F := Ideal)) (onTc (τ := Cert.InDaRefIdeal.τ) (Cert.InDaRefIdeal.main (F := Ideal))) ⟨m', fun _ => 0, g'⟩ (fun r => ∀ c : Dev Cert.InDaRefIdeal.nD,
          r.2.mem ((c.tc : Thread Cert.InDaRefIdeal.nD Cert.InDaRefIdeal.τ).loc Cert.InDaRefIdeal.main_v16) = v0 c
          ∧ r.2.mem ((c.tc : Thread Cert.InDaRefIdeal.nD Cert.InDaRefIdeal.τ).loc Cert.InDaRefIdeal.main_arg0) = m' ((c.tc : Thread Cert.InDaRefIdeal.nD Cert.InDaRefIdeal.τ).loc Cert.InDaRefIdeal.main_arg0)
          ∧ r.2.mem ((c.tc : Thread Cert.InDaRefIdeal.nD Cert.InDaRefIdeal.τ).loc Cert.InDaRefIdeal.main_arg1) = m' ((c.tc : Thread Cert.InDaRefIdeal.nD Cert.InDaRefIdeal.τ).loc Cert.InDaRefIdeal.main_arg1)
          ∧ r.2.mem ((c.tc : Thread Cert.InDaRefIdeal.nD Cert.InDaRefIdeal.τ).loc Cert.InDaRefIdeal.main_arg2) = m' ((c.tc : Thread Cert.InDaRefIdeal.nD Cert.InDaRefIdeal.τ).loc Cert.InDaRefIdeal.main_arg2)
          ∧ r.2.mem ((c.tc : Thread Cert.InDaRefIdeal.nD Cert.InDaRefIdeal.τ).loc Cert.InDaRefIdeal.main_arg3) = m' ((c.tc : Thread Cert.InDaRefIdeal.nD Cert.InDaRefIdeal.τ).loc Cert.InDaRefIdeal.main_arg3)
          ∧ r.2.mem ((c.tc : Thread Cert.InDaRefIdeal.nD Cert.InDaRefIdeal.τ).loc Cert.InDaRefIdeal.main_arg4) = m' ((c.tc : Thread Cert.InDaRefIdeal.nD Cert.InDaRefIdeal.τ).loc Cert.InDaRefIdeal.main_arg4)
          ∧ r.2.mem ((c.tc : Thread Cert.InDaRefIdeal.nD Cert.InDaRefIdeal.τ).loc Cert.InDaRefIdeal.main_arg5) = m' ((c.tc : Thread Cert.InDaRefIdeal.nD Cert.InDaRefIdeal.τ).loc Cert.InDaRefIdeal.main_arg5)
          ∧ r.2.mem ((c.tc : Thread Cert.InDaRefIdeal.nD Cert.InDaRefIdeal.τ).loc Cert.InDaRefIdeal.main_arg6) = m' ((c.tc : Thread Cert.InDaRefIdeal.nD Cert.InDaRefIdeal.τ).loc Cert.InDaRefIdeal.main_arg6)
          ∧ r.2.mem ((c.tc : Thread Cert.InDaRefIdeal.nD Cert.InDaRefIdeal.τ).loc Cert.InDaRefIdeal.main_arg7) = m' ((c.tc : Thread Cert.InDaRefIdeal.nD Cert.InDaRefIdeal.τ).loc Cert.InDaRefIdeal.main_arg7)
          ∧ r.2.mem ((c.tc : Thread Cert.InDaRefIdeal.nD Cert.InDaRefIdeal.τ).loc Cert.InDaRefIdeal.main_arg8) = m' ((c.tc : Thread Cert.InDaRefIdeal.nD Cert.InDaRefIdeal.τ).loc Cert.InDaRefIdeal.main_arg8))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v31_0)) (v1 : (c : Dev Cert.InFwdIdeal.nD) → Buf (Elt Ideal) ((c.tc : Thread Cert.InFwdIdeal.nD Cert.InFwdIdeal.τ).loc Cert.InFwdIdeal.main_v31_1)) (v2 : (c : Dev Cert.InFwdIdeal.nD) → Buf (Elt Ideal) ((c.tc : Thread Cert.InFwdIdeal.nD Cert.InFwdIdeal.τ).loc Cert.InFwdIdeal.main_v31_2)) (v3 : (c : Dev Cert.InFwdIdeal.nD) → Buf (Elt Ideal) ((c.tc : Thread Cert.InFwdIdeal.nD Cert.InFwdIdeal.τ).loc Cert.InFwdIdeal.main_v31_3)) (v4 : (c : Dev Cert.InFwdIdeal.nD) → Buf (Elt Ideal) ((c.tc : Thread Cert.InFwdIdeal.nD Cert.InFwdIdeal.τ).loc Cert.InFwdIdeal.main_v31_4)) (v5 : (c : Dev Cert.InFwdIdeal.nD) → Buf (Elt Ideal) ((c.tc : Thread Cert.InFwdIdeal.nD Cert.InFwdIdeal.τ).loc Cert.InFwdIdeal.main_v31_5)) (v6 : (c : Dev Cert.InFwdIdeal.nD) → Buf (Elt Ideal) ((c.tc : Thread Cert.InFwdIdeal.nD Cert.InFwdIdeal.τ).loc Cert.InFwdIdeal.main_v31_6)) (v7 : (c : Dev Cert.InFwdIdeal.nD) → Buf (Elt Ideal) ((c.tc : Thread Cert.InFwdIdeal.nD Cert.InFwdIdeal.τ).loc Cert.InFwdIdeal.main_v31_7)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v31_0) = v0 c
          ∧ r.2.mem ((c.tc : Thread Cert.InFwdIdeal.nD Cert.InFwdIdeal.τ).loc Cert.InFwdIdeal.main_v31_1) = v1 c
          ∧ r.2.mem ((c.tc : Thread Cert.InFwdIdeal.nD Cert.InFwdIdeal.τ).loc Cert.InFwdIdeal.main_v31_2) = v2 c
          ∧ r.2.mem ((c.tc : Thread Cert.InFwdIdeal.nD Cert.InFwdIdeal.τ).loc Cert.InFwdIdeal.main_v31_3) = v3 c
          ∧ r.2.mem ((c.tc : Thread Cert.InFwdIdeal.nD Cert.InFwdIdeal.τ).loc Cert.InFwdIdeal.main_v31_4) = v4 c
          ∧ r.2.mem ((c.tc : Thread Cert.InFwdIdeal.nD Cert.InFwdIdeal.τ).loc Cert.InFwdIdeal.main_v31_5) = v5 c
          ∧ r.2.mem ((c.tc : Thread Cert.InFwdIdeal.nD Cert.InFwdIdeal.τ).loc Cert.InFwdIdeal.main_v31_6) = v6 c
          ∧ r.2.mem ((c.tc : Thread Cert.InFwdIdeal.nD Cert.InFwdIdeal.τ).loc Cert.InFwdIdeal.main_v31_7) = v7 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v1) = v0 c
          ∧ r.2.mem ((c.tc : Thread Cert.InFwdRefIdeal.nD Cert.InFwdRefIdeal.τ).loc Cert.InFwdRefIdeal.main_v2) = v1 c
          ∧ r.2.mem ((c.tc : Thread Cert.InFwdRefIdeal.nD Cert.InFwdRefIdeal.τ).loc Cert.InFwdRefIdeal.main_v3) = v2 c
          ∧ r.2.mem ((c.tc : Thread Cert.InFwdRefIdeal.nD Cert.InFwdRefIdeal.τ).loc Cert.InFwdRefIdeal.main_v5) = v3 c
          ∧ r.2.mem ((c.tc : Thread Cert.InFwdRefIdeal.nD Cert.InFwdRefIdeal.τ).loc Cert.InFwdRefIdeal.main_v6) = v4 c
          ∧ r.2.mem ((c.tc : Thread Cert.InFwdRefIdeal.nD Cert.InFwdRefIdeal.τ).loc Cert.InFwdRefIdeal.main_v9) = v5 c
          ∧ r.2.mem ((c.tc : Thread Cert.InFwdRefIdeal.nD Cert.InFwdRefIdeal.τ).loc Cert.InFwdRefIdeal.main_v10) = v6 c
          ∧ r.2.mem ((c.tc : Thread Cert.InFwdRefIdeal.nD Cert.InFwdRefIdeal.τ).loc Cert.InFwdRefIdeal.main_v12) = v7 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_DbGate_DbGateIdeal : Prop :=
  True

def algebraic_DbGateIdeal_DbGateRefIdeal [hDbGateIdeal : Cert.DbGateIdeal.Facts] [hDbGateRefIdeal : Cert.DbGateRefIdeal.Facts] : Prop :=
  ∀ (m : (ℓ : Loc Cert.DbGateIdeal.nD Cert.DbGateIdeal.τ Cert.DbGateIdeal.sig) → Buf (Elt Ideal) ℓ) (g : Dev Cert.DbGateIdeal.nD → PrngReg)
    (m' : (ℓ : Loc Cert.DbGateRefIdeal.nD Cert.DbGateRefIdeal.τ Cert.DbGateRefIdeal.sig) → Buf (Elt Ideal) ℓ) (g' : Dev Cert.DbGateRefIdeal.nD → PrngReg), Pre_DbGateIdeal m →
    (∀ c : Dev Cert.DbGateIdeal.nD,
      m' ((c.tc : Thread Cert.DbGateRefIdeal.nD Cert.DbGateRefIdeal.τ).loc Cert.DbGateRefIdeal.main_arg0) = m ((c.tc : Thread Cert.DbGateIdeal.nD Cert.DbGateIdeal.τ).loc Cert.DbGateIdeal.main_arg0)
      ∧ m' ((c.tc : Thread Cert.DbGateRefIdeal.nD Cert.DbGateRefIdeal.τ).loc Cert.DbGateRefIdeal.main_arg1) = m ((c.tc : Thread Cert.DbGateIdeal.nD Cert.DbGateIdeal.τ).loc Cert.DbGateIdeal.main_arg1)) →
    ∃ (v0 : (c : Dev Cert.DbGateIdeal.nD) → Buf (Elt Ideal) ((c.tc : Thread Cert.DbGateIdeal.nD Cert.DbGateIdeal.τ).loc Cert.DbGateIdeal.main_v1)),
      θ_run (Cert.DbGateIdeal.defs (F := Ideal)) (onTc (τ := Cert.DbGateIdeal.τ) (Cert.DbGateIdeal.main (F := Ideal))) ⟨m, fun _ => 0, g⟩ (fun r => ∀ c : Dev Cert.DbGateIdeal.nD,
          r.2.mem ((c.tc : Thread Cert.DbGateIdeal.nD Cert.DbGateIdeal.τ).loc Cert.DbGateIdeal.main_v1) = v0 c
          ∧ r.2.mem ((c.tc : Thread Cert.DbGateIdeal.nD Cert.DbGateIdeal.τ).loc Cert.DbGateIdeal.main_arg0) = m ((c.tc : Thread Cert.DbGateIdeal.nD Cert.DbGateIdeal.τ).loc Cert.DbGateIdeal.main_arg0)
          ∧ r.2.mem ((c.tc : Thread Cert.DbGateIdeal.nD Cert.DbGateIdeal.τ).loc Cert.DbGateIdeal.main_arg1) = m ((c.tc : Thread Cert.DbGateIdeal.nD Cert.DbGateIdeal.τ).loc Cert.DbGateIdeal.main_arg1))
      ∧ θ_run (Cert.DbGateRefIdeal.defs (F := Ideal)) (onTc (τ := Cert.DbGateRefIdeal.τ) (Cert.DbGateRefIdeal.main (F := Ideal))) ⟨m', fun _ => 0, g'⟩ (fun r => ∀ c : Dev Cert.DbGateRefIdeal.nD,
          r.2.mem ((c.tc : Thread Cert.DbGateRefIdeal.nD Cert.DbGateRefIdeal.τ).loc Cert.DbGateRefIdeal.main_v4) = v0 c
          ∧ r.2.mem ((c.tc : Thread Cert.DbGateRefIdeal.nD Cert.DbGateRefIdeal.τ).loc Cert.DbGateRefIdeal.main_arg0) = m' ((c.tc : Thread Cert.DbGateRefIdeal.nD Cert.DbGateRefIdeal.τ).loc Cert.DbGateRefIdeal.main_arg0)
          ∧ r.2.mem ((c.tc : Thread Cert.DbGateRefIdeal.nD Cert.DbGateRefIdeal.τ).loc Cert.DbGateRefIdeal.main_arg1) = m' ((c.tc : Thread Cert.DbGateRefIdeal.nD Cert.DbGateRefIdeal.τ).loc Cert.DbGateRefIdeal.main_arg1))

def preserves_DbQkv_DbQkvIdeal : Prop :=
  True

def algebraic_DbQkvIdeal_DbQkvRefIdeal [hDbQkvIdeal : Cert.DbQkvIdeal.Facts] [hDbQkvRefIdeal : Cert.DbQkvRefIdeal.Facts] : Prop :=
  ∀ (m : (ℓ : Loc Cert.DbQkvIdeal.nD Cert.DbQkvIdeal.τ Cert.DbQkvIdeal.sig) → Buf (Elt Ideal) ℓ) (g : Dev Cert.DbQkvIdeal.nD → PrngReg)
    (m' : (ℓ : Loc Cert.DbQkvRefIdeal.nD Cert.DbQkvRefIdeal.τ Cert.DbQkvRefIdeal.sig) → Buf (Elt Ideal) ℓ) (g' : Dev Cert.DbQkvRefIdeal.nD → PrngReg), Pre_DbQkvIdeal m →
    (∀ c : Dev Cert.DbQkvIdeal.nD,
      m' ((c.tc : Thread Cert.DbQkvRefIdeal.nD Cert.DbQkvRefIdeal.τ).loc Cert.DbQkvRefIdeal.main_arg0) = m ((c.tc : Thread Cert.DbQkvIdeal.nD Cert.DbQkvIdeal.τ).loc Cert.DbQkvIdeal.main_arg0)
      ∧ m' ((c.tc : Thread Cert.DbQkvRefIdeal.nD Cert.DbQkvRefIdeal.τ).loc Cert.DbQkvRefIdeal.main_arg1) = m ((c.tc : Thread Cert.DbQkvIdeal.nD Cert.DbQkvIdeal.τ).loc Cert.DbQkvIdeal.main_arg1)) →
    ∃ (v0 : (c : Dev Cert.DbQkvIdeal.nD) → Buf (Elt Ideal) ((c.tc : Thread Cert.DbQkvIdeal.nD Cert.DbQkvIdeal.τ).loc Cert.DbQkvIdeal.main_v1)),
      θ_run (Cert.DbQkvIdeal.defs (F := Ideal)) (onTc (τ := Cert.DbQkvIdeal.τ) (Cert.DbQkvIdeal.main (F := Ideal))) ⟨m, fun _ => 0, g⟩ (fun r => ∀ c : Dev Cert.DbQkvIdeal.nD,
          r.2.mem ((c.tc : Thread Cert.DbQkvIdeal.nD Cert.DbQkvIdeal.τ).loc Cert.DbQkvIdeal.main_v1) = v0 c
          ∧ r.2.mem ((c.tc : Thread Cert.DbQkvIdeal.nD Cert.DbQkvIdeal.τ).loc Cert.DbQkvIdeal.main_arg0) = m ((c.tc : Thread Cert.DbQkvIdeal.nD Cert.DbQkvIdeal.τ).loc Cert.DbQkvIdeal.main_arg0)
          ∧ r.2.mem ((c.tc : Thread Cert.DbQkvIdeal.nD Cert.DbQkvIdeal.τ).loc Cert.DbQkvIdeal.main_arg1) = m ((c.tc : Thread Cert.DbQkvIdeal.nD Cert.DbQkvIdeal.τ).loc Cert.DbQkvIdeal.main_arg1))
      ∧ θ_run (Cert.DbQkvRefIdeal.defs (F := Ideal)) (onTc (τ := Cert.DbQkvRefIdeal.τ) (Cert.DbQkvRefIdeal.main (F := Ideal))) ⟨m', fun _ => 0, g'⟩ (fun r => ∀ c : Dev Cert.DbQkvRefIdeal.nD,
          r.2.mem ((c.tc : Thread Cert.DbQkvRefIdeal.nD Cert.DbQkvRefIdeal.τ).loc Cert.DbQkvRefIdeal.main_v4) = v0 c
          ∧ r.2.mem ((c.tc : Thread Cert.DbQkvRefIdeal.nD Cert.DbQkvRefIdeal.τ).loc Cert.DbQkvRefIdeal.main_arg0) = m' ((c.tc : Thread Cert.DbQkvRefIdeal.nD Cert.DbQkvRefIdeal.τ).loc Cert.DbQkvRefIdeal.main_arg0)
          ∧ r.2.mem ((c.tc : Thread Cert.DbQkvRefIdeal.nD Cert.DbQkvRefIdeal.τ).loc Cert.DbQkvRefIdeal.main_arg1) = m' ((c.tc : Thread Cert.DbQkvRefIdeal.nD Cert.DbQkvRefIdeal.τ).loc Cert.DbQkvRefIdeal.main_arg1))

def preserves_DbXbc_DbXbcIdeal : Prop :=
  True

def algebraic_DbXbcIdeal_DbXbcRefIdeal [hDbXbcIdeal : Cert.DbXbcIdeal.Facts] [hDbXbcRefIdeal : Cert.DbXbcRefIdeal.Facts] : Prop :=
  ∀ (m : (ℓ : Loc Cert.DbXbcIdeal.nD Cert.DbXbcIdeal.τ Cert.DbXbcIdeal.sig) → Buf (Elt Ideal) ℓ) (g : Dev Cert.DbXbcIdeal.nD → PrngReg)
    (m' : (ℓ : Loc Cert.DbXbcRefIdeal.nD Cert.DbXbcRefIdeal.τ Cert.DbXbcRefIdeal.sig) → Buf (Elt Ideal) ℓ) (g' : Dev Cert.DbXbcRefIdeal.nD → PrngReg), Pre_DbXbcIdeal m →
    (∀ c : Dev Cert.DbXbcIdeal.nD,
      m' ((c.tc : Thread Cert.DbXbcRefIdeal.nD Cert.DbXbcRefIdeal.τ).loc Cert.DbXbcRefIdeal.main_arg0) = m ((c.tc : Thread Cert.DbXbcIdeal.nD Cert.DbXbcIdeal.τ).loc Cert.DbXbcIdeal.main_arg0)
      ∧ m' ((c.tc : Thread Cert.DbXbcRefIdeal.nD Cert.DbXbcRefIdeal.τ).loc Cert.DbXbcRefIdeal.main_arg1) = m ((c.tc : Thread Cert.DbXbcIdeal.nD Cert.DbXbcIdeal.τ).loc Cert.DbXbcIdeal.main_arg1)) →
    ∃ (v0 : (c : Dev Cert.DbXbcIdeal.nD) → Buf (Elt Ideal) ((c.tc : Thread Cert.DbXbcIdeal.nD Cert.DbXbcIdeal.τ).loc Cert.DbXbcIdeal.main_v1)),
      θ_run (Cert.DbXbcIdeal.defs (F := Ideal)) (onTc (τ := Cert.DbXbcIdeal.τ) (Cert.DbXbcIdeal.main (F := Ideal))) ⟨m, fun _ => 0, g⟩ (fun r => ∀ c : Dev Cert.DbXbcIdeal.nD,
          r.2.mem ((c.tc : Thread Cert.DbXbcIdeal.nD Cert.DbXbcIdeal.τ).loc Cert.DbXbcIdeal.main_v1) = v0 c
          ∧ r.2.mem ((c.tc : Thread Cert.DbXbcIdeal.nD Cert.DbXbcIdeal.τ).loc Cert.DbXbcIdeal.main_arg0) = m ((c.tc : Thread Cert.DbXbcIdeal.nD Cert.DbXbcIdeal.τ).loc Cert.DbXbcIdeal.main_arg0)
          ∧ r.2.mem ((c.tc : Thread Cert.DbXbcIdeal.nD Cert.DbXbcIdeal.τ).loc Cert.DbXbcIdeal.main_arg1) = m ((c.tc : Thread Cert.DbXbcIdeal.nD Cert.DbXbcIdeal.τ).loc Cert.DbXbcIdeal.main_arg1))
      ∧ θ_run (Cert.DbXbcRefIdeal.defs (F := Ideal)) (onTc (τ := Cert.DbXbcRefIdeal.τ) (Cert.DbXbcRefIdeal.main (F := Ideal))) ⟨m', fun _ => 0, g'⟩ (fun r => ∀ c : Dev Cert.DbXbcRefIdeal.nD,
          r.2.mem ((c.tc : Thread Cert.DbXbcRefIdeal.nD Cert.DbXbcRefIdeal.τ).loc Cert.DbXbcRefIdeal.main_v4) = v0 c
          ∧ r.2.mem ((c.tc : Thread Cert.DbXbcRefIdeal.nD Cert.DbXbcRefIdeal.τ).loc Cert.DbXbcRefIdeal.main_arg0) = m' ((c.tc : Thread Cert.DbXbcRefIdeal.nD Cert.DbXbcRefIdeal.τ).loc Cert.DbXbcRefIdeal.main_arg0)
          ∧ r.2.mem ((c.tc : Thread Cert.DbXbcRefIdeal.nD Cert.DbXbcRefIdeal.τ).loc Cert.DbXbcRefIdeal.main_arg1) = m' ((c.tc : Thread Cert.DbXbcRefIdeal.nD Cert.DbXbcRefIdeal.τ).loc Cert.DbXbcRefIdeal.main_arg1))

def preserves_DbS5u_DbS5uIdeal : Prop :=
  True

def algebraic_DbS5uIdeal_DbS5uRefIdeal [hDbS5uIdeal : Cert.DbS5uIdeal.Facts] [hDbS5uRefIdeal : Cert.DbS5uRefIdeal.Facts] : Prop :=
  ∀ (m : (ℓ : Loc Cert.DbS5uIdeal.nD Cert.DbS5uIdeal.τ Cert.DbS5uIdeal.sig) → Buf (Elt Ideal) ℓ) (g : Dev Cert.DbS5uIdeal.nD → PrngReg)
    (m' : (ℓ : Loc Cert.DbS5uRefIdeal.nD Cert.DbS5uRefIdeal.τ Cert.DbS5uRefIdeal.sig) → Buf (Elt Ideal) ℓ) (g' : Dev Cert.DbS5uRefIdeal.nD → PrngReg), Pre_DbS5uIdeal m →
    (∀ c : Dev Cert.DbS5uIdeal.nD,
      m' ((c.tc : Thread Cert.DbS5uRefIdeal.nD Cert.DbS5uRefIdeal.τ).loc Cert.DbS5uRefIdeal.main_arg0) = m ((c.tc : Thread Cert.DbS5uIdeal.nD Cert.DbS5uIdeal.τ).loc Cert.DbS5uIdeal.main_arg0)
      ∧ m' ((c.tc : Thread Cert.DbS5uRefIdeal.nD Cert.DbS5uRefIdeal.τ).loc Cert.DbS5uRefIdeal.main_arg1) = m ((c.tc : Thread Cert.DbS5uIdeal.nD Cert.DbS5uIdeal.τ).loc Cert.DbS5uIdeal.main_arg1)) →
    ∃ (v0 : (c : Dev Cert.DbS5uIdeal.nD) → Buf (Elt Ideal) ((c.tc : Thread Cert.DbS5uIdeal.nD Cert.DbS5uIdeal.τ).loc Cert.DbS5uIdeal.main_v1)),
      θ_run (Cert.DbS5uIdeal.defs (F := Ideal)) (onTc (τ := Cert.DbS5uIdeal.τ) (Cert.DbS5uIdeal.main (F := Ideal))) ⟨m, fun _ => 0, g⟩ (fun r => ∀ c : Dev Cert.DbS5uIdeal.nD,
          r.2.mem ((c.tc : Thread Cert.DbS5uIdeal.nD Cert.DbS5uIdeal.τ).loc Cert.DbS5uIdeal.main_v1) = v0 c
          ∧ r.2.mem ((c.tc : Thread Cert.DbS5uIdeal.nD Cert.DbS5uIdeal.τ).loc Cert.DbS5uIdeal.main_arg0) = m ((c.tc : Thread Cert.DbS5uIdeal.nD Cert.DbS5uIdeal.τ).loc Cert.DbS5uIdeal.main_arg0)
          ∧ r.2.mem ((c.tc : Thread Cert.DbS5uIdeal.nD Cert.DbS5uIdeal.τ).loc Cert.DbS5uIdeal.main_arg1) = m ((c.tc : Thread Cert.DbS5uIdeal.nD Cert.DbS5uIdeal.τ).loc Cert.DbS5uIdeal.main_arg1))
      ∧ θ_run (Cert.DbS5uRefIdeal.defs (F := Ideal)) (onTc (τ := Cert.DbS5uRefIdeal.τ) (Cert.DbS5uRefIdeal.main (F := Ideal))) ⟨m', fun _ => 0, g'⟩ (fun r => ∀ c : Dev Cert.DbS5uRefIdeal.nD,
          r.2.mem ((c.tc : Thread Cert.DbS5uRefIdeal.nD Cert.DbS5uRefIdeal.τ).loc Cert.DbS5uRefIdeal.main_v4) = v0 c
          ∧ r.2.mem ((c.tc : Thread Cert.DbS5uRefIdeal.nD Cert.DbS5uRefIdeal.τ).loc Cert.DbS5uRefIdeal.main_arg0) = m' ((c.tc : Thread Cert.DbS5uRefIdeal.nD Cert.DbS5uRefIdeal.τ).loc Cert.DbS5uRefIdeal.main_arg0)
          ∧ r.2.mem ((c.tc : Thread Cert.DbS5uRefIdeal.nD Cert.DbS5uRefIdeal.τ).loc Cert.DbS5uRefIdeal.main_arg1) = m' ((c.tc : Thread Cert.DbS5uRefIdeal.nD Cert.DbS5uRefIdeal.τ).loc Cert.DbS5uRefIdeal.main_arg1))

def preserves_S5Tail_S5TailIdeal : Prop :=
  True

def algebraic_S5TailIdeal_S5TailRefIdeal [hS5TailIdeal : Cert.S5TailIdeal.Facts] [hS5TailRefIdeal : Cert.S5TailRefIdeal.Facts] : Prop :=
  ∀ (m : (ℓ : Loc Cert.S5TailIdeal.nD Cert.S5TailIdeal.τ Cert.S5TailIdeal.sig) → Buf (Elt Ideal) ℓ) (g : Dev Cert.S5TailIdeal.nD → PrngReg)
    (m' : (ℓ : Loc Cert.S5TailRefIdeal.nD Cert.S5TailRefIdeal.τ Cert.S5TailRefIdeal.sig) → Buf (Elt Ideal) ℓ) (g' : Dev Cert.S5TailRefIdeal.nD → PrngReg), Pre_S5TailIdeal m →
    (∀ c : Dev Cert.S5TailIdeal.nD,
      m' ((c.tc : Thread Cert.S5TailRefIdeal.nD Cert.S5TailRefIdeal.τ).loc Cert.S5TailRefIdeal.main_arg0) = m ((c.tc : Thread Cert.S5TailIdeal.nD Cert.S5TailIdeal.τ).loc Cert.S5TailIdeal.main_arg0)
      ∧ m' ((c.tc : Thread Cert.S5TailRefIdeal.nD Cert.S5TailRefIdeal.τ).loc Cert.S5TailRefIdeal.main_arg1) = m ((c.tc : Thread Cert.S5TailIdeal.nD Cert.S5TailIdeal.τ).loc Cert.S5TailIdeal.main_arg1)
      ∧ m' ((c.tc : Thread Cert.S5TailRefIdeal.nD Cert.S5TailRefIdeal.τ).loc Cert.S5TailRefIdeal.main_arg2) = m ((c.tc : Thread Cert.S5TailIdeal.nD Cert.S5TailIdeal.τ).loc Cert.S5TailIdeal.main_arg2)
      ∧ m' ((c.tc : Thread Cert.S5TailRefIdeal.nD Cert.S5TailRefIdeal.τ).loc Cert.S5TailRefIdeal.main_arg3) = m ((c.tc : Thread Cert.S5TailIdeal.nD Cert.S5TailIdeal.τ).loc Cert.S5TailIdeal.main_arg3)
      ∧ m' ((c.tc : Thread Cert.S5TailRefIdeal.nD Cert.S5TailRefIdeal.τ).loc Cert.S5TailRefIdeal.main_arg4) = m ((c.tc : Thread Cert.S5TailIdeal.nD Cert.S5TailIdeal.τ).loc Cert.S5TailIdeal.main_arg4)
      ∧ m' ((c.tc : Thread Cert.S5TailRefIdeal.nD Cert.S5TailRefIdeal.τ).loc Cert.S5TailRefIdeal.main_arg5) = m ((c.tc : Thread Cert.S5TailIdeal.nD Cert.S5TailIdeal.τ).loc Cert.S5TailIdeal.main_arg5)
      ∧ m' ((c.tc : Thread Cert.S5TailRefIdeal.nD Cert.S5TailRefIdeal.τ).loc Cert.S5TailRefIdeal.main_arg6) = m ((c.tc : Thread Cert.S5TailIdeal.nD Cert.S5TailIdeal.τ).loc Cert.S5TailIdeal.main_arg6)
      ∧ m' ((c.tc : Thread Cert.S5TailRefIdeal.nD Cert.S5TailRefIdeal.τ).loc Cert.S5TailRefIdeal.main_arg7) = m ((c.tc : Thread Cert.S5TailIdeal.nD Cert.S5TailIdeal.τ).loc Cert.S5TailIdeal.main_arg7)) →
    ∃ (v0 : (c : Dev Cert.S5TailIdeal.nD) → Buf (Elt Ideal) ((c.tc : Thread Cert.S5TailIdeal.nD Cert.S5TailIdeal.τ).loc Cert.S5TailIdeal.main_v4_0)) (v1 : (c : Dev Cert.S5TailIdeal.nD) → Buf (Elt Ideal) ((c.tc : Thread Cert.S5TailIdeal.nD Cert.S5TailIdeal.τ).loc Cert.S5TailIdeal.main_v4_1)) (v2 : (c : Dev Cert.S5TailIdeal.nD) → Buf (Elt Ideal) ((c.tc : Thread Cert.S5TailIdeal.nD Cert.S5TailIdeal.τ).loc Cert.S5TailIdeal.main_v4_2)) (v3 : (c : Dev Cert.S5TailIdeal.nD) → Buf (Elt Ideal) ((c.tc : Thread Cert.S5TailIdeal.nD Cert.S5TailIdeal.τ).loc Cert.S5TailIdeal.main_v4_3)) (v4 : (c : Dev Cert.S5TailIdeal.nD) → Buf (Elt Ideal) ((c.tc : Thread Cert.S5TailIdeal.nD Cert.S5TailIdeal.τ).loc Cert.S5TailIdeal.main_v4_4)) (v5 : (c : Dev Cert.S5TailIdeal.nD) → Buf (Elt Ideal) ((c.tc : Thread Cert.S5TailIdeal.nD Cert.S5TailIdeal.τ).loc Cert.S5TailIdeal.main_v4_5)) (v6 : (c : Dev Cert.S5TailIdeal.nD) → Buf (Elt Ideal) ((c.tc : Thread Cert.S5TailIdeal.nD Cert.S5TailIdeal.τ).loc Cert.S5TailIdeal.main_v4_6)),
      θ_run (Cert.S5TailIdeal.defs (F := Ideal)) (onTc (τ := Cert.S5TailIdeal.τ) (Cert.S5TailIdeal.main (F := Ideal))) ⟨m, fun _ => 0, g⟩ (fun r => ∀ c : Dev Cert.S5TailIdeal.nD,
          r.2.mem ((c.tc : Thread Cert.S5TailIdeal.nD Cert.S5TailIdeal.τ).loc Cert.S5TailIdeal.main_v4_0) = v0 c
          ∧ r.2.mem ((c.tc : Thread Cert.S5TailIdeal.nD Cert.S5TailIdeal.τ).loc Cert.S5TailIdeal.main_v4_1) = v1 c
          ∧ r.2.mem ((c.tc : Thread Cert.S5TailIdeal.nD Cert.S5TailIdeal.τ).loc Cert.S5TailIdeal.main_v4_2) = v2 c
          ∧ r.2.mem ((c.tc : Thread Cert.S5TailIdeal.nD Cert.S5TailIdeal.τ).loc Cert.S5TailIdeal.main_v4_3) = v3 c
          ∧ r.2.mem ((c.tc : Thread Cert.S5TailIdeal.nD Cert.S5TailIdeal.τ).loc Cert.S5TailIdeal.main_v4_4) = v4 c
          ∧ r.2.mem ((c.tc : Thread Cert.S5TailIdeal.nD Cert.S5TailIdeal.τ).loc Cert.S5TailIdeal.main_v4_5) = v5 c
          ∧ r.2.mem ((c.tc : Thread Cert.S5TailIdeal.nD Cert.S5TailIdeal.τ).loc Cert.S5TailIdeal.main_v4_6) = v6 c
          ∧ r.2.mem ((c.tc : Thread Cert.S5TailIdeal.nD Cert.S5TailIdeal.τ).loc Cert.S5TailIdeal.main_arg0) = m ((c.tc : Thread Cert.S5TailIdeal.nD Cert.S5TailIdeal.τ).loc Cert.S5TailIdeal.main_arg0)
          ∧ r.2.mem ((c.tc : Thread Cert.S5TailIdeal.nD Cert.S5TailIdeal.τ).loc Cert.S5TailIdeal.main_arg1) = m ((c.tc : Thread Cert.S5TailIdeal.nD Cert.S5TailIdeal.τ).loc Cert.S5TailIdeal.main_arg1)
          ∧ r.2.mem ((c.tc : Thread Cert.S5TailIdeal.nD Cert.S5TailIdeal.τ).loc Cert.S5TailIdeal.main_arg2) = m ((c.tc : Thread Cert.S5TailIdeal.nD Cert.S5TailIdeal.τ).loc Cert.S5TailIdeal.main_arg2)
          ∧ r.2.mem ((c.tc : Thread Cert.S5TailIdeal.nD Cert.S5TailIdeal.τ).loc Cert.S5TailIdeal.main_arg3) = m ((c.tc : Thread Cert.S5TailIdeal.nD Cert.S5TailIdeal.τ).loc Cert.S5TailIdeal.main_arg3)
          ∧ r.2.mem ((c.tc : Thread Cert.S5TailIdeal.nD Cert.S5TailIdeal.τ).loc Cert.S5TailIdeal.main_arg4) = m ((c.tc : Thread Cert.S5TailIdeal.nD Cert.S5TailIdeal.τ).loc Cert.S5TailIdeal.main_arg4)
          ∧ r.2.mem ((c.tc : Thread Cert.S5TailIdeal.nD Cert.S5TailIdeal.τ).loc Cert.S5TailIdeal.main_arg5) = m ((c.tc : Thread Cert.S5TailIdeal.nD Cert.S5TailIdeal.τ).loc Cert.S5TailIdeal.main_arg5)
          ∧ r.2.mem ((c.tc : Thread Cert.S5TailIdeal.nD Cert.S5TailIdeal.τ).loc Cert.S5TailIdeal.main_arg6) = m ((c.tc : Thread Cert.S5TailIdeal.nD Cert.S5TailIdeal.τ).loc Cert.S5TailIdeal.main_arg6)
          ∧ r.2.mem ((c.tc : Thread Cert.S5TailIdeal.nD Cert.S5TailIdeal.τ).loc Cert.S5TailIdeal.main_arg7) = m ((c.tc : Thread Cert.S5TailIdeal.nD Cert.S5TailIdeal.τ).loc Cert.S5TailIdeal.main_arg7))
      ∧ θ_run (Cert.S5TailRefIdeal.defs (F := Ideal)) (onTc (τ := Cert.S5TailRefIdeal.τ) (Cert.S5TailRefIdeal.main (F := Ideal))) ⟨m', fun _ => 0, g'⟩ (fun r => ∀ c : Dev Cert.S5TailRefIdeal.nD,
          r.2.mem ((c.tc : Thread Cert.S5TailRefIdeal.nD Cert.S5TailRefIdeal.τ).loc Cert.S5TailRefIdeal.main_v85) = v0 c
          ∧ r.2.mem ((c.tc : Thread Cert.S5TailRefIdeal.nD Cert.S5TailRefIdeal.τ).loc Cert.S5TailRefIdeal.main_v86) = v1 c
          ∧ r.2.mem ((c.tc : Thread Cert.S5TailRefIdeal.nD Cert.S5TailRefIdeal.τ).loc Cert.S5TailRefIdeal.main_v87) = v2 c
          ∧ r.2.mem ((c.tc : Thread Cert.S5TailRefIdeal.nD Cert.S5TailRefIdeal.τ).loc Cert.S5TailRefIdeal.main_v88) = v3 c
          ∧ r.2.mem ((c.tc : Thread Cert.S5TailRefIdeal.nD Cert.S5TailRefIdeal.τ).loc Cert.S5TailRefIdeal.main_v89) = v4 c
          ∧ r.2.mem ((c.tc : Thread Cert.S5TailRefIdeal.nD Cert.S5TailRefIdeal.τ).loc Cert.S5TailRefIdeal.main_v61) = v5 c
          ∧ r.2.mem ((c.tc : Thread Cert.S5TailRefIdeal.nD Cert.S5TailRefIdeal.τ).loc Cert.S5TailRefIdeal.main_v49) = v6 c
          ∧ r.2.mem ((c.tc : Thread Cert.S5TailRefIdeal.nD Cert.S5TailRefIdeal.τ).loc Cert.S5TailRefIdeal.main_arg0) = m' ((c.tc : Thread Cert.S5TailRefIdeal.nD Cert.S5TailRefIdeal.τ).loc Cert.S5TailRefIdeal.main_arg0)
          ∧ r.2.mem ((c.tc : Thread Cert.S5TailRefIdeal.nD Cert.S5TailRefIdeal.τ).loc Cert.S5TailRefIdeal.main_arg1) = m' ((c.tc : Thread Cert.S5TailRefIdeal.nD Cert.S5TailRefIdeal.τ).loc Cert.S5TailRefIdeal.main_arg1)
          ∧ r.2.mem ((c.tc : Thread Cert.S5TailRefIdeal.nD Cert.S5TailRefIdeal.τ).loc Cert.S5TailRefIdeal.main_arg2) = m' ((c.tc : Thread Cert.S5TailRefIdeal.nD Cert.S5TailRefIdeal.τ).loc Cert.S5TailRefIdeal.main_arg2)
          ∧ r.2.mem ((c.tc : Thread Cert.S5TailRefIdeal.nD Cert.S5TailRefIdeal.τ).loc Cert.S5TailRefIdeal.main_arg3) = m' ((c.tc : Thread Cert.S5TailRefIdeal.nD Cert.S5TailRefIdeal.τ).loc Cert.S5TailRefIdeal.main_arg3)
          ∧ r.2.mem ((c.tc : Thread Cert.S5TailRefIdeal.nD Cert.S5TailRefIdeal.τ).loc Cert.S5TailRefIdeal.main_arg4) = m' ((c.tc : Thread Cert.S5TailRefIdeal.nD Cert.S5TailRefIdeal.τ).loc Cert.S5TailRefIdeal.main_arg4)
          ∧ r.2.mem ((c.tc : Thread Cert.S5TailRefIdeal.nD Cert.S5TailRefIdeal.τ).loc Cert.S5TailRefIdeal.main_arg5) = m' ((c.tc : Thread Cert.S5TailRefIdeal.nD Cert.S5TailRefIdeal.τ).loc Cert.S5TailRefIdeal.main_arg5)
          ∧ r.2.mem ((c.tc : Thread Cert.S5TailRefIdeal.nD Cert.S5TailRefIdeal.τ).loc Cert.S5TailRefIdeal.main_arg6) = m' ((c.tc : Thread Cert.S5TailRefIdeal.nD Cert.S5TailRefIdeal.τ).loc Cert.S5TailRefIdeal.main_arg6)
          ∧ r.2.mem ((c.tc : Thread Cert.S5TailRefIdeal.nD Cert.S5TailRefIdeal.τ).loc Cert.S5TailRefIdeal.main_arg7) = m' ((c.tc : Thread Cert.S5TailRefIdeal.nD Cert.S5TailRefIdeal.τ).loc Cert.S5TailRefIdeal.main_arg7))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v1) = v0 c
          ∧ r.2.mem ((c.tc : Thread Cert.AdamGluRefIdeal.nD Cert.AdamGluRefIdeal.τ).loc Cert.AdamGluRefIdeal.main_v25) = v1 c
          ∧ r.2.mem ((c.tc : Thread Cert.AdamGluRefIdeal.nD Cert.AdamGluRefIdeal.τ).loc Cert.AdamGluRefIdeal.main_v6) = v2 c
          ∧ r.2.mem ((c.tc : Thread Cert.AdamGluRefIdeal.nD Cert.AdamGluRefIdeal.τ).loc Cert.AdamGluRefIdeal.main_v12) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v1) = v0 c
          ∧ r.2.mem ((c.tc : Thread Cert.AdamBranchRefIdeal.nD Cert.AdamBranchRefIdeal.τ).loc Cert.AdamBranchRefIdeal.main_v25) = v1 c
          ∧ r.2.mem ((c.tc : Thread Cert.AdamBranchRefIdeal.nD Cert.AdamBranchRefIdeal.τ).loc Cert.AdamBranchRefIdeal.main_v6) = v2 c
          ∧ r.2.mem ((c.tc : Thread Cert.AdamBranchRefIdeal.nD Cert.AdamBranchRefIdeal.τ).loc Cert.AdamBranchRefIdeal.main_v12) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_SsdTail_SsdTailIdeal : Prop :=
  True

def algebraic_SsdTailIdeal_SsdTailRefIdeal [hSsdTailIdeal : Cert.SsdTailIdeal.Facts] [hSsdTailRefIdeal : Cert.SsdTailRefIdeal.Facts] : Prop :=
  ∀ (m : (ℓ : Loc Cert.SsdTailIdeal.nD Cert.SsdTailIdeal.τ Cert.SsdTailIdeal.sig) → Buf (Elt Ideal) ℓ) (g : Dev Cert.SsdTailIdeal.nD → PrngReg)
    (m' : (ℓ : Loc Cert.SsdTailRefIdeal.nD Cert.SsdTailRefIdeal.τ Cert.SsdTailRefIdeal.sig) → Buf (Elt Ideal) ℓ) (g' : Dev Cert.SsdTailRefIdeal.nD → PrngReg), Pre_SsdTailIdeal m →
    (∀ c : Dev Cert.SsdTailIdeal.nD,
      m' ((c.tc : Thread Cert.SsdTailRefIdeal.nD Cert.SsdTailRefIdeal.τ).loc Cert.SsdTailRefIdeal.main_arg0) = m ((c.tc : Thread Cert.SsdTailIdeal.nD Cert.SsdTailIdeal.τ).loc Cert.SsdTailIdeal.main_arg0)
      ∧ m' ((c.tc : Thread Cert.SsdTailRefIdeal.nD Cert.SsdTailRefIdeal.τ).loc Cert.SsdTailRefIdeal.main_arg1) = m ((c.tc : Thread Cert.SsdTailIdeal.nD Cert.SsdTailIdeal.τ).loc Cert.SsdTailIdeal.main_arg1)
      ∧ m' ((c.tc : Thread Cert.SsdTailRefIdeal.nD Cert.SsdTailRefIdeal.τ).loc Cert.SsdTailRefIdeal.main_arg2) = m ((c.tc : Thread Cert.SsdTailIdeal.nD Cert.SsdTailIdeal.τ).loc Cert.SsdTailIdeal.main_arg2)
      ∧ m' ((c.tc : Thread Cert.SsdTailRefIdeal.nD Cert.SsdTailRefIdeal.τ).loc Cert.SsdTailRefIdeal.main_arg3) = m ((c.tc : Thread Cert.SsdTailIdeal.nD Cert.SsdTailIdeal.τ).loc Cert.SsdTailIdeal.main_arg3)
      ∧ m' ((c.tc : Thread Cert.SsdTailRefIdeal.nD Cert.SsdTailRefIdeal.τ).loc Cert.SsdTailRefIdeal.main_arg4) = m ((c.tc : Thread Cert.SsdTailIdeal.nD Cert.SsdTailIdeal.τ).loc Cert.SsdTailIdeal.main_arg4)) →
    ∃ (v0 : (c : Dev Cert.SsdTailIdeal.nD) → Buf (Elt Ideal) ((c.tc : Thread Cert.SsdTailIdeal.nD Cert.SsdTailIdeal.τ).loc Cert.SsdTailIdeal.main_v2_0)) (v1 : (c : Dev Cert.SsdTailIdeal.nD) → Buf (Elt Ideal) ((c.tc : Thread Cert.SsdTailIdeal.nD Cert.SsdTailIdeal.τ).loc Cert.SsdTailIdeal.main_v2_1)) (v2 : (c : Dev Cert.SsdTailIdeal.nD) → Buf (Elt Ideal) ((c.tc : Thread Cert.SsdTailIdeal.nD Cert.SsdTailIdeal.τ).loc Cert.SsdTailIdeal.main_v2_2)) (v3 : (c : Dev Cert.SsdTailIdeal.nD) → Buf (Elt Ideal) ((c.tc : Thread Cert.SsdTailIdeal.nD Cert.SsdTailIdeal.τ).loc Cert.SsdTailIdeal.main_v2_3)),
      θ_run (Cert.SsdTailIdeal.defs (F := Ideal)) (onTc (τ := Cert.SsdTailIdeal.τ) (Cert.SsdTailIdeal.main (F := Ideal))) ⟨m, fun _ => 0, g⟩ (fun r => ∀ c : Dev Cert.SsdTailIdeal.nD,
          r.2.mem ((c.tc : Thread Cert.SsdTailIdeal.nD Cert.SsdTailIdeal.τ).loc Cert.SsdTailIdeal.main_v2_0) = v0 c
          ∧ r.2.mem ((c.tc : Thread Cert.SsdTailIdeal.nD Cert.SsdTailIdeal.τ).loc Cert.SsdTailIdeal.main_v2_1) = v1 c
          ∧ r.2.mem ((c.tc : Thread Cert.SsdTailIdeal.nD Cert.SsdTailIdeal.τ).loc Cert.SsdTailIdeal.main_v2_2) = v2 c
          ∧ r.2.mem ((c.tc : Thread Cert.SsdTailIdeal.nD Cert.SsdTailIdeal.τ).loc Cert.SsdTailIdeal.main_v2_3) = v3 c
          ∧ r.2.mem ((c.tc : Thread Cert.SsdTailIdeal.nD Cert.SsdTailIdeal.τ).loc Cert.SsdTailIdeal.main_arg0) = m ((c.tc : Thread Cert.SsdTailIdeal.nD Cert.SsdTailIdeal.τ).loc Cert.SsdTailIdeal.main_arg0)
          ∧ r.2.mem ((c.tc : Thread Cert.SsdTailIdeal.nD Cert.SsdTailIdeal.τ).loc Cert.SsdTailIdeal.main_arg1) = m ((c.tc : Thread Cert.SsdTailIdeal.nD Cert.SsdTailIdeal.τ).loc Cert.SsdTailIdeal.main_arg1)
          ∧ r.2.mem ((c.tc : Thread Cert.SsdTailIdeal.nD Cert.SsdTailIdeal.τ).loc Cert.SsdTailIdeal.main_arg2) = m ((c.tc : Thread Cert.SsdTailIdeal.nD Cert.SsdTailIdeal.τ).loc Cert.SsdTailIdeal.main_arg2)
          ∧ r.2.mem ((c.tc : Thread Cert.SsdTailIdeal.nD Cert.SsdTailIdeal.τ).loc Cert.SsdTailIdeal.main_arg3) = m ((c.tc : Thread Cert.SsdTailIdeal.nD Cert.SsdTailIdeal.τ).loc Cert.SsdTailIdeal.main_arg3)
          ∧ r.2.mem ((c.tc : Thread Cert.SsdTailIdeal.nD Cert.SsdTailIdeal.τ).loc Cert.SsdTailIdeal.main_arg4) = m ((c.tc : Thread Cert.SsdTailIdeal.nD Cert.SsdTailIdeal.τ).loc Cert.SsdTailIdeal.main_arg4))
      ∧ θ_run (Cert.SsdTailRefIdeal.defs (F := Ideal)) (onTc (τ := Cert.SsdTailRefIdeal.τ) (Cert.SsdTailRefIdeal.main (F := Ideal))) ⟨m', fun _ => 0, g'⟩ (fun r => ∀ c : Dev Cert.SsdTailRefIdeal.nD,
          r.2.mem ((c.tc : Thread Cert.SsdTailRefIdeal.nD Cert.SsdTailRefIdeal.τ).loc Cert.SsdTailRefIdeal.main_v51) = v0 c
          ∧ r.2.mem ((c.tc : Thread Cert.SsdTailRefIdeal.nD Cert.SsdTailRefIdeal.τ).loc Cert.SsdTailRefIdeal.main_v52) = v1 c
          ∧ r.2.mem ((c.tc : Thread Cert.SsdTailRefIdeal.nD Cert.SsdTailRefIdeal.τ).loc Cert.SsdTailRefIdeal.main_v53) = v2 c
          ∧ r.2.mem ((c.tc : Thread Cert.SsdTailRefIdeal.nD Cert.SsdTailRefIdeal.τ).loc Cert.SsdTailRefIdeal.main_v24) = v3 c
          ∧ r.2.mem ((c.tc : Thread Cert.SsdTailRefIdeal.nD Cert.SsdTailRefIdeal.τ).loc Cert.SsdTailRefIdeal.main_arg0) = m' ((c.tc : Thread Cert.SsdTailRefIdeal.nD Cert.SsdTailRefIdeal.τ).loc Cert.SsdTailRefIdeal.main_arg0)
          ∧ r.2.mem ((c.tc : Thread Cert.SsdTailRefIdeal.nD Cert.SsdTailRefIdeal.τ).loc Cert.SsdTailRefIdeal.main_arg1) = m' ((c.tc : Thread Cert.SsdTailRefIdeal.nD Cert.SsdTailRefIdeal.τ).loc Cert.SsdTailRefIdeal.main_arg1)
          ∧ r.2.mem ((c.tc : Thread Cert.SsdTailRefIdeal.nD Cert.SsdTailRefIdeal.τ).loc Cert.SsdTailRefIdeal.main_arg2) = m' ((c.tc : Thread Cert.SsdTailRefIdeal.nD Cert.SsdTailRefIdeal.τ).loc Cert.SsdTailRefIdeal.main_arg2)
          ∧ r.2.mem ((c.tc : Thread Cert.SsdTailRefIdeal.nD Cert.SsdTailRefIdeal.τ).loc Cert.SsdTailRefIdeal.main_arg3) = m' ((c.tc : Thread Cert.SsdTailRefIdeal.nD Cert.SsdTailRefIdeal.τ).loc Cert.SsdTailRefIdeal.main_arg3)
          ∧ r.2.mem ((c.tc : Thread Cert.SsdTailRefIdeal.nD Cert.SsdTailRefIdeal.τ).loc Cert.SsdTailRefIdeal.main_arg4) = m' ((c.tc : Thread Cert.SsdTailRefIdeal.nD Cert.SsdTailRefIdeal.τ).loc Cert.SsdTailRefIdeal.main_arg4))

def preserves_GdnTail_GdnTailIdeal : Prop :=
  True

def algebraic_GdnTailIdeal_GdnTailRefIdeal [hGdnTailIdeal : Cert.GdnTailIdeal.Facts] [hGdnTailRefIdeal : Cert.GdnTailRefIdeal.Facts] : Prop :=
  ∀ (m : (ℓ : Loc Cert.GdnTailIdeal.nD Cert.GdnTailIdeal.τ Cert.GdnTailIdeal.sig) → Buf (Elt Ideal) ℓ) (g : Dev Cert.GdnTailIdeal.nD → PrngReg)
    (m' : (ℓ : Loc Cert.GdnTailRefIdeal.nD Cert.GdnTailRefIdeal.τ Cert.GdnTailRefIdeal.sig) → Buf (Elt Ideal) ℓ) (g' : Dev Cert.GdnTailRefIdeal.nD → PrngReg), Pre_GdnTailIdeal m →
    (∀ c : Dev Cert.GdnTailIdeal.nD,
      m' ((c.tc : Thread Cert.GdnTailRefIdeal.nD Cert.GdnTailRefIdeal.τ).loc Cert.GdnTailRefIdeal.main_arg0) = m ((c.tc : Thread Cert.GdnTailIdeal.nD Cert.GdnTailIdeal.τ).loc Cert.GdnTailIdeal.main_arg0)
      ∧ m' ((c.tc : Thread Cert.GdnTailRefIdeal.nD Cert.GdnTailRefIdeal.τ).loc Cert.GdnTailRefIdeal.main_arg1) = m ((c.tc : Thread Cert.GdnTailIdeal.nD Cert.GdnTailIdeal.τ).loc Cert.GdnTailIdeal.main_arg1)
      ∧ m' ((c.tc : Thread Cert.GdnTailRefIdeal.nD Cert.GdnTailRefIdeal.τ).loc Cert.GdnTailRefIdeal.main_arg2) = m ((c.tc : Thread Cert.GdnTailIdeal.nD Cert.GdnTailIdeal.τ).loc Cert.GdnTailIdeal.main_arg2)
      ∧ m' ((c.tc : Thread Cert.GdnTailRefIdeal.nD Cert.GdnTailRefIdeal.τ).loc Cert.GdnTailRefIdeal.main_arg3) = m ((c.tc : Thread Cert.GdnTailIdeal.nD Cert.GdnTailIdeal.τ).loc Cert.GdnTailIdeal.main_arg3)
      ∧ m' ((c.tc : Thread Cert.GdnTailRefIdeal.nD Cert.GdnTailRefIdeal.τ).loc Cert.GdnTailRefIdeal.main_arg4) = m ((c.tc : Thread Cert.GdnTailIdeal.nD Cert.GdnTailIdeal.τ).loc Cert.GdnTailIdeal.main_arg4)) →
    ∃ (v0 : (c : Dev Cert.GdnTailIdeal.nD) → Buf (Elt Ideal) ((c.tc : Thread Cert.GdnTailIdeal.nD Cert.GdnTailIdeal.τ).loc Cert.GdnTailIdeal.main_v2_0)) (v1 : (c : Dev Cert.GdnTailIdeal.nD) → Buf (Elt Ideal) ((c.tc : Thread Cert.GdnTailIdeal.nD Cert.GdnTailIdeal.τ).loc Cert.GdnTailIdeal.main_v2_1)) (v2 : (c : Dev Cert.GdnTailIdeal.nD) → Buf (Elt Ideal) ((c.tc : Thread Cert.GdnTailIdeal.nD Cert.GdnTailIdeal.τ).loc Cert.GdnTailIdeal.main_v2_2)) (v3 : (c : Dev Cert.GdnTailIdeal.nD) → Buf (Elt Ideal) ((c.tc : Thread Cert.GdnTailIdeal.nD Cert.GdnTailIdeal.τ).loc Cert.GdnTailIdeal.main_v2_3)),
      θ_run (Cert.GdnTailIdeal.defs (F := Ideal)) (onTc (τ := Cert.GdnTailIdeal.τ) (Cert.GdnTailIdeal.main (F := Ideal))) ⟨m, fun _ => 0, g⟩ (fun r => ∀ c : Dev Cert.GdnTailIdeal.nD,
          r.2.mem ((c.tc : Thread Cert.GdnTailIdeal.nD Cert.GdnTailIdeal.τ).loc Cert.GdnTailIdeal.main_v2_0) = v0 c
          ∧ r.2.mem ((c.tc : Thread Cert.GdnTailIdeal.nD Cert.GdnTailIdeal.τ).loc Cert.GdnTailIdeal.main_v2_1) = v1 c
          ∧ r.2.mem ((c.tc : Thread Cert.GdnTailIdeal.nD Cert.GdnTailIdeal.τ).loc Cert.GdnTailIdeal.main_v2_2) = v2 c
          ∧ r.2.mem ((c.tc : Thread Cert.GdnTailIdeal.nD Cert.GdnTailIdeal.τ).loc Cert.GdnTailIdeal.main_v2_3) = v3 c
          ∧ r.2.mem ((c.tc : Thread Cert.GdnTailIdeal.nD Cert.GdnTailIdeal.τ).loc Cert.GdnTailIdeal.main_arg0) = m ((c.tc : Thread Cert.GdnTailIdeal.nD Cert.GdnTailIdeal.τ).loc Cert.GdnTailIdeal.main_arg0)
          ∧ r.2.mem ((c.tc : Thread Cert.GdnTailIdeal.nD Cert.GdnTailIdeal.τ).loc Cert.GdnTailIdeal.main_arg1) = m ((c.tc : Thread Cert.GdnTailIdeal.nD Cert.GdnTailIdeal.τ).loc Cert.GdnTailIdeal.main_arg1)
          ∧ r.2.mem ((c.tc : Thread Cert.GdnTailIdeal.nD Cert.GdnTailIdeal.τ).loc Cert.GdnTailIdeal.main_arg2) = m ((c.tc : Thread Cert.GdnTailIdeal.nD Cert.GdnTailIdeal.τ).loc Cert.GdnTailIdeal.main_arg2)
          ∧ r.2.mem ((c.tc : Thread Cert.GdnTailIdeal.nD Cert.GdnTailIdeal.τ).loc Cert.GdnTailIdeal.main_arg3) = m ((c.tc : Thread Cert.GdnTailIdeal.nD Cert.GdnTailIdeal.τ).loc Cert.GdnTailIdeal.main_arg3)
          ∧ r.2.mem ((c.tc : Thread Cert.GdnTailIdeal.nD Cert.GdnTailIdeal.τ).loc Cert.GdnTailIdeal.main_arg4) = m ((c.tc : Thread Cert.GdnTailIdeal.nD Cert.GdnTailIdeal.τ).loc Cert.GdnTailIdeal.main_arg4))
      ∧ θ_run (Cert.GdnTailRefIdeal.defs (F := Ideal)) (onTc (τ := Cert.GdnTailRefIdeal.τ) (Cert.GdnTailRefIdeal.main (F := Ideal))) ⟨m', fun _ => 0, g'⟩ (fun r => ∀ c : Dev Cert.GdnTailRefIdeal.nD,
          r.2.mem ((c.tc : Thread Cert.GdnTailRefIdeal.nD Cert.GdnTailRefIdeal.τ).loc Cert.GdnTailRefIdeal.main_v48) = v0 c
          ∧ r.2.mem ((c.tc : Thread Cert.GdnTailRefIdeal.nD Cert.GdnTailRefIdeal.τ).loc Cert.GdnTailRefIdeal.main_v26) = v1 c
          ∧ r.2.mem ((c.tc : Thread Cert.GdnTailRefIdeal.nD Cert.GdnTailRefIdeal.τ).loc Cert.GdnTailRefIdeal.main_v49) = v2 c
          ∧ r.2.mem ((c.tc : Thread Cert.GdnTailRefIdeal.nD Cert.GdnTailRefIdeal.τ).loc Cert.GdnTailRefIdeal.main_v22) = v3 c
          ∧ r.2.mem ((c.tc : Thread Cert.GdnTailRefIdeal.nD Cert.GdnTailRefIdeal.τ).loc Cert.GdnTailRefIdeal.main_arg0) = m' ((c.tc : Thread Cert.GdnTailRefIdeal.nD Cert.GdnTailRefIdeal.τ).loc Cert.GdnTailRefIdeal.main_arg0)
          ∧ r.2.mem ((c.tc : Thread Cert.GdnTailRefIdeal.nD Cert.GdnTailRefIdeal.τ).loc Cert.GdnTailRefIdeal.main_arg1) = m' ((c.tc : Thread Cert.GdnTailRefIdeal.nD Cert.GdnTailRefIdeal.τ).loc Cert.GdnTailRefIdeal.main_arg1)
          ∧ r.2.mem ((c.tc : Thread Cert.GdnTailRefIdeal.nD Cert.GdnTailRefIdeal.τ).loc Cert.GdnTailRefIdeal.main_arg2) = m' ((c.tc : Thread Cert.GdnTailRefIdeal.nD Cert.GdnTailRefIdeal.τ).loc Cert.GdnTailRefIdeal.main_arg2)
          ∧ r.2.mem ((c.tc : Thread Cert.GdnTailRefIdeal.nD Cert.GdnTailRefIdeal.τ).loc Cert.GdnTailRefIdeal.main_arg3) = m' ((c.tc : Thread Cert.GdnTailRefIdeal.nD Cert.GdnTailRefIdeal.τ).loc Cert.GdnTailRefIdeal.main_arg3)
          ∧ r.2.mem ((c.tc : Thread Cert.GdnTailRefIdeal.nD Cert.GdnTailRefIdeal.τ).loc Cert.GdnTailRefIdeal.main_arg4) = m' ((c.tc : Thread Cert.GdnTailRefIdeal.nD Cert.GdnTailRefIdeal.τ).loc Cert.GdnTailRefIdeal.main_arg4))

def preserves_AdamRest_AdamRestIdeal : Prop :=
  True

def algebraic_AdamRestIdeal_AdamRestRefIdeal [hAdamRestIdeal : Cert.AdamRestIdeal.Facts] [hAdamRestRefIdeal : Cert.AdamRestRefIdeal.Facts] : Prop :=
  ∀ (m : (ℓ : Loc Cert.AdamRestIdeal.nD Cert.AdamRestIdeal.τ Cert.AdamRestIdeal.sig) → Buf (Elt Ideal) ℓ) (g : Dev Cert.AdamRestIdeal.nD → PrngReg)
    (m' : (ℓ : Loc Cert.AdamRestRefIdeal.nD Cert.AdamRestRefIdeal.τ Cert.AdamRestRefIdeal.sig) → Buf (Elt Ideal) ℓ) (g' : Dev Cert.AdamRestRefIdeal.nD → PrngReg), Pre_AdamRestIdeal m →
    (∀ c : Dev Cert.AdamRestIdeal.nD,
      m' ((c.tc : Thread Cert.AdamRestRefIdeal.nD Cert.AdamRestRefIdeal.τ).loc Cert.AdamRestRefIdeal.main_arg0) = m ((c.tc : Thread Cert.AdamRestIdeal.nD Cert.AdamRestIdeal.τ).loc Cert.AdamRestIdeal.main_arg0)
      ∧ m' ((c.tc : Thread Cert.AdamRestRefIdeal.nD Cert.AdamRestRefIdeal.τ).loc Cert.AdamRestRefIdeal.main_arg1) = m ((c.tc : Thread Cert.AdamRestIdeal.nD Cert.AdamRestIdeal.τ).loc Cert.AdamRestIdeal.main_arg1)
      ∧ m' ((c.tc : Thread Cert.AdamRestRefIdeal.nD Cert.AdamRestRefIdeal.τ).loc Cert.AdamRestRefIdeal.main_arg2) = m ((c.tc : Thread Cert.AdamRestIdeal.nD Cert.AdamRestIdeal.τ).loc Cert.AdamRestIdeal.main_arg2)
      ∧ m' ((c.tc : Thread Cert.AdamRestRefIdeal.nD Cert.AdamRestRefIdeal.τ).loc Cert.AdamRestRefIdeal.main_arg3) = m ((c.tc : Thread Cert.AdamRestIdeal.nD Cert.AdamRestIdeal.τ).loc Cert.AdamRestIdeal.main_arg3)
      ∧ m' ((c.tc : Thread Cert.AdamRestRefIdeal.nD Cert.AdamRestRefIdeal.τ).loc Cert.AdamRestRefIdeal.main_arg4) = m ((c.tc : Thread Cert.AdamRestIdeal.nD Cert.AdamRestIdeal.τ).loc Cert.AdamRestIdeal.main_arg4)
      ∧ m' ((c.tc : Thread Cert.AdamRestRefIdeal.nD Cert.AdamRestRefIdeal.τ).loc Cert.AdamRestRefIdeal.main_arg5) = m ((c.tc : Thread Cert.AdamRestIdeal.nD Cert.AdamRestIdeal.τ).loc Cert.AdamRestIdeal.main_arg5)
      ∧ m' ((c.tc : Thread Cert.AdamRestRefIdeal.nD Cert.AdamRestRefIdeal.τ).loc Cert.AdamRestRefIdeal.main_arg6) = m ((c.tc : Thread Cert.AdamRestIdeal.nD Cert.AdamRestIdeal.τ).loc Cert.AdamRestIdeal.main_arg6)
      ∧ m' ((c.tc : Thread Cert.AdamRestRefIdeal.nD Cert.AdamRestRefIdeal.τ).loc Cert.AdamRestRefIdeal.main_arg7) = m ((c.tc : Thread Cert.AdamRestIdeal.nD Cert.AdamRestIdeal.τ).loc Cert.AdamRestIdeal.main_arg7)
      ∧ m' ((c.tc : Thread Cert.AdamRestRefIdeal.nD Cert.AdamRestRefIdeal.τ).loc Cert.AdamRestRefIdeal.main_arg8) = m ((c.tc : Thread Cert.AdamRestIdeal.nD Cert.AdamRestIdeal.τ).loc Cert.AdamRestIdeal.main_arg8)
      ∧ m' ((c.tc : Thread Cert.AdamRestRefIdeal.nD Cert.AdamRestRefIdeal.τ).loc Cert.AdamRestRefIdeal.main_arg9) = m ((c.tc : Thread Cert.AdamRestIdeal.nD Cert.AdamRestIdeal.τ).loc Cert.AdamRestIdeal.main_arg9)
      ∧ m' ((c.tc : Thread Cert.AdamRestRefIdeal.nD Cert.AdamRestRefIdeal.τ).loc Cert.AdamRestRefIdeal.main_arg10) = m ((c.tc : Thread Cert.AdamRestIdeal.nD Cert.AdamRestIdeal.τ).loc Cert.AdamRestIdeal.main_arg10)
      ∧ m' ((c.tc : Thread Cert.AdamRestRefIdeal.nD Cert.AdamRestRefIdeal.τ).loc Cert.AdamRestRefIdeal.main_arg11) = m ((c.tc : Thread Cert.AdamRestIdeal.nD Cert.AdamRestIdeal.τ).loc Cert.AdamRestIdeal.main_arg11)
      ∧ m' ((c.tc : Thread Cert.AdamRestRefIdeal.nD Cert.AdamRestRefIdeal.τ).loc Cert.AdamRestRefIdeal.main_arg12) = m ((c.tc : Thread Cert.AdamRestIdeal.nD Cert.AdamRestIdeal.τ).loc Cert.AdamRestIdeal.main_arg12)
      ∧ m' ((c.tc : Thread Cert.AdamRestRefIdeal.nD Cert.AdamRestRefIdeal.τ).loc Cert.AdamRestRefIdeal.main_arg13) = m ((c.tc : Thread Cert.AdamRestIdeal.nD Cert.AdamRestIdeal.τ).loc Cert.AdamRestIdeal.main_arg13)
      ∧ m' ((c.tc : Thread Cert.AdamRestRefIdeal.nD Cert.AdamRestRefIdeal.τ).loc Cert.AdamRestRefIdeal.main_arg14) = m ((c.tc : Thread Cert.AdamRestIdeal.nD Cert.AdamRestIdeal.τ).loc Cert.AdamRestIdeal.main_arg14)
      ∧ m' ((c.tc : Thread Cert.AdamRestRefIdeal.nD Cert.AdamRestRefIdeal.τ).loc Cert.AdamRestRefIdeal.main_arg15) = m ((c.tc : Thread Cert.AdamRestIdeal.nD Cert.AdamRestIdeal.τ).loc Cert.AdamRestIdeal.main_arg15)
      ∧ m' ((c.tc : Thread Cert.AdamRestRefIdeal.nD Cert.AdamRestRefIdeal.τ).loc Cert.AdamRestRefIdeal.main_arg16) = m ((c.tc : Thread Cert.AdamRestIdeal.nD Cert.AdamRestIdeal.τ).loc Cert.AdamRestIdeal.main_arg16)
      ∧ m' ((c.tc : Thread Cert.AdamRestRefIdeal.nD Cert.AdamRestRefIdeal.τ).loc Cert.AdamRestRefIdeal.main_arg17) = m ((c.tc : Thread Cert.AdamRestIdeal.nD Cert.AdamRestIdeal.τ).loc Cert.AdamRestIdeal.main_arg17)
      ∧ m' ((c.tc : Thread Cert.AdamRestRefIdeal.nD Cert.AdamRestRefIdeal.τ).loc Cert.AdamRestRefIdeal.main_arg18) = m ((c.tc : Thread Cert.AdamRestIdeal.nD Cert.AdamRestIdeal.τ).loc Cert.AdamRestIdeal.main_arg18)
      ∧ m' ((c.tc : Thread Cert.AdamRestRefIdeal.nD Cert.AdamRestRefIdeal.τ).loc Cert.AdamRestRefIdeal.main_arg19) = m ((c.tc : Thread Cert.AdamRestIdeal.nD Cert.AdamRestIdeal.τ).loc Cert.AdamRestIdeal.main_arg19)
      ∧ m' ((c.tc : Thread Cert.AdamRestRefIdeal.nD Cert.AdamRestRefIdeal.τ).loc Cert.AdamRestRefIdeal.main_arg20) = m ((c.tc : Thread Cert.AdamRestIdeal.nD Cert.AdamRestIdeal.τ).loc Cert.AdamRestIdeal.main_arg20)
      ∧ m' ((c.tc : Thread Cert.AdamRestRefIdeal.nD Cert.AdamRestRefIdeal.τ).loc Cert.AdamRestRefIdeal.main_arg21) = m ((c.tc : Thread Cert.AdamRestIdeal.nD Cert.AdamRestIdeal.τ).loc Cert.AdamRestIdeal.main_arg21)
      ∧ m' ((c.tc : Thread Cert.AdamRestRefIdeal.nD Cert.AdamRestRefIdeal.τ).loc Cert.AdamRestRefIdeal.main_arg22) = m ((c.tc : Thread Cert.AdamRestIdeal.nD Cert.AdamRestIdeal.τ).loc Cert.AdamRestIdeal.main_arg22)
      ∧ m' ((c.tc : Thread Cert.AdamRestRefIdeal.nD Cert.AdamRestRefIdeal.τ).loc Cert.AdamRestRefIdeal.main_arg23) = m ((c.tc : Thread Cert.AdamRestIdeal.nD Cert.AdamRestIdeal.τ).loc Cert.AdamRestIdeal.main_arg23)
      ∧ m' ((c.tc : Thread Cert.AdamRestRefIdeal.nD Cert.AdamRestRefIdeal.τ).loc Cert.AdamRestRefIdeal.main_arg24) = m ((c.tc : Thread Cert.AdamRestIdeal.nD Cert.AdamRestIdeal.τ).loc Cert.AdamRestIdeal.main_arg24)
      ∧ m' ((c.tc : Thread Cert.AdamRestRefIdeal.nD Cert.AdamRestRefIdeal.τ).loc Cert.AdamRestRefIdeal.main_arg25) = m ((c.tc : Thread Cert.AdamRestIdeal.nD Cert.AdamRestIdeal.τ).loc Cert.AdamRestIdeal.main_arg25)
      ∧ m' ((c.tc : Thread Cert.AdamRestRefIdeal.nD Cert.AdamRestRefIdeal.τ).loc Cert.AdamRestRefIdeal.main_arg26) = m ((c.tc : Thread Cert.AdamRestIdeal.nD Cert.AdamRestIdeal.τ).loc Cert.AdamRestIdeal.main_arg26)
      ∧ m' ((c.tc : Thread Cert.AdamRestRefIdeal.nD Cert.AdamRestRefIdeal.τ).loc Cert.AdamRestRefIdeal.main_arg27) = m ((c.tc : Thread Cert.AdamRestIdeal.nD Cert.AdamRestIdeal.τ).loc Cert.AdamRestIdeal.main_arg27)
      ∧ m' ((c.tc : Thread Cert.AdamRestRefIdeal.nD Cert.AdamRestRefIdeal.τ).loc Cert.AdamRestRefIdeal.main_arg28) = m ((c.tc : Thread Cert.AdamRestIdeal.nD Cert.AdamRestIdeal.τ).loc Cert.AdamRestIdeal.main_arg28)
      ∧ m' ((c.tc : Thread Cert.AdamRestRefIdeal.nD Cert.AdamRestRefIdeal.τ).loc Cert.AdamRestRefIdeal.main_arg29) = m ((c.tc : Thread Cert.AdamRestIdeal.nD Cert.AdamRestIdeal.τ).loc Cert.AdamRestIdeal.main_arg29)
      ∧ m' ((c.tc : Thread Cert.AdamRestRefIdeal.nD Cert.AdamRestRefIdeal.τ).loc Cert.AdamRestRefIdeal.main_arg30) = m ((c.tc : Thread Cert.AdamRestIdeal.nD Cert.AdamRestIdeal.τ).loc Cert.AdamRestIdeal.main_arg30)
      ∧ m' ((c.tc : Thread Cert.AdamRestRefIdeal.nD Cert.AdamRestRefIdeal.τ).loc Cert.AdamRestRefIdeal.main_arg31) = m ((c.tc : Thread Cert.AdamRestIdeal.nD Cert.AdamRestIdeal.τ).loc Cert.AdamRestIdeal.main_arg31)
      ∧ m' ((c.tc : Thread Cert.AdamRestRefIdeal.nD Cert.AdamRestRefIdeal.τ).loc Cert.AdamRestRefIdeal.main_arg32) = m ((c.tc : Thread Cert.AdamRestIdeal.nD Cert.AdamRestIdeal.τ).loc Cert.AdamRestIdeal.main_arg32)
      ∧ m' ((c.tc : Thread Cert.AdamRestRefIdeal.nD Cert.AdamRestRefIdeal.τ).loc Cert.AdamRestRefIdeal.main_arg33) = m ((c.tc : Thread Cert.AdamRestIdeal.nD Cert.AdamRestIdeal.τ).loc Cert.AdamRestIdeal.main_arg33)
      ∧ m' ((c.tc : Thread Cert.AdamRestRefIdeal.nD Cert.AdamRestRefIdeal.τ).loc Cert.AdamRestRefIdeal.main_arg34) = m ((c.tc : Thread Cert.AdamRestIdeal.nD Cert.AdamRestIdeal.τ).loc Cert.AdamRestIdeal.main_arg34)
      ∧ m' ((c.tc : Thread Cert.AdamRestRefIdeal.nD Cert.AdamRestRefIdeal.τ).loc Cert.AdamRestRefIdeal.main_arg35) = m ((c.tc : Thread Cert.AdamRestIdeal.nD Cert.AdamRestIdeal.τ).loc Cert.AdamRestIdeal.main_arg35)
      ∧ m' ((c.tc : Thread Cert.AdamRestRefIdeal.nD Cert.AdamRestRefIdeal.τ).loc Cert.AdamRestRefIdeal.main_arg36) = m ((c.tc : Thread Cert.AdamRestIdeal.nD Cert.AdamRestIdeal.τ).loc Cert.AdamRestIdeal.main_arg36)
      ∧ m' ((c.tc : Thread Cert.AdamRestRefIdeal.nD Cert.AdamRestRefIdeal.τ).loc Cert.AdamRestRefIdeal.main_arg37) = m ((c.tc : Thread Cert.AdamRestIdeal.nD Cert.AdamRestIdeal.τ).loc Cert.AdamRestIdeal.main_arg37)
      ∧ m' ((c.tc : Thread Cert.AdamRestRefIdeal.nD Cert.AdamRestRefIdeal.τ).loc Cert.AdamRestRefIdeal.main_arg38) = m ((c.tc : Thread Cert.AdamRestIdeal.nD Cert.AdamRestIdeal.τ).loc Cert.AdamRestIdeal.main_arg38)
      ∧ m' ((c.tc : Thread Cert.AdamRestRefIdeal.nD Cert.AdamRestRefIdeal.τ).loc Cert.AdamRestRefIdeal.main_arg39) = m ((c.tc : Thread Cert.AdamRestIdeal.nD Cert.AdamRestIdeal.τ).loc Cert.AdamRestIdeal.main_arg39)
      ∧ m' ((c.tc : Thread Cert.AdamRestRefIdeal.nD Cert.AdamRestRefIdeal.τ).loc Cert.AdamRestRefIdeal.main_arg40) = m ((c.tc : Thread Cert.AdamRestIdeal.nD Cert.AdamRestIdeal.τ).loc Cert.AdamRestIdeal.main_arg40)
      ∧ m' ((c.tc : Thread Cert.AdamRestRefIdeal.nD Cert.AdamRestRefIdeal.τ).loc Cert.AdamRestRefIdeal.main_arg41) = m ((c.tc : Thread Cert.AdamRestIdeal.nD Cert.AdamRestIdeal.τ).loc Cert.AdamRestIdeal.main_arg41)
      ∧ m' ((c.tc : Thread Cert.AdamRestRefIdeal.nD Cert.AdamRestRefIdeal.τ).loc Cert.AdamRestRefIdeal.main_arg42) = m ((c.tc : Thread Cert.AdamRestIdeal.nD Cert.AdamRestIdeal.τ).loc Cert.AdamRestIdeal.main_arg42)
      ∧ m' ((c.tc : Thread Cert.AdamRestRefIdeal.nD Cert.AdamRestRefIdeal.τ).loc Cert.AdamRestRefIdeal.main_arg43) = m ((c.tc : Thread Cert.AdamRestIdeal.nD Cert.AdamRestIdeal.τ).loc Cert.AdamRestIdeal.main_arg43)
      ∧ m' ((c.tc : Thread Cert.AdamRestRefIdeal.nD Cert.AdamRestRefIdeal.τ).loc Cert.AdamRestRefIdeal.main_arg44) = m ((c.tc : Thread Cert.AdamRestIdeal.nD Cert.AdamRestIdeal.τ).loc Cert.AdamRestIdeal.main_arg44)
      ∧ m' ((c.tc : Thread Cert.AdamRestRefIdeal.nD Cert.AdamRestRefIdeal.τ).loc Cert.AdamRestRefIdeal.main_arg45) = m ((c.tc : Thread Cert.AdamRestIdeal.nD Cert.AdamRestIdeal.τ).loc Cert.AdamRestIdeal.main_arg45)
      ∧ m' ((c.tc : Thread Cert.AdamRestRefIdeal.nD Cert.AdamRestRefIdeal.τ).loc Cert.AdamRestRefIdeal.main_arg46) = m ((c.tc : Thread Cert.AdamRestIdeal.nD Cert.AdamRestIdeal.τ).loc Cert.AdamRestIdeal.main_arg46)
      ∧ m' ((c.tc : Thread Cert.AdamRestRefIdeal.nD Cert.AdamRestRefIdeal.τ).loc Cert.AdamRestRefIdeal.main_arg47) = m ((c.tc : Thread Cert.AdamRestIdeal.nD Cert.AdamRestIdeal.τ).loc Cert.AdamRestIdeal.main_arg47)
      ∧ m' ((c.tc : Thread Cert.AdamRestRefIdeal.nD Cert.AdamRestRefIdeal.τ).loc Cert.AdamRestRefIdeal.main_arg48) = m ((c.tc : Thread Cert.AdamRestIdeal.nD Cert.AdamRestIdeal.τ).loc Cert.AdamRestIdeal.main_arg48)
      ∧ m' ((c.tc : Thread Cert.AdamRestRefIdeal.nD Cert.AdamRestRefIdeal.τ).loc Cert.AdamRestRefIdeal.main_arg49) = m ((c.tc : Thread Cert.AdamRestIdeal.nD Cert.AdamRestIdeal.τ).loc Cert.AdamRestIdeal.main_arg49)
      ∧ m' ((c.tc : Thread Cert.AdamRestRefIdeal.nD Cert.AdamRestRefIdeal.τ).loc Cert.AdamRestRefIdeal.main_arg50) = m ((c.tc : Thread Cert.AdamRestIdeal.nD Cert.AdamRestIdeal.τ).loc Cert.AdamRestIdeal.main_arg50)
      ∧ m' ((c.tc : Thread Cert.AdamRestRefIdeal.nD Cert.AdamRestRefIdeal.τ).loc Cert.AdamRestRefIdeal.main_arg51) = m ((c.tc : Thread Cert.AdamRestIdeal.nD Cert.AdamRestIdeal.τ).loc Cert.AdamRestIdeal.main_arg51)
      ∧ m' ((c.tc : Thread Cert.AdamRestRefIdeal.nD Cert.AdamRestRefIdeal.τ).loc Cert.AdamRestRefIdeal.main_arg52) = m ((c.tc : Thread Cert.AdamRestIdeal.nD Cert.AdamRestIdeal.τ).loc Cert.AdamRestIdeal.main_arg52)
      ∧ m' ((c.tc : Thread Cert.AdamRestRefIdeal.nD Cert.AdamRestRefIdeal.τ).loc Cert.AdamRestRefIdeal.main_arg53) = m ((c.tc : Thread Cert.AdamRestIdeal.nD Cert.AdamRestIdeal.τ).loc Cert.AdamRestIdeal.main_arg53)
      ∧ m' ((c.tc : Thread Cert.AdamRestRefIdeal.nD Cert.AdamRestRefIdeal.τ).loc Cert.AdamRestRefIdeal.main_arg54) = m ((c.tc : Thread Cert.AdamRestIdeal.nD Cert.AdamRestIdeal.τ).loc Cert.AdamRestIdeal.main_arg54)
      ∧ m' ((c.tc : Thread Cert.AdamRestRefIdeal.nD Cert.AdamRestRefIdeal.τ).loc Cert.AdamRestRefIdeal.main_arg55) = m ((c.tc : Thread Cert.AdamRestIdeal.nD Cert.AdamRestIdeal.τ).loc Cert.AdamRestIdeal.main_arg55)
      ∧ m' ((c.tc : Thread Cert.AdamRestRefIdeal.nD Cert.AdamRestRefIdeal.τ).loc Cert.AdamRestRefIdeal.main_arg56) = m ((c.tc : Thread Cert.AdamRestIdeal.nD Cert.AdamRestIdeal.τ).loc Cert.AdamRestIdeal.main_arg56)
      ∧ m' ((c.tc : Thread Cert.AdamRestRefIdeal.nD Cert.AdamRestRefIdeal.τ).loc Cert.AdamRestRefIdeal.main_arg57) = m ((c.tc : Thread Cert.AdamRestIdeal.nD Cert.AdamRestIdeal.τ).loc Cert.AdamRestIdeal.main_arg57)
      ∧ m' ((c.tc : Thread Cert.AdamRestRefIdeal.nD Cert.AdamRestRefIdeal.τ).loc Cert.AdamRestRefIdeal.main_arg58) = m ((c.tc : Thread Cert.AdamRestIdeal.nD Cert.AdamRestIdeal.τ).loc Cert.AdamRestIdeal.main_arg58)
      ∧ m' ((c.tc : Thread Cert.AdamRestRefIdeal.nD Cert.AdamRestRefIdeal.τ).loc Cert.AdamRestRefIdeal.main_arg59) = m ((c.tc : Thread Cert.AdamRestIdeal.nD Cert.AdamRestIdeal.τ).loc Cert.AdamRestIdeal.main_arg59)
      ∧ m' ((c.tc : Thread Cert.AdamRestRefIdeal.nD Cert.AdamRestRefIdeal.τ).loc Cert.AdamRestRefIdeal.main_arg60) = m ((c.tc : Thread Cert.AdamRestIdeal.nD Cert.AdamRestIdeal.τ).loc Cert.AdamRestIdeal.main_arg60)
      ∧ m' ((c.tc : Thread Cert.AdamRestRefIdeal.nD Cert.AdamRestRefIdeal.τ).loc Cert.AdamRestRefIdeal.main_arg61) = m ((c.tc : Thread Cert.AdamRestIdeal.nD Cert.AdamRestIdeal.τ).loc Cert.AdamRestIdeal.main_arg61)
      ∧ m' ((c.tc : Thread Cert.AdamRestRefIdeal.nD Cert.AdamRestRefIdeal.τ).loc Cert.AdamRestRefIdeal.main_arg62) = m ((c.tc : Thread Cert.AdamRestIdeal.nD Cert.AdamRestIdeal.τ).loc Cert.AdamRestIdeal.main_arg62)
      ∧ m' ((c.tc : Thread Cert.AdamRestRefIdeal.nD Cert.AdamRestRefIdeal.τ).loc Cert.AdamRestRefIdeal.main_arg63) = m ((c.tc : Thread Cert.AdamRestIdeal.nD Cert.AdamRestIdeal.τ).loc Cert.AdamRestIdeal.main_arg63)
      ∧ m' ((c.tc : Thread Cert.AdamRestRefIdeal.nD Cert.AdamRestRefIdeal.τ).loc Cert.AdamRestRefIdeal.main_arg64) = m ((c.tc : Thread Cert.AdamRestIdeal.nD Cert.AdamRestIdeal.τ).loc Cert.AdamRestIdeal.main_arg64)
      ∧ m' ((c.tc : Thread Cert.AdamRestRefIdeal.nD Cert.AdamRestRefIdeal.τ).loc Cert.AdamRestRefIdeal.main_arg65) = m ((c.tc : Thread Cert.AdamRestIdeal.nD Cert.AdamRestIdeal.τ).loc Cert.AdamRestIdeal.main_arg65)
      ∧ m' ((c.tc : Thread Cert.AdamRestRefIdeal.nD Cert.AdamRestRefIdeal.τ).loc Cert.AdamRestRefIdeal.main_arg66) = m ((c.tc : Thread Cert.AdamRestIdeal.nD Cert.AdamRestIdeal.τ).loc Cert.AdamRestIdeal.main_arg66)
      ∧ m' ((c.tc : Thread Cert.AdamRestRefIdeal.nD Cert.AdamRestRefIdeal.τ).loc Cert.AdamRestRefIdeal.main_arg67) = m ((c.tc : Thread Cert.AdamRestIdeal.nD Cert.AdamRestIdeal.τ).loc Cert.AdamRestIdeal.main_arg67)
      ∧ m' ((c.tc : Thread Cert.AdamRestRefIdeal.nD Cert.AdamRestRefIdeal.τ).loc Cert.AdamRestRefIdeal.main_arg68) = m ((c.tc : Thread Cert.AdamRestIdeal.nD Cert.AdamRestIdeal.τ).loc Cert.AdamRestIdeal.main_arg68)
      ∧ m' ((c.tc : Thread Cert.AdamRestRefIdeal.nD Cert.AdamRestRefIdeal.τ).loc Cert.AdamRestRefIdeal.main_arg69) = m ((c.tc : Thread Cert.AdamRestIdeal.nD Cert.AdamRestIdeal.τ).loc Cert.AdamRestIdeal.main_arg69)
      ∧ m' ((c.tc : Thread Cert.AdamRestRefIdeal.nD Cert.AdamRestRefIdeal.τ).loc Cert.AdamRestRefIdeal.main_arg70) = m ((c.tc : Thread Cert.AdamRestIdeal.nD Cert.AdamRestIdeal.τ).loc Cert.AdamRestIdeal.main_arg70)
      ∧ m' ((c.tc : Thread Cert.AdamRestRefIdeal.nD Cert.AdamRestRefIdeal.τ).loc Cert.AdamRestRefIdeal.main_arg71) = m ((c.tc : Thread Cert.AdamRestIdeal.nD Cert.AdamRestIdeal.τ).loc Cert.AdamRestIdeal.main_arg71)
      ∧ m' ((c.tc : Thread Cert.AdamRestRefIdeal.nD Cert.AdamRestRefIdeal.τ).loc Cert.AdamRestRefIdeal.main_arg72) = m ((c.tc : Thread Cert.AdamRestIdeal.nD Cert.AdamRestIdeal.τ).loc Cert.AdamRestIdeal.main_arg72)
      ∧ m' ((c.tc : Thread Cert.AdamRestRefIdeal.nD Cert.AdamRestRefIdeal.τ).loc Cert.AdamRestRefIdeal.main_arg73) = m ((c.tc : Thread Cert.AdamRestIdeal.nD Cert.AdamRestIdeal.τ).loc Cert.AdamRestIdeal.main_arg73)
      ∧ m' ((c.tc : Thread Cert.AdamRestRefIdeal.nD Cert.AdamRestRefIdeal.τ).loc Cert.AdamRestRefIdeal.main_arg74) = m ((c.tc : Thread Cert.AdamRestIdeal.nD Cert.AdamRestIdeal.τ).loc Cert.AdamRestIdeal.main_arg74)
      ∧ m' ((c.tc : Thread Cert.AdamRestRefIdeal.nD Cert.AdamRestRefIdeal.τ).loc Cert.AdamRestRefIdeal.main_arg75) = m ((c.tc : Thread Cert.AdamRestIdeal.nD Cert.AdamRestIdeal.τ).loc Cert.AdamRestIdeal.main_arg75)
      ∧ m' ((c.tc : Thread Cert.AdamRestRefIdeal.nD Cert.AdamRestRefIdeal.τ).loc Cert.AdamRestRefIdeal.main_arg76) = m ((c.tc : Thread Cert.AdamRestIdeal.nD Cert.AdamRestIdeal.τ).loc Cert.AdamRestIdeal.main_arg76)
      ∧ m' ((c.tc : Thread Cert.AdamRestRefIdeal.nD Cert.AdamRestRefIdeal.τ).loc Cert.AdamRestRefIdeal.main_arg77) = m ((c.tc : Thread Cert.AdamRestIdeal.nD Cert.AdamRestIdeal.τ).loc Cert.AdamRestIdeal.main_arg77)
      ∧ m' ((c.tc : Thread Cert.AdamRestRefIdeal.nD Cert.AdamRestRefIdeal.τ).loc Cert.AdamRestRefIdeal.main_arg78) = m ((c.tc : Thread Cert.AdamRestIdeal.nD Cert.AdamRestIdeal.τ).loc Cert.AdamRestIdeal.main_arg78)
      ∧ m' ((c.tc : Thread Cert.AdamRestRefIdeal.nD Cert.AdamRestRefIdeal.τ).loc Cert.AdamRestRefIdeal.main_arg79) = m ((c.tc : Thread Cert.AdamRestIdeal.nD Cert.AdamRestIdeal.τ).loc Cert.AdamRestIdeal.main_arg79)
      ∧ m' ((c.tc : Thread Cert.AdamRestRefIdeal.nD Cert.AdamRestRefIdeal.τ).loc Cert.AdamRestRefIdeal.main_arg80) = m ((c.tc : Thread Cert.AdamRestIdeal.nD Cert.AdamRestIdeal.τ).loc Cert.AdamRestIdeal.main_arg80)
      ∧ m' ((c.tc : Thread Cert.AdamRestRefIdeal.nD Cert.AdamRestRefIdeal.τ).loc Cert.AdamRestRefIdeal.main_arg81) = m ((c.tc : Thread Cert.AdamRestIdeal.nD Cert.AdamRestIdeal.τ).loc Cert.AdamRestIdeal.main_arg81)
      ∧ m' ((c.tc : Thread Cert.AdamRestRefIdeal.nD Cert.AdamRestRefIdeal.τ).loc Cert.AdamRestRefIdeal.main_arg82) = m ((c.tc : Thread Cert.AdamRestIdeal.nD Cert.AdamRestIdeal.τ).loc Cert.AdamRestIdeal.main_arg82)
      ∧ m' ((c.tc : Thread Cert.AdamRestRefIdeal.nD Cert.AdamRestRefIdeal.τ).loc Cert.AdamRestRefIdeal.main_arg83) = m ((c.tc : Thread Cert.AdamRestIdeal.nD Cert.AdamRestIdeal.τ).loc Cert.AdamRestIdeal.main_arg83)
      ∧ m' ((c.tc : Thread Cert.AdamRestRefIdeal.nD Cert.AdamRestRefIdeal.τ).loc Cert.AdamRestRefIdeal.main_arg84) = m ((c.tc : Thread Cert.AdamRestIdeal.nD Cert.AdamRestIdeal.τ).loc Cert.AdamRestIdeal.main_arg84)
      ∧ m' ((c.tc : Thread Cert.AdamRestRefIdeal.nD Cert.AdamRestRefIdeal.τ).loc Cert.AdamRestRefIdeal.main_arg85) = m ((c.tc : Thread Cert.AdamRestIdeal.nD Cert.AdamRestIdeal.τ).loc Cert.AdamRestIdeal.main_arg85)
      ∧ m' ((c.tc : Thread Cert.AdamRestRefIdeal.nD Cert.AdamRestRefIdeal.τ).loc Cert.AdamRestRefIdeal.main_arg86) = m ((c.tc : Thread Cert.AdamRestIdeal.nD Cert.AdamRestIdeal.τ).loc Cert.AdamRestIdeal.main_arg86)
      ∧ m' ((c.tc : Thread Cert.AdamRestRefIdeal.nD Cert.AdamRestRefIdeal.τ).loc Cert.AdamRestRefIdeal.main_arg87) = m ((c.tc : Thread Cert.AdamRestIdeal.nD Cert.AdamRestIdeal.τ).loc Cert.AdamRestIdeal.main_arg87)
      ∧ m' ((c.tc : Thread Cert.AdamRestRefIdeal.nD Cert.AdamRestRefIdeal.τ).loc Cert.AdamRestRefIdeal.main_arg88) = m ((c.tc : Thread Cert.AdamRestIdeal.nD Cert.AdamRestIdeal.τ).loc Cert.AdamRestIdeal.main_arg88)
      ∧ m' ((c.tc : Thread Cert.AdamRestRefIdeal.nD Cert.AdamRestRefIdeal.τ).loc Cert.AdamRestRefIdeal.main_arg89) = m ((c.tc : Thread Cert.AdamRestIdeal.nD Cert.AdamRestIdeal.τ).loc Cert.AdamRestIdeal.main_arg89)
      ∧ m' ((c.tc : Thread Cert.AdamRestRefIdeal.nD Cert.AdamRestRefIdeal.τ).loc Cert.AdamRestRefIdeal.main_arg90) = m ((c.tc : Thread Cert.AdamRestIdeal.nD Cert.AdamRestIdeal.τ).loc Cert.AdamRestIdeal.main_arg90)
      ∧ m' ((c.tc : Thread Cert.AdamRestRefIdeal.nD Cert.AdamRestRefIdeal.τ).loc Cert.AdamRestRefIdeal.main_arg91) = m ((c.tc : Thread Cert.AdamRestIdeal.nD Cert.AdamRestIdeal.τ).loc Cert.AdamRestIdeal.main_arg91)
      ∧ m' ((c.tc : Thread Cert.AdamRestRefIdeal.nD Cert.AdamRestRefIdeal.τ).loc Cert.AdamRestRefIdeal.main_arg92) = m ((c.tc : Thread Cert.AdamRestIdeal.nD Cert.AdamRestIdeal.τ).loc Cert.AdamRestIdeal.main_arg92)
      ∧ m' ((c.tc : Thread Cert.AdamRestRefIdeal.nD Cert.AdamRestRefIdeal.τ).loc Cert.AdamRestRefIdeal.main_arg93) = m ((c.tc : Thread Cert.AdamRestIdeal.nD Cert.AdamRestIdeal.τ).loc Cert.AdamRestIdeal.main_arg93)
      ∧ m' ((c.tc : Thread Cert.AdamRestRefIdeal.nD Cert.AdamRestRefIdeal.τ).loc Cert.AdamRestRefIdeal.main_arg94) = m ((c.tc : Thread Cert.AdamRestIdeal.nD Cert.AdamRestIdeal.τ).loc Cert.AdamRestIdeal.main_arg94)
      ∧ m' ((c.tc : Thread Cert.AdamRestRefIdeal.nD Cert.AdamRestRefIdeal.τ).loc Cert.AdamRestRefIdeal.main_arg95) = m ((c.tc : Thread Cert.AdamRestIdeal.nD Cert.AdamRestIdeal.τ).loc Cert.AdamRestIdeal.main_arg95)
      ∧ m' ((c.tc : Thread Cert.AdamRestRefIdeal.nD Cert.AdamRestRefIdeal.τ).loc Cert.AdamRestRefIdeal.main_arg96) = m ((c.tc : Thread Cert.AdamRestIdeal.nD Cert.AdamRestIdeal.τ).loc Cert.AdamRestIdeal.main_arg96)
      ∧ m' ((c.tc : Thread Cert.AdamRestRefIdeal.nD Cert.AdamRestRefIdeal.τ).loc Cert.AdamRestRefIdeal.main_arg97) = m ((c.tc : Thread Cert.AdamRestIdeal.nD Cert.AdamRestIdeal.τ).loc Cert.AdamRestIdeal.main_arg97)
      ∧ m' ((c.tc : Thread Cert.AdamRestRefIdeal.nD Cert.AdamRestRefIdeal.τ).loc Cert.AdamRestRefIdeal.main_arg98) = m ((c.tc : Thread Cert.AdamRestIdeal.nD Cert.AdamRestIdeal.τ).loc Cert.AdamRestIdeal.main_arg98)
      ∧ m' ((c.tc : Thread Cert.AdamRestRefIdeal.nD Cert.AdamRestRefIdeal.τ).loc Cert.AdamRestRefIdeal.main_arg99) = m ((c.tc : Thread Cert.AdamRestIdeal.nD Cert.AdamRestIdeal.τ).loc Cert.AdamRestIdeal.main_arg99)) →
    ∃ (v0 : (c : Dev Cert.AdamRestIdeal.nD) → Buf (Elt Ideal) ((c.tc : Thread Cert.AdamRestIdeal.nD Cert.AdamRestIdeal.τ).loc Cert.AdamRestIdeal.main_v113_0)) (v1 : (c : Dev Cert.AdamRestIdeal.nD) → Buf (Elt Ideal) ((c.tc : Thread Cert.AdamRestIdeal.nD Cert.AdamRestIdeal.τ).loc Cert.AdamRestIdeal.main_v113_1)) (v2 : (c : Dev Cert.AdamRestIdeal.nD) → Buf (Elt Ideal) ((c.tc : Thread Cert.AdamRestIdeal.nD Cert.AdamRestIdeal.τ).loc Cert.AdamRestIdeal.main_v113_2)) (v3 : (c : Dev Cert.AdamRestIdeal.nD) → Buf (Elt Ideal) ((c.tc : Thread Cert.AdamRestIdeal.nD Cert.AdamRestIdeal.τ).loc Cert.AdamRestIdeal.main_v113_3)),
      θ_run (Cert.AdamRestIdeal.defs (F := Ideal)) (onTc (τ := Cert.AdamRestIdeal.τ) (Cert.AdamRestIdeal.main (F := Ideal))) ⟨m, fun _ => 0, g⟩ (fun r => ∀ c : Dev Cert.AdamRestIdeal.nD,
          r.2.mem ((c.tc : Thread Cert.AdamRestIdeal.nD Cert.AdamRestIdeal.τ).loc Cert.AdamRestIdeal.main_v113_0) = v0 c
          ∧ r.2.mem ((c.tc : Thread Cert.AdamRestIdeal.nD Cert.AdamRestIdeal.τ).loc Cert.AdamRestIdeal.main_v113_1) = v1 c
          ∧ r.2.mem ((c.tc : Thread Cert.AdamRestIdeal.nD Cert.AdamRestIdeal.τ).loc Cert.AdamRestIdeal.main_v113_2) = v2 c
          ∧ r.2.mem ((c.tc : Thread Cert.AdamRestIdeal.nD Cert.AdamRestIdeal.τ).loc Cert.AdamRestIdeal.main_v113_3) = v3 c
          ∧ r.2.mem ((c.tc : Thread Cert.AdamRestIdeal.nD Cert.AdamRestIdeal.τ).loc Cert.AdamRestIdeal.main_arg0) = m ((c.tc : Thread Cert.AdamRestIdeal.nD Cert.AdamRestIdeal.τ).loc Cert.AdamRestIdeal.main_arg0)
          ∧ r.2.mem ((c.tc : Thread Cert.AdamRestIdeal.nD Cert.AdamRestIdeal.τ).loc Cert.AdamRestIdeal.main_arg1) = m ((c.tc : Thread Cert.AdamRestIdeal.nD Cert.AdamRestIdeal.τ).loc Cert.AdamRestIdeal.main_arg1)
          ∧ r.2.mem ((c.tc : Thread Cert.AdamRestIdeal.nD Cert.AdamRestIdeal.τ).loc Cert.AdamRestIdeal.main_arg2) = m ((c.tc : Thread Cert.AdamRestIdeal.nD Cert.AdamRestIdeal.τ).loc Cert.AdamRestIdeal.main_arg2)
          ∧ r.2.mem ((c.tc : Thread Cert.AdamRestIdeal.nD Cert.AdamRestIdeal.τ).loc Cert.AdamRestIdeal.main_arg3) = m ((c.tc : Thread Cert.AdamRestIdeal.nD Cert.AdamRestIdeal.τ).loc Cert.AdamRestIdeal.main_arg3)
          ∧ r.2.mem ((c.tc : Thread Cert.AdamRestIdeal.nD Cert.AdamRestIdeal.τ).loc Cert.AdamRestIdeal.main_arg4) = m ((c.tc : Thread Cert.AdamRestIdeal.nD Cert.AdamRestIdeal.τ).loc Cert.AdamRestIdeal.main_arg4)
          ∧ r.2.mem ((c.tc : Thread Cert.AdamRestIdeal.nD Cert.AdamRestIdeal.τ).loc Cert.AdamRestIdeal.main_arg5) = m ((c.tc : Thread Cert.AdamRestIdeal.nD Cert.AdamRestIdeal.τ).loc Cert.AdamRestIdeal.main_arg5)
          ∧ r.2.mem ((c.tc : Thread Cert.AdamRestIdeal.nD Cert.AdamRestIdeal.τ).loc Cert.AdamRestIdeal.main_arg6) = m ((c.tc : Thread Cert.AdamRestIdeal.nD Cert.AdamRestIdeal.τ).loc Cert.AdamRestIdeal.main_arg6)
          ∧ r.2.mem ((c.tc : Thread Cert.AdamRestIdeal.nD Cert.AdamRestIdeal.τ).loc Cert.AdamRestIdeal.main_arg7) = m ((c.tc : Thread Cert.AdamRestIdeal.nD Cert.AdamRestIdeal.τ).loc Cert.AdamRestIdeal.main_arg7)
          ∧ r.2.mem ((c.tc : Thread Cert.AdamRestIdeal.nD Cert.AdamRestIdeal.τ).loc Cert.AdamRestIdeal.main_arg8) = m ((c.tc : Thread Cert.AdamRestIdeal.nD Cert.AdamRestIdeal.τ).loc Cert.AdamRestIdeal.main_arg8)
          ∧ r.2.mem ((c.tc : Thread Cert.AdamRestIdeal.nD Cert.AdamRestIdeal.τ).loc Cert.AdamRestIdeal.main_arg9) = m ((c.tc : Thread Cert.AdamRestIdeal.nD Cert.AdamRestIdeal.τ).loc Cert.AdamRestIdeal.main_arg9)
          ∧ r.2.mem ((c.tc : Thread Cert.AdamRestIdeal.nD Cert.AdamRestIdeal.τ).loc Cert.AdamRestIdeal.main_arg10) = m ((c.tc : Thread Cert.AdamRestIdeal.nD Cert.AdamRestIdeal.τ).loc Cert.AdamRestIdeal.main_arg10)
          ∧ r.2.mem ((c.tc : Thread Cert.AdamRestIdeal.nD Cert.AdamRestIdeal.τ).loc Cert.AdamRestIdeal.main_arg11) = m ((c.tc : Thread Cert.AdamRestIdeal.nD Cert.AdamRestIdeal.τ).loc Cert.AdamRestIdeal.main_arg11)
          ∧ r.2.mem ((c.tc : Thread Cert.AdamRestIdeal.nD Cert.AdamRestIdeal.τ).loc Cert.AdamRestIdeal.main_arg12) = m ((c.tc : Thread Cert.AdamRestIdeal.nD Cert.AdamRestIdeal.τ).loc Cert.AdamRestIdeal.main_arg12)
          ∧ r.2.mem ((c.tc : Thread Cert.AdamRestIdeal.nD Cert.AdamRestIdeal.τ).loc Cert.AdamRestIdeal.main_arg13) = m ((c.tc : Thread Cert.AdamRestIdeal.nD Cert.AdamRestIdeal.τ).loc Cert.AdamRestIdeal.main_arg13)
          ∧ r.2.mem ((c.tc : Thread Cert.AdamRestIdeal.nD Cert.AdamRestIdeal.τ).loc Cert.AdamRestIdeal.main_arg14) = m ((c.tc : Thread Cert.AdamRestIdeal.nD Cert.AdamRestIdeal.τ).loc Cert.AdamRestIdeal.main_arg14)
          ∧ r.2.mem ((c.tc : Thread Cert.AdamRestIdeal.nD Cert.AdamRestIdeal.τ).loc Cert.AdamRestIdeal.main_arg15) = m ((c.tc : Thread Cert.AdamRestIdeal.nD Cert.AdamRestIdeal.τ).loc Cert.AdamRestIdeal.main_arg15)
          ∧ r.2.mem ((c.tc : Thread Cert.AdamRestIdeal.nD Cert.AdamRestIdeal.τ).loc Cert.AdamRestIdeal.main_arg16) = m ((c.tc : Thread Cert.AdamRestIdeal.nD Cert.AdamRestIdeal.τ).loc Cert.AdamRestIdeal.main_arg16)
          ∧ r.2.mem ((c.tc : Thread Cert.AdamRestIdeal.nD Cert.AdamRestIdeal.τ).loc Cert.AdamRestIdeal.main_arg17) = m ((c.tc : Thread Cert.AdamRestIdeal.nD Cert.AdamRestIdeal.τ).loc Cert.AdamRestIdeal.main_arg17)
          ∧ r.2.mem ((c.tc : Thread Cert.AdamRestIdeal.nD Cert.AdamRestIdeal.τ).loc Cert.AdamRestIdeal.main_arg18) = m ((c.tc : Thread Cert.AdamRestIdeal.nD Cert.AdamRestIdeal.τ).loc Cert.AdamRestIdeal.main_arg18)
          ∧ r.2.mem ((c.tc : Thread Cert.AdamRestIdeal.nD Cert.AdamRestIdeal.τ).loc Cert.AdamRestIdeal.main_arg19) = m ((c.tc : Thread Cert.AdamRestIdeal.nD Cert.AdamRestIdeal.τ).loc Cert.AdamRestIdeal.main_arg19)
          ∧ r.2.mem ((c.tc : Thread Cert.AdamRestIdeal.nD Cert.AdamRestIdeal.τ).loc Cert.AdamRestIdeal.main_arg20) = m ((c.tc : Thread Cert.AdamRestIdeal.nD Cert.AdamRestIdeal.τ).loc Cert.AdamRestIdeal.main_arg20)
          ∧ r.2.mem ((c.tc : Thread Cert.AdamRestIdeal.nD Cert.AdamRestIdeal.τ).loc Cert.AdamRestIdeal.main_arg21) = m ((c.tc : Thread Cert.AdamRestIdeal.nD Cert.AdamRestIdeal.τ).loc Cert.AdamRestIdeal.main_arg21)
          ∧ r.2.mem ((c.tc : Thread Cert.AdamRestIdeal.nD Cert.AdamRestIdeal.τ).loc Cert.AdamRestIdeal.main_arg22) = m ((c.tc : Thread Cert.AdamRestIdeal.nD Cert.AdamRestIdeal.τ).loc Cert.AdamRestIdeal.main_arg22)
          ∧ r.2.mem ((c.tc : Thread Cert.AdamRestIdeal.nD Cert.AdamRestIdeal.τ).loc Cert.AdamRestIdeal.main_arg23) = m ((c.tc : Thread Cert.AdamRestIdeal.nD Cert.AdamRestIdeal.τ).loc Cert.AdamRestIdeal.main_arg23)
          ∧ r.2.mem ((c.tc : Thread Cert.AdamRestIdeal.nD Cert.AdamRestIdeal.τ).loc Cert.AdamRestIdeal.main_arg24) = m ((c.tc : Thread Cert.AdamRestIdeal.nD Cert.AdamRestIdeal.τ).loc Cert.AdamRestIdeal.main_arg24)
          ∧ r.2.mem ((c.tc : Thread Cert.AdamRestIdeal.nD Cert.AdamRestIdeal.τ).loc Cert.AdamRestIdeal.main_arg25) = m ((c.tc : Thread Cert.AdamRestIdeal.nD Cert.AdamRestIdeal.τ).loc Cert.AdamRestIdeal.main_arg25)
          ∧ r.2.mem ((c.tc : Thread Cert.AdamRestIdeal.nD Cert.AdamRestIdeal.τ).loc Cert.AdamRestIdeal.main_arg26) = m ((c.tc : Thread Cert.AdamRestIdeal.nD Cert.AdamRestIdeal.τ).loc Cert.AdamRestIdeal.main_arg26)
          ∧ r.2.mem ((c.tc : Thread Cert.AdamRestIdeal.nD Cert.AdamRestIdeal.τ).loc Cert.AdamRestIdeal.main_arg27) = m ((c.tc : Thread Cert.AdamRestIdeal.nD Cert.AdamRestIdeal.τ).loc Cert.AdamRestIdeal.main_arg27)
          ∧ r.2.mem ((c.tc : Thread Cert.AdamRestIdeal.nD Cert.AdamRestIdeal.τ).loc Cert.AdamRestIdeal.main_arg28) = m ((c.tc : Thread Cert.AdamRestIdeal.nD Cert.AdamRestIdeal.τ).loc Cert.AdamRestIdeal.main_arg28)
          ∧ r.2.mem ((c.tc : Thread Cert.AdamRestIdeal.nD Cert.AdamRestIdeal.τ).loc Cert.AdamRestIdeal.main_arg29) = m ((c.tc : Thread Cert.AdamRestIdeal.nD Cert.AdamRestIdeal.τ).loc Cert.AdamRestIdeal.main_arg29)
          ∧ r.2.mem ((c.tc : Thread Cert.AdamRestIdeal.nD Cert.AdamRestIdeal.τ).loc Cert.AdamRestIdeal.main_arg30) = m ((c.tc : Thread Cert.AdamRestIdeal.nD Cert.AdamRestIdeal.τ).loc Cert.AdamRestIdeal.main_arg30)
          ∧ r.2.mem ((c.tc : Thread Cert.AdamRestIdeal.nD Cert.AdamRestIdeal.τ).loc Cert.AdamRestIdeal.main_arg31) = m ((c.tc : Thread Cert.AdamRestIdeal.nD Cert.AdamRestIdeal.τ).loc Cert.AdamRestIdeal.main_arg31)
          ∧ r.2.mem ((c.tc : Thread Cert.AdamRestIdeal.nD Cert.AdamRestIdeal.τ).loc Cert.AdamRestIdeal.main_arg32) = m ((c.tc : Thread Cert.AdamRestIdeal.nD Cert.AdamRestIdeal.τ).loc Cert.AdamRestIdeal.main_arg32)
          ∧ r.2.mem ((c.tc : Thread Cert.AdamRestIdeal.nD Cert.AdamRestIdeal.τ).loc Cert.AdamRestIdeal.main_arg33) = m ((c.tc : Thread Cert.AdamRestIdeal.nD Cert.AdamRestIdeal.τ).loc Cert.AdamRestIdeal.main_arg33)
          ∧ r.2.mem ((c.tc : Thread Cert.AdamRestIdeal.nD Cert.AdamRestIdeal.τ).loc Cert.AdamRestIdeal.main_arg34) = m ((c.tc : Thread Cert.AdamRestIdeal.nD Cert.AdamRestIdeal.τ).loc Cert.AdamRestIdeal.main_arg34)
          ∧ r.2.mem ((c.tc : Thread Cert.AdamRestIdeal.nD Cert.AdamRestIdeal.τ).loc Cert.AdamRestIdeal.main_arg35) = m ((c.tc : Thread Cert.AdamRestIdeal.nD Cert.AdamRestIdeal.τ).loc Cert.AdamRestIdeal.main_arg35)
          ∧ r.2.mem ((c.tc : Thread Cert.AdamRestIdeal.nD Cert.AdamRestIdeal.τ).loc Cert.AdamRestIdeal.main_arg36) = m ((c.tc : Thread Cert.AdamRestIdeal.nD Cert.AdamRestIdeal.τ).loc Cert.AdamRestIdeal.main_arg36)
          ∧ r.2.mem ((c.tc : Thread Cert.AdamRestIdeal.nD Cert.AdamRestIdeal.τ).loc Cert.AdamRestIdeal.main_arg37) = m ((c.tc : Thread Cert.AdamRestIdeal.nD Cert.AdamRestIdeal.τ).loc Cert.AdamRestIdeal.main_arg37)
          ∧ r.2.mem ((c.tc : Thread Cert.AdamRestIdeal.nD Cert.AdamRestIdeal.τ).loc Cert.AdamRestIdeal.main_arg38) = m ((c.tc : Thread Cert.AdamRestIdeal.nD Cert.AdamRestIdeal.τ).loc Cert.AdamRestIdeal.main_arg38)
          ∧ r.2.mem ((c.tc : Thread Cert.AdamRestIdeal.nD Cert.AdamRestIdeal.τ).loc Cert.AdamRestIdeal.main_arg39) = m ((c.tc : Thread Cert.AdamRestIdeal.nD Cert.AdamRestIdeal.τ).loc Cert.AdamRestIdeal.main_arg39)
          ∧ r.2.mem ((c.tc : Thread Cert.AdamRestIdeal.nD Cert.AdamRestIdeal.τ).loc Cert.AdamRestIdeal.main_arg40) = m ((c.tc : Thread Cert.AdamRestIdeal.nD Cert.AdamRestIdeal.τ).loc Cert.AdamRestIdeal.main_arg40)
          ∧ r.2.mem ((c.tc : Thread Cert.AdamRestIdeal.nD Cert.AdamRestIdeal.τ).loc Cert.AdamRestIdeal.main_arg41) = m ((c.tc : Thread Cert.AdamRestIdeal.nD Cert.AdamRestIdeal.τ).loc Cert.AdamRestIdeal.main_arg41)
          ∧ r.2.mem ((c.tc : Thread Cert.AdamRestIdeal.nD Cert.AdamRestIdeal.τ).loc Cert.AdamRestIdeal.main_arg42) = m ((c.tc : Thread Cert.AdamRestIdeal.nD Cert.AdamRestIdeal.τ).loc Cert.AdamRestIdeal.main_arg42)
          ∧ r.2.mem ((c.tc : Thread Cert.AdamRestIdeal.nD Cert.AdamRestIdeal.τ).loc Cert.AdamRestIdeal.main_arg43) = m ((c.tc : Thread Cert.AdamRestIdeal.nD Cert.AdamRestIdeal.τ).loc Cert.AdamRestIdeal.main_arg43)
          ∧ r.2.mem ((c.tc : Thread Cert.AdamRestIdeal.nD Cert.AdamRestIdeal.τ).loc Cert.AdamRestIdeal.main_arg44) = m ((c.tc : Thread Cert.AdamRestIdeal.nD Cert.AdamRestIdeal.τ).loc Cert.AdamRestIdeal.main_arg44)
          ∧ r.2.mem ((c.tc : Thread Cert.AdamRestIdeal.nD Cert.AdamRestIdeal.τ).loc Cert.AdamRestIdeal.main_arg45) = m ((c.tc : Thread Cert.AdamRestIdeal.nD Cert.AdamRestIdeal.τ).loc Cert.AdamRestIdeal.main_arg45)
          ∧ r.2.mem ((c.tc : Thread Cert.AdamRestIdeal.nD Cert.AdamRestIdeal.τ).loc Cert.AdamRestIdeal.main_arg46) = m ((c.tc : Thread Cert.AdamRestIdeal.nD Cert.AdamRestIdeal.τ).loc Cert.AdamRestIdeal.main_arg46)
          ∧ r.2.mem ((c.tc : Thread Cert.AdamRestIdeal.nD Cert.AdamRestIdeal.τ).loc Cert.AdamRestIdeal.main_arg47) = m ((c.tc : Thread Cert.AdamRestIdeal.nD Cert.AdamRestIdeal.τ).loc Cert.AdamRestIdeal.main_arg47)
          ∧ r.2.mem ((c.tc : Thread Cert.AdamRestIdeal.nD Cert.AdamRestIdeal.τ).loc Cert.AdamRestIdeal.main_arg48) = m ((c.tc : Thread Cert.AdamRestIdeal.nD Cert.AdamRestIdeal.τ).loc Cert.AdamRestIdeal.main_arg48)
          ∧ r.2.mem ((c.tc : Thread Cert.AdamRestIdeal.nD Cert.AdamRestIdeal.τ).loc Cert.AdamRestIdeal.main_arg49) = m ((c.tc : Thread Cert.AdamRestIdeal.nD Cert.AdamRestIdeal.τ).loc Cert.AdamRestIdeal.main_arg49)
          ∧ r.2.mem ((c.tc : Thread Cert.AdamRestIdeal.nD Cert.AdamRestIdeal.τ).loc Cert.AdamRestIdeal.main_arg50) = m ((c.tc : Thread Cert.AdamRestIdeal.nD Cert.AdamRestIdeal.τ).loc Cert.AdamRestIdeal.main_arg50)
          ∧ r.2.mem ((c.tc : Thread Cert.AdamRestIdeal.nD Cert.AdamRestIdeal.τ).loc Cert.AdamRestIdeal.main_arg51) = m ((c.tc : Thread Cert.AdamRestIdeal.nD Cert.AdamRestIdeal.τ).loc Cert.AdamRestIdeal.main_arg51)
          ∧ r.2.mem ((c.tc : Thread Cert.AdamRestIdeal.nD Cert.AdamRestIdeal.τ).loc Cert.AdamRestIdeal.main_arg52) = m ((c.tc : Thread Cert.AdamRestIdeal.nD Cert.AdamRestIdeal.τ).loc Cert.AdamRestIdeal.main_arg52)
          ∧ r.2.mem ((c.tc : Thread Cert.AdamRestIdeal.nD Cert.AdamRestIdeal.τ).loc Cert.AdamRestIdeal.main_arg53) = m ((c.tc : Thread Cert.AdamRestIdeal.nD Cert.AdamRestIdeal.τ).loc Cert.AdamRestIdeal.main_arg53)
          ∧ r.2.mem ((c.tc : Thread Cert.AdamRestIdeal.nD Cert.AdamRestIdeal.τ).loc Cert.AdamRestIdeal.main_arg54) = m ((c.tc : Thread Cert.AdamRestIdeal.nD Cert.AdamRestIdeal.τ).loc Cert.AdamRestIdeal.main_arg54)
          ∧ r.2.mem ((c.tc : Thread Cert.AdamRestIdeal.nD Cert.AdamRestIdeal.τ).loc Cert.AdamRestIdeal.main_arg55) = m ((c.tc : Thread Cert.AdamRestIdeal.nD Cert.AdamRestIdeal.τ).loc Cert.AdamRestIdeal.main_arg55)
          ∧ r.2.mem ((c.tc : Thread Cert.AdamRestIdeal.nD Cert.AdamRestIdeal.τ).loc Cert.AdamRestIdeal.main_arg56) = m ((c.tc : Thread Cert.AdamRestIdeal.nD Cert.AdamRestIdeal.τ).loc Cert.AdamRestIdeal.main_arg56)
          ∧ r.2.mem ((c.tc : Thread Cert.AdamRestIdeal.nD Cert.AdamRestIdeal.τ).loc Cert.AdamRestIdeal.main_arg57) = m ((c.tc : Thread Cert.AdamRestIdeal.nD Cert.AdamRestIdeal.τ).loc Cert.AdamRestIdeal.main_arg57)
          ∧ r.2.mem ((c.tc : Thread Cert.AdamRestIdeal.nD Cert.AdamRestIdeal.τ).loc Cert.AdamRestIdeal.main_arg58) = m ((c.tc : Thread Cert.AdamRestIdeal.nD Cert.AdamRestIdeal.τ).loc Cert.AdamRestIdeal.main_arg58)
          ∧ r.2.mem ((c.tc : Thread Cert.AdamRestIdeal.nD Cert.AdamRestIdeal.τ).loc Cert.AdamRestIdeal.main_arg59) = m ((c.tc : Thread Cert.AdamRestIdeal.nD Cert.AdamRestIdeal.τ).loc Cert.AdamRestIdeal.main_arg59)
          ∧ r.2.mem ((c.tc : Thread Cert.AdamRestIdeal.nD Cert.AdamRestIdeal.τ).loc Cert.AdamRestIdeal.main_arg60) = m ((c.tc : Thread Cert.AdamRestIdeal.nD Cert.AdamRestIdeal.τ).loc Cert.AdamRestIdeal.main_arg60)
          ∧ r.2.mem ((c.tc : Thread Cert.AdamRestIdeal.nD Cert.AdamRestIdeal.τ).loc Cert.AdamRestIdeal.main_arg61) = m ((c.tc : Thread Cert.AdamRestIdeal.nD Cert.AdamRestIdeal.τ).loc Cert.AdamRestIdeal.main_arg61)
          ∧ r.2.mem ((c.tc : Thread Cert.AdamRestIdeal.nD Cert.AdamRestIdeal.τ).loc Cert.AdamRestIdeal.main_arg62) = m ((c.tc : Thread Cert.AdamRestIdeal.nD Cert.AdamRestIdeal.τ).loc Cert.AdamRestIdeal.main_arg62)
          ∧ r.2.mem ((c.tc : Thread Cert.AdamRestIdeal.nD Cert.AdamRestIdeal.τ).loc Cert.AdamRestIdeal.main_arg63) = m ((c.tc : Thread Cert.AdamRestIdeal.nD Cert.AdamRestIdeal.τ).loc Cert.AdamRestIdeal.main_arg63)
          ∧ r.2.mem ((c.tc : Thread Cert.AdamRestIdeal.nD Cert.AdamRestIdeal.τ).loc Cert.AdamRestIdeal.main_arg64) = m ((c.tc : Thread Cert.AdamRestIdeal.nD Cert.AdamRestIdeal.τ).loc Cert.AdamRestIdeal.main_arg64)
          ∧ r.2.mem ((c.tc : Thread Cert.AdamRestIdeal.nD Cert.AdamRestIdeal.τ).loc Cert.AdamRestIdeal.main_arg65) = m ((c.tc : Thread Cert.AdamRestIdeal.nD Cert.AdamRestIdeal.τ).loc Cert.AdamRestIdeal.main_arg65)
          ∧ r.2.mem ((c.tc : Thread Cert.AdamRestIdeal.nD Cert.AdamRestIdeal.τ).loc Cert.AdamRestIdeal.main_arg66) = m ((c.tc : Thread Cert.AdamRestIdeal.nD Cert.AdamRestIdeal.τ).loc Cert.AdamRestIdeal.main_arg66)
          ∧ r.2.mem ((c.tc : Thread Cert.AdamRestIdeal.nD Cert.AdamRestIdeal.τ).loc Cert.AdamRestIdeal.main_arg67) = m ((c.tc : Thread Cert.AdamRestIdeal.nD Cert.AdamRestIdeal.τ).loc Cert.AdamRestIdeal.main_arg67)
          ∧ r.2.mem ((c.tc : Thread Cert.AdamRestIdeal.nD Cert.AdamRestIdeal.τ).loc Cert.AdamRestIdeal.main_arg68) = m ((c.tc : Thread Cert.AdamRestIdeal.nD Cert.AdamRestIdeal.τ).loc Cert.AdamRestIdeal.main_arg68)
          ∧ r.2.mem ((c.tc : Thread Cert.AdamRestIdeal.nD Cert.AdamRestIdeal.τ).loc Cert.AdamRestIdeal.main_arg69) = m ((c.tc : Thread Cert.AdamRestIdeal.nD Cert.AdamRestIdeal.τ).loc Cert.AdamRestIdeal.main_arg69)
          ∧ r.2.mem ((c.tc : Thread Cert.AdamRestIdeal.nD Cert.AdamRestIdeal.τ).loc Cert.AdamRestIdeal.main_arg70) = m ((c.tc : Thread Cert.AdamRestIdeal.nD Cert.AdamRestIdeal.τ).loc Cert.AdamRestIdeal.main_arg70)
          ∧ r.2.mem ((c.tc : Thread Cert.AdamRestIdeal.nD Cert.AdamRestIdeal.τ).loc Cert.AdamRestIdeal.main_arg71) = m ((c.tc : Thread Cert.AdamRestIdeal.nD Cert.AdamRestIdeal.τ).loc Cert.AdamRestIdeal.main_arg71)
          ∧ r.2.mem ((c.tc : Thread Cert.AdamRestIdeal.nD Cert.AdamRestIdeal.τ).loc Cert.AdamRestIdeal.main_arg72) = m ((c.tc : Thread Cert.AdamRestIdeal.nD Cert.AdamRestIdeal.τ).loc Cert.AdamRestIdeal.main_arg72)
          ∧ r.2.mem ((c.tc : Thread Cert.AdamRestIdeal.nD Cert.AdamRestIdeal.τ).loc Cert.AdamRestIdeal.main_arg73) = m ((c.tc : Thread Cert.AdamRestIdeal.nD Cert.AdamRestIdeal.τ).loc Cert.AdamRestIdeal.main_arg73)
          ∧ r.2.mem ((c.tc : Thread Cert.AdamRestIdeal.nD Cert.AdamRestIdeal.τ).loc Cert.AdamRestIdeal.main_arg74) = m ((c.tc : Thread Cert.AdamRestIdeal.nD Cert.AdamRestIdeal.τ).loc Cert.AdamRestIdeal.main_arg74)
          ∧ r.2.mem ((c.tc : Thread Cert.AdamRestIdeal.nD Cert.AdamRestIdeal.τ).loc Cert.AdamRestIdeal.main_arg75) = m ((c.tc : Thread Cert.AdamRestIdeal.nD Cert.AdamRestIdeal.τ).loc Cert.AdamRestIdeal.main_arg75)
          ∧ r.2.mem ((c.tc : Thread Cert.AdamRestIdeal.nD Cert.AdamRestIdeal.τ).loc Cert.AdamRestIdeal.main_arg76) = m ((c.tc : Thread Cert.AdamRestIdeal.nD Cert.AdamRestIdeal.τ).loc Cert.AdamRestIdeal.main_arg76)
          ∧ r.2.mem ((c.tc : Thread Cert.AdamRestIdeal.nD Cert.AdamRestIdeal.τ).loc Cert.AdamRestIdeal.main_arg77) = m ((c.tc : Thread Cert.AdamRestIdeal.nD Cert.AdamRestIdeal.τ).loc Cert.AdamRestIdeal.main_arg77)
          ∧ r.2.mem ((c.tc : Thread Cert.AdamRestIdeal.nD Cert.AdamRestIdeal.τ).loc Cert.AdamRestIdeal.main_arg78) = m ((c.tc : Thread Cert.AdamRestIdeal.nD Cert.AdamRestIdeal.τ).loc Cert.AdamRestIdeal.main_arg78)
          ∧ r.2.mem ((c.tc : Thread Cert.AdamRestIdeal.nD Cert.AdamRestIdeal.τ).loc Cert.AdamRestIdeal.main_arg79) = m ((c.tc : Thread Cert.AdamRestIdeal.nD Cert.AdamRestIdeal.τ).loc Cert.AdamRestIdeal.main_arg79)
          ∧ r.2.mem ((c.tc : Thread Cert.AdamRestIdeal.nD Cert.AdamRestIdeal.τ).loc Cert.AdamRestIdeal.main_arg80) = m ((c.tc : Thread Cert.AdamRestIdeal.nD Cert.AdamRestIdeal.τ).loc Cert.AdamRestIdeal.main_arg80)
          ∧ r.2.mem ((c.tc : Thread Cert.AdamRestIdeal.nD Cert.AdamRestIdeal.τ).loc Cert.AdamRestIdeal.main_arg81) = m ((c.tc : Thread Cert.AdamRestIdeal.nD Cert.AdamRestIdeal.τ).loc Cert.AdamRestIdeal.main_arg81)
          ∧ r.2.mem ((c.tc : Thread Cert.AdamRestIdeal.nD Cert.AdamRestIdeal.τ).loc Cert.AdamRestIdeal.main_arg82) = m ((c.tc : Thread Cert.AdamRestIdeal.nD Cert.AdamRestIdeal.τ).loc Cert.AdamRestIdeal.main_arg82)
          ∧ r.2.mem ((c.tc : Thread Cert.AdamRestIdeal.nD Cert.AdamRestIdeal.τ).loc Cert.AdamRestIdeal.main_arg83) = m ((c.tc : Thread Cert.AdamRestIdeal.nD Cert.AdamRestIdeal.τ).loc Cert.AdamRestIdeal.main_arg83)
          ∧ r.2.mem ((c.tc : Thread Cert.AdamRestIdeal.nD Cert.AdamRestIdeal.τ).loc Cert.AdamRestIdeal.main_arg84) = m ((c.tc : Thread Cert.AdamRestIdeal.nD Cert.AdamRestIdeal.τ).loc Cert.AdamRestIdeal.main_arg84)
          ∧ r.2.mem ((c.tc : Thread Cert.AdamRestIdeal.nD Cert.AdamRestIdeal.τ).loc Cert.AdamRestIdeal.main_arg85) = m ((c.tc : Thread Cert.AdamRestIdeal.nD Cert.AdamRestIdeal.τ).loc Cert.AdamRestIdeal.main_arg85)
          ∧ r.2.mem ((c.tc : Thread Cert.AdamRestIdeal.nD Cert.AdamRestIdeal.τ).loc Cert.AdamRestIdeal.main_arg86) = m ((c.tc : Thread Cert.AdamRestIdeal.nD Cert.AdamRestIdeal.τ).loc Cert.AdamRestIdeal.main_arg86)
          ∧ r.2.mem ((c.tc : Thread Cert.AdamRestIdeal.nD Cert.AdamRestIdeal.τ).loc Cert.AdamRestIdeal.main_arg87) = m ((c.tc : Thread Cert.AdamRestIdeal.nD Cert.AdamRestIdeal.τ).loc Cert.AdamRestIdeal.main_arg87)
          ∧ r.2.mem ((c.tc : Thread Cert.AdamRestIdeal.nD Cert.AdamRestIdeal.τ).loc Cert.AdamRestIdeal.main_arg88) = m ((c.tc : Thread Cert.AdamRestIdeal.nD Cert.AdamRestIdeal.τ).loc Cert.AdamRestIdeal.main_arg88)
          ∧ r.2.mem ((c.tc : Thread Cert.AdamRestIdeal.nD Cert.AdamRestIdeal.τ).loc Cert.AdamRestIdeal.main_arg89) = m ((c.tc : Thread Cert.AdamRestIdeal.nD Cert.AdamRestIdeal.τ).loc Cert.AdamRestIdeal.main_arg89)
          ∧ r.2.mem ((c.tc : Thread Cert.AdamRestIdeal.nD Cert.AdamRestIdeal.τ).loc Cert.AdamRestIdeal.main_arg90) = m ((c.tc : Thread Cert.AdamRestIdeal.nD Cert.AdamRestIdeal.τ).loc Cert.AdamRestIdeal.main_arg90)
          ∧ r.2.mem ((c.tc : Thread Cert.AdamRestIdeal.nD Cert.AdamRestIdeal.τ).loc Cert.AdamRestIdeal.main_arg91) = m ((c.tc : Thread Cert.AdamRestIdeal.nD Cert.AdamRestIdeal.τ).loc Cert.AdamRestIdeal.main_arg91)
          ∧ r.2.mem ((c.tc : Thread Cert.AdamRestIdeal.nD Cert.AdamRestIdeal.τ).loc Cert.AdamRestIdeal.main_arg92) = m ((c.tc : Thread Cert.AdamRestIdeal.nD Cert.AdamRestIdeal.τ).loc Cert.AdamRestIdeal.main_arg92)
          ∧ r.2.mem ((c.tc : Thread Cert.AdamRestIdeal.nD Cert.AdamRestIdeal.τ).loc Cert.AdamRestIdeal.main_arg93) = m ((c.tc : Thread Cert.AdamRestIdeal.nD Cert.AdamRestIdeal.τ).loc Cert.AdamRestIdeal.main_arg93)
          ∧ r.2.mem ((c.tc : Thread Cert.AdamRestIdeal.nD Cert.AdamRestIdeal.τ).loc Cert.AdamRestIdeal.main_arg94) = m ((c.tc : Thread Cert.AdamRestIdeal.nD Cert.AdamRestIdeal.τ).loc Cert.AdamRestIdeal.main_arg94)
          ∧ r.2.mem ((c.tc : Thread Cert.AdamRestIdeal.nD Cert.AdamRestIdeal.τ).loc Cert.AdamRestIdeal.main_arg95) = m ((c.tc : Thread Cert.AdamRestIdeal.nD Cert.AdamRestIdeal.τ).loc Cert.AdamRestIdeal.main_arg95)
          ∧ r.2.mem ((c.tc : Thread Cert.AdamRestIdeal.nD Cert.AdamRestIdeal.τ).loc Cert.AdamRestIdeal.main_arg96) = m ((c.tc : Thread Cert.AdamRestIdeal.nD Cert.AdamRestIdeal.τ).loc Cert.AdamRestIdeal.main_arg96)
          ∧ r.2.mem ((c.tc : Thread Cert.AdamRestIdeal.nD Cert.AdamRestIdeal.τ).loc Cert.AdamRestIdeal.main_arg97) = m ((c.tc : Thread Cert.AdamRestIdeal.nD Cert.AdamRestIdeal.τ).loc Cert.AdamRestIdeal.main_arg97)
          ∧ r.2.mem ((c.tc : Thread Cert.AdamRestIdeal.nD Cert.AdamRestIdeal.τ).loc Cert.AdamRestIdeal.main_arg98) = m ((c.tc : Thread Cert.AdamRestIdeal.nD Cert.AdamRestIdeal.τ).loc Cert.AdamRestIdeal.main_arg98)
          ∧ r.2.mem ((c.tc : Thread Cert.AdamRestIdeal.nD Cert.AdamRestIdeal.τ).loc Cert.AdamRestIdeal.main_arg99) = m ((c.tc : Thread Cert.AdamRestIdeal.nD Cert.AdamRestIdeal.τ).loc Cert.AdamRestIdeal.main_arg99))
      ∧ θ_run (Cert.AdamRestRefIdeal.defs (F := Ideal)) (onTc (τ := Cert.AdamRestRefIdeal.τ) (Cert.AdamRestRefIdeal.main (F := Ideal))) ⟨m', fun _ => 0, g'⟩ (fun r => ∀ c : Dev Cert.AdamRestRefIdeal.nD,
          r.2.mem ((c.tc : Thread Cert.AdamRestRefIdeal.nD Cert.AdamRestRefIdeal.τ).loc Cert.AdamRestRefIdeal.main_v627) = v0 c
          ∧ r.2.mem ((c.tc : Thread Cert.AdamRestRefIdeal.nD Cert.AdamRestRefIdeal.τ).loc Cert.AdamRestRefIdeal.main_v655) = v1 c
          ∧ r.2.mem ((c.tc : Thread Cert.AdamRestRefIdeal.nD Cert.AdamRestRefIdeal.τ).loc Cert.AdamRestRefIdeal.main_v683) = v2 c
          ∧ r.2.mem ((c.tc : Thread Cert.AdamRestRefIdeal.nD Cert.AdamRestRefIdeal.τ).loc Cert.AdamRestRefIdeal.main_v711) = v3 c
          ∧ r.2.mem ((c.tc : Thread Cert.AdamRestRefIdeal.nD Cert.AdamRestRefIdeal.τ).loc Cert.AdamRestRefIdeal.main_arg0) = m' ((c.tc : Thread Cert.AdamRestRefIdeal.nD Cert.AdamRestRefIdeal.τ).loc Cert.AdamRestRefIdeal.main_arg0)
          ∧ r.2.mem ((c.tc : Thread Cert.AdamRestRefIdeal.nD Cert.AdamRestRefIdeal.τ).loc Cert.AdamRestRefIdeal.main_arg1) = m' ((c.tc : Thread Cert.AdamRestRefIdeal.nD Cert.AdamRestRefIdeal.τ).loc Cert.AdamRestRefIdeal.main_arg1)
          ∧ r.2.mem ((c.tc : Thread Cert.AdamRestRefIdeal.nD Cert.AdamRestRefIdeal.τ).loc Cert.AdamRestRefIdeal.main_arg2) = m' ((c.tc : Thread Cert.AdamRestRefIdeal.nD Cert.AdamRestRefIdeal.τ).loc Cert.AdamRestRefIdeal.main_arg2)
          ∧ r.2.mem ((c.tc : Thread Cert.AdamRestRefIdeal.nD Cert.AdamRestRefIdeal.τ).loc Cert.AdamRestRefIdeal.main_arg3) = m' ((c.tc : Thread Cert.AdamRestRefIdeal.nD Cert.AdamRestRefIdeal.τ).loc Cert.AdamRestRefIdeal.main_arg3)
          ∧ r.2.mem ((c.tc : Thread Cert.AdamRestRefIdeal.nD Cert.AdamRestRefIdeal.τ).loc Cert.AdamRestRefIdeal.main_arg4) = m' ((c.tc : Thread Cert.AdamRestRefIdeal.nD Cert.AdamRestRefIdeal.τ).loc Cert.AdamRestRefIdeal.main_arg4)
          ∧ r.2.mem ((c.tc : Thread Cert.AdamRestRefIdeal.nD Cert.AdamRestRefIdeal.τ).loc Cert.AdamRestRefIdeal.main_arg5) = m' ((c.tc : Thread Cert.AdamRestRefIdeal.nD Cert.AdamRestRefIdeal.τ).loc Cert.AdamRestRefIdeal.main_arg5)
          ∧ r.2.mem ((c.tc : Thread Cert.AdamRestRefIdeal.nD Cert.AdamRestRefIdeal.τ).loc Cert.AdamRestRefIdeal.main_arg6) = m' ((c.tc : Thread Cert.AdamRestRefIdeal.nD Cert.AdamRestRefIdeal.τ).loc Cert.AdamRestRefIdeal.main_arg6)
          ∧ r.2.mem ((c.tc : Thread Cert.AdamRestRefIdeal.nD Cert.AdamRestRefIdeal.τ).loc Cert.AdamRestRefIdeal.main_arg7) = m' ((c.tc : Thread Cert.AdamRestRefIdeal.nD Cert.AdamRestRefIdeal.τ).loc Cert.AdamRestRefIdeal.main_arg7)
          ∧ r.2.mem ((c.tc : Thread Cert.AdamRestRefIdeal.nD Cert.AdamRestRefIdeal.τ).loc Cert.AdamRestRefIdeal.main_arg8) = m' ((c.tc : Thread Cert.AdamRestRefIdeal.nD Cert.AdamRestRefIdeal.τ).loc Cert.AdamRestRefIdeal.main_arg8)
          ∧ r.2.mem ((c.tc : Thread Cert.AdamRestRefIdeal.nD Cert.AdamRestRefIdeal.τ).loc Cert.AdamRestRefIdeal.main_arg9) = m' ((c.tc : Thread Cert.AdamRestRefIdeal.nD Cert.AdamRestRefIdeal.τ).loc Cert.AdamRestRefIdeal.main_arg9)
          ∧ r.2.mem ((c.tc : Thread Cert.AdamRestRefIdeal.nD Cert.AdamRestRefIdeal.τ).loc Cert.AdamRestRefIdeal.main_arg10) = m' ((c.tc : Thread Cert.AdamRestRefIdeal.nD Cert.AdamRestRefIdeal.τ).loc Cert.AdamRestRefIdeal.main_arg10)
          ∧ r.2.mem ((c.tc : Thread Cert.AdamRestRefIdeal.nD Cert.AdamRestRefIdeal.τ).loc Cert.AdamRestRefIdeal.main_arg11) = m' ((c.tc : Thread Cert.AdamRestRefIdeal.nD Cert.AdamRestRefIdeal.τ).loc Cert.AdamRestRefIdeal.main_arg11)
          ∧ r.2.mem ((c.tc : Thread Cert.AdamRestRefIdeal.nD Cert.AdamRestRefIdeal.τ).loc Cert.AdamRestRefIdeal.main_arg12) = m' ((c.tc : Thread Cert.AdamRestRefIdeal.nD Cert.AdamRestRefIdeal.τ).loc Cert.AdamRestRefIdeal.main_arg12)
          ∧ r.2.mem ((c.tc : Thread Cert.AdamRestRefIdeal.nD Cert.AdamRestRefIdeal.τ).loc Cert.AdamRestRefIdeal.main_arg13) = m' ((c.tc : Thread Cert.AdamRestRefIdeal.nD Cert.AdamRestRefIdeal.τ).loc Cert.AdamRestRefIdeal.main_arg13)
          ∧ r.2.mem ((c.tc : Thread Cert.AdamRestRefIdeal.nD Cert.AdamRestRefIdeal.τ).loc Cert.AdamRestRefIdeal.main_arg14) = m' ((c.tc : Thread Cert.AdamRestRefIdeal.nD Cert.AdamRestRefIdeal.τ).loc Cert.AdamRestRefIdeal.main_arg14)
          ∧ r.2.mem ((c.tc : Thread Cert.AdamRestRefIdeal.nD Cert.AdamRestRefIdeal.τ).loc Cert.AdamRestRefIdeal.main_arg15) = m' ((c.tc : Thread Cert.AdamRestRefIdeal.nD Cert.AdamRestRefIdeal.τ).loc Cert.AdamRestRefIdeal.main_arg15)
          ∧ r.2.mem ((c.tc : Thread Cert.AdamRestRefIdeal.nD Cert.AdamRestRefIdeal.τ).loc Cert.AdamRestRefIdeal.main_arg16) = m' ((c.tc : Thread Cert.AdamRestRefIdeal.nD Cert.AdamRestRefIdeal.τ).loc Cert.AdamRestRefIdeal.main_arg16)
          ∧ r.2.mem ((c.tc : Thread Cert.AdamRestRefIdeal.nD Cert.AdamRestRefIdeal.τ).loc Cert.AdamRestRefIdeal.main_arg17) = m' ((c.tc : Thread Cert.AdamRestRefIdeal.nD Cert.AdamRestRefIdeal.τ).loc Cert.AdamRestRefIdeal.main_arg17)
          ∧ r.2.mem ((c.tc : Thread Cert.AdamRestRefIdeal.nD Cert.AdamRestRefIdeal.τ).loc Cert.AdamRestRefIdeal.main_arg18) = m' ((c.tc : Thread Cert.AdamRestRefIdeal.nD Cert.AdamRestRefIdeal.τ).loc Cert.AdamRestRefIdeal.main_arg18)
          ∧ r.2.mem ((c.tc : Thread Cert.AdamRestRefIdeal.nD Cert.AdamRestRefIdeal.τ).loc Cert.AdamRestRefIdeal.main_arg19) = m' ((c.tc : Thread Cert.AdamRestRefIdeal.nD Cert.AdamRestRefIdeal.τ).loc Cert.AdamRestRefIdeal.main_arg19)
          ∧ r.2.mem ((c.tc : Thread Cert.AdamRestRefIdeal.nD Cert.AdamRestRefIdeal.τ).loc Cert.AdamRestRefIdeal.main_arg20) = m' ((c.tc : Thread Cert.AdamRestRefIdeal.nD Cert.AdamRestRefIdeal.τ).loc Cert.AdamRestRefIdeal.main_arg20)
          ∧ r.2.mem ((c.tc : Thread Cert.AdamRestRefIdeal.nD Cert.AdamRestRefIdeal.τ).loc Cert.AdamRestRefIdeal.main_arg21) = m' ((c.tc : Thread Cert.AdamRestRefIdeal.nD Cert.AdamRestRefIdeal.τ).loc Cert.AdamRestRefIdeal.main_arg21)
          ∧ r.2.mem ((c.tc : Thread Cert.AdamRestRefIdeal.nD Cert.AdamRestRefIdeal.τ).loc Cert.AdamRestRefIdeal.main_arg22) = m' ((c.tc : Thread Cert.AdamRestRefIdeal.nD Cert.AdamRestRefIdeal.τ).loc Cert.AdamRestRefIdeal.main_arg22)
          ∧ r.2.mem ((c.tc : Thread Cert.AdamRestRefIdeal.nD Cert.AdamRestRefIdeal.τ).loc Cert.AdamRestRefIdeal.main_arg23) = m' ((c.tc : Thread Cert.AdamRestRefIdeal.nD Cert.AdamRestRefIdeal.τ).loc Cert.AdamRestRefIdeal.main_arg23)
          ∧ r.2.mem ((c.tc : Thread Cert.AdamRestRefIdeal.nD Cert.AdamRestRefIdeal.τ).loc Cert.AdamRestRefIdeal.main_arg24) = m' ((c.tc : Thread Cert.AdamRestRefIdeal.nD Cert.AdamRestRefIdeal.τ).loc Cert.AdamRestRefIdeal.main_arg24)
          ∧ r.2.mem ((c.tc : Thread Cert.AdamRestRefIdeal.nD Cert.AdamRestRefIdeal.τ).loc Cert.AdamRestRefIdeal.main_arg25) = m' ((c.tc : Thread Cert.AdamRestRefIdeal.nD Cert.AdamRestRefIdeal.τ).loc Cert.AdamRestRefIdeal.main_arg25)
          ∧ r.2.mem ((c.tc : Thread Cert.AdamRestRefIdeal.nD Cert.AdamRestRefIdeal.τ).loc Cert.AdamRestRefIdeal.main_arg26) = m' ((c.tc : Thread Cert.AdamRestRefIdeal.nD Cert.AdamRestRefIdeal.τ).loc Cert.AdamRestRefIdeal.main_arg26)
          ∧ r.2.mem ((c.tc : Thread Cert.AdamRestRefIdeal.nD Cert.AdamRestRefIdeal.τ).loc Cert.AdamRestRefIdeal.main_arg27) = m' ((c.tc : Thread Cert.AdamRestRefIdeal.nD Cert.AdamRestRefIdeal.τ).loc Cert.AdamRestRefIdeal.main_arg27)
          ∧ r.2.mem ((c.tc : Thread Cert.AdamRestRefIdeal.nD Cert.AdamRestRefIdeal.τ).loc Cert.AdamRestRefIdeal.main_arg28) = m' ((c.tc : Thread Cert.AdamRestRefIdeal.nD Cert.AdamRestRefIdeal.τ).loc Cert.AdamRestRefIdeal.main_arg28)
          ∧ r.2.mem ((c.tc : Thread Cert.AdamRestRefIdeal.nD Cert.AdamRestRefIdeal.τ).loc Cert.AdamRestRefIdeal.main_arg29) = m' ((c.tc : Thread Cert.AdamRestRefIdeal.nD Cert.AdamRestRefIdeal.τ).loc Cert.AdamRestRefIdeal.main_arg29)
          ∧ r.2.mem ((c.tc : Thread Cert.AdamRestRefIdeal.nD Cert.AdamRestRefIdeal.τ).loc Cert.AdamRestRefIdeal.main_arg30) = m' ((c.tc : Thread Cert.AdamRestRefIdeal.nD Cert.AdamRestRefIdeal.τ).loc Cert.AdamRestRefIdeal.main_arg30)
          ∧ r.2.mem ((c.tc : Thread Cert.AdamRestRefIdeal.nD Cert.AdamRestRefIdeal.τ).loc Cert.AdamRestRefIdeal.main_arg31) = m' ((c.tc : Thread Cert.AdamRestRefIdeal.nD Cert.AdamRestRefIdeal.τ).loc Cert.AdamRestRefIdeal.main_arg31)
          ∧ r.2.mem ((c.tc : Thread Cert.AdamRestRefIdeal.nD Cert.AdamRestRefIdeal.τ).loc Cert.AdamRestRefIdeal.main_arg32) = m' ((c.tc : Thread Cert.AdamRestRefIdeal.nD Cert.AdamRestRefIdeal.τ).loc Cert.AdamRestRefIdeal.main_arg32)
          ∧ r.2.mem ((c.tc : Thread Cert.AdamRestRefIdeal.nD Cert.AdamRestRefIdeal.τ).loc Cert.AdamRestRefIdeal.main_arg33) = m' ((c.tc : Thread Cert.AdamRestRefIdeal.nD Cert.AdamRestRefIdeal.τ).loc Cert.AdamRestRefIdeal.main_arg33)
          ∧ r.2.mem ((c.tc : Thread Cert.AdamRestRefIdeal.nD Cert.AdamRestRefIdeal.τ).loc Cert.AdamRestRefIdeal.main_arg34) = m' ((c.tc : Thread Cert.AdamRestRefIdeal.nD Cert.AdamRestRefIdeal.τ).loc Cert.AdamRestRefIdeal.main_arg34)
          ∧ r.2.mem ((c.tc : Thread Cert.AdamRestRefIdeal.nD Cert.AdamRestRefIdeal.τ).loc Cert.AdamRestRefIdeal.main_arg35) = m' ((c.tc : Thread Cert.AdamRestRefIdeal.nD Cert.AdamRestRefIdeal.τ).loc Cert.AdamRestRefIdeal.main_arg35)
          ∧ r.2.mem ((c.tc : Thread Cert.AdamRestRefIdeal.nD Cert.AdamRestRefIdeal.τ).loc Cert.AdamRestRefIdeal.main_arg36) = m' ((c.tc : Thread Cert.AdamRestRefIdeal.nD Cert.AdamRestRefIdeal.τ).loc Cert.AdamRestRefIdeal.main_arg36)
          ∧ r.2.mem ((c.tc : Thread Cert.AdamRestRefIdeal.nD Cert.AdamRestRefIdeal.τ).loc Cert.AdamRestRefIdeal.main_arg37) = m' ((c.tc : Thread Cert.AdamRestRefIdeal.nD Cert.AdamRestRefIdeal.τ).loc Cert.AdamRestRefIdeal.main_arg37)
          ∧ r.2.mem ((c.tc : Thread Cert.AdamRestRefIdeal.nD Cert.AdamRestRefIdeal.τ).loc Cert.AdamRestRefIdeal.main_arg38) = m' ((c.tc : Thread Cert.AdamRestRefIdeal.nD Cert.AdamRestRefIdeal.τ).loc Cert.AdamRestRefIdeal.main_arg38)
          ∧ r.2.mem ((c.tc : Thread Cert.AdamRestRefIdeal.nD Cert.AdamRestRefIdeal.τ).loc Cert.AdamRestRefIdeal.main_arg39) = m' ((c.tc : Thread Cert.AdamRestRefIdeal.nD Cert.AdamRestRefIdeal.τ).loc Cert.AdamRestRefIdeal.main_arg39)
          ∧ r.2.mem ((c.tc : Thread Cert.AdamRestRefIdeal.nD Cert.AdamRestRefIdeal.τ).loc Cert.AdamRestRefIdeal.main_arg40) = m' ((c.tc : Thread Cert.AdamRestRefIdeal.nD Cert.AdamRestRefIdeal.τ).loc Cert.AdamRestRefIdeal.main_arg40)
          ∧ r.2.mem ((c.tc : Thread Cert.AdamRestRefIdeal.nD Cert.AdamRestRefIdeal.τ).loc Cert.AdamRestRefIdeal.main_arg41) = m' ((c.tc : Thread Cert.AdamRestRefIdeal.nD Cert.AdamRestRefIdeal.τ).loc Cert.AdamRestRefIdeal.main_arg41)
          ∧ r.2.mem ((c.tc : Thread Cert.AdamRestRefIdeal.nD Cert.AdamRestRefIdeal.τ).loc Cert.AdamRestRefIdeal.main_arg42) = m' ((c.tc : Thread Cert.AdamRestRefIdeal.nD Cert.AdamRestRefIdeal.τ).loc Cert.AdamRestRefIdeal.main_arg42)
          ∧ r.2.mem ((c.tc : Thread Cert.AdamRestRefIdeal.nD Cert.AdamRestRefIdeal.τ).loc Cert.AdamRestRefIdeal.main_arg43) = m' ((c.tc : Thread Cert.AdamRestRefIdeal.nD Cert.AdamRestRefIdeal.τ).loc Cert.AdamRestRefIdeal.main_arg43)
          ∧ r.2.mem ((c.tc : Thread Cert.AdamRestRefIdeal.nD Cert.AdamRestRefIdeal.τ).loc Cert.AdamRestRefIdeal.main_arg44) = m' ((c.tc : Thread Cert.AdamRestRefIdeal.nD Cert.AdamRestRefIdeal.τ).loc Cert.AdamRestRefIdeal.main_arg44)
          ∧ r.2.mem ((c.tc : Thread Cert.AdamRestRefIdeal.nD Cert.AdamRestRefIdeal.τ).loc Cert.AdamRestRefIdeal.main_arg45) = m' ((c.tc : Thread Cert.AdamRestRefIdeal.nD Cert.AdamRestRefIdeal.τ).loc Cert.AdamRestRefIdeal.main_arg45)
          ∧ r.2.mem ((c.tc : Thread Cert.AdamRestRefIdeal.nD Cert.AdamRestRefIdeal.τ).loc Cert.AdamRestRefIdeal.main_arg46) = m' ((c.tc : Thread Cert.AdamRestRefIdeal.nD Cert.AdamRestRefIdeal.τ).loc Cert.AdamRestRefIdeal.main_arg46)
          ∧ r.2.mem ((c.tc : Thread Cert.AdamRestRefIdeal.nD Cert.AdamRestRefIdeal.τ).loc Cert.AdamRestRefIdeal.main_arg47) = m' ((c.tc : Thread Cert.AdamRestRefIdeal.nD Cert.AdamRestRefIdeal.τ).loc Cert.AdamRestRefIdeal.main_arg47)
          ∧ r.2.mem ((c.tc : Thread Cert.AdamRestRefIdeal.nD Cert.AdamRestRefIdeal.τ).loc Cert.AdamRestRefIdeal.main_arg48) = m' ((c.tc : Thread Cert.AdamRestRefIdeal.nD Cert.AdamRestRefIdeal.τ).loc Cert.AdamRestRefIdeal.main_arg48)
          ∧ r.2.mem ((c.tc : Thread Cert.AdamRestRefIdeal.nD Cert.AdamRestRefIdeal.τ).loc Cert.AdamRestRefIdeal.main_arg49) = m' ((c.tc : Thread Cert.AdamRestRefIdeal.nD Cert.AdamRestRefIdeal.τ).loc Cert.AdamRestRefIdeal.main_arg49)
          ∧ r.2.mem ((c.tc : Thread Cert.AdamRestRefIdeal.nD Cert.AdamRestRefIdeal.τ).loc Cert.AdamRestRefIdeal.main_arg50) = m' ((c.tc : Thread Cert.AdamRestRefIdeal.nD Cert.AdamRestRefIdeal.τ).loc Cert.AdamRestRefIdeal.main_arg50)
          ∧ r.2.mem ((c.tc : Thread Cert.AdamRestRefIdeal.nD Cert.AdamRestRefIdeal.τ).loc Cert.AdamRestRefIdeal.main_arg51) = m' ((c.tc : Thread Cert.AdamRestRefIdeal.nD Cert.AdamRestRefIdeal.τ).loc Cert.AdamRestRefIdeal.main_arg51)
          ∧ r.2.mem ((c.tc : Thread Cert.AdamRestRefIdeal.nD Cert.AdamRestRefIdeal.τ).loc Cert.AdamRestRefIdeal.main_arg52) = m' ((c.tc : Thread Cert.AdamRestRefIdeal.nD Cert.AdamRestRefIdeal.τ).loc Cert.AdamRestRefIdeal.main_arg52)
          ∧ r.2.mem ((c.tc : Thread Cert.AdamRestRefIdeal.nD Cert.AdamRestRefIdeal.τ).loc Cert.AdamRestRefIdeal.main_arg53) = m' ((c.tc : Thread Cert.AdamRestRefIdeal.nD Cert.AdamRestRefIdeal.τ).loc Cert.AdamRestRefIdeal.main_arg53)
          ∧ r.2.mem ((c.tc : Thread Cert.AdamRestRefIdeal.nD Cert.AdamRestRefIdeal.τ).loc Cert.AdamRestRefIdeal.main_arg54) = m' ((c.tc : Thread Cert.AdamRestRefIdeal.nD Cert.AdamRestRefIdeal.τ).loc Cert.AdamRestRefIdeal.main_arg54)
          ∧ r.2.mem ((c.tc : Thread Cert.AdamRestRefIdeal.nD Cert.AdamRestRefIdeal.τ).loc Cert.AdamRestRefIdeal.main_arg55) = m' ((c.tc : Thread Cert.AdamRestRefIdeal.nD Cert.AdamRestRefIdeal.τ).loc Cert.AdamRestRefIdeal.main_arg55)
          ∧ r.2.mem ((c.tc : Thread Cert.AdamRestRefIdeal.nD Cert.AdamRestRefIdeal.τ).loc Cert.AdamRestRefIdeal.main_arg56) = m' ((c.tc : Thread Cert.AdamRestRefIdeal.nD Cert.AdamRestRefIdeal.τ).loc Cert.AdamRestRefIdeal.main_arg56)
          ∧ r.2.mem ((c.tc : Thread Cert.AdamRestRefIdeal.nD Cert.AdamRestRefIdeal.τ).loc Cert.AdamRestRefIdeal.main_arg57) = m' ((c.tc : Thread Cert.AdamRestRefIdeal.nD Cert.AdamRestRefIdeal.τ).loc Cert.AdamRestRefIdeal.main_arg57)
          ∧ r.2.mem ((c.tc : Thread Cert.AdamRestRefIdeal.nD Cert.AdamRestRefIdeal.τ).loc Cert.AdamRestRefIdeal.main_arg58) = m' ((c.tc : Thread Cert.AdamRestRefIdeal.nD Cert.AdamRestRefIdeal.τ).loc Cert.AdamRestRefIdeal.main_arg58)
          ∧ r.2.mem ((c.tc : Thread Cert.AdamRestRefIdeal.nD Cert.AdamRestRefIdeal.τ).loc Cert.AdamRestRefIdeal.main_arg59) = m' ((c.tc : Thread Cert.AdamRestRefIdeal.nD Cert.AdamRestRefIdeal.τ).loc Cert.AdamRestRefIdeal.main_arg59)
          ∧ r.2.mem ((c.tc : Thread Cert.AdamRestRefIdeal.nD Cert.AdamRestRefIdeal.τ).loc Cert.AdamRestRefIdeal.main_arg60) = m' ((c.tc : Thread Cert.AdamRestRefIdeal.nD Cert.AdamRestRefIdeal.τ).loc Cert.AdamRestRefIdeal.main_arg60)
          ∧ r.2.mem ((c.tc : Thread Cert.AdamRestRefIdeal.nD Cert.AdamRestRefIdeal.τ).loc Cert.AdamRestRefIdeal.main_arg61) = m' ((c.tc : Thread Cert.AdamRestRefIdeal.nD Cert.AdamRestRefIdeal.τ).loc Cert.AdamRestRefIdeal.main_arg61)
          ∧ r.2.mem ((c.tc : Thread Cert.AdamRestRefIdeal.nD Cert.AdamRestRefIdeal.τ).loc Cert.AdamRestRefIdeal.main_arg62) = m' ((c.tc : Thread Cert.AdamRestRefIdeal.nD Cert.AdamRestRefIdeal.τ).loc Cert.AdamRestRefIdeal.main_arg62)
          ∧ r.2.mem ((c.tc : Thread Cert.AdamRestRefIdeal.nD Cert.AdamRestRefIdeal.τ).loc Cert.AdamRestRefIdeal.main_arg63) = m' ((c.tc : Thread Cert.AdamRestRefIdeal.nD Cert.AdamRestRefIdeal.τ).loc Cert.AdamRestRefIdeal.main_arg63)
          ∧ r.2.mem ((c.tc : Thread Cert.AdamRestRefIdeal.nD Cert.AdamRestRefIdeal.τ).loc Cert.AdamRestRefIdeal.main_arg64) = m' ((c.tc : Thread Cert.AdamRestRefIdeal.nD Cert.AdamRestRefIdeal.τ).loc Cert.AdamRestRefIdeal.main_arg64)
          ∧ r.2.mem ((c.tc : Thread Cert.AdamRestRefIdeal.nD Cert.AdamRestRefIdeal.τ).loc Cert.AdamRestRefIdeal.main_arg65) = m' ((c.tc : Thread Cert.AdamRestRefIdeal.nD Cert.AdamRestRefIdeal.τ).loc Cert.AdamRestRefIdeal.main_arg65)
          ∧ r.2.mem ((c.tc : Thread Cert.AdamRestRefIdeal.nD Cert.AdamRestRefIdeal.τ).loc Cert.AdamRestRefIdeal.main_arg66) = m' ((c.tc : Thread Cert.AdamRestRefIdeal.nD Cert.AdamRestRefIdeal.τ).loc Cert.AdamRestRefIdeal.main_arg66)
          ∧ r.2.mem ((c.tc : Thread Cert.AdamRestRefIdeal.nD Cert.AdamRestRefIdeal.τ).loc Cert.AdamRestRefIdeal.main_arg67) = m' ((c.tc : Thread Cert.AdamRestRefIdeal.nD Cert.AdamRestRefIdeal.τ).loc Cert.AdamRestRefIdeal.main_arg67)
          ∧ r.2.mem ((c.tc : Thread Cert.AdamRestRefIdeal.nD Cert.AdamRestRefIdeal.τ).loc Cert.AdamRestRefIdeal.main_arg68) = m' ((c.tc : Thread Cert.AdamRestRefIdeal.nD Cert.AdamRestRefIdeal.τ).loc Cert.AdamRestRefIdeal.main_arg68)
          ∧ r.2.mem ((c.tc : Thread Cert.AdamRestRefIdeal.nD Cert.AdamRestRefIdeal.τ).loc Cert.AdamRestRefIdeal.main_arg69) = m' ((c.tc : Thread Cert.AdamRestRefIdeal.nD Cert.AdamRestRefIdeal.τ).loc Cert.AdamRestRefIdeal.main_arg69)
          ∧ r.2.mem ((c.tc : Thread Cert.AdamRestRefIdeal.nD Cert.AdamRestRefIdeal.τ).loc Cert.AdamRestRefIdeal.main_arg70) = m' ((c.tc : Thread Cert.AdamRestRefIdeal.nD Cert.AdamRestRefIdeal.τ).loc Cert.AdamRestRefIdeal.main_arg70)
          ∧ r.2.mem ((c.tc : Thread Cert.AdamRestRefIdeal.nD Cert.AdamRestRefIdeal.τ).loc Cert.AdamRestRefIdeal.main_arg71) = m' ((c.tc : Thread Cert.AdamRestRefIdeal.nD Cert.AdamRestRefIdeal.τ).loc Cert.AdamRestRefIdeal.main_arg71)
          ∧ r.2.mem ((c.tc : Thread Cert.AdamRestRefIdeal.nD Cert.AdamRestRefIdeal.τ).loc Cert.AdamRestRefIdeal.main_arg72) = m' ((c.tc : Thread Cert.AdamRestRefIdeal.nD Cert.AdamRestRefIdeal.τ).loc Cert.AdamRestRefIdeal.main_arg72)
          ∧ r.2.mem ((c.tc : Thread Cert.AdamRestRefIdeal.nD Cert.AdamRestRefIdeal.τ).loc Cert.AdamRestRefIdeal.main_arg73) = m' ((c.tc : Thread Cert.AdamRestRefIdeal.nD Cert.AdamRestRefIdeal.τ).loc Cert.AdamRestRefIdeal.main_arg73)
          ∧ r.2.mem ((c.tc : Thread Cert.AdamRestRefIdeal.nD Cert.AdamRestRefIdeal.τ).loc Cert.AdamRestRefIdeal.main_arg74) = m' ((c.tc : Thread Cert.AdamRestRefIdeal.nD Cert.AdamRestRefIdeal.τ).loc Cert.AdamRestRefIdeal.main_arg74)
          ∧ r.2.mem ((c.tc : Thread Cert.AdamRestRefIdeal.nD Cert.AdamRestRefIdeal.τ).loc Cert.AdamRestRefIdeal.main_arg75) = m' ((c.tc : Thread Cert.AdamRestRefIdeal.nD Cert.AdamRestRefIdeal.τ).loc Cert.AdamRestRefIdeal.main_arg75)
          ∧ r.2.mem ((c.tc : Thread Cert.AdamRestRefIdeal.nD Cert.AdamRestRefIdeal.τ).loc Cert.AdamRestRefIdeal.main_arg76) = m' ((c.tc : Thread Cert.AdamRestRefIdeal.nD Cert.AdamRestRefIdeal.τ).loc Cert.AdamRestRefIdeal.main_arg76)
          ∧ r.2.mem ((c.tc : Thread Cert.AdamRestRefIdeal.nD Cert.AdamRestRefIdeal.τ).loc Cert.AdamRestRefIdeal.main_arg77) = m' ((c.tc : Thread Cert.AdamRestRefIdeal.nD Cert.AdamRestRefIdeal.τ).loc Cert.AdamRestRefIdeal.main_arg77)
          ∧ r.2.mem ((c.tc : Thread Cert.AdamRestRefIdeal.nD Cert.AdamRestRefIdeal.τ).loc Cert.AdamRestRefIdeal.main_arg78) = m' ((c.tc : Thread Cert.AdamRestRefIdeal.nD Cert.AdamRestRefIdeal.τ).loc Cert.AdamRestRefIdeal.main_arg78)
          ∧ r.2.mem ((c.tc : Thread Cert.AdamRestRefIdeal.nD Cert.AdamRestRefIdeal.τ).loc Cert.AdamRestRefIdeal.main_arg79) = m' ((c.tc : Thread Cert.AdamRestRefIdeal.nD Cert.AdamRestRefIdeal.τ).loc Cert.AdamRestRefIdeal.main_arg79)
          ∧ r.2.mem ((c.tc : Thread Cert.AdamRestRefIdeal.nD Cert.AdamRestRefIdeal.τ).loc Cert.AdamRestRefIdeal.main_arg80) = m' ((c.tc : Thread Cert.AdamRestRefIdeal.nD Cert.AdamRestRefIdeal.τ).loc Cert.AdamRestRefIdeal.main_arg80)
          ∧ r.2.mem ((c.tc : Thread Cert.AdamRestRefIdeal.nD Cert.AdamRestRefIdeal.τ).loc Cert.AdamRestRefIdeal.main_arg81) = m' ((c.tc : Thread Cert.AdamRestRefIdeal.nD Cert.AdamRestRefIdeal.τ).loc Cert.AdamRestRefIdeal.main_arg81)
          ∧ r.2.mem ((c.tc : Thread Cert.AdamRestRefIdeal.nD Cert.AdamRestRefIdeal.τ).loc Cert.AdamRestRefIdeal.main_arg82) = m' ((c.tc : Thread Cert.AdamRestRefIdeal.nD Cert.AdamRestRefIdeal.τ).loc Cert.AdamRestRefIdeal.main_arg82)
          ∧ r.2.mem ((c.tc : Thread Cert.AdamRestRefIdeal.nD Cert.AdamRestRefIdeal.τ).loc Cert.AdamRestRefIdeal.main_arg83) = m' ((c.tc : Thread Cert.AdamRestRefIdeal.nD Cert.AdamRestRefIdeal.τ).loc Cert.AdamRestRefIdeal.main_arg83)
          ∧ r.2.mem ((c.tc : Thread Cert.AdamRestRefIdeal.nD Cert.AdamRestRefIdeal.τ).loc Cert.AdamRestRefIdeal.main_arg84) = m' ((c.tc : Thread Cert.AdamRestRefIdeal.nD Cert.AdamRestRefIdeal.τ).loc Cert.AdamRestRefIdeal.main_arg84)
          ∧ r.2.mem ((c.tc : Thread Cert.AdamRestRefIdeal.nD Cert.AdamRestRefIdeal.τ).loc Cert.AdamRestRefIdeal.main_arg85) = m' ((c.tc : Thread Cert.AdamRestRefIdeal.nD Cert.AdamRestRefIdeal.τ).loc Cert.AdamRestRefIdeal.main_arg85)
          ∧ r.2.mem ((c.tc : Thread Cert.AdamRestRefIdeal.nD Cert.AdamRestRefIdeal.τ).loc Cert.AdamRestRefIdeal.main_arg86) = m' ((c.tc : Thread Cert.AdamRestRefIdeal.nD Cert.AdamRestRefIdeal.τ).loc Cert.AdamRestRefIdeal.main_arg86)
          ∧ r.2.mem ((c.tc : Thread Cert.AdamRestRefIdeal.nD Cert.AdamRestRefIdeal.τ).loc Cert.AdamRestRefIdeal.main_arg87) = m' ((c.tc : Thread Cert.AdamRestRefIdeal.nD Cert.AdamRestRefIdeal.τ).loc Cert.AdamRestRefIdeal.main_arg87)
          ∧ r.2.mem ((c.tc : Thread Cert.AdamRestRefIdeal.nD Cert.AdamRestRefIdeal.τ).loc Cert.AdamRestRefIdeal.main_arg88) = m' ((c.tc : Thread Cert.AdamRestRefIdeal.nD Cert.AdamRestRefIdeal.τ).loc Cert.AdamRestRefIdeal.main_arg88)
          ∧ r.2.mem ((c.tc : Thread Cert.AdamRestRefIdeal.nD Cert.AdamRestRefIdeal.τ).loc Cert.AdamRestRefIdeal.main_arg89) = m' ((c.tc : Thread Cert.AdamRestRefIdeal.nD Cert.AdamRestRefIdeal.τ).loc Cert.AdamRestRefIdeal.main_arg89)
          ∧ r.2.mem ((c.tc : Thread Cert.AdamRestRefIdeal.nD Cert.AdamRestRefIdeal.τ).loc Cert.AdamRestRefIdeal.main_arg90) = m' ((c.tc : Thread Cert.AdamRestRefIdeal.nD Cert.AdamRestRefIdeal.τ).loc Cert.AdamRestRefIdeal.main_arg90)
          ∧ r.2.mem ((c.tc : Thread Cert.AdamRestRefIdeal.nD Cert.AdamRestRefIdeal.τ).loc Cert.AdamRestRefIdeal.main_arg91) = m' ((c.tc : Thread Cert.AdamRestRefIdeal.nD Cert.AdamRestRefIdeal.τ).loc Cert.AdamRestRefIdeal.main_arg91)
          ∧ r.2.mem ((c.tc : Thread Cert.AdamRestRefIdeal.nD Cert.AdamRestRefIdeal.τ).loc Cert.AdamRestRefIdeal.main_arg92) = m' ((c.tc : Thread Cert.AdamRestRefIdeal.nD Cert.AdamRestRefIdeal.τ).loc Cert.AdamRestRefIdeal.main_arg92)
          ∧ r.2.mem ((c.tc : Thread Cert.AdamRestRefIdeal.nD Cert.AdamRestRefIdeal.τ).loc Cert.AdamRestRefIdeal.main_arg93) = m' ((c.tc : Thread Cert.AdamRestRefIdeal.nD Cert.AdamRestRefIdeal.τ).loc Cert.AdamRestRefIdeal.main_arg93)
          ∧ r.2.mem ((c.tc : Thread Cert.AdamRestRefIdeal.nD Cert.AdamRestRefIdeal.τ).loc Cert.AdamRestRefIdeal.main_arg94) = m' ((c.tc : Thread Cert.AdamRestRefIdeal.nD Cert.AdamRestRefIdeal.τ).loc Cert.AdamRestRefIdeal.main_arg94)
          ∧ r.2.mem ((c.tc : Thread Cert.AdamRestRefIdeal.nD Cert.AdamRestRefIdeal.τ).loc Cert.AdamRestRefIdeal.main_arg95) = m' ((c.tc : Thread Cert.AdamRestRefIdeal.nD Cert.AdamRestRefIdeal.τ).loc Cert.AdamRestRefIdeal.main_arg95)
          ∧ r.2.mem ((c.tc : Thread Cert.AdamRestRefIdeal.nD Cert.AdamRestRefIdeal.τ).loc Cert.AdamRestRefIdeal.main_arg96) = m' ((c.tc : Thread Cert.AdamRestRefIdeal.nD Cert.AdamRestRefIdeal.τ).loc Cert.AdamRestRefIdeal.main_arg96)
          ∧ r.2.mem ((c.tc : Thread Cert.AdamRestRefIdeal.nD Cert.AdamRestRefIdeal.τ).loc Cert.AdamRestRefIdeal.main_arg97) = m' ((c.tc : Thread Cert.AdamRestRefIdeal.nD Cert.AdamRestRefIdeal.τ).loc Cert.AdamRestRefIdeal.main_arg97)
          ∧ r.2.mem ((c.tc : Thread Cert.AdamRestRefIdeal.nD Cert.AdamRestRefIdeal.τ).loc Cert.AdamRestRefIdeal.main_arg98) = m' ((c.tc : Thread Cert.AdamRestRefIdeal.nD Cert.AdamRestRefIdeal.τ).loc Cert.AdamRestRefIdeal.main_arg98)
          ∧ r.2.mem ((c.tc : Thread Cert.AdamRestRefIdeal.nD Cert.AdamRestRefIdeal.τ).loc Cert.AdamRestRefIdeal.main_arg99) = m' ((c.tc : Thread Cert.AdamRestRefIdeal.nD Cert.AdamRestRefIdeal.τ).loc Cert.AdamRestRefIdeal.main_arg99))

def Claim : Prop :=
  ∃ (hKernel : Cert.Kernel.Facts) (hKernelIdeal : Cert.KernelIdeal.Facts) (hReferenceIdeal : Cert.ReferenceIdeal.Facts) (hInDa : Cert.InDa.Facts) (hInDaIdeal : Cert.InDaIdeal.Facts) (hInDaRefIdeal : Cert.InDaRefIdeal.Facts) (hInFwd : Cert.InFwd.Facts) (hInFwdIdeal : Cert.InFwdIdeal.Facts) (hInFwdRefIdeal : Cert.InFwdRefIdeal.Facts) (hDbGate : Cert.DbGate.Facts) (hDbGateIdeal : Cert.DbGateIdeal.Facts) (hDbGateRefIdeal : Cert.DbGateRefIdeal.Facts) (hDbQkv : Cert.DbQkv.Facts) (hDbQkvIdeal : Cert.DbQkvIdeal.Facts) (hDbQkvRefIdeal : Cert.DbQkvRefIdeal.Facts) (hDbXbc : Cert.DbXbc.Facts) (hDbXbcIdeal : Cert.DbXbcIdeal.Facts) (hDbXbcRefIdeal : Cert.DbXbcRefIdeal.Facts) (hDbS5u : Cert.DbS5u.Facts) (hDbS5uIdeal : Cert.DbS5uIdeal.Facts) (hDbS5uRefIdeal : Cert.DbS5uRefIdeal.Facts) (hS5Tail : Cert.S5Tail.Facts) (hS5TailIdeal : Cert.S5TailIdeal.Facts) (hS5TailRefIdeal : Cert.S5TailRefIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hSsdTail : Cert.SsdTail.Facts) (hSsdTailIdeal : Cert.SsdTailIdeal.Facts) (hSsdTailRefIdeal : Cert.SsdTailRefIdeal.Facts) (hGdnTail : Cert.GdnTail.Facts) (hGdnTailIdeal : Cert.GdnTailIdeal.Facts) (hGdnTailRefIdeal : Cert.GdnTailRefIdeal.Facts) (hAdamRest : Cert.AdamRest.Facts) (hAdamRestIdeal : Cert.AdamRestIdeal.Facts) (hAdamRestRefIdeal : Cert.AdamRestRefIdeal.Facts),
    quiescent_Kernel (hKernel := hKernel)
    ∧ quiescent_KernelIdeal (hKernelIdeal := hKernelIdeal)
    ∧ quiescent_ReferenceIdeal (hReferenceIdeal := hReferenceIdeal)
    ∧ quiescent_InDa (hInDa := hInDa)
    ∧ quiescent_InDaIdeal (hInDaIdeal := hInDaIdeal)
    ∧ quiescent_InDaRefIdeal (hInDaRefIdeal := hInDaRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_DbGate (hDbGate := hDbGate)
    ∧ quiescent_DbGateIdeal (hDbGateIdeal := hDbGateIdeal)
    ∧ quiescent_DbGateRefIdeal (hDbGateRefIdeal := hDbGateRefIdeal)
    ∧ quiescent_DbQkv (hDbQkv := hDbQkv)
    ∧ quiescent_DbQkvIdeal (hDbQkvIdeal := hDbQkvIdeal)
    ∧ quiescent_DbQkvRefIdeal (hDbQkvRefIdeal := hDbQkvRefIdeal)
    ∧ quiescent_DbXbc (hDbXbc := hDbXbc)
    ∧ quiescent_DbXbcIdeal (hDbXbcIdeal := hDbXbcIdeal)
    ∧ quiescent_DbXbcRefIdeal (hDbXbcRefIdeal := hDbXbcRefIdeal)
    ∧ quiescent_DbS5u (hDbS5u := hDbS5u)
    ∧ quiescent_DbS5uIdeal (hDbS5uIdeal := hDbS5uIdeal)
    ∧ quiescent_DbS5uRefIdeal (hDbS5uRefIdeal := hDbS5uRefIdeal)
    ∧ quiescent_S5Tail (hS5Tail := hS5Tail)
    ∧ quiescent_S5TailIdeal (hS5TailIdeal := hS5TailIdeal)
    ∧ quiescent_S5TailRefIdeal (hS5TailRefIdeal := hS5TailRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_SsdTail (hSsdTail := hSsdTail)
    ∧ quiescent_SsdTailIdeal (hSsdTailIdeal := hSsdTailIdeal)
    ∧ quiescent_SsdTailRefIdeal (hSsdTailRefIdeal := hSsdTailRefIdeal)
    ∧ quiescent_GdnTail (hGdnTail := hGdnTail)
    ∧ quiescent_GdnTailIdeal (hGdnTailIdeal := hGdnTailIdeal)
    ∧ quiescent_GdnTailRefIdeal (hGdnTailRefIdeal := hGdnTailRefIdeal)
    ∧ quiescent_AdamRest (hAdamRest := hAdamRest)
    ∧ quiescent_AdamRestIdeal (hAdamRestIdeal := hAdamRestIdeal)
    ∧ quiescent_AdamRestRefIdeal (hAdamRestRefIdeal := hAdamRestRefIdeal)
    ∧ preserves_Kernel_KernelIdeal
    ∧ algebraic_KernelIdeal_ReferenceIdeal (hKernelIdeal := hKernelIdeal) (hReferenceIdeal := hReferenceIdeal)
    ∧ preserves_InDa_InDaIdeal
    ∧ algebraic_InDaIdeal_InDaRefIdeal (hInDaIdeal := hInDaIdeal) (hInDaRefIdeal := hInDaRefIdeal)
    ∧ preserves_InFwd_InFwdIdeal
    ∧ algebraic_InFwdIdeal_InFwdRefIdeal (hInFwdIdeal := hInFwdIdeal) (hInFwdRefIdeal := hInFwdRefIdeal)
    ∧ preserves_DbGate_DbGateIdeal
    ∧ algebraic_DbGateIdeal_DbGateRefIdeal (hDbGateIdeal := hDbGateIdeal) (hDbGateRefIdeal := hDbGateRefIdeal)
    ∧ preserves_DbQkv_DbQkvIdeal
    ∧ algebraic_DbQkvIdeal_DbQkvRefIdeal (hDbQkvIdeal := hDbQkvIdeal) (hDbQkvRefIdeal := hDbQkvRefIdeal)
    ∧ preserves_DbXbc_DbXbcIdeal
    ∧ algebraic_DbXbcIdeal_DbXbcRefIdeal (hDbXbcIdeal := hDbXbcIdeal) (hDbXbcRefIdeal := hDbXbcRefIdeal)
    ∧ preserves_DbS5u_DbS5uIdeal
    ∧ algebraic_DbS5uIdeal_DbS5uRefIdeal (hDbS5uIdeal := hDbS5uIdeal) (hDbS5uRefIdeal := hDbS5uRefIdeal)
    ∧ preserves_S5Tail_S5TailIdeal
    ∧ algebraic_S5TailIdeal_S5TailRefIdeal (hS5TailIdeal := hS5TailIdeal) (hS5TailRefIdeal := hS5TailRefIdeal)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_SsdTail_SsdTailIdeal
    ∧ algebraic_SsdTailIdeal_SsdTailRefIdeal (hSsdTailIdeal := hSsdTailIdeal) (hSsdTailRefIdeal := hSsdTailRefIdeal)
    ∧ preserves_GdnTail_GdnTailIdeal
    ∧ algebraic_GdnTailIdeal_GdnTailRefIdeal (hGdnTailIdeal := hGdnTailIdeal) (hGdnTailRefIdeal := hGdnTailRefIdeal)
    ∧ preserves_AdamRest_AdamRestIdeal
    ∧ algebraic_AdamRestIdeal_AdamRestRefIdeal (hAdamRestIdeal := hAdamRestIdeal) (hAdamRestRefIdeal := hAdamRestRefIdeal)
-- ==== Kernel.lean ====
abbrev S4160x1024 : Shape := ⟨2, ![4160, 1024]⟩
abbrev S4160x3072 : Shape := ⟨2, ![4160, 3072]⟩
abbrev S3x1024 : Shape := ⟨2, ![3, 1024]⟩
abbrev S1024 : Shape := ⟨1, ![1024]⟩
abbrev S1024x1024 : Shape := ⟨2, ![1024, 1024]⟩
abbrev S1x3072 : Shape := ⟨2, ![1, 3072]⟩
abbrev S1x1024 : Shape := ⟨2, ![1, 1024]⟩
abbrev S_ : Shape := ⟨0, ![]⟩
abbrev S208x1024 : Shape := ⟨2, ![208, 1024]⟩
abbrev S208x3072 : Shape := ⟨2, ![208, 3072]⟩
abbrev S208x1 : Shape := ⟨2, ![208, 1]⟩
abbrev S208 : Shape := ⟨1, ![208]⟩
abbrev S1x2048 : Shape := ⟨2, ![1, 2048]⟩
abbrev S208x2048 : Shape := ⟨2, ![208, 2048]⟩

abbrev nBuf : Space → Nat
  | .hbm => 25
  | .vmem => 32
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S4160x1024, .f32⟩
  | .hbm, ⟨3, _⟩ => ⟨S4160x3072, .f32⟩
  | .hbm, ⟨4, _⟩ => ⟨S4160x1024, .f32⟩
  | .hbm, ⟨5, _⟩ => ⟨S3x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S4160x1024, .f32⟩
  | .hbm, ⟨10, _⟩ => ⟨S1x3072, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S_, .bf16⟩
  | .hbm, ⟨15, _⟩ => ⟨S4160x1024, .bf16⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x3072, .f32⟩
  | .hbm, ⟨20, _⟩ => ⟨S4160x1024, .f32⟩
  | .hbm, ⟨21, _⟩ => ⟨S1x3072, .f32⟩
  | .hbm, ⟨22, _⟩ => ⟨S1x1024, .f32⟩
  | .hbm, ⟨23, _⟩ => ⟨S1x1024, .f32⟩
  | .hbm, ⟨24, _⟩ => ⟨S1024x1024, .f32⟩
  | .local _ .vmem, ⟨0, _⟩ => ⟨S208x1024, .f32⟩
  | .local _ .vmem, ⟨1, _⟩ => ⟨S208x1024, .f32⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x3072, .f32⟩
  | .local _ .vmem, ⟨7, _⟩ => ⟨S208x3072, .f32⟩
  | .local _ .vmem, ⟨8, _⟩ => ⟨S208x1024, .f32⟩
  | .local _ .vmem, ⟨9, _⟩ => ⟨S208x1024, .f32⟩
  | .local _ .vmem, ⟨10, _⟩ => ⟨S1x3072, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S208x1024, .f32⟩
  | .local _ .vmem, ⟨15, _⟩ => ⟨S208x1024, .f32⟩
  | .local _ .vmem, ⟨16, _⟩ => ⟨S208x1024, .bf16⟩
  | .local _ .vmem, ⟨17, _⟩ => ⟨S208x1024, .bf16⟩
  | .local _ .vmem, ⟨18, _⟩ => ⟨S208x1024, .f32⟩
  | .local _ .vmem, ⟨19, _⟩ => ⟨S208x1024, .f32⟩
  | .local _ .vmem, ⟨20, _⟩ => ⟨S208x1024, .f32⟩
  | .local _ .vmem, ⟨21, _⟩ => ⟨S208x1024, .f32⟩
  | .local _ .vmem, ⟨22, _⟩ => ⟨S208x1024, .f32⟩
  | .local _ .vmem, ⟨23, _⟩ => ⟨S208x1024, .f32⟩
  | .local _ .vmem, ⟨24, _⟩ => ⟨S208x3072, .f32⟩
  | .local _ .vmem, ⟨25, _⟩ => ⟨S208x3072, .f32⟩
  | .local _ .vmem, ⟨26, _⟩ => ⟨S208x1024, .f32⟩
  | .local _ .vmem, ⟨27, _⟩ => ⟨S208x1024, .f32⟩
  | .local _ .vmem, ⟨28, _⟩ => ⟨S1x3072, .f32⟩
  | .local _ .vmem, ⟨29, _⟩ => ⟨S1x1024, .f32⟩
  | .local _ .vmem, ⟨30, _⟩ => ⟨S1x1024, .f32⟩
  | .local _ .vmem, ⟨31, _⟩ => ⟨S1024x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v5_5 : Ref sig .tc := ⟨.hbm, 21, rfl⟩
abbrev main_v5_6 : Ref sig .tc := ⟨.hbm, 22, rfl⟩
abbrev main_v5_7 : Ref sig .tc := ⟨.hbm, 23, rfl⟩
abbrev main_v5_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem19_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S208x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S208x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S208x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S208x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S208x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S208x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S208x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S208x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S4160x1024 : Shape := ⟨2, ![4160, 1024]⟩
abbrev S4160x3072 : Shape := ⟨2, ![4160, 3072]⟩
abbrev S3x1024 : Shape := ⟨2, ![3, 1024]⟩
abbrev S1024 : Shape := ⟨1, ![1024]⟩
abbrev S1024x1024 : Shape := ⟨2, ![1024, 1024]⟩
abbrev S4160x1x1024 : Shape := ⟨3, ![4160, 1, 1024]⟩
abbrev S4160x3x1024 : Shape := ⟨3, ![4160, 3, 1024]⟩
abbrev S4112x3x1024 : Shape := ⟨3, ![4112, 3, 1024]⟩
abbrev S4112x3072 : Shape := ⟨2, ![4112, 3072]⟩
abbrev S1x3x1024 : Shape := ⟨3, ![1, 3, 1024]⟩
abbrev S_ : Shape := ⟨0, ![]⟩
abbrev S4112x1024 : Shape := ⟨2, ![4112, 1024]⟩
abbrev S4112 : Shape := ⟨1, ![4112]⟩
abbrev S4112x1 : Shape := ⟨2, ![4112, 1]⟩
abbrev S1x1024 : Shape := ⟨2, ![1, 1024]⟩
abbrev S1x3072 : Shape := ⟨2, ![1, 3072]⟩

abbrev nBuf : Space → Nat
  | .hbm => 153
  | .vmem => 0
  | .smem => 0
  | _ => 0

abbrev hbmTy0_0 (i : Nat) : BufTy := match i % 128 with
  | 0 => ⟨S4160x1024, .f32⟩
  | 1 => ⟨S4160x1024, .f32⟩
  | 2 => ⟨S4160x1024, .f32⟩
  | 3 => ⟨S4160x3072, .f32⟩
  | 4 => ⟨S4160x1024, .f32⟩
  | 5 => ⟨S3x1024, .f32⟩
  | 6 => ⟨S1024, .f32⟩
  | 7 => ⟨S1024, .f32⟩
  | 8 => ⟨S1024x1024, .f32⟩
  | 9 => ⟨S4160x1024, .f32⟩
  | 10 => ⟨S4160x1x1024, .f32⟩
  | 11 => ⟨S4160x1x1024, .f32⟩
  | 12 => ⟨S4160x1x1024, .f32⟩
  | 13 => ⟨S4160x3x1024, .f32⟩
  | 14 => ⟨S4112x3x1024, .f32⟩
  | 15 => ⟨S4112x3072, .f32⟩
  | 16 => ⟨S4112x3x1024, .f32⟩
  | 17 => ⟨S1x3x1024, .f32⟩
  | 18 => ⟨S4112x3x1024, .f32⟩
  | 19 => ⟨S4112x3x1024, .f32⟩
  | 20 => ⟨S4112x3x1024, .f32⟩
  | 21 => ⟨S4112x3x1024, .f32⟩
  | 22 => ⟨S_, .f32⟩
  | 23 => ⟨S4112x3x1024, .f32⟩
  | 24 => ⟨S4112x3x1024, .f32⟩
  | 25 => ⟨S_, .f32⟩
  | 26 => ⟨S4112x3x1024, .f32⟩
  | 27 => ⟨S4112x3x1024, .f32⟩
  | 28 => ⟨S_, .f32⟩
  | 29 => ⟨S4112x3x1024, .f32⟩
  | 30 => ⟨S4112x3x1024, .f32⟩
  | 31 => ⟨S4112x3x1024, .f32⟩
  | 32 => ⟨S4112x3x1024, .f32⟩
  | 33 => ⟨S_, .f32⟩
  | 34 => ⟨S4112x1024, .f32⟩
  | 35 => ⟨S4112x1024, .f32⟩
  | 36 => ⟨S_, .f32⟩
  | 37 => ⟨S4112x1024, .f32⟩
  | 38 => ⟨S4112x1024, .f32⟩
  | 39 => ⟨S4112x1024, .f32⟩
  | 40 => ⟨S4112x1024, .f32⟩
  | 41 => ⟨S_, .f32⟩
  | 42 => ⟨S4112, .f32⟩
  | 43 => ⟨S4112x1, .f32⟩
  | 44 => ⟨S_, .f32⟩
  | 45 => ⟨S4112x1, .f32⟩
  | 46 => ⟨S4112x1, .f32⟩
  | 47 => ⟨S4112x1024, .f32⟩
  | 48 => ⟨S4112x1024, .f32⟩
  | 49 => ⟨S4112x1024, .f32⟩
  | 50 => ⟨S_, .f32⟩
  | 51 => ⟨S4112x1024, .f32⟩
  | 52 => ⟨S4112x1024, .f32⟩
  | 53 => ⟨S_, .f32⟩
  | 54 => ⟨S4112, .f32⟩
  | 55 => ⟨S4112x1, .f32⟩
  | 56 => ⟨S_, .f32⟩
  | 57 => ⟨S4112x1, .f32⟩
  | 58 => ⟨S4112x1, .f32⟩
  | 59 => ⟨S4112x1024, .f32⟩
  | 60 => ⟨S4112x1024, .f32⟩
  | 61 => ⟨S_, .f32⟩
  | 62 => ⟨S4112x1, .f32⟩
  | 63 => ⟨S4112x1, .f32⟩
  | 64 => ⟨S4112x1, .f32⟩
  | 65 => ⟨S4112x1, .f32⟩
  | 66 => ⟨S_, .f32⟩
  | 67 => ⟨S4112x1, .f32⟩
  | 68 => ⟨S4112x1, .f32⟩
  | 69 => ⟨S4112x1024, .f32⟩
  | 70 => ⟨S4112x1024, .f32⟩
  | 71 => ⟨S1x1024, .f32⟩
  | 72 => ⟨S4112x1024, .f32⟩
  | 73 => ⟨S4112x1024, .f32⟩
  | 74 => ⟨S1x1024, .f32⟩
  | 75 => ⟨S4112x1024, .f32⟩
  | 76 => ⟨S4112x1024, .f32⟩
  | 77 => ⟨S4112x1024, .f32⟩
  | 78 => ⟨S_, .f32⟩
  | 79 => ⟨S1024, .f32⟩
  | 80 => ⟨S1x1024, .f32⟩
  | 81 => ⟨S_, .f32⟩
  | 82 => ⟨S1024, .f32⟩
  | 83 => ⟨S4112x1024, .f32⟩
  | 84 => ⟨S_, .f32⟩
  | 85 => ⟨S1024, .f32⟩
  | 86 => ⟨S1x1024, .f32⟩
  | 87 => ⟨S4112x1024, .f32⟩
  | 88 => ⟨S4112x1024, .f32⟩
  | 89 => ⟨S_, .f32⟩
  | 90 => ⟨S1024, .f32⟩
  | 91 => ⟨S4112x1024, .f32⟩
  | 92 => ⟨S_, .f32⟩
  | 93 => ⟨S4112, .f32⟩
  | 94 => ⟨S4112x1, .f32⟩
  | 95 => ⟨S4112x1024, .f32⟩
  | 96 => ⟨S4112x1024, .f32⟩
  | 97 => ⟨S4112x1, .f32⟩
  | 98 => ⟨S4112x1024, .f32⟩
  | 99 => ⟨S_, .f32⟩
  | 100 => ⟨S4112, .f32⟩
  | 101 => ⟨S4112x1, .f32⟩
  | 102 => ⟨S_, .f32⟩
  | 103 => ⟨S4112x1, .f32⟩
  | 104 => ⟨S4112x1, .f32⟩
  | 105 => ⟨S_, .f32⟩
  | 106 => ⟨S4112, .f32⟩
  | 107 => ⟨S4112x1024, .f32⟩
  | 108 => ⟨S4112x1024, .f32⟩
  | 109 => ⟨S4112x1024, .f32⟩
  | 110 => ⟨S_, .f32⟩
  | 111 => ⟨S4112, .f32⟩
  | 112 => ⟨S4112x1, .f32⟩
  | 113 => ⟨S4112x1024, .f32⟩
  | 114 => ⟨S4112x1, .f32⟩
  | 115 => ⟨S_, .f32⟩
  | 116 => ⟨S4112x1, .f32⟩
  | 117 => ⟨S4112x1, .f32⟩
  | 118 => ⟨S_, .f32⟩
  | 119 => ⟨S4112, .f32⟩
  | 120 => ⟨S4112x1024, .f32⟩
  | 121 => ⟨S4112x1024, .f32⟩
  | 122 => ⟨S1024x1024, .f32⟩
  | 123 => ⟨S1024x1024, .f32⟩
  | 124 => ⟨S4112x1024, .f32⟩
  | 125 => ⟨S_, .f32⟩
  | 126 => ⟨S4112x1024, .f32⟩
  | 127 => ⟨S4112x1024, .f32⟩
  | _ => ⟨S4160x1024, .f32⟩

abbrev hbmTy0_1 (i : Nat) : BufTy := match i % 128 with
  | 0 => ⟨S_, .f32⟩
  | 1 => ⟨S4160x1024, .f32⟩
  | 2 => ⟨S4112x3x1024, .f32⟩
  | 3 => ⟨S4112x3x1024, .f32⟩
  | 4 => ⟨S4112x3x1024, .f32⟩
  | 5 => ⟨S4112x3x1024, .f32⟩
  | 6 => ⟨S_, .f32⟩
  | 7 => ⟨S3x1024, .f32⟩
  | 8 => ⟨S1x3x1024, .f32⟩
  | 9 => ⟨S_, .f32⟩
  | 10 => ⟨S3x1024, .f32⟩
  | 11 => ⟨S4112x3072, .f32⟩
  | 12 => ⟨S_, .f32⟩
  | 13 => ⟨S4160x3072, .f32⟩
  | 14 => ⟨S_, .f32⟩
  | 15 => ⟨S4160x3x1024, .f32⟩
  | 16 => ⟨S4160x1x1024, .f32⟩
  | 17 => ⟨S4160x1024, .f32⟩
  | 18 => ⟨S4160x1x1024, .f32⟩
  | 19 => ⟨S4160x1024, .f32⟩
  | 20 => ⟨S4160x1x1024, .f32⟩
  | 21 => ⟨S4160x1024, .f32⟩
  | 22 => ⟨S1x3072, .f32⟩
  | 23 => ⟨S1x1024, .f32⟩
  | 24 => ⟨S1x1024, .f32⟩
  | _ => ⟨S4160x1024, .f32⟩

abbrev hbmTy (i : Nat) : BufTy := match i / 128 with
  | 0 => hbmTy0_0 i
  | 1 => hbmTy0_1 i
  | _ => ⟨S4160x1024, .f32⟩

abbrev bufTy : (tb : Table) → Fin (tcTables nBuf tb) → BufTy
  | .hbm, ⟨i, _⟩ => hbmTy i
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_16 : Ref sig .tc := ⟨.hbm, 99, rfl⟩
abbrev main_v72 : Ref sig .tc := ⟨.hbm, 100, rfl⟩
abbrev main_v73 : Ref sig .tc := ⟨.hbm, 101, rfl⟩
abbrev main_cst_17 : Ref sig .tc := ⟨.hbm, 102, rfl⟩
abbrev main_v74 : Ref sig .tc := ⟨.hbm, 103, rfl⟩
abbrev main_v75 : Ref sig .tc := ⟨.hbm, 104, rfl⟩
abbrev main_cst_18 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_19 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_20 : Ref sig .tc := ⟨.hbm, 115, rfl⟩
abbrev main_v84 : Ref sig .tc := ⟨.hbm, 116, rfl⟩
abbrev main_v85 : Ref sig .tc := ⟨.hbm, 117, rfl⟩
abbrev main_cst_21 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_22 : Ref sig .tc := ⟨.hbm, 125, rfl⟩
abbrev main_v92 : Ref sig .tc := ⟨.hbm, 126, rfl⟩
abbrev main_v93 : Ref sig .tc := ⟨.hbm, 127, rfl⟩
abbrev main_cst_23 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_24 : Ref sig .tc := ⟨.hbm, 134, rfl⟩
abbrev main_v99 : Ref sig .tc := ⟨.hbm, 135, rfl⟩
abbrev main_v100 : Ref sig .tc := ⟨.hbm, 136, rfl⟩
abbrev main_cst_25 : Ref sig .tc := ⟨.hbm, 137, rfl⟩
abbrev main_v101 : Ref sig .tc := ⟨.hbm, 138, rfl⟩
abbrev main_v102 : Ref sig .tc := ⟨.hbm, 139, rfl⟩
abbrev main_cst_26 : Ref sig .tc := ⟨.hbm, 140, rfl⟩
abbrev main_v103 : Ref sig .tc := ⟨.hbm, 141, rfl⟩
abbrev main_cst_27 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩

abbrev nD : Nat := 1
abbrev τ : Topo := Topo.v7x

variable {F : FTy → Type} [FloatOps F]
-- ==== InDa.lean ====
abbrev S1024x9752 : Shape := ⟨2, ![1024, 9752]⟩
abbrev S4160x768 : Shape := ⟨2, ![4160, 768]⟩
abbrev S4160x1280 : Shape := ⟨2, ![4160, 1280]⟩
abbrev S4160x2304 : Shape := ⟨2, ![4160, 2304]⟩
abbrev S4160x3072 : Shape := ⟨2, ![4160, 3072]⟩
abbrev S4160x128 : Shape := ⟨2, ![4160, 128]⟩
abbrev S1024x768 : Shape := ⟨2, ![1024, 768]⟩
abbrev S1024x1280 : Shape := ⟨2, ![1024, 1280]⟩
abbrev S1024x12 : Shape := ⟨2, ![1024, 12]⟩
abbrev S1024x2304 : Shape := ⟨2, ![1024, 2304]⟩
abbrev S1024x6 : Shape := ⟨2, ![1024, 6]⟩
abbrev S1024x3072 : Shape := ⟨2, ![1024, 3072]⟩
abbrev S1024x24 : Shape := ⟨2, ![1024, 24]⟩
abbrev S_ : Shape := ⟨0, ![]⟩
abbrev S1024x128 : Shape := ⟨2, ![1024, 128]⟩
abbrev S4160x1024 : Shape := ⟨2, ![4160, 1024]⟩
abbrev S208x768 : Shape := ⟨2, ![208, 768]⟩
abbrev S208x1280 : Shape := ⟨2, ![208, 1280]⟩
abbrev S208x2304 : Shape := ⟨2, ![208, 2304]⟩
abbrev S208x3072 : Shape := ⟨2, ![208, 3072]⟩
abbrev S208x128 : Shape := ⟨2, ![208, 128]⟩
abbrev S208x1024 : Shape := ⟨2, ![208, 1024]⟩

abbrev nBuf : Space → Nat
  | .hbm => 34
  | .vmem => 26
  | .smem => 0
  | _ => 0

abbrev bufTy : (tb : Table) → Fin (tcTables nBuf tb) → BufTy
  | .hbm, ⟨0, _⟩ => ⟨S1024x9752, .f32⟩
  | .hbm, ⟨1, _⟩ => ⟨S4160x768, .f32⟩
  | .hbm, ⟨2, _⟩ => ⟨S4160x768, .f32⟩
  | .hbm, ⟨3, _⟩ => ⟨S4160x1280, .f32⟩
  | .hbm, ⟨4, _⟩ => ⟨S4160x768, .f32⟩
  | .hbm, ⟨5, _⟩ => ⟨S4160x2304, .f32⟩
  | .hbm, ⟨6, _⟩ => ⟨S4160x768, .f32⟩
  | .hbm, ⟨7, _⟩ => ⟨S4160x3072, .f32⟩
  | .hbm, ⟨8, _⟩ => ⟨S4160x128, .f32⟩
  | .hbm, ⟨9, _⟩ => ⟨S1024x9752, .bf16⟩
  | .hbm, ⟨10, _⟩ => ⟨S1024x768, .bf16⟩
  | .hbm, ⟨11, _⟩ => ⟨S1024x9752, .bf16⟩
  | .hbm, ⟨12, _⟩ => ⟨S1024x768, .bf16⟩
  | .hbm, ⟨13, _⟩ => ⟨S1024x9752, .bf16⟩
  | .hbm, ⟨14, _⟩ => ⟨S1024x1280, .bf16⟩
  | .hbm, ⟨15, _⟩ => ⟨S1024x9752, .bf16⟩
  | .hbm, ⟨16, _⟩ => ⟨S1024x12, .bf16⟩
  | .hbm, ⟨17, _⟩ => ⟨S1024x9752, .bf16⟩
  | .hbm, ⟨18, _⟩ => ⟨S1024x768, .bf16⟩
  | .hbm, ⟨19, _⟩ => ⟨S1024x9752, .bf16⟩
  | .hbm, ⟨20, _⟩ => ⟨S1024x2304, .bf16⟩
  | .hbm, ⟨21, _⟩ => ⟨S1024x9752, .bf16⟩
  | .hbm, ⟨22, _⟩ => ⟨S1024x6, .bf16⟩
  | .hbm, ⟨23, _⟩ => ⟨S1024x9752, .bf16⟩
  | .hbm, ⟨24, _⟩ => ⟨S1024x6, .bf16⟩
  | .hbm, ⟨25, _⟩ => ⟨S1024x9752, .bf16⟩
  | .hbm, ⟨26, _⟩ => ⟨S1024x768, .bf16⟩
  | .hbm, ⟨27, _⟩ => ⟨S1024x9752, .bf16⟩
  | .hbm, ⟨28, _⟩ => ⟨S1024x3072, .bf16⟩
  | .hbm, ⟨29, _⟩ => ⟨S1024x24, .bf16⟩
  | .hbm, ⟨30, _⟩ => ⟨S_, .i32⟩
  | .hbm, ⟨31, _⟩ => ⟨S_, .bf16⟩
  | .hbm, ⟨32, _⟩ => ⟨S1024x128, .bf16⟩
  | .hbm, ⟨33, _⟩ => ⟨S4160x1024, .f32⟩
  | .local _ .vmem, ⟨0, _⟩ => ⟨S208x768, .f32⟩
  | .local _ .vmem, ⟨1, _⟩ => ⟨S208x768, .f32⟩
  | .local _ .vmem, ⟨2, _⟩ => ⟨S208x768, .f32⟩
  | .local _ .vmem, ⟨3, _⟩ => ⟨S208x768, .f32⟩
  | .local _ .vmem, ⟨4, _⟩ => ⟨S208x1280, .f32⟩
  | .local _ .vmem, ⟨5, _⟩ => ⟨S208x1280, .f32⟩
  | .local _ .vmem, ⟨6, _⟩ => ⟨S208x768, .f32⟩
  | .local _ .vmem, ⟨7, _⟩ => ⟨S208x768, .f32⟩
  | .local _ .vmem, ⟨8, _⟩ => ⟨S208x2304, .f32⟩
  | .local _ .vmem, ⟨9, _⟩ => ⟨S208x2304, .f32⟩
  | .local _ .vmem, ⟨10, _⟩ => ⟨S208x768, .f32⟩
  | .local _ .vmem, ⟨11, _⟩ => ⟨S208x768, .f32⟩
  | .local _ .vmem, ⟨12, _⟩ => ⟨S208x3072, .f32⟩
  | .local _ .vmem, ⟨13, _⟩ => ⟨S208x3072, .f32⟩
  | .local _ .vmem, ⟨14, _⟩ => ⟨S208x128, .f32⟩
  | .local _ .vmem, ⟨15, _⟩ => ⟨S208x128, .f32⟩
  | .local _ .vmem, ⟨16, _⟩ => ⟨S1024x768, .bf16⟩
  | .local _ .vmem, ⟨17, _⟩ => ⟨S1024x768, .bf16⟩
  | .local _ .vmem, ⟨18, _⟩ => ⟨S1024x1280, .bf16⟩
  | .local _ .vmem, ⟨19, _⟩ => ⟨S1024x768, .bf16⟩
  | .local _ .vmem, ⟨20, _⟩ => ⟨S1024x2304, .bf16⟩
  | .local _ .vmem, ⟨21, _⟩ => ⟨S1024x768, .bf16⟩
  | .local _ .vmem, ⟨22, _⟩ => ⟨S1024x3072, .bf16⟩
  | .local _ .vmem, ⟨23, _⟩ => ⟨S1024x128, .bf16⟩
  | .local _ .vmem, ⟨24, _⟩ => ⟨S208x1024, .f32⟩
  | .local _ .vmem, ⟨25, _⟩ => ⟨S208x1024, .f32⟩
  | _, _ => ⟨S1024x9752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1280 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2304 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x3072 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S208x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InDaRefIdeal.lean ====
abbrev S1024x9752 : Shape := ⟨2, ![1024, 9752]⟩
abbrev S4160x768 : Shape := ⟨2, ![4160, 768]⟩
abbrev S4160x1280 : Shape := ⟨2, ![4160, 1280]⟩
abbrev S4160x2304 : Shape := ⟨2, ![4160, 2304]⟩
abbrev S4160x3072 : Shape := ⟨2, ![4160, 3072]⟩
abbrev S4160x128 : Shape := ⟨2, ![4160, 128]⟩
abbrev S4160x12 : Shape := ⟨2, ![4160, 12]⟩
abbrev S4160x6 : Shape := ⟨2, ![4160, 6]⟩
abbrev S_ : Shape := ⟨0, ![]⟩
abbrev S4160x1024 : Shape := ⟨2, ![4160, 1024]⟩
abbrev S4160x9752 : Shape := ⟨2, ![4160, 9752]⟩

abbrev nBuf : Space → Nat
  | .hbm => 27
  | .vmem => 0
  | .smem => 0
  | _ => 0

abbrev bufTy : (tb : Table) → Fin (tcTables nBuf tb) → BufTy
  | .hbm, ⟨0, _⟩ => ⟨S1024x9752, .f32⟩
  | .hbm, ⟨1, _⟩ => ⟨S4160x768, .f32⟩
  | .hbm, ⟨2, _⟩ => ⟨S4160x768, .f32⟩
  | .hbm, ⟨3, _⟩ => ⟨S4160x1280, .f32⟩
  | .hbm, ⟨4, _⟩ => ⟨S4160x768, .f32⟩
  | .hbm, ⟨5, _⟩ => ⟨S4160x2304, .f32⟩
  | .hbm, ⟨6, _⟩ => ⟨S4160x768, .f32⟩
  | .hbm, ⟨7, _⟩ => ⟨S4160x3072, .f32⟩
  | .hbm, ⟨8, _⟩ => ⟨S4160x128, .f32⟩
  | .hbm, ⟨9, _⟩ => ⟨S4160x12, .f32⟩
  | .hbm, ⟨10, _⟩ => ⟨S4160x6, .f32⟩
  | .hbm, ⟨11, _⟩ => ⟨S4160x6, .f32⟩
  | .hbm, ⟨12, _⟩ => ⟨S_, .f32⟩
  | .hbm, ⟨13, _⟩ => ⟨S4160x1024, .f32⟩
  | .hbm, ⟨14, _⟩ => ⟨S4160x9752, .f32⟩
  | .hbm, ⟨15, _⟩ => ⟨S4160x768, .f32⟩
  | .hbm, ⟨16, _⟩ => ⟨S4160x768, .f32⟩
  | .hbm, ⟨17, _⟩ => ⟨S4160x1280, .f32⟩
  | .hbm, ⟨18, _⟩ => ⟨S4160x12, .f32⟩
  | .hbm, ⟨19, _⟩ => ⟨S4160x768, .f32⟩
  | .hbm, ⟨20, _⟩ => ⟨S4160x2304, .f32⟩
  | .hbm, ⟨21, _⟩ => ⟨S4160x6, .f32⟩
  | .hbm, ⟨22, _⟩ => ⟨S4160x6, .f32⟩
  | .hbm, ⟨23, _⟩ => ⟨S4160x768, .f32⟩
  | .hbm, ⟨24, _⟩ => ⟨S4160x3072, .f32⟩
  | .hbm, ⟨25, _⟩ => ⟨S4160x9752, .f32⟩
  | .hbm, ⟨26, _⟩ => ⟨S4160x1024, .f32⟩
  | _, _ => ⟨S1024x9752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== InFwd.lean ====
abbrev S4160x1024 : Shape := ⟨2, ![4160, 1024]⟩
abbrev S1024x9752 : Shape := ⟨2, ![1024, 9752]⟩
abbrev S1024x768 : Shape := ⟨2, ![1024, 768]⟩
abbrev S1024x1280 : Shape := ⟨2, ![1024, 1280]⟩
abbrev S1024x12 : Shape := ⟨2, ![1024, 12]⟩
abbrev S1024x2304 : Shape := ⟨2, ![1024, 2304]⟩
abbrev S1024x6 : Shape := ⟨2, ![1024, 6]⟩
abbrev S1024x3072 : Shape := ⟨2, ![1024, 3072]⟩
abbrev S1024x24 : Shape := ⟨2, ![1024, 24]⟩
abbrev S_ : Shape := ⟨0, ![]⟩
abbrev S1024x128 : Shape := ⟨2, ![1024, 128]⟩
abbrev S4160x768 : Shape := ⟨2, ![4160, 768]⟩
abbrev S4160x1280 : Shape := ⟨2, ![4160, 1280]⟩
abbrev S4160x2304 : Shape := ⟨2, ![4160, 2304]⟩
abbrev S4160x3072 : Shape := ⟨2, ![4160, 3072]⟩
abbrev S4160x128 : Shape := ⟨2, ![4160, 128]⟩
abbrev S208x1024 : Shape := ⟨2, ![208, 1024]⟩
abbrev S208x768 : Shape := ⟨2, ![208, 768]⟩
abbrev S208x1280 : Shape := ⟨2, ![208, 1280]⟩
abbrev S208x2304 : Shape := ⟨2, ![208, 2304]⟩
abbrev S208x3072 : Shape := ⟨2, ![208, 3072]⟩
abbrev S208x128 : Shape := ⟨2, ![208, 128]⟩

abbrev nBuf : Space → Nat
  | .hbm => 51
  | .vmem => 26
  | .smem => 0
  | _ => 0

abbrev bufTy : (tb : Table) → Fin (tcTables nBuf tb) → BufTy
  | .hbm, ⟨0, _⟩ => ⟨S4160x1024, .f32⟩
  | .hbm, ⟨1, _⟩ => ⟨S1024x9752, .f32⟩
  | .hbm, ⟨2, _⟩ => ⟨S1024x9752, .bf16⟩
  | .hbm, ⟨3, _⟩ => ⟨S1024x768, .bf16⟩
  | .hbm, ⟨4, _⟩ => ⟨S1024x9752, .bf16⟩
  | .hbm, ⟨5, _⟩ => ⟨S1024x768, .bf16⟩
  | .hbm, ⟨6, _⟩ => ⟨S1024x9752, .bf16⟩
  | .hbm, ⟨7, _⟩ => ⟨S1024x1280, .bf16⟩
  | .hbm, ⟨8, _⟩ => ⟨S1024x9752, .bf16⟩
  | .hbm, ⟨9, _⟩ => ⟨S1024x12, .bf16⟩
  | .hbm, ⟨10, _⟩ => ⟨S1024x9752, .bf16⟩
  | .hbm, ⟨11, _⟩ => ⟨S1024x768, .bf16⟩
  | .hbm, ⟨12, _⟩ => ⟨S1024x9752, .bf16⟩
  | .hbm, ⟨13, _⟩ => ⟨S1024x2304, .bf16⟩
  | .hbm, ⟨14, _⟩ => ⟨S1024x9752, .bf16⟩
  | .hbm, ⟨15, _⟩ => ⟨S1024x6, .bf16⟩
  | .hbm, ⟨16, _⟩ => ⟨S1024x9752, .bf16⟩
  | .hbm, ⟨17, _⟩ => ⟨S1024x6, .bf16⟩
  | .hbm, ⟨18, _⟩ => ⟨S1024x9752, .bf16⟩
  | .hbm, ⟨19, _⟩ => ⟨S1024x768, .bf16⟩
  | .hbm, ⟨20, _⟩ => ⟨S1024x9752, .bf16⟩
  | .hbm, ⟨21, _⟩ => ⟨S1024x3072, .bf16⟩
  | .hbm, ⟨22, _⟩ => ⟨S1024x24, .bf16⟩
  | .hbm, ⟨23, _⟩ => ⟨S_, .i32⟩
  | .hbm, ⟨24, _⟩ => ⟨S_, .bf16⟩
  | .hbm, ⟨25, _⟩ => ⟨S1024x128, .bf16⟩
  | .hbm, ⟨26, _⟩ => ⟨S4160x1024, .bf16⟩
  | .hbm, ⟨27, _⟩ => ⟨S_, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S_, .f32⟩
  | .hbm, ⟨32, _⟩ => ⟨S1024x1280, .f32⟩
  | .hbm, ⟨33, _⟩ => ⟨S_, .f32⟩
  | .hbm, ⟨34, _⟩ => ⟨S1024x768, .f32⟩
  | .hbm, ⟨35, _⟩ => ⟨S_, .f32⟩
  | .hbm, ⟨36, _⟩ => ⟨S1024x2304, .f32⟩
  | .hbm, ⟨37, _⟩ => ⟨S_, .f32⟩
  | .hbm, ⟨38, _⟩ => ⟨S1024x768, .f32⟩
  | .hbm, ⟨39, _⟩ => ⟨S_, .f32⟩
  | .hbm, ⟨40, _⟩ => ⟨S1024x3072, .f32⟩
  | .hbm, ⟨41, _⟩ => ⟨S_, .f32⟩
  | .hbm, ⟨42, _⟩ => ⟨S1024x128, .f32⟩
  | .hbm, ⟨43, _⟩ => ⟨S4160x768, .f32⟩
  | .hbm, ⟨44, _⟩ => ⟨S4160x768, .f32⟩
  | .hbm, ⟨45, _⟩ => ⟨S4160x1280, .f32⟩
  | .hbm, ⟨46, _⟩ => ⟨S4160x768, .f32⟩
  | .hbm, ⟨47, _⟩ => ⟨S4160x2304, .f32⟩
  | .hbm, ⟨48, _⟩ => ⟨S4160x768, .f32⟩
  | .hbm, ⟨49, _⟩ => ⟨S4160x3072, .f32⟩
  | .hbm, ⟨50, _⟩ => ⟨S4160x128, .f32⟩
  | .local _ .vmem, ⟨0, _⟩ => ⟨S208x1024, .bf16⟩
  | .local _ .vmem, ⟨1, _⟩ => ⟨S208x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x1280, .bf16⟩
  | .local _ .vmem, ⟨5, _⟩ => ⟨S1024x768, .bf16⟩
  | .local _ .vmem, ⟨6, _⟩ => ⟨S1024x2304, .bf16⟩
  | .local _ .vmem, ⟨7, _⟩ => ⟨S1024x768, .bf16⟩
  | .local _ .vmem, ⟨8, _⟩ => ⟨S1024x3072, .bf16⟩
  | .local _ .vmem, ⟨9, _⟩ => ⟨S1024x128, .bf16⟩
  | .local _ .vmem, ⟨10, _⟩ => ⟨S208x768, .f32⟩
  | .local _ .vmem, ⟨11, _⟩ => ⟨S208x768, .f32⟩
  | .local _ .vmem, ⟨12, _⟩ => ⟨S208x768, .f32⟩
  | .local _ .vmem, ⟨13, _⟩ => ⟨S208x768, .f32⟩
  | .local _ .vmem, ⟨14, _⟩ => ⟨S208x1280, .f32⟩
  | .local _ .vmem, ⟨15, _⟩ => ⟨S208x1280, .f32⟩
  | .local _ .vmem, ⟨16, _⟩ => ⟨S208x768, .f32⟩
  | .local _ .vmem, ⟨17, _⟩ => ⟨S208x768, .f32⟩
  | .local _ .vmem, ⟨18, _⟩ => ⟨S208x2304, .f32⟩
  | .local _ .vmem, ⟨19, _⟩ => ⟨S208x2304, .f32⟩
  | .local _ .vmem, ⟨20, _⟩ => ⟨S208x768, .f32⟩
  | .local _ .vmem, ⟨21, _⟩ => ⟨S208x768, .f32⟩
  | .local _ .vmem, ⟨22, _⟩ => ⟨S208x3072, .f32⟩
  | .local _ .vmem, ⟨23, _⟩ => ⟨S208x3072, .f32⟩
  | .local _ .vmem, ⟨24, _⟩ => ⟨S208x128, .f32⟩
  | .local _ .vmem, ⟨25, _⟩ => ⟨S208x128, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_c : Ref sig .tc := ⟨.hbm, 23, rfl⟩
abbrev main_call0_v0 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev main_v31_5 : Ref sig .tc := ⟨.hbm, 48, rfl⟩
abbrev main_v31_6 : Ref sig .tc := ⟨.hbm, 49, rfl⟩
abbrev main_v31_7 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S208x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S208x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S208x1280 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S208x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S208x2304 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S208x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S208x3072 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S208x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InFwdRefIdeal.lean ====
abbrev S4160x1024 : Shape := ⟨2, ![4160, 1024]⟩
abbrev S1024x9752 : Shape := ⟨2, ![1024, 9752]⟩
abbrev S4160x9752 : Shape := ⟨2, ![4160, 9752]⟩
abbrev S4160x768 : Shape := ⟨2, ![4160, 768]⟩
abbrev S4160x1280 : Shape := ⟨2, ![4160, 1280]⟩
abbrev S4160x12 : Shape := ⟨2, ![4160, 12]⟩
abbrev S4160x2304 : Shape := ⟨2, ![4160, 2304]⟩
abbrev S4160x6 : Shape := ⟨2, ![4160, 6]⟩
abbrev S4160x3072 : Shape := ⟨2, ![4160, 3072]⟩
abbrev S4160x24 : Shape := ⟨2, ![4160, 24]⟩
abbrev S_ : Shape := ⟨0, ![]⟩
abbrev S4160x128 : Shape := ⟨2, ![4160, 128]⟩

abbrev nBuf : Space → Nat
  | .hbm => 17
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024x9752, .f32⟩
  | .hbm, ⟨2, _⟩ => ⟨S4160x9752, .f32⟩
  | .hbm, ⟨3, _⟩ => ⟨S4160x768, .f32⟩
  | .hbm, ⟨4, _⟩ => ⟨S4160x768, .f32⟩
  | .hbm, ⟨5, _⟩ => ⟨S4160x1280, .f32⟩
  | .hbm, ⟨6, _⟩ => ⟨S4160x12, .f32⟩
  | .hbm, ⟨7, _⟩ => ⟨S4160x768, .f32⟩
  | .hbm, ⟨8, _⟩ => ⟨S4160x2304, .f32⟩
  | .hbm, ⟨9, _⟩ => ⟨S4160x6, .f32⟩
  | .hbm, ⟨10, _⟩ => ⟨S4160x6, .f32⟩
  | .hbm, ⟨11, _⟩ => ⟨S4160x768, .f32⟩
  | .hbm, ⟨12, _⟩ => ⟨S4160x3072, .f32⟩
  | .hbm, ⟨13, _⟩ => ⟨S4160x24, .f32⟩
  | .hbm, ⟨14, _⟩ => ⟨S_, .i32⟩
  | .hbm, ⟨15, _⟩ => ⟨S_, .f32⟩
  | .hbm, ⟨16, _⟩ => ⟨S4160x128, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DbGate.lean ====
abbrev S4160x1024 : Shape := ⟨2, ![4160, 1024]⟩
abbrev S4160x3072 : Shape := ⟨2, ![4160, 3072]⟩
abbrev S1x1024x3072 : Shape := ⟨3, ![1, 1024, 3072]⟩
abbrev S416x1024 : Shape := ⟨2, ![416, 1024]⟩
abbrev S416x3072 : Shape := ⟨2, ![416, 3072]⟩
abbrev S1024x3072 : Shape := ⟨2, ![1024, 3072]⟩

abbrev nBuf : Space → Nat
  | .hbm => 4
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S4160x3072, .f32⟩
  | .hbm, ⟨2, _⟩ => ⟨S4160x1024, .bf16⟩
  | .hbm, ⟨3, _⟩ => ⟨S1x1024x3072, .f32⟩
  | .local _ .vmem, ⟨0, _⟩ => ⟨S416x1024, .bf16⟩
  | .local _ .vmem, ⟨1, _⟩ => ⟨S416x1024, .bf16⟩
  | .local _ .vmem, ⟨2, _⟩ => ⟨S416x3072, .f32⟩
  | .local _ .vmem, ⟨3, _⟩ => ⟨S416x3072, .f32⟩
  | .local _ .vmem, ⟨4, _⟩ => ⟨S1x1024x3072, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 10], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S416x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S416x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== DbGateRefIdeal.lean ====
abbrev S4160x1024 : Shape := ⟨2, ![4160, 1024]⟩
abbrev S4160x3072 : Shape := ⟨2, ![4160, 3072]⟩
abbrev S_ : Shape := ⟨0, ![]⟩
abbrev S1024x3072 : Shape := ⟨2, ![1024, 3072]⟩
abbrev S3072x1024 : Shape := ⟨2, ![3072, 1024]⟩
abbrev S1x1024x3072 : Shape := ⟨3, ![1, 1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x3072, .f32⟩
  | .hbm, ⟨2, _⟩ => ⟨S_, .f32⟩
  | .hbm, ⟨3, _⟩ => ⟨S1024x3072, .f32⟩
  | .hbm, ⟨4, _⟩ => ⟨S4160x3072, .f32⟩
  | .hbm, ⟨5, _⟩ => ⟨S3072x1024, .f32⟩
  | .hbm, ⟨6, _⟩ => ⟨S1024x3072, .f32⟩
  | .hbm, ⟨7, _⟩ => ⟨S1x1024x3072, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DbQkv.lean ====
abbrev S4160x1024 : Shape := ⟨2, ![4160, 1024]⟩
abbrev S4160x2304 : Shape := ⟨2, ![4160, 2304]⟩
abbrev S1x1024x2304 : Shape := ⟨3, ![1, 1024, 2304]⟩
abbrev S416x1024 : Shape := ⟨2, ![416, 1024]⟩
abbrev S416x2304 : Shape := ⟨2, ![416, 2304]⟩
abbrev S1024x2304 : Shape := ⟨2, ![1024, 2304]⟩

abbrev nBuf : Space → Nat
  | .hbm => 4
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S4160x2304, .f32⟩
  | .hbm, ⟨2, _⟩ => ⟨S4160x1024, .bf16⟩
  | .hbm, ⟨3, _⟩ => ⟨S1x1024x2304, .f32⟩
  | .local _ .vmem, ⟨0, _⟩ => ⟨S416x1024, .bf16⟩
  | .local _ .vmem, ⟨1, _⟩ => ⟨S416x1024, .bf16⟩
  | .local _ .vmem, ⟨2, _⟩ => ⟨S416x2304, .f32⟩
  | .local _ .vmem, ⟨3, _⟩ => ⟨S416x2304, .f32⟩
  | .local _ .vmem, ⟨4, _⟩ => ⟨S1x1024x2304, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 10], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S416x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S416x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x1024x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== DbQkvRefIdeal.lean ====
abbrev S4160x1024 : Shape := ⟨2, ![4160, 1024]⟩
abbrev S4160x2304 : Shape := ⟨2, ![4160, 2304]⟩
abbrev S_ : Shape := ⟨0, ![]⟩
abbrev S1024x2304 : Shape := ⟨2, ![1024, 2304]⟩
abbrev S2304x1024 : Shape := ⟨2, ![2304, 1024]⟩
abbrev S1x1024x2304 : Shape := ⟨3, ![1, 1024, 2304]⟩

abbrev nBuf : Space → Nat
  | .hbm => 8
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x2304, .f32⟩
  | .hbm, ⟨2, _⟩ => ⟨S_, .f32⟩
  | .hbm, ⟨3, _⟩ => ⟨S1024x2304, .f32⟩
  | .hbm, ⟨4, _⟩ => ⟨S4160x2304, .f32⟩
  | .hbm, ⟨5, _⟩ => ⟨S2304x1024, .f32⟩
  | .hbm, ⟨6, _⟩ => ⟨S1024x2304, .f32⟩
  | .hbm, ⟨7, _⟩ => ⟨S1x1024x2304, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DbXbc.lean ====
abbrev S4160x1024 : Shape := ⟨2, ![4160, 1024]⟩
abbrev S4160x1280 : Shape := ⟨2, ![4160, 1280]⟩
abbrev S1x1024x1280 : Shape := ⟨3, ![1, 1024, 1280]⟩
abbrev S832x1024 : Shape := ⟨2, ![832, 1024]⟩
abbrev S832x1280 : Shape := ⟨2, ![832, 1280]⟩
abbrev S1024x1280 : Shape := ⟨2, ![1024, 1280]⟩

abbrev nBuf : Space → Nat
  | .hbm => 4
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S4160x1280, .f32⟩
  | .hbm, ⟨2, _⟩ => ⟨S4160x1024, .bf16⟩
  | .hbm, ⟨3, _⟩ => ⟨S1x1024x1280, .f32⟩
  | .local _ .vmem, ⟨0, _⟩ => ⟨S832x1024, .bf16⟩
  | .local _ .vmem, ⟨1, _⟩ => ⟨S832x1024, .bf16⟩
  | .local _ .vmem, ⟨2, _⟩ => ⟨S832x1280, .f32⟩
  | .local _ .vmem, ⟨3, _⟩ => ⟨S832x1280, .f32⟩
  | .local _ .vmem, ⟨4, _⟩ => ⟨S1x1024x1280, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 5], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S832x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x1024x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== DbXbcRefIdeal.lean ====
abbrev S4160x1024 : Shape := ⟨2, ![4160, 1024]⟩
abbrev S4160x1280 : Shape := ⟨2, ![4160, 1280]⟩
abbrev S_ : Shape := ⟨0, ![]⟩
abbrev S1024x1280 : Shape := ⟨2, ![1024, 1280]⟩
abbrev S1280x1024 : Shape := ⟨2, ![1280, 1024]⟩
abbrev S1x1024x1280 : Shape := ⟨3, ![1, 1024, 1280]⟩

abbrev nBuf : Space → Nat
  | .hbm => 8
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1280, .f32⟩
  | .hbm, ⟨2, _⟩ => ⟨S_, .f32⟩
  | .hbm, ⟨3, _⟩ => ⟨S1024x1280, .f32⟩
  | .hbm, ⟨4, _⟩ => ⟨S4160x1280, .f32⟩
  | .hbm, ⟨5, _⟩ => ⟨S1280x1024, .f32⟩
  | .hbm, ⟨6, _⟩ => ⟨S1024x1280, .f32⟩
  | .hbm, ⟨7, _⟩ => ⟨S1x1024x1280, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DbS5u.lean ====
abbrev S4160x1024 : Shape := ⟨2, ![4160, 1024]⟩
abbrev S4160x768 : Shape := ⟨2, ![4160, 768]⟩
abbrev S1x1024x768 : Shape := ⟨3, ![1, 1024, 768]⟩
abbrev S832x1024 : Shape := ⟨2, ![832, 1024]⟩
abbrev S832x768 : Shape := ⟨2, ![832, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S4160x1024, .f32⟩
  | .hbm, ⟨1, _⟩ => ⟨S4160x768, .f32⟩
  | .hbm, ⟨2, _⟩ => ⟨S4160x1024, .bf16⟩
  | .hbm, ⟨3, _⟩ => ⟨S1x1024x768, .f32⟩
  | .local _ .vmem, ⟨0, _⟩ => ⟨S832x1024, .bf16⟩
  | .local _ .vmem, ⟨1, _⟩ => ⟨S832x1024, .bf16⟩
  | .local _ .vmem, ⟨2, _⟩ => ⟨S832x768, .f32⟩
  | .local _ .vmem, ⟨3, _⟩ => ⟨S832x768, .f32⟩
  | .local _ .vmem, ⟨4, _⟩ => ⟨S1x1024x768, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 5], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S832x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== DbS5uRefIdeal.lean ====
abbrev S4160x1024 : Shape := ⟨2, ![4160, 1024]⟩
abbrev S4160x768 : Shape := ⟨2, ![4160, 768]⟩
abbrev S_ : Shape := ⟨0, ![]⟩
abbrev S1024x768 : Shape := ⟨2, ![1024, 768]⟩
abbrev S768x1024 : Shape := ⟨2, ![768, 1024]⟩
abbrev S1x1024x768 : Shape := ⟨3, ![1, 1024, 768]⟩

abbrev nBuf : Space → Nat
  | .hbm => 8
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x768, .f32⟩
  | .hbm, ⟨2, _⟩ => ⟨S_, .f32⟩
  | .hbm, ⟨3, _⟩ => ⟨S1024x768, .f32⟩
  | .hbm, ⟨4, _⟩ => ⟨S4160x768, .f32⟩
  | .hbm, ⟨5, _⟩ => ⟨S768x1024, .f32⟩
  | .hbm, ⟨6, _⟩ => ⟨S1024x768, .f32⟩
  | .hbm, ⟨7, _⟩ => ⟨S1x1024x768, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== S5Tail.lean ====
abbrev S4160x768 : Shape := ⟨2, ![4160, 768]⟩
abbrev S768 : Shape := ⟨1, ![768]⟩
abbrev S768x768 : Shape := ⟨2, ![768, 768]⟩
abbrev S768x1024 : Shape := ⟨2, ![768, 1024]⟩
abbrev S4160x1024 : Shape := ⟨2, ![4160, 1024]⟩
abbrev S1x768 : Shape := ⟨2, ![1, 768]⟩
abbrev S208x768 : Shape := ⟨2, ![208, 768]⟩
abbrev S208x1024 : Shape := ⟨2, ![208, 1024]⟩

abbrev nBuf : Space → Nat
  | .hbm => 19
  | .vmem => 22
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S4160x768, .f32⟩
  | .hbm, ⟨3, _⟩ => ⟨S768, .f32⟩
  | .hbm, ⟨4, _⟩ => ⟨S768, .f32⟩
  | .hbm, ⟨5, _⟩ => ⟨S768x768, .f32⟩
  | .hbm, ⟨6, _⟩ => ⟨S768x1024, .f32⟩
  | .hbm, ⟨7, _⟩ => ⟨S4160x1024, .f32⟩
  | .hbm, ⟨8, _⟩ => ⟨S1x768, .f32⟩
  | .hbm, ⟨9, _⟩ => ⟨S1x768, .f32⟩
  | .hbm, ⟨10, _⟩ => ⟨S768x768, .bf16⟩
  | .hbm, ⟨11, _⟩ => ⟨S768x1024, .bf16⟩
  | .hbm, ⟨12, _⟩ => ⟨S4160x768, .f32⟩
  | .hbm, ⟨13, _⟩ => ⟨S4160x768, .f32⟩
  | .hbm, ⟨14, _⟩ => ⟨S4160x768, .f32⟩
  | .hbm, ⟨15, _⟩ => ⟨S1x768, .f32⟩
  | .hbm, ⟨16, _⟩ => ⟨S1x768, .f32⟩
  | .hbm, ⟨17, _⟩ => ⟨S768x768, .f32⟩
  | .hbm, ⟨18, _⟩ => ⟨S768x1024, .f32⟩
  | .local _ .vmem, ⟨0, _⟩ => ⟨S208x768, .f32⟩
  | .local _ .vmem, ⟨1, _⟩ => ⟨S208x768, .f32⟩
  | .local _ .vmem, ⟨2, _⟩ => ⟨S208x768, .f32⟩
  | .local _ .vmem, ⟨3, _⟩ => ⟨S208x768, .f32⟩
  | .local _ .vmem, ⟨4, _⟩ => ⟨S208x768, .f32⟩
  | .local _ .vmem, ⟨5, _⟩ => ⟨S208x768, .f32⟩
  | .local _ .vmem, ⟨6, _⟩ => ⟨S1x768, .f32⟩
  | .local _ .vmem, ⟨7, _⟩ => ⟨S1x768, .f32⟩
  | .local _ .vmem, ⟨8, _⟩ => ⟨S768x768, .bf16⟩
  | .local _ .vmem, ⟨9, _⟩ => ⟨S768x1024, .bf16⟩
  | .local _ .vmem, ⟨10, _⟩ => ⟨S208x1024, .f32⟩
  | .local _ .vmem, ⟨11, _⟩ => ⟨S208x1024, .f32⟩
  | .local _ .vmem, ⟨12, _⟩ => ⟨S208x768, .f32⟩
  | .local _ .vmem, ⟨13, _⟩ => ⟨S208x768, .f32⟩
  | .local _ .vmem, ⟨14, _⟩ => ⟨S208x768, .f32⟩
  | .local _ .vmem, ⟨15, _⟩ => ⟨S208x768, .f32⟩
  | .local _ .vmem, ⟨16, _⟩ => ⟨S208x768, .f32⟩
  | .local _ .vmem, ⟨17, _⟩ => ⟨S208x768, .f32⟩
  | .local _ .vmem, ⟨18, _⟩ => ⟨S1x768, .f32⟩
  | .local _ .vmem, ⟨19, _⟩ => ⟨S1x768, .f32⟩
  | .local _ .vmem, ⟨20, _⟩ => ⟨S768x768, .f32⟩
  | .local _ .vmem, ⟨21, _⟩ => ⟨S768x1024, .f32⟩
  | _, _ => ⟨S4160x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S208x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S208x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S208x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S208x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== S5TailRefIdeal.lean ====
abbrev S4160x768 : Shape := ⟨2, ![4160, 768]⟩
abbrev S768 : Shape := ⟨1, ![768]⟩
abbrev S768x768 : Shape := ⟨2, ![768, 768]⟩
abbrev S768x1024 : Shape := ⟨2, ![768, 1024]⟩
abbrev S4160x1024 : Shape := ⟨2, ![4160, 1024]⟩
abbrev S1x4160x768 : Shape := ⟨3, ![1, 4160, 768]⟩
abbrev S1x768 : Shape := ⟨2, ![1, 768]⟩
abbrev S_ : Shape := ⟨0, ![]⟩
abbrev S1024x768 : Shape := ⟨2, ![1024, 768]⟩

abbrev nBuf : Space → Nat
  | .hbm => 130
  | .vmem => 0
  | .smem => 0
  | _ => 0

abbrev hbmTy0_0 (i : Nat) : BufTy := match i % 128 with
  | 0 => ⟨S4160x768, .f32⟩
  | 1 => ⟨S4160x768, .f32⟩
  | 2 => ⟨S4160x768, .f32⟩
  | 3 => ⟨S768, .f32⟩
  | 4 => ⟨S768, .f32⟩
  | 5 => ⟨S768x768, .f32⟩
  | 6 => ⟨S768x1024, .f32⟩
  | 7 => ⟨S4160x1024, .f32⟩
  | 8 => ⟨S1x4160x768, .f32⟩
  | 9 => ⟨S1x4160x768, .f32⟩
  | 10 => ⟨S1x4160x768, .f32⟩
  | 11 => ⟨S4160x768, .f32⟩
  | 12 => ⟨S4160x768, .f32⟩
  | 13 => ⟨S4160x768, .f32⟩
  | 14 => ⟨S1x768, .f32⟩
  | 15 => ⟨S4160x768, .f32⟩
  | 16 => ⟨S4160x768, .f32⟩
  | 17 => ⟨S4160x768, .f32⟩
  | 18 => ⟨S4160x768, .f32⟩
  | 19 => ⟨S4160x768, .f32⟩
  | 20 => ⟨S4160x768, .f32⟩
  | 21 => ⟨S_, .f32⟩
  | 22 => ⟨S4160x768, .f32⟩
  | 23 => ⟨S4160x768, .f32⟩
  | 24 => ⟨S_, .f32⟩
  | 25 => ⟨S4160x768, .f32⟩
  | 26 => ⟨S4160x768, .f32⟩
  | 27 => ⟨S4160x768, .f32⟩
  | 28 => ⟨S_, .f32⟩
  | 29 => ⟨S4160x768, .f32⟩
  | 30 => ⟨S4160x768, .f32⟩
  | 31 => ⟨S4160x768, .f32⟩
  | 32 => ⟨S_, .f32⟩
  | 33 => ⟨S4160x768, .f32⟩
  | 34 => ⟨S4160x768, .f32⟩
  | 35 => ⟨S_, .f32⟩
  | 36 => ⟨S4160x768, .f32⟩
  | 37 => ⟨S4160x768, .f32⟩
  | 38 => ⟨S4160x768, .f32⟩
  | 39 => ⟨S_, .f32⟩
  | 40 => ⟨S4160x768, .f32⟩
  | 41 => ⟨S4160x768, .f32⟩
  | 42 => ⟨S_, .f32⟩
  | 43 => ⟨S4160x768, .f32⟩
  | 44 => ⟨S4160x768, .f32⟩
  | 45 => ⟨S4160x768, .f32⟩
  | 46 => ⟨S4160x768, .f32⟩
  | 47 => ⟨S1x768, .f32⟩
  | 48 => ⟨S4160x768, .f32⟩
  | 49 => ⟨S4160x768, .f32⟩
  | 50 => ⟨S4160x768, .f32⟩
  | 51 => ⟨S4160x768, .f32⟩
  | 52 => ⟨S_, .f32⟩
  | 53 => ⟨S4160x768, .f32⟩
  | 54 => ⟨S4160x768, .f32⟩
  | 55 => ⟨S_, .f32⟩
  | 56 => ⟨S4160x768, .f32⟩
  | 57 => ⟨S4160x768, .f32⟩
  | 58 => ⟨S_, .f32⟩
  | 59 => ⟨S4160x768, .f32⟩
  | 60 => ⟨S4160x768, .f32⟩
  | 61 => ⟨S4160x768, .f32⟩
  | 62 => ⟨S4160x768, .f32⟩
  | 63 => ⟨S4160x768, .f32⟩
  | 64 => ⟨S4160x768, .f32⟩
  | 65 => ⟨S_, .f32⟩
  | 66 => ⟨S4160x768, .f32⟩
  | 67 => ⟨S4160x768, .f32⟩
  | 68 => ⟨S_, .f32⟩
  | 69 => ⟨S4160x768, .f32⟩
  | 70 => ⟨S4160x768, .f32⟩
  | 71 => ⟨S_, .f32⟩
  | 72 => ⟨S4160x768, .f32⟩
  | 73 => ⟨S4160x768, .f32⟩
  | 74 => ⟨S4160x768, .f32⟩
  | 75 => ⟨S4160x768, .f32⟩
  | 76 => ⟨S4160x768, .f32⟩
  | 77 => ⟨S4160x1024, .f32⟩
  | 78 => ⟨S1024x768, .f32⟩
  | 79 => ⟨S768x1024, .f32⟩
  | 80 => ⟨S4160x768, .f32⟩
  | 81 => ⟨S4160x768, .f32⟩
  | 82 => ⟨S4160x768, .f32⟩
  | 83 => ⟨S4160x768, .f32⟩
  | 84 => ⟨S4160x768, .f32⟩
  | 85 => ⟨S4160x768, .f32⟩
  | 86 => ⟨S4160x768, .f32⟩
  | 87 => ⟨S4160x768, .f32⟩
  | 88 => ⟨S4160x768, .f32⟩
  | 89 => ⟨S4160x768, .f32⟩
  | 90 => ⟨S_, .f32⟩
  | 91 => ⟨S768, .f32⟩
  | 92 => ⟨S1x768, .f32⟩
  | 93 => ⟨S_, .f32⟩
  | 94 => ⟨S768, .f32⟩
  | 95 => ⟨S768x768, .f32⟩
  | 96 => ⟨S768x768, .f32⟩
  | 97 => ⟨S4160x768, .f32⟩
  | 98 => ⟨S4160x768, .f32⟩
  | 99 => ⟨S4160x768, .f32⟩
  | 100 => ⟨S4160x768, .f32⟩
  | 101 => ⟨S_, .f32⟩
  | 102 => ⟨S4160x768, .f32⟩
  | 103 => ⟨S4160x768, .f32⟩
  | 104 => ⟨S4160x768, .f32⟩
  | 105 => ⟨S_, .f32⟩
  | 106 => ⟨S4160x768, .f32⟩
  | 107 => ⟨S4160x768, .f32⟩
  | 108 => ⟨S4160x768, .f32⟩
  | 109 => ⟨S_, .f32⟩
  | 110 => ⟨S4160x768, .f32⟩
  | 111 => ⟨S4160x768, .f32⟩
  | 112 => ⟨S4160x768, .f32⟩
  | 113 => ⟨S4160x768, .f32⟩
  | 114 => ⟨S4160x768, .f32⟩
  | 115 => ⟨S4160x768, .f32⟩
  | 116 => ⟨S4160x768, .f32⟩
  | 117 => ⟨S_, .f32⟩
  | 118 => ⟨S768, .f32⟩
  | 119 => ⟨S1x768, .f32⟩
  | 120 => ⟨S_, .f32⟩
  | 121 => ⟨S768, .f32⟩
  | 122 => ⟨S1x4160x768, .f32⟩
  | 123 => ⟨S1x4160x768, .f32⟩
  | 124 => ⟨S1x4160x768, .f32⟩
  | 125 => ⟨S4160x768, .f32⟩
  | 126 => ⟨S4160x768, .f32⟩
  | 127 => ⟨S4160x768, .f32⟩
  | _ => ⟨S4160x768, .f32⟩

abbrev hbmTy0_1 (i : Nat) : BufTy := match i % 128 with
  | 0 => ⟨S1x768, .f32⟩
  | 1 => ⟨S1x768, .f32⟩
  | _ => ⟨S4160x768, .f32⟩

abbrev hbmTy (i : Nat) : BufTy := match i / 128 with
  | 0 => hbmTy0_0 i
  | 1 => hbmTy0_1 i
  | _ => ⟨S4160x768, .f32⟩

abbrev bufTy : (tb : Table) → Fin (tcTables nBuf tb) → BufTy
  | .hbm, ⟨i, _⟩ => hbmTy i
  | _, _ => ⟨S4160x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v45_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v45_1 : Ref sig .tc := ⟨.hbm, 74, rfl⟩
abbrev main_v45_0 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_9 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_11 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_12 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_14 : Ref sig .tc := ⟨.hbm, 117, rfl⟩
abbrev main_v79 : Ref sig .tc := ⟨.hbm, 118, rfl⟩
abbrev main_v80 : Ref sig .tc := ⟨.hbm, 119, rfl⟩
abbrev main_cst_15 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩

abbrev nD : Nat := 1
abbrev τ : Topo := Topo.v7x

variable {F : FTy → Type} [FloatOps F]
-- ==== AdamIn.lean ====
abbrev S4x4096x1219 : Shape := ⟨3, ![4, 4096, 1219]⟩
abbrev S4096x1219 : Shape := ⟨2, ![4096, 1219]⟩
abbrev S4x128x1219 : Shape := ⟨3, ![4, 128, 1219]⟩
abbrev S128x1219 : Shape := ⟨2, ![128, 1219]⟩
abbrev S1x128x1219 : Shape := ⟨3, ![1, 128, 1219]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x1219, .bf16⟩
  | .hbm, ⟨1, _⟩ => ⟨S4096x1219, .f32⟩
  | .hbm, ⟨2, _⟩ => ⟨S4096x1219, .f32⟩
  | .hbm, ⟨3, _⟩ => ⟨S4096x1219, .f32⟩
  | .hbm, ⟨4, _⟩ => ⟨S4096x1219, .f32⟩
  | .hbm, ⟨5, _⟩ => ⟨S4096x1219, .f32⟩
  | .hbm, ⟨6, _⟩ => ⟨S4096x1219, .f32⟩
  | .hbm, ⟨7, _⟩ => ⟨S4096x1219, .f32⟩
  | .local _ .vmem, ⟨0, _⟩ => ⟨S4x128x1219, .bf16⟩
  | .local _ .vmem, ⟨1, _⟩ => ⟨S4x128x1219, .bf16⟩
  | .local _ .vmem, ⟨2, _⟩ => ⟨S128x1219, .f32⟩
  | .local _ .vmem, ⟨3, _⟩ => ⟨S128x1219, .f32⟩
  | .local _ .vmem, ⟨4, _⟩ => ⟨S128x1219, .f32⟩
  | .local _ .vmem, ⟨5, _⟩ => ⟨S128x1219, .f32⟩
  | .local _ .vmem, ⟨6, _⟩ => ⟨S128x1219, .f32⟩
  | .local _ .vmem, ⟨7, _⟩ => ⟨S128x1219, .f32⟩
  | .local _ .vmem, ⟨8, _⟩ => ⟨S128x1219, .f32⟩
  | .local _ .vmem, ⟨9, _⟩ => ⟨S128x1219, .f32⟩
  | .local _ .vmem, ⟨10, _⟩ => ⟨S128x1219, .f32⟩
  | .local _ .vmem, ⟨11, _⟩ => ⟨S128x1219, .f32⟩
  | .local _ .vmem, ⟨12, _⟩ => ⟨S128x1219, .f32⟩
  | .local _ .vmem, ⟨13, _⟩ => ⟨S128x1219, .f32⟩
  | .local _ .vmem, ⟨14, _⟩ => ⟨S128x1219, .f32⟩
  | .local _ .vmem, ⟨15, _⟩ => ⟨S128x1219, .f32⟩
  | _, _ => ⟨S4x4096x1219, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1219 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1219 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1219 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1219 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1219 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1219 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1219 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1219 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4x4096x1219 : Shape := ⟨3, ![4, 4096, 1219]⟩
abbrev S4096x1219 : Shape := ⟨2, ![4096, 1219]⟩
abbrev S4x128x1219 : Shape := ⟨3, ![4, 128, 1219]⟩
abbrev S128x1219 : Shape := ⟨2, ![128, 1219]⟩
abbrev S1x128x1219 : Shape := ⟨3, ![1, 128, 1219]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x1219, .bf16⟩
  | .hbm, ⟨1, _⟩ => ⟨S4096x1219, .f32⟩
  | .hbm, ⟨2, _⟩ => ⟨S4096x1219, .f32⟩
  | .hbm, ⟨3, _⟩ => ⟨S4096x1219, .f32⟩
  | .hbm, ⟨4, _⟩ => ⟨S4096x1219, .f32⟩
  | .hbm, ⟨5, _⟩ => ⟨S4096x1219, .f32⟩
  | .hbm, ⟨6, _⟩ => ⟨S4096x1219, .f32⟩
  | .hbm, ⟨7, _⟩ => ⟨S4096x1219, .f32⟩
  | .local _ .vmem, ⟨0, _⟩ => ⟨S4x128x1219, .bf16⟩
  | .local _ .vmem, ⟨1, _⟩ => ⟨S4x128x1219, .bf16⟩
  | .local _ .vmem, ⟨2, _⟩ => ⟨S128x1219, .f32⟩
  | .local _ .vmem, ⟨3, _⟩ => ⟨S128x1219, .f32⟩
  | .local _ .vmem, ⟨4, _⟩ => ⟨S128x1219, .f32⟩
  | .local _ .vmem, ⟨5, _⟩ => ⟨S128x1219, .f32⟩
  | .local _ .vmem, ⟨6, _⟩ => ⟨S128x1219, .f32⟩
  | .local _ .vmem, ⟨7, _⟩ => ⟨S128x1219, .f32⟩
  | .local _ .vmem, ⟨8, _⟩ => ⟨S128x1219, .f32⟩
  | .local _ .vmem, ⟨9, _⟩ => ⟨S128x1219, .f32⟩
  | .local _ .vmem, ⟨10, _⟩ => ⟨S128x1219, .f32⟩
  | .local _ .vmem, ⟨11, _⟩ => ⟨S128x1219, .f32⟩
  | .local _ .vmem, ⟨12, _⟩ => ⟨S128x1219, .f32⟩
  | .local _ .vmem, ⟨13, _⟩ => ⟨S128x1219, .f32⟩
  | .local _ .vmem, ⟨14, _⟩ => ⟨S128x1219, .f32⟩
  | .local _ .vmem, ⟨15, _⟩ => ⟨S128x1219, .f32⟩
  | _, _ => ⟨S4x4096x1219, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1219 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1219 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1219 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1219 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1219 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1219 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1219 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1219 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4x4096x1219 : Shape := ⟨3, ![4, 4096, 1219]⟩
abbrev S4096x1219 : Shape := ⟨2, ![4096, 1219]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1219, .bf16⟩
  | .hbm, ⟨1, _⟩ => ⟨S4096x1219, .f32⟩
  | .hbm, ⟨2, _⟩ => ⟨S4096x1219, .f32⟩
  | .hbm, ⟨3, _⟩ => ⟨S4096x1219, .f32⟩
  | .hbm, ⟨4, _⟩ => ⟨S4x4096x1219, .f32⟩
  | .hbm, ⟨5, _⟩ => ⟨S_, .f32⟩
  | .hbm, ⟨6, _⟩ => ⟨S4096x1219, .f32⟩
  | .hbm, ⟨7, _⟩ => ⟨S_, .f32⟩
  | .hbm, ⟨8, _⟩ => ⟨S4096x1219, .f32⟩
  | .hbm, ⟨9, _⟩ => ⟨S4096x1219, .f32⟩
  | .hbm, ⟨10, _⟩ => ⟨S_, .f32⟩
  | .hbm, ⟨11, _⟩ => ⟨S4096x1219, .f32⟩
  | .hbm, ⟨12, _⟩ => ⟨S4096x1219, .f32⟩
  | .hbm, ⟨13, _⟩ => ⟨S4096x1219, .f32⟩
  | .hbm, ⟨14, _⟩ => ⟨S_, .f32⟩
  | .hbm, ⟨15, _⟩ => ⟨S4096x1219, .f32⟩
  | .hbm, ⟨16, _⟩ => ⟨S4096x1219, .f32⟩
  | .hbm, ⟨17, _⟩ => ⟨S4096x1219, .f32⟩
  | .hbm, ⟨18, _⟩ => ⟨S_, .f32⟩
  | .hbm, ⟨19, _⟩ => ⟨S4096x1219, .f32⟩
  | .hbm, ⟨20, _⟩ => ⟨S4096x1219, .f32⟩
  | .hbm, ⟨21, _⟩ => ⟨S4096x1219, .f32⟩
  | .hbm, ⟨22, _⟩ => ⟨S_, .f32⟩
  | .hbm, ⟨23, _⟩ => ⟨S4096x1219, .f32⟩
  | .hbm, ⟨24, _⟩ => ⟨S4096x1219, .f32⟩
  | .hbm, ⟨25, _⟩ => ⟨S_, .f32⟩
  | .hbm, ⟨26, _⟩ => ⟨S4096x1219, .f32⟩
  | .hbm, ⟨27, _⟩ => ⟨S4096x1219, .f32⟩
  | .hbm, ⟨28, _⟩ => ⟨S4096x1219, .f32⟩
  | .hbm, ⟨29, _⟩ => ⟨S_, .f32⟩
  | .hbm, ⟨30, _⟩ => ⟨S4096x1219, .f32⟩
  | .hbm, ⟨31, _⟩ => ⟨S4096x1219, .f32⟩
  | .hbm, ⟨32, _⟩ => ⟨S4096x1219, .f32⟩
  | .hbm, ⟨33, _⟩ => ⟨S_, .f32⟩
  | .hbm, ⟨34, _⟩ => ⟨S4096x1219, .f32⟩
  | .hbm, ⟨35, _⟩ => ⟨S4096x1219, .f32⟩
  | .hbm, ⟨36, _⟩ => ⟨S4096x1219, .f32⟩
  | .hbm, ⟨37, _⟩ => ⟨S_, .f32⟩
  | .hbm, ⟨38, _⟩ => ⟨S4096x1219, .f32⟩
  | .hbm, ⟨39, _⟩ => ⟨S4096x1219, .f32⟩
  | _, _ => ⟨S4x4096x1219, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGlu.lean ====
abbrev S4x384x768 : Shape := ⟨3, ![4, 384, 768]⟩
abbrev S384x768 : Shape := ⟨2, ![384, 768]⟩
abbrev S4x192x768 : Shape := ⟨3, ![4, 192, 768]⟩
abbrev S192x768 : Shape := ⟨2, ![192, 768]⟩
abbrev S1x192x768 : Shape := ⟨3, ![1, 192, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x384x768, .bf16⟩
  | .hbm, ⟨1, _⟩ => ⟨S384x768, .f32⟩
  | .hbm, ⟨2, _⟩ => ⟨S384x768, .f32⟩
  | .hbm, ⟨3, _⟩ => ⟨S384x768, .f32⟩
  | .hbm, ⟨4, _⟩ => ⟨S384x768, .f32⟩
  | .hbm, ⟨5, _⟩ => ⟨S384x768, .f32⟩
  | .hbm, ⟨6, _⟩ => ⟨S384x768, .f32⟩
  | .hbm, ⟨7, _⟩ => ⟨S384x768, .f32⟩
  | .local _ .vmem, ⟨0, _⟩ => ⟨S4x192x768, .bf16⟩
  | .local _ .vmem, ⟨1, _⟩ => ⟨S4x192x768, .bf16⟩
  | .local _ .vmem, ⟨2, _⟩ => ⟨S192x768, .f32⟩
  | .local _ .vmem, ⟨3, _⟩ => ⟨S192x768, .f32⟩
  | .local _ .vmem, ⟨4, _⟩ => ⟨S192x768, .f32⟩
  | .local _ .vmem, ⟨5, _⟩ => ⟨S192x768, .f32⟩
  | .local _ .vmem, ⟨6, _⟩ => ⟨S192x768, .f32⟩
  | .local _ .vmem, ⟨7, _⟩ => ⟨S192x768, .f32⟩
  | .local _ .vmem, ⟨8, _⟩ => ⟨S192x768, .f32⟩
  | .local _ .vmem, ⟨9, _⟩ => ⟨S192x768, .f32⟩
  | .local _ .vmem, ⟨10, _⟩ => ⟨S192x768, .f32⟩
  | .local _ .vmem, ⟨11, _⟩ => ⟨S192x768, .f32⟩
  | .local _ .vmem, ⟨12, _⟩ => ⟨S192x768, .f32⟩
  | .local _ .vmem, ⟨13, _⟩ => ⟨S192x768, .f32⟩
  | .local _ .vmem, ⟨14, _⟩ => ⟨S192x768, .f32⟩
  | .local _ .vmem, ⟨15, _⟩ => ⟨S192x768, .f32⟩
  | _, _ => ⟨S4x384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x192x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGluIdeal.lean ====
abbrev S4x384x768 : Shape := ⟨3, ![4, 384, 768]⟩
abbrev S384x768 : Shape := ⟨2, ![384, 768]⟩
abbrev S4x192x768 : Shape := ⟨3, ![4, 192, 768]⟩
abbrev S192x768 : Shape := ⟨2, ![192, 768]⟩
abbrev S1x192x768 : Shape := ⟨3, ![1, 192, 768]⟩

abbrev nBuf : Space → Nat
  | .hbm => 8
  | .vmem => 16
  | .smem => 0
  | _ => 0

abbrev bufTy : (tb : Table) → Fin (tcTables nBuf tb) → BufTy
  | .hbm, ⟨0, _⟩ => ⟨S4x384x768, .bf16⟩
  | .hbm, ⟨1, _⟩ => ⟨S384x768, .f32⟩
  | .hbm, ⟨2, _⟩ => ⟨S384x768, .f32⟩
  | .hbm, ⟨3, _⟩ => ⟨S384x768, .f32⟩
  | .hbm, ⟨4, _⟩ => ⟨S384x768, .f32⟩
  | .hbm, ⟨5, _⟩ => ⟨S384x768, .f32⟩
  | .hbm, ⟨6, _⟩ => ⟨S384x768, .f32⟩
  | .hbm, ⟨7, _⟩ => ⟨S384x768, .f32⟩
  | .local _ .vmem, ⟨0, _⟩ => ⟨S4x192x768, .bf16⟩
  | .local _ .vmem, ⟨1, _⟩ => ⟨S4x192x768, .bf16⟩
  | .local _ .vmem, ⟨2, _⟩ => ⟨S192x768, .f32⟩
  | .local _ .vmem, ⟨3, _⟩ => ⟨S192x768, .f32⟩
  | .local _ .vmem, ⟨4, _⟩ => ⟨S192x768, .f32⟩
  | .local _ .vmem, ⟨5, _⟩ => ⟨S192x768, .f32⟩
  | .local _ .vmem, ⟨6, _⟩ => ⟨S192x768, .f32⟩
  | .local _ .vmem, ⟨7, _⟩ => ⟨S192x768, .f32⟩
  | .local _ .vmem, ⟨8, _⟩ => ⟨S192x768, .f32⟩
  | .local _ .vmem, ⟨9, _⟩ => ⟨S192x768, .f32⟩
  | .local _ .vmem, ⟨10, _⟩ => ⟨S192x768, .f32⟩
  | .local _ .vmem, ⟨11, _⟩ => ⟨S192x768, .f32⟩
  | .local _ .vmem, ⟨12, _⟩ => ⟨S192x768, .f32⟩
  | .local _ .vmem, ⟨13, _⟩ => ⟨S192x768, .f32⟩
  | .local _ .vmem, ⟨14, _⟩ => ⟨S192x768, .f32⟩
  | .local _ .vmem, ⟨15, _⟩ => ⟨S192x768, .f32⟩
  | _, _ => ⟨S4x384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x192x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGluRefIdeal.lean ====
abbrev S4x384x768 : Shape := ⟨3, ![4, 384, 768]⟩
abbrev S384x768 : Shape := ⟨2, ![384, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x384x768, .bf16⟩
  | .hbm, ⟨1, _⟩ => ⟨S384x768, .f32⟩
  | .hbm, ⟨2, _⟩ => ⟨S384x768, .f32⟩
  | .hbm, ⟨3, _⟩ => ⟨S384x768, .f32⟩
  | .hbm, ⟨4, _⟩ => ⟨S4x384x768, .f32⟩
  | .hbm, ⟨5, _⟩ => ⟨S_, .f32⟩
  | .hbm, ⟨6, _⟩ => ⟨S384x768, .f32⟩
  | .hbm, ⟨7, _⟩ => ⟨S_, .f32⟩
  | .hbm, ⟨8, _⟩ => ⟨S384x768, .f32⟩
  | .hbm, ⟨9, _⟩ => ⟨S384x768, .f32⟩
  | .hbm, ⟨10, _⟩ => ⟨S_, .f32⟩
  | .hbm, ⟨11, _⟩ => ⟨S384x768, .f32⟩
  | .hbm, ⟨12, _⟩ => ⟨S384x768, .f32⟩
  | .hbm, ⟨13, _⟩ => ⟨S384x768, .f32⟩
  | .hbm, ⟨14, _⟩ => ⟨S_, .f32⟩
  | .hbm, ⟨15, _⟩ => ⟨S384x768, .f32⟩
  | .hbm, ⟨16, _⟩ => ⟨S384x768, .f32⟩
  | .hbm, ⟨17, _⟩ => ⟨S384x768, .f32⟩
  | .hbm, ⟨18, _⟩ => ⟨S_, .f32⟩
  | .hbm, ⟨19, _⟩ => ⟨S384x768, .f32⟩
  | .hbm, ⟨20, _⟩ => ⟨S384x768, .f32⟩
  | .hbm, ⟨21, _⟩ => ⟨S384x768, .f32⟩
  | .hbm, ⟨22, _⟩ => ⟨S_, .f32⟩
  | .hbm, ⟨23, _⟩ => ⟨S384x768, .f32⟩
  | .hbm, ⟨24, _⟩ => ⟨S384x768, .f32⟩
  | .hbm, ⟨25, _⟩ => ⟨S_, .f32⟩
  | .hbm, ⟨26, _⟩ => ⟨S384x768, .f32⟩
  | .hbm, ⟨27, _⟩ => ⟨S384x768, .f32⟩
  | .hbm, ⟨28, _⟩ => ⟨S384x768, .f32⟩
  | .hbm, ⟨29, _⟩ => ⟨S_, .f32⟩
  | .hbm, ⟨30, _⟩ => ⟨S384x768, .f32⟩
  | .hbm, ⟨31, _⟩ => ⟨S384x768, .f32⟩
  | .hbm, ⟨32, _⟩ => ⟨S384x768, .f32⟩
  | .hbm, ⟨33, _⟩ => ⟨S_, .f32⟩
  | .hbm, ⟨34, _⟩ => ⟨S384x768, .f32⟩
  | .hbm, ⟨35, _⟩ => ⟨S384x768, .f32⟩
  | .hbm, ⟨36, _⟩ => ⟨S384x768, .f32⟩
  | .hbm, ⟨37, _⟩ => ⟨S_, .f32⟩
  | .hbm, ⟨38, _⟩ => ⟨S384x768, .f32⟩
  | .hbm, ⟨39, _⟩ => ⟨S384x768, .f32⟩
  | _, _ => ⟨S4x384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBranch.lean ====
abbrev S4x9216x128 : Shape := ⟨3, ![4, 9216, 128]⟩
abbrev S9216x128 : Shape := ⟨2, ![9216, 128]⟩
abbrev S4x1536x128 : Shape := ⟨3, ![4, 1536, 128]⟩
abbrev S1536x128 : Shape := ⟨2, ![1536, 128]⟩
abbrev S1x1536x128 : Shape := ⟨3, ![1, 1536, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x9216x128, .bf16⟩
  | .hbm, ⟨1, _⟩ => ⟨S9216x128, .f32⟩
  | .hbm, ⟨2, _⟩ => ⟨S9216x128, .f32⟩
  | .hbm, ⟨3, _⟩ => ⟨S9216x128, .f32⟩
  | .hbm, ⟨4, _⟩ => ⟨S9216x128, .f32⟩
  | .hbm, ⟨5, _⟩ => ⟨S9216x128, .f32⟩
  | .hbm, ⟨6, _⟩ => ⟨S9216x128, .f32⟩
  | .hbm, ⟨7, _⟩ => ⟨S9216x128, .f32⟩
  | .local _ .vmem, ⟨0, _⟩ => ⟨S4x1536x128, .bf16⟩
  | .local _ .vmem, ⟨1, _⟩ => ⟨S4x1536x128, .bf16⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | .local _ .vmem, ⟨14, _⟩ => ⟨S1536x128, .f32⟩
  | .local _ .vmem, ⟨15, _⟩ => ⟨S1536x128, .f32⟩
  | _, _ => ⟨S4x9216x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1536x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchIdeal.lean ====
abbrev S4x9216x128 : Shape := ⟨3, ![4, 9216, 128]⟩
abbrev S9216x128 : Shape := ⟨2, ![9216, 128]⟩
abbrev S4x1536x128 : Shape := ⟨3, ![4, 1536, 128]⟩
abbrev S1536x128 : Shape := ⟨2, ![1536, 128]⟩
abbrev S1x1536x128 : Shape := ⟨3, ![1, 1536, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x9216x128, .bf16⟩
  | .hbm, ⟨1, _⟩ => ⟨S9216x128, .f32⟩
  | .hbm, ⟨2, _⟩ => ⟨S9216x128, .f32⟩
  | .hbm, ⟨3, _⟩ => ⟨S9216x128, .f32⟩
  | .hbm, ⟨4, _⟩ => ⟨S9216x128, .f32⟩
  | .hbm, ⟨5, _⟩ => ⟨S9216x128, .f32⟩
  | .hbm, ⟨6, _⟩ => ⟨S9216x128, .f32⟩
  | .hbm, ⟨7, _⟩ => ⟨S9216x128, .f32⟩
  | .local _ .vmem, ⟨0, _⟩ => ⟨S4x1536x128, .bf16⟩
  | .local _ .vmem, ⟨1, _⟩ => ⟨S4x1536x128, .bf16⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | .local _ .vmem, ⟨14, _⟩ => ⟨S1536x128, .f32⟩
  | .local _ .vmem, ⟨15, _⟩ => ⟨S1536x128, .f32⟩
  | _, _ => ⟨S4x9216x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1536x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchRefIdeal.lean ====
abbrev S4x9216x128 : Shape := ⟨3, ![4, 9216, 128]⟩
abbrev S9216x128 : Shape := ⟨2, ![9216, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x9216x128, .bf16⟩
  | .hbm, ⟨1, _⟩ => ⟨S9216x128, .f32⟩
  | .hbm, ⟨2, _⟩ => ⟨S9216x128, .f32⟩
  | .hbm, ⟨3, _⟩ => ⟨S9216x128, .f32⟩
  | .hbm, ⟨4, _⟩ => ⟨S4x9216x128, .f32⟩
  | .hbm, ⟨5, _⟩ => ⟨S_, .f32⟩
  | .hbm, ⟨6, _⟩ => ⟨S9216x128, .f32⟩
  | .hbm, ⟨7, _⟩ => ⟨S_, .f32⟩
  | .hbm, ⟨8, _⟩ => ⟨S9216x128, .f32⟩
  | .hbm, ⟨9, _⟩ => ⟨S9216x128, .f32⟩
  | .hbm, ⟨10, _⟩ => ⟨S_, .f32⟩
  | .hbm, ⟨11, _⟩ => ⟨S9216x128, .f32⟩
  | .hbm, ⟨12, _⟩ => ⟨S9216x128, .f32⟩
  | .hbm, ⟨13, _⟩ => ⟨S9216x128, .f32⟩
  | .hbm, ⟨14, _⟩ => ⟨S_, .f32⟩
  | .hbm, ⟨15, _⟩ => ⟨S9216x128, .f32⟩
  | .hbm, ⟨16, _⟩ => ⟨S9216x128, .f32⟩
  | .hbm, ⟨17, _⟩ => ⟨S9216x128, .f32⟩
  | .hbm, ⟨18, _⟩ => ⟨S_, .f32⟩
  | .hbm, ⟨19, _⟩ => ⟨S9216x128, .f32⟩
  | .hbm, ⟨20, _⟩ => ⟨S9216x128, .f32⟩
  | .hbm, ⟨21, _⟩ => ⟨S9216x128, .f32⟩
  | .hbm, ⟨22, _⟩ => ⟨S_, .f32⟩
  | .hbm, ⟨23, _⟩ => ⟨S9216x128, .f32⟩
  | .hbm, ⟨24, _⟩ => ⟨S9216x128, .f32⟩
  | .hbm, ⟨25, _⟩ => ⟨S_, .f32⟩
  | .hbm, ⟨26, _⟩ => ⟨S9216x128, .f32⟩
  | .hbm, ⟨27, _⟩ => ⟨S9216x128, .f32⟩
  | .hbm, ⟨28, _⟩ => ⟨S9216x128, .f32⟩
  | .hbm, ⟨29, _⟩ => ⟨S_, .f32⟩
  | .hbm, ⟨30, _⟩ => ⟨S9216x128, .f32⟩
  | .hbm, ⟨31, _⟩ => ⟨S9216x128, .f32⟩
  | .hbm, ⟨32, _⟩ => ⟨S9216x128, .f32⟩
  | .hbm, ⟨33, _⟩ => ⟨S_, .f32⟩
  | .hbm, ⟨34, _⟩ => ⟨S9216x128, .f32⟩
  | .hbm, ⟨35, _⟩ => ⟨S9216x128, .f32⟩
  | .hbm, ⟨36, _⟩ => ⟨S9216x128, .f32⟩
  | .hbm, ⟨37, _⟩ => ⟨S_, .f32⟩
  | .hbm, ⟨38, _⟩ => ⟨S9216x128, .f32⟩
  | .hbm, ⟨39, _⟩ => ⟨S9216x128, .f32⟩
  | _, _ => ⟨S4x9216x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S4x512x1024 : Shape := ⟨3, ![4, 512, 1024]⟩
abbrev S512x1024 : Shape := ⟨2, ![512, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S4x512x1024 : Shape := ⟨3, ![4, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SsdTail.lean ====
abbrev S4160x768 : Shape := ⟨2, ![4160, 768]⟩
abbrev S768 : Shape := ⟨1, ![768]⟩
abbrev S768x1024 : Shape := ⟨2, ![768, 1024]⟩
abbrev S4160x1024 : Shape := ⟨2, ![4160, 1024]⟩
abbrev S1x768 : Shape := ⟨2, ![1, 768]⟩
abbrev S416x768 : Shape := ⟨2, ![416, 768]⟩
abbrev S416x1024 : Shape := ⟨2, ![416, 1024]⟩
abbrev S416 : Shape := ⟨1, ![416]⟩
abbrev S416x1 : Shape := ⟨2, ![416, 1]⟩

abbrev nBuf : Space → Nat
  | .hbm => 11
  | .vmem => 14
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S768, .f32⟩
  | .hbm, ⟨3, _⟩ => ⟨S768x1024, .f32⟩
  | .hbm, ⟨4, _⟩ => ⟨S4160x1024, .f32⟩
  | .hbm, ⟨5, _⟩ => ⟨S1x768, .f32⟩
  | .hbm, ⟨6, _⟩ => ⟨S768x1024, .bf16⟩
  | .hbm, ⟨7, _⟩ => ⟨S4160x768, .f32⟩
  | .hbm, ⟨8, _⟩ => ⟨S4160x768, .f32⟩
  | .hbm, ⟨9, _⟩ => ⟨S1x768, .f32⟩
  | .hbm, ⟨10, _⟩ => ⟨S768x1024, .f32⟩
  | .local _ .vmem, ⟨0, _⟩ => ⟨S416x768, .f32⟩
  | .local _ .vmem, ⟨1, _⟩ => ⟨S416x768, .f32⟩
  | .local _ .vmem, ⟨2, _⟩ => ⟨S416x768, .f32⟩
  | .local _ .vmem, ⟨3, _⟩ => ⟨S416x768, .f32⟩
  | .local _ .vmem, ⟨4, _⟩ => ⟨S1x768, .f32⟩
  | .local _ .vmem, ⟨5, _⟩ => ⟨S768x1024, .bf16⟩
  | .local _ .vmem, ⟨6, _⟩ => ⟨S416x1024, .f32⟩
  | .local _ .vmem, ⟨7, _⟩ => ⟨S416x1024, .f32⟩
  | .local _ .vmem, ⟨8, _⟩ => ⟨S416x768, .f32⟩
  | .local _ .vmem, ⟨9, _⟩ => ⟨S416x768, .f32⟩
  | .local _ .vmem, ⟨10, _⟩ => ⟨S416x768, .f32⟩
  | .local _ .vmem, ⟨11, _⟩ => ⟨S416x768, .f32⟩
  | .local _ .vmem, ⟨12, _⟩ => ⟨S1x768, .f32⟩
  | .local _ .vmem, ⟨13, _⟩ => ⟨S768x1024, .f32⟩
  | _, _ => ⟨S4160x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SsdTailRefIdeal.lean ====
abbrev S4160x768 : Shape := ⟨2, ![4160, 768]⟩
abbrev S768 : Shape := ⟨1, ![768]⟩
abbrev S768x1024 : Shape := ⟨2, ![768, 1024]⟩
abbrev S4160x1024 : Shape := ⟨2, ![4160, 1024]⟩
abbrev S1x4160x768 : Shape := ⟨3, ![1, 4160, 768]⟩
abbrev S_ : Shape := ⟨0, ![]⟩
abbrev S4160 : Shape := ⟨1, ![4160]⟩
abbrev S4160x1 : Shape := ⟨2, ![4160, 1]⟩
abbrev S1x768 : Shape := ⟨2, ![1, 768]⟩
abbrev S1024x768 : Shape := ⟨2, ![1024, 768]⟩

abbrev nBuf : Space → Nat
  | .hbm => 83
  | .vmem => 0
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S768, .f32⟩
  | .hbm, ⟨3, _⟩ => ⟨S768x1024, .f32⟩
  | .hbm, ⟨4, _⟩ => ⟨S4160x1024, .f32⟩
  | .hbm, ⟨5, _⟩ => ⟨S1x4160x768, .f32⟩
  | .hbm, ⟨6, _⟩ => ⟨S1x4160x768, .f32⟩
  | .hbm, ⟨7, _⟩ => ⟨S4160x768, .f32⟩
  | .hbm, ⟨8, _⟩ => ⟨S4160x768, .f32⟩
  | .hbm, ⟨9, _⟩ => ⟨S4160x768, .f32⟩
  | .hbm, ⟨10, _⟩ => ⟨S4160x768, .f32⟩
  | .hbm, ⟨11, _⟩ => ⟨S_, .f32⟩
  | .hbm, ⟨12, _⟩ => ⟨S4160x768, .f32⟩
  | .hbm, ⟨13, _⟩ => ⟨S4160x768, .f32⟩
  | .hbm, ⟨14, _⟩ => ⟨S_, .f32⟩
  | .hbm, ⟨15, _⟩ => ⟨S4160x768, .f32⟩
  | .hbm, ⟨16, _⟩ => ⟨S4160x768, .f32⟩
  | .hbm, ⟨17, _⟩ => ⟨S_, .f32⟩
  | .hbm, ⟨18, _⟩ => ⟨S4160x768, .f32⟩
  | .hbm, ⟨19, _⟩ => ⟨S4160x768, .f32⟩
  | .hbm, ⟨20, _⟩ => ⟨S4160x768, .f32⟩
  | .hbm, ⟨21, _⟩ => ⟨S4160x768, .f32⟩
  | .hbm, ⟨22, _⟩ => ⟨S4160x768, .f32⟩
  | .hbm, ⟨23, _⟩ => ⟨S4160x768, .f32⟩
  | .hbm, ⟨24, _⟩ => ⟨S_, .f32⟩
  | .hbm, ⟨25, _⟩ => ⟨S4160, .f32⟩
  | .hbm, ⟨26, _⟩ => ⟨S4160x1, .f32⟩
  | .hbm, ⟨27, _⟩ => ⟨S_, .f32⟩
  | .hbm, ⟨28, _⟩ => ⟨S4160x1, .f32⟩
  | .hbm, ⟨29, _⟩ => ⟨S4160x1, .f32⟩
  | .hbm, ⟨30, _⟩ => ⟨S_, .f32⟩
  | .hbm, ⟨31, _⟩ => ⟨S4160x1, .f32⟩
  | .hbm, ⟨32, _⟩ => ⟨S4160x1, .f32⟩
  | .hbm, ⟨33, _⟩ => ⟨S4160x1, .f32⟩
  | .hbm, ⟨34, _⟩ => ⟨S4160x1, .f32⟩
  | .hbm, ⟨35, _⟩ => ⟨S_, .f32⟩
  | .hbm, ⟨36, _⟩ => ⟨S4160x1, .f32⟩
  | .hbm, ⟨37, _⟩ => ⟨S4160x1, .f32⟩
  | .hbm, ⟨38, _⟩ => ⟨S4160x768, .f32⟩
  | .hbm, ⟨39, _⟩ => ⟨S4160x768, .f32⟩
  | .hbm, ⟨40, _⟩ => ⟨S1x768, .f32⟩
  | .hbm, ⟨41, _⟩ => ⟨S4160x768, .f32⟩
  | .hbm, ⟨42, _⟩ => ⟨S4160x768, .f32⟩
  | .hbm, ⟨43, _⟩ => ⟨S4160x1024, .f32⟩
  | .hbm, ⟨44, _⟩ => ⟨S1024x768, .f32⟩
  | .hbm, ⟨45, _⟩ => ⟨S768x1024, .f32⟩
  | .hbm, ⟨46, _⟩ => ⟨S4160x768, .f32⟩
  | .hbm, ⟨47, _⟩ => ⟨S4160x768, .f32⟩
  | .hbm, ⟨48, _⟩ => ⟨S_, .f32⟩
  | .hbm, ⟨49, _⟩ => ⟨S768, .f32⟩
  | .hbm, ⟨50, _⟩ => ⟨S1x768, .f32⟩
  | .hbm, ⟨51, _⟩ => ⟨S4160x768, .f32⟩
  | .hbm, ⟨52, _⟩ => ⟨S4160x768, .f32⟩
  | .hbm, ⟨53, _⟩ => ⟨S_, .f32⟩
  | .hbm, ⟨54, _⟩ => ⟨S768, .f32⟩
  | .hbm, ⟨55, _⟩ => ⟨S4160x768, .f32⟩
  | .hbm, ⟨56, _⟩ => ⟨S_, .f32⟩
  | .hbm, ⟨57, _⟩ => ⟨S4160, .f32⟩
  | .hbm, ⟨58, _⟩ => ⟨S4160x1, .f32⟩
  | .hbm, ⟨59, _⟩ => ⟨S4160x768, .f32⟩
  | .hbm, ⟨60, _⟩ => ⟨S4160x768, .f32⟩
  | .hbm, ⟨61, _⟩ => ⟨S4160x1, .f32⟩
  | .hbm, ⟨62, _⟩ => ⟨S_, .f32⟩
  | .hbm, ⟨63, _⟩ => ⟨S4160x1, .f32⟩
  | .hbm, ⟨64, _⟩ => ⟨S4160x1, .f32⟩
  | .hbm, ⟨65, _⟩ => ⟨S_, .f32⟩
  | .hbm, ⟨66, _⟩ => ⟨S4160, .f32⟩
  | .hbm, ⟨67, _⟩ => ⟨S4160x768, .f32⟩
  | .hbm, ⟨68, _⟩ => ⟨S4160x768, .f32⟩
  | .hbm, ⟨69, _⟩ => ⟨S4160x768, .f32⟩
  | .hbm, ⟨70, _⟩ => ⟨S4160x768, .f32⟩
  | .hbm, ⟨71, _⟩ => ⟨S4160x768, .f32⟩
  | .hbm, ⟨72, _⟩ => ⟨S4160x768, .f32⟩
  | .hbm, ⟨73, _⟩ => ⟨S4160x768, .f32⟩
  | .hbm, ⟨74, _⟩ => ⟨S4160x768, .f32⟩
  | .hbm, ⟨75, _⟩ => ⟨S4160x768, .f32⟩
  | .hbm, ⟨76, _⟩ => ⟨S4160x768, .f32⟩
  | .hbm, ⟨77, _⟩ => ⟨S4160x768, .f32⟩
  | .hbm, ⟨78, _⟩ => ⟨S1x4160x768, .f32⟩
  | .hbm, ⟨79, _⟩ => ⟨S1x4160x768, .f32⟩
  | .hbm, ⟨80, _⟩ => ⟨S4160x768, .f32⟩
  | .hbm, ⟨81, _⟩ => ⟨S4160x768, .f32⟩
  | .hbm, ⟨82, _⟩ => ⟨S1x768, .f32⟩
  | _, _ => ⟨S4160x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]
-- ==== GdnTail.lean ====
abbrev S4160x768 : Shape := ⟨2, ![4160, 768]⟩
abbrev S128 : Shape := ⟨1, ![128]⟩
abbrev S768x1024 : Shape := ⟨2, ![768, 1024]⟩
abbrev S4160x1024 : Shape := ⟨2, ![4160, 1024]⟩
abbrev S1x128 : Shape := ⟨2, ![1, 128]⟩
abbrev S416x768 : Shape := ⟨2, ![416, 768]⟩
abbrev S416x1024 : Shape := ⟨2, ![416, 1024]⟩
abbrev S416x128 : Shape := ⟨2, ![416, 128]⟩
abbrev S416 : Shape := ⟨1, ![416]⟩
abbrev S416x1 : Shape := ⟨2, ![416, 1]⟩
abbrev S416x640 : Shape := ⟨2, ![416, 640]⟩
abbrev S416x512 : Shape := ⟨2, ![416, 512]⟩
abbrev S416x384 : Shape := ⟨2, ![416, 384]⟩
abbrev S416x256 : Shape := ⟨2, ![416, 256]⟩

abbrev nBuf : Space → Nat
  | .hbm => 11
  | .vmem => 14
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S128, .f32⟩
  | .hbm, ⟨3, _⟩ => ⟨S768x1024, .f32⟩
  | .hbm, ⟨4, _⟩ => ⟨S4160x1024, .f32⟩
  | .hbm, ⟨5, _⟩ => ⟨S1x128, .f32⟩
  | .hbm, ⟨6, _⟩ => ⟨S768x1024, .bf16⟩
  | .hbm, ⟨7, _⟩ => ⟨S4160x768, .f32⟩
  | .hbm, ⟨8, _⟩ => ⟨S4160x768, .f32⟩
  | .hbm, ⟨9, _⟩ => ⟨S1x128, .f32⟩
  | .hbm, ⟨10, _⟩ => ⟨S768x1024, .f32⟩
  | .local _ .vmem, ⟨0, _⟩ => ⟨S416x768, .f32⟩
  | .local _ .vmem, ⟨1, _⟩ => ⟨S416x768, .f32⟩
  | .local _ .vmem, ⟨2, _⟩ => ⟨S416x768, .f32⟩
  | .local _ .vmem, ⟨3, _⟩ => ⟨S416x768, .f32⟩
  | .local _ .vmem, ⟨4, _⟩ => ⟨S1x128, .f32⟩
  | .local _ .vmem, ⟨5, _⟩ => ⟨S768x1024, .bf16⟩
  | .local _ .vmem, ⟨6, _⟩ => ⟨S416x1024, .f32⟩
  | .local _ .vmem, ⟨7, _⟩ => ⟨S416x1024, .f32⟩
  | .local _ .vmem, ⟨8, _⟩ => ⟨S416x768, .f32⟩
  | .local _ .vmem, ⟨9, _⟩ => ⟨S416x768, .f32⟩
  | .local _ .vmem, ⟨10, _⟩ => ⟨S416x768, .f32⟩
  | .local _ .vmem, ⟨11, _⟩ => ⟨S416x768, .f32⟩
  | .local _ .vmem, ⟨12, _⟩ => ⟨S1x128, .f32⟩
  | .local _ .vmem, ⟨13, _⟩ => ⟨S768x1024, .f32⟩
  | _, _ => ⟨S4160x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GdnTailRefIdeal.lean ====
abbrev S4160x768 : Shape := ⟨2, ![4160, 768]⟩
abbrev S128 : Shape := ⟨1, ![128]⟩
abbrev S768x1024 : Shape := ⟨2, ![768, 1024]⟩
abbrev S4160x1024 : Shape := ⟨2, ![4160, 1024]⟩
abbrev S4160x6x128 : Shape := ⟨3, ![4160, 6, 128]⟩
abbrev S_ : Shape := ⟨0, ![]⟩
abbrev S4160x6 : Shape := ⟨2, ![4160, 6]⟩
abbrev S4160x6x1 : Shape := ⟨3, ![4160, 6, 1]⟩
abbrev S1x1x128 : Shape := ⟨3, ![1, 1, 128]⟩
abbrev S1024x768 : Shape := ⟨2, ![1024, 768]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4160x768, .f32⟩
  | .hbm, ⟨1, _⟩ => ⟨S4160x768, .f32⟩
  | .hbm, ⟨2, _⟩ => ⟨S128, .f32⟩
  | .hbm, ⟨3, _⟩ => ⟨S768x1024, .f32⟩
  | .hbm, ⟨4, _⟩ => ⟨S4160x1024, .f32⟩
  | .hbm, ⟨5, _⟩ => ⟨S4160x6x128, .f32⟩
  | .hbm, ⟨6, _⟩ => ⟨S4160x6x128, .f32⟩
  | .hbm, ⟨7, _⟩ => ⟨S_, .f32⟩
  | .hbm, ⟨8, _⟩ => ⟨S4160x6, .f32⟩
  | .hbm, ⟨9, _⟩ => ⟨S4160x6x1, .f32⟩
  | .hbm, ⟨10, _⟩ => ⟨S_, .f32⟩
  | .hbm, ⟨11, _⟩ => ⟨S4160x6x1, .f32⟩
  | .hbm, ⟨12, _⟩ => ⟨S4160x6x1, .f32⟩
  | .hbm, ⟨13, _⟩ => ⟨S_, .f32⟩
  | .hbm, ⟨14, _⟩ => ⟨S4160x6x1, .f32⟩
  | .hbm, ⟨15, _⟩ => ⟨S4160x6x1, .f32⟩
  | .hbm, ⟨16, _⟩ => ⟨S4160x6x1, .f32⟩
  | .hbm, ⟨17, _⟩ => ⟨S4160x6x1, .f32⟩
  | .hbm, ⟨18, _⟩ => ⟨S_, .f32⟩
  | .hbm, ⟨19, _⟩ => ⟨S4160x6x1, .f32⟩
  | .hbm, ⟨20, _⟩ => ⟨S4160x6x1, .f32⟩
  | .hbm, ⟨21, _⟩ => ⟨S4160x6x128, .f32⟩
  | .hbm, ⟨22, _⟩ => ⟨S4160x6x128, .f32⟩
  | .hbm, ⟨23, _⟩ => ⟨S1x1x128, .f32⟩
  | .hbm, ⟨24, _⟩ => ⟨S4160x6x128, .f32⟩
  | .hbm, ⟨25, _⟩ => ⟨S4160x6x128, .f32⟩
  | .hbm, ⟨26, _⟩ => ⟨S4160x768, .f32⟩
  | .hbm, ⟨27, _⟩ => ⟨S4160x768, .f32⟩
  | .hbm, ⟨28, _⟩ => ⟨S4160x768, .f32⟩
  | .hbm, ⟨29, _⟩ => ⟨S_, .f32⟩
  | .hbm, ⟨30, _⟩ => ⟨S4160x768, .f32⟩
  | .hbm, ⟨31, _⟩ => ⟨S4160x768, .f32⟩
  | .hbm, ⟨32, _⟩ => ⟨S_, .f32⟩
  | .hbm, ⟨33, _⟩ => ⟨S4160x768, .f32⟩
  | .hbm, ⟨34, _⟩ => ⟨S4160x768, .f32⟩
  | .hbm, ⟨35, _⟩ => ⟨S_, .f32⟩
  | .hbm, ⟨36, _⟩ => ⟨S4160x768, .f32⟩
  | .hbm, ⟨37, _⟩ => ⟨S4160x768, .f32⟩
  | .hbm, ⟨38, _⟩ => ⟨S4160x768, .f32⟩
  | .hbm, ⟨39, _⟩ => ⟨S4160x768, .f32⟩
  | .hbm, ⟨40, _⟩ => ⟨S4160x768, .f32⟩
  | .hbm, ⟨41, _⟩ => ⟨S4160x1024, .f32⟩
  | .hbm, ⟨42, _⟩ => ⟨S1024x768, .f32⟩
  | .hbm, ⟨43, _⟩ => ⟨S768x1024, .f32⟩
  | .hbm, ⟨44, _⟩ => ⟨S4160x768, .f32⟩
  | .hbm, ⟨45, _⟩ => ⟨S4160x768, .f32⟩
  | .hbm, ⟨46, _⟩ => ⟨S4160x768, .f32⟩
  | .hbm, ⟨47, _⟩ => ⟨S4160x768, .f32⟩
  | .hbm, ⟨48, _⟩ => ⟨S4160x768, .f32⟩
  | .hbm, ⟨49, _⟩ => ⟨S4160x768, .f32⟩
  | .hbm, ⟨50, _⟩ => ⟨S4160x768, .f32⟩
  | .hbm, ⟨51, _⟩ => ⟨S4160x6x128, .f32⟩
  | .hbm, ⟨52, _⟩ => ⟨S4160x6x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S4160x6x128, .f32⟩
  | .hbm, ⟨57, _⟩ => ⟨S4160x6x128, .f32⟩
  | .hbm, ⟨58, _⟩ => ⟨S_, .f32⟩
  | .hbm, ⟨59, _⟩ => ⟨S128, .f32⟩
  | .hbm, ⟨60, _⟩ => ⟨S4160x6x128, .f32⟩
  | .hbm, ⟨61, _⟩ => ⟨S_, .f32⟩
  | .hbm, ⟨62, _⟩ => ⟨S4160x6, .f32⟩
  | .hbm, ⟨63, _⟩ => ⟨S4160x6x1, .f32⟩
  | .hbm, ⟨64, _⟩ => ⟨S4160x6x128, .f32⟩
  | .hbm, ⟨65, _⟩ => ⟨S4160x6x128, .f32⟩
  | .hbm, ⟨66, _⟩ => ⟨S4160x6x1, .f32⟩
  | .hbm, ⟨67, _⟩ => ⟨S_, .f32⟩
  | .hbm, ⟨68, _⟩ => ⟨S4160x6x1, .f32⟩
  | .hbm, ⟨69, _⟩ => ⟨S4160x6x1, .f32⟩
  | .hbm, ⟨70, _⟩ => ⟨S_, .f32⟩
  | .hbm, ⟨71, _⟩ => ⟨S4160x6, .f32⟩
  | .hbm, ⟨72, _⟩ => ⟨S4160x6x128, .f32⟩
  | .hbm, ⟨73, _⟩ => ⟨S4160x6x128, .f32⟩
  | .hbm, ⟨74, _⟩ => ⟨S4160x6x128, .f32⟩
  | .hbm, ⟨75, _⟩ => ⟨S4160x6x128, .f32⟩
  | .hbm, ⟨76, _⟩ => ⟨S4160x6x128, .f32⟩
  | .hbm, ⟨77, _⟩ => ⟨S4160x768, .f32⟩
  | .hbm, ⟨78, _⟩ => ⟨S1x128, .f32⟩
  | _, _ => ⟨S4160x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== AdamRest.lean ====
abbrev S16x128 : Shape := ⟨2, ![16, 128]⟩
abbrev S4x4x160 : Shape := ⟨3, ![4, 4, 160]⟩
abbrev S4x4x288 : Shape := ⟨3, ![4, 4, 288]⟩
abbrev S4x3x128 : Shape := ⟨3, ![4, 3, 128]⟩
abbrev S1024 : Shape := ⟨1, ![1024]⟩
abbrev S4x48x64 : Shape := ⟨3, ![4, 48, 64]⟩
abbrev S4x48 : Shape := ⟨2, ![4, 48]⟩
abbrev S4x48x64x16 : Shape := ⟨4, ![4, 48, 64, 16]⟩
abbrev S4x48x16x64 : Shape := ⟨4, ![4, 48, 16, 64]⟩
abbrev S4x768 : Shape := ⟨2, ![4, 768]⟩
abbrev S4x1280 : Shape := ⟨2, ![4, 1280]⟩
abbrev S4x12 : Shape := ⟨2, ![4, 12]⟩
abbrev S4x6 : Shape := ⟨2, ![4, 6]⟩
abbrev S4x128 : Shape := ⟨2, ![4, 128]⟩
abbrev S4x1024 : Shape := ⟨2, ![4, 1024]⟩
abbrev S2048 : Shape := ⟨1, ![2048]⟩
abbrev S2560 : Shape := ⟨1, ![2560]⟩
abbrev S4608 : Shape := ⟨1, ![4608]⟩
abbrev S1536 : Shape := ⟨1, ![1536]⟩
abbrev S12288 : Shape := ⟨1, ![12288]⟩
abbrev S192 : Shape := ⟨1, ![192]⟩
abbrev S196608 : Shape := ⟨1, ![196608]⟩
abbrev S3072 : Shape := ⟨1, ![3072]⟩
abbrev S5120 : Shape := ⟨1, ![5120]⟩
abbrev S48 : Shape := ⟨1, ![48]⟩
abbrev S24 : Shape := ⟨1, ![24]⟩
abbrev S512 : Shape := ⟨1, ![512]⟩
abbrev S4096 : Shape := ⟨1, ![4096]⟩
abbrev S835264 : Shape := ⟨1, ![835264]⟩
abbrev S11968 : Shape := ⟨1, ![11968]⟩
abbrev S847232 : Shape := ⟨1, ![847232]⟩
abbrev S_ : Shape := ⟨0, ![]⟩
abbrev S917504 : Shape := ⟨1, ![917504]⟩
abbrev S7168x128 : Shape := ⟨2, ![7168, 128]⟩
abbrev S1x7168x128 : Shape := ⟨3, ![1, 7168, 128]⟩
abbrev S1x1792x128 : Shape := ⟨3, ![1, 1792, 128]⟩
abbrev S1792x128 : Shape := ⟨2, ![1792, 128]⟩

abbrev nBuf : Space → Nat
  | .hbm => 225
  | .vmem => 16
  | .smem => 0
  | _ => 0

abbrev hbmTy0_0 (i : Nat) : BufTy := match i % 128 with
  | 0 => ⟨S16x128, .f32⟩
  | 1 => ⟨S4x4x160, .f32⟩
  | 2 => ⟨S4x4x288, .f32⟩
  | 3 => ⟨S4x3x128, .f32⟩
  | 4 => ⟨S1024, .f32⟩
  | 5 => ⟨S1024, .f32⟩
  | 6 => ⟨S4x48x64, .f32⟩
  | 7 => ⟨S4x48x64, .f32⟩
  | 8 => ⟨S4x48, .f32⟩
  | 9 => ⟨S4x48x64x16, .f32⟩
  | 10 => ⟨S4x48x64x16, .f32⟩
  | 11 => ⟨S4x48x16x64, .f32⟩
  | 12 => ⟨S4x48x16x64, .f32⟩
  | 13 => ⟨S4x768, .f32⟩
  | 14 => ⟨S4x768, .f32⟩
  | 15 => ⟨S4x1280, .f32⟩
  | 16 => ⟨S4x12, .f32⟩
  | 17 => ⟨S4x12, .f32⟩
  | 18 => ⟨S4x12, .f32⟩
  | 19 => ⟨S4x768, .f32⟩
  | 20 => ⟨S4x6, .f32⟩
  | 21 => ⟨S4x6, .f32⟩
  | 22 => ⟨S4x128, .f32⟩
  | 23 => ⟨S4x1024, .f32⟩
  | 24 => ⟨S4x1024, .f32⟩
  | 25 => ⟨S16x128, .f32⟩
  | 26 => ⟨S4x4x160, .f32⟩
  | 27 => ⟨S4x4x288, .f32⟩
  | 28 => ⟨S4x3x128, .f32⟩
  | 29 => ⟨S1024, .f32⟩
  | 30 => ⟨S1024, .f32⟩
  | 31 => ⟨S4x48x64, .f32⟩
  | 32 => ⟨S4x48x64, .f32⟩
  | 33 => ⟨S4x48, .f32⟩
  | 34 => ⟨S4x48x64x16, .f32⟩
  | 35 => ⟨S4x48x64x16, .f32⟩
  | 36 => ⟨S4x48x16x64, .f32⟩
  | 37 => ⟨S4x48x16x64, .f32⟩
  | 38 => ⟨S4x768, .f32⟩
  | 39 => ⟨S4x768, .f32⟩
  | 40 => ⟨S4x1280, .f32⟩
  | 41 => ⟨S4x12, .f32⟩
  | 42 => ⟨S4x12, .f32⟩
  | 43 => ⟨S4x12, .f32⟩
  | 44 => ⟨S4x768, .f32⟩
  | 45 => ⟨S4x6, .f32⟩
  | 46 => ⟨S4x6, .f32⟩
  | 47 => ⟨S4x128, .f32⟩
  | 48 => ⟨S4x1024, .f32⟩
  | 49 => ⟨S4x1024, .f32⟩
  | 50 => ⟨S16x128, .f32⟩
  | 51 => ⟨S4x4x160, .f32⟩
  | 52 => ⟨S4x4x288, .f32⟩
  | 53 => ⟨S4x3x128, .f32⟩
  | 54 => ⟨S1024, .f32⟩
  | 55 => ⟨S1024, .f32⟩
  | 56 => ⟨S4x48x64, .f32⟩
  | 57 => ⟨S4x48x64, .f32⟩
  | 58 => ⟨S4x48, .f32⟩
  | 59 => ⟨S4x48x64x16, .f32⟩
  | 60 => ⟨S4x48x64x16, .f32⟩
  | 61 => ⟨S4x48x16x64, .f32⟩
  | 62 => ⟨S4x48x16x64, .f32⟩
  | 63 => ⟨S4x768, .f32⟩
  | 64 => ⟨S4x768, .f32⟩
  | 65 => ⟨S4x1280, .f32⟩
  | 66 => ⟨S4x12, .f32⟩
  | 67 => ⟨S4x12, .f32⟩
  | 68 => ⟨S4x12, .f32⟩
  | 69 => ⟨S4x768, .f32⟩
  | 70 => ⟨S4x6, .f32⟩
  | 71 => ⟨S4x6, .f32⟩
  | 72 => ⟨S4x128, .f32⟩
  | 73 => ⟨S4x1024, .f32⟩
  | 74 => ⟨S4x1024, .f32⟩
  | 75 => ⟨S16x128, .f32⟩
  | 76 => ⟨S4x4x160, .f32⟩
  | 77 => ⟨S4x4x288, .f32⟩
  | 78 => ⟨S4x3x128, .f32⟩
  | 79 => ⟨S1024, .f32⟩
  | 80 => ⟨S1024, .f32⟩
  | 81 => ⟨S4x48x64, .f32⟩
  | 82 => ⟨S4x48x64, .f32⟩
  | 83 => ⟨S4x48, .f32⟩
  | 84 => ⟨S4x48x64x16, .f32⟩
  | 85 => ⟨S4x48x64x16, .f32⟩
  | 86 => ⟨S4x48x16x64, .f32⟩
  | 87 => ⟨S4x48x16x64, .f32⟩
  | 88 => ⟨S4x768, .f32⟩
  | 89 => ⟨S4x768, .f32⟩
  | 90 => ⟨S4x1280, .f32⟩
  | 91 => ⟨S4x12, .f32⟩
  | 92 => ⟨S4x12, .f32⟩
  | 93 => ⟨S4x12, .f32⟩
  | 94 => ⟨S4x768, .f32⟩
  | 95 => ⟨S4x6, .f32⟩
  | 96 => ⟨S4x6, .f32⟩
  | 97 => ⟨S4x128, .f32⟩
  | 98 => ⟨S4x1024, .f32⟩
  | 99 => ⟨S4x1024, .f32⟩
  | 100 => ⟨S2048, .f32⟩
  | 101 => ⟨S2560, .f32⟩
  | 102 => ⟨S4608, .f32⟩
  | 103 => ⟨S1536, .f32⟩
  | 104 => ⟨S12288, .f32⟩
  | 105 => ⟨S12288, .f32⟩
  | 106 => ⟨S192, .f32⟩
  | 107 => ⟨S196608, .f32⟩
  | 108 => ⟨S196608, .f32⟩
  | 109 => ⟨S196608, .f32⟩
  | 110 => ⟨S196608, .f32⟩
  | 111 => ⟨S3072, .f32⟩
  | 112 => ⟨S3072, .f32⟩
  | 113 => ⟨S5120, .f32⟩
  | 114 => ⟨S48, .f32⟩
  | 115 => ⟨S48, .f32⟩
  | 116 => ⟨S48, .f32⟩
  | 117 => ⟨S3072, .f32⟩
  | 118 => ⟨S24, .f32⟩
  | 119 => ⟨S24, .f32⟩
  | 120 => ⟨S512, .f32⟩
  | 121 => ⟨S4096, .f32⟩
  | 122 => ⟨S4096, .f32⟩
  | 123 => ⟨S835264, .f32⟩
  | 124 => ⟨S11968, .f32⟩
  | 125 => ⟨S847232, .f32⟩
  | 126 => ⟨S_, .i32⟩
  | 127 => ⟨S_, .f32⟩
  | _ => ⟨S16x128, .f32⟩

abbrev hbmTy0_1 (i : Nat) : BufTy := match i % 128 with
  | 0 => ⟨S917504, .f32⟩
  | 1 => ⟨S7168x128, .f32⟩
  | 2 => ⟨S1x7168x128, .f32⟩
  | 3 => ⟨S2048, .f32⟩
  | 4 => ⟨S2560, .f32⟩
  | 5 => ⟨S4608, .f32⟩
  | 6 => ⟨S1536, .f32⟩
  | 7 => ⟨S12288, .f32⟩
  | 8 => ⟨S12288, .f32⟩
  | 9 => ⟨S192, .f32⟩
  | 10 => ⟨S196608, .f32⟩
  | 11 => ⟨S196608, .f32⟩
  | 12 => ⟨S196608, .f32⟩
  | 13 => ⟨S196608, .f32⟩
  | 14 => ⟨S3072, .f32⟩
  | 15 => ⟨S3072, .f32⟩
  | 16 => ⟨S5120, .f32⟩
  | 17 => ⟨S48, .f32⟩
  | 18 => ⟨S48, .f32⟩
  | 19 => ⟨S48, .f32⟩
  | 20 => ⟨S3072, .f32⟩
  | 21 => ⟨S24, .f32⟩
  | 22 => ⟨S24, .f32⟩
  | 23 => ⟨S512, .f32⟩
  | 24 => ⟨S4096, .f32⟩
  | 25 => ⟨S4096, .f32⟩
  | 26 => ⟨S835264, .f32⟩
  | 27 => ⟨S11968, .f32⟩
  | 28 => ⟨S847232, .f32⟩
  | 29 => ⟨S_, .i32⟩
  | 30 => ⟨S_, .f32⟩
  | 31 => ⟨S917504, .f32⟩
  | 32 => ⟨S7168x128, .f32⟩
  | 33 => ⟨S2048, .f32⟩
  | 34 => ⟨S2560, .f32⟩
  | 35 => ⟨S4608, .f32⟩
  | 36 => ⟨S1536, .f32⟩
  | 37 => ⟨S12288, .f32⟩
  | 38 => ⟨S12288, .f32⟩
  | 39 => ⟨S192, .f32⟩
  | 40 => ⟨S196608, .f32⟩
  | 41 => ⟨S196608, .f32⟩
  | 42 => ⟨S196608, .f32⟩
  | 43 => ⟨S196608, .f32⟩
  | 44 => ⟨S3072, .f32⟩
  | 45 => ⟨S3072, .f32⟩
  | 46 => ⟨S5120, .f32⟩
  | 47 => ⟨S48, .f32⟩
  | 48 => ⟨S48, .f32⟩
  | 49 => ⟨S48, .f32⟩
  | 50 => ⟨S3072, .f32⟩
  | 51 => ⟨S24, .f32⟩
  | 52 => ⟨S24, .f32⟩
  | 53 => ⟨S512, .f32⟩
  | 54 => ⟨S4096, .f32⟩
  | 55 => ⟨S4096, .f32⟩
  | 56 => ⟨S835264, .f32⟩
  | 57 => ⟨S11968, .f32⟩
  | 58 => ⟨S847232, .f32⟩
  | 59 => ⟨S_, .i32⟩
  | 60 => ⟨S_, .f32⟩
  | 61 => ⟨S917504, .f32⟩
  | 62 => ⟨S7168x128, .f32⟩
  | 63 => ⟨S2048, .f32⟩
  | 64 => ⟨S2560, .f32⟩
  | 65 => ⟨S4608, .f32⟩
  | 66 => ⟨S1536, .f32⟩
  | 67 => ⟨S12288, .f32⟩
  | 68 => ⟨S12288, .f32⟩
  | 69 => ⟨S192, .f32⟩
  | 70 => ⟨S196608, .f32⟩
  | 71 => ⟨S196608, .f32⟩
  | 72 => ⟨S196608, .f32⟩
  | 73 => ⟨S196608, .f32⟩
  | 74 => ⟨S3072, .f32⟩
  | 75 => ⟨S3072, .f32⟩
  | 76 => ⟨S5120, .f32⟩
  | 77 => ⟨S48, .f32⟩
  | 78 => ⟨S48, .f32⟩
  | 79 => ⟨S48, .f32⟩
  | 80 => ⟨S3072, .f32⟩
  | 81 => ⟨S24, .f32⟩
  | 82 => ⟨S24, .f32⟩
  | 83 => ⟨S512, .f32⟩
  | 84 => ⟨S4096, .f32⟩
  | 85 => ⟨S4096, .f32⟩
  | 86 => ⟨S835264, .f32⟩
  | 87 => ⟨S11968, .f32⟩
  | 88 => ⟨S847232, .f32⟩
  | 89 => ⟨S_, .i32⟩
  | 90 => ⟨S_, .f32⟩
  | 91 => ⟨S917504, .f32⟩
  | 92 => ⟨S7168x128, .f32⟩
  | 93 => ⟨S7168x128, .f32⟩
  | 94 => ⟨S7168x128, .f32⟩
  | 95 => ⟨S7168x128, .f32⟩
  | 96 => ⟨S7168x128, .f32⟩
  | _ => ⟨S16x128, .f32⟩

abbrev hbmTy (i : Nat) : BufTy := match i / 128 with
  | 0 => hbmTy0_0 i
  | 1 => hbmTy0_1 i
  | _ => ⟨S16x128, .f32⟩

abbrev bufTy : (tb : Table) → Fin (tcTables nBuf tb) → BufTy
  | .hbm, ⟨i, _⟩ => hbmTy i
  | .local _ .vmem, ⟨0, _⟩ => ⟨S1x1792x128, .f32⟩
  | .local _ .vmem, ⟨1, _⟩ => ⟨S1x1792x128, .f32⟩
  | .local _ .vmem, ⟨2, _⟩ => ⟨S1792x128, .f32⟩
  | .local _ .vmem, ⟨3, _⟩ => ⟨S1792x128, .f32⟩
  | .local _ .vmem, ⟨4, _⟩ => ⟨S1792x128, .f32⟩
  | .local _ .vmem, ⟨5, _⟩ => ⟨S1792x128, .f32⟩
  | .local _ .vmem, ⟨6, _⟩ => ⟨S1792x128, .f32⟩
  | .local _ .vmem, ⟨7, _⟩ => ⟨S1792x128, .f32⟩
  | .local _ .vmem, ⟨8, _⟩ => ⟨S1792x128, .f32⟩
  | .local _ .vmem, ⟨9, _⟩ => ⟨S1792x128, .f32⟩
  | .local _ .vmem, ⟨10, _⟩ => ⟨S1792x128, .f32⟩
  | .local _ .vmem, ⟨11, _⟩ => ⟨S1792x128, .f32⟩
  | .local _ .vmem, ⟨12, _⟩ => ⟨S1792x128, .f32⟩
  | .local _ .vmem, ⟨13, _⟩ => ⟨S1792x128, .f32⟩
  | .local _ .vmem, ⟨14, _⟩ => ⟨S1792x128, .f32⟩
  | .local _ .vmem, ⟨15, _⟩ => ⟨S1792x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_arg76 : Ref sig .tc := ⟨.hbm, 76, rfl⟩
abbrev main_arg77 : Ref sig .tc := ⟨.hbm, 77, rfl⟩
abbrev main_arg78 : Ref sig .tc := ⟨.hbm, 78, rfl⟩
abbrev main_arg79 : Ref sig .tc := ⟨.hbm, 79, rfl⟩
abbrev main_arg80 : Ref sig .tc := ⟨.hbm, 80, rfl⟩
abbrev main_arg81 : Ref sig .tc := ⟨.hbm, 81, rfl⟩
abbrev main_arg82 : Ref sig .tc := ⟨.hbm, 82, rfl⟩
abbrev main_arg83 : Ref sig .tc := ⟨.hbm, 83, rfl⟩
abbrev main_arg84 : Ref sig .tc := ⟨.hbm, 84, rfl⟩
abbrev main_arg85 : Ref sig .tc := ⟨.hbm, 85, rfl⟩
abbrev main_arg86 : Ref sig .tc := ⟨.hbm, 86, rfl⟩
abbrev main_arg87 : Ref sig .tc := ⟨.hbm, 87, rfl⟩
abbrev main_arg88 : Ref sig .tc := ⟨.hbm, 88, rfl⟩
abbrev main_arg89 : Ref sig .tc := ⟨.hbm, 89, rfl⟩
abbrev main_arg90 : Ref sig .tc := ⟨.hbm, 90, rfl⟩
abbrev main_arg91 : Ref sig .tc := ⟨.hbm, 91, rfl⟩
abbrev main_arg92 : Ref sig .tc := ⟨.hbm, 92, rfl⟩
abbrev main_arg93 : Ref sig .tc := ⟨.hbm, 93, rfl⟩
abbrev main_arg94 : Ref sig .tc := ⟨.hbm, 94, rfl⟩
abbrev main_arg95 : Ref sig .tc := ⟨.hbm, 95, rfl⟩
abbrev main_arg96 : Ref sig .tc := ⟨.hbm, 96, rfl⟩
abbrev main_arg97 : Ref sig .tc := ⟨.hbm, 97, rfl⟩
abbrev main_arg98 : Ref sig .tc := ⟨.hbm, 98, rfl⟩
abbrev main_arg99 : Ref sig .tc := ⟨.hbm, 99, rfl⟩
abbrev main_v0 : Ref sig .tc := ⟨.hbm, 100, rfl⟩
abbrev main_v1 : Ref sig .tc := ⟨.hbm, 101, rfl⟩
abbrev main_v2 : Ref sig .tc := ⟨.hbm, 102, rfl⟩
abbrev main_v3 : Ref sig .tc := ⟨.hbm, 103, rfl⟩
abbrev main_v4 : Ref sig .tc := ⟨.hbm, 104, rfl⟩
abbrev main_v5 : Ref sig .tc := ⟨.hbm, 105, rfl⟩
abbrev main_v6 : Ref sig .tc := ⟨.hbm, 106, rfl⟩
abbrev main_v7 : Ref sig .tc := ⟨.hbm, 107, rfl⟩
abbrev main_v8 : Ref sig .tc := ⟨.hbm, 108, rfl⟩
abbrev main_v9 : Ref sig .tc := ⟨.hbm, 109, rfl⟩
abbrev main_v10 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_v15 : Ref sig .tc := ⟨.hbm, 115, rfl⟩
abbrev main_v16 : Ref sig .tc := ⟨.hbm, 116, rfl⟩
abbrev main_v17 : Ref sig .tc := ⟨.hbm, 117, rfl⟩
abbrev main_v18 : Ref sig .tc := ⟨.hbm, 118, rfl⟩
abbrev main_v19 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c : Ref sig .tc := ⟨.hbm, 126, rfl⟩
abbrev main_call0_v0 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_v52 : Ref sig .tc := ⟨.hbm, 154, rfl⟩
abbrev main_v53 : Ref sig .tc := ⟨.hbm, 155, rfl⟩
abbrev main_v54 : Ref sig .tc := ⟨.hbm, 156, rfl⟩
abbrev main_c_0 : Ref sig .tc := ⟨.hbm, 157, rfl⟩
abbrev main_call1_v0 : Ref sig .tc := ⟨.hbm, 158, rfl⟩
abbrev main_v55 : Ref sig .tc := ⟨.hbm, 159, rfl⟩
abbrev main_v56 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_c_1 : Ref sig .tc := ⟨.hbm, 187, rfl⟩
abbrev main_call2_v0 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_c_2 : Ref sig .tc := ⟨.hbm, 217, rfl⟩
abbrev main_call3_v0 : Ref sig .tc := ⟨.hbm, 218, rfl⟩
abbrev main_v111 : Ref sig .tc := ⟨.hbm, 219, rfl⟩
abbrev main_v112 : Ref sig .tc := ⟨.hbm, 220, rfl⟩
abbrev main_v113_0 : Ref sig .tc := ⟨.hbm, 221, rfl⟩
abbrev main_v113_1 : Ref sig .tc := ⟨.hbm, 222, rfl⟩
abbrev main_v113_2 : Ref sig .tc := ⟨.hbm, 223, rfl⟩
abbrev main_v113_3 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1792x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1792x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1792x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1792x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1792x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRestRefIdeal.lean ====
abbrev S16x128 : Shape := ⟨2, ![16, 128]⟩
abbrev S4x4x160 : Shape := ⟨3, ![4, 4, 160]⟩
abbrev S4x4x288 : Shape := ⟨3, ![4, 4, 288]⟩
abbrev S4x3x128 : Shape := ⟨3, ![4, 3, 128]⟩
abbrev S1024 : Shape := ⟨1, ![1024]⟩
abbrev S4x48x64 : Shape := ⟨3, ![4, 48, 64]⟩
abbrev S4x48 : Shape := ⟨2, ![4, 48]⟩
abbrev S4x48x64x16 : Shape := ⟨4, ![4, 48, 64, 16]⟩
abbrev S4x48x16x64 : Shape := ⟨4, ![4, 48, 16, 64]⟩
abbrev S4x768 : Shape := ⟨2, ![4, 768]⟩
abbrev S4x1280 : Shape := ⟨2, ![4, 1280]⟩
abbrev S4x12 : Shape := ⟨2, ![4, 12]⟩
abbrev S4x6 : Shape := ⟨2, ![4, 6]⟩
abbrev S4x128 : Shape := ⟨2, ![4, 128]⟩
abbrev S4x1024 : Shape := ⟨2, ![4, 1024]⟩
abbrev S_ : Shape := ⟨0, ![]⟩
abbrev S2048 : Shape := ⟨1, ![2048]⟩
abbrev S2560 : Shape := ⟨1, ![2560]⟩
abbrev S4608 : Shape := ⟨1, ![4608]⟩
abbrev S1536 : Shape := ⟨1, ![1536]⟩
abbrev S12288 : Shape := ⟨1, ![12288]⟩
abbrev S192 : Shape := ⟨1, ![192]⟩
abbrev S196608 : Shape := ⟨1, ![196608]⟩
abbrev S3072 : Shape := ⟨1, ![3072]⟩
abbrev S5120 : Shape := ⟨1, ![5120]⟩
abbrev S48 : Shape := ⟨1, ![48]⟩
abbrev S24 : Shape := ⟨1, ![24]⟩
abbrev S512 : Shape := ⟨1, ![512]⟩
abbrev S4096 : Shape := ⟨1, ![4096]⟩
abbrev S835264 : Shape := ⟨1, ![835264]⟩
abbrev S11968 : Shape := ⟨1, ![11968]⟩
abbrev S847232 : Shape := ⟨1, ![847232]⟩
abbrev S917504 : Shape := ⟨1, ![917504]⟩
abbrev S7168x128 : Shape := ⟨2, ![7168, 128]⟩

abbrev nBuf : Space → Nat
  | .hbm => 1045
  | .vmem => 0
  | .smem => 0
  | _ => 0

abbrev hbmTy0_0 (i : Nat) : BufTy := match i % 128 with
  | 0 => ⟨S16x128, .f32⟩
  | 1 => ⟨S4x4x160, .f32⟩
  | 2 => ⟨S4x4x288, .f32⟩
  | 3 => ⟨S4x3x128, .f32⟩
  | 4 => ⟨S1024, .f32⟩
  | 5 => ⟨S1024, .f32⟩
  | 6 => ⟨S4x48x64, .f32⟩
  | 7 => ⟨S4x48x64, .f32⟩
  | 8 => ⟨S4x48, .f32⟩
  | 9 => ⟨S4x48x64x16, .f32⟩
  | 10 => ⟨S4x48x64x16, .f32⟩
  | 11 => ⟨S4x48x16x64, .f32⟩
  | 12 => ⟨S4x48x16x64, .f32⟩
  | 13 => ⟨S4x768, .f32⟩
  | 14 => ⟨S4x768, .f32⟩
  | 15 => ⟨S4x1280, .f32⟩
  | 16 => ⟨S4x12, .f32⟩
  | 17 => ⟨S4x12, .f32⟩
  | 18 => ⟨S4x12, .f32⟩
  | 19 => ⟨S4x768, .f32⟩
  | 20 => ⟨S4x6, .f32⟩
  | 21 => ⟨S4x6, .f32⟩
  | 22 => ⟨S4x128, .f32⟩
  | 23 => ⟨S4x1024, .f32⟩
  | 24 => ⟨S4x1024, .f32⟩
  | 25 => ⟨S16x128, .f32⟩
  | 26 => ⟨S4x4x160, .f32⟩
  | 27 => ⟨S4x4x288, .f32⟩
  | 28 => ⟨S4x3x128, .f32⟩
  | 29 => ⟨S1024, .f32⟩
  | 30 => ⟨S1024, .f32⟩
  | 31 => ⟨S4x48x64, .f32⟩
  | 32 => ⟨S4x48x64, .f32⟩
  | 33 => ⟨S4x48, .f32⟩
  | 34 => ⟨S4x48x64x16, .f32⟩
  | 35 => ⟨S4x48x64x16, .f32⟩
  | 36 => ⟨S4x48x16x64, .f32⟩
  | 37 => ⟨S4x48x16x64, .f32⟩
  | 38 => ⟨S4x768, .f32⟩
  | 39 => ⟨S4x768, .f32⟩
  | 40 => ⟨S4x1280, .f32⟩
  | 41 => ⟨S4x12, .f32⟩
  | 42 => ⟨S4x12, .f32⟩
  | 43 => ⟨S4x12, .f32⟩
  | 44 => ⟨S4x768, .f32⟩
  | 45 => ⟨S4x6, .f32⟩
  | 46 => ⟨S4x6, .f32⟩
  | 47 => ⟨S4x128, .f32⟩
  | 48 => ⟨S4x1024, .f32⟩
  | 49 => ⟨S4x1024, .f32⟩
  | 50 => ⟨S16x128, .f32⟩
  | 51 => ⟨S4x4x160, .f32⟩
  | 52 => ⟨S4x4x288, .f32⟩
  | 53 => ⟨S4x3x128, .f32⟩
  | 54 => ⟨S1024, .f32⟩
  | 55 => ⟨S1024, .f32⟩
  | 56 => ⟨S4x48x64, .f32⟩
  | 57 => ⟨S4x48x64, .f32⟩
  | 58 => ⟨S4x48, .f32⟩
  | 59 => ⟨S4x48x64x16, .f32⟩
  | 60 => ⟨S4x48x64x16, .f32⟩
  | 61 => ⟨S4x48x16x64, .f32⟩
  | 62 => ⟨S4x48x16x64, .f32⟩
  | 63 => ⟨S4x768, .f32⟩
  | 64 => ⟨S4x768, .f32⟩
  | 65 => ⟨S4x1280, .f32⟩
  | 66 => ⟨S4x12, .f32⟩
  | 67 => ⟨S4x12, .f32⟩
  | 68 => ⟨S4x12, .f32⟩
  | 69 => ⟨S4x768, .f32⟩
  | 70 => ⟨S4x6, .f32⟩
  | 71 => ⟨S4x6, .f32⟩
  | 72 => ⟨S4x128, .f32⟩
  | 73 => ⟨S4x1024, .f32⟩
  | 74 => ⟨S4x1024, .f32⟩
  | 75 => ⟨S16x128, .f32⟩
  | 76 => ⟨S4x4x160, .f32⟩
  | 77 => ⟨S4x4x288, .f32⟩
  | 78 => ⟨S4x3x128, .f32⟩
  | 79 => ⟨S1024, .f32⟩
  | 80 => ⟨S1024, .f32⟩
  | 81 => ⟨S4x48x64, .f32⟩
  | 82 => ⟨S4x48x64, .f32⟩
  | 83 => ⟨S4x48, .f32⟩
  | 84 => ⟨S4x48x64x16, .f32⟩
  | 85 => ⟨S4x48x64x16, .f32⟩
  | 86 => ⟨S4x48x16x64, .f32⟩
  | 87 => ⟨S4x48x16x64, .f32⟩
  | 88 => ⟨S4x768, .f32⟩
  | 89 => ⟨S4x768, .f32⟩
  | 90 => ⟨S4x1280, .f32⟩
  | 91 => ⟨S4x12, .f32⟩
  | 92 => ⟨S4x12, .f32⟩
  | 93 => ⟨S4x12, .f32⟩
  | 94 => ⟨S4x768, .f32⟩
  | 95 => ⟨S4x6, .f32⟩
  | 96 => ⟨S4x6, .f32⟩
  | 97 => ⟨S4x128, .f32⟩
  | 98 => ⟨S4x1024, .f32⟩
  | 99 => ⟨S4x1024, .f32⟩
  | 100 => ⟨S_, .f32⟩
  | 101 => ⟨S16x128, .f32⟩
  | 102 => ⟨S16x128, .f32⟩
  | 103 => ⟨S_, .f32⟩
  | 104 => ⟨S16x128, .f32⟩
  | 105 => ⟨S16x128, .f32⟩
  | 106 => ⟨S16x128, .f32⟩
  | 107 => ⟨S_, .f32⟩
  | 108 => ⟨S16x128, .f32⟩
  | 109 => ⟨S16x128, .f32⟩
  | 110 => ⟨S16x128, .f32⟩
  | 111 => ⟨S_, .f32⟩
  | 112 => ⟨S16x128, .f32⟩
  | 113 => ⟨S16x128, .f32⟩
  | 114 => ⟨S16x128, .f32⟩
  | 115 => ⟨S_, .f32⟩
  | 116 => ⟨S16x128, .f32⟩
  | 117 => ⟨S16x128, .f32⟩
  | 118 => ⟨S_, .f32⟩
  | 119 => ⟨S16x128, .f32⟩
  | 120 => ⟨S16x128, .f32⟩
  | 121 => ⟨S16x128, .f32⟩
  | 122 => ⟨S_, .f32⟩
  | 123 => ⟨S16x128, .f32⟩
  | 124 => ⟨S16x128, .f32⟩
  | 125 => ⟨S16x128, .f32⟩
  | 126 => ⟨S_, .f32⟩
  | 127 => ⟨S16x128, .f32⟩
  | _ => ⟨S16x128, .f32⟩

abbrev hbmTy0_1 (i : Nat) : BufTy := match i % 128 with
  | 0 => ⟨S16x128, .f32⟩
  | 1 => ⟨S16x128, .f32⟩
  | 2 => ⟨S_, .f32⟩
  | 3 => ⟨S16x128, .f32⟩
  | 4 => ⟨S16x128, .f32⟩
  | 5 => ⟨S_, .f32⟩
  | 6 => ⟨S4x4x160, .f32⟩
  | 7 => ⟨S4x4x160, .f32⟩
  | 8 => ⟨S_, .f32⟩
  | 9 => ⟨S4x4x160, .f32⟩
  | 10 => ⟨S4x4x160, .f32⟩
  | 11 => ⟨S4x4x160, .f32⟩
  | 12 => ⟨S_, .f32⟩
  | 13 => ⟨S4x4x160, .f32⟩
  | 14 => ⟨S4x4x160, .f32⟩
  | 15 => ⟨S4x4x160, .f32⟩
  | 16 => ⟨S_, .f32⟩
  | 17 => ⟨S4x4x160, .f32⟩
  | 18 => ⟨S4x4x160, .f32⟩
  | 19 => ⟨S4x4x160, .f32⟩
  | 20 => ⟨S_, .f32⟩
  | 21 => ⟨S4x4x160, .f32⟩
  | 22 => ⟨S4x4x160, .f32⟩
  | 23 => ⟨S_, .f32⟩
  | 24 => ⟨S4x4x160, .f32⟩
  | 25 => ⟨S4x4x160, .f32⟩
  | 26 => ⟨S4x4x160, .f32⟩
  | 27 => ⟨S_, .f32⟩
  | 28 => ⟨S4x4x160, .f32⟩
  | 29 => ⟨S4x4x160, .f32⟩
  | 30 => ⟨S4x4x160, .f32⟩
  | 31 => ⟨S_, .f32⟩
  | 32 => ⟨S4x4x160, .f32⟩
  | 33 => ⟨S4x4x160, .f32⟩
  | 34 => ⟨S4x4x160, .f32⟩
  | 35 => ⟨S_, .f32⟩
  | 36 => ⟨S4x4x160, .f32⟩
  | 37 => ⟨S4x4x160, .f32⟩
  | 38 => ⟨S_, .f32⟩
  | 39 => ⟨S4x4x288, .f32⟩
  | 40 => ⟨S4x4x288, .f32⟩
  | 41 => ⟨S_, .f32⟩
  | 42 => ⟨S4x4x288, .f32⟩
  | 43 => ⟨S4x4x288, .f32⟩
  | 44 => ⟨S4x4x288, .f32⟩
  | 45 => ⟨S_, .f32⟩
  | 46 => ⟨S4x4x288, .f32⟩
  | 47 => ⟨S4x4x288, .f32⟩
  | 48 => ⟨S4x4x288, .f32⟩
  | 49 => ⟨S_, .f32⟩
  | 50 => ⟨S4x4x288, .f32⟩
  | 51 => ⟨S4x4x288, .f32⟩
  | 52 => ⟨S4x4x288, .f32⟩
  | 53 => ⟨S_, .f32⟩
  | 54 => ⟨S4x4x288, .f32⟩
  | 55 => ⟨S4x4x288, .f32⟩
  | 56 => ⟨S_, .f32⟩
  | 57 => ⟨S4x4x288, .f32⟩
  | 58 => ⟨S4x4x288, .f32⟩
  | 59 => ⟨S4x4x288, .f32⟩
  | 60 => ⟨S_, .f32⟩
  | 61 => ⟨S4x4x288, .f32⟩
  | 62 => ⟨S4x4x288, .f32⟩
  | 63 => ⟨S4x4x288, .f32⟩
  | 64 => ⟨S_, .f32⟩
  | 65 => ⟨S4x4x288, .f32⟩
  | 66 => ⟨S4x4x288, .f32⟩
  | 67 => ⟨S4x4x288, .f32⟩
  | 68 => ⟨S_, .f32⟩
  | 69 => ⟨S4x4x288, .f32⟩
  | 70 => ⟨S4x4x288, .f32⟩
  | 71 => ⟨S_, .f32⟩
  | 72 => ⟨S4x3x128, .f32⟩
  | 73 => ⟨S4x3x128, .f32⟩
  | 74 => ⟨S_, .f32⟩
  | 75 => ⟨S4x3x128, .f32⟩
  | 76 => ⟨S4x3x128, .f32⟩
  | 77 => ⟨S4x3x128, .f32⟩
  | 78 => ⟨S_, .f32⟩
  | 79 => ⟨S4x3x128, .f32⟩
  | 80 => ⟨S4x3x128, .f32⟩
  | 81 => ⟨S4x3x128, .f32⟩
  | 82 => ⟨S_, .f32⟩
  | 83 => ⟨S4x3x128, .f32⟩
  | 84 => ⟨S4x3x128, .f32⟩
  | 85 => ⟨S4x3x128, .f32⟩
  | 86 => ⟨S_, .f32⟩
  | 87 => ⟨S4x3x128, .f32⟩
  | 88 => ⟨S4x3x128, .f32⟩
  | 89 => ⟨S_, .f32⟩
  | 90 => ⟨S4x3x128, .f32⟩
  | 91 => ⟨S4x3x128, .f32⟩
  | 92 => ⟨S4x3x128, .f32⟩
  | 93 => ⟨S_, .f32⟩
  | 94 => ⟨S4x3x128, .f32⟩
  | 95 => ⟨S4x3x128, .f32⟩
  | 96 => ⟨S4x3x128, .f32⟩
  | 97 => ⟨S_, .f32⟩
  | 98 => ⟨S4x3x128, .f32⟩
  | 99 => ⟨S4x3x128, .f32⟩
  | 100 => ⟨S4x3x128, .f32⟩
  | 101 => ⟨S_, .f32⟩
  | 102 => ⟨S4x3x128, .f32⟩
  | 103 => ⟨S4x3x128, .f32⟩
  | 104 => ⟨S_, .f32⟩
  | 105 => ⟨S1024, .f32⟩
  | 106 => ⟨S1024, .f32⟩
  | 107 => ⟨S_, .f32⟩
  | 108 => ⟨S1024, .f32⟩
  | 109 => ⟨S1024, .f32⟩
  | 110 => ⟨S1024, .f32⟩
  | 111 => ⟨S_, .f32⟩
  | 112 => ⟨S1024, .f32⟩
  | 113 => ⟨S1024, .f32⟩
  | 114 => ⟨S1024, .f32⟩
  | 115 => ⟨S_, .f32⟩
  | 116 => ⟨S1024, .f32⟩
  | 117 => ⟨S1024, .f32⟩
  | 118 => ⟨S1024, .f32⟩
  | 119 => ⟨S_, .f32⟩
  | 120 => ⟨S1024, .f32⟩
  | 121 => ⟨S1024, .f32⟩
  | 122 => ⟨S_, .f32⟩
  | 123 => ⟨S1024, .f32⟩
  | 124 => ⟨S1024, .f32⟩
  | 125 => ⟨S1024, .f32⟩
  | 126 => ⟨S_, .f32⟩
  | 127 => ⟨S1024, .f32⟩
  | _ => ⟨S16x128, .f32⟩

abbrev hbmTy0_2 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S_, .f32⟩
  | 7 => ⟨S1024, .f32⟩
  | 8 => ⟨S1024, .f32⟩
  | 9 => ⟨S_, .f32⟩
  | 10 => ⟨S1024, .f32⟩
  | 11 => ⟨S1024, .f32⟩
  | 12 => ⟨S_, .f32⟩
  | 13 => ⟨S1024, .f32⟩
  | 14 => ⟨S1024, .f32⟩
  | 15 => ⟨S1024, .f32⟩
  | 16 => ⟨S_, .f32⟩
  | 17 => ⟨S1024, .f32⟩
  | 18 => ⟨S1024, .f32⟩
  | 19 => ⟨S1024, .f32⟩
  | 20 => ⟨S_, .f32⟩
  | 21 => ⟨S1024, .f32⟩
  | 22 => ⟨S1024, .f32⟩
  | 23 => ⟨S1024, .f32⟩
  | 24 => ⟨S_, .f32⟩
  | 25 => ⟨S1024, .f32⟩
  | 26 => ⟨S1024, .f32⟩
  | 27 => ⟨S_, .f32⟩
  | 28 => ⟨S1024, .f32⟩
  | 29 => ⟨S1024, .f32⟩
  | 30 => ⟨S1024, .f32⟩
  | 31 => ⟨S_, .f32⟩
  | 32 => ⟨S1024, .f32⟩
  | 33 => ⟨S1024, .f32⟩
  | 34 => ⟨S1024, .f32⟩
  | 35 => ⟨S_, .f32⟩
  | 36 => ⟨S1024, .f32⟩
  | 37 => ⟨S1024, .f32⟩
  | 38 => ⟨S1024, .f32⟩
  | 39 => ⟨S_, .f32⟩
  | 40 => ⟨S1024, .f32⟩
  | 41 => ⟨S1024, .f32⟩
  | 42 => ⟨S_, .f32⟩
  | 43 => ⟨S4x48x64, .f32⟩
  | 44 => ⟨S4x48x64, .f32⟩
  | 45 => ⟨S_, .f32⟩
  | 46 => ⟨S4x48x64, .f32⟩
  | 47 => ⟨S4x48x64, .f32⟩
  | 48 => ⟨S4x48x64, .f32⟩
  | 49 => ⟨S_, .f32⟩
  | 50 => ⟨S4x48x64, .f32⟩
  | 51 => ⟨S4x48x64, .f32⟩
  | 52 => ⟨S4x48x64, .f32⟩
  | 53 => ⟨S_, .f32⟩
  | 54 => ⟨S4x48x64, .f32⟩
  | 55 => ⟨S4x48x64, .f32⟩
  | 56 => ⟨S4x48x64, .f32⟩
  | 57 => ⟨S_, .f32⟩
  | 58 => ⟨S4x48x64, .f32⟩
  | 59 => ⟨S4x48x64, .f32⟩
  | 60 => ⟨S_, .f32⟩
  | 61 => ⟨S4x48x64, .f32⟩
  | 62 => ⟨S4x48x64, .f32⟩
  | 63 => ⟨S4x48x64, .f32⟩
  | 64 => ⟨S_, .f32⟩
  | 65 => ⟨S4x48x64, .f32⟩
  | 66 => ⟨S4x48x64, .f32⟩
  | 67 => ⟨S4x48x64, .f32⟩
  | 68 => ⟨S_, .f32⟩
  | 69 => ⟨S4x48x64, .f32⟩
  | 70 => ⟨S4x48x64, .f32⟩
  | 71 => ⟨S4x48x64, .f32⟩
  | 72 => ⟨S_, .f32⟩
  | 73 => ⟨S4x48x64, .f32⟩
  | 74 => ⟨S4x48x64, .f32⟩
  | 75 => ⟨S_, .f32⟩
  | 76 => ⟨S4x48x64, .f32⟩
  | 77 => ⟨S4x48x64, .f32⟩
  | 78 => ⟨S_, .f32⟩
  | 79 => ⟨S4x48x64, .f32⟩
  | 80 => ⟨S4x48x64, .f32⟩
  | 81 => ⟨S4x48x64, .f32⟩
  | 82 => ⟨S_, .f32⟩
  | 83 => ⟨S4x48x64, .f32⟩
  | 84 => ⟨S4x48x64, .f32⟩
  | 85 => ⟨S4x48x64, .f32⟩
  | 86 => ⟨S_, .f32⟩
  | 87 => ⟨S4x48x64, .f32⟩
  | 88 => ⟨S4x48x64, .f32⟩
  | 89 => ⟨S4x48x64, .f32⟩
  | 90 => ⟨S_, .f32⟩
  | 91 => ⟨S4x48x64, .f32⟩
  | 92 => ⟨S4x48x64, .f32⟩
  | 93 => ⟨S_, .f32⟩
  | 94 => ⟨S4x48x64, .f32⟩
  | 95 => ⟨S4x48x64, .f32⟩
  | 96 => ⟨S4x48x64, .f32⟩
  | 97 => ⟨S_, .f32⟩
  | 98 => ⟨S4x48x64, .f32⟩
  | 99 => ⟨S4x48x64, .f32⟩
  | 100 => ⟨S4x48x64, .f32⟩
  | 101 => ⟨S_, .f32⟩
  | 102 => ⟨S4x48x64, .f32⟩
  | 103 => ⟨S4x48x64, .f32⟩
  | 104 => ⟨S4x48x64, .f32⟩
  | 105 => ⟨S_, .f32⟩
  | 106 => ⟨S4x48x64, .f32⟩
  | 107 => ⟨S4x48x64, .f32⟩
  | 108 => ⟨S_, .f32⟩
  | 109 => ⟨S4x48, .f32⟩
  | 110 => ⟨S4x48, .f32⟩
  | 111 => ⟨S_, .f32⟩
  | 112 => ⟨S4x48, .f32⟩
  | 113 => ⟨S4x48, .f32⟩
  | 114 => ⟨S4x48, .f32⟩
  | 115 => ⟨S_, .f32⟩
  | 116 => ⟨S4x48, .f32⟩
  | 117 => ⟨S4x48, .f32⟩
  | 118 => ⟨S4x48, .f32⟩
  | 119 => ⟨S_, .f32⟩
  | 120 => ⟨S4x48, .f32⟩
  | 121 => ⟨S4x48, .f32⟩
  | 122 => ⟨S4x48, .f32⟩
  | 123 => ⟨S_, .f32⟩
  | 124 => ⟨S4x48, .f32⟩
  | 125 => ⟨S4x48, .f32⟩
  | 126 => ⟨S_, .f32⟩
  | 127 => ⟨S4x48, .f32⟩
  | _ => ⟨S16x128, .f32⟩

abbrev hbmTy0_3 (i : Nat) : BufTy := match i % 128 with
  | 0 => ⟨S4x48, .f32⟩
  | 1 => ⟨S4x48, .f32⟩
  | 2 => ⟨S_, .f32⟩
  | 3 => ⟨S4x48, .f32⟩
  | 4 => ⟨S4x48, .f32⟩
  | 5 => ⟨S4x48, .f32⟩
  | 6 => ⟨S_, .f32⟩
  | 7 => ⟨S4x48, .f32⟩
  | 8 => ⟨S4x48, .f32⟩
  | 9 => ⟨S4x48, .f32⟩
  | 10 => ⟨S_, .f32⟩
  | 11 => ⟨S4x48, .f32⟩
  | 12 => ⟨S4x48, .f32⟩
  | 13 => ⟨S_, .f32⟩
  | 14 => ⟨S4x48x64x16, .f32⟩
  | 15 => ⟨S4x48x64x16, .f32⟩
  | 16 => ⟨S_, .f32⟩
  | 17 => ⟨S4x48x64x16, .f32⟩
  | 18 => ⟨S4x48x64x16, .f32⟩
  | 19 => ⟨S4x48x64x16, .f32⟩
  | 20 => ⟨S_, .f32⟩
  | 21 => ⟨S4x48x64x16, .f32⟩
  | 22 => ⟨S4x48x64x16, .f32⟩
  | 23 => ⟨S4x48x64x16, .f32⟩
  | 24 => ⟨S_, .f32⟩
  | 25 => ⟨S4x48x64x16, .f32⟩
  | 26 => ⟨S4x48x64x16, .f32⟩
  | 27 => ⟨S4x48x64x16, .f32⟩
  | 28 => ⟨S_, .f32⟩
  | 29 => ⟨S4x48x64x16, .f32⟩
  | 30 => ⟨S4x48x64x16, .f32⟩
  | 31 => ⟨S_, .f32⟩
  | 32 => ⟨S4x48x64x16, .f32⟩
  | 33 => ⟨S4x48x64x16, .f32⟩
  | 34 => ⟨S4x48x64x16, .f32⟩
  | 35 => ⟨S_, .f32⟩
  | 36 => ⟨S4x48x64x16, .f32⟩
  | 37 => ⟨S4x48x64x16, .f32⟩
  | 38 => ⟨S4x48x64x16, .f32⟩
  | 39 => ⟨S_, .f32⟩
  | 40 => ⟨S4x48x64x16, .f32⟩
  | 41 => ⟨S4x48x64x16, .f32⟩
  | 42 => ⟨S4x48x64x16, .f32⟩
  | 43 => ⟨S_, .f32⟩
  | 44 => ⟨S4x48x64x16, .f32⟩
  | 45 => ⟨S4x48x64x16, .f32⟩
  | 46 => ⟨S_, .f32⟩
  | 47 => ⟨S4x48x64x16, .f32⟩
  | 48 => ⟨S4x48x64x16, .f32⟩
  | 49 => ⟨S_, .f32⟩
  | 50 => ⟨S4x48x64x16, .f32⟩
  | 51 => ⟨S4x48x64x16, .f32⟩
  | 52 => ⟨S4x48x64x16, .f32⟩
  | 53 => ⟨S_, .f32⟩
  | 54 => ⟨S4x48x64x16, .f32⟩
  | 55 => ⟨S4x48x64x16, .f32⟩
  | 56 => ⟨S4x48x64x16, .f32⟩
  | 57 => ⟨S_, .f32⟩
  | 58 => ⟨S4x48x64x16, .f32⟩
  | 59 => ⟨S4x48x64x16, .f32⟩
  | 60 => ⟨S4x48x64x16, .f32⟩
  | 61 => ⟨S_, .f32⟩
  | 62 => ⟨S4x48x64x16, .f32⟩
  | 63 => ⟨S4x48x64x16, .f32⟩
  | 64 => ⟨S_, .f32⟩
  | 65 => ⟨S4x48x64x16, .f32⟩
  | 66 => ⟨S4x48x64x16, .f32⟩
  | 67 => ⟨S4x48x64x16, .f32⟩
  | 68 => ⟨S_, .f32⟩
  | 69 => ⟨S4x48x64x16, .f32⟩
  | 70 => ⟨S4x48x64x16, .f32⟩
  | 71 => ⟨S4x48x64x16, .f32⟩
  | 72 => ⟨S_, .f32⟩
  | 73 => ⟨S4x48x64x16, .f32⟩
  | 74 => ⟨S4x48x64x16, .f32⟩
  | 75 => ⟨S4x48x64x16, .f32⟩
  | 76 => ⟨S_, .f32⟩
  | 77 => ⟨S4x48x64x16, .f32⟩
  | 78 => ⟨S4x48x64x16, .f32⟩
  | 79 => ⟨S_, .f32⟩
  | 80 => ⟨S4x48x16x64, .f32⟩
  | 81 => ⟨S4x48x16x64, .f32⟩
  | 82 => ⟨S_, .f32⟩
  | 83 => ⟨S4x48x16x64, .f32⟩
  | 84 => ⟨S4x48x16x64, .f32⟩
  | 85 => ⟨S4x48x16x64, .f32⟩
  | 86 => ⟨S_, .f32⟩
  | 87 => ⟨S4x48x16x64, .f32⟩
  | 88 => ⟨S4x48x16x64, .f32⟩
  | 89 => ⟨S4x48x16x64, .f32⟩
  | 90 => ⟨S_, .f32⟩
  | 91 => ⟨S4x48x16x64, .f32⟩
  | 92 => ⟨S4x48x16x64, .f32⟩
  | 93 => ⟨S4x48x16x64, .f32⟩
  | 94 => ⟨S_, .f32⟩
  | 95 => ⟨S4x48x16x64, .f32⟩
  | 96 => ⟨S4x48x16x64, .f32⟩
  | 97 => ⟨S_, .f32⟩
  | 98 => ⟨S4x48x16x64, .f32⟩
  | 99 => ⟨S4x48x16x64, .f32⟩
  | 100 => ⟨S4x48x16x64, .f32⟩
  | 101 => ⟨S_, .f32⟩
  | 102 => ⟨S4x48x16x64, .f32⟩
  | 103 => ⟨S4x48x16x64, .f32⟩
  | 104 => ⟨S4x48x16x64, .f32⟩
  | 105 => ⟨S_, .f32⟩
  | 106 => ⟨S4x48x16x64, .f32⟩
  | 107 => ⟨S4x48x16x64, .f32⟩
  | 108 => ⟨S4x48x16x64, .f32⟩
  | 109 => ⟨S_, .f32⟩
  | 110 => ⟨S4x48x16x64, .f32⟩
  | 111 => ⟨S4x48x16x64, .f32⟩
  | 112 => ⟨S_, .f32⟩
  | 113 => ⟨S4x48x16x64, .f32⟩
  | 114 => ⟨S4x48x16x64, .f32⟩
  | 115 => ⟨S_, .f32⟩
  | 116 => ⟨S4x48x16x64, .f32⟩
  | 117 => ⟨S4x48x16x64, .f32⟩
  | 118 => ⟨S4x48x16x64, .f32⟩
  | 119 => ⟨S_, .f32⟩
  | 120 => ⟨S4x48x16x64, .f32⟩
  | 121 => ⟨S4x48x16x64, .f32⟩
  | 122 => ⟨S4x48x16x64, .f32⟩
  | 123 => ⟨S_, .f32⟩
  | 124 => ⟨S4x48x16x64, .f32⟩
  | 125 => ⟨S4x48x16x64, .f32⟩
  | 126 => ⟨S4x48x16x64, .f32⟩
  | 127 => ⟨S_, .f32⟩
  | _ => ⟨S16x128, .f32⟩

abbrev hbmTy0_4 (i : Nat) : BufTy := match i % 128 with
  | 0 => ⟨S4x48x16x64, .f32⟩
  | 1 => ⟨S4x48x16x64, .f32⟩
  | 2 => ⟨S_, .f32⟩
  | 3 => ⟨S4x48x16x64, .f32⟩
  | 4 => ⟨S4x48x16x64, .f32⟩
  | 5 => ⟨S4x48x16x64, .f32⟩
  | 6 => ⟨S_, .f32⟩
  | 7 => ⟨S4x48x16x64, .f32⟩
  | 8 => ⟨S4x48x16x64, .f32⟩
  | 9 => ⟨S4x48x16x64, .f32⟩
  | 10 => ⟨S_, .f32⟩
  | 11 => ⟨S4x48x16x64, .f32⟩
  | 12 => ⟨S4x48x16x64, .f32⟩
  | 13 => ⟨S4x48x16x64, .f32⟩
  | 14 => ⟨S_, .f32⟩
  | 15 => ⟨S4x48x16x64, .f32⟩
  | 16 => ⟨S4x48x16x64, .f32⟩
  | 17 => ⟨S_, .f32⟩
  | 18 => ⟨S4x768, .f32⟩
  | 19 => ⟨S4x768, .f32⟩
  | 20 => ⟨S_, .f32⟩
  | 21 => ⟨S4x768, .f32⟩
  | 22 => ⟨S4x768, .f32⟩
  | 23 => ⟨S4x768, .f32⟩
  | 24 => ⟨S_, .f32⟩
  | 25 => ⟨S4x768, .f32⟩
  | 26 => ⟨S4x768, .f32⟩
  | 27 => ⟨S4x768, .f32⟩
  | 28 => ⟨S_, .f32⟩
  | 29 => ⟨S4x768, .f32⟩
  | 30 => ⟨S4x768, .f32⟩
  | 31 => ⟨S4x768, .f32⟩
  | 32 => ⟨S_, .f32⟩
  | 33 => ⟨S4x768, .f32⟩
  | 34 => ⟨S4x768, .f32⟩
  | 35 => ⟨S_, .f32⟩
  | 36 => ⟨S4x768, .f32⟩
  | 37 => ⟨S4x768, .f32⟩
  | 38 => ⟨S4x768, .f32⟩
  | 39 => ⟨S_, .f32⟩
  | 40 => ⟨S4x768, .f32⟩
  | 41 => ⟨S4x768, .f32⟩
  | 42 => ⟨S4x768, .f32⟩
  | 43 => ⟨S_, .f32⟩
  | 44 => ⟨S4x768, .f32⟩
  | 45 => ⟨S4x768, .f32⟩
  | 46 => ⟨S4x768, .f32⟩
  | 47 => ⟨S_, .f32⟩
  | 48 => ⟨S4x768, .f32⟩
  | 49 => ⟨S4x768, .f32⟩
  | 50 => ⟨S_, .f32⟩
  | 51 => ⟨S4x768, .f32⟩
  | 52 => ⟨S4x768, .f32⟩
  | 53 => ⟨S_, .f32⟩
  | 54 => ⟨S4x768, .f32⟩
  | 55 => ⟨S4x768, .f32⟩
  | 56 => ⟨S4x768, .f32⟩
  | 57 => ⟨S_, .f32⟩
  | 58 => ⟨S4x768, .f32⟩
  | 59 => ⟨S4x768, .f32⟩
  | 60 => ⟨S4x768, .f32⟩
  | 61 => ⟨S_, .f32⟩
  | 62 => ⟨S4x768, .f32⟩
  | 63 => ⟨S4x768, .f32⟩
  | 64 => ⟨S4x768, .f32⟩
  | 65 => ⟨S_, .f32⟩
  | 66 => ⟨S4x768, .f32⟩
  | 67 => ⟨S4x768, .f32⟩
  | 68 => ⟨S_, .f32⟩
  | 69 => ⟨S4x768, .f32⟩
  | 70 => ⟨S4x768, .f32⟩
  | 71 => ⟨S4x768, .f32⟩
  | 72 => ⟨S_, .f32⟩
  | 73 => ⟨S4x768, .f32⟩
  | 74 => ⟨S4x768, .f32⟩
  | 75 => ⟨S4x768, .f32⟩
  | 76 => ⟨S_, .f32⟩
  | 77 => ⟨S4x768, .f32⟩
  | 78 => ⟨S4x768, .f32⟩
  | 79 => ⟨S4x768, .f32⟩
  | 80 => ⟨S_, .f32⟩
  | 81 => ⟨S4x768, .f32⟩
  | 82 => ⟨S4x768, .f32⟩
  | 83 => ⟨S_, .f32⟩
  | 84 => ⟨S4x1280, .f32⟩
  | 85 => ⟨S4x1280, .f32⟩
  | 86 => ⟨S_, .f32⟩
  | 87 => ⟨S4x1280, .f32⟩
  | 88 => ⟨S4x1280, .f32⟩
  | 89 => ⟨S4x1280, .f32⟩
  | 90 => ⟨S_, .f32⟩
  | 91 => ⟨S4x1280, .f32⟩
  | 92 => ⟨S4x1280, .f32⟩
  | 93 => ⟨S4x1280, .f32⟩
  | 94 => ⟨S_, .f32⟩
  | 95 => ⟨S4x1280, .f32⟩
  | 96 => ⟨S4x1280, .f32⟩
  | 97 => ⟨S4x1280, .f32⟩
  | 98 => ⟨S_, .f32⟩
  | 99 => ⟨S4x1280, .f32⟩
  | 100 => ⟨S4x1280, .f32⟩
  | 101 => ⟨S_, .f32⟩
  | 102 => ⟨S4x1280, .f32⟩
  | 103 => ⟨S4x1280, .f32⟩
  | 104 => ⟨S4x1280, .f32⟩
  | 105 => ⟨S_, .f32⟩
  | 106 => ⟨S4x1280, .f32⟩
  | 107 => ⟨S4x1280, .f32⟩
  | 108 => ⟨S4x1280, .f32⟩
  | 109 => ⟨S_, .f32⟩
  | 110 => ⟨S4x1280, .f32⟩
  | 111 => ⟨S4x1280, .f32⟩
  | 112 => ⟨S4x1280, .f32⟩
  | 113 => ⟨S_, .f32⟩
  | 114 => ⟨S4x1280, .f32⟩
  | 115 => ⟨S4x1280, .f32⟩
  | 116 => ⟨S_, .f32⟩
  | 117 => ⟨S4x12, .f32⟩
  | 118 => ⟨S4x12, .f32⟩
  | 119 => ⟨S_, .f32⟩
  | 120 => ⟨S4x12, .f32⟩
  | 121 => ⟨S4x12, .f32⟩
  | 122 => ⟨S4x12, .f32⟩
  | 123 => ⟨S_, .f32⟩
  | 124 => ⟨S4x12, .f32⟩
  | 125 => ⟨S4x12, .f32⟩
  | 126 => ⟨S4x12, .f32⟩
  | 127 => ⟨S_, .f32⟩
  | _ => ⟨S16x128, .f32⟩

abbrev hbmTy0_5 (i : Nat) : BufTy := match i % 128 with
  | 0 => ⟨S4x12, .f32⟩
  | 1 => ⟨S4x12, .f32⟩
  | 2 => ⟨S4x12, .f32⟩
  | 3 => ⟨S_, .f32⟩
  | 4 => ⟨S4x12, .f32⟩
  | 5 => ⟨S4x12, .f32⟩
  | 6 => ⟨S_, .f32⟩
  | 7 => ⟨S4x12, .f32⟩
  | 8 => ⟨S4x12, .f32⟩
  | 9 => ⟨S4x12, .f32⟩
  | 10 => ⟨S_, .f32⟩
  | 11 => ⟨S4x12, .f32⟩
  | 12 => ⟨S4x12, .f32⟩
  | 13 => ⟨S4x12, .f32⟩
  | 14 => ⟨S_, .f32⟩
  | 15 => ⟨S4x12, .f32⟩
  | 16 => ⟨S4x12, .f32⟩
  | 17 => ⟨S4x12, .f32⟩
  | 18 => ⟨S_, .f32⟩
  | 19 => ⟨S4x12, .f32⟩
  | 20 => ⟨S4x12, .f32⟩
  | 21 => ⟨S_, .f32⟩
  | 22 => ⟨S4x12, .f32⟩
  | 23 => ⟨S4x12, .f32⟩
  | 24 => ⟨S_, .f32⟩
  | 25 => ⟨S4x12, .f32⟩
  | 26 => ⟨S4x12, .f32⟩
  | 27 => ⟨S4x12, .f32⟩
  | 28 => ⟨S_, .f32⟩
  | 29 => ⟨S4x12, .f32⟩
  | 30 => ⟨S4x12, .f32⟩
  | 31 => ⟨S4x12, .f32⟩
  | 32 => ⟨S_, .f32⟩
  | 33 => ⟨S4x12, .f32⟩
  | 34 => ⟨S4x12, .f32⟩
  | 35 => ⟨S4x12, .f32⟩
  | 36 => ⟨S_, .f32⟩
  | 37 => ⟨S4x12, .f32⟩
  | 38 => ⟨S4x12, .f32⟩
  | 39 => ⟨S_, .f32⟩
  | 40 => ⟨S4x12, .f32⟩
  | 41 => ⟨S4x12, .f32⟩
  | 42 => ⟨S4x12, .f32⟩
  | 43 => ⟨S_, .f32⟩
  | 44 => ⟨S4x12, .f32⟩
  | 45 => ⟨S4x12, .f32⟩
  | 46 => ⟨S4x12, .f32⟩
  | 47 => ⟨S_, .f32⟩
  | 48 => ⟨S4x12, .f32⟩
  | 49 => ⟨S4x12, .f32⟩
  | 50 => ⟨S4x12, .f32⟩
  | 51 => ⟨S_, .f32⟩
  | 52 => ⟨S4x12, .f32⟩
  | 53 => ⟨S4x12, .f32⟩
  | 54 => ⟨S_, .f32⟩
  | 55 => ⟨S4x12, .f32⟩
  | 56 => ⟨S4x12, .f32⟩
  | 57 => ⟨S_, .f32⟩
  | 58 => ⟨S4x12, .f32⟩
  | 59 => ⟨S4x12, .f32⟩
  | 60 => ⟨S4x12, .f32⟩
  | 61 => ⟨S_, .f32⟩
  | 62 => ⟨S4x12, .f32⟩
  | 63 => ⟨S4x12, .f32⟩
  | 64 => ⟨S4x12, .f32⟩
  | 65 => ⟨S_, .f32⟩
  | 66 => ⟨S4x12, .f32⟩
  | 67 => ⟨S4x12, .f32⟩
  | 68 => ⟨S4x12, .f32⟩
  | 69 => ⟨S_, .f32⟩
  | 70 => ⟨S4x12, .f32⟩
  | 71 => ⟨S4x12, .f32⟩
  | 72 => ⟨S_, .f32⟩
  | 73 => ⟨S4x12, .f32⟩
  | 74 => ⟨S4x12, .f32⟩
  | 75 => ⟨S4x12, .f32⟩
  | 76 => ⟨S_, .f32⟩
  | 77 => ⟨S4x12, .f32⟩
  | 78 => ⟨S4x12, .f32⟩
  | 79 => ⟨S4x12, .f32⟩
  | 80 => ⟨S_, .f32⟩
  | 81 => ⟨S4x12, .f32⟩
  | 82 => ⟨S4x12, .f32⟩
  | 83 => ⟨S4x12, .f32⟩
  | 84 => ⟨S_, .f32⟩
  | 85 => ⟨S4x12, .f32⟩
  | 86 => ⟨S4x12, .f32⟩
  | 87 => ⟨S_, .f32⟩
  | 88 => ⟨S4x768, .f32⟩
  | 89 => ⟨S4x768, .f32⟩
  | 90 => ⟨S_, .f32⟩
  | 91 => ⟨S4x768, .f32⟩
  | 92 => ⟨S4x768, .f32⟩
  | 93 => ⟨S4x768, .f32⟩
  | 94 => ⟨S_, .f32⟩
  | 95 => ⟨S4x768, .f32⟩
  | 96 => ⟨S4x768, .f32⟩
  | 97 => ⟨S4x768, .f32⟩
  | 98 => ⟨S_, .f32⟩
  | 99 => ⟨S4x768, .f32⟩
  | 100 => ⟨S4x768, .f32⟩
  | 101 => ⟨S4x768, .f32⟩
  | 102 => ⟨S_, .f32⟩
  | 103 => ⟨S4x768, .f32⟩
  | 104 => ⟨S4x768, .f32⟩
  | 105 => ⟨S_, .f32⟩
  | 106 => ⟨S4x768, .f32⟩
  | 107 => ⟨S4x768, .f32⟩
  | 108 => ⟨S4x768, .f32⟩
  | 109 => ⟨S_, .f32⟩
  | 110 => ⟨S4x768, .f32⟩
  | 111 => ⟨S4x768, .f32⟩
  | 112 => ⟨S4x768, .f32⟩
  | 113 => ⟨S_, .f32⟩
  | 114 => ⟨S4x768, .f32⟩
  | 115 => ⟨S4x768, .f32⟩
  | 116 => ⟨S4x768, .f32⟩
  | 117 => ⟨S_, .f32⟩
  | 118 => ⟨S4x768, .f32⟩
  | 119 => ⟨S4x768, .f32⟩
  | 120 => ⟨S_, .f32⟩
  | 121 => ⟨S4x6, .f32⟩
  | 122 => ⟨S4x6, .f32⟩
  | 123 => ⟨S_, .f32⟩
  | 124 => ⟨S4x6, .f32⟩
  | 125 => ⟨S4x6, .f32⟩
  | 126 => ⟨S4x6, .f32⟩
  | 127 => ⟨S_, .f32⟩
  | _ => ⟨S16x128, .f32⟩

abbrev hbmTy0_6 (i : Nat) : BufTy := match i % 128 with
  | 0 => ⟨S4x6, .f32⟩
  | 1 => ⟨S4x6, .f32⟩
  | 2 => ⟨S4x6, .f32⟩
  | 3 => ⟨S_, .f32⟩
  | 4 => ⟨S4x6, .f32⟩
  | 5 => ⟨S4x6, .f32⟩
  | 6 => ⟨S4x6, .f32⟩
  | 7 => ⟨S_, .f32⟩
  | 8 => ⟨S4x6, .f32⟩
  | 9 => ⟨S4x6, .f32⟩
  | 10 => ⟨S_, .f32⟩
  | 11 => ⟨S4x6, .f32⟩
  | 12 => ⟨S4x6, .f32⟩
  | 13 => ⟨S4x6, .f32⟩
  | 14 => ⟨S_, .f32⟩
  | 15 => ⟨S4x6, .f32⟩
  | 16 => ⟨S4x6, .f32⟩
  | 17 => ⟨S4x6, .f32⟩
  | 18 => ⟨S_, .f32⟩
  | 19 => ⟨S4x6, .f32⟩
  | 20 => ⟨S4x6, .f32⟩
  | 21 => ⟨S4x6, .f32⟩
  | 22 => ⟨S_, .f32⟩
  | 23 => ⟨S4x6, .f32⟩
  | 24 => ⟨S4x6, .f32⟩
  | 25 => ⟨S_, .f32⟩
  | 26 => ⟨S4x6, .f32⟩
  | 27 => ⟨S4x6, .f32⟩
  | 28 => ⟨S_, .f32⟩
  | 29 => ⟨S4x6, .f32⟩
  | 30 => ⟨S4x6, .f32⟩
  | 31 => ⟨S4x6, .f32⟩
  | 32 => ⟨S_, .f32⟩
  | 33 => ⟨S4x6, .f32⟩
  | 34 => ⟨S4x6, .f32⟩
  | 35 => ⟨S4x6, .f32⟩
  | 36 => ⟨S_, .f32⟩
  | 37 => ⟨S4x6, .f32⟩
  | 38 => ⟨S4x6, .f32⟩
  | 39 => ⟨S4x6, .f32⟩
  | 40 => ⟨S_, .f32⟩
  | 41 => ⟨S4x6, .f32⟩
  | 42 => ⟨S4x6, .f32⟩
  | 43 => ⟨S_, .f32⟩
  | 44 => ⟨S4x6, .f32⟩
  | 45 => ⟨S4x6, .f32⟩
  | 46 => ⟨S4x6, .f32⟩
  | 47 => ⟨S_, .f32⟩
  | 48 => ⟨S4x6, .f32⟩
  | 49 => ⟨S4x6, .f32⟩
  | 50 => ⟨S4x6, .f32⟩
  | 51 => ⟨S_, .f32⟩
  | 52 => ⟨S4x6, .f32⟩
  | 53 => ⟨S4x6, .f32⟩
  | 54 => ⟨S4x6, .f32⟩
  | 55 => ⟨S_, .f32⟩
  | 56 => ⟨S4x6, .f32⟩
  | 57 => ⟨S4x6, .f32⟩
  | 58 => ⟨S_, .f32⟩
  | 59 => ⟨S4x128, .f32⟩
  | 60 => ⟨S4x128, .f32⟩
  | 61 => ⟨S_, .f32⟩
  | 62 => ⟨S4x128, .f32⟩
  | 63 => ⟨S4x128, .f32⟩
  | 64 => ⟨S4x128, .f32⟩
  | 65 => ⟨S_, .f32⟩
  | 66 => ⟨S4x128, .f32⟩
  | 67 => ⟨S4x128, .f32⟩
  | 68 => ⟨S4x128, .f32⟩
  | 69 => ⟨S_, .f32⟩
  | 70 => ⟨S4x128, .f32⟩
  | 71 => ⟨S4x128, .f32⟩
  | 72 => ⟨S4x128, .f32⟩
  | 73 => ⟨S_, .f32⟩
  | 74 => ⟨S4x128, .f32⟩
  | 75 => ⟨S4x128, .f32⟩
  | 76 => ⟨S_, .f32⟩
  | 77 => ⟨S4x128, .f32⟩
  | 78 => ⟨S4x128, .f32⟩
  | 79 => ⟨S4x128, .f32⟩
  | 80 => ⟨S_, .f32⟩
  | 81 => ⟨S4x128, .f32⟩
  | 82 => ⟨S4x128, .f32⟩
  | 83 => ⟨S4x128, .f32⟩
  | 84 => ⟨S_, .f32⟩
  | 85 => ⟨S4x128, .f32⟩
  | 86 => ⟨S4x128, .f32⟩
  | 87 => ⟨S4x128, .f32⟩
  | 88 => ⟨S_, .f32⟩
  | 89 => ⟨S4x128, .f32⟩
  | 90 => ⟨S4x128, .f32⟩
  | 91 => ⟨S_, .f32⟩
  | 92 => ⟨S4x1024, .f32⟩
  | 93 => ⟨S4x1024, .f32⟩
  | 94 => ⟨S_, .f32⟩
  | 95 => ⟨S4x1024, .f32⟩
  | 96 => ⟨S4x1024, .f32⟩
  | 97 => ⟨S4x1024, .f32⟩
  | 98 => ⟨S_, .f32⟩
  | 99 => ⟨S4x1024, .f32⟩
  | 100 => ⟨S4x1024, .f32⟩
  | 101 => ⟨S4x1024, .f32⟩
  | 102 => ⟨S_, .f32⟩
  | 103 => ⟨S4x1024, .f32⟩
  | 104 => ⟨S4x1024, .f32⟩
  | 105 => ⟨S4x1024, .f32⟩
  | 106 => ⟨S_, .f32⟩
  | 107 => ⟨S4x1024, .f32⟩
  | 108 => ⟨S4x1024, .f32⟩
  | 109 => ⟨S_, .f32⟩
  | 110 => ⟨S4x1024, .f32⟩
  | 111 => ⟨S4x1024, .f32⟩
  | 112 => ⟨S4x1024, .f32⟩
  | 113 => ⟨S_, .f32⟩
  | 114 => ⟨S4x1024, .f32⟩
  | 115 => ⟨S4x1024, .f32⟩
  | 116 => ⟨S4x1024, .f32⟩
  | 117 => ⟨S_, .f32⟩
  | 118 => ⟨S4x1024, .f32⟩
  | 119 => ⟨S4x1024, .f32⟩
  | 120 => ⟨S4x1024, .f32⟩
  | 121 => ⟨S_, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S_, .f32⟩
  | _ => ⟨S16x128, .f32⟩

abbrev hbmTy0_7 (i : Nat) : BufTy := match i % 128 with
  | 0 => ⟨S4x1024, .f32⟩
  | 1 => ⟨S4x1024, .f32⟩
  | 2 => ⟨S4x1024, .f32⟩
  | 3 => ⟨S_, .f32⟩
  | 4 => ⟨S4x1024, .f32⟩
  | 5 => ⟨S4x1024, .f32⟩
  | 6 => ⟨S4x1024, .f32⟩
  | 7 => ⟨S_, .f32⟩
  | 8 => ⟨S4x1024, .f32⟩
  | 9 => ⟨S4x1024, .f32⟩
  | 10 => ⟨S4x1024, .f32⟩
  | 11 => ⟨S_, .f32⟩
  | 12 => ⟨S4x1024, .f32⟩
  | 13 => ⟨S4x1024, .f32⟩
  | 14 => ⟨S_, .f32⟩
  | 15 => ⟨S4x1024, .f32⟩
  | 16 => ⟨S4x1024, .f32⟩
  | 17 => ⟨S4x1024, .f32⟩
  | 18 => ⟨S_, .f32⟩
  | 19 => ⟨S4x1024, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S4x1024, .f32⟩
  | 26 => ⟨S_, .f32⟩
  | 27 => ⟨S4x1024, .f32⟩
  | 28 => ⟨S4x1024, .f32⟩
  | 29 => ⟨S2048, .f32⟩
  | 30 => ⟨S2560, .f32⟩
  | 31 => ⟨S4608, .f32⟩
  | 32 => ⟨S1536, .f32⟩
  | 33 => ⟨S12288, .f32⟩
  | 34 => ⟨S12288, .f32⟩
  | 35 => ⟨S192, .f32⟩
  | 36 => ⟨S196608, .f32⟩
  | 37 => ⟨S196608, .f32⟩
  | 38 => ⟨S196608, .f32⟩
  | 39 => ⟨S196608, .f32⟩
  | 40 => ⟨S3072, .f32⟩
  | 41 => ⟨S3072, .f32⟩
  | 42 => ⟨S5120, .f32⟩
  | 43 => ⟨S48, .f32⟩
  | 44 => ⟨S48, .f32⟩
  | 45 => ⟨S48, .f32⟩
  | 46 => ⟨S3072, .f32⟩
  | 47 => ⟨S24, .f32⟩
  | 48 => ⟨S24, .f32⟩
  | 49 => ⟨S512, .f32⟩
  | 50 => ⟨S4096, .f32⟩
  | 51 => ⟨S4096, .f32⟩
  | 52 => ⟨S835264, .f32⟩
  | 53 => ⟨S11968, .f32⟩
  | 54 => ⟨S847232, .f32⟩
  | 55 => ⟨S_, .i32⟩
  | 56 => ⟨S_, .f32⟩
  | 57 => ⟨S917504, .f32⟩
  | 58 => ⟨S7168x128, .f32⟩
  | 59 => ⟨S2048, .f32⟩
  | 60 => ⟨S2560, .f32⟩
  | 61 => ⟨S4608, .f32⟩
  | 62 => ⟨S1536, .f32⟩
  | 63 => ⟨S12288, .f32⟩
  | 64 => ⟨S12288, .f32⟩
  | 65 => ⟨S192, .f32⟩
  | 66 => ⟨S196608, .f32⟩
  | 67 => ⟨S196608, .f32⟩
  | 68 => ⟨S196608, .f32⟩
  | 69 => ⟨S196608, .f32⟩
  | 70 => ⟨S3072, .f32⟩
  | 71 => ⟨S3072, .f32⟩
  | 72 => ⟨S5120, .f32⟩
  | 73 => ⟨S48, .f32⟩
  | 74 => ⟨S48, .f32⟩
  | 75 => ⟨S48, .f32⟩
  | 76 => ⟨S3072, .f32⟩
  | 77 => ⟨S24, .f32⟩
  | 78 => ⟨S24, .f32⟩
  | 79 => ⟨S512, .f32⟩
  | 80 => ⟨S4096, .f32⟩
  | 81 => ⟨S4096, .f32⟩
  | 82 => ⟨S835264, .f32⟩
  | 83 => ⟨S11968, .f32⟩
  | 84 => ⟨S847232, .f32⟩
  | 85 => ⟨S_, .i32⟩
  | 86 => ⟨S_, .f32⟩
  | 87 => ⟨S917504, .f32⟩
  | 88 => ⟨S7168x128, .f32⟩
  | 89 => ⟨S2048, .f32⟩
  | 90 => ⟨S2560, .f32⟩
  | 91 => ⟨S4608, .f32⟩
  | 92 => ⟨S1536, .f32⟩
  | 93 => ⟨S12288, .f32⟩
  | 94 => ⟨S12288, .f32⟩
  | 95 => ⟨S192, .f32⟩
  | 96 => ⟨S196608, .f32⟩
  | 97 => ⟨S196608, .f32⟩
  | 98 => ⟨S196608, .f32⟩
  | 99 => ⟨S196608, .f32⟩
  | 100 => ⟨S3072, .f32⟩
  | 101 => ⟨S3072, .f32⟩
  | 102 => ⟨S5120, .f32⟩
  | 103 => ⟨S48, .f32⟩
  | 104 => ⟨S48, .f32⟩
  | 105 => ⟨S48, .f32⟩
  | 106 => ⟨S3072, .f32⟩
  | 107 => ⟨S24, .f32⟩
  | 108 => ⟨S24, .f32⟩
  | 109 => ⟨S512, .f32⟩
  | 110 => ⟨S4096, .f32⟩
  | 111 => ⟨S4096, .f32⟩
  | 112 => ⟨S835264, .f32⟩
  | 113 => ⟨S11968, .f32⟩
  | 114 => ⟨S847232, .f32⟩
  | 115 => ⟨S_, .i32⟩
  | 116 => ⟨S_, .f32⟩
  | 117 => ⟨S917504, .f32⟩
  | 118 => ⟨S7168x128, .f32⟩
  | 119 => ⟨S2048, .f32⟩
  | 120 => ⟨S2560, .f32⟩
  | 121 => ⟨S4608, .f32⟩
  | 122 => ⟨S1536, .f32⟩
  | 123 => ⟨S12288, .f32⟩
  | 124 => ⟨S12288, .f32⟩
  | 125 => ⟨S192, .f32⟩
  | 126 => ⟨S196608, .f32⟩
  | 127 => ⟨S196608, .f32⟩
  | _ => ⟨S16x128, .f32⟩

abbrev hbmTy0_8 (i : Nat) : BufTy := match i % 128 with
  | 0 => ⟨S196608, .f32⟩
  | 1 => ⟨S196608, .f32⟩
  | 2 => ⟨S3072, .f32⟩
  | 3 => ⟨S3072, .f32⟩
  | 4 => ⟨S5120, .f32⟩
  | 5 => ⟨S48, .f32⟩
  | 6 => ⟨S48, .f32⟩
  | 7 => ⟨S48, .f32⟩
  | 8 => ⟨S3072, .f32⟩
  | 9 => ⟨S24, .f32⟩
  | 10 => ⟨S24, .f32⟩
  | 11 => ⟨S512, .f32⟩
  | 12 => ⟨S4096, .f32⟩
  | 13 => ⟨S4096, .f32⟩
  | 14 => ⟨S835264, .f32⟩
  | 15 => ⟨S11968, .f32⟩
  | 16 => ⟨S847232, .f32⟩
  | 17 => ⟨S_, .i32⟩
  | 18 => ⟨S_, .f32⟩
  | 19 => ⟨S917504, .f32⟩
  | 20 => ⟨S7168x128, .f32⟩
  | _ => ⟨S16x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16x128, .f32⟩

abbrev bufTy : (tb : Table) → Fin (tcTables nBuf tb) → BufTy
  | .hbm, ⟨i, _⟩ => hbmTy i
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_arg76 : Ref sig .tc := ⟨.hbm, 76, rfl⟩
abbrev main_arg77 : Ref sig .tc := ⟨.hbm, 77, rfl⟩
abbrev main_arg78 : Ref sig .tc := ⟨.hbm, 78, rfl⟩
abbrev main_arg79 : Ref sig .tc := ⟨.hbm, 79, rfl⟩
abbrev main_arg80 : Ref sig .tc := ⟨.hbm, 80, rfl⟩
abbrev main_arg81 : Ref sig .tc := ⟨.hbm, 81, rfl⟩
abbrev main_arg82 : Ref sig .tc := ⟨.hbm, 82, rfl⟩
abbrev main_arg83 : Ref sig .tc := ⟨.hbm, 83, rfl⟩
abbrev main_arg84 : Ref sig .tc := ⟨.hbm, 84, rfl⟩
abbrev main_arg85 : Ref sig .tc := ⟨.hbm, 85, rfl⟩
abbrev main_arg86 : Ref sig .tc := ⟨.hbm, 86, rfl⟩
abbrev main_arg87 : Ref sig .tc := ⟨.hbm, 87, rfl⟩
abbrev main_arg88 : Ref sig .tc := ⟨.hbm, 88, rfl⟩
abbrev main_arg89 : Ref sig .tc := ⟨.hbm, 89, rfl⟩
abbrev main_arg90 : Ref sig .tc := ⟨.hbm, 90, rfl⟩
abbrev main_arg91 : Ref sig .tc := ⟨.hbm, 91, rfl⟩
abbrev main_arg92 : Ref sig .tc := ⟨.hbm, 92, rfl⟩
abbrev main_arg93 : Ref sig .tc := ⟨.hbm, 93, rfl⟩
abbrev main_arg94 : Ref sig .tc := ⟨.hbm, 94, rfl⟩
abbrev main_arg95 : Ref sig .tc := ⟨.hbm, 95, rfl⟩
abbrev main_arg96 : Ref sig .tc := ⟨.hbm, 96, rfl⟩
abbrev main_arg97 : Ref sig .tc := ⟨.hbm, 97, rfl⟩
abbrev main_arg98 : Ref sig .tc := ⟨.hbm, 98, rfl⟩
abbrev main_arg99 : Ref sig .tc := ⟨.hbm, 99, rfl⟩
abbrev main_cst : Ref sig .tc := ⟨.hbm, 100, rfl⟩
abbrev main_v0 : Ref sig .tc := ⟨.hbm, 101, rfl⟩
abbrev main_v1 : Ref sig .tc := ⟨.hbm, 102, rfl⟩
abbrev main_cst_0 : Ref sig .tc := ⟨.hbm, 103, rfl⟩
abbrev main_v2 : Ref sig .tc := ⟨.hbm, 104, rfl⟩
abbrev main_v3 : Ref sig .tc := ⟨.hbm, 105, rfl⟩
abbrev main_v4 : Ref sig .tc := ⟨.hbm, 106, rfl⟩
abbrev main_cst_1 : Ref sig .tc := ⟨.hbm, 107, rfl⟩
abbrev main_v5 : Ref sig .tc := ⟨.hbm, 108, rfl⟩
abbrev main_v6 : Ref sig .tc := ⟨.hbm, 109, rfl⟩
abbrev main_v7 : Ref sig .tc := ⟨.hbm, 110, rfl⟩
abbrev main_cst_2 : Ref sig .tc := ⟨.hbm, 111, rfl⟩
abbrev main_v8 : Ref sig .tc := ⟨.hbm, 112, rfl⟩
abbrev main_v9 : Ref sig .tc := ⟨.hbm, 113, rfl⟩
abbrev main_v10 : Ref sig .tc := ⟨.hbm, 114, rfl⟩
abbrev main_cst_3 : Ref sig .tc := ⟨.hbm, 115, rfl⟩
abbrev main_v11 : Ref sig .tc := ⟨.hbm, 116, rfl⟩
abbrev main_v12 : Ref sig .tc := ⟨.hbm, 117, rfl⟩
abbrev main_cst_4 : Ref sig .tc := ⟨.hbm, 118, rfl⟩
abbrev main_v13 : Ref sig .tc := ⟨.hbm, 119, rfl⟩
abbrev main_v14 : Ref sig .tc := ⟨.hbm, 120, rfl⟩
abbrev main_v15 : Ref sig .tc := ⟨.hbm, 121, rfl⟩
abbrev main_cst_5 : Ref sig .tc := ⟨.hbm, 122, rfl⟩
abbrev main_v16 : Ref sig .tc := ⟨.hbm, 123, rfl⟩
abbrev main_v17 : Ref sig .tc := ⟨.hbm, 124, rfl⟩
abbrev main_v18 : Ref sig .tc := ⟨.hbm, 125, rfl⟩
abbrev main_cst_6 : Ref sig .tc := ⟨.hbm, 126, rfl⟩
abbrev main_v19 : Ref sig .tc := ⟨.hbm, 127, rfl⟩
abbrev main_v20 : Ref sig .tc := ⟨.hbm, 128, rfl⟩
abbrev main_v21 : Ref sig .tc := ⟨.hbm, 129, rfl⟩
abbrev main_cst_7 : Ref sig .tc := ⟨.hbm, 130, rfl⟩
abbrev main_v22 : Ref sig .tc := ⟨.hbm, 131, rfl⟩
abbrev main_v23 : Ref sig .tc := ⟨.hbm, 132, rfl⟩
abbrev main_cst_8 : Ref sig .tc := ⟨.hbm, 133, rfl⟩
abbrev main_v24 : Ref sig .tc := ⟨.hbm, 134, rfl⟩
abbrev main_v25 : Ref sig .tc := ⟨.hbm, 135, rfl⟩
abbrev main_cst_9 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_cst_10 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_cst_11 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_cst_12 : Ref sig .tc := ⟨.hbm, 148, rfl⟩
abbrev main_v35 : Ref sig .tc := ⟨.hbm, 149, rfl⟩
abbrev main_v36 : Ref sig .tc := ⟨.hbm, 150, rfl⟩
abbrev main_cst_13 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_cst_14 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_cst_15 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_cst_16 : Ref sig .tc := ⟨.hbm, 163, rfl⟩
abbrev main_v46 : Ref sig .tc := ⟨.hbm, 164, rfl⟩
abbrev main_v47 : Ref sig .tc := ⟨.hbm, 165, rfl⟩
abbrev main_cst_17 : Ref sig .tc := ⟨.hbm, 166, rfl⟩
abbrev main_v48 : Ref sig .tc := ⟨.hbm, 167, rfl⟩
abbrev main_v49 : Ref sig .tc := ⟨.hbm, 168, rfl⟩
abbrev main_cst_18 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_cst_19 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩
abbrev main_cst_20 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_cst_21 : Ref sig .tc := ⟨.hbm, 181, rfl⟩
abbrev main_v59 : Ref sig .tc := ⟨.hbm, 182, rfl⟩
abbrev main_v60 : Ref sig .tc := ⟨.hbm, 183, rfl⟩
abbrev main_cst_22 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_cst_23 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_cst_24 : Ref sig .tc := ⟨.hbm, 192, rfl⟩
abbrev main_v67 : Ref sig .tc := ⟨.hbm, 193, rfl⟩
abbrev main_v68 : Ref sig .tc := ⟨.hbm, 194, rfl⟩
abbrev main_v69 : Ref sig .tc := ⟨.hbm, 195, rfl⟩
abbrev main_cst_25 : Ref sig .tc := ⟨.hbm, 196, rfl⟩
abbrev main_v70 : Ref sig .tc := ⟨.hbm, 197, rfl⟩
abbrev main_v71 : Ref sig .tc := ⟨.hbm, 198, rfl⟩
abbrev main_cst_26 : Ref sig .tc := ⟨.hbm, 199, rfl⟩
abbrev main_v72 : Ref sig .tc := ⟨.hbm, 200, rfl⟩
abbrev main_v73 : Ref sig .tc := ⟨.hbm, 201, rfl⟩
abbrev main_cst_27 : Ref sig .tc := ⟨.hbm, 202, rfl⟩
abbrev main_v74 : Ref sig .tc := ⟨.hbm, 203, rfl⟩
abbrev main_v75 : Ref sig .tc := ⟨.hbm, 204, rfl⟩
abbrev main_v76 : Ref sig .tc := ⟨.hbm, 205, rfl⟩
abbrev main_cst_28 : Ref sig .tc := ⟨.hbm, 206, rfl⟩
abbrev main_v77 : Ref sig .tc := ⟨.hbm, 207, rfl⟩
abbrev main_v78 : Ref sig .tc := ⟨.hbm, 208, rfl⟩
abbrev main_v79 : Ref sig .tc := ⟨.hbm, 209, rfl⟩
abbrev main_cst_29 : Ref sig .tc := ⟨.hbm, 210, rfl⟩
abbrev main_v80 : Ref sig .tc := ⟨.hbm, 211, rfl⟩
abbrev main_v81 : Ref sig .tc := ⟨.hbm, 212, rfl⟩
abbrev main_v82 : Ref sig .tc := ⟨.hbm, 213, rfl⟩
abbrev main_cst_30 : Ref sig .tc := ⟨.hbm, 214, rfl⟩
abbrev main_v83 : Ref sig .tc := ⟨.hbm, 215, rfl⟩
abbrev main_v84 : Ref sig .tc := ⟨.hbm, 216, rfl⟩
abbrev main_cst_31 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_cst_32 : Ref sig .tc := ⟨.hbm, 221, rfl⟩
abbrev main_v88 : Ref sig .tc := ⟨.hbm, 222, rfl⟩
abbrev main_v89 : Ref sig .tc := ⟨.hbm, 223, rfl⟩
abbrev main_v90 : Ref sig .tc := ⟨.hbm, 224, rfl⟩
abbrev main_cst_33 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_cst_34 : Ref sig .tc := ⟨.hbm, 229, rfl⟩
abbrev main_v94 : Ref sig .tc := ⟨.hbm, 230, rfl⟩
abbrev main_v95 : Ref sig .tc := ⟨.hbm, 231, rfl⟩
abbrev main_cst_35 : Ref sig .tc := ⟨.hbm, 232, rfl⟩
abbrev main_v96 : Ref sig .tc := ⟨.hbm, 233, rfl⟩
abbrev main_v97 : Ref sig .tc := ⟨.hbm, 234, rfl⟩
abbrev main_cst_36 : Ref sig .tc := ⟨.hbm, 235, rfl⟩
abbrev main_v98 : Ref sig .tc := ⟨.hbm, 236, rfl⟩
abbrev main_v99 : Ref sig .tc := ⟨.hbm, 237, rfl⟩
abbrev main_v100 : Ref sig .tc := ⟨.hbm, 238, rfl⟩
abbrev main_cst_37 : Ref sig .tc := ⟨.hbm, 239, rfl⟩
abbrev main_v101 : Ref sig .tc := ⟨.hbm, 240, rfl⟩
abbrev main_v102 : Ref sig .tc := ⟨.hbm, 241, rfl⟩
abbrev main_v103 : Ref sig .tc := ⟨.hbm, 242, rfl⟩
abbrev main_cst_38 : Ref sig .tc := ⟨.hbm, 243, rfl⟩
abbrev main_v104 : Ref sig .tc := ⟨.hbm, 244, rfl⟩
abbrev main_v105 : Ref sig .tc := ⟨.hbm, 245, rfl⟩
abbrev main_v106 : Ref sig .tc := ⟨.hbm, 246, rfl⟩
abbrev main_cst_39 : Ref sig .tc := ⟨.hbm, 247, rfl⟩
abbrev main_v107 : Ref sig .tc := ⟨.hbm, 248, rfl⟩
abbrev main_v108 : Ref sig .tc := ⟨.hbm, 249, rfl⟩
abbrev main_cst_40 : Ref sig .tc := ⟨.hbm, 250, rfl⟩
abbrev main_v109 : Ref sig .tc := ⟨.hbm, 251, rfl⟩
abbrev main_v110 : Ref sig .tc := ⟨.hbm, 252, rfl⟩
abbrev main_v111 : Ref sig .tc := ⟨.hbm, 253, rfl⟩
abbrev main_cst_41 : Ref sig .tc := ⟨.hbm, 254, rfl⟩
abbrev main_v112 : Ref sig .tc := ⟨.hbm, 255, rfl⟩
abbrev main_v113 : Ref sig .tc := ⟨.hbm, 256, rfl⟩
abbrev main_v114 : Ref sig .tc := ⟨.hbm, 257, rfl⟩
abbrev main_cst_42 : Ref sig .tc := ⟨.hbm, 258, rfl⟩
abbrev main_v115 : Ref sig .tc := ⟨.hbm, 259, rfl⟩
abbrev main_v116 : Ref sig .tc := ⟨.hbm, 260, rfl⟩
abbrev main_v117 : Ref sig .tc := ⟨.hbm, 261, rfl⟩
abbrev main_cst_43 : Ref sig .tc := ⟨.hbm, 262, rfl⟩
abbrev main_v118 : Ref sig .tc := ⟨.hbm, 263, rfl⟩
abbrev main_v119 : Ref sig .tc := ⟨.hbm, 264, rfl⟩
abbrev main_cst_44 : Ref sig .tc := ⟨.hbm, 265, rfl⟩
abbrev main_v120 : Ref sig .tc := ⟨.hbm, 266, rfl⟩
abbrev main_v121 : Ref sig .tc := ⟨.hbm, 267, rfl⟩
abbrev main_cst_45 : Ref sig .tc := ⟨.hbm, 268, rfl⟩
abbrev main_v122 : Ref sig .tc := ⟨.hbm, 269, rfl⟩
abbrev main_v123 : Ref sig .tc := ⟨.hbm, 270, rfl⟩
abbrev main_v124 : Ref sig .tc := ⟨.hbm, 271, rfl⟩
abbrev main_cst_46 : Ref sig .tc := ⟨.hbm, 272, rfl⟩
abbrev main_v125 : Ref sig .tc := ⟨.hbm, 273, rfl⟩
abbrev main_v126 : Ref sig .tc := ⟨.hbm, 274, rfl⟩
abbrev main_v127 : Ref sig .tc := ⟨.hbm, 275, rfl⟩
abbrev main_cst_47 : Ref sig .tc := ⟨.hbm, 276, rfl⟩
abbrev main_v128 : Ref sig .tc := ⟨.hbm, 277, rfl⟩
abbrev main_v129 : Ref sig .tc := ⟨.hbm, 278, rfl⟩
abbrev main_v130 : Ref sig .tc := ⟨.hbm, 279, rfl⟩
abbrev main_cst_48 : Ref sig .tc := ⟨.hbm, 280, rfl⟩
abbrev main_v131 : Ref sig .tc := ⟨.hbm, 281, rfl⟩
abbrev main_v132 : Ref sig .tc := ⟨.hbm, 282, rfl⟩
abbrev main_cst_49 : Ref sig .tc := ⟨.hbm, 283, rfl⟩
abbrev main_v133 : Ref sig .tc := ⟨.hbm, 284, rfl⟩
abbrev main_v134 : Ref sig .tc := ⟨.hbm, 285, rfl⟩
abbrev main_v135 : Ref sig .tc := ⟨.hbm, 286, rfl⟩
abbrev main_cst_50 : Ref sig .tc := ⟨.hbm, 287, rfl⟩
abbrev main_v136 : Ref sig .tc := ⟨.hbm, 288, rfl⟩
abbrev main_v137 : Ref sig .tc := ⟨.hbm, 289, rfl⟩
abbrev main_v138 : Ref sig .tc := ⟨.hbm, 290, rfl⟩
abbrev main_cst_51 : Ref sig .tc := ⟨.hbm, 291, rfl⟩
abbrev main_v139 : Ref sig .tc := ⟨.hbm, 292, rfl⟩
abbrev main_v140 : Ref sig .tc := ⟨.hbm, 293, rfl⟩
abbrev main_v141 : Ref sig .tc := ⟨.hbm, 294, rfl⟩
abbrev main_cst_52 : Ref sig .tc := ⟨.hbm, 295, rfl⟩
abbrev main_v142 : Ref sig .tc := ⟨.hbm, 296, rfl⟩
abbrev main_v143 : Ref sig .tc := ⟨.hbm, 297, rfl⟩
abbrev main_cst_53 : Ref sig .tc := ⟨.hbm, 298, rfl⟩
abbrev main_v144 : Ref sig .tc := ⟨.hbm, 299, rfl⟩
abbrev main_v145 : Ref sig .tc := ⟨.hbm, 300, rfl⟩
abbrev main_cst_54 : Ref sig .tc := ⟨.hbm, 301, rfl⟩
abbrev main_v146 : Ref sig .tc := ⟨.hbm, 302, rfl⟩
abbrev main_v147 : Ref sig .tc := ⟨.hbm, 303, rfl⟩
abbrev main_v148 : Ref sig .tc := ⟨.hbm, 304, rfl⟩
abbrev main_cst_55 : Ref sig .tc := ⟨.hbm, 305, rfl⟩
abbrev main_v149 : Ref sig .tc := ⟨.hbm, 306, rfl⟩
abbrev main_v150 : Ref sig .tc := ⟨.hbm, 307, rfl⟩
abbrev main_v151 : Ref sig .tc := ⟨.hbm, 308, rfl⟩
abbrev main_cst_56 : Ref sig .tc := ⟨.hbm, 309, rfl⟩
abbrev main_v152 : Ref sig .tc := ⟨.hbm, 310, rfl⟩
abbrev main_v153 : Ref sig .tc := ⟨.hbm, 311, rfl⟩
abbrev main_v154 : Ref sig .tc := ⟨.hbm, 312, rfl⟩
abbrev main_cst_57 : Ref sig .tc := ⟨.hbm, 313, rfl⟩
abbrev main_v155 : Ref sig .tc := ⟨.hbm, 314, rfl⟩
abbrev main_v156 : Ref sig .tc := ⟨.hbm, 315, rfl⟩
abbrev main_cst_58 : Ref sig .tc := ⟨.hbm, 316, rfl⟩
abbrev main_v157 : Ref sig .tc := ⟨.hbm, 317, rfl⟩
abbrev main_v158 : Ref sig .tc := ⟨.hbm, 318, rfl⟩
abbrev main_v159 : Ref sig .tc := ⟨.hbm, 319, rfl⟩
abbrev main_cst_59 : Ref sig .tc := ⟨.hbm, 320, rfl⟩
abbrev main_v160 : Ref sig .tc := ⟨.hbm, 321, rfl⟩
abbrev main_v161 : Ref sig .tc := ⟨.hbm, 322, rfl⟩
abbrev main_v162 : Ref sig .tc := ⟨.hbm, 323, rfl⟩
abbrev main_cst_60 : Ref sig .tc := ⟨.hbm, 324, rfl⟩
abbrev main_v163 : Ref sig .tc := ⟨.hbm, 325, rfl⟩
abbrev main_v164 : Ref sig .tc := ⟨.hbm, 326, rfl⟩
abbrev main_v165 : Ref sig .tc := ⟨.hbm, 327, rfl⟩
abbrev main_cst_61 : Ref sig .tc := ⟨.hbm, 328, rfl⟩
abbrev main_v166 : Ref sig .tc := ⟨.hbm, 329, rfl⟩
abbrev main_v167 : Ref sig .tc := ⟨.hbm, 330, rfl⟩
abbrev main_cst_62 : Ref sig .tc := ⟨.hbm, 331, rfl⟩
abbrev main_v168 : Ref sig .tc := ⟨.hbm, 332, rfl⟩
abbrev main_v169 : Ref sig .tc := ⟨.hbm, 333, rfl⟩
abbrev main_cst_63 : Ref sig .tc := ⟨.hbm, 334, rfl⟩
abbrev main_v170 : Ref sig .tc := ⟨.hbm, 335, rfl⟩
abbrev main_v171 : Ref sig .tc := ⟨.hbm, 336, rfl⟩
abbrev main_v172 : Ref sig .tc := ⟨.hbm, 337, rfl⟩
abbrev main_cst_64 : Ref sig .tc := ⟨.hbm, 338, rfl⟩
abbrev main_v173 : Ref sig .tc := ⟨.hbm, 339, rfl⟩
abbrev main_v174 : Ref sig .tc := ⟨.hbm, 340, rfl⟩
abbrev main_v175 : Ref sig .tc := ⟨.hbm, 341, rfl⟩
abbrev main_cst_65 : Ref sig .tc := ⟨.hbm, 342, rfl⟩
abbrev main_v176 : Ref sig .tc := ⟨.hbm, 343, rfl⟩
abbrev main_v177 : Ref sig .tc := ⟨.hbm, 344, rfl⟩
abbrev main_v178 : Ref sig .tc := ⟨.hbm, 345, rfl⟩
abbrev main_cst_66 : Ref sig .tc := ⟨.hbm, 346, rfl⟩
abbrev main_v179 : Ref sig .tc := ⟨.hbm, 347, rfl⟩
abbrev main_v180 : Ref sig .tc := ⟨.hbm, 348, rfl⟩
abbrev main_cst_67 : Ref sig .tc := ⟨.hbm, 349, rfl⟩
abbrev main_v181 : Ref sig .tc := ⟨.hbm, 350, rfl⟩
abbrev main_v182 : Ref sig .tc := ⟨.hbm, 351, rfl⟩
abbrev main_v183 : Ref sig .tc := ⟨.hbm, 352, rfl⟩
abbrev main_cst_68 : Ref sig .tc := ⟨.hbm, 353, rfl⟩
abbrev main_v184 : Ref sig .tc := ⟨.hbm, 354, rfl⟩
abbrev main_v185 : Ref sig .tc := ⟨.hbm, 355, rfl⟩
abbrev main_v186 : Ref sig .tc := ⟨.hbm, 356, rfl⟩
abbrev main_cst_69 : Ref sig .tc := ⟨.hbm, 357, rfl⟩
abbrev main_v187 : Ref sig .tc := ⟨.hbm, 358, rfl⟩
abbrev main_v188 : Ref sig .tc := ⟨.hbm, 359, rfl⟩
abbrev main_v189 : Ref sig .tc := ⟨.hbm, 360, rfl⟩
abbrev main_cst_70 : Ref sig .tc := ⟨.hbm, 361, rfl⟩
abbrev main_v190 : Ref sig .tc := ⟨.hbm, 362, rfl⟩
abbrev main_v191 : Ref sig .tc := ⟨.hbm, 363, rfl⟩
abbrev main_cst_71 : Ref sig .tc := ⟨.hbm, 364, rfl⟩
abbrev main_v192 : Ref sig .tc := ⟨.hbm, 365, rfl⟩
abbrev main_v193 : Ref sig .tc := ⟨.hbm, 366, rfl⟩
abbrev main_cst_72 : Ref sig .tc := ⟨.hbm, 367, rfl⟩
abbrev main_v194 : Ref sig .tc := ⟨.hbm, 368, rfl⟩
abbrev main_v195 : Ref sig .tc := ⟨.hbm, 369, rfl⟩
abbrev main_v196 : Ref sig .tc := ⟨.hbm, 370, rfl⟩
abbrev main_cst_73 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_cst_74 : Ref sig .tc := ⟨.hbm, 375, rfl⟩
abbrev main_v200 : Ref sig .tc := ⟨.hbm, 376, rfl⟩
abbrev main_v201 : Ref sig .tc := ⟨.hbm, 377, rfl⟩
abbrev main_v202 : Ref sig .tc := ⟨.hbm, 378, rfl⟩
abbrev main_cst_75 : Ref sig .tc := ⟨.hbm, 379, rfl⟩
abbrev main_v203 : Ref sig .tc := ⟨.hbm, 380, rfl⟩
abbrev main_v204 : Ref sig .tc := ⟨.hbm, 381, rfl⟩
abbrev main_cst_76 : Ref sig .tc := ⟨.hbm, 382, rfl⟩
abbrev main_v205 : Ref sig .tc := ⟨.hbm, 383, rfl⟩
abbrev main_v206 : Ref sig .tc := ⟨.hbm, 384, rfl⟩
abbrev main_v207 : Ref sig .tc := ⟨.hbm, 385, rfl⟩
abbrev main_cst_77 : Ref sig .tc := ⟨.hbm, 386, rfl⟩
abbrev main_v208 : Ref sig .tc := ⟨.hbm, 387, rfl⟩
abbrev main_v209 : Ref sig .tc := ⟨.hbm, 388, rfl⟩
abbrev main_v210 : Ref sig .tc := ⟨.hbm, 389, rfl⟩
abbrev main_cst_78 : Ref sig .tc := ⟨.hbm, 390, rfl⟩
abbrev main_v211 : Ref sig .tc := ⟨.hbm, 391, rfl⟩
abbrev main_v212 : Ref sig .tc := ⟨.hbm, 392, rfl⟩
abbrev main_v213 : Ref sig .tc := ⟨.hbm, 393, rfl⟩
abbrev main_cst_79 : Ref sig .tc := ⟨.hbm, 394, rfl⟩
abbrev main_v214 : Ref sig .tc := ⟨.hbm, 395, rfl⟩
abbrev main_v215 : Ref sig .tc := ⟨.hbm, 396, rfl⟩
abbrev main_cst_80 : Ref sig .tc := ⟨.hbm, 397, rfl⟩
abbrev main_v216 : Ref sig .tc := ⟨.hbm, 398, rfl⟩
abbrev main_v217 : Ref sig .tc := ⟨.hbm, 399, rfl⟩
abbrev main_cst_81 : Ref sig .tc := ⟨.hbm, 400, rfl⟩
abbrev main_v218 : Ref sig .tc := ⟨.hbm, 401, rfl⟩
abbrev main_v219 : Ref sig .tc := ⟨.hbm, 402, rfl⟩
abbrev main_v220 : Ref sig .tc := ⟨.hbm, 403, rfl⟩
abbrev main_cst_82 : Ref sig .tc := ⟨.hbm, 404, rfl⟩
abbrev main_v221 : Ref sig .tc := ⟨.hbm, 405, rfl⟩
abbrev main_v222 : Ref sig .tc := ⟨.hbm, 406, rfl⟩
abbrev main_v223 : Ref sig .tc := ⟨.hbm, 407, rfl⟩
abbrev main_cst_83 : Ref sig .tc := ⟨.hbm, 408, rfl⟩
abbrev main_v224 : Ref sig .tc := ⟨.hbm, 409, rfl⟩
abbrev main_v225 : Ref sig .tc := ⟨.hbm, 410, rfl⟩
abbrev main_v226 : Ref sig .tc := ⟨.hbm, 411, rfl⟩
abbrev main_cst_84 : Ref sig .tc := ⟨.hbm, 412, rfl⟩
abbrev main_v227 : Ref sig .tc := ⟨.hbm, 413, rfl⟩
abbrev main_v228 : Ref sig .tc := ⟨.hbm, 414, rfl⟩
abbrev main_cst_85 : Ref sig .tc := ⟨.hbm, 415, rfl⟩
abbrev main_v229 : Ref sig .tc := ⟨.hbm, 416, rfl⟩
abbrev main_v230 : Ref sig .tc := ⟨.hbm, 417, rfl⟩
abbrev main_v231 : Ref sig .tc := ⟨.hbm, 418, rfl⟩
abbrev main_cst_86 : Ref sig .tc := ⟨.hbm, 419, rfl⟩
abbrev main_v232 : Ref sig .tc := ⟨.hbm, 420, rfl⟩
abbrev main_v233 : Ref sig .tc := ⟨.hbm, 421, rfl⟩
abbrev main_v234 : Ref sig .tc := ⟨.hbm, 422, rfl⟩
abbrev main_cst_87 : Ref sig .tc := ⟨.hbm, 423, rfl⟩
abbrev main_v235 : Ref sig .tc := ⟨.hbm, 424, rfl⟩
abbrev main_v236 : Ref sig .tc := ⟨.hbm, 425, rfl⟩
abbrev main_v237 : Ref sig .tc := ⟨.hbm, 426, rfl⟩
abbrev main_cst_88 : Ref sig .tc := ⟨.hbm, 427, rfl⟩
abbrev main_v238 : Ref sig .tc := ⟨.hbm, 428, rfl⟩
abbrev main_v239 : Ref sig .tc := ⟨.hbm, 429, rfl⟩
abbrev main_cst_89 : Ref sig .tc := ⟨.hbm, 430, rfl⟩
abbrev main_v240 : Ref sig .tc := ⟨.hbm, 431, rfl⟩
abbrev main_v241 : Ref sig .tc := ⟨.hbm, 432, rfl⟩
abbrev main_cst_90 : Ref sig .tc := ⟨.hbm, 433, rfl⟩
abbrev main_v242 : Ref sig .tc := ⟨.hbm, 434, rfl⟩
abbrev main_v243 : Ref sig .tc := ⟨.hbm, 435, rfl⟩
abbrev main_v244 : Ref sig .tc := ⟨.hbm, 436, rfl⟩
abbrev main_cst_91 : Ref sig .tc := ⟨.hbm, 437, rfl⟩
abbrev main_v245 : Ref sig .tc := ⟨.hbm, 438, rfl⟩
abbrev main_v246 : Ref sig .tc := ⟨.hbm, 439, rfl⟩
abbrev main_v247 : Ref sig .tc := ⟨.hbm, 440, rfl⟩
abbrev main_cst_92 : Ref sig .tc := ⟨.hbm, 441, rfl⟩
abbrev main_v248 : Ref sig .tc := ⟨.hbm, 442, rfl⟩
abbrev main_v249 : Ref sig .tc := ⟨.hbm, 443, rfl⟩
abbrev main_v250 : Ref sig .tc := ⟨.hbm, 444, rfl⟩
abbrev main_cst_93 : Ref sig .tc := ⟨.hbm, 445, rfl⟩
abbrev main_v251 : Ref sig .tc := ⟨.hbm, 446, rfl⟩
abbrev main_v252 : Ref sig .tc := ⟨.hbm, 447, rfl⟩
abbrev main_cst_94 : Ref sig .tc := ⟨.hbm, 448, rfl⟩
abbrev main_v253 : Ref sig .tc := ⟨.hbm, 449, rfl⟩
abbrev main_v254 : Ref sig .tc := ⟨.hbm, 450, rfl⟩
abbrev main_v255 : Ref sig .tc := ⟨.hbm, 451, rfl⟩
abbrev main_cst_95 : Ref sig .tc := ⟨.hbm, 452, rfl⟩
abbrev main_v256 : Ref sig .tc := ⟨.hbm, 453, rfl⟩
abbrev main_v257 : Ref sig .tc := ⟨.hbm, 454, rfl⟩
abbrev main_v258 : Ref sig .tc := ⟨.hbm, 455, rfl⟩
abbrev main_cst_96 : Ref sig .tc := ⟨.hbm, 456, rfl⟩
abbrev main_v259 : Ref sig .tc := ⟨.hbm, 457, rfl⟩
abbrev main_v260 : Ref sig .tc := ⟨.hbm, 458, rfl⟩
abbrev main_v261 : Ref sig .tc := ⟨.hbm, 459, rfl⟩
abbrev main_cst_97 : Ref sig .tc := ⟨.hbm, 460, rfl⟩
abbrev main_v262 : Ref sig .tc := ⟨.hbm, 461, rfl⟩
abbrev main_v263 : Ref sig .tc := ⟨.hbm, 462, rfl⟩
abbrev main_cst_98 : Ref sig .tc := ⟨.hbm, 463, rfl⟩
abbrev main_v264 : Ref sig .tc := ⟨.hbm, 464, rfl⟩
abbrev main_v265 : Ref sig .tc := ⟨.hbm, 465, rfl⟩
abbrev main_cst_99 : Ref sig .tc := ⟨.hbm, 466, rfl⟩
abbrev main_v266 : Ref sig .tc := ⟨.hbm, 467, rfl⟩
abbrev main_v267 : Ref sig .tc := ⟨.hbm, 468, rfl⟩
abbrev main_v268 : Ref sig .tc := ⟨.hbm, 469, rfl⟩
abbrev main_cst_100 : Ref sig .tc := ⟨.hbm, 470, rfl⟩
abbrev main_v269 : Ref sig .tc := ⟨.hbm, 471, rfl⟩
abbrev main_v270 : Ref sig .tc := ⟨.hbm, 472, rfl⟩
abbrev main_v271 : Ref sig .tc := ⟨.hbm, 473, rfl⟩
abbrev main_cst_101 : Ref sig .tc := ⟨.hbm, 474, rfl⟩
abbrev main_v272 : Ref sig .tc := ⟨.hbm, 475, rfl⟩
abbrev main_v273 : Ref sig .tc := ⟨.hbm, 476, rfl⟩
abbrev main_v274 : Ref sig .tc := ⟨.hbm, 477, rfl⟩
abbrev main_cst_102 : Ref sig .tc := ⟨.hbm, 478, rfl⟩
abbrev main_v275 : Ref sig .tc := ⟨.hbm, 479, rfl⟩
abbrev main_v276 : Ref sig .tc := ⟨.hbm, 480, rfl⟩
abbrev main_cst_103 : Ref sig .tc := ⟨.hbm, 481, rfl⟩
abbrev main_v277 : Ref sig .tc := ⟨.hbm, 482, rfl⟩
abbrev main_v278 : Ref sig .tc := ⟨.hbm, 483, rfl⟩
abbrev main_v279 : Ref sig .tc := ⟨.hbm, 484, rfl⟩
abbrev main_cst_104 : Ref sig .tc := ⟨.hbm, 485, rfl⟩
abbrev main_v280 : Ref sig .tc := ⟨.hbm, 486, rfl⟩
abbrev main_v281 : Ref sig .tc := ⟨.hbm, 487, rfl⟩
abbrev main_v282 : Ref sig .tc := ⟨.hbm, 488, rfl⟩
abbrev main_cst_105 : Ref sig .tc := ⟨.hbm, 489, rfl⟩
abbrev main_v283 : Ref sig .tc := ⟨.hbm, 490, rfl⟩
abbrev main_v284 : Ref sig .tc := ⟨.hbm, 491, rfl⟩
abbrev main_v285 : Ref sig .tc := ⟨.hbm, 492, rfl⟩
abbrev main_cst_106 : Ref sig .tc := ⟨.hbm, 493, rfl⟩
abbrev main_v286 : Ref sig .tc := ⟨.hbm, 494, rfl⟩
abbrev main_v287 : Ref sig .tc := ⟨.hbm, 495, rfl⟩
abbrev main_cst_107 : Ref sig .tc := ⟨.hbm, 496, rfl⟩
abbrev main_v288 : Ref sig .tc := ⟨.hbm, 497, rfl⟩
abbrev main_v289 : Ref sig .tc := ⟨.hbm, 498, rfl⟩
abbrev main_cst_108 : Ref sig .tc := ⟨.hbm, 499, rfl⟩
abbrev main_v290 : Ref sig .tc := ⟨.hbm, 500, rfl⟩
abbrev main_v291 : Ref sig .tc := ⟨.hbm, 501, rfl⟩
abbrev main_v292 : Ref sig .tc := ⟨.hbm, 502, rfl⟩
abbrev main_cst_109 : Ref sig .tc := ⟨.hbm, 503, rfl⟩
abbrev main_v293 : Ref sig .tc := ⟨.hbm, 504, rfl⟩
abbrev main_v294 : Ref sig .tc := ⟨.hbm, 505, rfl⟩
abbrev main_v295 : Ref sig .tc := ⟨.hbm, 506, rfl⟩
abbrev main_cst_110 : Ref sig .tc := ⟨.hbm, 507, rfl⟩
abbrev main_v296 : Ref sig .tc := ⟨.hbm, 508, rfl⟩
abbrev main_v297 : Ref sig .tc := ⟨.hbm, 509, rfl⟩
abbrev main_v298 : Ref sig .tc := ⟨.hbm, 510, rfl⟩
abbrev main_cst_111 : Ref sig .tc := ⟨.hbm, 511, rfl⟩
abbrev main_v299 : Ref sig .tc := ⟨.hbm, 512, rfl⟩
abbrev main_v300 : Ref sig .tc := ⟨.hbm, 513, rfl⟩
abbrev main_cst_112 : Ref sig .tc := ⟨.hbm, 514, rfl⟩
abbrev main_v301 : Ref sig .tc := ⟨.hbm, 515, rfl⟩
abbrev main_v302 : Ref sig .tc := ⟨.hbm, 516, rfl⟩
abbrev main_v303 : Ref sig .tc := ⟨.hbm, 517, rfl⟩
abbrev main_cst_113 : Ref sig .tc := ⟨.hbm, 518, rfl⟩
abbrev main_v304 : Ref sig .tc := ⟨.hbm, 519, rfl⟩
abbrev main_v305 : Ref sig .tc := ⟨.hbm, 520, rfl⟩
abbrev main_v306 : Ref sig .tc := ⟨.hbm, 521, rfl⟩
abbrev main_cst_114 : Ref sig .tc := ⟨.hbm, 522, rfl⟩
abbrev main_v307 : Ref sig .tc := ⟨.hbm, 523, rfl⟩
abbrev main_v308 : Ref sig .tc := ⟨.hbm, 524, rfl⟩
abbrev main_v309 : Ref sig .tc := ⟨.hbm, 525, rfl⟩
abbrev main_cst_115 : Ref sig .tc := ⟨.hbm, 526, rfl⟩
abbrev main_v310 : Ref sig .tc := ⟨.hbm, 527, rfl⟩
abbrev main_v311 : Ref sig .tc := ⟨.hbm, 528, rfl⟩
abbrev main_cst_116 : Ref sig .tc := ⟨.hbm, 529, rfl⟩
abbrev main_v312 : Ref sig .tc := ⟨.hbm, 530, rfl⟩
abbrev main_v313 : Ref sig .tc := ⟨.hbm, 531, rfl⟩
abbrev main_cst_117 : Ref sig .tc := ⟨.hbm, 532, rfl⟩
abbrev main_v314 : Ref sig .tc := ⟨.hbm, 533, rfl⟩
abbrev main_v315 : Ref sig .tc := ⟨.hbm, 534, rfl⟩
abbrev main_v316 : Ref sig .tc := ⟨.hbm, 535, rfl⟩
abbrev main_cst_118 : Ref sig .tc := ⟨.hbm, 536, rfl⟩
abbrev main_v317 : Ref sig .tc := ⟨.hbm, 537, rfl⟩
abbrev main_v318 : Ref sig .tc := ⟨.hbm, 538, rfl⟩
abbrev main_v319 : Ref sig .tc := ⟨.hbm, 539, rfl⟩
abbrev main_cst_119 : Ref sig .tc := ⟨.hbm, 540, rfl⟩
abbrev main_v320 : Ref sig .tc := ⟨.hbm, 541, rfl⟩
abbrev main_v321 : Ref sig .tc := ⟨.hbm, 542, rfl⟩
abbrev main_v322 : Ref sig .tc := ⟨.hbm, 543, rfl⟩
abbrev main_cst_120 : Ref sig .tc := ⟨.hbm, 544, rfl⟩
abbrev main_v323 : Ref sig .tc := ⟨.hbm, 545, rfl⟩
abbrev main_v324 : Ref sig .tc := ⟨.hbm, 546, rfl⟩
abbrev main_cst_121 : Ref sig .tc := ⟨.hbm, 547, rfl⟩
abbrev main_v325 : Ref sig .tc := ⟨.hbm, 548, rfl⟩
abbrev main_v326 : Ref sig .tc := ⟨.hbm, 549, rfl⟩
abbrev main_v327 : Ref sig .tc := ⟨.hbm, 550, rfl⟩
abbrev main_cst_122 : Ref sig .tc := ⟨.hbm, 551, rfl⟩
abbrev main_v328 : Ref sig .tc := ⟨.hbm, 552, rfl⟩
abbrev main_v329 : Ref sig .tc := ⟨.hbm, 553, rfl⟩
abbrev main_v330 : Ref sig .tc := ⟨.hbm, 554, rfl⟩
abbrev main_cst_123 : Ref sig .tc := ⟨.hbm, 555, rfl⟩
abbrev main_v331 : Ref sig .tc := ⟨.hbm, 556, rfl⟩
abbrev main_v332 : Ref sig .tc := ⟨.hbm, 557, rfl⟩
abbrev main_v333 : Ref sig .tc := ⟨.hbm, 558, rfl⟩
abbrev main_cst_124 : Ref sig .tc := ⟨.hbm, 559, rfl⟩
abbrev main_v334 : Ref sig .tc := ⟨.hbm, 560, rfl⟩
abbrev main_v335 : Ref sig .tc := ⟨.hbm, 561, rfl⟩
abbrev main_cst_125 : Ref sig .tc := ⟨.hbm, 562, rfl⟩
abbrev main_v336 : Ref sig .tc := ⟨.hbm, 563, rfl⟩
abbrev main_v337 : Ref sig .tc := ⟨.hbm, 564, rfl⟩
abbrev main_cst_126 : Ref sig .tc := ⟨.hbm, 565, rfl⟩
abbrev main_v338 : Ref sig .tc := ⟨.hbm, 566, rfl⟩
abbrev main_v339 : Ref sig .tc := ⟨.hbm, 567, rfl⟩
abbrev main_v340 : Ref sig .tc := ⟨.hbm, 568, rfl⟩
abbrev main_cst_127 : Ref sig .tc := ⟨.hbm, 569, rfl⟩
abbrev main_v341 : Ref sig .tc := ⟨.hbm, 570, rfl⟩
abbrev main_v342 : Ref sig .tc := ⟨.hbm, 571, rfl⟩
abbrev main_v343 : Ref sig .tc := ⟨.hbm, 572, rfl⟩
abbrev main_cst_128 : Ref sig .tc := ⟨.hbm, 573, rfl⟩
abbrev main_v344 : Ref sig .tc := ⟨.hbm, 574, rfl⟩
abbrev main_v345 : Ref sig .tc := ⟨.hbm, 575, rfl⟩
abbrev main_v346 : Ref sig .tc := ⟨.hbm, 576, rfl⟩
abbrev main_cst_129 : Ref sig .tc := ⟨.hbm, 577, rfl⟩
abbrev main_v347 : Ref sig .tc := ⟨.hbm, 578, rfl⟩
abbrev main_v348 : Ref sig .tc := ⟨.hbm, 579, rfl⟩
abbrev main_cst_130 : Ref sig .tc := ⟨.hbm, 580, rfl⟩
abbrev main_v349 : Ref sig .tc := ⟨.hbm, 581, rfl⟩
abbrev main_v350 : Ref sig .tc := ⟨.hbm, 582, rfl⟩
abbrev main_v351 : Ref sig .tc := ⟨.hbm, 583, rfl⟩
abbrev main_cst_131 : Ref sig .tc := ⟨.hbm, 584, rfl⟩
abbrev main_v352 : Ref sig .tc := ⟨.hbm, 585, rfl⟩
abbrev main_v353 : Ref sig .tc := ⟨.hbm, 586, rfl⟩
abbrev main_v354 : Ref sig .tc := ⟨.hbm, 587, rfl⟩
abbrev main_cst_132 : Ref sig .tc := ⟨.hbm, 588, rfl⟩
abbrev main_v355 : Ref sig .tc := ⟨.hbm, 589, rfl⟩
abbrev main_v356 : Ref sig .tc := ⟨.hbm, 590, rfl⟩
abbrev main_v357 : Ref sig .tc := ⟨.hbm, 591, rfl⟩
abbrev main_cst_133 : Ref sig .tc := ⟨.hbm, 592, rfl⟩
abbrev main_v358 : Ref sig .tc := ⟨.hbm, 593, rfl⟩
abbrev main_v359 : Ref sig .tc := ⟨.hbm, 594, rfl⟩
abbrev main_cst_134 : Ref sig .tc := ⟨.hbm, 595, rfl⟩
abbrev main_v360 : Ref sig .tc := ⟨.hbm, 596, rfl⟩
abbrev main_v361 : Ref sig .tc := ⟨.hbm, 597, rfl⟩
abbrev main_cst_135 : Ref sig .tc := ⟨.hbm, 598, rfl⟩
abbrev main_v362 : Ref sig .tc := ⟨.hbm, 599, rfl⟩
abbrev main_v363 : Ref sig .tc := ⟨.hbm, 600, rfl⟩
abbrev main_v364 : Ref sig .tc := ⟨.hbm, 601, rfl⟩
abbrev main_cst_136 : Ref sig .tc := ⟨.hbm, 602, rfl⟩
abbrev main_v365 : Ref sig .tc := ⟨.hbm, 603, rfl⟩
abbrev main_v366 : Ref sig .tc := ⟨.hbm, 604, rfl⟩
abbrev main_v367 : Ref sig .tc := ⟨.hbm, 605, rfl⟩
abbrev main_cst_137 : Ref sig .tc := ⟨.hbm, 606, rfl⟩
abbrev main_v368 : Ref sig .tc := ⟨.hbm, 607, rfl⟩
abbrev main_v369 : Ref sig .tc := ⟨.hbm, 608, rfl⟩
abbrev main_v370 : Ref sig .tc := ⟨.hbm, 609, rfl⟩
abbrev main_cst_138 : Ref sig .tc := ⟨.hbm, 610, rfl⟩
abbrev main_v371 : Ref sig .tc := ⟨.hbm, 611, rfl⟩
abbrev main_v372 : Ref sig .tc := ⟨.hbm, 612, rfl⟩
abbrev main_cst_139 : Ref sig .tc := ⟨.hbm, 613, rfl⟩
abbrev main_v373 : Ref sig .tc := ⟨.hbm, 614, rfl⟩
abbrev main_v374 : Ref sig .tc := ⟨.hbm, 615, rfl⟩
abbrev main_v375 : Ref sig .tc := ⟨.hbm, 616, rfl⟩
abbrev main_cst_140 : Ref sig .tc := ⟨.hbm, 617, rfl⟩
abbrev main_v376 : Ref sig .tc := ⟨.hbm, 618, rfl⟩
abbrev main_v377 : Ref sig .tc := ⟨.hbm, 619, rfl⟩
abbrev main_v378 : Ref sig .tc := ⟨.hbm, 620, rfl⟩
abbrev main_cst_141 : Ref sig .tc := ⟨.hbm, 621, rfl⟩
abbrev main_v379 : Ref sig .tc := ⟨.hbm, 622, rfl⟩
abbrev main_v380 : Ref sig .tc := ⟨.hbm, 623, rfl⟩
abbrev main_v381 : Ref sig .tc := ⟨.hbm, 624, rfl⟩
abbrev main_cst_142 : Ref sig .tc := ⟨.hbm, 625, rfl⟩
abbrev main_v382 : Ref sig .tc := ⟨.hbm, 626, rfl⟩
abbrev main_v383 : Ref sig .tc := ⟨.hbm, 627, rfl⟩
abbrev main_cst_143 : Ref sig .tc := ⟨.hbm, 628, rfl⟩
abbrev main_v384 : Ref sig .tc := ⟨.hbm, 629, rfl⟩
abbrev main_v385 : Ref sig .tc := ⟨.hbm, 630, rfl⟩
abbrev main_cst_144 : Ref sig .tc := ⟨.hbm, 631, rfl⟩
abbrev main_v386 : Ref sig .tc := ⟨.hbm, 632, rfl⟩
abbrev main_v387 : Ref sig .tc := ⟨.hbm, 633, rfl⟩
abbrev main_v388 : Ref sig .tc := ⟨.hbm, 634, rfl⟩
abbrev main_cst_145 : Ref sig .tc := ⟨.hbm, 635, rfl⟩
abbrev main_v389 : Ref sig .tc := ⟨.hbm, 636, rfl⟩
abbrev main_v390 : Ref sig .tc := ⟨.hbm, 637, rfl⟩
abbrev main_v391 : Ref sig .tc := ⟨.hbm, 638, rfl⟩
abbrev main_cst_146 : Ref sig .tc := ⟨.hbm, 639, rfl⟩
abbrev main_v392 : Ref sig .tc := ⟨.hbm, 640, rfl⟩
abbrev main_v393 : Ref sig .tc := ⟨.hbm, 641, rfl⟩
abbrev main_v394 : Ref sig .tc := ⟨.hbm, 642, rfl⟩
abbrev main_cst_147 : Ref sig .tc := ⟨.hbm, 643, rfl⟩
abbrev main_v395 : Ref sig .tc := ⟨.hbm, 644, rfl⟩
abbrev main_v396 : Ref sig .tc := ⟨.hbm, 645, rfl⟩
abbrev main_cst_148 : Ref sig .tc := ⟨.hbm, 646, rfl⟩
abbrev main_v397 : Ref sig .tc := ⟨.hbm, 647, rfl⟩
abbrev main_v398 : Ref sig .tc := ⟨.hbm, 648, rfl⟩
abbrev main_v399 : Ref sig .tc := ⟨.hbm, 649, rfl⟩
abbrev main_cst_149 : Ref sig .tc := ⟨.hbm, 650, rfl⟩
abbrev main_v400 : Ref sig .tc := ⟨.hbm, 651, rfl⟩
abbrev main_v401 : Ref sig .tc := ⟨.hbm, 652, rfl⟩
abbrev main_v402 : Ref sig .tc := ⟨.hbm, 653, rfl⟩
abbrev main_cst_150 : Ref sig .tc := ⟨.hbm, 654, rfl⟩
abbrev main_v403 : Ref sig .tc := ⟨.hbm, 655, rfl⟩
abbrev main_v404 : Ref sig .tc := ⟨.hbm, 656, rfl⟩
abbrev main_v405 : Ref sig .tc := ⟨.hbm, 657, rfl⟩
abbrev main_cst_151 : Ref sig .tc := ⟨.hbm, 658, rfl⟩
abbrev main_v406 : Ref sig .tc := ⟨.hbm, 659, rfl⟩
abbrev main_v407 : Ref sig .tc := ⟨.hbm, 660, rfl⟩
abbrev main_cst_152 : Ref sig .tc := ⟨.hbm, 661, rfl⟩
abbrev main_v408 : Ref sig .tc := ⟨.hbm, 662, rfl⟩
abbrev main_v409 : Ref sig .tc := ⟨.hbm, 663, rfl⟩
abbrev main_cst_153 : Ref sig .tc := ⟨.hbm, 664, rfl⟩
abbrev main_v410 : Ref sig .tc := ⟨.hbm, 665, rfl⟩
abbrev main_v411 : Ref sig .tc := ⟨.hbm, 666, rfl⟩
abbrev main_v412 : Ref sig .tc := ⟨.hbm, 667, rfl⟩
abbrev main_cst_154 : Ref sig .tc := ⟨.hbm, 668, rfl⟩
abbrev main_v413 : Ref sig .tc := ⟨.hbm, 669, rfl⟩
abbrev main_v414 : Ref sig .tc := ⟨.hbm, 670, rfl⟩
abbrev main_v415 : Ref sig .tc := ⟨.hbm, 671, rfl⟩
abbrev main_cst_155 : Ref sig .tc := ⟨.hbm, 672, rfl⟩
abbrev main_v416 : Ref sig .tc := ⟨.hbm, 673, rfl⟩
abbrev main_v417 : Ref sig .tc := ⟨.hbm, 674, rfl⟩
abbrev main_v418 : Ref sig .tc := ⟨.hbm, 675, rfl⟩
abbrev main_cst_156 : Ref sig .tc := ⟨.hbm, 676, rfl⟩
abbrev main_v419 : Ref sig .tc := ⟨.hbm, 677, rfl⟩
abbrev main_v420 : Ref sig .tc := ⟨.hbm, 678, rfl⟩
abbrev main_cst_157 : Ref sig .tc := ⟨.hbm, 679, rfl⟩
abbrev main_v421 : Ref sig .tc := ⟨.hbm, 680, rfl⟩
abbrev main_v422 : Ref sig .tc := ⟨.hbm, 681, rfl⟩
abbrev main_v423 : Ref sig .tc := ⟨.hbm, 682, rfl⟩
abbrev main_cst_158 : Ref sig .tc := ⟨.hbm, 683, rfl⟩
abbrev main_v424 : Ref sig .tc := ⟨.hbm, 684, rfl⟩
abbrev main_v425 : Ref sig .tc := ⟨.hbm, 685, rfl⟩
abbrev main_v426 : Ref sig .tc := ⟨.hbm, 686, rfl⟩
abbrev main_cst_159 : Ref sig .tc := ⟨.hbm, 687, rfl⟩
abbrev main_v427 : Ref sig .tc := ⟨.hbm, 688, rfl⟩
abbrev main_v428 : Ref sig .tc := ⟨.hbm, 689, rfl⟩
abbrev main_v429 : Ref sig .tc := ⟨.hbm, 690, rfl⟩
abbrev main_cst_160 : Ref sig .tc := ⟨.hbm, 691, rfl⟩
abbrev main_v430 : Ref sig .tc := ⟨.hbm, 692, rfl⟩
abbrev main_v431 : Ref sig .tc := ⟨.hbm, 693, rfl⟩
abbrev main_cst_161 : Ref sig .tc := ⟨.hbm, 694, rfl⟩
abbrev main_v432 : Ref sig .tc := ⟨.hbm, 695, rfl⟩
abbrev main_v433 : Ref sig .tc := ⟨.hbm, 696, rfl⟩
abbrev main_cst_162 : Ref sig .tc := ⟨.hbm, 697, rfl⟩
abbrev main_v434 : Ref sig .tc := ⟨.hbm, 698, rfl⟩
abbrev main_v435 : Ref sig .tc := ⟨.hbm, 699, rfl⟩
abbrev main_v436 : Ref sig .tc := ⟨.hbm, 700, rfl⟩
abbrev main_cst_163 : Ref sig .tc := ⟨.hbm, 701, rfl⟩
abbrev main_v437 : Ref sig .tc := ⟨.hbm, 702, rfl⟩
abbrev main_v438 : Ref sig .tc := ⟨.hbm, 703, rfl⟩
abbrev main_v439 : Ref sig .tc := ⟨.hbm, 704, rfl⟩
abbrev main_cst_164 : Ref sig .tc := ⟨.hbm, 705, rfl⟩
abbrev main_v440 : Ref sig .tc := ⟨.hbm, 706, rfl⟩
abbrev main_v441 : Ref sig .tc := ⟨.hbm, 707, rfl⟩
abbrev main_v442 : Ref sig .tc := ⟨.hbm, 708, rfl⟩
abbrev main_cst_165 : Ref sig .tc := ⟨.hbm, 709, rfl⟩
abbrev main_v443 : Ref sig .tc := ⟨.hbm, 710, rfl⟩
abbrev main_v444 : Ref sig .tc := ⟨.hbm, 711, rfl⟩
abbrev main_cst_166 : Ref sig .tc := ⟨.hbm, 712, rfl⟩
abbrev main_v445 : Ref sig .tc := ⟨.hbm, 713, rfl⟩
abbrev main_v446 : Ref sig .tc := ⟨.hbm, 714, rfl⟩
abbrev main_v447 : Ref sig .tc := ⟨.hbm, 715, rfl⟩
abbrev main_cst_167 : Ref sig .tc := ⟨.hbm, 716, rfl⟩
abbrev main_v448 : Ref sig .tc := ⟨.hbm, 717, rfl⟩
abbrev main_v449 : Ref sig .tc := ⟨.hbm, 718, rfl⟩
abbrev main_v450 : Ref sig .tc := ⟨.hbm, 719, rfl⟩
abbrev main_cst_168 : Ref sig .tc := ⟨.hbm, 720, rfl⟩
abbrev main_v451 : Ref sig .tc := ⟨.hbm, 721, rfl⟩
abbrev main_v452 : Ref sig .tc := ⟨.hbm, 722, rfl⟩
abbrev main_v453 : Ref sig .tc := ⟨.hbm, 723, rfl⟩
abbrev main_cst_169 : Ref sig .tc := ⟨.hbm, 724, rfl⟩
abbrev main_v454 : Ref sig .tc := ⟨.hbm, 725, rfl⟩
abbrev main_v455 : Ref sig .tc := ⟨.hbm, 726, rfl⟩
abbrev main_cst_170 : Ref sig .tc := ⟨.hbm, 727, rfl⟩
abbrev main_v456 : Ref sig .tc := ⟨.hbm, 728, rfl⟩
abbrev main_v457 : Ref sig .tc := ⟨.hbm, 729, rfl⟩
abbrev main_cst_171 : Ref sig .tc := ⟨.hbm, 730, rfl⟩
abbrev main_v458 : Ref sig .tc := ⟨.hbm, 731, rfl⟩
abbrev main_v459 : Ref sig .tc := ⟨.hbm, 732, rfl⟩
abbrev main_v460 : Ref sig .tc := ⟨.hbm, 733, rfl⟩
abbrev main_cst_172 : Ref sig .tc := ⟨.hbm, 734, rfl⟩
abbrev main_v461 : Ref sig .tc := ⟨.hbm, 735, rfl⟩
abbrev main_v462 : Ref sig .tc := ⟨.hbm, 736, rfl⟩
abbrev main_v463 : Ref sig .tc := ⟨.hbm, 737, rfl⟩
abbrev main_cst_173 : Ref sig .tc := ⟨.hbm, 738, rfl⟩
abbrev main_v464 : Ref sig .tc := ⟨.hbm, 739, rfl⟩
abbrev main_v465 : Ref sig .tc := ⟨.hbm, 740, rfl⟩
abbrev main_v466 : Ref sig .tc := ⟨.hbm, 741, rfl⟩
abbrev main_cst_174 : Ref sig .tc := ⟨.hbm, 742, rfl⟩
abbrev main_v467 : Ref sig .tc := ⟨.hbm, 743, rfl⟩
abbrev main_v468 : Ref sig .tc := ⟨.hbm, 744, rfl⟩
abbrev main_cst_175 : Ref sig .tc := ⟨.hbm, 745, rfl⟩
abbrev main_v469 : Ref sig .tc := ⟨.hbm, 746, rfl⟩
abbrev main_v470 : Ref sig .tc := ⟨.hbm, 747, rfl⟩
abbrev main_v471 : Ref sig .tc := ⟨.hbm, 748, rfl⟩
abbrev main_cst_176 : Ref sig .tc := ⟨.hbm, 749, rfl⟩
abbrev main_v472 : Ref sig .tc := ⟨.hbm, 750, rfl⟩
abbrev main_v473 : Ref sig .tc := ⟨.hbm, 751, rfl⟩
abbrev main_v474 : Ref sig .tc := ⟨.hbm, 752, rfl⟩
abbrev main_cst_177 : Ref sig .tc := ⟨.hbm, 753, rfl⟩
abbrev main_v475 : Ref sig .tc := ⟨.hbm, 754, rfl⟩
abbrev main_v476 : Ref sig .tc := ⟨.hbm, 755, rfl⟩
abbrev main_v477 : Ref sig .tc := ⟨.hbm, 756, rfl⟩
abbrev main_cst_178 : Ref sig .tc := ⟨.hbm, 757, rfl⟩
abbrev main_v478 : Ref sig .tc := ⟨.hbm, 758, rfl⟩
abbrev main_v479 : Ref sig .tc := ⟨.hbm, 759, rfl⟩
abbrev main_cst_179 : Ref sig .tc := ⟨.hbm, 760, rfl⟩
abbrev main_v480 : Ref sig .tc := ⟨.hbm, 761, rfl⟩
abbrev main_v481 : Ref sig .tc := ⟨.hbm, 762, rfl⟩
abbrev main_cst_180 : Ref sig .tc := ⟨.hbm, 763, rfl⟩
abbrev main_v482 : Ref sig .tc := ⟨.hbm, 764, rfl⟩
abbrev main_v483 : Ref sig .tc := ⟨.hbm, 765, rfl⟩
abbrev main_v484 : Ref sig .tc := ⟨.hbm, 766, rfl⟩
abbrev main_cst_181 : Ref sig .tc := ⟨.hbm, 767, rfl⟩
abbrev main_v485 : Ref sig .tc := ⟨.hbm, 768, rfl⟩
abbrev main_v486 : Ref sig .tc := ⟨.hbm, 769, rfl⟩
abbrev main_v487 : Ref sig .tc := ⟨.hbm, 770, rfl⟩
abbrev main_cst_182 : Ref sig .tc := ⟨.hbm, 771, rfl⟩
abbrev main_v488 : Ref sig .tc := ⟨.hbm, 772, rfl⟩
abbrev main_v489 : Ref sig .tc := ⟨.hbm, 773, rfl⟩
abbrev main_v490 : Ref sig .tc := ⟨.hbm, 774, rfl⟩
abbrev main_cst_183 : Ref sig .tc := ⟨.hbm, 775, rfl⟩
abbrev main_v491 : Ref sig .tc := ⟨.hbm, 776, rfl⟩
abbrev main_v492 : Ref sig .tc := ⟨.hbm, 777, rfl⟩
abbrev main_cst_184 : Ref sig .tc := ⟨.hbm, 778, rfl⟩
abbrev main_v493 : Ref sig .tc := ⟨.hbm, 779, rfl⟩
abbrev main_v494 : Ref sig .tc := ⟨.hbm, 780, rfl⟩
abbrev main_v495 : Ref sig .tc := ⟨.hbm, 781, rfl⟩
abbrev main_cst_185 : Ref sig .tc := ⟨.hbm, 782, rfl⟩
abbrev main_v496 : Ref sig .tc := ⟨.hbm, 783, rfl⟩
abbrev main_v497 : Ref sig .tc := ⟨.hbm, 784, rfl⟩
abbrev main_v498 : Ref sig .tc := ⟨.hbm, 785, rfl⟩
abbrev main_cst_186 : Ref sig .tc := ⟨.hbm, 786, rfl⟩
abbrev main_v499 : Ref sig .tc := ⟨.hbm, 787, rfl⟩
abbrev main_v500 : Ref sig .tc := ⟨.hbm, 788, rfl⟩
abbrev main_v501 : Ref sig .tc := ⟨.hbm, 789, rfl⟩
abbrev main_cst_187 : Ref sig .tc := ⟨.hbm, 790, rfl⟩
abbrev main_v502 : Ref sig .tc := ⟨.hbm, 791, rfl⟩
abbrev main_v503 : Ref sig .tc := ⟨.hbm, 792, rfl⟩
abbrev main_cst_188 : Ref sig .tc := ⟨.hbm, 793, rfl⟩
abbrev main_v504 : Ref sig .tc := ⟨.hbm, 794, rfl⟩
abbrev main_v505 : Ref sig .tc := ⟨.hbm, 795, rfl⟩
abbrev main_cst_189 : Ref sig .tc := ⟨.hbm, 796, rfl⟩
abbrev main_v506 : Ref sig .tc := ⟨.hbm, 797, rfl⟩
abbrev main_v507 : Ref sig .tc := ⟨.hbm, 798, rfl⟩
abbrev main_v508 : Ref sig .tc := ⟨.hbm, 799, rfl⟩
abbrev main_cst_190 : Ref sig .tc := ⟨.hbm, 800, rfl⟩
abbrev main_v509 : Ref sig .tc := ⟨.hbm, 801, rfl⟩
abbrev main_v510 : Ref sig .tc := ⟨.hbm, 802, rfl⟩
abbrev main_v511 : Ref sig .tc := ⟨.hbm, 803, rfl⟩
abbrev main_cst_191 : Ref sig .tc := ⟨.hbm, 804, rfl⟩
abbrev main_v512 : Ref sig .tc := ⟨.hbm, 805, rfl⟩
abbrev main_v513 : Ref sig .tc := ⟨.hbm, 806, rfl⟩
abbrev main_v514 : Ref sig .tc := ⟨.hbm, 807, rfl⟩
abbrev main_cst_192 : Ref sig .tc := ⟨.hbm, 808, rfl⟩
abbrev main_v515 : Ref sig .tc := ⟨.hbm, 809, rfl⟩
abbrev main_v516 : Ref sig .tc := ⟨.hbm, 810, rfl⟩
abbrev main_cst_193 : Ref sig .tc := ⟨.hbm, 811, rfl⟩
abbrev main_v517 : Ref sig .tc := ⟨.hbm, 812, rfl⟩
abbrev main_v518 : Ref sig .tc := ⟨.hbm, 813, rfl⟩
abbrev main_v519 : Ref sig .tc := ⟨.hbm, 814, rfl⟩
abbrev main_cst_194 : Ref sig .tc := ⟨.hbm, 815, rfl⟩
abbrev main_v520 : Ref sig .tc := ⟨.hbm, 816, rfl⟩
abbrev main_v521 : Ref sig .tc := ⟨.hbm, 817, rfl⟩
abbrev main_v522 : Ref sig .tc := ⟨.hbm, 818, rfl⟩
abbrev main_cst_195 : Ref sig .tc := ⟨.hbm, 819, rfl⟩
abbrev main_v523 : Ref sig .tc := ⟨.hbm, 820, rfl⟩
abbrev main_v524 : Ref sig .tc := ⟨.hbm, 821, rfl⟩
abbrev main_v525 : Ref sig .tc := ⟨.hbm, 822, rfl⟩
abbrev main_cst_196 : Ref sig .tc := ⟨.hbm, 823, rfl⟩
abbrev main_v526 : Ref sig .tc := ⟨.hbm, 824, rfl⟩
abbrev main_v527 : Ref sig .tc := ⟨.hbm, 825, rfl⟩
abbrev main_cst_197 : Ref sig .tc := ⟨.hbm, 826, rfl⟩
abbrev main_v528 : Ref sig .tc := ⟨.hbm, 827, rfl⟩
abbrev main_v529 : Ref sig .tc := ⟨.hbm, 828, rfl⟩
abbrev main_cst_198 : Ref sig .tc := ⟨.hbm, 829, rfl⟩
abbrev main_v530 : Ref sig .tc := ⟨.hbm, 830, rfl⟩
abbrev main_v531 : Ref sig .tc := ⟨.hbm, 831, rfl⟩
abbrev main_v532 : Ref sig .tc := ⟨.hbm, 832, rfl⟩
abbrev main_cst_199 : Ref sig .tc := ⟨.hbm, 833, rfl⟩
abbrev main_v533 : Ref sig .tc := ⟨.hbm, 834, rfl⟩
abbrev main_v534 : Ref sig .tc := ⟨.hbm, 835, rfl⟩
abbrev main_v535 : Ref sig .tc := ⟨.hbm, 836, rfl⟩
abbrev main_cst_200 : Ref sig .tc := ⟨.hbm, 837, rfl⟩
abbrev main_v536 : Ref sig .tc := ⟨.hbm, 838, rfl⟩
abbrev main_v537 : Ref sig .tc := ⟨.hbm, 839, rfl⟩
abbrev main_v538 : Ref sig .tc := ⟨.hbm, 840, rfl⟩
abbrev main_cst_201 : Ref sig .tc := ⟨.hbm, 841, rfl⟩
abbrev main_v539 : Ref sig .tc := ⟨.hbm, 842, rfl⟩
abbrev main_v540 : Ref sig .tc := ⟨.hbm, 843, rfl⟩
abbrev main_cst_202 : Ref sig .tc := ⟨.hbm, 844, rfl⟩
abbrev main_v541 : Ref sig .tc := ⟨.hbm, 845, rfl⟩
abbrev main_v542 : Ref sig .tc := ⟨.hbm, 846, rfl⟩
abbrev main_v543 : Ref sig .tc := ⟨.hbm, 847, rfl⟩
abbrev main_cst_203 : Ref sig .tc := ⟨.hbm, 848, rfl⟩
abbrev main_v544 : Ref sig .tc := ⟨.hbm, 849, rfl⟩
abbrev main_v545 : Ref sig .tc := ⟨.hbm, 850, rfl⟩
abbrev main_v546 : Ref sig .tc := ⟨.hbm, 851, rfl⟩
abbrev main_cst_204 : Ref sig .tc := ⟨.hbm, 852, rfl⟩
abbrev main_v547 : Ref sig .tc := ⟨.hbm, 853, rfl⟩
abbrev main_v548 : Ref sig .tc := ⟨.hbm, 854, rfl⟩
abbrev main_v549 : Ref sig .tc := ⟨.hbm, 855, rfl⟩
abbrev main_cst_205 : Ref sig .tc := ⟨.hbm, 856, rfl⟩
abbrev main_v550 : Ref sig .tc := ⟨.hbm, 857, rfl⟩
abbrev main_v551 : Ref sig .tc := ⟨.hbm, 858, rfl⟩
abbrev main_cst_206 : Ref sig .tc := ⟨.hbm, 859, rfl⟩
abbrev main_v552 : Ref sig .tc := ⟨.hbm, 860, rfl⟩
abbrev main_v553 : Ref sig .tc := ⟨.hbm, 861, rfl⟩
abbrev main_cst_207 : Ref sig .tc := ⟨.hbm, 862, rfl⟩
abbrev main_v554 : Ref sig .tc := ⟨.hbm, 863, rfl⟩
abbrev main_v555 : Ref sig .tc := ⟨.hbm, 864, rfl⟩
abbrev main_v556 : Ref sig .tc := ⟨.hbm, 865, rfl⟩
abbrev main_cst_208 : Ref sig .tc := ⟨.hbm, 866, rfl⟩
abbrev main_v557 : Ref sig .tc := ⟨.hbm, 867, rfl⟩
abbrev main_v558 : Ref sig .tc := ⟨.hbm, 868, rfl⟩
abbrev main_v559 : Ref sig .tc := ⟨.hbm, 869, rfl⟩
abbrev main_cst_209 : Ref sig .tc := ⟨.hbm, 870, rfl⟩
abbrev main_v560 : Ref sig .tc := ⟨.hbm, 871, rfl⟩
abbrev main_v561 : Ref sig .tc := ⟨.hbm, 872, rfl⟩
abbrev main_v562 : Ref sig .tc := ⟨.hbm, 873, rfl⟩
abbrev main_cst_210 : Ref sig .tc := ⟨.hbm, 874, rfl⟩
abbrev main_v563 : Ref sig .tc := ⟨.hbm, 875, rfl⟩
abbrev main_v564 : Ref sig .tc := ⟨.hbm, 876, rfl⟩
abbrev main_cst_211 : Ref sig .tc := ⟨.hbm, 877, rfl⟩
abbrev main_v565 : Ref sig .tc := ⟨.hbm, 878, rfl⟩
abbrev main_v566 : Ref sig .tc := ⟨.hbm, 879, rfl⟩
abbrev main_v567 : Ref sig .tc := ⟨.hbm, 880, rfl⟩
abbrev main_cst_212 : Ref sig .tc := ⟨.hbm, 881, rfl⟩
abbrev main_v568 : Ref sig .tc := ⟨.hbm, 882, rfl⟩
abbrev main_v569 : Ref sig .tc := ⟨.hbm, 883, rfl⟩
abbrev main_v570 : Ref sig .tc := ⟨.hbm, 884, rfl⟩
abbrev main_cst_213 : Ref sig .tc := ⟨.hbm, 885, rfl⟩
abbrev main_v571 : Ref sig .tc := ⟨.hbm, 886, rfl⟩
abbrev main_v572 : Ref sig .tc := ⟨.hbm, 887, rfl⟩
abbrev main_v573 : Ref sig .tc := ⟨.hbm, 888, rfl⟩
abbrev main_cst_214 : Ref sig .tc := ⟨.hbm, 889, rfl⟩
abbrev main_v574 : Ref sig .tc := ⟨.hbm, 890, rfl⟩
abbrev main_v575 : Ref sig .tc := ⟨.hbm, 891, rfl⟩
abbrev main_cst_215 : Ref sig .tc := ⟨.hbm, 892, rfl⟩
abbrev main_v576 : Ref sig .tc := ⟨.hbm, 893, rfl⟩
abbrev main_v577 : Ref sig .tc := ⟨.hbm, 894, rfl⟩
abbrev main_cst_216 : Ref sig .tc := ⟨.hbm, 895, rfl⟩
abbrev main_v578 : Ref sig .tc := ⟨.hbm, 896, rfl⟩
abbrev main_v579 : Ref sig .tc := ⟨.hbm, 897, rfl⟩
abbrev main_v580 : Ref sig .tc := ⟨.hbm, 898, rfl⟩
abbrev main_cst_217 : Ref sig .tc := ⟨.hbm, 899, rfl⟩
abbrev main_v581 : Ref sig .tc := ⟨.hbm, 900, rfl⟩
abbrev main_v582 : Ref sig .tc := ⟨.hbm, 901, rfl⟩
abbrev main_v583 : Ref sig .tc := ⟨.hbm, 902, rfl⟩
abbrev main_cst_218 : Ref sig .tc := ⟨.hbm, 903, rfl⟩
abbrev main_v584 : Ref sig .tc := ⟨.hbm, 904, rfl⟩
abbrev main_v585 : Ref sig .tc := ⟨.hbm, 905, rfl⟩
abbrev main_v586 : Ref sig .tc := ⟨.hbm, 906, rfl⟩
abbrev main_cst_219 : Ref sig .tc := ⟨.hbm, 907, rfl⟩
abbrev main_v587 : Ref sig .tc := ⟨.hbm, 908, rfl⟩
abbrev main_v588 : Ref sig .tc := ⟨.hbm, 909, rfl⟩
abbrev main_cst_220 : Ref sig .tc := ⟨.hbm, 910, rfl⟩
abbrev main_v589 : Ref sig .tc := ⟨.hbm, 911, rfl⟩
abbrev main_v590 : Ref sig .tc := ⟨.hbm, 912, rfl⟩
abbrev main_v591 : Ref sig .tc := ⟨.hbm, 913, rfl⟩
abbrev main_cst_221 : Ref sig .tc := ⟨.hbm, 914, rfl⟩
abbrev main_v592 : Ref sig .tc := ⟨.hbm, 915, rfl⟩
abbrev main_v593 : Ref sig .tc := ⟨.hbm, 916, rfl⟩
abbrev main_v594 : Ref sig .tc := ⟨.hbm, 917, rfl⟩
abbrev main_cst_222 : Ref sig .tc := ⟨.hbm, 918, rfl⟩
abbrev main_v595 : Ref sig .tc := ⟨.hbm, 919, rfl⟩
abbrev main_v596 : Ref sig .tc := ⟨.hbm, 920, rfl⟩
abbrev main_v597 : Ref sig .tc := ⟨.hbm, 921, rfl⟩
abbrev main_cst_223 : Ref sig .tc := ⟨.hbm, 922, rfl⟩
abbrev main_v598 : Ref sig .tc := ⟨.hbm, 923, rfl⟩
abbrev main_v599 : Ref sig .tc := ⟨.hbm, 924, rfl⟩
abbrev main_v600 : Ref sig .tc := ⟨.hbm, 925, rfl⟩
abbrev main_v601 : Ref sig .tc := ⟨.hbm, 926, rfl⟩
abbrev main_v602 : Ref sig .tc := ⟨.hbm, 927, rfl⟩
abbrev main_v603 : Ref sig .tc := ⟨.hbm, 928, rfl⟩
abbrev main_v604 : Ref sig .tc := ⟨.hbm, 929, rfl⟩
abbrev main_v605 : Ref sig .tc := ⟨.hbm, 930, rfl⟩
abbrev main_v606 : Ref sig .tc := ⟨.hbm, 931, rfl⟩
abbrev main_v607 : Ref sig .tc := ⟨.hbm, 932, rfl⟩
abbrev main_v608 : Ref sig .tc := ⟨.hbm, 933, rfl⟩
abbrev main_v609 : Ref sig .tc := ⟨.hbm, 934, rfl⟩
abbrev main_v610 : Ref sig .tc := ⟨.hbm, 935, rfl⟩
abbrev main_v611 : Ref sig .tc := ⟨.hbm, 936, rfl⟩
abbrev main_v612 : Ref sig .tc := ⟨.hbm, 937, rfl⟩
abbrev main_v613 : Ref sig .tc := ⟨.hbm, 938, rfl⟩
abbrev main_v614 : Ref sig .tc := ⟨.hbm, 939, rfl⟩
abbrev main_v615 : Ref sig .tc := ⟨.hbm, 940, rfl⟩
abbrev main_v616 : Ref sig .tc := ⟨.hbm, 941, rfl⟩
abbrev main_v617 : Ref sig .tc := ⟨.hbm, 942, rfl⟩
abbrev main_v618 : Ref sig .tc := ⟨.hbm, 943, rfl⟩
abbrev main_v619 : Ref sig .tc := ⟨.hbm, 944, rfl⟩
abbrev main_v620 : Ref sig .tc := ⟨.hbm, 945, rfl⟩
abbrev main_v621 : Ref sig .tc := ⟨.hbm, 946, rfl⟩
abbrev main_v622 : Ref sig .tc := ⟨.hbm, 947, rfl⟩
abbrev main_v623 : Ref sig .tc := ⟨.hbm, 948, rfl⟩
abbrev main_v624 : Ref sig .tc := ⟨.hbm, 949, rfl⟩
abbrev main_v625 : Ref sig .tc := ⟨.hbm, 950, rfl⟩
abbrev main_c : Ref sig .tc := ⟨.hbm, 951, rfl⟩
abbrev main_call0_v0 : Ref sig .tc := ⟨.hbm, 952, rfl⟩
abbrev main_v626 : Ref sig .tc := ⟨.hbm, 953, rfl⟩
abbrev main_v627 : Ref sig .tc := ⟨.hbm, 954, rfl⟩
abbrev main_v628 : Ref sig .tc := ⟨.hbm, 955, rfl⟩
abbrev main_v629 : Ref sig .tc := ⟨.hbm, 956, rfl⟩
abbrev main_v630 : Ref sig .tc := ⟨.hbm, 957, rfl⟩
abbrev main_v631 : Ref sig .tc := ⟨.hbm, 958, rfl⟩
abbrev main_v632 : Ref sig .tc := ⟨.hbm, 959, rfl⟩
abbrev main_v633 : Ref sig .tc := ⟨.hbm, 960, rfl⟩
abbrev main_v634 : Ref sig .tc := ⟨.hbm, 961, rfl⟩
abbrev main_v635 : Ref sig .tc := ⟨.hbm, 962, rfl⟩
abbrev main_v636 : Ref sig .tc := ⟨.hbm, 963, rfl⟩
abbrev main_v637 : Ref sig .tc := ⟨.hbm, 964, rfl⟩
abbrev main_v638 : Ref sig .tc := ⟨.hbm, 965, rfl⟩
abbrev main_v639 : Ref sig .tc := ⟨.hbm, 966, rfl⟩
abbrev main_v640 : Ref sig .tc := ⟨.hbm, 967, rfl⟩
abbrev main_v641 : Ref sig .tc := ⟨.hbm, 968, rfl⟩
abbrev main_v642 : Ref sig .tc := ⟨.hbm, 969, rfl⟩
abbrev main_v643 : Ref sig .tc := ⟨.hbm, 970, rfl⟩
abbrev main_v644 : Ref sig .tc := ⟨.hbm, 971, rfl⟩
abbrev main_v645 : Ref sig .tc := ⟨.hbm, 972, rfl⟩
abbrev main_v646 : Ref sig .tc := ⟨.hbm, 973, rfl⟩
abbrev main_v647 : Ref sig .tc := ⟨.hbm, 974, rfl⟩
abbrev main_v648 : Ref sig .tc := ⟨.hbm, 975, rfl⟩
abbrev main_v649 : Ref sig .tc := ⟨.hbm, 976, rfl⟩
abbrev main_v650 : Ref sig .tc := ⟨.hbm, 977, rfl⟩
abbrev main_v651 : Ref sig .tc := ⟨.hbm, 978, rfl⟩
abbrev main_v652 : Ref sig .tc := ⟨.hbm, 979, rfl⟩
abbrev main_v653 : Ref sig .tc := ⟨.hbm, 980, rfl⟩
abbrev main_c_224 : Ref sig .tc := ⟨.hbm, 981, rfl⟩
abbrev main_call1_v0 : Ref sig .tc := ⟨.hbm, 982, rfl⟩
abbrev main_v654 : Ref sig .tc := ⟨.hbm, 983, rfl⟩
abbrev main_v655 : Ref sig .tc := ⟨.hbm, 984, rfl⟩
abbrev main_v656 : Ref sig .tc := ⟨.hbm, 985, rfl⟩
abbrev main_v657 : Ref sig .tc := ⟨.hbm, 986, rfl⟩
abbrev main_v658 : Ref sig .tc := ⟨.hbm, 987, rfl⟩
abbrev main_v659 : Ref sig .tc := ⟨.hbm, 988, rfl⟩
abbrev main_v660 : Ref sig .tc := ⟨.hbm, 989, rfl⟩
abbrev main_v661 : Ref sig .tc := ⟨.hbm, 990, rfl⟩
abbrev main_v662 : Ref sig .tc := ⟨.hbm, 991, rfl⟩
abbrev main_v663 : Ref sig .tc := ⟨.hbm, 992, rfl⟩
abbrev main_v664 : Ref sig .tc := ⟨.hbm, 993, rfl⟩
abbrev main_v665 : Ref sig .tc := ⟨.hbm, 994, rfl⟩
abbrev main_v666 : Ref sig .tc := ⟨.hbm, 995, rfl⟩
abbrev main_v667 : Ref sig .tc := ⟨.hbm, 996, rfl⟩
abbrev main_v668 : Ref sig .tc := ⟨.hbm, 997, rfl⟩
abbrev main_v669 : Ref sig .tc := ⟨.hbm, 998, rfl⟩
abbrev main_v670 : Ref sig .tc := ⟨.hbm, 999, rfl⟩
abbrev main_v671 : Ref sig .tc := ⟨.hbm, 1000, rfl⟩
abbrev main_v672 : Ref sig .tc := ⟨.hbm, 1001, rfl⟩
abbrev main_v673 : Ref sig .tc := ⟨.hbm, 1002, rfl⟩
abbrev main_v674 : Ref sig .tc := ⟨.hbm, 1003, rfl⟩
abbrev main_v675 : Ref sig .tc := ⟨.hbm, 1004, rfl⟩
abbrev main_v676 : Ref sig .tc := ⟨.hbm, 1005, rfl⟩
abbrev main_v677 : Ref sig .tc := ⟨.hbm, 1006, rfl⟩
abbrev main_v678 : Ref sig .tc := ⟨.hbm, 1007, rfl⟩
abbrev main_v679 : Ref sig .tc := ⟨.hbm, 1008, rfl⟩
abbrev main_v680 : Ref sig .tc := ⟨.hbm, 1009, rfl⟩
abbrev main_v681 : Ref sig .tc := ⟨.hbm, 1010, rfl⟩
abbrev main_c_225 : Ref sig .tc := ⟨.hbm, 1011, rfl⟩
abbrev main_call2_v0 : Ref sig .tc := ⟨.hbm, 1012, rfl⟩
abbrev main_v682 : Ref sig .tc := ⟨.hbm, 1013, rfl⟩
abbrev main_v683 : Ref sig .tc := ⟨.hbm, 1014, rfl⟩
abbrev main_v684 : Ref sig .tc := ⟨.hbm, 1015, rfl⟩
abbrev main_v685 : Ref sig .tc := ⟨.hbm, 1016, rfl⟩
abbrev main_v686 : Ref sig .tc := ⟨.hbm, 1017, rfl⟩
abbrev main_v687 : Ref sig .tc := ⟨.hbm, 1018, rfl⟩
abbrev main_v688 : Ref sig .tc := ⟨.hbm, 1019, rfl⟩
abbrev main_v689 : Ref sig .tc := ⟨.hbm, 1020, rfl⟩
abbrev main_v690 : Ref sig .tc := ⟨.hbm, 1021, rfl⟩
abbrev main_v691 : Ref sig .tc := ⟨.hbm, 1022, rfl⟩
abbrev main_v692 : Ref sig .tc := ⟨.hbm, 1023, rfl⟩
abbrev main_v693 : Ref sig .tc := ⟨.hbm, 1024, rfl⟩
abbrev main_v694 : Ref sig .tc := ⟨.hbm, 1025, rfl⟩
abbrev main_v695 : Ref sig .tc := ⟨.hbm, 1026, rfl⟩
abbrev main_v696 : Ref sig .tc := ⟨.hbm, 1027, rfl⟩
abbrev main_v697 : Ref sig .tc := ⟨.hbm, 1028, rfl⟩
abbrev main_v698 : Ref sig .tc := ⟨.hbm, 1029, rfl⟩
abbrev main_v699 : Ref sig .tc := ⟨.hbm, 1030, rfl⟩
abbrev main_v700 : Ref sig .tc := ⟨.hbm, 1031, rfl⟩
abbrev main_v701 : Ref sig .tc := ⟨.hbm, 1032, rfl⟩
abbrev main_v702 : Ref sig .tc := ⟨.hbm, 1033, rfl⟩
abbrev main_v703 : Ref sig .tc := ⟨.hbm, 1034, rfl⟩
abbrev main_v704 : Ref sig .tc := ⟨.hbm, 1035, rfl⟩
abbrev main_v705 : Ref sig .tc := ⟨.hbm, 1036, rfl⟩
abbrev main_v706 : Ref sig .tc := ⟨.hbm, 1037, rfl⟩
abbrev main_v707 : Ref sig .tc := ⟨.hbm, 1038, rfl⟩
abbrev main_v708 : Ref sig .tc := ⟨.hbm, 1039, rfl⟩
abbrev main_v709 : Ref sig .tc := ⟨.hbm, 1040, rfl⟩
abbrev main_c_226 : Ref sig .tc := ⟨.hbm, 1041, rfl⟩
abbrev main_call3_v0 : Ref sig .tc := ⟨.hbm, 1042, rfl⟩
abbrev main_v710 : Ref sig .tc := ⟨.hbm, 1043, rfl⟩
abbrev main_v711 : Ref sig .tc := ⟨.hbm, 1044, rfl⟩

abbrev nD : Nat := 1
abbrev τ : Topo := Topo.v7x

variable {F : FTy → Type} [FloatOps F]
-- ==== Proof.Merge.Row.lean ====
/- The gradient of one row of the gated merge followed by the residual layer norm, as plain functions on the extended
   reals. `Par` holds what all rows share (gate bias, norm scale, output matrix), `RowIn` what belongs to one row (the
   three branch outputs, the gate logits, the residual stream and the row's cotangent). Everything below is the chain
   rule written out in the order of the forward pass reversed; both the kernel and the reference are read to these. -/
module

public import Idealize.ShloMosaic.Lib.ValueIdx
public import Idealize.ShloMosaic.Lib.Pointwise
public import Idealize.ShloMosaic.PureOps.Ideal.Laws

@[expose] public section

noncomputable section

namespace Cert.Merge

open Idealize.ShloMosaic

/-- What every row shares: the gate bias per branch and channel, the norm's scale, the output matrix. -/
structure Par where
  bs : Fin 3 → Fin 1024 → EReal
  g : Fin 1024 → EReal
  w : Fin 1024 → Fin 1024 → EReal

/-- One row: branch outputs, gate logits, residual stream, cotangent of the norm's result. -/
structure RowIn where
  o : Fin 3 → Fin 1024 → EReal
  gt : Fin 3 → Fin 1024 → EReal
  h : Fin 1024 → EReal
  ct : Fin 1024 → EReal

/-- Column `j` of branch `k` in an array that lays the three branches side by side. -/
def col (k : Fin 3) (j : Fin 1024) : Fin 3072 := ⟨1024 * k.val + j.val, by omega⟩

/-- The residual scale, the row length, the norm's epsilon and the two small factors, as their words read. -/
abbrev cAlpha : EReal := Ideal.ofBits .f32 1071072509#32
abbrev cLen : EReal := Ideal.ofBits .f32 1149239296#32
abbrev cEps : EReal := Ideal.ofBits .f32 925353388#32
abbrev cTwo : EReal := Ideal.ofBits .f32 0x40000000#32
abbrev cNegHalf : EReal := Ideal.ofBits .f32 0xBF000000#32

variable (p : Par) (x : RowIn)

/-- Forward: gate, merged row, residual sum, its mean, deviation, variance with epsilon, reciprocal root, normalised row. -/
def gate (k : Fin 3) (j : Fin 1024) : EReal := Ideal.logistic (x.gt k j + p.bs k j)
def mrg (j : Fin 1024) : EReal := gate p x 0 j * x.o 0 j + gate p x 1 j * x.o 1 j + gate p x 2 j * x.o 2 j
def zed (j : Fin 1024) : EReal := cAlpha * x.h j + ∑ k, mrg p x k * p.w k j
def mu : EReal := Ideal.div (∑ j, zed p x j) cLen
def dev (j : Fin 1024) : EReal := zed p x j - mu p x
def var : EReal := Ideal.div (∑ j, dev p x j * dev p x j) cLen + cEps
def rs : EReal := Ideal.rsqrt (var p x)
def nrm (j : Fin 1024) : EReal := dev p x j * rs p x

/-- Backward: through the scale, the reciprocal root, the variance, the mean, the product and the gates. -/
def cg (j : Fin 1024) : EReal := x.ct j * p.g j
def dvar : EReal := Ideal.div ((∑ j, dev p x j * cg p x j) * (cNegHalf * Ideal.div (rs p x) (var p x))) cLen
def dmu : EReal :=
  Ideal.div ((∑ j, (0 - cg p x j * rs p x)) + ∑ j, (0 - dvar p x * (cTwo * dev p x j))) cLen
def dzed (j : Fin 1024) : EReal := cg p x j * rs p x + dvar p x * (cTwo * dev p x j) + dmu p x
def dmrg (j : Fin 1024) : EReal := ∑ k, dzed p x k * p.w j k
def dout (k : Fin 3) (j : Fin 1024) : EReal := gate p x k j * dmrg p x j
def dgate (k : Fin 3) (j : Fin 1024) : EReal :=
  dmrg p x j * x.o k j * (gate p x k j * (1 - gate p x k j))
def dh (j : Fin 1024) : EReal := cAlpha * dzed p x j

/-! A row whose cotangent is zero has zero gradients: every product is with `0`, whatever the other factor is. -/

theorem cLen_ne : cLen ≠ 0 := by
  intro h
  have h2 : ((1024 : ℝ) : EReal) = 0 := by rw [← h]; simp [Ideal.ofBits, Ideal.ieee, -EReal.coe_mul]; norm_num
  exact absurd (EReal.coe_eq_zero.mp h2) (by norm_num)

theorem div_zero_left {a : EReal} (h : a ≠ 0) : Ideal.div 0 a = 0 := by rw [Ideal.div, if_neg h, zero_mul]

variable {x} (h0 : ∀ j, x.ct j = 0)
include h0

theorem cg_zero (j : Fin 1024) : cg p x j = 0 := by rw [cg, h0, zero_mul]

theorem dvar_zero : dvar p x = 0 := by
  simp only [dvar, cg_zero p h0, mul_zero, Finset.sum_const_zero, zero_mul, div_zero_left cLen_ne]

theorem dmu_zero : dmu p x = 0 := by
  simp only [dmu, cg_zero p h0, dvar_zero p h0, zero_mul, sub_zero, Finset.sum_const_zero, add_zero, div_zero_left cLen_ne]

theorem dzed_zero (j : Fin 1024) : dzed p x j = 0 := by
  simp only [dzed, cg_zero p h0, dvar_zero p h0, dmu_zero p h0, zero_mul, add_zero]

theorem dmrg_zero (j : Fin 1024) : dmrg p x j = 0 := by
  simp only [dmrg, dzed_zero p h0, zero_mul, Finset.sum_const_zero]

theorem dout_zero (k : Fin 3) (j : Fin 1024) : dout p x k j = 0 := by rw [dout, dmrg_zero p h0, mul_zero]

theorem dgate_zero (k : Fin 3) (j : Fin 1024) : dgate p x k j = 0 := by
  rw [dgate, dmrg_zero p h0, zero_mul, zero_mul]

theorem dh_zero (j : Fin 1024) : dh p x j = 0 := by rw [dh, dzed_zero p h0, mul_zero]

end Cert.Merge
-- ==== Proof.Merge.Block.lean ====
/- One grid point of the kernel, read row by row: every value the body computes from its input blocks is the row function
   of Row.lean at that row. -/
module

public import proofs.«01_k».proof.Proof.Gen.KernelIdeal.Skeleton
public import proofs.«01_k».proof.Proof.Merge.Row

@[expose] public section

set_option maxRecDepth 16384

noncomputable section

namespace Cert.Merge

open Idealize.ShloMosaic Cert.KernelIdeal Cert.KernelIdeal.Gen

/-- The blocks a grid point reads: three branch outputs, gate logits, residual stream, gate bias, norm scale, norm shift,
    output matrix, the two cotangents. -/
structure Blk where
  i : grid0.Coords
  x0 : Vec Ideal S208x1024 .f32
  x1 : Vec Ideal S208x1024 .f32
  x2 : Vec Ideal S208x1024 .f32
  x3 : Vec Ideal S208x3072 .f32
  x4 : Vec Ideal S208x1024 .f32
  x5 : Vec Ideal S1x3072 .f32
  x6 : Vec Ideal S1x1024 .f32
  x8 : Vec Ideal S1024x1024 .bf16
  x9 : Vec Ideal S208x1024 .f32
  x10 : Vec Ideal S208x1024 .bf16

namespace Blk

variable (b : Blk)

/-! The body's intermediate values, in its own order. -/

def v6 := k0_pay9 b.x5
def v8 := k0_pay10 b.x6
def v10 := k0_pay11 b.x8
def v13 := k0_pay12 b.x10
def v17 := k0_pay13 b.i
def v22 := k0_pay14 b.x3 b.x5
def v25 := k0_pay15 b.x3 b.x5
def v26 := k0_pay16 b.x0 b.x3 b.x5
def v31 := k0_pay17 b.x3 b.x5
def v34 := k0_pay18 b.x3 b.x5
def v35 := k0_pay19 b.x1 b.x3 b.x5
def v41 := k0_pay20 b.x3 b.v6
def v44 := k0_pay21 b.x3 b.v6
def v46 := k0_pay22 b.x2 b.x3 b.v6 b.v26 b.v35
def v60 := k0_pay26 b.x2 b.x3 b.x4 b.v6 b.v10 b.v26 b.v35
def v66 := k0_pay27 b.x2 b.x3 b.x4 b.v6 b.v10 b.v26 b.v35
def v69 := k0_pay29 b.x2 b.x3 b.x4 b.v6 b.v10 b.v26 b.v35
def v72 := k0_pay30 b.x2 b.x3 b.x4 b.v6 b.v10 b.v26 b.v35
def v74 := k0_pay31 b.x2 b.x3 b.x4 b.v6 b.v10 b.v26 b.v35
def v82 := k0_pay32 b.x9 b.v13 b.v17
def v84 := k0_pay33 b.v82
def v87 := k0_pay34 b.v74 b.v82
def v119 := k0_pay36 b.v8 b.v10 b.v60 b.v66 b.v69 b.v72 b.v82
def v122 := k0_pay37 b.v8 b.v46 b.v60 b.v66 b.v69 b.v72 b.v82
def v124 := k0_pay38 b.v8 b.v60 b.v66 b.v69 b.v72 b.v82
def v125 := k0_pay39 b.v8 b.v10 b.v41 b.v60 b.v66 b.v69 b.v72 b.v82
def v127 := k0_pay40 b.x2 b.v8 b.v10 b.v44 b.v60 b.v66 b.v69 b.v72 b.v82
def v128 := k0_pay41 b.x2 b.v8 b.v10 b.v44 b.v60 b.v66 b.v69 b.v72 b.v82
def v134 := k0_pay42 b.v31 b.v119
def v149 := k0_pay44 b.v22 b.v119
def v156 := k0_pay46 b.x0 b.x1 b.v25 b.v34 b.v119 b.v128
def v159 := k0_pay47 b.x0 b.x1 b.v25 b.v34 b.v119 b.v127

/-- The block's shared values and its row `r`, as Row.lean takes them. -/
def par : Par where
  bs k j := b.x5 (ix2 0 (col k j))
  g j := b.x6 (ix2 0 j)
  w k j := b.x8 (ix2 k j)

def row (r : Fin 208) : RowIn where
  o k j := match k with | 0 => b.x0 (ix2 r j) | 1 => b.x1 (ix2 r j) | 2 => b.x2 (ix2 r j)
  gt k j := b.x3 (ix2 r (col k j))
  h j := b.x4 (ix2 r j)
  ct j := b.v82 (ix2 r j)

variable (r : Fin 208) (j : Fin 1024)

theorem v8_at : b.v8 (ix2 0 j) = b.par.g j := by
  unfold v8 k0_pay10; pointwise; rfl

theorem v22_at : b.v22 (ix2 r j) = gate b.par (b.row r) 0 j := by
  unfold v22 k0_pay14 k0_pay9; pointwise; simp [gate, par, row, col]

theorem v25_at : b.v25 (ix2 r j) = gate b.par (b.row r) 0 j * (1 - gate b.par (b.row r) 0 j) := by
  rw [← v22_at]; unfold v25 k0_pay15; pointwise; rfl

theorem v31_at : b.v31 (ix2 r j) = gate b.par (b.row r) 1 j := by
  unfold v31 k0_pay17 k0_pay9; pointwise; simp [gate, par, row, col]

theorem v34_at : b.v34 (ix2 r j) = gate b.par (b.row r) 1 j * (1 - gate b.par (b.row r) 1 j) := by
  rw [← v31_at]; unfold v34 k0_pay18; pointwise; rfl

theorem v41_at : b.v41 (ix2 r j) = gate b.par (b.row r) 2 j := by
  unfold v41 v6 k0_pay20 k0_pay9; pointwise; simp [gate, par, row, col]

theorem v44_at : b.v44 (ix2 r j) = gate b.par (b.row r) 2 j * (1 - gate b.par (b.row r) 2 j) := by
  rw [← v41_at]; unfold v44 k0_pay21; pointwise; rfl

theorem v46_at : b.v46 (ix2 r j) = mrg b.par (b.row r) j := by
  rw [mrg, ← v22_at, ← v31_at, ← v41_at]
  unfold v46 k0_pay22 v26 v35 k0_pay16 k0_pay19; pointwise; rfl

theorem v51_at : k0_pay23 b.x2 b.x3 b.x4 b.v6 b.v10 b.v26 b.v35 (ix2 r j) = zed b.par (b.row r) j := by
  simp only [zed, ← v46_at]
  unfold k0_pay23 v10 k0_pay11; pointwise [dot_S208x1024_S1024x1024_S208x1024_1_0_0_1_n_n]; rfl

theorem v55_at : k0_pay24 b.x2 b.x3 b.x4 b.v6 b.v10 b.v26 b.v35 (ix2 r 0) = mu b.par (b.row r) := by
  unfold k0_pay24; pointwise [v51_at]; rfl

theorem v57_at : k0_pay25 b.x2 b.x3 b.x4 b.v6 b.v10 b.v26 b.v35 (ix2 r j) = dev b.par (b.row r) j := by
  unfold k0_pay25; pointwise [v51_at, v55_at]; rfl

theorem v60_at : b.v60 (ix2 r j) = cTwo * dev b.par (b.row r) j := by
  unfold v60 k0_pay26; pointwise [v57_at]

theorem v66_at : b.v66 (ix2 r j) = dev b.par (b.row r) j := by
  unfold v66 k0_pay27; pointwise [v51_at, v55_at]; rfl

theorem v68_at : k0_pay28 b.x2 b.x3 b.x4 b.v6 b.v10 b.v26 b.v35 (ix2 r 0) = var b.par (b.row r) := by
  unfold k0_pay28; pointwise [v57_at]; rfl

theorem v69_at : b.v69 (ix2 r 0) = rs b.par (b.row r) := by
  unfold v69 k0_pay29; pointwise [v68_at]; rfl

theorem v72_at : b.v72 (ix2 r 0) = cNegHalf * Ideal.div (rs b.par (b.row r)) (var b.par (b.row r)) := by
  rw [← v69_at]; unfold v72 k0_pay30; pointwise [v68_at]; rfl

theorem v74_at : b.v74 (ix2 r j) = nrm b.par (b.row r) j := by
  rw [nrm, ← v69_at, ← v66_at]; unfold v74 k0_pay31; pointwise; rfl

theorem v117_at : k0_pay35 b.v8 b.v60 b.v66 b.v69 b.v72 b.v82 (ix2 r j) = dzed b.par (b.row r) j := by
  unfold k0_pay35
  pointwise [v60_at, v66_at, v69_at, v72_at, v8_at, Fin.sum_univ_one]
  rfl

theorem v119_at : b.v119 (ix2 r j) = dmrg b.par (b.row r) j := by
  unfold v119 k0_pay36 v10 k0_pay11
  pointwise [v117_at, dot_S208x1024_S1024x1024_S208x1024_1_1_0_0_n_n]; rfl

theorem v122_at (i : Fin 1024) : b.v122 (ix2 i j) = ∑ r, mrg b.par (b.row r) i * dzed b.par (b.row r) j := by
  unfold v122 k0_pay37
  pointwise [v117_at, v46_at, dot_S208x1024_S208x1024_S1024x1024_0_0_1_1_n_n]

theorem v124_at : b.v124 (ix2 r j) = dh b.par (b.row r) j := by
  unfold v124 k0_pay38; pointwise [v117_at]; rfl

theorem v125_at : b.v125 (ix2 r j) = dout b.par (b.row r) 2 j := by
  rw [dout, ← v119_at, ← v41_at]; unfold v125 k0_pay39; pointwise; rfl

theorem v134_at : b.v134 (ix2 r j) = dout b.par (b.row r) 1 j := by
  rw [dout, ← v119_at, ← v31_at]; unfold v134 k0_pay42; pointwise

theorem v149_at : b.v149 (ix2 r j) = dout b.par (b.row r) 0 j := by
  rw [dout, ← v119_at, ← v22_at]; unfold v149 k0_pay44; pointwise

theorem v127_at : b.v127 (ix2 r j) = dgate b.par (b.row r) 2 j := by
  rw [dgate, ← v119_at, ← v44_at]; unfold v127 k0_pay40; pointwise; rfl

theorem v136_at : k0_pay43 b.x1 b.v34 b.v119 (ix2 r j) = dgate b.par (b.row r) 1 j := by
  rw [dgate, ← v119_at, ← v34_at]; unfold k0_pay43; pointwise; rfl

theorem v151_at : k0_pay45 b.x0 b.v25 b.v119 (ix2 r j) = dgate b.par (b.row r) 0 j := by
  rw [dgate, ← v119_at, ← v25_at]; unfold k0_pay45; pointwise; rfl

theorem v128_at : b.v128 (ix1 j) = ∑ r, dgate b.par (b.row r) 2 j := by
  simp only [← v127_at]; unfold v128 k0_pay41; pointwise; rfl

theorem v84_at : b.v84 (ix2 0 j) = ∑ r, (b.row r).ct j := by
  unfold v84 k0_pay33; pointwise; rfl

theorem v87_at : b.v87 (ix2 0 j) = ∑ r, nrm b.par (b.row r) j * (b.row r).ct j := by
  unfold v87 k0_pay34; pointwise [v74_at]; rfl

theorem v159_at (k : Fin 3) : b.v159 (ix2 r (col k j)) = dgate b.par (b.row r) k j := by
  unfold v159 k0_pay47
  pointwise
  match k with
  | 0 => simp [col, v127_at, v136_at, v151_at, show (j : ℕ) < 2048 by omega]
  | 1 => simp [col, v127_at, v136_at, v151_at, show 1024 + (j : ℕ) < 2048 by omega]
  | 2 => simp [col, v127_at, v136_at, v151_at, show ¬ 2048 + (j : ℕ) < 1024 by omega]

theorem v156_at (k : Fin 3) : b.v156 (ix2 0 (col k j)) = ∑ r, dgate b.par (b.row r) k j := by
  unfold v156 k0_pay46
  match k with
  | 0 => pointwise [col]; simp [v128_at, v136_at, v151_at, show (j : ℕ) < 2048 by omega]
  | 1 => pointwise [col]; simp [v128_at, v136_at, v151_at, show 1024 + (j : ℕ) < 2048 by omega]
  | 2 => pointwise [col]; simp [v128_at, v136_at, v151_at, show ¬ 2048 + (j : ℕ) < 1024 by omega]

end Blk

end Cert.Merge
-- ==== Proof.Merge.Outs.lean ====
/- What one run of the body leaves in each result's block: the row results of Block.lean; for the four summed results the
   block's own sum, added to a zero block at the first grid point and to what the block held at every later one. -/
module

public import proofs.«01_k».proof.Proof.Gen.KernelIdeal.Value
public import proofs.«01_k».proof.Proof.Merge.Block

@[expose] public section

set_option maxRecDepth 16384

noncomputable section

namespace Cert.Merge

open Idealize.ShloMosaic Idealize.ShloMosaic.TcCoe Cert.KernelIdeal Cert.KernelIdeal.Gen

theorem hz : (![0, 0] : Fin 2 → Nat) = fun _ => 0 := funext fun a => by fin_cases a <;> rfl

/-- The point's blocks, as Block.lean takes them (the norm's shift, window 7, has no part in the backward). -/
abbrev blk (i : grid0.Coords) (x0 x1 x2 : Vec Ideal S208x1024 .f32) (x3 : Vec Ideal S208x3072 .f32) (x4 : Vec Ideal S208x1024 .f32)
    (x5 : Vec Ideal S1x3072 .f32) (x6 : Vec Ideal S1x1024 .f32) (x8 : Vec Ideal S1024x1024 .bf16) (x9 : Vec Ideal S208x1024 .f32)
    (x10 : Vec Ideal S208x1024 .bf16) : Blk := ⟨i, x0, x1, x2, x3, x4, x5, x6, x8, x9, x10⟩

variable
  (c : Dev nD) (i : grid0.Coords) (arg1 : Memref sig .tc .vmem S208x1024 .f32) (harg1 : arg1.IsWhole) (arg2 : Memref sig .tc
  .vmem S208x1024 .f32) (harg2 : arg2.IsWhole) (arg3 : Memref sig .tc .vmem S208x1024 .f32) (harg3 : arg3.IsWhole) (arg4 :
  Memref sig .tc .vmem S208x3072 .f32) (harg4 : arg4.IsWhole) (arg5 : Memref sig .tc .vmem S208x1024 .f32) (harg5 :
  arg5.IsWhole) (arg6 : Memref sig .tc .vmem S1x3072 .f32) (harg6 : arg6.IsWhole) (arg7 : Memref sig .tc .vmem S1x1024 .f32)
  (harg7 : arg7.IsWhole) (arg8 : Memref sig .tc .vmem S1x1024 .f32) (harg8 : arg8.IsWhole) (arg9 : Memref sig .tc .vmem
  S1024x1024 .bf16) (harg9 : arg9.IsWhole) (arg10 : Memref sig .tc .vmem S208x1024 .f32) (harg10 : arg10.IsWhole) (arg11 :
  Memref sig .tc .vmem S208x1024 .bf16) (harg11 : arg11.IsWhole) (arg12 : Memref sig .tc .vmem S208x1024 .f32) (harg12 :
  arg12.IsWhole) (arg13 : Memref sig .tc .vmem S208x1024 .f32) (harg13 : arg13.IsWhole) (arg14 : Memref sig .tc .vmem
  S208x1024 .f32) (harg14 : arg14.IsWhole) (arg15 : Memref sig .tc .vmem S208x3072 .f32) (harg15 : arg15.IsWhole) (arg16 :
  Memref sig .tc .vmem S208x1024 .f32) (harg16 : arg16.IsWhole) (arg17 : Memref sig .tc .vmem S1x3072 .f32) (harg17 :
  arg17.IsWhole) (arg18 : Memref sig .tc .vmem S1x1024 .f32) (harg18 : arg18.IsWhole) (arg19 : Memref sig .tc .vmem S1x1024
  .f32) (harg19 : arg19.IsWhole) (arg20 : Memref sig .tc .vmem S1024x1024 .f32) (harg20 : arg20.IsWhole)
  (x0 : Vec Ideal S208x1024 .f32) (x1 : Vec Ideal S208x1024 .f32) (x2 : Vec Ideal S208x1024 .f32) (x3 : Vec Ideal S208x3072
  .f32) (x4 : Vec Ideal S208x1024 .f32) (x5 : Vec Ideal S1x3072 .f32) (x6 : Vec Ideal S1x1024 .f32) (x7 : Vec Ideal S1x1024
  .f32) (x8 : Vec Ideal S1024x1024 .bf16) (x9 : Vec Ideal S208x1024 .f32) (x10 : Vec Ideal S208x1024 .bf16)
  (xo16 : Vec Ideal S1x3072 .f32) (xo17 : Vec Ideal S1x1024 .f32) (xo18 : Vec Ideal S1x1024 .f32) (xo19 : Vec Ideal
  S1024x1024 .f32)

theorem out_A_11 (hc0 : cond0_0 i) :
    out0_A_11 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 =
      (blk i x0 x1 x2 x3 x4 x5 x6 x8 x9 x10).v149 := by
  unfold out0_A_11
  rw [View.read_writes_eq_canon _ _ _ (cover0_A_11
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10)]
  unfold kernelRun0_A
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_B_11 (hc0 : ¬cond0_0 i) :
    out0_B_11 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 xo16 xo17 xo18 xo19 =
      (blk i x0 x1 x2 x3 x4 x5 x6 x8 x9 x10).v149 := by
  unfold out0_B_11
  rw [View.read_writes_eq_canon _ _ _ (cover0_B_11
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10 xo16 xo17 xo18 xo19)]
  unfold kernelRun0_B
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_A_12 (hc0 : cond0_0 i) :
    out0_A_12 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 =
      (blk i x0 x1 x2 x3 x4 x5 x6 x8 x9 x10).v134 := by
  unfold out0_A_12
  rw [View.read_writes_eq_canon _ _ _ (cover0_A_12
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10)]
  unfold kernelRun0_A
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_B_12 (hc0 : ¬cond0_0 i) :
    out0_B_12 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 xo16 xo17 xo18 xo19 =
      (blk i x0 x1 x2 x3 x4 x5 x6 x8 x9 x10).v134 := by
  unfold out0_B_12
  rw [View.read_writes_eq_canon _ _ _ (cover0_B_12
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10 xo16 xo17 xo18 xo19)]
  unfold kernelRun0_B
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_A_13 (hc0 : cond0_0 i) :
    out0_A_13 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 =
      (blk i x0 x1 x2 x3 x4 x5 x6 x8 x9 x10).v125 := by
  unfold out0_A_13
  rw [View.read_writes_eq_canon _ _ _ (cover0_A_13
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10)]
  unfold kernelRun0_A
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_B_13 (hc0 : ¬cond0_0 i) :
    out0_B_13 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 xo16 xo17 xo18 xo19 =
      (blk i x0 x1 x2 x3 x4 x5 x6 x8 x9 x10).v125 := by
  unfold out0_B_13
  rw [View.read_writes_eq_canon _ _ _ (cover0_B_13
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10 xo16 xo17 xo18 xo19)]
  unfold kernelRun0_B
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_A_14 (hc0 : cond0_0 i) :
    out0_A_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 =
      (blk i x0 x1 x2 x3 x4 x5 x6 x8 x9 x10).v159 := by
  unfold out0_A_14
  rw [View.read_writes_eq_canon _ _ _ (cover0_A_14
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10)]
  unfold kernelRun0_A
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_B_14 (hc0 : ¬cond0_0 i) :
    out0_B_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 xo16 xo17 xo18 xo19 =
      (blk i x0 x1 x2 x3 x4 x5 x6 x8 x9 x10).v159 := by
  unfold out0_B_14
  rw [View.read_writes_eq_canon _ _ _ (cover0_B_14
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10 xo16 xo17 xo18 xo19)]
  unfold kernelRun0_B
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_A_15 (hc0 : cond0_0 i) :
    out0_A_15 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 =
      (blk i x0 x1 x2 x3 x4 x5 x6 x8 x9 x10).v124 := by
  unfold out0_A_15
  rw [View.read_writes_eq_canon _ _ _ (cover0_A_15
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10)]
  unfold kernelRun0_A
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_B_15 (hc0 : ¬cond0_0 i) :
    out0_B_15 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 xo16 xo17 xo18 xo19 =
      (blk i x0 x1 x2 x3 x4 x5 x6 x8 x9 x10).v124 := by
  unfold out0_B_15
  rw [View.read_writes_eq_canon _ _ _ (cover0_B_15
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10 xo16 xo17 xo18 xo19)]
  unfold kernelRun0_B
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_A_16 (hc0 : cond0_0 i) :
    out0_A_16 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 =
      k0_pay5 (F := Ideal) (blk i x0 x1 x2 x3 x4 x5 x6 x8 x9 x10).v156 (k0_pay1 (F := Ideal)) := by
  unfold out0_A_16
  rw [View.read_writes_eq_canon _ _ _ (cover0_A_16
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10)]
  unfold kernelRun0_A
  dsimp only
  sl_unfold_words
  rw [View.canon_cons_unit_zero (S := S1x3072) hz, View.readCov_unit_zero (S := S1x3072) _ hz]
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_B_16 (hc0 : ¬cond0_0 i) :
    out0_B_16 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 xo16 xo17 xo18 xo19 =
      k0_pay5 (F := Ideal) (blk i x0 x1 x2 x3 x4 x5 x6 x8 x9 x10).v156 xo16 := by
  unfold out0_B_16
  rw [View.read_writes_eq_canon _ _ _ (cover0_B_16
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10 xo16 xo17 xo18 xo19)]
  unfold kernelRun0_B
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_A_17 (hc0 : cond0_0 i) :
    out0_A_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 =
      k0_pay6 (F := Ideal) (blk i x0 x1 x2 x3 x4 x5 x6 x8 x9 x10).v87 (k0_pay2 (F := Ideal)) := by
  unfold out0_A_17
  rw [View.read_writes_eq_canon _ _ _ (cover0_A_17
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_B_17 (hc0 : ¬cond0_0 i) :
    out0_B_17 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 xo16 xo17 xo18 xo19 =
      k0_pay6 (F := Ideal) (blk i x0 x1 x2 x3 x4 x5 x6 x8 x9 x10).v87 xo17 := by
  unfold out0_B_17
  rw [View.read_writes_eq_canon _ _ _ (cover0_B_17
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10 xo16 xo17 xo18 xo19)]
  unfold kernelRun0_B
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_A_18 (hc0 : cond0_0 i) :
    out0_A_18 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 =
      k0_pay7 (F := Ideal) (blk i x0 x1 x2 x3 x4 x5 x6 x8 x9 x10).v84 (k0_pay3 (F := Ideal)) := by
  unfold out0_A_18
  rw [View.read_writes_eq_canon _ _ _ (cover0_A_18
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_B_18 (hc0 : ¬cond0_0 i) :
    out0_B_18 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 xo16 xo17 xo18 xo19 =
      k0_pay7 (F := Ideal) (blk i x0 x1 x2 x3 x4 x5 x6 x8 x9 x10).v84 xo18 := by
  unfold out0_B_18
  rw [View.read_writes_eq_canon _ _ _ (cover0_B_18
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10 xo16 xo17 xo18 xo19)]
  unfold kernelRun0_B
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_A_19 (hc0 : cond0_0 i) :
    out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 =
      k0_pay8 (F := Ideal) (blk i x0 x1 x2 x3 x4 x5 x6 x8 x9 x10).v122 (k0_pay4 (F := Ideal)) := by
  unfold out0_A_19
  rw [View.read_writes_eq_canon _ _ _ (cover0_A_19
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10)]
  unfold kernelRun0_A
  dsimp only
  sl_unfold_words
  rw [View.canon_cons_unit_zero (S := S1024x1024) hz, View.readCov_unit_zero (S := S1024x1024) _ hz]
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

theorem out_B_19 (hc0 : ¬cond0_0 i) :
    out0_B_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18 arg19
    harg19 arg20 harg20 hc0 x0 x1 x2 x3 x4 x5 x6 x7 x8 x9 x10 xo16 xo17 xo18 xo19 =
      k0_pay8 (F := Ideal) (blk i x0 x1 x2 x3 x4 x5 x6 x8 x9 x10).v122 xo19 := by
  unfold out0_B_19
  rw [View.read_writes_eq_canon _ _ _ (cover0_B_19
    c i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 hc0 x0 x1 x2 x3 x4 x5 x6 x7 x8 x9 x10 xo16 xo17 xo18 xo19)]
  unfold kernelRun0_B
  dsimp only
  rw [View.canon_unit_zero hz]
  sl_unfold_words
  simp only [View.readAt_eq_ld, harg1.read_unread, harg2.read_unread, harg3.read_unread, harg4.read_unread,
  harg5.read_unread, harg6.read_unread, harg7.read_unread, harg8.read_unread, harg9.read_unread, harg10.read_unread,
  harg11.read_unread, harg17.read_unread, harg18.read_unread, harg19.read_unread, harg20.read_unread, View.ld_unit_zero (S :=
  S208x1024) hz, View.ld_unit_zero (S := S208x3072) hz, View.ld_unit_zero (S := S1x3072) hz, View.ld_unit_zero (S := S1x1024)
  hz, View.ld_unit_zero (S := S1024x1024) hz, shapeCast_self]
  rfl

end Cert.Merge
-- ==== Proof.Merge.Total.lean ====
/- The whole arrays: the arguments by row, the rows the norm reads, and the sums over rows.  The first 48 rows stand before
   the sequence: their cotangent is zero, so a sum of gradients over all 4160 rows is the sum over the other 4112. -/
module

public import proofs.«01_k».proof.Proof.Merge.Row

@[expose] public section

noncomputable section

namespace Cert.Merge

/-- The ten arguments, entry by entry. -/
structure Args where
  oa : Fin 4160 → Fin 1024 → EReal
  ob : Fin 4160 → Fin 1024 → EReal
  oc : Fin 4160 → Fin 1024 → EReal
  gt : Fin 4160 → Fin 3072 → EReal
  h : Fin 4160 → Fin 1024 → EReal
  bs : Fin 3 → Fin 1024 → EReal
  g : Fin 1024 → EReal
  w : Fin 1024 → Fin 1024 → EReal
  ct : Fin 4160 → Fin 1024 → EReal

variable (a : Args)

def Args.par : Par := ⟨a.bs, a.g, a.w⟩

def Args.row (r : Fin 4160) : RowIn where
  o k j := match k with | 0 => a.oa r j | 1 => a.ob r j | 2 => a.oc r j
  gt k j := a.gt r (col k j)
  h j := a.h r j
  ct j := if 48 ≤ r.val then a.ct r j else 0

theorem Args.row_ct_zero {r : Fin 4160} (h : r.val < 48) (j : Fin 1024) : (a.row r).ct j = 0 := if_neg (by omega)

/-- Row `i` of the sequence, in the arrays that carry 48 rows before it. -/
def late (i : Fin 4112) : Fin 4160 := ⟨48 + i.val, by omega⟩

/-- Row `r` of grid point `t`'s block. -/
def rowAt (t : Fin 20) (r : Fin 208) : Fin 4160 := ⟨208 * t.val + r.val, by omega⟩

/-- A sum over rows, first 48 zero. -/
theorem sum_late (f : Fin 4160 → EReal) (h : ∀ r, r.val < 48 → f r = 0) : ∑ r, f r = ∑ i, f (late i) := by
  rw [← (finCongr (show 48 + 4112 = 4160 from rfl)).sum_comp f, Fin.sum_univ_add, Finset.sum_eq_zero, zero_add]
  · rfl
  · exact fun i _ => h _ i.isLt

/-- A sum block by block is the sum over the rows. -/
theorem sum_blocks (f : Fin 4160 → EReal) : ∑ t, ∑ r, f (rowAt t r) = ∑ r, f r := by
  rw [← (finProdFinEquiv (m := 20) (n := 208)).sum_comp f, Fintype.sum_prod_type]
  refine Finset.sum_congr rfl fun t _ => Finset.sum_congr rfl fun r _ => congrArg f (Fin.ext ?_)
  show 208 * t.val + r.val = r.val + 208 * t.val
  omega

/-- A running sum, started at the first term, is the sum of the terms. -/
theorem running (f : Fin 20 → EReal) (s : (n : ℕ) → n < 20 → EReal) (h0 : s 0 (by omega) = f 0)
    (hs : ∀ n (h : n + 1 < 20), s (n + 1) h = s n (by omega) + f ⟨n + 1, h⟩) : s 19 (by omega) = ∑ t, f t := by
  have key : ∀ n (h : n < 20), s n h = ∑ t : Fin (n + 1), f ⟨t.val, by omega⟩ := by
    intro n
    induction n with
    | zero => intro h; rw [h0, Fin.sum_univ_one]; rfl
    | succ n ih => intro h; rw [hs n h, ih (by omega), Fin.sum_univ_castSucc (n := n + 1)]; rfl
  exact key 19 (by omega)

/-! The results. -/

def Args.dOut (k : Fin 3) (r : Fin 4160) (j : Fin 1024) : EReal := dout a.par (a.row r) k j
def Args.dGate (k : Fin 3) (r : Fin 4160) (j : Fin 1024) : EReal := dgate a.par (a.row r) k j
def Args.dH (r : Fin 4160) (j : Fin 1024) : EReal := dh a.par (a.row r) j
def Args.dBias (k : Fin 3) (j : Fin 1024) : EReal := ∑ i, dgate a.par (a.row (late i)) k j
def Args.dG (j : Fin 1024) : EReal := ∑ i, nrm a.par (a.row (late i)) j * (a.row (late i)).ct j
def Args.dB (j : Fin 1024) : EReal := ∑ i, (a.row (late i)).ct j
def Args.dW (i j : Fin 1024) : EReal := ∑ r, mrg a.par (a.row (late r)) i * dzed a.par (a.row (late r)) j

end Cert.Merge
-- ==== Proof.Merge.Input.lean ====
/- The kernel's result arrays.  Point `t` reads rows 208t..208t+207 of the row arrays and all of the shared ones, writes the
   same rows of five results, and adds to four blocks that stay in place over the 20 points. -/
module

public import proofs.«01_k».proof.Proof.Merge.Outs
public import proofs.«01_k».proof.Proof.Merge.Total

@[expose] public section

set_option maxRecDepth 16384

noncomputable section

namespace Cert.Merge

open Idealize.ShloMosaic Idealize.ShloMosaic.TcCoe Idealize.ShloMosaic.StableHlo Idealize.SL.Sem Cert.KernelIdeal Cert.KernelIdeal.Gen
open Idealize.ShloMosaic.Pipeline (Dat)

variable (m : (ℓ : Loc nD τ sig) → Buf (Elt Ideal) ℓ) (c : Dev nD)

/-- The kernel's arguments. -/
def argsK : Args where
  oa r j := m ((c : Thread nD τ).loc main_arg0) (ix2 r j)
  ob r j := m ((c : Thread nD τ).loc main_arg1) (ix2 r j)
  oc r j := m ((c : Thread nD τ).loc main_arg2) (ix2 r j)
  gt r j := m ((c : Thread nD τ).loc main_arg3) (ix2 r j)
  h r j := m ((c : Thread nD τ).loc main_arg4) (ix2 r j)
  bs k j := m ((c : Thread nD τ).loc main_arg5) (ix2 k j)
  g j := m ((c : Thread nD τ).loc main_arg6) (ix1 j)
  w k j := m ((c : Thread nD τ).loc main_arg8) (ix2 k j)
  ct r j := m ((c : Thread nD τ).loc main_arg9) (ix2 r j)

/-- A grid point as one of twenty. -/
abbrev pt (t : Fin cfg0.N) : Fin 20 := Fin.cast N_0 t

theorem coord (t : Fin cfg0.N) : ((grid0.coords t) 0).val = t.val :=
  (by decide +kernel : ∀ t : Fin grid0.N, ((grid0.coords t) 0).val = t.val) t

/-! The host lines before the region: the bias laid out in one row, the scale as a row, the matrix cast, a zero cotangent. -/

theorem V_v0 (k : Fin 3) (j : Fin 1024) : V m c main_v0 (ix2 0 (col k j)) = m ((c : Thread nD τ).loc main_arg5) (ix2 k j) := by
  unfold_abbrev_sides
  after_results
  pointwise
  refine congrArg (m (c, Proc.tc.devRef main_arg5)) (congrArg₂ Idealize.ShloMosaic.ix2 (Fin.ext ?_) (Fin.ext ?_))
  · show (1024 * k.val + j.val) / 1024 = k.val; omega
  · show (1024 * k.val + j.val) % 1024 = j.val; omega

theorem V_v1 (j : Fin 1024) : V m c main_v1 (ix2 0 j) = m ((c : Thread nD τ).loc main_arg6) (ix1 j) := by
  unfold_abbrev_sides
  after_results
  pointwise

theorem V_v3 (k j : Fin 1024) : V m c main_v3 (ix2 k j) = m ((c : Thread nD τ).loc main_arg8) (ix2 k j) := by
  unfold_abbrev_sides
  after_results
  pointwise

theorem V_v4 (r : Fin 4160) (j : Fin 1024) : V m c main_v4 (ix2 r j) = (0 : EReal) := by
  unfold_abbrev_sides
  after_results
  pointwise
  rfl

/-! The blocks point `t` reads. -/

theorem iblk0 (t : Fin cfg0.N) (r : Fin 208) (j : Fin 1024) :
    iblk m c 0 t (ix2 r j) = V m c main_arg0 (ix2 (rowAt (pt t) r) j) := by
  have h0 : win0_0.index t 0 = t.val := (by decide +kernel : ∀ t : Fin grid0.N, win0_0.index t 0 = t.val) t
  unfold iblk
  rw [View.read_apply]
  show V m c main_arg0 _ = _
  congr 1
  funext a
  apply Fin.ext
  match a with
  | ⟨0, _⟩ => show win0_0.index t 0 * 208 + 1 * r.val = 208 * t.val + r.val; rw [h0]; omega
  | ⟨1, _⟩ => show 0 * 1024 + 1 * j.val = j.val; omega

theorem iblk1 (t : Fin cfg0.N) (r : Fin 208) (j : Fin 1024) :
    iblk m c 1 t (ix2 r j) = V m c main_arg1 (ix2 (rowAt (pt t) r) j) := by
  have h0 : win0_1.index t 0 = t.val := (by decide +kernel : ∀ t : Fin grid0.N, win0_1.index t 0 = t.val) t
  unfold iblk
  rw [View.read_apply]
  show V m c main_arg1 _ = _
  congr 1
  funext a
  apply Fin.ext
  match a with
  | ⟨0, _⟩ => show win0_1.index t 0 * 208 + 1 * r.val = 208 * t.val + r.val; rw [h0]; omega
  | ⟨1, _⟩ => show 0 * 1024 + 1 * j.val = j.val; omega

theorem iblk2 (t : Fin cfg0.N) (r : Fin 208) (j : Fin 1024) :
    iblk m c 2 t (ix2 r j) = V m c main_arg2 (ix2 (rowAt (pt t) r) j) := by
  have h0 : win0_2.index t 0 = t.val := (by decide +kernel : ∀ t : Fin grid0.N, win0_2.index t 0 = t.val) t
  unfold iblk
  rw [View.read_apply]
  show V m c main_arg2 _ = _
  congr 1
  funext a
  apply Fin.ext
  match a with
  | ⟨0, _⟩ => show win0_2.index t 0 * 208 + 1 * r.val = 208 * t.val + r.val; rw [h0]; omega
  | ⟨1, _⟩ => show 0 * 1024 + 1 * j.val = j.val; omega

theorem iblk3 (t : Fin cfg0.N) (r : Fin 208) (j : Fin 3072) :
    iblk m c 3 t (ix2 r j) = V m c main_arg3 (ix2 (rowAt (pt t) r) j) := by
  have h0 : win0_3.index t 0 = t.val := (by decide +kernel : ∀ t : Fin grid0.N, win0_3.index t 0 = t.val) t
  unfold iblk
  rw [View.read_apply]
  show V m c main_arg3 _ = _
  congr 1
  funext a
  apply Fin.ext
  match a with
  | ⟨0, _⟩ => show win0_3.index t 0 * 208 + 1 * r.val = 208 * t.val + r.val; rw [h0]; omega
  | ⟨1, _⟩ => show 0 * 3072 + 1 * j.val = j.val; omega

theorem iblk4 (t : Fin cfg0.N) (r : Fin 208) (j : Fin 1024) :
    iblk m c 4 t (ix2 r j) = V m c main_arg4 (ix2 (rowAt (pt t) r) j) := by
  have h0 : win0_4.index t 0 = t.val := (by decide +kernel : ∀ t : Fin grid0.N, win0_4.index t 0 = t.val) t
  unfold iblk
  rw [View.read_apply]
  show V m c main_arg4 _ = _
  congr 1
  funext a
  apply Fin.ext
  match a with
  | ⟨0, _⟩ => show win0_4.index t 0 * 208 + 1 * r.val = 208 * t.val + r.val; rw [h0]; omega
  | ⟨1, _⟩ => show 0 * 1024 + 1 * j.val = j.val; omega

theorem iblk9 (t : Fin cfg0.N) (r : Fin 208) (j : Fin 1024) :
    iblk m c 9 t (ix2 r j) = V m c main_arg9 (ix2 (rowAt (pt t) r) j) := by
  have h0 : win0_9.index t 0 = t.val := (by decide +kernel : ∀ t : Fin grid0.N, win0_9.index t 0 = t.val) t
  unfold iblk
  rw [View.read_apply]
  show V m c main_arg9 _ = _
  congr 1
  funext a
  apply Fin.ext
  match a with
  | ⟨0, _⟩ => show win0_9.index t 0 * 208 + 1 * r.val = 208 * t.val + r.val; rw [h0]; omega
  | ⟨1, _⟩ => show 0 * 1024 + 1 * j.val = j.val; omega

theorem iblk10 (t : Fin cfg0.N) (r : Fin 208) (j : Fin 1024) :
    iblk m c 10 t (ix2 r j) = V m c main_v4 (ix2 (rowAt (pt t) r) j) := by
  have h0 : win0_10.index t 0 = t.val := (by decide +kernel : ∀ t : Fin grid0.N, win0_10.index t 0 = t.val) t
  unfold iblk
  rw [View.read_apply]
  show V m c main_v4 _ = _
  congr 1
  funext a
  apply Fin.ext
  match a with
  | ⟨0, _⟩ => show win0_10.index t 0 * 208 + 1 * r.val = 208 * t.val + r.val; rw [h0]; omega
  | ⟨1, _⟩ => show 0 * 1024 + 1 * j.val = j.val; omega

theorem iblk5 (t : Fin cfg0.N) (r : Fin 1) (j : Fin 3072) : iblk m c 5 t (ix2 r j) = V m c main_v0 (ix2 r j) := by
  unfold iblk
  rw [View.read_apply]
  show V m c main_v0 _ = _
  congr 1
  funext a
  apply Fin.ext
  match a with
  | ⟨0, _⟩ => show 0 * 1 + 1 * r.val = r.val; omega
  | ⟨1, _⟩ => show 0 * 3072 + 1 * j.val = j.val; omega

theorem iblk6 (t : Fin cfg0.N) (r : Fin 1) (j : Fin 1024) : iblk m c 6 t (ix2 r j) = V m c main_v1 (ix2 r j) := by
  unfold iblk
  rw [View.read_apply]
  show V m c main_v1 _ = _
  congr 1
  funext a
  apply Fin.ext
  match a with
  | ⟨0, _⟩ => show 0 * 1 + 1 * r.val = r.val; omega
  | ⟨1, _⟩ => show 0 * 1024 + 1 * j.val = j.val; omega

theorem iblk8 (t : Fin cfg0.N) (r : Fin 1024) (j : Fin 1024) : iblk m c 8 t (ix2 r j) = V m c main_v3 (ix2 r j) := by
  unfold iblk
  rw [View.read_apply]
  show V m c main_v3 _ = _
  congr 1
  funext a
  apply Fin.ext
  match a with
  | ⟨0, _⟩ => show 0 * 1024 + 1 * r.val = r.val; omega
  | ⟨1, _⟩ => show 0 * 1024 + 1 * j.val = j.val; omega

/-- Point `t`'s blocks. -/
def blkAt (t : Fin cfg0.N) : Blk :=
  blk (grid0.coords t) (iblk m c 0 t) (iblk m c 1 t) (iblk m c 2 t) (iblk m c 3 t) (iblk m c 4 t) (iblk m c 5 t) (iblk m c 6 t)
    (iblk m c 8 t) (iblk m c 9 t) (iblk m c 10 t)

theorem par_at (t : Fin cfg0.N) : (blkAt m c t).par = (argsK m c).par := by
  show Par.mk _ _ _ = Par.mk _ _ _
  congr 1
  · funext k j; exact (iblk5 m c t 0 _).trans (V_v0 m c k j)
  · funext j; exact (iblk6 m c t 0 _).trans (V_v1 m c j)
  · funext k j; exact (iblk8 m c t k j).trans (V_v3 m c k j)

/-- The mask over rows before the sequence: point `t`'s row `r` is in the sequence from the 48th row on. -/
theorem mask (t : Fin 20) (r : Fin 208) (x : EReal) :
    Scalar.select (IntOp.cmpi .sge (IntOp.addi (Scalar.muli (BitVec.ofNat 32 t.val) 208#32) (BitVec.ofNat 32 r.val)) 48#32) x 0
      = if 48 ≤ (rowAt t r).val then x else 0 := by
  have e : IntOp.addi (Scalar.muli (BitVec.ofNat 32 t.val) 208#32) (BitVec.ofNat 32 r.val) = BitVec.ofNat 32 (rowAt t r).val := by
    apply BitVec.eq_of_toNat_eq
    simp [IntOp.addi, Scalar.muli, IntOp.muli, rowAt]
    omega
  rw [e]
  have hr : (rowAt t r).val < 4160 := (rowAt t r).isLt
  generalize (rowAt t r).val = n at hr
  have h1 : (BitVec.ofNat 32 n).toInt = n := by
    rw [BitVec.toInt_eq_toNat_of_lt] <;> simp only [BitVec.toNat_ofNat] <;> omega
  have h2 : (48#32).sle (BitVec.ofNat 32 n) = decide (48 ≤ n) := by
    rw [BitVec.sle_eq_decide, h1]
    exact decide_eq_decide.mpr (by show (48 : ℤ) ≤ n ↔ _; omega)
  unfold IntOp.cmpi Scalar.select
  simp only [h2]
  by_cases h : 48 ≤ n <;> simp [h]

theorem ct_at (t : Fin cfg0.N) (r : Fin 208) (j : Fin 1024) :
    (blkAt m c t).v82 (ix2 r j) = ((argsK m c).row (rowAt (pt t) r)).ct j := by
  have e9 : (blkAt m c t).x9 (ix2 r j) = (argsK m c).ct (rowAt (pt t) r) j := (iblk9 m c t r j).trans (congrFun (V_main_arg9 m c) _)
  have e10 : (blkAt m c t).x10 (ix2 r j) = 0 := (iblk10 m c t r j).trans (V_v4 m c _ _)
  unfold Blk.v82 Blk.v13 Blk.v17 k0_pay32 k0_pay12 k0_pay13
  pointwise [e9, e10]
  exact (congrArg (fun i : ℕ => Scalar.select (IntOp.cmpi .sge (IntOp.addi (Scalar.muli (BitVec.ofNat 32 i) 208#32)
    (BitVec.ofNat 32 r.val)) 48#32) ((argsK m c).ct (rowAt (pt t) r) j) 0) (coord t)).trans (mask (pt t) r _)

theorem row_at (t : Fin cfg0.N) (r : Fin 208) : (blkAt m c t).row r = (argsK m c).row (rowAt (pt t) r) := by
  show RowIn.mk _ _ _ _ = RowIn.mk _ _ _ _
  congr 1
  · funext k j
    match k with
    | 0 => exact (iblk0 m c t r j).trans (congrFun (V_main_arg0 m c) _)
    | 1 => exact (iblk1 m c t r j).trans (congrFun (V_main_arg1 m c) _)
    | 2 => exact (iblk2 m c t r j).trans (congrFun (V_main_arg2 m c) _)
  · funext k j; exact (iblk3 m c t r _).trans (congrFun (V_main_arg3 m c) _)
  · funext j; exact (iblk4 m c t r j).trans (congrFun (V_main_arg4 m c) _)
  · funext j; exact ct_at m c t r j

end Cert.Merge
-- ==== Proof.Merge.Array.lean ====
/- The kernel's nine result arrays in closed form. -/
module

public import proofs.«01_k».proof.Proof.Merge.Input

@[expose] public section

set_option maxRecDepth 16384

noncomputable section

namespace Cert.Merge

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-! What the body leaves at point `t`, whichever case it runs. -/

theorem left11 (t : Fin cfg0.N) : (outsAt0 m c t.val t.isLt).1 = (blkAt m c t).v149 := by
  by_cases h0 : t.val % 20 = 0
  · rw [outsAt0_A m c t h0]; dsimp only; rw [out_A_11]; rfl
  · rw [outsAt0_B m c t h0]; dsimp only; rw [out_B_11]; rfl

theorem left12 (t : Fin cfg0.N) : (outsAt0 m c t.val t.isLt).2.1 = (blkAt m c t).v134 := by
  by_cases h0 : t.val % 20 = 0
  · rw [outsAt0_A m c t h0]; dsimp only; rw [out_A_12]; rfl
  · rw [outsAt0_B m c t h0]; dsimp only; rw [out_B_12]; rfl

theorem left13 (t : Fin cfg0.N) : (outsAt0 m c t.val t.isLt).2.2.1 = (blkAt m c t).v125 := by
  by_cases h0 : t.val % 20 = 0
  · rw [outsAt0_A m c t h0]; dsimp only; rw [out_A_13]; rfl
  · rw [outsAt0_B m c t h0]; dsimp only; rw [out_B_13]; rfl

theorem left14 (t : Fin cfg0.N) : (outsAt0 m c t.val t.isLt).2.2.2.1 = (blkAt m c t).v159 := by
  by_cases h0 : t.val % 20 = 0
  · rw [outsAt0_A m c t h0]; dsimp only; rw [out_A_14]; rfl
  · rw [outsAt0_B m c t h0]; dsimp only; rw [out_B_14]; rfl

theorem left15 (t : Fin cfg0.N) : (outsAt0 m c t.val t.isLt).2.2.2.2.1 = (blkAt m c t).v124 := by
  by_cases h0 : t.val % 20 = 0
  · rw [outsAt0_A m c t h0]; dsimp only; rw [out_A_15]; rfl
  · rw [outsAt0_B m c t h0]; dsimp only; rw [out_B_15]; rfl

theorem first16 (t : Fin cfg0.N) (h0 : t.val % 20 = 0) :
    (outsAt0 m c t.val t.isLt).2.2.2.2.2.1 = k0_pay5 (blkAt m c t).v156 (k0_pay1 (F := Ideal)) := by
  rw [outsAt0_A m c t h0]; dsimp only; rw [out_A_16]; rfl

theorem later16 (t : Fin cfg0.N) (h0 : ¬t.val % 20 = 0) : (outsAt0 m c t.val t.isLt).2.2.2.2.2.1 =
    k0_pay5 (blkAt m c t).v156 (outsAt0 m c (t.val - 1) (Nat.lt_of_le_of_lt (Nat.sub_le _ _) t.isLt)).2.2.2.2.2.1 := by
  rw [outsAt0_B m c t h0]; dsimp only; rw [out_B_16]; rfl

theorem add16 (v w : Vec Ideal S1x3072 .f32) (y : Fin 1) (x : Fin 3072) : (k0_pay5 v w : Vec Ideal S1x3072 .f32) (ix2 y x) = w (ix2 y x) + v (ix2 y x) := by
  unfold k0_pay5; pointwise

theorem zero16 (y : Fin 1) (x : Fin 3072) : (k0_pay1 (F := Ideal) : Vec Ideal S1x3072 .f32) (ix2 y x) = (0 : EReal) := by
  unfold k0_pay1; pointwise

/-- What point `n` leaves in window 16's block, and what it adds. -/
def acc16 (y : Fin 1) (x : Fin 3072) (n : ℕ) (h : n < 20) : EReal := (outsAt0 m c n (h.trans_eq N_0.symm)).2.2.2.2.2.1 (ix2 y x)
def term16 (y : Fin 1) (x : Fin 3072) (t : Fin 20) : EReal := (blkAt m c (Fin.cast N_0.symm t)).v156 (ix2 y x)

theorem sum16 (y : Fin 1) (x : Fin 3072) : acc16 m c y x 19 (by omega) = ∑ t : Fin 20, term16 m c y x t :=
  running (term16 m c y x) (acc16 m c y x)
    (by unfold acc16 term16
        exact (congrFun (first16 m c (Fin.cast N_0.symm 0) rfl) _).trans ((add16 ..).trans (by rw [zero16, zero_add])))
    fun n h => by
      unfold acc16 term16
      exact (congrFun (later16 m c (Fin.cast N_0.symm ⟨n + 1, h⟩) (by dsimp only [Fin.val_cast]; omega)) _).trans (add16 ..)

theorem first17 (t : Fin cfg0.N) (h0 : t.val % 20 = 0) :
    (outsAt0 m c t.val t.isLt).2.2.2.2.2.2.1 = k0_pay6 (blkAt m c t).v87 (k0_pay2 (F := Ideal)) := by
  rw [outsAt0_A m c t h0]; dsimp only; rw [out_A_17]; rfl

theorem later17 (t : Fin cfg0.N) (h0 : ¬t.val % 20 = 0) : (outsAt0 m c t.val t.isLt).2.2.2.2.2.2.1 =
    k0_pay6 (blkAt m c t).v87 (outsAt0 m c (t.val - 1) (Nat.lt_of_le_of_lt (Nat.sub_le _ _) t.isLt)).2.2.2.2.2.2.1 := by
  rw [outsAt0_B m c t h0]; dsimp only; rw [out_B_17]; rfl

theorem add17 (v w : Vec Ideal S1x1024 .f32) (y : Fin 1) (x : Fin 1024) : (k0_pay6 v w : Vec Ideal S1x1024 .f32) (ix2 y x) = w (ix2 y x) + v (ix2 y x) := by
  unfold k0_pay6; pointwise

theorem zero17 (y : Fin 1) (x : Fin 1024) : (k0_pay2 (F := Ideal) : Vec Ideal S1x1024 .f32) (ix2 y x) = (0 : EReal) := by
  unfold k0_pay2; pointwise

/-- What point `n` leaves in window 17's block, and what it adds. -/
def acc17 (y : Fin 1) (x : Fin 1024) (n : ℕ) (h : n < 20) : EReal := (outsAt0 m c n (h.trans_eq N_0.symm)).2.2.2.2.2.2.1 (ix2 y x)
def term17 (y : Fin 1) (x : Fin 1024) (t : Fin 20) : EReal := (blkAt m c (Fin.cast N_0.symm t)).v87 (ix2 y x)

theorem sum17 (y : Fin 1) (x : Fin 1024) : acc17 m c y x 19 (by omega) = ∑ t : Fin 20, term17 m c y x t :=
  running (term17 m c y x) (acc17 m c y x)
    (by unfold acc17 term17
        exact (congrFun (first17 m c (Fin.cast N_0.symm 0) rfl) _).trans ((add17 ..).trans (by rw [zero17, zero_add])))
    fun n h => by
      unfold acc17 term17
      exact (congrFun (later17 m c (Fin.cast N_0.symm ⟨n + 1, h⟩) (by dsimp only [Fin.val_cast]; omega)) _).trans (add17 ..)

theorem first18 (t : Fin cfg0.N) (h0 : t.val % 20 = 0) :
    (outsAt0 m c t.val t.isLt).2.2.2.2.2.2.2.1 = k0_pay7 (blkAt m c t).v84 (k0_pay3 (F := Ideal)) := by
  rw [outsAt0_A m c t h0]; dsimp only; rw [out_A_18]; rfl

theorem later18 (t : Fin cfg0.N) (h0 : ¬t.val % 20 = 0) : (outsAt0 m c t.val t.isLt).2.2.2.2.2.2.2.1 =
    k0_pay7 (blkAt m c t).v84 (outsAt0 m c (t.val - 1) (Nat.lt_of_le_of_lt (Nat.sub_le _ _) t.isLt)).2.2.2.2.2.2.2.1 := by
  rw [outsAt0_B m c t h0]; dsimp only; rw [out_B_18]; rfl

theorem add18 (v w : Vec Ideal S1x1024 .f32) (y : Fin 1) (x : Fin 1024) : (k0_pay7 v w : Vec Ideal S1x1024 .f32) (ix2 y x) = w (ix2 y x) + v (ix2 y x) := by
  unfold k0_pay7; pointwise

theorem zero18 (y : Fin 1) (x : Fin 1024) : (k0_pay3 (F := Ideal) : Vec Ideal S1x1024 .f32) (ix2 y x) = (0 : EReal) := by
  unfold k0_pay3; pointwise

/-- What point `n` leaves in window 18's block, and what it adds. -/
def acc18 (y : Fin 1) (x : Fin 1024) (n : ℕ) (h : n < 20) : EReal := (outsAt0 m c n (h.trans_eq N_0.symm)).2.2.2.2.2.2.2.1 (ix2 y x)
def term18 (y : Fin 1) (x : Fin 1024) (t : Fin 20) : EReal := (blkAt m c (Fin.cast N_0.symm t)).v84 (ix2 y x)

theorem sum18 (y : Fin 1) (x : Fin 1024) : acc18 m c y x 19 (by omega) = ∑ t : Fin 20, term18 m c y x t :=
  running (term18 m c y x) (acc18 m c y x)
    (by unfold acc18 term18
        exact (congrFun (first18 m c (Fin.cast N_0.symm 0) rfl) _).trans ((add18 ..).trans (by rw [zero18, zero_add])))
    fun n h => by
      unfold acc18 term18
      exact (congrFun (later18 m c (Fin.cast N_0.symm ⟨n + 1, h⟩) (by dsimp only [Fin.val_cast]; omega)) _).trans (add18 ..)

theorem first19 (t : Fin cfg0.N) (h0 : t.val % 20 = 0) :
    (outsAt0 m c t.val t.isLt).2.2.2.2.2.2.2.2 = k0_pay8 (blkAt m c t).v122 (k0_pay4 (F := Ideal)) := by
  rw [outsAt0_A m c t h0]; dsimp only; rw [out_A_19]; rfl

theorem later19 (t : Fin cfg0.N) (h0 : ¬t.val % 20 = 0) : (outsAt0 m c t.val t.isLt).2.2.2.2.2.2.2.2 =
    k0_pay8 (blkAt m c t).v122 (outsAt0 m c (t.val - 1) (Nat.lt_of_le_of_lt (Nat.sub_le _ _) t.isLt)).2.2.2.2.2.2.2.2 := by
  rw [outsAt0_B m c t h0]; dsimp only; rw [out_B_19]; rfl

theorem add19 (v w : Vec Ideal S1024x1024 .f32) (y : Fin 1024) (x : Fin 1024) : (k0_pay8 v w : Vec Ideal S1024x1024 .f32) (ix2 y x) = w (ix2 y x) + v (ix2 y x) := by
  unfold k0_pay8; pointwise

theorem zero19 (y : Fin 1024) (x : Fin 1024) : (k0_pay4 (F := Ideal) : Vec Ideal S1024x1024 .f32) (ix2 y x) = (0 : EReal) := by
  unfold k0_pay4; pointwise

/-- What point `n` leaves in window 19's block, and what it adds. -/
def acc19 (y : Fin 1024) (x : Fin 1024) (n : ℕ) (h : n < 20) : EReal := (outsAt0 m c n (h.trans_eq N_0.symm)).2.2.2.2.2.2.2.2 (ix2 y x)
def term19 (y : Fin 1024) (x : Fin 1024) (t : Fin 20) : EReal := (blkAt m c (Fin.cast N_0.symm t)).v122 (ix2 y x)

theorem sum19 (y : Fin 1024) (x : Fin 1024) : acc19 m c y x 19 (by omega) = ∑ t : Fin 20, term19 m c y x t :=
  running (term19 m c y x) (acc19 m c y x)
    (by unfold acc19 term19
        exact (congrFun (first19 m c (Fin.cast N_0.symm 0) rfl) _).trans ((add19 ..).trans (by rw [zero19, zero_add])))
    fun n h => by
      unfold acc19 term19
      exact (congrFun (later19 m c (Fin.cast N_0.symm ⟨n + 1, h⟩) (by dsimp only [Fin.val_cast]; omega)) _).trans (add19 ..)

/-! The five row results: point `t` writes rows 208t..208t+207, and the points' blocks cover the array. -/

def res11 : Buf (Elt Ideal) ((c : Thread nD τ).loc main_v5_0) := fun i : S4160x1024.Idx =>
  (argsK m c).dOut 0 (i 0) (i 1)

theorem mem11 (t : Fin cfg0.N) (i : S4160x1024.Idx) :
    i ∈ ((cfg0.win 11).blk t).view.set ↔ t.val * 208 ≤ (i 0 : Nat) ∧ (i 0 : Nat) < t.val * 208 + 208 := by
  show i ∈ ((View.whole main_v5_0).slice (win0_11.rect t)).set ↔ _
  rw [View.set_slice_whole, Rect.mem_set_unit]
  have h1 : (i 1 : Nat) < 1024 := (i 1).isLt
  have e : win0_11.index t 0 = t.val := (by decide +kernel : ∀ t : Fin grid0.N, win0_11.index t 0 = t.val) t
  have e1 : win0_11.index t 1 = 0 := rfl
  refine ⟨fun h => ?_, fun h a => ?_⟩
  · have : win0_11.index t 0 * 208 ≤ (i 0 : Nat) ∧ (i 0 : Nat) < win0_11.index t 0 * 208 + 208 := h 0
    rw [e] at this; exact this
  · match a with
    | ⟨0, _⟩ => show win0_11.index t 0 * 208 ≤ (i 0 : Nat) ∧ (i 0 : Nat) < win0_11.index t 0 * 208 + 208
                rw [e]; exact h
    | ⟨1, _⟩ => show win0_11.index t 1 * 1024 ≤ (i 1 : Nat) ∧ (i 1 : Nat) < win0_11.index t 1 * 1024 + 1024
                rw [e1, Nat.zero_mul, Nat.zero_add]; exact ⟨Nat.zero_le _, h1⟩

theorem flushed11 (t : Fin cfg0.N) : (dats m 0 c).flushed 11 t = ((cfg0.win 11).blk t).view.read (Elt Ideal) (res11 m c) := by
  show (cfg0.win 11).cut (grid0.coords t) ((dats m 0 c).after 11 t) = _
  rw [after0_11, left11]
  have h0 : win0_11.index t 0 = t.val := (by decide +kernel : ∀ t : Fin grid0.N, win0_11.index t 0 = t.val) t
  have h1 : win0_11.index t 1 = 0 := rfl
  funext x
  rw [View.read_apply]
  obtain ⟨r, j, rfl⟩ : ∃ (r : Fin 208) (j : Fin 1024), x = ix2 r j := ⟨x 0, x 1, by funext a; match a with | ⟨0, _⟩ => rfl | ⟨1, _⟩ => rfl⟩
  show (blkAt m c t).v149 (ix2 r j) = res11 m c (((cfg0.win 11).blk t).view.emb (ix2 r j))
  have e : ((cfg0.win 11).blk t).view.emb (ix2 r j) = (ix2 (rowAt (pt t) r) j : S4160x1024.Idx) := by
    funext a
    apply Fin.ext
    match a with
    | ⟨0, _⟩ => show win0_11.index t 0 * 208 + 1 * r.val = 208 * t.val + r.val; rw [h0]; omega
    | ⟨1, _⟩ => show win0_11.index t 1 * 1024 + 1 * j.val = j.val; rw [h1]; omega
  rw [e]
  exact (Blk.v149_at ..).trans (by rw [par_at, row_at]; rfl)

theorem final11 : (dats m 0 c).arrAt 11 cfg0.N = res11 m c :=
  (dats m 0 c).arrAt_eq_of_cover 11 (res11 m c) (fun t _ => flushed11 m c t) fun i =>
    ⟨⟨(i 0).val / 208, by have : (i 0).val < 4160 := (i 0).isLt; rw [show cfg0.N = 20 from N_0]; omega⟩, flush0_11 _, by
      rw [mem11]; dsimp only; omega⟩

def res12 : Buf (Elt Ideal) ((c : Thread nD τ).loc main_v5_1) := fun i : S4160x1024.Idx =>
  (argsK m c).dOut 1 (i 0) (i 1)

theorem mem12 (t : Fin cfg0.N) (i : S4160x1024.Idx) :
    i ∈ ((cfg0.win 12).blk t).view.set ↔ t.val * 208 ≤ (i 0 : Nat) ∧ (i 0 : Nat) < t.val * 208 + 208 := by
  show i ∈ ((View.whole main_v5_1).slice (win0_12.rect t)).set ↔ _
  rw [View.set_slice_whole, Rect.mem_set_unit]
  have h1 : (i 1 : Nat) < 1024 := (i 1).isLt
  have e : win0_12.index t 0 = t.val := (by decide +kernel : ∀ t : Fin grid0.N, win0_12.index t 0 = t.val) t
  have e1 : win0_12.index t 1 = 0 := rfl
  refine ⟨fun h => ?_, fun h a => ?_⟩
  · have : win0_12.index t 0 * 208 ≤ (i 0 : Nat) ∧ (i 0 : Nat) < win0_12.index t 0 * 208 + 208 := h 0
    rw [e] at this; exact this
  · match a with
    | ⟨0, _⟩ => show win0_12.index t 0 * 208 ≤ (i 0 : Nat) ∧ (i 0 : Nat) < win0_12.index t 0 * 208 + 208
                rw [e]; exact h
    | ⟨1, _⟩ => show win0_12.index t 1 * 1024 ≤ (i 1 : Nat) ∧ (i 1 : Nat) < win0_12.index t 1 * 1024 + 1024
                rw [e1, Nat.zero_mul, Nat.zero_add]; exact ⟨Nat.zero_le _, h1⟩

theorem flushed12 (t : Fin cfg0.N) : (dats m 0 c).flushed 12 t = ((cfg0.win 12).blk t).view.read (Elt Ideal) (res12 m c) := by
  show (cfg0.win 12).cut (grid0.coords t) ((dats m 0 c).after 12 t) = _
  rw [after0_12, left12]
  have h0 : win0_12.index t 0 = t.val := (by decide +kernel : ∀ t : Fin grid0.N, win0_12.index t 0 = t.val) t
  have h1 : win0_12.index t 1 = 0 := rfl
  funext x
  rw [View.read_apply]
  obtain ⟨r, j, rfl⟩ : ∃ (r : Fin 208) (j : Fin 1024), x = ix2 r j := ⟨x 0, x 1, by funext a; match a with | ⟨0, _⟩ => rfl | ⟨1, _⟩ => rfl⟩
  show (blkAt m c t).v134 (ix2 r j) = res12 m c (((cfg0.win 12).blk t).view.emb (ix2 r j))
  have e : ((cfg0.win 12).blk t).view.emb (ix2 r j) = (ix2 (rowAt (pt t) r) j : S4160x1024.Idx) := by
    funext a
    apply Fin.ext
    match a with
    | ⟨0, _⟩ => show win0_12.index t 0 * 208 + 1 * r.val = 208 * t.val + r.val; rw [h0]; omega
    | ⟨1, _⟩ => show win0_12.index t 1 * 1024 + 1 * j.val = j.val; rw [h1]; omega
  rw [e]
  exact (Blk.v134_at ..).trans (by rw [par_at, row_at]; rfl)

theorem final12 : (dats m 0 c).arrAt 12 cfg0.N = res12 m c :=
  (dats m 0 c).arrAt_eq_of_cover 12 (res12 m c) (fun t _ => flushed12 m c t) fun i =>
    ⟨⟨(i 0).val / 208, by have : (i 0).val < 4160 := (i 0).isLt; rw [show cfg0.N = 20 from N_0]; omega⟩, flush0_12 _, by
      rw [mem12]; dsimp only; omega⟩

def res13 : Buf (Elt Ideal) ((c : Thread nD τ).loc main_v5_2) := fun i : S4160x1024.Idx =>
  (argsK m c).dOut 2 (i 0) (i 1)

theorem mem13 (t : Fin cfg0.N) (i : S4160x1024.Idx) :
    i ∈ ((cfg0.win 13).blk t).view.set ↔ t.val * 208 ≤ (i 0 : Nat) ∧ (i 0 : Nat) < t.val * 208 + 208 := by
  show i ∈ ((View.whole main_v5_2).slice (win0_13.rect t)).set ↔ _
  rw [View.set_slice_whole, Rect.mem_set_unit]
  have h1 : (i 1 : Nat) < 1024 := (i 1).isLt
  have e : win0_13.index t 0 = t.val := (by decide +kernel : ∀ t : Fin grid0.N, win0_13.index t 0 = t.val) t
  have e1 : win0_13.index t 1 = 0 := rfl
  refine ⟨fun h => ?_, fun h a => ?_⟩
  · have : win0_13.index t 0 * 208 ≤ (i 0 : Nat) ∧ (i 0 : Nat) < win0_13.index t 0 * 208 + 208 := h 0
    rw [e] at this; exact this
  · match a with
    | ⟨0, _⟩ => show win0_13.index t 0 * 208 ≤ (i 0 : Nat) ∧ (i 0 : Nat) < win0_13.index t 0 * 208 + 208
                rw [e]; exact h
    | ⟨1, _⟩ => show win0_13.index t 1 * 1024 ≤ (i 1 : Nat) ∧ (i 1 : Nat) < win0_13.index t 1 * 1024 + 1024
                rw [e1, Nat.zero_mul, Nat.zero_add]; exact ⟨Nat.zero_le _, h1⟩

theorem flushed13 (t : Fin cfg0.N) : (dats m 0 c).flushed 13 t = ((cfg0.win 13).blk t).view.read (Elt Ideal) (res13 m c) := by
  show (cfg0.win 13).cut (grid0.coords t) ((dats m 0 c).after 13 t) = _
  rw [after0_13, left13]
  have h0 : win0_13.index t 0 = t.val := (by decide +kernel : ∀ t : Fin grid0.N, win0_13.index t 0 = t.val) t
  have h1 : win0_13.index t 1 = 0 := rfl
  funext x
  rw [View.read_apply]
  obtain ⟨r, j, rfl⟩ : ∃ (r : Fin 208) (j : Fin 1024), x = ix2 r j := ⟨x 0, x 1, by funext a; match a with | ⟨0, _⟩ => rfl | ⟨1, _⟩ => rfl⟩
  show (blkAt m c t).v125 (ix2 r j) = res13 m c (((cfg0.win 13).blk t).view.emb (ix2 r j))
  have e : ((cfg0.win 13).blk t).view.emb (ix2 r j) = (ix2 (rowAt (pt t) r) j : S4160x1024.Idx) := by
    funext a
    apply Fin.ext
    match a with
    | ⟨0, _⟩ => show win0_13.index t 0 * 208 + 1 * r.val = 208 * t.val + r.val; rw [h0]; omega
    | ⟨1, _⟩ => show win0_13.index t 1 * 1024 + 1 * j.val = j.val; rw [h1]; omega
  rw [e]
  exact (Blk.v125_at ..).trans (by rw [par_at, row_at]; rfl)

theorem final13 : (dats m 0 c).arrAt 13 cfg0.N = res13 m c :=
  (dats m 0 c).arrAt_eq_of_cover 13 (res13 m c) (fun t _ => flushed13 m c t) fun i =>
    ⟨⟨(i 0).val / 208, by have : (i 0).val < 4160 := (i 0).isLt; rw [show cfg0.N = 20 from N_0]; omega⟩, flush0_13 _, by
      rw [mem13]; dsimp only; omega⟩

def res14 : Buf (Elt Ideal) ((c : Thread nD τ).loc main_v5_3) := fun i : S4160x3072.Idx =>
  (argsK m c).dGate ⟨(i 1).val / 1024, by have := (i 1).isLt; dsimp at this; omega⟩ (i 0) ⟨(i 1).val % 1024, by omega⟩

theorem res14_at (r : Fin 4160) (k : Fin 3) (j : Fin 1024) : res14 m c (ix2 r (col k j)) = (argsK m c).dGate k r j := by
  have hk : (⟨(col k j).val / 1024, by omega⟩ : Fin 3) = k := Fin.ext (by show (1024 * k.val + j.val) / 1024 = k.val; omega)
  have hj : (⟨(col k j).val % 1024, by omega⟩ : Fin 1024) = j := Fin.ext (by show (1024 * k.val + j.val) % 1024 = j.val; omega)
  exact congrArg₂ (fun k j => (argsK m c).dGate k r j) hk hj

theorem mem14 (t : Fin cfg0.N) (i : S4160x3072.Idx) :
    i ∈ ((cfg0.win 14).blk t).view.set ↔ t.val * 208 ≤ (i 0 : Nat) ∧ (i 0 : Nat) < t.val * 208 + 208 := by
  show i ∈ ((View.whole main_v5_3).slice (win0_14.rect t)).set ↔ _
  rw [View.set_slice_whole, Rect.mem_set_unit]
  have h1 : (i 1 : Nat) < 3072 := (i 1).isLt
  have e : win0_14.index t 0 = t.val := (by decide +kernel : ∀ t : Fin grid0.N, win0_14.index t 0 = t.val) t
  have e1 : win0_14.index t 1 = 0 := rfl
  refine ⟨fun h => ?_, fun h a => ?_⟩
  · have : win0_14.index t 0 * 208 ≤ (i 0 : Nat) ∧ (i 0 : Nat) < win0_14.index t 0 * 208 + 208 := h 0
    rw [e] at this; exact this
  · match a with
    | ⟨0, _⟩ => show win0_14.index t 0 * 208 ≤ (i 0 : Nat) ∧ (i 0 : Nat) < win0_14.index t 0 * 208 + 208
                rw [e]; exact h
    | ⟨1, _⟩ => show win0_14.index t 1 * 3072 ≤ (i 1 : Nat) ∧ (i 1 : Nat) < win0_14.index t 1 * 3072 + 3072
                rw [e1, Nat.zero_mul, Nat.zero_add]; exact ⟨Nat.zero_le _, h1⟩

theorem flushed14 (t : Fin cfg0.N) : (dats m 0 c).flushed 14 t = ((cfg0.win 14).blk t).view.read (Elt Ideal) (res14 m c) := by
  show (cfg0.win 14).cut (grid0.coords t) ((dats m 0 c).after 14 t) = _
  rw [after0_14, left14]
  have h0 : win0_14.index t 0 = t.val := (by decide +kernel : ∀ t : Fin grid0.N, win0_14.index t 0 = t.val) t
  have h1 : win0_14.index t 1 = 0 := rfl
  funext x
  rw [View.read_apply]
  obtain ⟨r, j, rfl⟩ : ∃ (r : Fin 208) (j : Fin 3072), x = ix2 r j := ⟨x 0, x 1, by funext a; match a with | ⟨0, _⟩ => rfl | ⟨1, _⟩ => rfl⟩
  show (blkAt m c t).v159 (ix2 r j) = res14 m c (((cfg0.win 14).blk t).view.emb (ix2 r j))
  have e : ((cfg0.win 14).blk t).view.emb (ix2 r j) = (ix2 (rowAt (pt t) r) j : S4160x3072.Idx) := by
    funext a
    apply Fin.ext
    match a with
    | ⟨0, _⟩ => show win0_14.index t 0 * 208 + 1 * r.val = 208 * t.val + r.val; rw [h0]; omega
    | ⟨1, _⟩ => show win0_14.index t 1 * 3072 + 1 * j.val = j.val; rw [h1]; omega
  rw [e]
  obtain ⟨k, l, rfl⟩ : ∃ (k : Fin 3) (l : Fin 1024), j = col k l :=
    ⟨⟨j.val / 1024, by omega⟩, ⟨j.val % 1024, by omega⟩, Fin.ext (by show j.val = 1024 * (j.val / 1024) + j.val % 1024; omega)⟩
  rw [Blk.v159_at, par_at, row_at]
  exact (res14_at m c _ k l).symm

theorem final14 : (dats m 0 c).arrAt 14 cfg0.N = res14 m c :=
  (dats m 0 c).arrAt_eq_of_cover 14 (res14 m c) (fun t _ => flushed14 m c t) fun i =>
    ⟨⟨(i 0).val / 208, by have : (i 0).val < 4160 := (i 0).isLt; rw [show cfg0.N = 20 from N_0]; omega⟩, flush0_14 _, by
      rw [mem14]; dsimp only; omega⟩

def res15 : Buf (Elt Ideal) ((c : Thread nD τ).loc main_v5_4) := fun i : S4160x1024.Idx =>
  (argsK m c).dH (i 0) (i 1)

theorem mem15 (t : Fin cfg0.N) (i : S4160x1024.Idx) :
    i ∈ ((cfg0.win 15).blk t).view.set ↔ t.val * 208 ≤ (i 0 : Nat) ∧ (i 0 : Nat) < t.val * 208 + 208 := by
  show i ∈ ((View.whole main_v5_4).slice (win0_15.rect t)).set ↔ _
  rw [View.set_slice_whole, Rect.mem_set_unit]
  have h1 : (i 1 : Nat) < 1024 := (i 1).isLt
  have e : win0_15.index t 0 = t.val := (by decide +kernel : ∀ t : Fin grid0.N, win0_15.index t 0 = t.val) t
  have e1 : win0_15.index t 1 = 0 := rfl
  refine ⟨fun h => ?_, fun h a => ?_⟩
  · have : win0_15.index t 0 * 208 ≤ (i 0 : Nat) ∧ (i 0 : Nat) < win0_15.index t 0 * 208 + 208 := h 0
    rw [e] at this; exact this
  · match a with
    | ⟨0, _⟩ => show win0_15.index t 0 * 208 ≤ (i 0 : Nat) ∧ (i 0 : Nat) < win0_15.index t 0 * 208 + 208
                rw [e]; exact h
    | ⟨1, _⟩ => show win0_15.index t 1 * 1024 ≤ (i 1 : Nat) ∧ (i 1 : Nat) < win0_15.index t 1 * 1024 + 1024
                rw [e1, Nat.zero_mul, Nat.zero_add]; exact ⟨Nat.zero_le _, h1⟩

theorem flushed15 (t : Fin cfg0.N) : (dats m 0 c).flushed 15 t = ((cfg0.win 15).blk t).view.read (Elt Ideal) (res15 m c) := by
  show (cfg0.win 15).cut (grid0.coords t) ((dats m 0 c).after 15 t) = _
  rw [after0_15, left15]
  have h0 : win0_15.index t 0 = t.val := (by decide +kernel : ∀ t : Fin grid0.N, win0_15.index t 0 = t.val) t
  have h1 : win0_15.index t 1 = 0 := rfl
  funext x
  rw [View.read_apply]
  obtain ⟨r, j, rfl⟩ : ∃ (r : Fin 208) (j : Fin 1024), x = ix2 r j := ⟨x 0, x 1, by funext a; match a with | ⟨0, _⟩ => rfl | ⟨1, _⟩ => rfl⟩
  show (blkAt m c t).v124 (ix2 r j) = res15 m c (((cfg0.win 15).blk t).view.emb (ix2 r j))
  have e : ((cfg0.win 15).blk t).view.emb (ix2 r j) = (ix2 (rowAt (pt t) r) j : S4160x1024.Idx) := by
    funext a
    apply Fin.ext
    match a with
    | ⟨0, _⟩ => show win0_15.index t 0 * 208 + 1 * r.val = 208 * t.val + r.val; rw [h0]; omega
    | ⟨1, _⟩ => show win0_15.index t 1 * 1024 + 1 * j.val = j.val; rw [h1]; omega
  rw [e]
  exact (Blk.v124_at ..).trans (by rw [par_at, row_at]; rfl)

theorem final15 : (dats m 0 c).arrAt 15 cfg0.N = res15 m c :=
  (dats m 0 c).arrAt_eq_of_cover 15 (res15 m c) (fun t _ => flushed15 m c t) fun i =>
    ⟨⟨(i 0).val / 208, by have : (i 0).val < 4160 := (i 0).isLt; rw [show cfg0.N = 20 from N_0]; omega⟩, flush0_15 _, by
      rw [mem15]; dsimp only; omega⟩

/-- The block after the last point: the sum over the sequence's rows. -/
theorem acc16_eq (k : Fin 3) (x : Fin 1024) : acc16 m c 0 (col k x) 19 (by omega) = (argsK m c).dBias k x := by
  refine Eq.trans ?_ (sum_late (fun r => dgate (argsK m c).par ((argsK m c).row r) k x) fun r h => dgate_zero _ ((argsK m c).row_ct_zero h) k x)
  rw [sum16, ← sum_blocks]
  refine Finset.sum_congr rfl fun t _ => ?_
  unfold term16
  rw [Blk.v156_at, par_at]
  refine Finset.sum_congr rfl fun r _ => ?_
  rw [row_at]; rfl

def res16 : Buf (Elt Ideal) ((c : Thread nD τ).loc main_v5_5) := fun i : S1x3072.Idx =>
  (argsK m c).dBias ⟨(i 1).val / 1024, by have := (i 1).isLt; dsimp at this; omega⟩ ⟨(i 1).val % 1024, by omega⟩

theorem res16_at (k : Fin 3) (j : Fin 1024) : res16 m c (ix2 0 (col k j)) = (argsK m c).dBias k j := by
  have hk : (⟨(col k j).val / 1024, by omega⟩ : Fin 3) = k := Fin.ext (by show (1024 * k.val + j.val) / 1024 = k.val; omega)
  have hj : (⟨(col k j).val % 1024, by omega⟩ : Fin 1024) = j := Fin.ext (by show (1024 * k.val + j.val) % 1024 = j.val; omega)
  exact congrArg₂ (fun k j => (argsK m c).dBias k j) hk hj

theorem flushed16 (t : Fin cfg0.N) (hf : (cfg0.win 16).flush t = true) :
    (dats m 0 c).flushed 16 t = ((cfg0.win 16).blk t).view.read (Elt Ideal) (res16 m c) := by
  have h19 : t.val = 19 := by
    have h := (flush0_16 t).mp hf
    have h20 : t.val < 20 := t.isLt.trans_eq N_0
    omega
  obtain rfl : t = Fin.cast N_0.symm 19 := Fin.ext h19
  show (cfg0.win 16).cut (grid0.coords _) ((dats m 0 c).after 16 _) = _
  rw [after0_16]
  have e : (outsAt0 m c (Fin.cast N_0.symm 19).val (Fin.cast N_0.symm 19).isLt).2.2.2.2.2.1 = res16 m c := by
    funext i
    obtain ⟨y, x, rfl⟩ : ∃ (y : Fin 1) (x : Fin 3072), i = ix2 y x := ⟨i 0, i 1, by funext a; match a with | ⟨0, _⟩ => rfl | ⟨1, _⟩ => rfl⟩
    show acc16 m c y x 19 (by omega) = _
    obtain rfl : y = 0 := Subsingleton.elim _ _
    obtain ⟨k, l, rfl⟩ : ∃ (k : Fin 3) (l : Fin 1024), x = col k l :=
      ⟨⟨x.val / 1024, by omega⟩, ⟨x.val % 1024, by omega⟩, Fin.ext (by show x.val = 1024 * (x.val / 1024) + x.val % 1024; omega)⟩
    exact (acc16_eq m c k l).trans (res16_at m c k l).symm
  rw [e]
  have hz' : (fun a => win0_16.index (Fin.cast N_0.symm 19) a * main_v5_5.ty.shape.size a) = fun _ => 0 :=
    funext fun a => by fin_cases a <;> exact Nat.zero_mul _
  exact (Memref.read_access_unit_zero (Elt Ideal) main_v5_5 hz' (fun a => by rw [congrFun hz' a]; simp) (res16 m c)).symm

theorem final16 : (dats m 0 c).arrAt 16 cfg0.N = res16 m c :=
  (dats m 0 c).arrAt_eq_of_cover 16 (res16 m c) (flushed16 m c) fun i =>
    ⟨Fin.cast N_0.symm 19, (flush0_16 _).mpr rfl, by
      show i ∈ ((View.whole main_v5_5).slice (win0_16.rect (Fin.cast N_0.symm 19))).set
      rw [View.set_slice_whole, Rect.mem_set_unit]
      intro a
      have h0 : (i 0 : Nat) < 1 := (i 0).isLt
      have h1 : (i 1 : Nat) < 3072 := (i 1).isLt
      match a with
      | ⟨0, _⟩ => show 0 * 1 ≤ (i 0 : Nat) ∧ (i 0 : Nat) < 0 * 1 + 1
                  rw [Nat.zero_mul, Nat.zero_add]; exact ⟨Nat.zero_le _, h0⟩
      | ⟨1, _⟩ => show 0 * 3072 ≤ (i 1 : Nat) ∧ (i 1 : Nat) < 0 * 3072 + 3072
                  rw [Nat.zero_mul, Nat.zero_add]; exact ⟨Nat.zero_le _, h1⟩⟩

/-- The block after the last point: the sum over the sequence's rows. -/
theorem acc17_eq (x : Fin 1024) : acc17 m c 0 x 19 (by omega) = (argsK m c).dG x := by
  refine Eq.trans ?_ (sum_late (fun r => nrm (argsK m c).par ((argsK m c).row r) x * ((argsK m c).row r).ct x) fun r h => by rw [(argsK m c).row_ct_zero h, mul_zero])
  rw [sum17, ← sum_blocks]
  refine Finset.sum_congr rfl fun t _ => ?_
  unfold term17
  rw [Blk.v87_at, par_at]
  refine Finset.sum_congr rfl fun r _ => ?_
  rw [row_at]; rfl

def res17 : Buf (Elt Ideal) ((c : Thread nD τ).loc main_v5_6) := fun i : S1x1024.Idx =>
  (argsK m c).dG (i 1)

theorem flushed17 (t : Fin cfg0.N) (hf : (cfg0.win 17).flush t = true) :
    (dats m 0 c).flushed 17 t = ((cfg0.win 17).blk t).view.read (Elt Ideal) (res17 m c) := by
  have h19 : t.val = 19 := by
    have h := (flush0_17 t).mp hf
    have h20 : t.val < 20 := t.isLt.trans_eq N_0
    omega
  obtain rfl : t = Fin.cast N_0.symm 19 := Fin.ext h19
  show (cfg0.win 17).cut (grid0.coords _) ((dats m 0 c).after 17 _) = _
  rw [after0_17]
  have e : (outsAt0 m c (Fin.cast N_0.symm 19).val (Fin.cast N_0.symm 19).isLt).2.2.2.2.2.2.1 = res17 m c := by
    funext i
    obtain ⟨y, x, rfl⟩ : ∃ (y : Fin 1) (x : Fin 1024), i = ix2 y x := ⟨i 0, i 1, by funext a; match a with | ⟨0, _⟩ => rfl | ⟨1, _⟩ => rfl⟩
    show acc17 m c y x 19 (by omega) = _
    obtain rfl : y = 0 := Subsingleton.elim _ _
    exact acc17_eq m c x
  rw [e]
  have hz' : (fun a => win0_17.index (Fin.cast N_0.symm 19) a * main_v5_6.ty.shape.size a) = fun _ => 0 :=
    funext fun a => by fin_cases a <;> exact Nat.zero_mul _
  exact (Memref.read_access_unit_zero (Elt Ideal) main_v5_6 hz' (fun a => by rw [congrFun hz' a]; simp) (res17 m c)).symm

theorem final17 : (dats m 0 c).arrAt 17 cfg0.N = res17 m c :=
  (dats m 0 c).arrAt_eq_of_cover 17 (res17 m c) (flushed17 m c) fun i =>
    ⟨Fin.cast N_0.symm 19, (flush0_17 _).mpr rfl, by
      show i ∈ ((View.whole main_v5_6).slice (win0_17.rect (Fin.cast N_0.symm 19))).set
      rw [View.set_slice_whole, Rect.mem_set_unit]
      intro a
      have h0 : (i 0 : Nat) < 1 := (i 0).isLt
      have h1 : (i 1 : Nat) < 1024 := (i 1).isLt
      match a with
      | ⟨0, _⟩ => show 0 * 1 ≤ (i 0 : Nat) ∧ (i 0 : Nat) < 0 * 1 + 1
                  rw [Nat.zero_mul, Nat.zero_add]; exact ⟨Nat.zero_le _, h0⟩
      | ⟨1, _⟩ => show 0 * 1024 ≤ (i 1 : Nat) ∧ (i 1 : Nat) < 0 * 1024 + 1024
                  rw [Nat.zero_mul, Nat.zero_add]; exact ⟨Nat.zero_le _, h1⟩⟩

/-- The block after the last point: the sum over the sequence's rows. -/
theorem acc18_eq (x : Fin 1024) : acc18 m c 0 x 19 (by omega) = (argsK m c).dB x := by
  refine Eq.trans ?_ (sum_late (fun r => ((argsK m c).row r).ct x) fun r h => (argsK m c).row_ct_zero h x)
  rw [sum18, ← sum_blocks]
  refine Finset.sum_congr rfl fun t _ => ?_
  unfold term18
  rw [Blk.v84_at]
  refine Finset.sum_congr rfl fun r _ => ?_
  rw [row_at]; rfl

def res18 : Buf (Elt Ideal) ((c : Thread nD τ).loc main_v5_7) := fun i : S1x1024.Idx =>
  (argsK m c).dB (i 1)

theorem flushed18 (t : Fin cfg0.N) (hf : (cfg0.win 18).flush t = true) :
    (dats m 0 c).flushed 18 t = ((cfg0.win 18).blk t).view.read (Elt Ideal) (res18 m c) := by
  have h19 : t.val = 19 := by
    have h := (flush0_18 t).mp hf
    have h20 : t.val < 20 := t.isLt.trans_eq N_0
    omega
  obtain rfl : t = Fin.cast N_0.symm 19 := Fin.ext h19
  show (cfg0.win 18).cut (grid0.coords _) ((dats m 0 c).after 18 _) = _
  rw [after0_18]
  have e : (outsAt0 m c (Fin.cast N_0.symm 19).val (Fin.cast N_0.symm 19).isLt).2.2.2.2.2.2.2.1 = res18 m c := by
    funext i
    obtain ⟨y, x, rfl⟩ : ∃ (y : Fin 1) (x : Fin 1024), i = ix2 y x := ⟨i 0, i 1, by funext a; match a with | ⟨0, _⟩ => rfl | ⟨1, _⟩ => rfl⟩
    show acc18 m c y x 19 (by omega) = _
    obtain rfl : y = 0 := Subsingleton.elim _ _
    exact acc18_eq m c x
  rw [e]
  have hz' : (fun a => win0_18.index (Fin.cast N_0.symm 19) a * main_v5_7.ty.shape.size a) = fun _ => 0 :=
    funext fun a => by fin_cases a <;> exact Nat.zero_mul _
  exact (Memref.read_access_unit_zero (Elt Ideal) main_v5_7 hz' (fun a => by rw [congrFun hz' a]; simp) (res18 m c)).symm

theorem final18 : (dats m 0 c).arrAt 18 cfg0.N = res18 m c :=
  (dats m 0 c).arrAt_eq_of_cover 18 (res18 m c) (flushed18 m c) fun i =>
    ⟨Fin.cast N_0.symm 19, (flush0_18 _).mpr rfl, by
      show i ∈ ((View.whole main_v5_7).slice (win0_18.rect (Fin.cast N_0.symm 19))).set
      rw [View.set_slice_whole, Rect.mem_set_unit]
      intro a
      have h0 : (i 0 : Nat) < 1 := (i 0).isLt
      have h1 : (i 1 : Nat) < 1024 := (i 1).isLt
      match a with
      | ⟨0, _⟩ => show 0 * 1 ≤ (i 0 : Nat) ∧ (i 0 : Nat) < 0 * 1 + 1
                  rw [Nat.zero_mul, Nat.zero_add]; exact ⟨Nat.zero_le _, h0⟩
      | ⟨1, _⟩ => show 0 * 1024 ≤ (i 1 : Nat) ∧ (i 1 : Nat) < 0 * 1024 + 1024
                  rw [Nat.zero_mul, Nat.zero_add]; exact ⟨Nat.zero_le _, h1⟩⟩

/-- The block after the last point: the sum over the sequence's rows. -/
theorem acc19_eq (y x : Fin 1024) : acc19 m c y x 19 (by omega) = (argsK m c).dW y x := by
  refine Eq.trans ?_ (sum_late (fun r => mrg (argsK m c).par ((argsK m c).row r) y * dzed (argsK m c).par ((argsK m c).row r) x) fun r h => by rw [dzed_zero _ ((argsK m c).row_ct_zero h), mul_zero])
  rw [sum19, ← sum_blocks]
  refine Finset.sum_congr rfl fun t _ => ?_
  unfold term19
  rw [Blk.v122_at, par_at]
  refine Finset.sum_congr rfl fun r _ => ?_
  rw [row_at]; rfl

def res19 : Buf (Elt Ideal) ((c : Thread nD τ).loc main_v5_8) := fun i : S1024x1024.Idx =>
  (argsK m c).dW (i 0) (i 1)

theorem flushed19 (t : Fin cfg0.N) (hf : (cfg0.win 19).flush t = true) :
    (dats m 0 c).flushed 19 t = ((cfg0.win 19).blk t).view.read (Elt Ideal) (res19 m c) := by
  have h19 : t.val = 19 := by
    have h := (flush0_19 t).mp hf
    have h20 : t.val < 20 := t.isLt.trans_eq N_0
    omega
  obtain rfl : t = Fin.cast N_0.symm 19 := Fin.ext h19
  show (cfg0.win 19).cut (grid0.coords _) ((dats m 0 c).after 19 _) = _
  rw [after0_19]
  have e : (outsAt0 m c (Fin.cast N_0.symm 19).val (Fin.cast N_0.symm 19).isLt).2.2.2.2.2.2.2.2 = res19 m c := by
    funext i
    obtain ⟨y, x, rfl⟩ : ∃ (y : Fin 1024) (x : Fin 1024), i = ix2 y x := ⟨i 0, i 1, by funext a; match a with | ⟨0, _⟩ => rfl | ⟨1, _⟩ => rfl⟩
    show acc19 m c y x 19 (by omega) = _
    exact acc19_eq m c y x
  rw [e]
  have hz' : (fun a => win0_19.index (Fin.cast N_0.symm 19) a * main_v5_8.ty.shape.size a) = fun _ => 0 :=
    funext fun a => by fin_cases a <;> exact Nat.zero_mul _
  exact (Memref.read_access_unit_zero (Elt Ideal) main_v5_8 hz' (fun a => by rw [congrFun hz' a]; simp) (res19 m c)).symm

theorem final19 : (dats m 0 c).arrAt 19 cfg0.N = res19 m c :=
  (dats m 0 c).arrAt_eq_of_cover 19 (res19 m c) (flushed19 m c) fun i =>
    ⟨Fin.cast N_0.symm 19, (flush0_19 _).mpr rfl, by
      show i ∈ ((View.whole main_v5_8).slice (win0_19.rect (Fin.cast N_0.symm 19))).set
      rw [View.set_slice_whole, Rect.mem_set_unit]
      intro a
      have h0 : (i 0 : Nat) < 1024 := (i 0).isLt
      have h1 : (i 1 : Nat) < 1024 := (i 1).isLt
      match a with
      | ⟨0, _⟩ => show 0 * 1024 ≤ (i 0 : Nat) ∧ (i 0 : Nat) < 0 * 1024 + 1024
                  rw [Nat.zero_mul, Nat.zero_add]; exact ⟨Nat.zero_le _, h0⟩
      | ⟨1, _⟩ => show 0 * 1024 ≤ (i 1 : Nat) ∧ (i 1 : Nat) < 0 * 1024 + 1024
                  rw [Nat.zero_mul, Nat.zero_add]; exact ⟨Nat.zero_le _, h1⟩⟩

end Cert.Merge
-- ==== Proof.Merge.Reference.lean ====
/- The reference's arrays entry by entry: row `i` of the sequence, as the functions of Row.lean. -/
module

public import proofs.«01_k».proof.Proof.Gen.ReferenceIdeal.Read
public import proofs.«01_k».proof.Proof.Gen.ReferenceIdeal.Run
public import proofs.«01_k».proof.Proof.Merge.Total

@[expose] public section

set_option maxRecDepth 16384

noncomputable section

namespace Cert.Merge.Ref

open Idealize.ShloMosaic Cert.ReferenceIdeal Cert.ReferenceIdeal.Read

variable (x0 x1 x2 : Vec Ideal S4160x1024 .f32) (x3 : Vec Ideal S4160x3072 .f32) (x4 : Vec Ideal S4160x1024 .f32)
  (x5 : Vec Ideal S3x1024 .f32) (x6 : Vec Ideal S1024 .f32) (x8 : Vec Ideal S1024x1024 .f32) (x9 : Vec Ideal S4160x1024 .f32)

/-- The reference's arguments. -/
def args : Args where
  oa r j := x0 (ix2 r j)
  ob r j := x1 (ix2 r j)
  oc r j := x2 (ix2 r j)
  gt r j := x3 (ix2 r j)
  h r j := x4 (ix2 r j)
  bs k j := x5 (ix2 k j)
  g j := x6 (ix1 j)
  w k j := x8 (ix2 k j)
  ct r j := x9 (ix2 r j)

theorem v4_at (i : Fin 4112) (k : Fin 3) (j : Fin 1024) : val_main_v4 (F := Ideal) x0 x1 x2 (ix3 i k j) = ((args x0 x1 x2 x3 x4 x5 x6 x8 x9).row (late i)).o k j := by
  unfold val_main_v4 val_main_v3 val_main_v0 val_main_v1 val_main_v2
  match k with
  | 0 => pointwise; rfl
  | 1 => pointwise; rfl
  | 2 => pointwise; rfl

theorem v15_at (i : Fin 4112) (k : Fin 3) (j : Fin 1024) : val_main_v15 (F := Ideal) x3 x5 (ix3 i k j) = gate (args x0 x1 x2 x3 x4 x5 x6 x8 x9).par ((args x0 x1 x2 x3 x4 x5 x6 x8 x9).row (late i)) k j := by
  unfold val_main_v15 val_main_v14 val_main_cst_0 val_main_v13 val_main_v12 val_main_cst val_main_v11 val_main_v10 val_main_v9 val_main_v8 val_main_v7 val_main_v6 val_main_v5
  pointwise
  have e : (⟨k.val * 1024 + j.val, by omega⟩ : Fin 3072) = col k j := Fin.ext (by show k.val * 1024 + j.val = 1024 * k.val + j.val; omega)
  rw [e]; rfl

theorem v18_at (i : Fin 4112) (k : Fin 3) (j : Fin 1024) : val_main_v18 (F := Ideal) x3 x5 (ix3 i k j) = gate (args x0 x1 x2 x3 x4 x5 x6 x8 x9).par ((args x0 x1 x2 x3 x4 x5 x6 x8 x9).row (late i)) k j * (1 - gate (args x0 x1 x2 x3 x4 x5 x6 x8 x9).par ((args x0 x1 x2 x3 x4 x5 x6 x8 x9).row (late i)) k j) := by
  unfold val_main_v18 val_main_v17 val_main_v16 val_main_cst_1
  pointwise [v15_at x0 x1 x2 x3 x4 x5 x6 x8 x9]

theorem v20_at (i : Fin 4112) (j : Fin 1024) : val_main_v20 (F := Ideal) x0 x1 x2 x3 x5 (ix2 i j) = mrg (args x0 x1 x2 x3 x4 x5 x6 x8 x9).par ((args x0 x1 x2 x3 x4 x5 x6 x8 x9).row (late i)) j := by
  unfold val_main_v20 val_main_v19 val_main_cst_2
  pointwise [v15_at x0 x1 x2 x3 x4 x5 x6 x8 x9, v4_at x0 x1 x2 x3 x4 x5 x6 x8 x9, Fin.sum_univ_three]
  rfl

theorem v25_at (i : Fin 4112) (j : Fin 1024) : val_main_v25 (F := Ideal) x0 x1 x2 x3 x4 x5 x8 (ix2 i j) = zed (args x0 x1 x2 x3 x4 x5 x6 x8 x9).par ((args x0 x1 x2 x3 x4 x5 x6 x8 x9).row (late i)) j := by
  unfold val_main_v25 val_main_v24 val_main_v23 val_main_v22 val_main_v21 val_main_cst_3
  pointwise [v20_at x0 x1 x2 x3 x4 x5 x6 x8 x9]
  rfl

theorem v29_at (i : Fin 4112) : val_main_v29 (F := Ideal) x0 x1 x2 x3 x4 x5 x8 (ix2 i 0) = mu (args x0 x1 x2 x3 x4 x5 x6 x8 x9).par ((args x0 x1 x2 x3 x4 x5 x6 x8 x9).row (late i)) := by
  unfold val_main_v29 val_main_v28 val_main_cst_5 val_main_v27 val_main_v26 val_main_cst_4
  pointwise [v25_at x0 x1 x2 x3 x4 x5 x6 x8 x9]
  rfl

theorem v31_at (i : Fin 4112) (j : Fin 1024) : val_main_v31 (F := Ideal) x0 x1 x2 x3 x4 x5 x8 (ix2 i j) = dev (args x0 x1 x2 x3 x4 x5 x6 x8 x9).par ((args x0 x1 x2 x3 x4 x5 x6 x8 x9).row (late i)) j := by
  unfold val_main_v31 val_main_v30
  pointwise [v25_at x0 x1 x2 x3 x4 x5 x6 x8 x9, v29_at x0 x1 x2 x3 x4 x5 x6 x8 x9]
  rfl

theorem v40_at (i : Fin 4112) (j : Fin 1024) : val_main_v40 (F := Ideal) x0 x1 x2 x3 x4 x5 x8 (ix2 i j) = dev (args x0 x1 x2 x3 x4 x5 x6 x8 x9).par ((args x0 x1 x2 x3 x4 x5 x6 x8 x9).row (late i)) j := by
  unfold val_main_v40 val_main_v39
  pointwise [v25_at x0 x1 x2 x3 x4 x5 x6 x8 x9, v29_at x0 x1 x2 x3 x4 x5 x6 x8 x9]
  rfl

theorem v34_at (i : Fin 4112) (j : Fin 1024) : val_main_v34 (F := Ideal) x0 x1 x2 x3 x4 x5 x8 (ix2 i j) = cTwo * dev (args x0 x1 x2 x3 x4 x5 x6 x8 x9).par ((args x0 x1 x2 x3 x4 x5 x6 x8 x9).row (late i)) j := by
  unfold val_main_v34 val_main_v33 val_main_cst_6
  pointwise [v31_at x0 x1 x2 x3 x4 x5 x6 x8 x9]

theorem v42_at (i : Fin 4112) : val_main_v42 (F := Ideal) x0 x1 x2 x3 x4 x5 x8 (ix2 i 0) = var (args x0 x1 x2 x3 x4 x5 x6 x8 x9).par ((args x0 x1 x2 x3 x4 x5 x6 x8 x9).row (late i)) := by
  unfold val_main_v42 val_main_v41 val_main_cst_9 val_main_v38 val_main_v37 val_main_cst_8 val_main_v36 val_main_v35 val_main_cst_7 val_main_v32
  pointwise [v31_at x0 x1 x2 x3 x4 x5 x6 x8 x9]
  rfl

theorem v43_at (i : Fin 4112) : val_main_v43 (F := Ideal) x0 x1 x2 x3 x4 x5 x8 (ix2 i 0) = rs (args x0 x1 x2 x3 x4 x5 x6 x8 x9).par ((args x0 x1 x2 x3 x4 x5 x6 x8 x9).row (late i)) := by
  unfold val_main_v43
  pointwise [v42_at x0 x1 x2 x3 x4 x5 x6 x8 x9]
  rfl

theorem v46_at (i : Fin 4112) : val_main_v46 (F := Ideal) x0 x1 x2 x3 x4 x5 x8 (ix2 i 0) = cNegHalf * Ideal.div (rs (args x0 x1 x2 x3 x4 x5 x6 x8 x9).par ((args x0 x1 x2 x3 x4 x5 x6 x8 x9).row (late i))) (var (args x0 x1 x2 x3 x4 x5 x6 x8 x9).par ((args x0 x1 x2 x3 x4 x5 x6 x8 x9).row (late i))) := by
  unfold val_main_v46 val_main_v45 val_main_cst_10 val_main_v44
  pointwise [v42_at x0 x1 x2 x3 x4 x5 x6 x8 x9, v43_at x0 x1 x2 x3 x4 x5 x6 x8 x9]

theorem v48_at (i : Fin 4112) (j : Fin 1024) : val_main_v48 (F := Ideal) x0 x1 x2 x3 x4 x5 x8 (ix2 i j) = nrm (args x0 x1 x2 x3 x4 x5 x6 x8 x9).par ((args x0 x1 x2 x3 x4 x5 x6 x8 x9).row (late i)) j := by
  unfold val_main_v48 val_main_v47
  pointwise [v40_at x0 x1 x2 x3 x4 x5 x6 x8 x9, v43_at x0 x1 x2 x3 x4 x5 x6 x8 x9]
  rfl

theorem v55_at (i : Fin 4112) (j : Fin 1024) : val_main_v55 (F := Ideal) x9 (ix2 i j) = ((args x0 x1 x2 x3 x4 x5 x6 x8 x9).row (late i)).ct j := by
  unfold val_main_v55
  pointwise
  exact (if_pos (show 48 ≤ 48 + i.val by omega)).symm

theorem v63_at (i : Fin 4112) (j : Fin 1024) : val_main_v63 (F := Ideal) x6 x9 (ix2 i j) = cg (args x0 x1 x2 x3 x4 x5 x6 x8 x9).par ((args x0 x1 x2 x3 x4 x5 x6 x8 x9).row (late i)) j := by
  unfold val_main_v63 val_main_v62 val_main_v49
  pointwise [v55_at x0 x1 x2 x3 x4 x5 x6 x8 x9]
  rfl

theorem v69_at (i : Fin 4112) (j : Fin 1024) : val_main_v69 (F := Ideal) x0 x1 x2 x3 x4 x5 x6 x8 x9 (ix2 i j) = cg (args x0 x1 x2 x3 x4 x5 x6 x8 x9).par ((args x0 x1 x2 x3 x4 x5 x6 x8 x9).row (late i)) j * rs (args x0 x1 x2 x3 x4 x5 x6 x8 x9).par ((args x0 x1 x2 x3 x4 x5 x6 x8 x9).row (late i)) := by
  unfold val_main_v69 val_main_v68
  pointwise [v63_at x0 x1 x2 x3 x4 x5 x6 x8 x9, v43_at x0 x1 x2 x3 x4 x5 x6 x8 x9]

theorem v75_at (i : Fin 4112) : val_main_v75 (F := Ideal) x0 x1 x2 x3 x4 x5 x6 x8 x9 (ix2 i 0) = dvar (args x0 x1 x2 x3 x4 x5 x6 x8 x9).par ((args x0 x1 x2 x3 x4 x5 x6 x8 x9).row (late i)) := by
  unfold val_main_v75 val_main_v74 val_main_cst_17 val_main_v70 val_main_v67 val_main_v66 val_main_cst_15 val_main_v65
  pointwise [v40_at x0 x1 x2 x3 x4 x5 x6 x8 x9, v63_at x0 x1 x2 x3 x4 x5 x6 x8 x9, v46_at x0 x1 x2 x3 x4 x5 x6 x8 x9]
  rfl

theorem v78_at (i : Fin 4112) (j : Fin 1024) : val_main_v78 (F := Ideal) x0 x1 x2 x3 x4 x5 x6 x8 x9 (ix2 i j) = dvar (args x0 x1 x2 x3 x4 x5 x6 x8 x9).par ((args x0 x1 x2 x3 x4 x5 x6 x8 x9).row (late i)) * (cTwo * dev (args x0 x1 x2 x3 x4 x5 x6 x8 x9).par ((args x0 x1 x2 x3 x4 x5 x6 x8 x9).row (late i)) j) := by
  unfold val_main_v78 val_main_v77 val_main_v76 val_main_cst_18
  pointwise [v75_at x0 x1 x2 x3 x4 x5 x6 x8 x9, v34_at x0 x1 x2 x3 x4 x5 x6 x8 x9, Fin.sum_univ_one]

theorem v85_at (i : Fin 4112) : val_main_v85 (F := Ideal) x0 x1 x2 x3 x4 x5 x6 x8 x9 (ix2 i 0) = dmu (args x0 x1 x2 x3 x4 x5 x6 x8 x9).par ((args x0 x1 x2 x3 x4 x5 x6 x8 x9).row (late i)) := by
  unfold val_main_v85 val_main_v84 val_main_cst_20 val_main_v83 val_main_v81 val_main_v80 val_main_cst_19 val_main_v79 val_main_v73 val_main_v72 val_main_cst_16 val_main_v71
  simp only [dmu, zero_sub]
  pointwise [v78_at x0 x1 x2 x3 x4 x5 x6 x8 x9, v69_at x0 x1 x2 x3 x4 x5 x6 x8 x9]

theorem v88_at (i : Fin 4112) (j : Fin 1024) : val_main_v88 (F := Ideal) x0 x1 x2 x3 x4 x5 x6 x8 x9 (ix2 i j) = dzed (args x0 x1 x2 x3 x4 x5 x6 x8 x9).par ((args x0 x1 x2 x3 x4 x5 x6 x8 x9).row (late i)) j := by
  unfold val_main_v88 val_main_v87 val_main_v86 val_main_cst_21 val_main_v82
  pointwise [v85_at x0 x1 x2 x3 x4 x5 x6 x8 x9, v78_at x0 x1 x2 x3 x4 x5 x6 x8 x9, v69_at x0 x1 x2 x3 x4 x5 x6 x8 x9, Fin.sum_univ_one]
  rfl

theorem v91_at (i : Fin 4112) (j : Fin 1024) : val_main_v91 (F := Ideal) x0 x1 x2 x3 x4 x5 x6 x8 x9 (ix2 i j) = dmrg (args x0 x1 x2 x3 x4 x5 x6 x8 x9).par ((args x0 x1 x2 x3 x4 x5 x6 x8 x9).row (late i)) j := by
  unfold val_main_v91
  pointwise [v88_at x0 x1 x2 x3 x4 x5 x6 x8 x9]
  rfl

theorem v96_at (i : Fin 4112) (k : Fin 3) (j : Fin 1024) : val_main_v96 (F := Ideal) x0 x1 x2 x3 x4 x5 x6 x8 x9 (ix3 i k j) = dout (args x0 x1 x2 x3 x4 x5 x6 x8 x9).par ((args x0 x1 x2 x3 x4 x5 x6 x8 x9).row (late i)) k j := by
  unfold val_main_v96 val_main_v95
  pointwise [v91_at x0 x1 x2 x3 x4 x5 x6 x8 x9, v15_at x0 x1 x2 x3 x4 x5 x6 x8 x9]
  rfl

theorem v98_at (i : Fin 4112) (k : Fin 3) (j : Fin 1024) : val_main_v98 (F := Ideal) x0 x1 x2 x3 x4 x5 x6 x8 x9 (ix3 i k j) = dgate (args x0 x1 x2 x3 x4 x5 x6 x8 x9).par ((args x0 x1 x2 x3 x4 x5 x6 x8 x9).row (late i)) k j := by
  unfold val_main_v98 val_main_v97 val_main_v95
  pointwise [v91_at x0 x1 x2 x3 x4 x5 x6 x8 x9, v4_at x0 x1 x2 x3 x4 x5 x6 x8 x9, v18_at x0 x1 x2 x3 x4 x5 x6 x8 x9]
  rfl

/-! The results. -/

/-- Rows put behind 48 rows of zeros, when the function of the row is zero there. -/
theorem padded (f : Fin 4160 → EReal) (hz : ∀ r, r.val < 48 → f r = 0) (g : Fin 4112 → EReal) (hg : ∀ i, g i = f (late i))
    (r : Fin 4160) : (if h : 48 ≤ r.val ∧ r.val - 48 < 4112 then g ⟨r.val - 48, h.2⟩ else 0) = f r := by
  by_cases h : 48 ≤ r.val
  · rw [dif_pos ⟨h, by omega⟩, hg]
    exact congrArg f (Fin.ext (by show 48 + (r.val - 48) = r.val; omega))
  · rw [dif_neg (fun h' => h h'.1), hz r (by omega)]

theorem col_div (k : Fin 3) (j : Fin 1024) (h : (col k j).val / 1024 < 3) : (⟨(col k j).val / 1024, h⟩ : Fin 3) = k :=
  Fin.ext (by show (1024 * k.val + j.val) / 1024 = k.val; omega)
theorem col_mod (k : Fin 3) (j : Fin 1024) (h : (col k j).val % 1024 < 1024) : (⟨(col k j).val % 1024, h⟩ : Fin 1024) = j :=
  Fin.ext (by show (1024 * k.val + j.val) % 1024 = j.val; omega)

theorem v106_at (r : Fin 4160) (j : Fin 1024) : val_main_v106 (F := Ideal) x0 x1 x2 x3 x4 x5 x6 x8 x9 (ix2 r j) = (args x0 x1 x2 x3 x4 x5 x6 x8 x9).dOut 0 r j := by
  unfold val_main_v106 val_main_v105 val_main_v104 val_main_cst_27
  pointwise
  exact padded (fun r => (args x0 x1 x2 x3 x4 x5 x6 x8 x9).dOut 0 r j) (fun r h => dout_zero _ ((args x0 x1 x2 x3 x4 x5 x6 x8 x9).row_ct_zero h) 0 j)
    (fun i => val_main_v96 (F := Ideal) x0 x1 x2 x3 x4 x5 x6 x8 x9 (ix3 i 0 j)) (fun i => v96_at x0 x1 x2 x3 x4 x5 x6 x8 x9 i 0 j) r

theorem v108_at (r : Fin 4160) (j : Fin 1024) : val_main_v108 (F := Ideal) x0 x1 x2 x3 x4 x5 x6 x8 x9 (ix2 r j) = (args x0 x1 x2 x3 x4 x5 x6 x8 x9).dOut 1 r j := by
  unfold val_main_v108 val_main_v107 val_main_v104 val_main_cst_27
  pointwise
  exact padded (fun r => (args x0 x1 x2 x3 x4 x5 x6 x8 x9).dOut 1 r j) (fun r h => dout_zero _ ((args x0 x1 x2 x3 x4 x5 x6 x8 x9).row_ct_zero h) 1 j)
    (fun i => val_main_v96 (F := Ideal) x0 x1 x2 x3 x4 x5 x6 x8 x9 (ix3 i 1 j)) (fun i => v96_at x0 x1 x2 x3 x4 x5 x6 x8 x9 i 1 j) r

theorem v110_at (r : Fin 4160) (j : Fin 1024) : val_main_v110 (F := Ideal) x0 x1 x2 x3 x4 x5 x6 x8 x9 (ix2 r j) = (args x0 x1 x2 x3 x4 x5 x6 x8 x9).dOut 2 r j := by
  unfold val_main_v110 val_main_v109 val_main_v104 val_main_cst_27
  pointwise
  exact padded (fun r => (args x0 x1 x2 x3 x4 x5 x6 x8 x9).dOut 2 r j) (fun r h => dout_zero _ ((args x0 x1 x2 x3 x4 x5 x6 x8 x9).row_ct_zero h) 2 j)
    (fun i => val_main_v96 (F := Ideal) x0 x1 x2 x3 x4 x5 x6 x8 x9 (ix3 i 2 j)) (fun i => v96_at x0 x1 x2 x3 x4 x5 x6 x8 x9 i 2 j) r

theorem v103_at (r : Fin 4160) (k : Fin 3) (j : Fin 1024) : val_main_v103 (F := Ideal) x0 x1 x2 x3 x4 x5 x6 x8 x9 (ix2 r (col k j)) = (args x0 x1 x2 x3 x4 x5 x6 x8 x9).dGate k r j := by
  unfold val_main_v103 val_main_v102 val_main_cst_26
  pointwise
  simp only [col_div, col_mod]
  exact padded (fun r => (args x0 x1 x2 x3 x4 x5 x6 x8 x9).dGate k r j) (fun r h => dgate_zero _ ((args x0 x1 x2 x3 x4 x5 x6 x8 x9).row_ct_zero h) k j)
    (fun i => val_main_v98 (F := Ideal) x0 x1 x2 x3 x4 x5 x6 x8 x9 (ix3 i k j)) (fun i => v98_at x0 x1 x2 x3 x4 x5 x6 x8 x9 i k j) r

theorem v94_at (r : Fin 4160) (j : Fin 1024) : val_main_v94 (F := Ideal) x0 x1 x2 x3 x4 x5 x6 x8 x9 (ix2 r j) = (args x0 x1 x2 x3 x4 x5 x6 x8 x9).dH r j := by
  unfold val_main_v94 val_main_v93 val_main_v92 val_main_cst_22 val_main_cst_23
  pointwise [v88_at x0 x1 x2 x3 x4 x5 x6 x8 x9]
  exact padded (fun r => (args x0 x1 x2 x3 x4 x5 x6 x8 x9).dH r j) (fun r h => dh_zero _ ((args x0 x1 x2 x3 x4 x5 x6 x8 x9).row_ct_zero h) j) (fun i => cAlpha * dzed (args x0 x1 x2 x3 x4 x5 x6 x8 x9).par ((args x0 x1 x2 x3 x4 x5 x6 x8 x9).row (late i)) j) (fun i => rfl) r

theorem v111_at (k : Fin 3) (j : Fin 1024) : val_main_v111 (F := Ideal) x0 x1 x2 x3 x4 x5 x6 x8 x9 (ix2 0 (col k j)) = (args x0 x1 x2 x3 x4 x5 x6 x8 x9).dBias k j := by
  unfold val_main_v111 val_main_v101 val_main_v100 val_main_v99 val_main_cst_24 val_main_cst_25
  pointwise
  simp only [col_div, col_mod, v98_at x0 x1 x2 x3 x4 x5 x6 x8 x9, Fin.sum_univ_one]
  rfl

theorem v112_at (j : Fin 1024) : val_main_v112 (F := Ideal) x0 x1 x2 x3 x4 x5 x8 x9 (ix2 0 j) = (args x0 x1 x2 x3 x4 x5 x6 x8 x9).dG j := by
  unfold val_main_v112 val_main_v64 val_main_v61 val_main_v60 val_main_v59 val_main_cst_13 val_main_cst_14
  pointwise [v48_at x0 x1 x2 x3 x4 x5 x6 x8 x9, v55_at x0 x1 x2 x3 x4 x5 x6 x8 x9, Fin.sum_univ_one]
  rfl

theorem v113_at (j : Fin 1024) : val_main_v113 (F := Ideal) x9 (ix2 0 j) = (args x0 x1 x2 x3 x4 x5 x6 x8 x9).dB j := by
  unfold val_main_v113 val_main_v58 val_main_v57 val_main_v56 val_main_cst_11 val_main_cst_12
  pointwise [v55_at x0 x1 x2 x3 x4 x5 x6 x8 x9, Fin.sum_univ_one]
  rfl

theorem v90_at (y x : Fin 1024) : val_main_v90 (F := Ideal) x0 x1 x2 x3 x4 x5 x6 x8 x9 (ix2 y x) = (args x0 x1 x2 x3 x4 x5 x6 x8 x9).dW y x := by
  unfold val_main_v90 val_main_v89
  pointwise [v88_at x0 x1 x2 x3 x4 x5 x6 x8 x9, v20_at x0 x1 x2 x3 x4 x5 x6 x8 x9]
  refine Finset.sum_congr rfl fun i _ => ?_
  rw [mul_comm]

end Cert.Merge.Ref
-- ==== Proof.Merge.Equation.lean ====
/- The equation of the merge's backward call: with the same arguments, each array the kernel leaves is the array the
   reference computes. Both are the same functions of the arguments (`Args.dOut`, `Args.dGate`, …), read entry by entry. -/
module

public import proofs.«01_k».proof.Proof.Merge.Array
public import proofs.«01_k».proof.Proof.Merge.Reference

@[expose] public section

noncomputable section

namespace Cert.Merge

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arguments agree at the arrays the call reads. -/
structure Same : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

variable {m m' c}

/-- The reference's arguments, as the record of functions, are the kernel's. -/
theorem Same.args (h : Same m m' c) : Ref.args (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = argsK m c := by
  rw [h.a0, h.a1, h.a2, h.a3, h.a4, h.a5, h.a6, h.a8, h.a9]
  rfl

/-- The column of three gates laid side by side is a gate and a column in it. -/
theorem col_split (x : Fin 3072) : x = col ⟨x.val / 1024, by omega⟩ ⟨x.val % 1024, by omega⟩ :=
  Fin.ext (by show x.val = 1024 * (x.val / 1024) + x.val % 1024; omega)

theorem eq11 (h : Same m m' c) : Cert.ReferenceIdeal.Read.val_main_v106 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = res11 m c := by
  refine @funext Cert.KernelIdeal.S4160x1024.Idx _ _ _ fun i => ?_
  obtain ⟨r, j, rfl⟩ : ∃ r j, i = ix2 r j := ⟨_, _, eq_ix2 i⟩
  exact (Ref.v106_at (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) r j).trans (by rw [h.args]; rfl)

theorem eq12 (h : Same m m' c) : Cert.ReferenceIdeal.Read.val_main_v108 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = res12 m c := by
  refine @funext Cert.KernelIdeal.S4160x1024.Idx _ _ _ fun i => ?_
  obtain ⟨r, j, rfl⟩ : ∃ r j, i = ix2 r j := ⟨_, _, eq_ix2 i⟩
  exact (Ref.v108_at (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) r j).trans (by rw [h.args]; rfl)

theorem eq13 (h : Same m m' c) : Cert.ReferenceIdeal.Read.val_main_v110 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = res13 m c := by
  refine @funext Cert.KernelIdeal.S4160x1024.Idx _ _ _ fun i => ?_
  obtain ⟨r, j, rfl⟩ : ∃ r j, i = ix2 r j := ⟨_, _, eq_ix2 i⟩
  exact (Ref.v110_at (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) r j).trans (by rw [h.args]; rfl)

theorem eq14 (h : Same m m' c) : Cert.ReferenceIdeal.Read.val_main_v103 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = res14 m c := by
  refine @funext Cert.KernelIdeal.S4160x3072.Idx _ _ _ fun i => ?_
  obtain ⟨r, j, rfl⟩ : ∃ r j, i = ix2 r j := ⟨_, _, eq_ix2 i⟩
  rw [col_split j]
  exact (Ref.v103_at (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) r _ _).trans (by rw [h.args]; exact (res14_at m c _ _ _).symm)

theorem eq15 (h : Same m m' c) : Cert.ReferenceIdeal.Read.val_main_v94 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = res15 m c := by
  refine @funext Cert.KernelIdeal.S4160x1024.Idx _ _ _ fun i => ?_
  obtain ⟨r, j, rfl⟩ : ∃ r j, i = ix2 r j := ⟨_, _, eq_ix2 i⟩
  exact (Ref.v94_at (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) r j).trans (by rw [h.args]; rfl)

theorem eq16 (h : Same m m' c) : Cert.ReferenceIdeal.Read.val_main_v111 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = res16 m c := by
  refine @funext Cert.KernelIdeal.S1x3072.Idx _ _ _ fun i => ?_
  obtain ⟨r, j, rfl⟩ : ∃ r j, i = ix2 r j := ⟨_, _, eq_ix2 i⟩
  obtain rfl : r = 0 := Subsingleton.elim _ _
  rw [col_split j]
  exact (Ref.v111_at (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) _ _).trans (by rw [h.args]; exact (res16_at m c _ _).symm)

theorem eq17 (h : Same m m' c) : Cert.ReferenceIdeal.Read.val_main_v112 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = res17 m c := by
  refine @funext Cert.KernelIdeal.S1x1024.Idx _ _ _ fun i => ?_
  obtain ⟨r, j, rfl⟩ : ∃ r j, i = ix2 r j := ⟨_, _, eq_ix2 i⟩
  obtain rfl : r = 0 := Subsingleton.elim _ _
  exact (Ref.v112_at (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) j).trans (by rw [h.args]; rfl)

theorem eq18 (h : Same m m' c) : Cert.ReferenceIdeal.Read.val_main_v113 (F := Ideal) (m' ((c.tc : Thread Cert.ReferenceIdeal.nD Cert.ReferenceIdeal.τ).loc Cert.ReferenceIdeal.main_arg9)) = res18 m c := by
  refine @funext Cert.KernelIdeal.S1x1024.Idx _ _ _ fun i => ?_
  obtain ⟨r, j, rfl⟩ : ∃ r j, i = ix2 r j := ⟨_, _, eq_ix2 i⟩
  obtain rfl : r = 0 := Subsingleton.elim _ _
  exact (Ref.v113_at (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) j).trans (by rw [h.args]; rfl)

theorem eq19 (h : Same m m' c) : Cert.ReferenceIdeal.Read.val_main_v90 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = res19 m c := by
  refine @funext Cert.KernelIdeal.S1024x1024.Idx _ _ _ fun i => ?_
  obtain ⟨r, j, rfl⟩ : ∃ r j, i = ix2 r j := ⟨_, _, eq_ix2 i⟩
  exact (Ref.v90_at (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) r j).trans (by rw [h.args]; rfl)

end Cert.Merge

end
-- ==== Proof.Products.Sums.lean ====
/- Sums for the products of the shared projection: a sum over rows taken block by block in a running total, and a sum over
   columns that are laid side by side. -/
module

public import Idealize.ShloMosaic.Lib.Pipeline.Value
public import Idealize.ShloMosaic.Lib.Pointwise

@[expose] public section

noncomputable section

namespace Cert.Products

open Idealize.ShloMosaic

/-- `J` blocks of `B` terms, one block after the other. -/
theorem sum_blocks (f : ℕ → EReal) (J B : ℕ) : ∑ s ∈ Finset.range J, ∑ r : Fin B, f (s * B + r.val) = ∑ n ∈ Finset.range (J * B), f n := by
  induction J with
  | zero => simp
  | succ J ih => rw [Finset.sum_range_succ, ih, Nat.succ_mul, Finset.sum_range_add, Finset.sum_range (fun k => f (J * B + k))]

/-- A running total that starts with block 0 and adds one block a step is the sum over all the rows. -/
theorem accumulated {ι : Type} {N B : ℕ} (a : (n : ℕ) → n < N → ι → EReal) (g : (n : ℕ) → n < N → (ι → EReal) → ι → EReal)
    (f : ι → ℕ → EReal) (ha : ∀ h i, a 0 h i = ∑ r : Fin B, f i (0 * B + r.val))
    (hg : ∀ n h acc i, g n h acc i = acc i + ∑ r : Fin B, f i (n * B + r.val))
    (b j : ℕ) (h : b + j < N) (hb : b = 0) (i : ι) : Pipeline.accAt a g b j h i = ∑ n ∈ Finset.range ((j + 1) * B), f i n := by
  subst hb
  rw [Pipeline.accAt_add_apply a g (fun _ => 0) (fun n i => ∑ r : Fin B, f i (n * B + r.val)) 0 j
    (fun h i => (ha h i).trans (zero_add _).symm) (fun n h acc i _ _ => hg n h acc i) j le_rfl h i, zero_add,
    ← sum_blocks (f i) (j + 1) B]
  exact Finset.sum_congr rfl fun s _ => by rw [Nat.zero_add]

/-- A function of rows, on the numbers. -/
def onNat {n : ℕ} (x : Fin n → EReal) (k : ℕ) : EReal := if h : k < n then x ⟨k, h⟩ else 0

theorem onNat_lt {n : ℕ} (x : Fin n → EReal) (k : ℕ) (h : k < n) : onNat x k = x ⟨k, h⟩ := dif_pos h

theorem onNat_val {n : ℕ} (x : Fin n → EReal) (k : Fin n) : onNat x k.val = x k := dif_pos k.isLt

theorem sum_onNat {n : ℕ} (x : Fin n → EReal) : ∑ k ∈ Finset.range n, onNat x k = ∑ k, x k := by
  rw [Finset.sum_range]
  exact Finset.sum_congr rfl fun k _ => onNat_val x k

end Cert.Products
-- ==== Proof.Products.Da.lean ====
/- The shared projection backward by its input: every row's cotangent, group by group, against the same groups of the
   matrix's columns.  The group of the narrow columns is filled up with zeros, so what stands beside them adds nothing. -/
module

public import proofs.«01_k».proof.Proof.Products.Sums
public import proofs.«01_k».proof.Proof.Gen.InDaIdeal.Value
public import proofs.«01_k».proof.Proof.Gen.InDaRefIdeal.Run
public import proofs.«01_k».proof.Proof.Gen.InDaRefIdeal.Read
public import Idealize.ShloMosaic.Lib.Pipeline.ValueKit.Geometry
public import Idealize.ShloMosaic.Lib.Pipeline.ValueKit.Acc

@[expose] public section

noncomputable section

namespace Cert.Products.Da

open Idealize.ShloMosaic Idealize.ShloMosaic.TcCoe Idealize.ShloMosaic.StableHlo Idealize.SL.Sem Cert.InDaIdeal Cert.InDaIdeal.Gen

variable (m : (ℓ : Loc nD τ sig) → Buf (Elt Ideal) ℓ) (c : Dev nD)

/-- The arguments: the matrix, and the rows' cotangent in eight groups of columns. -/
def mat (k : Fin 1024) (j : Fin 9752) : EReal := m ((c : Thread nD τ).loc main_arg0) (ix2 k j)
def d1 (r : Fin 4160) (k : Fin 768) : EReal := m ((c : Thread nD τ).loc main_arg1) (ix2 r k)
def d2 (r : Fin 4160) (k : Fin 768) : EReal := m ((c : Thread nD τ).loc main_arg2) (ix2 r k)
def d3 (r : Fin 4160) (k : Fin 1280) : EReal := m ((c : Thread nD τ).loc main_arg3) (ix2 r k)
def d4 (r : Fin 4160) (k : Fin 768) : EReal := m ((c : Thread nD τ).loc main_arg4) (ix2 r k)
def d5 (r : Fin 4160) (k : Fin 2304) : EReal := m ((c : Thread nD τ).loc main_arg5) (ix2 r k)
def d6 (r : Fin 4160) (k : Fin 768) : EReal := m ((c : Thread nD τ).loc main_arg6) (ix2 r k)
def d7 (r : Fin 4160) (k : Fin 3072) : EReal := m ((c : Thread nD τ).loc main_arg7) (ix2 r k)
def d8 (r : Fin 4160) (k : Fin 128) : EReal := m ((c : Thread nD τ).loc main_arg8) (ix2 r k)

/-- Columns `o`, `o + 1`, … of the matrix. -/
def cols (o : ℕ) {n : ℕ} (h : o + n ≤ 9752) (k : Fin 1024) (j : Fin n) : EReal := mat m c k ⟨o + j.val, by omega⟩

/-- The narrow columns of row `k` side by side, and zeros after them. -/
def narrow (k : Fin 1024) (j : Fin 128) : EReal :=
  if h : j.val < 12 then mat m c k ⟨2816 + j.val, by omega⟩
  else if h : j.val < 18 then mat m c k ⟨5900 + (j.val - 12), by omega⟩
  else if h : j.val < 24 then mat m c k ⟨5906 + (j.val - 18), by omega⟩
  else 0

theorem narrow_of (A : (⟨S1024x12, .bf16⟩ : BufTy).Contents (Elt Ideal)) (B C : (⟨S1024x6, .bf16⟩ : BufTy).Contents (Elt Ideal))
    (z : (⟨S_, .bf16⟩ : BufTy).Contents (Elt Ideal)) (k : Fin 1024)
    (hA : ∀ j : Fin 12, A (ix2 k j) = mat m c k ⟨2816 + j.val, by omega⟩)
    (hB : ∀ j : Fin 6, B (ix2 k j) = mat m c k ⟨5900 + j.val, by omega⟩)
    (hC : ∀ j : Fin 6, C (ix2 k j) = mat m c k ⟨5906 + j.val, by omega⟩) (hz : ∀ i, z i = (0 : EReal)) (j : Fin 128) :
    (pad S1024x128 ![0, 0] ![0, 104] ![0, 0]
      (concatenate S1024x24 1 [⟨S1024x12, A⟩, ⟨S1024x6, B⟩, ⟨S1024x6, C⟩] concatenates_S1024x12_S1024x6_S1024x6_S1024x24_d1)
      z pads_S1024x24_S1024x128_000_01040 h_S_ : (⟨S1024x128, .bf16⟩ : BufTy).Contents (Elt Ideal)) (ix2 k j) = narrow m c k j := by
  unfold narrow
  pointwise
  by_cases h1 : j.val < 12
  · rw [dif_pos h1, dif_pos (show j.val < 24 by omega), dif_pos h1]
    exact hA _
  rw [dif_neg h1]
  by_cases h2 : j.val < 18
  · rw [dif_pos h2, dif_pos (show j.val < 24 by omega), dif_neg h1, dif_pos (show j.val - 12 < 6 by omega)]
    exact hB _
  rw [dif_neg h2]
  by_cases h3 : j.val < 24
  · rw [dif_pos h3, dif_pos h3, dif_neg h1, dif_neg (show ¬ j.val - 12 < 6 by omega)]
    refine (hC _).trans (congrArg (mat m c k) (Fin.ext ?_))
    simp only
    omega
  rw [dif_neg h3, dif_neg h3, hz]

theorem V_v21 (k : Fin 1024) (j : Fin 128) : V m c main_v21 (ix2 k j) = narrow m c k j := by
  simp only [V, hostOps0, hostOps0_1, List.flatten_cons, List.flatten_nil, List.append_nil, List.cons_append, List.nil_append]
  after_results
  refine narrow_of m c _ _ _ _ k (fun j => ?_) (fun j => ?_) (fun j => ?_) (fun _ => ?_) j
  · show StableHlo.after (hostOps0.take 20) (fun b => m (c, b)) (Proc.devRef .tc main_v7) (ix2 k j) = _
    unfold mat
    simp only [hostOps0, List.take_succ_cons, List.take_zero]
    after_results
    pointwise
  · show StableHlo.after (hostOps0.take 20) (fun b => m (c, b)) (Proc.devRef .tc main_v13) (ix2 k j) = _
    unfold mat
    simp only [hostOps0, List.take_succ_cons, List.take_zero]
    after_results
    pointwise
  · show StableHlo.after (hostOps0.take 20) (fun b => m (c, b)) (Proc.devRef .tc main_v15) (ix2 k j) = _
    unfold mat
    simp only [hostOps0, List.take_succ_cons, List.take_zero]
    after_results
    pointwise
  · show ((((0#32 : BitVec 32).toInt : ℝ) : EReal)) = 0
    norm_num

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := fun _ => rfl
theorem index9 : ∀ t : Fin cfg0.N, win0_9.index t = ![0, 0] := fun _ => rfl
theorem index10 : ∀ t : Fin cfg0.N, win0_10.index t = ![0, 0] := fun _ => rfl
theorem index11 : ∀ t : Fin cfg0.N, win0_11.index t = ![0, 0] := fun _ => rfl
theorem index12 : ∀ t : Fin cfg0.N, win0_12.index t = ![0, 0] := fun _ => rfl
theorem index13 : ∀ t : Fin cfg0.N, win0_13.index t = ![0, 0] := fun _ => rfl
theorem index14 : ∀ t : Fin cfg0.N, win0_14.index t = ![0, 0] := fun _ => rfl
theorem index15 : ∀ t : Fin cfg0.N, win0_15.index t = ![0, 0] := fun _ => rfl
theorem index16 : ∀ t : Fin cfg0.N, win0_16.index t = ![t.val, 0] := (by decide +kernel : ∀ t : Fin grid0.N, _)

theorem V_v1 (k : Fin 1024) (j : Fin 768) : V m c main_v1 (ix2 k j) = cols m c 0 (by omega) k j := by
  unfold cols mat
  simp only [V, hostOps0, hostOps0_1, List.flatten_cons, List.flatten_nil, List.append_nil, List.cons_append, List.nil_append]
  after_results
  pointwise

theorem iblk0 (t : Fin cfg0.N) (r : Fin 208) (k : Fin 768) (h : t.val * 208 + r.val < 4160) :
    iblk m c 0 t (ix2 r k) = d1 m c ⟨t.val * 208 + r.val, h⟩ k := by
  unfold d1
  rw [← V_main_arg1 m c]
  blk_simp [iblk]
  exact congrArg (V m c main_arg1) (by blk_ext [index0])

theorem iblk8 (t : Fin cfg0.N) (k : Fin 1024) (j : Fin 768) : iblk m c 8 t (ix2 k j) = cols m c 0 (by omega) k j := by
  rw [← V_v1]
  blk_simp [iblk]
  exact congrArg (V m c main_v1) (by blk_ext [index8])

theorem V_v3 (k : Fin 1024) (j : Fin 768) : V m c main_v3 (ix2 k j) = cols m c 768 (by omega) k j := by
  unfold cols mat
  simp only [V, hostOps0, hostOps0_1, List.flatten_cons, List.flatten_nil, List.append_nil, List.cons_append, List.nil_append]
  after_results
  pointwise

theorem iblk1 (t : Fin cfg0.N) (r : Fin 208) (k : Fin 768) (h : t.val * 208 + r.val < 4160) :
    iblk m c 1 t (ix2 r k) = d2 m c ⟨t.val * 208 + r.val, h⟩ k := by
  unfold d2
  rw [← V_main_arg2 m c]
  blk_simp [iblk]
  exact congrArg (V m c main_arg2) (by blk_ext [index1])

theorem iblk9 (t : Fin cfg0.N) (k : Fin 1024) (j : Fin 768) : iblk m c 9 t (ix2 k j) = cols m c 768 (by omega) k j := by
  rw [← V_v3]
  blk_simp [iblk]
  exact congrArg (V m c main_v3) (by blk_ext [index9])

theorem V_v5 (k : Fin 1024) (j : Fin 1280) : V m c main_v5 (ix2 k j) = cols m c 1536 (by omega) k j := by
  unfold cols mat
  simp only [V, hostOps0, hostOps0_1, List.flatten_cons, List.flatten_nil, List.append_nil, List.cons_append, List.nil_append]
  after_results
  pointwise

theorem iblk2 (t : Fin cfg0.N) (r : Fin 208) (k : Fin 1280) (h : t.val * 208 + r.val < 4160) :
    iblk m c 2 t (ix2 r k) = d3 m c ⟨t.val * 208 + r.val, h⟩ k := by
  unfold d3
  rw [← V_main_arg3 m c]
  blk_simp [iblk]
  exact congrArg (V m c main_arg3) (by blk_ext [index2])

theorem iblk10 (t : Fin cfg0.N) (k : Fin 1024) (j : Fin 1280) : iblk m c 10 t (ix2 k j) = cols m c 1536 (by omega) k j := by
  rw [← V_v5]
  blk_simp [iblk]
  exact congrArg (V m c main_v5) (by blk_ext [index10])

theorem V_v9 (k : Fin 1024) (j : Fin 768) : V m c main_v9 (ix2 k j) = cols m c 2828 (by omega) k j := by
  unfold cols mat
  simp only [V, hostOps0, hostOps0_1, List.flatten_cons, List.flatten_nil, List.append_nil, List.cons_append, List.nil_append]
  after_results
  pointwise

theorem iblk3 (t : Fin cfg0.N) (r : Fin 208) (k : Fin 768) (h : t.val * 208 + r.val < 4160) :
    iblk m c 3 t (ix2 r k) = d4 m c ⟨t.val * 208 + r.val, h⟩ k := by
  unfold d4
  rw [← V_main_arg4 m c]
  blk_simp [iblk]
  exact congrArg (V m c main_arg4) (by blk_ext [index3])

theorem iblk11 (t : Fin cfg0.N) (k : Fin 1024) (j : Fin 768) : iblk m c 11 t (ix2 k j) = cols m c 2828 (by omega) k j := by
  rw [← V_v9]
  blk_simp [iblk]
  exact congrArg (V m c main_v9) (by blk_ext [index11])

theorem V_v11 (k : Fin 1024) (j : Fin 2304) : V m c main_v11 (ix2 k j) = cols m c 3596 (by omega) k j := by
  unfold cols mat
  simp only [V, hostOps0, hostOps0_1, List.flatten_cons, List.flatten_nil, List.append_nil, List.cons_append, List.nil_append]
  after_results
  pointwise

theorem iblk4 (t : Fin cfg0.N) (r : Fin 208) (k : Fin 2304) (h : t.val * 208 + r.val < 4160) :
    iblk m c 4 t (ix2 r k) = d5 m c ⟨t.val * 208 + r.val, h⟩ k := by
  unfold d5
  rw [← V_main_arg5 m c]
  blk_simp [iblk]
  exact congrArg (V m c main_arg5) (by blk_ext [index4])

theorem iblk12 (t : Fin cfg0.N) (k : Fin 1024) (j : Fin 2304) : iblk m c 12 t (ix2 k j) = cols m c 3596 (by omega) k j := by
  rw [← V_v11]
  blk_simp [iblk]
  exact congrArg (V m c main_v11) (by blk_ext [index12])

theorem V_v17 (k : Fin 1024) (j : Fin 768) : V m c main_v17 (ix2 k j) = cols m c 5912 (by omega) k j := by
  unfold cols mat
  simp only [V, hostOps0, hostOps0_1, List.flatten_cons, List.flatten_nil, List.append_nil, List.cons_append, List.nil_append]
  after_results
  pointwise

theorem iblk5 (t : Fin cfg0.N) (r : Fin 208) (k : Fin 768) (h : t.val * 208 + r.val < 4160) :
    iblk m c 5 t (ix2 r k) = d6 m c ⟨t.val * 208 + r.val, h⟩ k := by
  unfold d6
  rw [← V_main_arg6 m c]
  blk_simp [iblk]
  exact congrArg (V m c main_arg6) (by blk_ext [index5])

theorem iblk13 (t : Fin cfg0.N) (k : Fin 1024) (j : Fin 768) : iblk m c 13 t (ix2 k j) = cols m c 5912 (by omega) k j := by
  rw [← V_v17]
  blk_simp [iblk]
  exact congrArg (V m c main_v17) (by blk_ext [index13])

theorem V_v19 (k : Fin 1024) (j : Fin 3072) : V m c main_v19 (ix2 k j) = cols m c 6680 (by omega) k j := by
  unfold cols mat
  simp only [V, hostOps0, hostOps0_1, List.flatten_cons, List.flatten_nil, List.append_nil, List.cons_append, List.nil_append]
  after_results
  pointwise

theorem iblk6 (t : Fin cfg0.N) (r : Fin 208) (k : Fin 3072) (h : t.val * 208 + r.val < 4160) :
    iblk m c 6 t (ix2 r k) = d7 m c ⟨t.val * 208 + r.val, h⟩ k := by
  unfold d7
  rw [← V_main_arg7 m c]
  blk_simp [iblk]
  exact congrArg (V m c main_arg7) (by blk_ext [index6])

theorem iblk14 (t : Fin cfg0.N) (k : Fin 1024) (j : Fin 3072) : iblk m c 14 t (ix2 k j) = cols m c 6680 (by omega) k j := by
  rw [← V_v19]
  blk_simp [iblk]
  exact congrArg (V m c main_v19) (by blk_ext [index14])

theorem iblk7 (t : Fin cfg0.N) (r : Fin 208) (k : Fin 128) (h : t.val * 208 + r.val < 4160) :
    iblk m c 7 t (ix2 r k) = d8 m c ⟨t.val * 208 + r.val, h⟩ k := by
  unfold d8
  rw [← V_main_arg8 m c]
  blk_simp [iblk]
  exact congrArg (V m c main_arg8) (by blk_ext [index7])

theorem iblk15 (t : Fin cfg0.N) (k : Fin 1024) (j : Fin 128) : iblk m c 15 t (ix2 k j) = narrow m c k j := by
  rw [← V_v21]
  blk_simp [iblk]
  exact congrArg (V m c main_v21) (by blk_ext [index15])

/-- The result: the groups' products, added in order. -/
def total (i : (Shape.mk 2 ![4160, 1024]).Idx) : EReal :=
  (∑ k, d1 m c (i 0) k * cols m c 0 (n := 768) (by omega) (i 1) k)
    + (∑ k, d2 m c (i 0) k * cols m c 768 (n := 768) (by omega) (i 1) k)
    + (∑ k, d3 m c (i 0) k * cols m c 1536 (n := 1280) (by omega) (i 1) k)
    + (∑ k, d4 m c (i 0) k * cols m c 2828 (n := 768) (by omega) (i 1) k)
    + (∑ k, d5 m c (i 0) k * cols m c 3596 (n := 2304) (by omega) (i 1) k)
    + (∑ k, d6 m c (i 0) k * cols m c 5912 (n := 768) (by omega) (i 1) k)
    + (∑ k, d7 m c (i 0) k * cols m c 6680 (n := 3072) (by omega) (i 1) k)
    + (∑ k, d8 m c (i 0) k * narrow m c (i 1) k)

theorem out_at (x1 : Vec Ideal S208x768 .f32) (x2 : Vec Ideal S208x768 .f32) (x3 : Vec Ideal S208x1280 .f32) (x4 : Vec Ideal S208x768 .f32) (x5 : Vec Ideal S208x2304 .f32) (x6 : Vec Ideal S208x768 .f32) (x7 : Vec Ideal S208x3072 .f32) (x8 : Vec Ideal S208x128 .f32)
    (w1 : Vec Ideal S1024x768 .bf16) (w2 : Vec Ideal S1024x768 .bf16) (w3 : Vec Ideal S1024x1280 .bf16) (w4 : Vec Ideal S1024x768 .bf16) (w5 : Vec Ideal S1024x2304 .bf16) (w6 : Vec Ideal S1024x768 .bf16) (w7 : Vec Ideal S1024x3072 .bf16) (w8 : Vec Ideal S1024x128 .bf16) (r : Fin 208) (i : Fin 1024) :
    k0_pay1 (F := Ideal) (k0_pay2 x1 w1 x2 w2 x3 w3 x4 w4 x5 w5) (k0_pay3 x6) w6 x7 w7 x8 w8 (ix2 r i)
      = ((∑ k, x1 (ix2 r k) * w1 (ix2 i k)) + (∑ k, x2 (ix2 r k) * w2 (ix2 i k)) + (∑ k, x3 (ix2 r k) * w3 (ix2 i k)) + (∑ k, x4 (ix2 r k) * w4 (ix2 i k)) + (∑ k, x5 (ix2 r k) * w5 (ix2 i k)) + (∑ k, x6 (ix2 r k) * w6 (ix2 i k)) + (∑ k, x7 (ix2 r k) * w7 (ix2 i k)) + (∑ k, x8 (ix2 r k) * w8 (ix2 i k)) : EReal) := by
  unfold k0_pay1 k0_pay2 k0_pay3
  pointwise

theorem final16 : (dats m 0 c).arrAt 16 cfg0.N = total m c := by
  refine (dats m 0 c).arrAt_eq_of_covers 16 _ (by decide +kernel) fun t hf y => ?_
  blk_simp
  rw [after0_16]; frame_out
  obtain ⟨r, i, rfl⟩ : ∃ (r : Fin 208) (i : Fin 1024), y = ix2 r i := ⟨_, _, eq_ix2 y⟩
  have ht : t.val < 20 := t.isLt
  have hr : t.val * 208 + r.val < 4160 := by omega
  rw [show ((View.whole main_v22).slice (win0_16.rect t)).emb (ix2 r i) = ix2 ⟨t.val * 208 + r.val, hr⟩ i by blk_ext [index16], out_at]
  simp only [fun k => iblk0 m c t r k hr, fun k => iblk1 m c t r k hr, fun k => iblk2 m c t r k hr, fun k => iblk3 m c t r k hr, fun k => iblk4 m c t r k hr, fun k => iblk5 m c t r k hr, fun k => iblk6 m c t r k hr, fun k => iblk7 m c t r k hr,
    iblk8 m c t, iblk9 m c t, iblk10 m c t, iblk11 m c t, iblk12 m c t, iblk13 m c t, iblk14 m c t, iblk15 m c t]
  rfl

end Cert.Products.Da
-- ==== Proof.Products.DaRef.lean ====
/- The shared projection backward by its input, by its reference: one product over all 9752 columns, cut into the groups. -/
module

public import proofs.«01_k».proof.Proof.Products.Da

@[expose] public section

noncomputable section

namespace Cert.Products.Da

open Idealize.ShloMosaic Idealize.ShloMosaic.TcCoe Idealize.ShloMosaic.StableHlo Idealize.SL.Sem Cert.InDaIdeal Cert.InDaIdeal.Gen
open Cert.InDaRefIdeal.Read

/-- The `n` terms from `o` on. -/
def part (f : ℕ → EReal) (o n : ℕ) : EReal := ∑ k : Fin n, f (o + k.val)

theorem cut (f : ℕ → EReal) (a b s : ℕ) (h : a + b = s) : part f 0 s = part f 0 a + part f a b := by
  subst h
  unfold part
  rw [Fin.sum_univ_add]
  simp only [Fin.val_castAdd, Fin.val_natAdd, Nat.zero_add]

theorem part_all {n : ℕ} (x : Fin n → EReal) : ∑ k, x k = part (onNat x) 0 n :=
  Finset.sum_congr rfl fun k _ => by rw [Nat.zero_add, onNat_val]

theorem part_of {n q : ℕ} (x : Fin q → EReal) (o : ℕ) (h : o + n ≤ q) (y : Fin n → EReal) (hy : ∀ k : Fin n, x ⟨o + k.val, by omega⟩ = y k) :
    part (onNat x) o n = ∑ k, y k := Finset.sum_congr rfl fun k _ => by rw [onNat_lt x _ (by omega), hy]

/-- The widths of the arrays laid side by side. -/
def sides : List Shape := [768, 768, 1280, 12, 768, 2304, 6, 6, 768, 3072].map fun n => Shape.mk 2 ![4160, n]

/-- The extent along the columns of the first `p` of them. -/
def before (p : ℕ) : ℕ := ((sides.take p).map fun s => if h : s.rank = 2 then s.size ((1 : Fin 2).cast h.symm) else 0).sum

/-- A piece of arrays laid side by side. -/
theorem piece {n : ℕ} (xs : List ((s : Shape) × (s.Idx → EReal))) (h : Shape.Concatenates (xs.map (·.1)) (Shape.mk 2 ![4160, 9752]) 1)
    (p : ℕ) (hp : p < xs.length) (x : (Shape.mk 2 ![4160, n]).Idx → EReal) (hx : xs[p] = ⟨_, x⟩) (o : ℕ)
    (hs : xs.map (·.1) = sides) (ho : before p = o)
    (r : Fin 4160) (k : Fin n) (hk : o + k.val < 9752) : concatenate (Shape.mk 2 ![4160, 9752]) 1 xs h (ix2 r ⟨o + k.val, hk⟩) = x (ix2 r k) := by
  refine concatenate_apply_piece 1 xs h _ p hp _ x hx rfl o (by rw [List.map_take, hs]; exact ho) (ix2 r k) (fun b hb => ?_) rfl
  match b with
  | ⟨0, _⟩ => rfl
  | ⟨1, _⟩ => exact absurd rfl hb

variable (m : (ℓ : Loc nD τ sig) → Buf (Elt Ideal) ℓ) (c : Dev nD)

variable (x0 : (⟨S1024x9752, .f32⟩ : BufTy).Contents (Elt Ideal)) (x1 : (⟨S4160x768, .f32⟩ : BufTy).Contents (Elt Ideal)) (x2 : (⟨S4160x768, .f32⟩ : BufTy).Contents (Elt Ideal)) (x3 : (⟨S4160x1280, .f32⟩ : BufTy).Contents (Elt Ideal)) (x4 : (⟨S4160x768, .f32⟩ : BufTy).Contents (Elt Ideal)) (x5 : (⟨S4160x2304, .f32⟩ : BufTy).Contents (Elt Ideal)) (x6 : (⟨S4160x768, .f32⟩ : BufTy).Contents (Elt Ideal)) (x7 : (⟨S4160x3072, .f32⟩ : BufTy).Contents (Elt Ideal)) (x8 : (⟨S4160x128, .f32⟩ : BufTy).Contents (Elt Ideal))

theorem product (r : Fin 4160) (i : Fin 1024) : val_main_v16 (F := Ideal) x0 x1 x2 x3 x4 x5 x6 x7 x8 (ix2 r i)
    = (∑ k : Fin 9752, val_main_v15 (F := Ideal) x1 x2 x3 x4 x5 x6 x7 x8 (ix2 r k) * x0 (ix2 i k) : EReal) := by
  unfold val_main_v16
  generalize val_main_v15 (F := Ideal) x1 x2 x3 x4 x5 x6 x7 x8 = y
  pointwise

/-- One group of the long sum. -/
theorem group {n : ℕ} (o : ℕ) (h : o + n ≤ 9752) (x : (Shape.mk 2 ![4160, n]).Idx → EReal) (r : Fin 4160) (i : Fin 1024)
    (hx : ∀ k : Fin n, val_main_v15 (F := Ideal) x1 x2 x3 x4 x5 x6 x7 x8 (ix2 r ⟨o + k.val, by omega⟩) = x (ix2 r k)) :
    part (onNat fun k : Fin 9752 => (val_main_v15 (F := Ideal) x1 x2 x3 x4 x5 x6 x7 x8 (ix2 r k) * x0 (ix2 i k) : EReal)) o n
      = ∑ k : Fin n, x (ix2 r k) * (x0 (ix2 i ⟨o + k.val, by omega⟩) : EReal) :=
  part_of _ o h _ fun k => by rw [hx]

theorem side0 (r : Fin 4160) (k : Fin 768) : val_main_v15 (F := Ideal) x1 x2 x3 x4 x5 x6 x7 x8 (ix2 r ⟨0 + k.val, by omega⟩) = x1 (ix2 r k) :=
  piece _ _ 0 (by simp) _ rfl 0 (by rfl) (by decide +kernel) r k _
theorem side1 (r : Fin 4160) (k : Fin 768) : val_main_v15 (F := Ideal) x1 x2 x3 x4 x5 x6 x7 x8 (ix2 r ⟨768 + k.val, by omega⟩) = x2 (ix2 r k) :=
  piece _ _ 1 (by simp) _ rfl 768 (by rfl) (by decide +kernel) r k _
theorem side2 (r : Fin 4160) (k : Fin 1280) : val_main_v15 (F := Ideal) x1 x2 x3 x4 x5 x6 x7 x8 (ix2 r ⟨1536 + k.val, by omega⟩) = x3 (ix2 r k) :=
  piece _ _ 2 (by simp) _ rfl 1536 (by rfl) (by decide +kernel) r k _
theorem side3 (r : Fin 4160) (k : Fin 12) : val_main_v15 (F := Ideal) x1 x2 x3 x4 x5 x6 x7 x8 (ix2 r ⟨2816 + k.val, by omega⟩) = val_main_v0 (F := Ideal) x8 (ix2 r k) :=
  piece _ _ 3 (by simp) _ rfl 2816 (by rfl) (by decide +kernel) r k _
theorem side4 (r : Fin 4160) (k : Fin 768) : val_main_v15 (F := Ideal) x1 x2 x3 x4 x5 x6 x7 x8 (ix2 r ⟨2828 + k.val, by omega⟩) = x4 (ix2 r k) :=
  piece _ _ 4 (by simp) _ rfl 2828 (by rfl) (by decide +kernel) r k _
theorem side5 (r : Fin 4160) (k : Fin 2304) : val_main_v15 (F := Ideal) x1 x2 x3 x4 x5 x6 x7 x8 (ix2 r ⟨3596 + k.val, by omega⟩) = x5 (ix2 r k) :=
  piece _ _ 5 (by simp) _ rfl 3596 (by rfl) (by decide +kernel) r k _
theorem side6 (r : Fin 4160) (k : Fin 6) : val_main_v15 (F := Ideal) x1 x2 x3 x4 x5 x6 x7 x8 (ix2 r ⟨5900 + k.val, by omega⟩) = val_main_v1 (F := Ideal) x8 (ix2 r k) :=
  piece _ _ 6 (by simp) _ rfl 5900 (by rfl) (by decide +kernel) r k _
theorem side7 (r : Fin 4160) (k : Fin 6) : val_main_v15 (F := Ideal) x1 x2 x3 x4 x5 x6 x7 x8 (ix2 r ⟨5906 + k.val, by omega⟩) = val_main_v2 (F := Ideal) x8 (ix2 r k) :=
  piece _ _ 7 (by simp) _ rfl 5906 (by rfl) (by decide +kernel) r k _
theorem side8 (r : Fin 4160) (k : Fin 768) : val_main_v15 (F := Ideal) x1 x2 x3 x4 x5 x6 x7 x8 (ix2 r ⟨5912 + k.val, by omega⟩) = x6 (ix2 r k) :=
  piece _ _ 8 (by simp) _ rfl 5912 (by rfl) (by decide +kernel) r k _
theorem side9 (r : Fin 4160) (k : Fin 3072) : val_main_v15 (F := Ideal) x1 x2 x3 x4 x5 x6 x7 x8 (ix2 r ⟨6680 + k.val, by omega⟩) = x7 (ix2 r k) :=
  piece _ _ 9 (by simp) _ rfl 6680 (by rfl) (by decide +kernel) r k _

theorem regroup (a b c n d e p q f g : EReal) : a + b + c + n + d + e + p + q + f + g = a + b + c + d + e + f + g + (n + p + q) := by abel

/-- The padded group's product is that of its three parts. -/
theorem narrow_sum (r : Fin 4160) (i : Fin 1024) : (∑ k, d8 m c r k * narrow m c i k)
    = (∑ k : Fin 12, d8 m c r ⟨k.val, by omega⟩ * mat m c i ⟨2816 + k.val, by omega⟩)
      + (∑ k : Fin 6, d8 m c r ⟨12 + k.val, by omega⟩ * mat m c i ⟨5900 + k.val, by omega⟩)
      + (∑ k : Fin 6, d8 m c r ⟨18 + k.val, by omega⟩ * mat m c i ⟨5906 + k.val, by omega⟩) := by
  have e0 : ∀ k : Fin 12, narrow m c i ⟨0 + k.val, by omega⟩ = mat m c i ⟨2816 + k.val, by omega⟩ := fun k => by
    unfold narrow
    rw [dif_pos (show 0 + k.val < 12 by omega)]
    exact congrArg (mat m c i) (Fin.ext (show 2816 + (0 + k.val) = 2816 + k.val by omega))
  have e1 : ∀ k : Fin 6, narrow m c i ⟨12 + k.val, by omega⟩ = mat m c i ⟨5900 + k.val, by omega⟩ := fun k => by
    unfold narrow
    rw [dif_neg (show ¬ 12 + k.val < 12 by omega), dif_pos (show 12 + k.val < 18 by omega)]
    exact congrArg (mat m c i) (Fin.ext (show 5900 + (12 + k.val - 12) = 5900 + k.val by omega))
  have e2 : ∀ k : Fin 6, narrow m c i ⟨18 + k.val, by omega⟩ = mat m c i ⟨5906 + k.val, by omega⟩ := fun k => by
    unfold narrow
    rw [dif_neg (show ¬ 18 + k.val < 12 by omega), dif_neg (show ¬ 18 + k.val < 18 by omega), dif_pos (show 18 + k.val < 24 by omega)]
    exact congrArg (mat m c i) (Fin.ext (show 5906 + (18 + k.val - 18) = 5906 + k.val by omega))
  have e3 : ∀ k : Fin 104, narrow m c i ⟨24 + k.val, by omega⟩ = 0 := fun k => by
    unfold narrow
    rw [dif_neg (show ¬ 24 + k.val < 12 by omega), dif_neg (show ¬ 24 + k.val < 18 by omega), dif_neg (show ¬ 24 + k.val < 24 by omega)]
  rw [part_all, cut _ 24 104 128 rfl, cut _ 18 6 24 rfl, cut _ 12 6 18 rfl,
    part_of _ 0 (by omega) (fun k : Fin 12 => d8 m c r ⟨k.val, by omega⟩ * mat m c i ⟨2816 + k.val, by omega⟩)
      (fun k => congrArg₂ (· * ·) (congrArg (d8 m c r) (Fin.ext (Nat.zero_add _))) (e0 k)),
    part_of _ 12 (by omega) _ (fun k : Fin 6 => congrArg (d8 m c r _ * ·) (e1 k)),
    part_of _ 18 (by omega) _ (fun k : Fin 6 => congrArg (d8 m c r _ * ·) (e2 k)),
    part_of _ 24 (by omega) (fun _ : Fin 104 => 0) (fun k => by rw [e3, mul_zero]), Finset.sum_const_zero, add_zero]

theorem equal (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) (h7 : x7 = m ((c : Thread nD τ).loc main_arg7)) (h8 : x8 = m ((c : Thread nD τ).loc main_arg8)) :
    val_main_v16 (F := Ideal) x0 x1 x2 x3 x4 x5 x6 x7 x8 = (dats m 0 c).arrAt 16 cfg0.N := by
  refine Eq.trans ?_ (final16 m c).symm
  funext y
  obtain ⟨r, i, rfl⟩ : ∃ (r : Fin 4160) (i : Fin 1024), y = ix2 r i := ⟨_, _, eq_ix2 y⟩
  rw [product, part_all, cut _ 6680 3072 9752 rfl, cut _ 5912 768 6680 rfl, cut _ 5906 6 5912 rfl, cut _ 5900 6 5906 rfl, cut _ 3596 2304 5900 rfl, cut _ 2828 768 3596 rfl, cut _ 2816 12 2828 rfl, cut _ 1536 1280 2816 rfl, cut _ 768 768 1536 rfl]
  rw [group x0 x1 x2 x3 x4 x5 x6 x7 x8 0 (n := 768) (by omega) (x1) r i (fun k => side0 x1 x2 x3 x4 x5 x6 x7 x8 r k),
    group x0 x1 x2 x3 x4 x5 x6 x7 x8 768 (n := 768) (by omega) (x2) r i (fun k => side1 x1 x2 x3 x4 x5 x6 x7 x8 r k),
    group x0 x1 x2 x3 x4 x5 x6 x7 x8 1536 (n := 1280) (by omega) (x3) r i (fun k => side2 x1 x2 x3 x4 x5 x6 x7 x8 r k),
    group x0 x1 x2 x3 x4 x5 x6 x7 x8 2816 (n := 12) (by omega) (val_main_v0 (F := Ideal) x8) r i (fun k => side3 x1 x2 x3 x4 x5 x6 x7 x8 r k),
    group x0 x1 x2 x3 x4 x5 x6 x7 x8 2828 (n := 768) (by omega) (x4) r i (fun k => side4 x1 x2 x3 x4 x5 x6 x7 x8 r k),
    group x0 x1 x2 x3 x4 x5 x6 x7 x8 3596 (n := 2304) (by omega) (x5) r i (fun k => side5 x1 x2 x3 x4 x5 x6 x7 x8 r k),
    group x0 x1 x2 x3 x4 x5 x6 x7 x8 5900 (n := 6) (by omega) (val_main_v1 (F := Ideal) x8) r i (fun k => side6 x1 x2 x3 x4 x5 x6 x7 x8 r k),
    group x0 x1 x2 x3 x4 x5 x6 x7 x8 5906 (n := 6) (by omega) (val_main_v2 (F := Ideal) x8) r i (fun k => side7 x1 x2 x3 x4 x5 x6 x7 x8 r k),
    group x0 x1 x2 x3 x4 x5 x6 x7 x8 5912 (n := 768) (by omega) (x6) r i (fun k => side8 x1 x2 x3 x4 x5 x6 x7 x8 r k),
    group x0 x1 x2 x3 x4 x5 x6 x7 x8 6680 (n := 3072) (by omega) (x7) r i (fun k => side9 x1 x2 x3 x4 x5 x6 x7 x8 r k)]
  subst h0 h1 h2 h3 h4 h5 h6 h7 h8
  have q0 : ∀ k : Fin 12, val_main_v0 (F := Ideal) (m ((c : Thread nD τ).loc main_arg8)) (ix2 r k) = d8 m c r ⟨k.val, by omega⟩ := fun k => by
    unfold val_main_v0 d8
    pointwise
  have q1 : ∀ k : Fin 6, val_main_v1 (F := Ideal) (m ((c : Thread nD τ).loc main_arg8)) (ix2 r k) = d8 m c r ⟨12 + k.val, by omega⟩ := fun k => by
    unfold val_main_v1 d8
    pointwise
  have q2 : ∀ k : Fin 6, val_main_v2 (F := Ideal) (m ((c : Thread nD τ).loc main_arg8)) (ix2 r k) = d8 m c r ⟨18 + k.val, by omega⟩ := fun k => by
    unfold val_main_v2 d8
    pointwise
  simp only [q0, q1, q2]
  have hn := narrow_sum m c r i
  exact (regroup ..).trans (congrArg (_ + ·) hn.symm)

end Cert.Products.Da
-- ==== Proof.Products.Fwd.lean ====
/- The shared projection forward: the rows against each column group of the matrix.  The last group gathers the narrow
   columns and is filled up with 104 columns of zeros. -/
module

public import proofs.«01_k».proof.Proof.Products.Sums
public import proofs.«01_k».proof.Proof.Gen.InFwdIdeal.Value
public import proofs.«01_k».proof.Proof.Gen.InFwdRefIdeal.Run
public import proofs.«01_k».proof.Proof.Gen.InFwdRefIdeal.Read
public import Idealize.ShloMosaic.Lib.Pipeline.ValueKit.Geometry
public import Idealize.ShloMosaic.Lib.Pipeline.ValueKit.Acc

@[expose] public section

noncomputable section

namespace Cert.Products.Fwd

open Idealize.ShloMosaic Idealize.ShloMosaic.TcCoe Idealize.ShloMosaic.StableHlo Idealize.SL.Sem Cert.InFwdIdeal Cert.InFwdIdeal.Gen

variable (m : (ℓ : Loc nD τ sig) → Buf (Elt Ideal) ℓ) (c : Dev nD)

/-- The two arguments, the rows and the matrix. -/
def hid (r : Fin 4160) (j : Fin 1024) : EReal := m ((c : Thread nD τ).loc main_arg0) (ix2 r j)
def mat (k : Fin 1024) (j : Fin 9752) : EReal := m ((c : Thread nD τ).loc main_arg1) (ix2 k j)

/-- Columns `o`, `o + 1`, … of the matrix. -/
def cols (o : ℕ) {n : ℕ} (h : o + n ≤ 9752) (k : Fin 1024) (j : Fin n) : EReal := mat m c k ⟨o + j.val, by omega⟩

/-- The rows against a group of columns. -/
def rows {n : ℕ} (w : Fin 1024 → Fin n → EReal) (i : (Shape.mk 2 ![4160, n]).Idx) : EReal := ∑ k, hid m c (i 0) k * w k (i 1)

theorem index0 : ∀ t : Fin cfg0.N, win0_0.index t = ![t.val, 0] := (by decide +kernel : ∀ t : Fin grid0.N, _)
theorem index1 : ∀ t : Fin cfg0.N, win0_1.index t = ![0, 0] := fun _ => rfl
theorem index2 : ∀ t : Fin cfg0.N, win0_2.index t = ![0, 0] := fun _ => rfl
theorem index3 : ∀ t : Fin cfg0.N, win0_3.index t = ![0, 0] := fun _ => rfl
theorem index4 : ∀ t : Fin cfg0.N, win0_4.index t = ![0, 0] := fun _ => rfl
theorem index5 : ∀ t : Fin cfg0.N, win0_5.index t = ![0, 0] := fun _ => rfl
theorem index6 : ∀ t : Fin cfg0.N, win0_6.index t = ![0, 0] := fun _ => rfl
theorem index7 : ∀ t : Fin cfg0.N, win0_7.index t = ![0, 0] := fun _ => rfl
theorem index8 : ∀ t : Fin cfg0.N, win0_8.index t = ![0, 0] := fun _ => rfl
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![t.val, 0] := (by decide +kernel : ∀ t : Fin grid0.N, _)
theorem index15 : ∀ t : Fin cfg0.N, win0_15.index t = ![t.val, 0] := (by decide +kernel : ∀ t : Fin grid0.N, _)
theorem index16 : ∀ t : Fin cfg0.N, win0_16.index t = ![t.val, 0] := (by decide +kernel : ∀ t : Fin grid0.N, _)

theorem V_v22 (r : Fin 4160) (j : Fin 1024) : V m c main_v22 (ix2 r j) = hid m c r j := by
  unfold hid
  simp only [V, hostOps0, hostOps0_1, hostOps0_2, List.flatten_cons, List.flatten_nil, List.append_nil, List.cons_append, List.nil_append]
  after_results
  pointwise

/-- The narrow columns of row `k` side by side, and zeros after them. -/
def narrow (k : Fin 1024) (j : Fin 128) : EReal :=
  if h : j.val < 12 then mat m c k ⟨2816 + j.val, by omega⟩
  else if h : j.val < 18 then mat m c k ⟨5900 + (j.val - 12), by omega⟩
  else if h : j.val < 24 then mat m c k ⟨5906 + (j.val - 18), by omega⟩
  else 0

theorem narrow_of (A : (⟨S1024x12, .bf16⟩ : BufTy).Contents (Elt Ideal)) (B C : (⟨S1024x6, .bf16⟩ : BufTy).Contents (Elt Ideal))
    (z : (⟨S_, .bf16⟩ : BufTy).Contents (Elt Ideal)) (k : Fin 1024)
    (hA : ∀ j : Fin 12, A (ix2 k j) = mat m c k ⟨2816 + j.val, by omega⟩)
    (hB : ∀ j : Fin 6, B (ix2 k j) = mat m c k ⟨5900 + j.val, by omega⟩)
    (hC : ∀ j : Fin 6, C (ix2 k j) = mat m c k ⟨5906 + j.val, by omega⟩) (hz : ∀ i, z i = (0 : EReal)) (j : Fin 128) :
    (pad S1024x128 ![0, 0] ![0, 104] ![0, 0]
      (concatenate S1024x24 1 [⟨S1024x12, A⟩, ⟨S1024x6, B⟩, ⟨S1024x6, C⟩] concatenates_S1024x12_S1024x6_S1024x6_S1024x24_d1)
      z pads_S1024x24_S1024x128_000_01040 h_S_ : (⟨S1024x128, .bf16⟩ : BufTy).Contents (Elt Ideal)) (ix2 k j) = narrow m c k j := by
  unfold narrow
  pointwise
  by_cases h1 : j.val < 12
  · rw [dif_pos h1, dif_pos (show j.val < 24 by omega), dif_pos h1]
    exact hA _
  rw [dif_neg h1]
  by_cases h2 : j.val < 18
  · rw [dif_pos h2, dif_pos (show j.val < 24 by omega), dif_neg h1, dif_pos (show j.val - 12 < 6 by omega)]
    exact hB _
  rw [dif_neg h2]
  by_cases h3 : j.val < 24
  · rw [dif_pos h3, dif_pos h3, dif_neg h1, dif_neg (show ¬ j.val - 12 < 6 by omega)]
    refine (hC _).trans (congrArg (mat m c k) (Fin.ext ?_))
    simp only
    omega
  rw [dif_neg h3, dif_neg h3, hz]

theorem V_v21 (k : Fin 1024) (j : Fin 128) : V m c main_v21 (ix2 k j) = narrow m c k j := by
  simp only [V, hostOps0, hostOps0_1, hostOps0_2, List.flatten_cons, List.flatten_nil, List.append_nil, List.cons_append, List.nil_append]
  after_results
  refine narrow_of m c _ _ _ _ k (fun j => ?_) (fun j => ?_) (fun j => ?_) (fun _ => ?_) j
  · show StableHlo.after (hostOps0.take 20) (fun b => m (c, b)) (Proc.devRef .tc main_v7) (ix2 k j) = _
    unfold mat
    simp only [hostOps0, List.take_succ_cons, List.take_zero]
    after_results
    pointwise
  · show StableHlo.after (hostOps0.take 20) (fun b => m (c, b)) (Proc.devRef .tc main_v13) (ix2 k j) = _
    unfold mat
    simp only [hostOps0, List.take_succ_cons, List.take_zero]
    after_results
    pointwise
  · show StableHlo.after (hostOps0.take 20) (fun b => m (c, b)) (Proc.devRef .tc main_v15) (ix2 k j) = _
    unfold mat
    simp only [hostOps0, List.take_succ_cons, List.take_zero]
    after_results
    pointwise
  · show ((((0#32 : BitVec 32).toInt : ℝ) : EReal)) = 0
    norm_num

theorem iblk0 (t : Fin cfg0.N) (r : Fin 208) (j : Fin 1024) (h : t.val * 208 + r.val < 4160) :
    iblk m c 0 t (ix2 r j) = hid m c ⟨t.val * 208 + r.val, h⟩ j := by
  rw [← V_v22]
  blk_simp [iblk]
  exact congrArg (V m c main_v22) (by blk_ext [index0])

/-- One entry of a block, from the rows' block and a column. -/
theorem entry {n : ℕ} (w : Fin 1024 → Fin n → EReal) (t : Fin cfg0.N) (r : Fin 208) (j : Fin n) (h : t.val * 208 + r.val < 4160)
    (x : Fin 1024 → EReal) (y : Fin 1024 → EReal) (hx : ∀ k, x k = iblk m c 0 t (ix2 r k)) (hy : ∀ k, y k = w k j) :
    (∑ k, x k * y k) = rows m c w (ix2 ⟨t.val * 208 + r.val, h⟩ j) :=
  Finset.sum_congr rfl fun k _ => by rw [hx, iblk0 m c t r k h, hy]; rfl

theorem V_v1 (k : Fin 1024) (j : Fin 768) : V m c main_v1 (ix2 k j) = cols m c 0 (by omega) k j := by
  unfold cols mat
  simp only [V, hostOps0, hostOps0_1, hostOps0_2, List.flatten_cons, List.flatten_nil, List.append_nil, List.cons_append, List.nil_append]
  after_results
  pointwise

theorem iblk1 (t : Fin cfg0.N) (k : Fin 1024) (j : Fin 768) : iblk m c 1 t (ix2 k j) = cols m c 0 (by omega) k j := by
  rw [← V_v1]
  blk_simp [iblk]
  exact congrArg (V m c main_v1) (by blk_ext [index1])

theorem out9_at (x : Vec Ideal S208x1024 .bf16) (w : Vec Ideal S1024x768 .bf16) (r : Fin 208) (j : Fin 768) :
    k0_pay5 (F := Ideal) x w (ix2 r j) = (∑ k, x (ix2 r k) * w (ix2 k j) : EReal) := by
  unfold k0_pay5 k0_pay4
  pointwise

theorem final9 : (dats m 0 c).arrAt 9 cfg0.N = rows m c (cols m c 0 (n := 768) (by omega)) := by
  refine (dats m 0 c).arrAt_eq_of_covers 9 _ (by decide +kernel) fun t hf y => ?_
  blk_simp
  rw [after0_9]; frame_out
  obtain ⟨r, j, rfl⟩ : ∃ (r : Fin 208) (j : Fin 768), y = ix2 r j := ⟨_, _, eq_ix2 y⟩
  have ht : t.val < 20 := t.isLt
  have hr : t.val * 208 + r.val < 4160 := by omega
  rw [show ((View.whole main_v31_0).slice (win0_9.rect t)).emb (ix2 r j) = ix2 ⟨t.val * 208 + r.val, hr⟩ j by blk_ext [index9], out9_at]
  exact entry m c _ t r j hr _ _ (fun k => rfl) (fun k => iblk1 m c t k j)

theorem V_v3 (k : Fin 1024) (j : Fin 768) : V m c main_v3 (ix2 k j) = cols m c 768 (by omega) k j := by
  unfold cols mat
  simp only [V, hostOps0, hostOps0_1, hostOps0_2, List.flatten_cons, List.flatten_nil, List.append_nil, List.cons_append, List.nil_append]
  after_results
  pointwise

theorem iblk2 (t : Fin cfg0.N) (k : Fin 1024) (j : Fin 768) : iblk m c 2 t (ix2 k j) = cols m c 768 (by omega) k j := by
  rw [← V_v3]
  blk_simp [iblk]
  exact congrArg (V m c main_v3) (by blk_ext [index2])

theorem out10_at (x : Vec Ideal S208x1024 .bf16) (w : Vec Ideal S1024x768 .bf16) (r : Fin 208) (j : Fin 768) :
    k0_pay6 (F := Ideal) x w (ix2 r j) = (∑ k, x (ix2 r k) * w (ix2 k j) : EReal) := by
  unfold k0_pay6 k0_pay4
  pointwise

theorem final10 : (dats m 0 c).arrAt 10 cfg0.N = rows m c (cols m c 768 (n := 768) (by omega)) := by
  refine (dats m 0 c).arrAt_eq_of_covers 10 _ (by decide +kernel) fun t hf y => ?_
  blk_simp
  rw [after0_10]; frame_out
  obtain ⟨r, j, rfl⟩ : ∃ (r : Fin 208) (j : Fin 768), y = ix2 r j := ⟨_, _, eq_ix2 y⟩
  have ht : t.val < 20 := t.isLt
  have hr : t.val * 208 + r.val < 4160 := by omega
  rw [show ((View.whole main_v31_1).slice (win0_10.rect t)).emb (ix2 r j) = ix2 ⟨t.val * 208 + r.val, hr⟩ j by blk_ext [index10], out10_at]
  exact entry m c _ t r j hr _ _ (fun k => rfl) (fun k => iblk2 m c t k j)

theorem V_v5 (k : Fin 1024) (j : Fin 1280) : V m c main_v5 (ix2 k j) = cols m c 1536 (by omega) k j := by
  unfold cols mat
  simp only [V, hostOps0, hostOps0_1, hostOps0_2, List.flatten_cons, List.flatten_nil, List.append_nil, List.cons_append, List.nil_append]
  after_results
  pointwise

theorem iblk3 (t : Fin cfg0.N) (k : Fin 1024) (j : Fin 1280) : iblk m c 3 t (ix2 k j) = cols m c 1536 (by omega) k j := by
  rw [← V_v5]
  blk_simp [iblk]
  exact congrArg (V m c main_v5) (by blk_ext [index3])

theorem out11_at (x : Vec Ideal S208x1024 .bf16) (w : Vec Ideal S1024x1280 .bf16) (r : Fin 208) (j : Fin 1280) :
    k0_pay7 (F := Ideal) x w (ix2 r j) = (∑ k, x (ix2 r k) * w (ix2 k j) : EReal) := by
  unfold k0_pay7 k0_pay4
  pointwise

theorem final11 : (dats m 0 c).arrAt 11 cfg0.N = rows m c (cols m c 1536 (n := 1280) (by omega)) := by
  refine (dats m 0 c).arrAt_eq_of_covers 11 _ (by decide +kernel) fun t hf y => ?_
  blk_simp
  rw [after0_11]; frame_out
  obtain ⟨r, j, rfl⟩ : ∃ (r : Fin 208) (j : Fin 1280), y = ix2 r j := ⟨_, _, eq_ix2 y⟩
  have ht : t.val < 20 := t.isLt
  have hr : t.val * 208 + r.val < 4160 := by omega
  rw [show ((View.whole main_v31_2).slice (win0_11.rect t)).emb (ix2 r j) = ix2 ⟨t.val * 208 + r.val, hr⟩ j by blk_ext [index11], out11_at]
  exact entry m c _ t r j hr _ _ (fun k => rfl) (fun k => iblk3 m c t k j)

theorem V_v9 (k : Fin 1024) (j : Fin 768) : V m c main_v9 (ix2 k j) = cols m c 2828 (by omega) k j := by
  unfold cols mat
  simp only [V, hostOps0, hostOps0_1, hostOps0_2, List.flatten_cons, List.flatten_nil, List.append_nil, List.cons_append, List.nil_append]
  after_results
  pointwise

theorem iblk4 (t : Fin cfg0.N) (k : Fin 1024) (j : Fin 768) : iblk m c 4 t (ix2 k j) = cols m c 2828 (by omega) k j := by
  rw [← V_v9]
  blk_simp [iblk]
  exact congrArg (V m c main_v9) (by blk_ext [index4])

theorem out12_at (x : Vec Ideal S208x1024 .bf16) (w : Vec Ideal S1024x768 .bf16) (r : Fin 208) (j : Fin 768) :
    k0_pay8 (F := Ideal) x w (ix2 r j) = (∑ k, x (ix2 r k) * w (ix2 k j) : EReal) := by
  unfold k0_pay8 k0_pay4
  pointwise

theorem final12 : (dats m 0 c).arrAt 12 cfg0.N = rows m c (cols m c 2828 (n := 768) (by omega)) := by
  refine (dats m 0 c).arrAt_eq_of_covers 12 _ (by decide +kernel) fun t hf y => ?_
  blk_simp
  rw [after0_12]; frame_out
  obtain ⟨r, j, rfl⟩ : ∃ (r : Fin 208) (j : Fin 768), y = ix2 r j := ⟨_, _, eq_ix2 y⟩
  have ht : t.val < 20 := t.isLt
  have hr : t.val * 208 + r.val < 4160 := by omega
  rw [show ((View.whole main_v31_3).slice (win0_12.rect t)).emb (ix2 r j) = ix2 ⟨t.val * 208 + r.val, hr⟩ j by blk_ext [index12], out12_at]
  exact entry m c _ t r j hr _ _ (fun k => rfl) (fun k => iblk4 m c t k j)

theorem V_v11 (k : Fin 1024) (j : Fin 2304) : V m c main_v11 (ix2 k j) = cols m c 3596 (by omega) k j := by
  unfold cols mat
  simp only [V, hostOps0, hostOps0_1, hostOps0_2, List.flatten_cons, List.flatten_nil, List.append_nil, List.cons_append, List.nil_append]
  after_results
  pointwise

theorem iblk5 (t : Fin cfg0.N) (k : Fin 1024) (j : Fin 2304) : iblk m c 5 t (ix2 k j) = cols m c 3596 (by omega) k j := by
  rw [← V_v11]
  blk_simp [iblk]
  exact congrArg (V m c main_v11) (by blk_ext [index5])

theorem out13_at (x : Vec Ideal S208x1024 .bf16) (w : Vec Ideal S1024x2304 .bf16) (r : Fin 208) (j : Fin 2304) :
    k0_pay9 (F := Ideal) x w (ix2 r j) = (∑ k, x (ix2 r k) * w (ix2 k j) : EReal) := by
  unfold k0_pay9 k0_pay4
  pointwise

theorem final13 : (dats m 0 c).arrAt 13 cfg0.N = rows m c (cols m c 3596 (n := 2304) (by omega)) := by
  refine (dats m 0 c).arrAt_eq_of_covers 13 _ (by decide +kernel) fun t hf y => ?_
  blk_simp
  rw [after0_13]; frame_out
  obtain ⟨r, j, rfl⟩ : ∃ (r : Fin 208) (j : Fin 2304), y = ix2 r j := ⟨_, _, eq_ix2 y⟩
  have ht : t.val < 20 := t.isLt
  have hr : t.val * 208 + r.val < 4160 := by omega
  rw [show ((View.whole main_v31_4).slice (win0_13.rect t)).emb (ix2 r j) = ix2 ⟨t.val * 208 + r.val, hr⟩ j by blk_ext [index13], out13_at]
  exact entry m c _ t r j hr _ _ (fun k => rfl) (fun k => iblk5 m c t k j)

theorem V_v17 (k : Fin 1024) (j : Fin 768) : V m c main_v17 (ix2 k j) = cols m c 5912 (by omega) k j := by
  unfold cols mat
  simp only [V, hostOps0, hostOps0_1, hostOps0_2, List.flatten_cons, List.flatten_nil, List.append_nil, List.cons_append, List.nil_append]
  after_results
  pointwise

theorem iblk6 (t : Fin cfg0.N) (k : Fin 1024) (j : Fin 768) : iblk m c 6 t (ix2 k j) = cols m c 5912 (by omega) k j := by
  rw [← V_v17]
  blk_simp [iblk]
  exact congrArg (V m c main_v17) (by blk_ext [index6])

theorem out14_at (x : Vec Ideal S208x1024 .bf16) (w : Vec Ideal S1024x768 .bf16) (r : Fin 208) (j : Fin 768) :
    k0_pay1 (F := Ideal) (k0_pay4 x) (k0_pay10 w) (constant S208x768 FTy.f32 0#32) (ix2 r j) = (∑ k, x (ix2 r k) * w (ix2 k j) : EReal) := by
  unfold k0_pay1 k0_pay4 k0_pay10
  pointwise

theorem final14 : (dats m 0 c).arrAt 14 cfg0.N = rows m c (cols m c 5912 (n := 768) (by omega)) := by
  refine (dats m 0 c).arrAt_eq_of_covers 14 _ (by decide +kernel) fun t hf y => ?_
  blk_simp
  rw [after0_14]; unfold_out out0_14; frame_out
  obtain ⟨r, j, rfl⟩ : ∃ (r : Fin 208) (j : Fin 768), y = ix2 r j := ⟨_, _, eq_ix2 y⟩
  have ht : t.val < 20 := t.isLt
  have hr : t.val * 208 + r.val < 4160 := by omega
  rw [show ((View.whole main_v31_5).slice (win0_14.rect t)).emb (ix2 r j) = ix2 ⟨t.val * 208 + r.val, hr⟩ j by blk_ext [index14], out14_at]
  exact entry m c _ t r j hr _ _ (fun k => rfl) (fun k => iblk6 m c t k j)

theorem V_v19 (k : Fin 1024) (j : Fin 3072) : V m c main_v19 (ix2 k j) = cols m c 6680 (by omega) k j := by
  unfold cols mat
  simp only [V, hostOps0, hostOps0_1, hostOps0_2, List.flatten_cons, List.flatten_nil, List.append_nil, List.cons_append, List.nil_append]
  after_results
  pointwise

theorem iblk7 (t : Fin cfg0.N) (k : Fin 1024) (j : Fin 3072) : iblk m c 7 t (ix2 k j) = cols m c 6680 (by omega) k j := by
  rw [← V_v19]
  blk_simp [iblk]
  exact congrArg (V m c main_v19) (by blk_ext [index7])

theorem out15_at (x : Vec Ideal S208x1024 .bf16) (w : Vec Ideal S1024x3072 .bf16) (r : Fin 208) (j : Fin 3072) :
    k0_pay2 (F := Ideal) (k0_pay4 x) w (ix2 r j) = (∑ k, x (ix2 r k) * w (ix2 k j) : EReal) := by
  unfold k0_pay2 k0_pay4
  pointwise

theorem final15 : (dats m 0 c).arrAt 15 cfg0.N = rows m c (cols m c 6680 (n := 3072) (by omega)) := by
  refine (dats m 0 c).arrAt_eq_of_covers 15 _ (by decide +kernel) fun t hf y => ?_
  blk_simp
  rw [after0_15]; unfold_out out0_15; frame_out
  obtain ⟨r, j, rfl⟩ : ∃ (r : Fin 208) (j : Fin 3072), y = ix2 r j := ⟨_, _, eq_ix2 y⟩
  have ht : t.val < 20 := t.isLt
  have hr : t.val * 208 + r.val < 4160 := by omega
  rw [show ((View.whole main_v31_6).slice (win0_15.rect t)).emb (ix2 r j) = ix2 ⟨t.val * 208 + r.val, hr⟩ j by blk_ext [index15], out15_at]
  exact entry m c _ t r j hr _ _ (fun k => rfl) (fun k => iblk7 m c t k j)

theorem iblk8 (t : Fin cfg0.N) (k : Fin 1024) (j : Fin 128) : iblk m c 8 t (ix2 k j) = narrow m c k j := by
  rw [← V_v21]
  blk_simp [iblk]
  exact congrArg (V m c main_v21) (by blk_ext [index8])

theorem out16_at (x : Vec Ideal S208x1024 .bf16) (w : Vec Ideal S1024x128 .bf16) (r : Fin 208) (j : Fin 128) :
    k0_pay3 (F := Ideal) (k0_pay4 x) w (ix2 r j) = (∑ k, x (ix2 r k) * w (ix2 k j) : EReal) := by
  unfold k0_pay3 k0_pay4
  pointwise

theorem final16 : (dats m 0 c).arrAt 16 cfg0.N = rows m c (narrow m c) := by
  refine (dats m 0 c).arrAt_eq_of_covers 16 _ (by decide +kernel) fun t hf y => ?_
  blk_simp
  rw [after0_16]; unfold_out out0_16; frame_out
  obtain ⟨r, j, rfl⟩ : ∃ (r : Fin 208) (j : Fin 128), y = ix2 r j := ⟨_, _, eq_ix2 y⟩
  have ht : t.val < 20 := t.isLt
  have hr : t.val * 208 + r.val < 4160 := by omega
  rw [show ((View.whole main_v31_7).slice (win0_16.rect t)).emb (ix2 r j) = ix2 ⟨t.val * 208 + r.val, hr⟩ j by blk_ext [index16], out16_at]
  exact entry m c _ t r j hr _ _ (fun k => rfl) (fun k => iblk8 m c t k j)

end Cert.Products.Fwd
-- ==== Proof.Products.FwdRef.lean ====
/- The shared projection forward by its reference: the same groups of columns of one product. -/
module

public import proofs.«01_k».proof.Proof.Products.Fwd

@[expose] public section

noncomputable section

namespace Cert.Products.Fwd

open Idealize.ShloMosaic Idealize.ShloMosaic.TcCoe Idealize.ShloMosaic.StableHlo Idealize.SL.Sem Cert.InFwdIdeal Cert.InFwdIdeal.Gen
open Cert.InFwdRefIdeal.Read

variable (m : (ℓ : Loc nD τ sig) → Buf (Elt Ideal) ℓ) (c : Dev nD)
variable (x0 : (⟨S4160x1024, .f32⟩ : BufTy).Contents (Elt Ideal)) (x1 : (⟨S1024x9752, .f32⟩ : BufTy).Contents (Elt Ideal))
  (h0 : x0 = m ((c : Thread nD τ).loc main_arg0)) (h1 : x1 = m ((c : Thread nD τ).loc main_arg1))
include h0 h1

theorem product (r : Fin 4160) (j : Fin 9752) : val_main_v0 (F := Ideal) x0 x1 (ix2 r j) = (∑ k, hid m c r k * mat m c k j : EReal) := by
  subst h0 h1
  unfold val_main_v0 hid mat
  pointwise

/-- A slice of the product is the rows against the slice's columns. -/
theorem slice {n : ℕ} (o : ℕ) (h : o + n ≤ 9752) (v : (Shape.mk 2 ![4160, n]).Idx → EReal)
    (hv : ∀ (r : Fin 4160) (j : Fin n), v (ix2 r j) = val_main_v0 (F := Ideal) x0 x1 (ix2 r ⟨o + j.val, by omega⟩)) : v = rows m c (cols m c o h) := by
  funext i
  obtain ⟨r, j, rfl⟩ : ∃ (r : Fin 4160) (j : Fin n), i = ix2 r j := ⟨_, _, eq_ix2 i⟩
  rw [hv, product m c x0 x1 h0 h1]
  rfl

theorem equal9 : val_main_v1 (F := Ideal) x0 x1 = (dats m 0 c).arrAt 9 cfg0.N :=
  (slice m c x0 x1 h0 h1 0 (by omega) _ fun r j => by unfold val_main_v1; pointwise).trans (final9 m c).symm

theorem equal10 : val_main_v2 (F := Ideal) x0 x1 = (dats m 0 c).arrAt 10 cfg0.N :=
  (slice m c x0 x1 h0 h1 768 (by omega) _ fun r j => by unfold val_main_v2; pointwise).trans (final10 m c).symm

theorem equal11 : val_main_v3 (F := Ideal) x0 x1 = (dats m 0 c).arrAt 11 cfg0.N :=
  (slice m c x0 x1 h0 h1 1536 (by omega) _ fun r j => by unfold val_main_v3; pointwise).trans (final11 m c).symm

theorem equal12 : val_main_v5 (F := Ideal) x0 x1 = (dats m 0 c).arrAt 12 cfg0.N :=
  (slice m c x0 x1 h0 h1 2828 (by omega) _ fun r j => by unfold val_main_v5; pointwise).trans (final12 m c).symm

theorem equal13 : val_main_v6 (F := Ideal) x0 x1 = (dats m 0 c).arrAt 13 cfg0.N :=
  (slice m c x0 x1 h0 h1 3596 (by omega) _ fun r j => by unfold val_main_v6; pointwise).trans (final13 m c).symm

theorem equal14 : val_main_v9 (F := Ideal) x0 x1 = (dats m 0 c).arrAt 14 cfg0.N :=
  (slice m c x0 x1 h0 h1 5912 (by omega) _ fun r j => by unfold val_main_v9; pointwise).trans (final14 m c).symm

theorem equal15 : val_main_v10 (F := Ideal) x0 x1 = (dats m 0 c).arrAt 15 cfg0.N :=
  (slice m c x0 x1 h0 h1 6680 (by omega) _ fun r j => by unfold val_main_v10; pointwise).trans (final15 m c).symm

theorem equal16 : val_main_v12 (F := Ideal) x0 x1 = (dats m 0 c).arrAt 16 cfg0.N := by
  refine Eq.trans ?_ (final16 m c).symm
  funext i
  obtain ⟨r, j, rfl⟩ : ∃ (r : Fin 4160) (j : Fin 128), i = ix2 r j := ⟨_, _, eq_ix2 i⟩
  have hp := product m c x0 x1 h0 h1
  unfold val_main_v12 val_main_v11 val_main_v4 val_main_v7 val_main_v8
  generalize val_main_v0 (F := Ideal) x0 x1 = y at *
  show _ = (∑ k, hid m c r k * narrow m c k j : EReal)
  unfold narrow
  pointwise
  by_cases h1 : j.val < 12
  · rw [dif_pos (show j.val < 24 by omega), dif_pos h1, hp]
    exact Finset.sum_congr rfl fun k _ => by rw [dif_pos h1]
  by_cases h2 : j.val < 18
  · rw [dif_pos (show j.val < 24 by omega), dif_neg h1, dif_pos (show j.val - 12 < 6 by omega), hp]
    exact Finset.sum_congr rfl fun k _ => by rw [dif_neg h1, dif_pos h2]
  by_cases h3 : j.val < 24
  · rw [dif_pos h3, dif_neg h1, dif_neg (show ¬ j.val - 12 < 6 by omega), hp]
    refine Finset.sum_congr rfl fun k _ => ?_
    rw [dif_neg h1, dif_neg h2, dif_pos h3]
    exact congrArg (hid m c r k * mat m c k ·) (Fin.ext (show 5906 + (j.val - 12 - 6) = 5906 + (j.val - 18) by omega))
  · rw [dif_neg h3]
    refine Eq.trans ?_ (Finset.sum_eq_zero fun k _ => ?_).symm
    · show ((((0#32 : BitVec 32).toInt : ℝ) : EReal)) = 0
      norm_num
    · rw [dif_neg h1, dif_neg h2, dif_neg h3, mul_zero]

end Cert.Products.Fwd
-- ==== Proof.Products.DbGate.lean ====
/- The weight gradient of 3072 columns of the shared projection: the rows are taken 416 at a time, ten blocks, the products
   added to one running total that starts at zero. -/
module

public import proofs.«01_k».proof.Proof.Products.Sums
public import proofs.«01_k».proof.Proof.Gen.DbGateIdeal.Value
public import proofs.«01_k».proof.Proof.Gen.DbGateRefIdeal.Run
public import proofs.«01_k».proof.Proof.Gen.DbGateRefIdeal.Read
public import Idealize.ShloMosaic.Lib.Pointwise
public import Idealize.ShloMosaic.Lib.Pipeline.ValueKit.Geometry

@[expose] public section

noncomputable section

namespace Cert.Products.DbGate

open Idealize.ShloMosaic Idealize.ShloMosaic.TcCoe Idealize.ShloMosaic.StableHlo Idealize.SL.Sem Cert.DbGateIdeal Cert.DbGateIdeal.Gen

variable (m : (ℓ : Loc nD τ sig) → Buf (Elt Ideal) ℓ) (c : Dev nD)

/-- The two arguments, the rows and their cotangent. -/
def hid (r : Fin 4160) (j : Fin 1024) : EReal := m ((c : Thread nD τ).loc main_arg0) (ix2 r j)
def ct (r : Fin 4160) (j : Fin 3072) : EReal := m ((c : Thread nD τ).loc main_arg1) (ix2 r j)

/-- One row's product. -/
def term (i : S1x1024x3072.Idx) (r : Fin 4160) : EReal := hid m c r (i 1) * ct m c r (i 2)

theorem V_v0 (r : Fin 4160) (j : Fin 1024) : V m c main_v0 (ix2 r j) = hid m c r j := by
  unfold hid
  unfold_abbrev_sides
  after_results
  pointwise

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)

theorem iblk0 (t : Fin cfg0.N) (r : Fin 416) (j : Fin 1024) (h : t.val * 416 + r.val < 4160) :
    iblk m c 0 t (ix2 r j) = hid m c ⟨t.val * 416 + r.val, h⟩ j := by
  rw [← V_v0]
  blk_simp [iblk]
  exact congrArg (V m c main_v0) (by blk_ext [index0])

theorem iblk1 (t : Fin cfg0.N) (r : Fin 416) (j : Fin 3072) (h : t.val * 416 + r.val < 4160) :
    iblk m c 1 t (ix2 r j) = ct m c ⟨t.val * 416 + r.val, h⟩ j := by
  unfold ct
  rw [← V_main_arg1 m c]
  blk_simp [iblk]
  exact congrArg (V m c main_arg1) (by blk_ext [index1])

/-- What one point adds. -/
theorem pay2_at (acc : Vec Ideal S1x1024x3072 .f32) (x : Vec Ideal S416x1024 .bf16) (y : Vec Ideal S416x3072 .f32) (i : Fin 1024)
    (j : Fin 3072) : k0_pay2 (F := Ideal) acc x y (ix3 0 i j) = acc (ix3 0 i j) + ∑ r : Fin 416, x (ix2 r i) * y (ix2 r j) := by
  unfold k0_pay2
  pointwise

theorem step (acc : Vec Ideal S1x1024x3072 .f32) (n : ℕ) (h : n < cfg0.N) (i : S1x1024x3072.Idx) :
    k0_pay2 (F := Ideal) acc (iblk m c 0 ⟨n, h⟩) (iblk m c 1 ⟨n, h⟩) i
      = acc i + ∑ r : Fin 416, onNat (term m c i) (n * 416 + r.val) := by
  obtain ⟨u, x, y, rfl⟩ : ∃ (u : Fin 1) (x : Fin 1024) (y : Fin 3072), i = ix3 u x y := ⟨_, _, _, eq_ix3 i⟩
  obtain rfl : u = 0 := Subsingleton.elim _ _
  rw [pay2_at]
  refine congrArg _ (Finset.sum_congr rfl fun r _ => ?_)
  have hn : n < 10 := h
  have hr : n * 416 + r.val < 4160 := by omega
  rw [onNat_lt _ _ hr, iblk0 m c ⟨n, h⟩ r x hr, iblk1 m c ⟨n, h⟩ r y hr]
  rfl

/-- The kernel's result. -/
theorem total (i : S1x1024x3072.Idx) : Value.G2 m c i = (∑ r, term m c i r : EReal) := by
  obtain ⟨u, x, y, rfl⟩ : ∃ (u : Fin 1) (x : Fin 1024) (y : Fin 3072), i = ix3 u x y := ⟨_, _, _, eq_ix3 i⟩
  obtain rfl : u = 0 := Subsingleton.elim _ _
  have h0 : Value.run2Of (ix3 0 x y) = 0 := by
    show 1 * (0 / 1 - 0) + 1 * (x.val / 1024 - 0) + 1 * (y.val / 3072 - 0) = 0; omega
  have hl : Value.loc2Of (ix3 0 x y) = ix3 0 x y := by
    funext a
    match a with
    | ⟨0, _⟩ => rfl
    | ⟨1, _⟩ => exact Fin.ext (Nat.mod_eq_of_lt x.isLt)
    | ⟨2, _⟩ => exact Fin.ext (Nat.mod_eq_of_lt y.isLt)
  unfold Value.G2
  rw [dif_pos (by rw [h0]; decide), hl, accumulated (Value.reset2 m c) (Value.step2 m c) (fun i => onNat (term m c i)) (B := 416)
    (fun h i => (step m c _ 0 h i).trans ?_) (fun n h acc i => step m c acc n h i) _ _ _ (by rw [h0])]
  · exact sum_onNat (term m c (ix3 0 x y))
  · rw [show k0_pay1 (F := Ideal) i = 0 from by unfold k0_pay1; pointwise, zero_add]

/-- The reference's result at an index. -/
theorem reference (x0 : (⟨S4160x1024, .f32⟩ : BufTy).Contents (Elt Ideal)) (x1 : (⟨S4160x3072, .f32⟩ : BufTy).Contents (Elt Ideal))
    (i : Fin 1024) (j : Fin 3072) : DbGateRefIdeal.Read.val_main_v4 (F := Ideal) x0 x1 (ix3 0 i j) = ∑ r : Fin 4160, x1 (ix2 r j) * x0 (ix2 r i) := by
  unfold DbGateRefIdeal.Read.val_main_v4 DbGateRefIdeal.Read.val_main_v3 DbGateRefIdeal.Read.val_main_v2
  pointwise

/-- The two agree on the same arguments. -/
theorem equal (x0 : (⟨S4160x1024, .f32⟩ : BufTy).Contents (Elt Ideal)) (x1 : (⟨S4160x3072, .f32⟩ : BufTy).Contents (Elt Ideal))
    (h0 : x0 = m ((c : Thread nD τ).loc main_arg0)) (h1 : x1 = m ((c : Thread nD τ).loc main_arg1)) :
    DbGateRefIdeal.Read.val_main_v4 (F := Ideal) x0 x1 = Value.G2 m c := by
  subst h0 h1
  funext i
  obtain ⟨u, x, y, rfl⟩ : ∃ (u : Fin 1) (x : Fin 1024) (y : Fin 3072), i = ix3 u x y := ⟨_, _, _, eq_ix3 i⟩
  obtain rfl : u = 0 := Subsingleton.elim _ _
  exact ((reference ..).trans (Finset.sum_congr rfl fun r _ => mul_comm _ _)).trans (total m c (ix3 0 x y)).symm

end Cert.Products.DbGate
-- ==== Proof.Products.DbQkv.lean ====
/- The weight gradient of 2304 columns of the shared projection: the rows are taken 416 at a time, ten blocks, the products
   added to one running total that starts at zero. -/
module

public import proofs.«01_k».proof.Proof.Products.Sums
public import proofs.«01_k».proof.Proof.Gen.DbQkvIdeal.Value
public import proofs.«01_k».proof.Proof.Gen.DbQkvRefIdeal.Run
public import proofs.«01_k».proof.Proof.Gen.DbQkvRefIdeal.Read
public import Idealize.ShloMosaic.Lib.Pointwise
public import Idealize.ShloMosaic.Lib.Pipeline.ValueKit.Geometry

@[expose] public section

noncomputable section

namespace Cert.Products.DbQkv

open Idealize.ShloMosaic Idealize.ShloMosaic.TcCoe Idealize.ShloMosaic.StableHlo Idealize.SL.Sem Cert.DbQkvIdeal Cert.DbQkvIdeal.Gen

variable (m : (ℓ : Loc nD τ sig) → Buf (Elt Ideal) ℓ) (c : Dev nD)

/-- The two arguments, the rows and their cotangent. -/
def hid (r : Fin 4160) (j : Fin 1024) : EReal := m ((c : Thread nD τ).loc main_arg0) (ix2 r j)
def ct (r : Fin 4160) (j : Fin 2304) : EReal := m ((c : Thread nD τ).loc main_arg1) (ix2 r j)

/-- One row's product. -/
def term (i : S1x1024x2304.Idx) (r : Fin 4160) : EReal := hid m c r (i 1) * ct m c r (i 2)

theorem V_v0 (r : Fin 4160) (j : Fin 1024) : V m c main_v0 (ix2 r j) = hid m c r j := by
  unfold hid
  unfold_abbrev_sides
  after_results
  pointwise

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)

theorem iblk0 (t : Fin cfg0.N) (r : Fin 416) (j : Fin 1024) (h : t.val * 416 + r.val < 4160) :
    iblk m c 0 t (ix2 r j) = hid m c ⟨t.val * 416 + r.val, h⟩ j := by
  rw [← V_v0]
  blk_simp [iblk]
  exact congrArg (V m c main_v0) (by blk_ext [index0])

theorem iblk1 (t : Fin cfg0.N) (r : Fin 416) (j : Fin 2304) (h : t.val * 416 + r.val < 4160) :
    iblk m c 1 t (ix2 r j) = ct m c ⟨t.val * 416 + r.val, h⟩ j := by
  unfold ct
  rw [← V_main_arg1 m c]
  blk_simp [iblk]
  exact congrArg (V m c main_arg1) (by blk_ext [index1])

/-- What one point adds. -/
theorem pay2_at (acc : Vec Ideal S1x1024x2304 .f32) (x : Vec Ideal S416x1024 .bf16) (y : Vec Ideal S416x2304 .f32) (i : Fin 1024)
    (j : Fin 2304) : k0_pay2 (F := Ideal) acc x y (ix3 0 i j) = acc (ix3 0 i j) + ∑ r : Fin 416, x (ix2 r i) * y (ix2 r j) := by
  unfold k0_pay2
  pointwise

theorem step (acc : Vec Ideal S1x1024x2304 .f32) (n : ℕ) (h : n < cfg0.N) (i : S1x1024x2304.Idx) :
    k0_pay2 (F := Ideal) acc (iblk m c 0 ⟨n, h⟩) (iblk m c 1 ⟨n, h⟩) i
      = acc i + ∑ r : Fin 416, onNat (term m c i) (n * 416 + r.val) := by
  obtain ⟨u, x, y, rfl⟩ : ∃ (u : Fin 1) (x : Fin 1024) (y : Fin 2304), i = ix3 u x y := ⟨_, _, _, eq_ix3 i⟩
  obtain rfl : u = 0 := Subsingleton.elim _ _
  rw [pay2_at]
  refine congrArg _ (Finset.sum_congr rfl fun r _ => ?_)
  have hn : n < 10 := h
  have hr : n * 416 + r.val < 4160 := by omega
  rw [onNat_lt _ _ hr, iblk0 m c ⟨n, h⟩ r x hr, iblk1 m c ⟨n, h⟩ r y hr]
  rfl

/-- The kernel's result. -/
theorem total (i : S1x1024x2304.Idx) : Value.G2 m c i = (∑ r, term m c i r : EReal) := by
  obtain ⟨u, x, y, rfl⟩ : ∃ (u : Fin 1) (x : Fin 1024) (y : Fin 2304), i = ix3 u x y := ⟨_, _, _, eq_ix3 i⟩
  obtain rfl : u = 0 := Subsingleton.elim _ _
  have h0 : Value.run2Of (ix3 0 x y) = 0 := by
    show 1 * (0 / 1 - 0) + 1 * (x.val / 1024 - 0) + 1 * (y.val / 2304 - 0) = 0; omega
  have hl : Value.loc2Of (ix3 0 x y) = ix3 0 x y := by
    funext a
    match a with
    | ⟨0, _⟩ => rfl
    | ⟨1, _⟩ => exact Fin.ext (Nat.mod_eq_of_lt x.isLt)
    | ⟨2, _⟩ => exact Fin.ext (Nat.mod_eq_of_lt y.isLt)
  unfold Value.G2
  rw [dif_pos (by rw [h0]; decide), hl, accumulated (Value.reset2 m c) (Value.step2 m c) (fun i => onNat (term m c i)) (B := 416)
    (fun h i => (step m c _ 0 h i).trans ?_) (fun n h acc i => step m c acc n h i) _ _ _ (by rw [h0])]
  · exact sum_onNat (term m c (ix3 0 x y))
  · rw [show k0_pay1 (F := Ideal) i = 0 from by unfold k0_pay1; pointwise, zero_add]

/-- The reference's result at an index. -/
theorem reference (x0 : (⟨S4160x1024, .f32⟩ : BufTy).Contents (Elt Ideal)) (x1 : (⟨S4160x2304, .f32⟩ : BufTy).Contents (Elt Ideal))
    (i : Fin 1024) (j : Fin 2304) : DbQkvRefIdeal.Read.val_main_v4 (F := Ideal) x0 x1 (ix3 0 i j) = ∑ r : Fin 4160, x1 (ix2 r j) * x0 (ix2 r i) := by
  unfold DbQkvRefIdeal.Read.val_main_v4 DbQkvRefIdeal.Read.val_main_v3 DbQkvRefIdeal.Read.val_main_v2
  pointwise

/-- The two agree on the same arguments. -/
theorem equal (x0 : (⟨S4160x1024, .f32⟩ : BufTy).Contents (Elt Ideal)) (x1 : (⟨S4160x2304, .f32⟩ : BufTy).Contents (Elt Ideal))
    (h0 : x0 = m ((c : Thread nD τ).loc main_arg0)) (h1 : x1 = m ((c : Thread nD τ).loc main_arg1)) :
    DbQkvRefIdeal.Read.val_main_v4 (F := Ideal) x0 x1 = Value.G2 m c := by
  subst h0 h1
  funext i
  obtain ⟨u, x, y, rfl⟩ : ∃ (u : Fin 1) (x : Fin 1024) (y : Fin 2304), i = ix3 u x y := ⟨_, _, _, eq_ix3 i⟩
  obtain rfl : u = 0 := Subsingleton.elim _ _
  exact ((reference ..).trans (Finset.sum_congr rfl fun r _ => mul_comm _ _)).trans (total m c (ix3 0 x y)).symm

end Cert.Products.DbQkv
-- ==== Proof.Products.DbXbc.lean ====
/- The weight gradient of 1280 columns of the shared projection: the rows are taken 832 at a time, five blocks, the products
   added to one running total that starts at zero. -/
module

public import proofs.«01_k».proof.Proof.Products.Sums
public import proofs.«01_k».proof.Proof.Gen.DbXbcIdeal.Value
public import proofs.«01_k».proof.Proof.Gen.DbXbcRefIdeal.Run
public import proofs.«01_k».proof.Proof.Gen.DbXbcRefIdeal.Read
public import Idealize.ShloMosaic.Lib.Pointwise
public import Idealize.ShloMosaic.Lib.Pipeline.ValueKit.Geometry

@[expose] public section

noncomputable section

namespace Cert.Products.DbXbc

open Idealize.ShloMosaic Idealize.ShloMosaic.TcCoe Idealize.ShloMosaic.StableHlo Idealize.SL.Sem Cert.DbXbcIdeal Cert.DbXbcIdeal.Gen

variable (m : (ℓ : Loc nD τ sig) → Buf (Elt Ideal) ℓ) (c : Dev nD)

/-- The two arguments, the rows and their cotangent. -/
def hid (r : Fin 4160) (j : Fin 1024) : EReal := m ((c : Thread nD τ).loc main_arg0) (ix2 r j)
def ct (r : Fin 4160) (j : Fin 1280) : EReal := m ((c : Thread nD τ).loc main_arg1) (ix2 r j)

/-- One row's product. -/
def term (i : S1x1024x1280.Idx) (r : Fin 4160) : EReal := hid m c r (i 1) * ct m c r (i 2)

theorem V_v0 (r : Fin 4160) (j : Fin 1024) : V m c main_v0 (ix2 r j) = hid m c r j := by
  unfold hid
  unfold_abbrev_sides
  after_results
  pointwise

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)

theorem iblk0 (t : Fin cfg0.N) (r : Fin 832) (j : Fin 1024) (h : t.val * 832 + r.val < 4160) :
    iblk m c 0 t (ix2 r j) = hid m c ⟨t.val * 832 + r.val, h⟩ j := by
  rw [← V_v0]
  blk_simp [iblk]
  exact congrArg (V m c main_v0) (by blk_ext [index0])

theorem iblk1 (t : Fin cfg0.N) (r : Fin 832) (j : Fin 1280) (h : t.val * 832 + r.val < 4160) :
    iblk m c 1 t (ix2 r j) = ct m c ⟨t.val * 832 + r.val, h⟩ j := by
  unfold ct
  rw [← V_main_arg1 m c]
  blk_simp [iblk]
  exact congrArg (V m c main_arg1) (by blk_ext [index1])

/-- What one point adds. -/
theorem pay2_at (acc : Vec Ideal S1x1024x1280 .f32) (x : Vec Ideal S832x1024 .bf16) (y : Vec Ideal S832x1280 .f32) (i : Fin 1024)
    (j : Fin 1280) : k0_pay2 (F := Ideal) acc x y (ix3 0 i j) = acc (ix3 0 i j) + ∑ r : Fin 832, x (ix2 r i) * y (ix2 r j) := by
  unfold k0_pay2
  pointwise

theorem step (acc : Vec Ideal S1x1024x1280 .f32) (n : ℕ) (h : n < cfg0.N) (i : S1x1024x1280.Idx) :
    k0_pay2 (F := Ideal) acc (iblk m c 0 ⟨n, h⟩) (iblk m c 1 ⟨n, h⟩) i
      = acc i + ∑ r : Fin 832, onNat (term m c i) (n * 832 + r.val) := by
  obtain ⟨u, x, y, rfl⟩ : ∃ (u : Fin 1) (x : Fin 1024) (y : Fin 1280), i = ix3 u x y := ⟨_, _, _, eq_ix3 i⟩
  obtain rfl : u = 0 := Subsingleton.elim _ _
  rw [pay2_at]
  refine congrArg _ (Finset.sum_congr rfl fun r _ => ?_)
  have hn : n < 5 := h
  have hr : n * 832 + r.val < 4160 := by omega
  rw [onNat_lt _ _ hr, iblk0 m c ⟨n, h⟩ r x hr, iblk1 m c ⟨n, h⟩ r y hr]
  rfl

/-- The kernel's result. -/
theorem total (i : S1x1024x1280.Idx) : Value.G2 m c i = (∑ r, term m c i r : EReal) := by
  obtain ⟨u, x, y, rfl⟩ : ∃ (u : Fin 1) (x : Fin 1024) (y : Fin 1280), i = ix3 u x y := ⟨_, _, _, eq_ix3 i⟩
  obtain rfl : u = 0 := Subsingleton.elim _ _
  have h0 : Value.run2Of (ix3 0 x y) = 0 := by
    show 1 * (0 / 1 - 0) + 1 * (x.val / 1024 - 0) + 1 * (y.val / 1280 - 0) = 0; omega
  have hl : Value.loc2Of (ix3 0 x y) = ix3 0 x y := by
    funext a
    match a with
    | ⟨0, _⟩ => rfl
    | ⟨1, _⟩ => exact Fin.ext (Nat.mod_eq_of_lt x.isLt)
    | ⟨2, _⟩ => exact Fin.ext (Nat.mod_eq_of_lt y.isLt)
  unfold Value.G2
  rw [dif_pos (by rw [h0]; decide), hl, accumulated (Value.reset2 m c) (Value.step2 m c) (fun i => onNat (term m c i)) (B := 832)
    (fun h i => (step m c _ 0 h i).trans ?_) (fun n h acc i => step m c acc n h i) _ _ _ (by rw [h0])]
  · exact sum_onNat (term m c (ix3 0 x y))
  · rw [show k0_pay1 (F := Ideal) i = 0 from by unfold k0_pay1; pointwise, zero_add]

/-- The reference's result at an index. -/
theorem reference (x0 : (⟨S4160x1024, .f32⟩ : BufTy).Contents (Elt Ideal)) (x1 : (⟨S4160x1280, .f32⟩ : BufTy).Contents (Elt Ideal))
    (i : Fin 1024) (j : Fin 1280) : DbXbcRefIdeal.Read.val_main_v4 (F := Ideal) x0 x1 (ix3 0 i j) = ∑ r : Fin 4160, x1 (ix2 r j) * x0 (ix2 r i) := by
  unfold DbXbcRefIdeal.Read.val_main_v4 DbXbcRefIdeal.Read.val_main_v3 DbXbcRefIdeal.Read.val_main_v2
  pointwise

/-- The two agree on the same arguments. -/
theorem equal (x0 : (⟨S4160x1024, .f32⟩ : BufTy).Contents (Elt Ideal)) (x1 : (⟨S4160x1280, .f32⟩ : BufTy).Contents (Elt Ideal))
    (h0 : x0 = m ((c : Thread nD τ).loc main_arg0)) (h1 : x1 = m ((c : Thread nD τ).loc main_arg1)) :
    DbXbcRefIdeal.Read.val_main_v4 (F := Ideal) x0 x1 = Value.G2 m c := by
  subst h0 h1
  funext i
  obtain ⟨u, x, y, rfl⟩ : ∃ (u : Fin 1) (x : Fin 1024) (y : Fin 1280), i = ix3 u x y := ⟨_, _, _, eq_ix3 i⟩
  obtain rfl : u = 0 := Subsingleton.elim _ _
  exact ((reference ..).trans (Finset.sum_congr rfl fun r _ => mul_comm _ _)).trans (total m c (ix3 0 x y)).symm

end Cert.Products.DbXbc
-- ==== Proof.Products.DbS5u.lean ====
/- The weight gradient of 768 columns of the shared projection: the rows are taken 832 at a time, five blocks, the products
   added to one running total that starts at zero. -/
module

public import proofs.«01_k».proof.Proof.Products.Sums
public import proofs.«01_k».proof.Proof.Gen.DbS5uIdeal.Value
public import proofs.«01_k».proof.Proof.Gen.DbS5uRefIdeal.Run
public import proofs.«01_k».proof.Proof.Gen.DbS5uRefIdeal.Read
public import Idealize.ShloMosaic.Lib.Pointwise
public import Idealize.ShloMosaic.Lib.Pipeline.ValueKit.Geometry

@[expose] public section

noncomputable section

namespace Cert.Products.DbS5u

open Idealize.ShloMosaic Idealize.ShloMosaic.TcCoe Idealize.ShloMosaic.StableHlo Idealize.SL.Sem Cert.DbS5uIdeal Cert.DbS5uIdeal.Gen

variable (m : (ℓ : Loc nD τ sig) → Buf (Elt Ideal) ℓ) (c : Dev nD)

/-- The two arguments, the rows and their cotangent. -/
def hid (r : Fin 4160) (j : Fin 1024) : EReal := m ((c : Thread nD τ).loc main_arg0) (ix2 r j)
def ct (r : Fin 4160) (j : Fin 768) : EReal := m ((c : Thread nD τ).loc main_arg1) (ix2 r j)

/-- One row's product. -/
def term (i : S1x1024x768.Idx) (r : Fin 4160) : EReal := hid m c r (i 1) * ct m c r (i 2)

theorem V_v0 (r : Fin 4160) (j : Fin 1024) : V m c main_v0 (ix2 r j) = hid m c r j := by
  unfold hid
  unfold_abbrev_sides
  after_results
  pointwise

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)

theorem iblk0 (t : Fin cfg0.N) (r : Fin 832) (j : Fin 1024) (h : t.val * 832 + r.val < 4160) :
    iblk m c 0 t (ix2 r j) = hid m c ⟨t.val * 832 + r.val, h⟩ j := by
  rw [← V_v0]
  blk_simp [iblk]
  exact congrArg (V m c main_v0) (by blk_ext [index0])

theorem iblk1 (t : Fin cfg0.N) (r : Fin 832) (j : Fin 768) (h : t.val * 832 + r.val < 4160) :
    iblk m c 1 t (ix2 r j) = ct m c ⟨t.val * 832 + r.val, h⟩ j := by
  unfold ct
  rw [← V_main_arg1 m c]
  blk_simp [iblk]
  exact congrArg (V m c main_arg1) (by blk_ext [index1])

/-- What one point adds. -/
theorem pay2_at (acc : Vec Ideal S1x1024x768 .f32) (x : Vec Ideal S832x1024 .bf16) (y : Vec Ideal S832x768 .f32) (i : Fin 1024)
    (j : Fin 768) : k0_pay2 (F := Ideal) acc x y (ix3 0 i j) = acc (ix3 0 i j) + ∑ r : Fin 832, x (ix2 r i) * y (ix2 r j) := by
  unfold k0_pay2
  pointwise

theorem step (acc : Vec Ideal S1x1024x768 .f32) (n : ℕ) (h : n < cfg0.N) (i : S1x1024x768.Idx) :
    k0_pay2 (F := Ideal) acc (iblk m c 0 ⟨n, h⟩) (iblk m c 1 ⟨n, h⟩) i
      = acc i + ∑ r : Fin 832, onNat (term m c i) (n * 832 + r.val) := by
  obtain ⟨u, x, y, rfl⟩ : ∃ (u : Fin 1) (x : Fin 1024) (y : Fin 768), i = ix3 u x y := ⟨_, _, _, eq_ix3 i⟩
  obtain rfl : u = 0 := Subsingleton.elim _ _
  rw [pay2_at]
  refine congrArg _ (Finset.sum_congr rfl fun r _ => ?_)
  have hn : n < 5 := h
  have hr : n * 832 + r.val < 4160 := by omega
  rw [onNat_lt _ _ hr, iblk0 m c ⟨n, h⟩ r x hr, iblk1 m c ⟨n, h⟩ r y hr]
  rfl

/-- The kernel's result. -/
theorem total (i : S1x1024x768.Idx) : Value.G2 m c i = (∑ r, term m c i r : EReal) := by
  obtain ⟨u, x, y, rfl⟩ : ∃ (u : Fin 1) (x : Fin 1024) (y : Fin 768), i = ix3 u x y := ⟨_, _, _, eq_ix3 i⟩
  obtain rfl : u = 0 := Subsingleton.elim _ _
  have h0 : Value.run2Of (ix3 0 x y) = 0 := by
    show 1 * (0 / 1 - 0) + 1 * (x.val / 1024 - 0) + 1 * (y.val / 768 - 0) = 0; omega
  have hl : Value.loc2Of (ix3 0 x y) = ix3 0 x y := by
    funext a
    match a with
    | ⟨0, _⟩ => rfl
    | ⟨1, _⟩ => exact Fin.ext (Nat.mod_eq_of_lt x.isLt)
    | ⟨2, _⟩ => exact Fin.ext (Nat.mod_eq_of_lt y.isLt)
  unfold Value.G2
  rw [dif_pos (by rw [h0]; decide), hl, accumulated (Value.reset2 m c) (Value.step2 m c) (fun i => onNat (term m c i)) (B := 832)
    (fun h i => (step m c _ 0 h i).trans ?_) (fun n h acc i => step m c acc n h i) _ _ _ (by rw [h0])]
  · exact sum_onNat (term m c (ix3 0 x y))
  · rw [show k0_pay1 (F := Ideal) i = 0 from by unfold k0_pay1; pointwise, zero_add]

/-- The reference's result at an index. -/
theorem reference (x0 : (⟨S4160x1024, .f32⟩ : BufTy).Contents (Elt Ideal)) (x1 : (⟨S4160x768, .f32⟩ : BufTy).Contents (Elt Ideal))
    (i : Fin 1024) (j : Fin 768) : DbS5uRefIdeal.Read.val_main_v4 (F := Ideal) x0 x1 (ix3 0 i j) = ∑ r : Fin 4160, x1 (ix2 r j) * x0 (ix2 r i) := by
  unfold DbS5uRefIdeal.Read.val_main_v4 DbS5uRefIdeal.Read.val_main_v3 DbS5uRefIdeal.Read.val_main_v2
  pointwise

/-- The two agree on the same arguments. -/
theorem equal (x0 : (⟨S4160x1024, .f32⟩ : BufTy).Contents (Elt Ideal)) (x1 : (⟨S4160x768, .f32⟩ : BufTy).Contents (Elt Ideal))
    (h0 : x0 = m ((c : Thread nD τ).loc main_arg0)) (h1 : x1 = m ((c : Thread nD τ).loc main_arg1)) :
    DbS5uRefIdeal.Read.val_main_v4 (F := Ideal) x0 x1 = Value.G2 m c := by
  subst h0 h1
  funext i
  obtain ⟨u, x, y, rfl⟩ : ∃ (u : Fin 1) (x : Fin 1024) (y : Fin 768), i = ix3 u x y := ⟨_, _, _, eq_ix3 i⟩
  obtain rfl : u = 0 := Subsingleton.elim _ _
  exact ((reference ..).trans (Finset.sum_congr rfl fun r _ => mul_comm _ _)).trans (total m c (ix3 0 x y)).symm

end Cert.Products.DbS5u
-- ==== Proof.S5.Row.lean ====
/- One row of the S5 branch's tail and its gradient, as plain functions on the extended reals. `Par` holds what all rows
   share (skip weight, gate bias, gate matrix, branch matrix), `RowIn` what belongs to one row (the recurrence's result, its
   input, the branch's gate logits, the cotangent of the branch's result). The second half is the chain rule written out in
   the order of the forward pass reversed; both the kernel and the reference are read to these. -/
module

public import Idealize.ShloMosaic.Lib.ValueIdx
public import Idealize.ShloMosaic.Lib.Pointwise
public import Idealize.ShloMosaic.PureOps.Ideal.Laws

@[expose] public section

noncomputable section

namespace Cert.S5

open Idealize.ShloMosaic

structure Par where
  d : Fin 768 → EReal
  bg : Fin 768 → EReal
  wg : Fin 768 → Fin 768 → EReal
  wb : Fin 768 → Fin 1024 → EReal

structure RowIn where
  y : Fin 768 → EReal
  u : Fin 768 → EReal
  z : Fin 768 → EReal
  ct : Fin 1024 → EReal

/-- The constants of the tanh form of GELU, as their words read: one half, three, 0.044715, the square root of 2/π. -/
abbrev cHalf : EReal := Ideal.ofBits .f32 0x3F000000#32
abbrev cThree : EReal := Ideal.ofBits .f32 0x40400000#32
abbrev cCube : EReal := Ideal.ofBits .f32 0x3D372713#32
abbrev cRoot : EReal := Ideal.ofBits .f32 0x3F4C422A#32

variable (p : Par) (x : RowIn)

/-- Forward: skip connection, GELU's tanh, its factor one half of one plus that, GELU, the gated unit's gate, its result,
    the branch gate, and the gated row that the branch matrix multiplies. -/
def a (j : Fin 768) : EReal := x.y j + p.d j * x.u j
def th (j : Fin 768) : EReal := Ideal.tanh (cRoot * (a p x j + cCube * (a p x j * (a p x j * a p x j))))
def hf (j : Fin 768) : EReal := cHalf * (1 + th p x j)
def v (j : Fin 768) : EReal := a p x j * hf p x j
def s (j : Fin 768) : EReal := Ideal.logistic ((∑ k, v p x k * p.wg k j) + p.bg j)
def o (j : Fin 768) : EReal := v p x j * s p x j
def sz (j : Fin 768) : EReal := Ideal.logistic (x.z j)
def zz (j : Fin 768) : EReal := x.z j * sz x j
def q (j : Fin 768) : EReal := o p x j * zz x j

/-- Backward: through the branch matrix, the branch gate, the gated unit, GELU and the skip connection. -/
def dq (j : Fin 768) : EReal := ∑ k, x.ct k * p.wb j k
def dout (j : Fin 768) : EReal := dq p x j * zz x j
def dz (j : Fin 768) : EReal :=
  o p x j * dq p x j * sz x j + x.z j * (o p x j * dq p x j) * (sz x j * (1 - sz x j))
def dg (j : Fin 768) : EReal := v p x j * dout p x j * (s p x j * (1 - s p x j))
def dv (j : Fin 768) : EReal := dout p x j * s p x j + ∑ k, dg p x k * p.wg j k
def dt (j : Fin 768) : EReal := cRoot * (cHalf * (a p x j * dv p x j) * ((1 + th p x j) * (1 - th p x j)))
def dy (j : Fin 768) : EReal :=
  dv p x j * hf p x j + dt p x j + cCube * dt p x j * (cThree * (a p x j * a p x j))
def du (j : Fin 768) : EReal := p.d j * dy p x j

/-- The arguments, entry by entry. -/
structure Args where
  y : Fin 4160 → Fin 768 → EReal
  u : Fin 4160 → Fin 768 → EReal
  z : Fin 4160 → Fin 768 → EReal
  par : Par
  ct : Fin 4160 → Fin 1024 → EReal

variable (A : Args)

def Args.row (r : Fin 4160) : RowIn := ⟨A.y r, A.u r, A.z r, A.ct r⟩

/-- The results: three by row, four summed over the rows. -/
def Args.dY (r : Fin 4160) (j : Fin 768) : EReal := S5.dy A.par (A.row r) j
def Args.dU (r : Fin 4160) (j : Fin 768) : EReal := S5.du A.par (A.row r) j
def Args.dZ (r : Fin 4160) (j : Fin 768) : EReal := S5.dz A.par (A.row r) j
def Args.dD (j : Fin 768) : EReal := ∑ r, S5.dy A.par (A.row r) j * A.u r j
def Args.dBias (j : Fin 768) : EReal := ∑ r, S5.dg A.par (A.row r) j
def Args.dGlu (i j : Fin 768) : EReal := ∑ r, S5.v A.par (A.row r) i * S5.dg A.par (A.row r) j
def Args.dBranch (i : Fin 768) (j : Fin 1024) : EReal := ∑ r, S5.q A.par (A.row r) i * A.ct r j

end Cert.S5
-- ==== Proof.S5.Block.lean ====
/- One grid point of the S5 tail kernel, read row by row: every value the body computes from its input blocks is the row
   function of Row.lean at that row. -/
module

public import proofs.«01_k».proof.Proof.Gen.S5TailIdeal.Skeleton
public import proofs.«01_k».proof.Proof.S5.Row

@[expose] public section

set_option maxRecDepth 16384

noncomputable section

namespace Cert.S5

open Idealize.ShloMosaic Cert.S5TailIdeal Cert.S5TailIdeal.Gen

/-- The blocks a grid point reads: the recurrence's result, its input, the gate logits, skip weight, gate bias, gate matrix,
    branch matrix, cotangent. -/
structure Blk where
  x0 : Vec Ideal S208x768 .f32
  x1 : Vec Ideal S208x768 .f32
  x2 : Vec Ideal S208x768 .f32
  x3 : Vec Ideal S1x768 .f32
  x4 : Vec Ideal S1x768 .f32
  x5 : Vec Ideal S768x768 .bf16
  x6 : Vec Ideal S768x1024 .bf16
  x7 : Vec Ideal S208x1024 .f32

namespace Blk

variable (b : Blk)

/-! The body's intermediate values, in its own order. -/

def v14 := k0_pay5 b.x0 b.x1 b.x3
def v25 := k0_pay7 b.x0 b.x1 b.x3
def v34 := k0_pay9 b.x0 b.x1 b.x3
def v35 := k0_pay10 b.x0 b.x1 b.x3
def v40 := k0_pay11 (k0_pay2 b.x4) (k0_pay3 b.x5) b.v35
def v44 := k0_pay12 (k0_pay2 b.x4) (k0_pay3 b.x5) b.v35
def v52 := k0_pay15 (k0_pay4 b.x6) b.x7
def v55 := k0_pay16 b.x2 (k0_pay2 b.x4) (k0_pay3 b.x5) b.x7 b.v35
def v57 := k0_pay17 b.x2 (k0_pay4 b.x6) b.x7
def v61 := k0_pay18 b.x2 (k0_pay2 b.x4) (k0_pay3 b.x5) (k0_pay4 b.x6) b.x7 b.v35
def v64 := k0_pay19 b.x2 (k0_pay2 b.x4) (k0_pay3 b.x5) (k0_pay4 b.x6) b.x7 b.v35
def v66 := k0_pay20 b.x2 (k0_pay2 b.x4) (k0_pay3 b.x5) (k0_pay4 b.x6) b.x7 b.v35
def v71 := k0_pay21 b.x2 (k0_pay2 b.x4) (k0_pay3 b.x5) (k0_pay4 b.x6) b.x7 b.v35
def v84 := k0_pay22 b.x2 (k0_pay2 b.x4) (k0_pay3 b.x5) (k0_pay4 b.x6) b.x7 b.v14 (k0_pay6 b.x0 b.x1 b.x3)
  (k0_pay8 b.x0 b.x1 b.x3) b.v34 b.v35
def v86 := k0_pay23 (k0_pay1 b.x3) b.v84

/-- The block's shared values and its row `r`, as Row.lean takes them. -/
def par : Par where
  d j := b.x3 (ix2 0 j)
  bg j := b.x4 (ix2 0 j)
  wg k j := b.x5 (ix2 k j)
  wb k j := b.x6 (ix2 k j)

def row (r : Fin 208) : RowIn where
  y j := b.x0 (ix2 r j)
  u j := b.x1 (ix2 r j)
  z j := b.x2 (ix2 r j)
  ct j := b.x7 (ix2 r j)

variable (r : Fin 208) (j : Fin 768)

theorem v14_at : b.v14 (ix2 r j) = a b.par (b.row r) j := by
  unfold v14 k0_pay5 k0_pay1; pointwise; rfl

theorem v25_at : b.v25 (ix2 r j) = th b.par (b.row r) j := by
  simp only [th, ← v14_at]; unfold v25 k0_pay7; pointwise; rfl

theorem v34_at : b.v34 (ix2 r j) = hf b.par (b.row r) j := by
  rw [hf, ← v25_at]; unfold v34 k0_pay9; pointwise; rfl

theorem v35_at : b.v35 (ix2 r j) = v b.par (b.row r) j := by
  rw [v, ← v14_at, ← v34_at]; unfold v35 k0_pay10; pointwise; rfl

theorem v40_at : b.v40 (ix2 r j) = s b.par (b.row r) j := by
  simp only [s, ← v35_at]; unfold v40 k0_pay11 k0_pay2 k0_pay3
  pointwise [dot_S208x768_S768x768_S208x768_1_0_0_1_n_n]; rfl

theorem v44_at : b.v44 (ix2 r j) = o b.par (b.row r) j := by
  rw [o, ← v35_at, ← v40_at]; unfold v44 k0_pay12; pointwise; rfl

theorem v45_at : k0_pay13 b.x2 (ix2 r j) = sz (b.row r) j := by
  unfold k0_pay13; pointwise; rfl

theorem v49_at : k0_pay14 b.x2 (ix2 r j) = zz (b.row r) j := by
  rw [zz, ← v45_at]; unfold k0_pay14; pointwise; rfl

theorem v52_at : b.v52 (ix2 r j) = dq b.par (b.row r) j := by
  unfold v52 k0_pay15 k0_pay4; pointwise [dot_S208x1024_S768x1024_S208x768_1_1_0_0_n_n]; rfl

theorem v57_at : b.v57 (ix2 r j) = dout b.par (b.row r) j := by
  rw [dout, ← v52_at, ← v49_at]; unfold v57 k0_pay17; pointwise; rfl

theorem v61_at : b.v61 (ix2 r j) = dz b.par (b.row r) j := by
  rw [dz, ← v44_at, ← v52_at, ← v45_at]; unfold v61 k0_pay18; pointwise; rfl

theorem v64_at : b.v64 (ix2 r j) = dg b.par (b.row r) j := by
  rw [dg, ← v35_at, ← v57_at, ← v40_at]; unfold v64 k0_pay19; pointwise; rfl

theorem v66_at : b.v66 (ix2 0 j) = ∑ r, dg b.par (b.row r) j := by
  simp only [← v64_at]; unfold v66 k0_pay20; pointwise; rfl

theorem v71_at (i : Fin 768) : b.v71 (ix2 i j) = ∑ r, v b.par (b.row r) i * dg b.par (b.row r) j := by
  simp only [← v64_at, ← v35_at]; unfold v71 k0_pay21
  pointwise [dot_S208x768_S208x768_S768x768_0_0_1_1_n_n]; rfl

theorem v55_at (i : Fin 768) (j : Fin 1024) : b.v55 (ix2 i j) = ∑ r, q b.par (b.row r) i * (b.row r).ct j := by
  simp only [q, ← v44_at, ← v49_at]; unfold v55 k0_pay16
  pointwise [dot_S208x768_S208x1024_S768x1024_0_0_1_1_n_n]; rfl

theorem v84_at : b.v84 (ix2 r j) = dy b.par (b.row r) j := by
  simp only [dy, dt, dv, ← v14_at, ← v25_at, ← v34_at, ← v40_at, ← v57_at, ← v64_at]
  unfold v84 k0_pay22 k0_pay6 k0_pay8 v14 v25 v57 v40 v64 k0_pay3
  pointwise [dot_S208x768_S768x768_S208x768_1_1_0_0_n_n]; rfl

theorem v86_at : b.v86 (ix2 r j) = du b.par (b.row r) j := by
  rw [du, ← v84_at]; unfold v86 k0_pay23 k0_pay1; pointwise; rfl

/-! What the body adds to each of the four summed blocks, over what it finds there. -/

theorem add11 (w : Vec Ideal S1x768 .f32) :
    (k0_pay28 b.x1 b.v84 w : Vec Ideal S1x768 .f32) (ix2 0 j) = w (ix2 0 j) + ∑ r, dy b.par (b.row r) j * (b.row r).u j := by
  simp only [← v84_at]; unfold k0_pay28; pointwise; rfl

theorem add12 (w : Vec Ideal S1x768 .f32) :
    (k0_pay29 b.v66 w : Vec Ideal S1x768 .f32) (ix2 0 j) = w (ix2 0 j) + ∑ r, dg b.par (b.row r) j := by
  rw [← v66_at]; unfold k0_pay29; pointwise

theorem add13 (w : Vec Ideal S768x768 .f32) (i : Fin 768) : (k0_pay30 b.v71 w : Vec Ideal S768x768 .f32) (ix2 i j) =
    w (ix2 i j) + ∑ r, v b.par (b.row r) i * dg b.par (b.row r) j := by
  rw [← v71_at]; unfold k0_pay30; pointwise

theorem add14 (w : Vec Ideal S768x1024 .f32) (i : Fin 768) (j : Fin 1024) : (k0_pay31 b.v55 w : Vec Ideal S768x1024 .f32) (ix2 i j) =
    w (ix2 i j) + ∑ r, q b.par (b.row r) i * (b.row r).ct j := by
  rw [← v55_at]; unfold k0_pay31; pointwise

end Blk

theorem zero11 (j : Fin 768) : (k0_pay24 (F := Ideal) : Vec Ideal S1x768 .f32) (ix2 0 j) = (0 : EReal) := by
  unfold k0_pay24; pointwise
theorem zero12 (j : Fin 768) : (k0_pay25 (F := Ideal) : Vec Ideal S1x768 .f32) (ix2 0 j) = (0 : EReal) := by
  unfold k0_pay25; pointwise
theorem zero13 (i j : Fin 768) : (k0_pay26 (F := Ideal) : Vec Ideal S768x768 .f32) (ix2 i j) = (0 : EReal) := by
  unfold k0_pay26; pointwise
theorem zero14 (i : Fin 768) (j : Fin 1024) : (k0_pay27 (F := Ideal) : Vec Ideal S768x1024 .f32) (ix2 i j) = (0 : EReal) := by
  unfold k0_pay27; pointwise

end Cert.S5
-- ==== Proof.S5.Array.lean ====
/- The kernel's seven result arrays. Point `t` reads rows 208t … 208t+207 of the row arrays and all of the shared ones, writes
   the same rows of three results, and adds to four blocks that stay in place over the 20 points. -/
module

public import proofs.«01_k».proof.Proof.Gen.S5TailIdeal.Value
public import proofs.«01_k».proof.Proof.S5.Block
public import Idealize.ShloMosaic.Lib.Pipeline.ValueKit.Geometry
public import Idealize.ShloMosaic.Lib.Pipeline.ValueKit.Acc

@[expose] public section

set_option maxRecDepth 16384

noncomputable section

namespace Cert.S5

open Idealize.ShloMosaic Idealize.ShloMosaic.TcCoe Idealize.ShloMosaic.StableHlo Idealize.SL.Sem Cert.S5TailIdeal Cert.S5TailIdeal.Gen
open Idealize.ShloMosaic.Pipeline

variable (m : (ℓ : Loc nD τ sig) → Buf (Elt Ideal) ℓ) (c : Dev nD)

/-- The kernel's arguments. -/
def argsK : Args where
  y r j := m ((c : Thread nD τ).loc main_arg0) (ix2 r j)
  u r j := m ((c : Thread nD τ).loc main_arg1) (ix2 r j)
  z r j := m ((c : Thread nD τ).loc main_arg2) (ix2 r j)
  par :=
    { d := fun j => m ((c : Thread nD τ).loc main_arg3) (ix1 j)
      bg := fun j => m ((c : Thread nD τ).loc main_arg4) (ix1 j)
      wg := fun k j => m ((c : Thread nD τ).loc main_arg5) (ix2 k j)
      wb := fun k j => m ((c : Thread nD τ).loc main_arg6) (ix2 k j) }
  ct r j := m ((c : Thread nD τ).loc main_arg7) (ix2 r j)

/-- Row `r` of grid point `t`'s block. -/
def rowAt (t : Fin cfg0.N) (r : Fin 208) : Fin 4160 := ⟨t.val * 208 + r.val, by have : t.val < 20 := t.isLt; omega⟩

/-- A sum block by block is the sum over the rows. -/
theorem sum_blocks (f : Fin 4160 → EReal) : ∑ t, ∑ r, f (rowAt t r) = ∑ r, f r := by
  show ∑ t : Fin 20, ∑ r, f (rowAt t r) = _
  rw [← (finProdFinEquiv (m := 20) (n := 208)).sum_comp f, Fintype.sum_prod_type]
  refine Finset.sum_congr rfl fun t _ => Finset.sum_congr rfl fun r _ => congrArg f (Fin.ext ?_)
  show t.val * 208 + r.val = r.val + 208 * t.val
  omega

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index3 : ∀ t : Fin cfg0.N, win0_3.index t = ![0, 0] := fun _ => rfl
theorem index4 : ∀ t : Fin cfg0.N, win0_4.index t = ![0, 0] := fun _ => rfl
theorem index5 : ∀ t : Fin cfg0.N, win0_5.index t = ![0, 0] := fun _ => rfl
theorem index6 : ∀ t : Fin cfg0.N, win0_6.index t = ![0, 0] := fun _ => rfl

/-! The host lines before the region lay the two vectors out as rows and cast the two matrices. -/

theorem V_v0 (j : Fin 768) : V m c main_v0 (ix2 0 j) = (argsK m c).par.d j := by
  unfold_abbrev_sides
  after_results
  pointwise

theorem V_v1 (j : Fin 768) : V m c main_v1 (ix2 0 j) = (argsK m c).par.bg j := by
  unfold_abbrev_sides
  after_results
  pointwise

theorem V_v2 (k : Fin 768) (j : Fin 768) : V m c main_v2 (ix2 k j) = (argsK m c).par.wg k j := by
  unfold_abbrev_sides
  after_results
  pointwise

theorem V_v3 (k : Fin 768) (j : Fin 1024) : V m c main_v3 (ix2 k j) = (argsK m c).par.wb k j := by
  unfold_abbrev_sides
  after_results
  pointwise

/-! The blocks point `t` reads. -/

theorem iblk0 (t : Fin cfg0.N) (r : Fin 208) (j : Fin 768) : iblk m c 0 t (ix2 r j) = (argsK m c).y (rowAt t r) j := by
  refine Eq.trans ?_ (congrFun (V_main_arg0 m c) _)
  blk_simp [iblk]
  exact congrArg (V m c main_arg0) (by blk_ext [index0, rowAt])

theorem iblk1 (t : Fin cfg0.N) (r : Fin 208) (j : Fin 768) : iblk m c 1 t (ix2 r j) = (argsK m c).u (rowAt t r) j := by
  refine Eq.trans ?_ (congrFun (V_main_arg1 m c) _)
  blk_simp [iblk]
  exact congrArg (V m c main_arg1) (by blk_ext [index1, rowAt])

theorem iblk2 (t : Fin cfg0.N) (r : Fin 208) (j : Fin 768) : iblk m c 2 t (ix2 r j) = (argsK m c).z (rowAt t r) j := by
  refine Eq.trans ?_ (congrFun (V_main_arg2 m c) _)
  blk_simp [iblk]
  exact congrArg (V m c main_arg2) (by blk_ext [index2, rowAt])

theorem iblk7 (t : Fin cfg0.N) (r : Fin 208) (j : Fin 1024) : iblk m c 7 t (ix2 r j) = (argsK m c).ct (rowAt t r) j := by
  refine Eq.trans ?_ (congrFun (V_main_arg7 m c) _)
  blk_simp [iblk]
  exact congrArg (V m c main_arg7) (by blk_ext [index7, rowAt])

theorem iblk3 (t : Fin cfg0.N) (j : Fin 768) : iblk m c 3 t (ix2 0 j) = (argsK m c).par.d j := by
  rw [← V_v0]
  blk_simp [iblk]
  exact congrArg (V m c main_v0) (by blk_ext [index3])

theorem iblk4 (t : Fin cfg0.N) (j : Fin 768) : iblk m c 4 t (ix2 0 j) = (argsK m c).par.bg j := by
  rw [← V_v1]
  blk_simp [iblk]
  exact congrArg (V m c main_v1) (by blk_ext [index4])

theorem iblk5 (t : Fin cfg0.N) (k : Fin 768) (j : Fin 768) : iblk m c 5 t (ix2 k j) = (argsK m c).par.wg k j := by
  rw [← V_v2]
  blk_simp [iblk]
  exact congrArg (V m c main_v2) (by blk_ext [index5])

theorem iblk6 (t : Fin cfg0.N) (k : Fin 768) (j : Fin 1024) : iblk m c 6 t (ix2 k j) = (argsK m c).par.wb k j := by
  rw [← V_v3]
  blk_simp [iblk]
  exact congrArg (V m c main_v3) (by blk_ext [index6])

/-- Point `t`'s blocks. -/
def blkAt (t : Fin cfg0.N) : Blk :=
  ⟨iblk m c 0 t, iblk m c 1 t, iblk m c 2 t, iblk m c 3 t, iblk m c 4 t, iblk m c 5 t, iblk m c 6 t, iblk m c 7 t⟩

theorem par_at (t : Fin cfg0.N) : (blkAt m c t).par = (argsK m c).par := by
  show Par.mk _ _ _ _ = Par.mk _ _ _ _
  congr 1
  · funext j; exact iblk3 m c t j
  · funext j; exact iblk4 m c t j
  · funext k j; exact iblk5 m c t k j
  · funext k j; exact iblk6 m c t k j

theorem row_at (t : Fin cfg0.N) (r : Fin 208) : (blkAt m c t).row r = (argsK m c).row (rowAt t r) := by
  show RowIn.mk _ _ _ _ = RowIn.mk _ _ _ _
  congr 1
  · funext j; exact iblk0 m c t r j
  · funext j; exact iblk1 m c t r j
  · funext j; exact iblk2 m c t r j
  · funext j; exact iblk7 m c t r j

/-! The three results by row: what the body leaves at point `t`, whichever case it runs, is rows of the result. -/

theorem left8 (t : Fin cfg0.N) : (outsAt0 m c t.val t.isLt).1 = (blkAt m c t).v84 := by
  by_cases h0 : t.val % 20 = 0
  · rw [outsAt0_A m c t h0]; frame_out; rfl
  · rw [outsAt0_B m c t h0]; frame_out; rfl

theorem final8 : (dats m 0 c).arrAt 8 cfg0.N = fun i : S4160x768.Idx => (argsK m c).dY (i 0) (i 1) := by
  refine (dats m 0 c).arrAt_eq_of_covers 8 _ (by decide +kernel) fun t hf y => ?_
  blk_simp
  rw [after0_8, left8]
  obtain ⟨r, j, rfl⟩ : ∃ (r : Fin 208) (j : Fin 768), y = ix2 r j := ⟨_, _, eq_ix2 y⟩
  rw [show ((View.whole main_v4_0).slice (win0_8.rect t)).emb (ix2 r j) = ix2 (rowAt t r) j by blk_ext [index8, rowAt], Blk.v84_at, par_at,
    row_at]
  rfl

theorem left9 (t : Fin cfg0.N) : (outsAt0 m c t.val t.isLt).2.1 = (blkAt m c t).v86 := by
  by_cases h0 : t.val % 20 = 0
  · rw [outsAt0_A m c t h0]; frame_out; rfl
  · rw [outsAt0_B m c t h0]; frame_out; rfl

theorem final9 : (dats m 0 c).arrAt 9 cfg0.N = fun i : S4160x768.Idx => (argsK m c).dU (i 0) (i 1) := by
  refine (dats m 0 c).arrAt_eq_of_covers 9 _ (by decide +kernel) fun t hf y => ?_
  blk_simp
  rw [after0_9, left9]
  obtain ⟨r, j, rfl⟩ : ∃ (r : Fin 208) (j : Fin 768), y = ix2 r j := ⟨_, _, eq_ix2 y⟩
  rw [show ((View.whole main_v4_1).slice (win0_9.rect t)).emb (ix2 r j) = ix2 (rowAt t r) j by blk_ext [index9, rowAt], Blk.v86_at, par_at,
    row_at]
  rfl

theorem left10 (t : Fin cfg0.N) : (outsAt0 m c t.val t.isLt).2.2.1 = (blkAt m c t).v61 := by
  by_cases h0 : t.val % 20 = 0
  · rw [outsAt0_A m c t h0]; frame_out; rfl
  · rw [outsAt0_B m c t h0]; frame_out; rfl

theorem final10 : (dats m 0 c).arrAt 10 cfg0.N = fun i : S4160x768.Idx => (argsK m c).dZ (i 0) (i 1) := by
  refine (dats m 0 c).arrAt_eq_of_covers 10 _ (by decide +kernel) fun t hf y => ?_
  blk_simp
  rw [after0_10, left10]
  obtain ⟨r, j, rfl⟩ : ∃ (r : Fin 208) (j : Fin 768), y = ix2 r j := ⟨_, _, eq_ix2 y⟩
  rw [show ((View.whole main_v4_2).slice (win0_10.rect t)).emb (ix2 r j) = ix2 (rowAt t r) j by blk_ext [index10, rowAt], Blk.v61_at, par_at,
    row_at]
  rfl

/-! The four summed results: the first point adds to zeros, every later one to what the point before left, and the block is
    written back after the last. -/

theorem first11 (t : Fin cfg0.N) (h0 : t.val % 20 = 0) : (outsAt0 m c t.val t.isLt).2.2.2.1 = k0_pay28 (blkAt m c t).x1 (blkAt m c t).v84 (k0_pay24 (F := Ideal)) := by
  rw [outsAt0_A m c t h0]; frame_out; rfl

theorem later11 (t : Fin cfg0.N) (h0 : ¬t.val % 20 = 0) : (outsAt0 m c t.val t.isLt).2.2.2.1 =
    k0_pay28 (blkAt m c t).x1 (blkAt m c t).v84 (outsAt0 m c (t.val - 1) (Nat.lt_of_le_of_lt (Nat.sub_le _ _) t.isLt)).2.2.2.1 := by
  rw [outsAt0_B m c t h0]; frame_out; rfl

theorem sum11 (j : Fin 768) (t : Fin cfg0.N) (ht : t.val + 1 = cfg0.N) :
    ((outsAt0 m c t.val t.isLt).2.2.2.1 (ix2 0 j) : EReal) = (argsK m c).dD j := by
  have e := eq_sum_fin_of_reset_step_last (M := EReal) (fun n h => (outsAt0 m c n h).2.2.2.1 (ix2 0 j)) 20 0
    (fun t => ∑ r, dy (argsK m c).par ((argsK m c).row (rowAt t r)) j * ((argsK m c).row (rowAt t r)).u j)
    (fun t h0 => by
      refine (congrFun (first11 m c t h0) _).trans ((Blk.add11 (blkAt m c t) j _).trans ?_)
      rw [zero11 j, par_at]
      simp only [row_at])
    (fun t h0 => by
      refine (congrFun (later11 m c t h0) _).trans ((Blk.add11 (blkAt m c t) j _).trans ?_)
      rw [par_at]
      simp only [row_at])
    (le_of_eq N_0) t ht
  exact e.trans ((zero_add _).trans (sum_blocks fun r => dy (argsK m c).par ((argsK m c).row r) j * ((argsK m c).row r).u j))

theorem final11 : (dats m 0 c).arrAt 11 cfg0.N = fun i : S1x768.Idx => (argsK m c).dD (i 1) := by
  refine (dats m 0 c).arrAt_eq_of_after_last 11 (Fin.cast N_0.symm 19) (by decide +kernel) _ fun i => ?_
  blk_simp
  rw [after0_11]
  obtain ⟨r, j, rfl⟩ : ∃ (r : Fin 1) (j : Fin 768), i = ix2 r j := ⟨_, _, eq_ix2 i⟩
  obtain rfl : r = 0 := Subsingleton.elim _ _
  exact sum11 m c j (Fin.cast N_0.symm 19) rfl

theorem first12 (t : Fin cfg0.N) (h0 : t.val % 20 = 0) : (outsAt0 m c t.val t.isLt).2.2.2.2.1 = k0_pay29 (blkAt m c t).v66 (k0_pay25 (F := Ideal)) := by
  rw [outsAt0_A m c t h0]; frame_out; rfl

theorem later12 (t : Fin cfg0.N) (h0 : ¬t.val % 20 = 0) : (outsAt0 m c t.val t.isLt).2.2.2.2.1 =
    k0_pay29 (blkAt m c t).v66 (outsAt0 m c (t.val - 1) (Nat.lt_of_le_of_lt (Nat.sub_le _ _) t.isLt)).2.2.2.2.1 := by
  rw [outsAt0_B m c t h0]; frame_out; rfl

theorem sum12 (j : Fin 768) (t : Fin cfg0.N) (ht : t.val + 1 = cfg0.N) :
    ((outsAt0 m c t.val t.isLt).2.2.2.2.1 (ix2 0 j) : EReal) = (argsK m c).dBias j := by
  have e := eq_sum_fin_of_reset_step_last (M := EReal) (fun n h => (outsAt0 m c n h).2.2.2.2.1 (ix2 0 j)) 20 0
    (fun t => ∑ r, dg (argsK m c).par ((argsK m c).row (rowAt t r)) j)
    (fun t h0 => by
      refine (congrFun (first12 m c t h0) _).trans ((Blk.add12 (blkAt m c t) j _).trans ?_)
      rw [zero12 j, par_at]
      simp only [row_at])
    (fun t h0 => by
      refine (congrFun (later12 m c t h0) _).trans ((Blk.add12 (blkAt m c t) j _).trans ?_)
      rw [par_at]
      simp only [row_at])
    (le_of_eq N_0) t ht
  exact e.trans ((zero_add _).trans (sum_blocks fun r => dg (argsK m c).par ((argsK m c).row r) j))

theorem final12 : (dats m 0 c).arrAt 12 cfg0.N = fun i : S1x768.Idx => (argsK m c).dBias (i 1) := by
  refine (dats m 0 c).arrAt_eq_of_after_last 12 (Fin.cast N_0.symm 19) (by decide +kernel) _ fun i => ?_
  blk_simp
  rw [after0_12]
  obtain ⟨r, j, rfl⟩ : ∃ (r : Fin 1) (j : Fin 768), i = ix2 r j := ⟨_, _, eq_ix2 i⟩
  obtain rfl : r = 0 := Subsingleton.elim _ _
  exact sum12 m c j (Fin.cast N_0.symm 19) rfl

theorem first13 (t : Fin cfg0.N) (h0 : t.val % 20 = 0) : (outsAt0 m c t.val t.isLt).2.2.2.2.2.1 = k0_pay30 (blkAt m c t).v71 (k0_pay26 (F := Ideal)) := by
  rw [outsAt0_A m c t h0]; frame_out; rfl

theorem later13 (t : Fin cfg0.N) (h0 : ¬t.val % 20 = 0) : (outsAt0 m c t.val t.isLt).2.2.2.2.2.1 =
    k0_pay30 (blkAt m c t).v71 (outsAt0 m c (t.val - 1) (Nat.lt_of_le_of_lt (Nat.sub_le _ _) t.isLt)).2.2.2.2.2.1 := by
  rw [outsAt0_B m c t h0]; frame_out; rfl

theorem sum13 (i : Fin 768) (j : Fin 768) (t : Fin cfg0.N) (ht : t.val + 1 = cfg0.N) :
    ((outsAt0 m c t.val t.isLt).2.2.2.2.2.1 (ix2 i j) : EReal) = (argsK m c).dGlu i j := by
  have e := eq_sum_fin_of_reset_step_last (M := EReal) (fun n h => (outsAt0 m c n h).2.2.2.2.2.1 (ix2 i j)) 20 0
    (fun t => ∑ r, v (argsK m c).par ((argsK m c).row (rowAt t r)) i * dg (argsK m c).par ((argsK m c).row (rowAt t r)) j)
    (fun t h0 => by
      refine (congrFun (first13 m c t h0) _).trans ((Blk.add13 (blkAt m c t) j _ i).trans ?_)
      rw [zero13 i j, par_at]
      simp only [row_at])
    (fun t h0 => by
      refine (congrFun (later13 m c t h0) _).trans ((Blk.add13 (blkAt m c t) j _ i).trans ?_)
      rw [par_at]
      simp only [row_at])
    (le_of_eq N_0) t ht
  exact e.trans ((zero_add _).trans (sum_blocks fun r => v (argsK m c).par ((argsK m c).row r) i * dg (argsK m c).par ((argsK m c).row r) j))

theorem final13 : (dats m 0 c).arrAt 13 cfg0.N = fun i : S768x768.Idx => (argsK m c).dGlu (i 0) (i 1) := by
  refine (dats m 0 c).arrAt_eq_of_after_last 13 (Fin.cast N_0.symm 19) (by decide +kernel) _ fun i => ?_
  blk_simp
  rw [after0_13]
  obtain ⟨r, j, rfl⟩ : ∃ (r : Fin 768) (j : Fin 768), i = ix2 r j := ⟨_, _, eq_ix2 i⟩
  exact sum13 m c r j (Fin.cast N_0.symm 19) rfl

theorem first14 (t : Fin cfg0.N) (h0 : t.val % 20 = 0) : (outsAt0 m c t.val t.isLt).2.2.2.2.2.2 = k0_pay31 (blkAt m c t).v55 (k0_pay27 (F := Ideal)) := by
  rw [outsAt0_A m c t h0]; frame_out; rfl

theorem later14 (t : Fin cfg0.N) (h0 : ¬t.val % 20 = 0) : (outsAt0 m c t.val t.isLt).2.2.2.2.2.2 =
    k0_pay31 (blkAt m c t).v55 (outsAt0 m c (t.val - 1) (Nat.lt_of_le_of_lt (Nat.sub_le _ _) t.isLt)).2.2.2.2.2.2 := by
  rw [outsAt0_B m c t h0]; frame_out; rfl

theorem sum14 (i : Fin 768) (j : Fin 1024) (t : Fin cfg0.N) (ht : t.val + 1 = cfg0.N) :
    ((outsAt0 m c t.val t.isLt).2.2.2.2.2.2 (ix2 i j) : EReal) = (argsK m c).dBranch i j := by
  have e := eq_sum_fin_of_reset_step_last (M := EReal) (fun n h => (outsAt0 m c n h).2.2.2.2.2.2 (ix2 i j)) 20 0
    (fun t => ∑ r, q (argsK m c).par ((argsK m c).row (rowAt t r)) i * ((argsK m c).row (rowAt t r)).ct j)
    (fun t h0 => by
      refine (congrFun (first14 m c t h0) _).trans ((Blk.add14 (blkAt m c t) _ i j).trans ?_)
      rw [zero14 i j, par_at]
      simp only [row_at])
    (fun t h0 => by
      refine (congrFun (later14 m c t h0) _).trans ((Blk.add14 (blkAt m c t) _ i j).trans ?_)
      rw [par_at]
      simp only [row_at])
    (le_of_eq N_0) t ht
  exact e.trans ((zero_add _).trans (sum_blocks fun r => q (argsK m c).par ((argsK m c).row r) i * ((argsK m c).row r).ct j))

theorem final14 : (dats m 0 c).arrAt 14 cfg0.N = fun i : S768x1024.Idx => (argsK m c).dBranch (i 0) (i 1) := by
  refine (dats m 0 c).arrAt_eq_of_after_last 14 (Fin.cast N_0.symm 19) (by decide +kernel) _ fun i => ?_
  blk_simp
  rw [after0_14]
  obtain ⟨r, j, rfl⟩ : ∃ (r : Fin 768) (j : Fin 1024), i = ix2 r j := ⟨_, _, eq_ix2 i⟩
  exact sum14 m c r j (Fin.cast N_0.symm 19) rfl

end Cert.S5
-- ==== Proof.S5.Reference.lean ====
/- The reference's arrays entry by entry, as the functions of Row.lean, and its seven results. -/
module

public import proofs.«01_k».proof.Proof.Gen.S5TailRefIdeal.Read
public import proofs.«01_k».proof.Proof.Gen.S5TailRefIdeal.Run
public import proofs.«01_k».proof.Proof.S5.Row

@[expose] public section

set_option maxRecDepth 16384

noncomputable section

namespace Cert.S5.Ref

open Idealize.ShloMosaic Cert.S5TailRefIdeal Cert.S5TailRefIdeal.Read

variable (x0 x1 x2 : Vec Ideal S4160x768 .f32) (x3 x4 : Vec Ideal S768 .f32) (x5 : Vec Ideal S768x768 .f32)
  (x6 : Vec Ideal S768x1024 .f32) (x7 : Vec Ideal S4160x1024 .f32)

/-- The reference's arguments. -/
def args : Args where
  y r j := x0 (ix2 r j)
  u r j := x1 (ix2 r j)
  z r j := x2 (ix2 r j)
  par := ⟨fun j => x3 (ix1 j), fun j => x4 (ix1 j), fun k j => x5 (ix2 k j), fun k j => x6 (ix2 k j)⟩
  ct r j := x7 (ix2 r j)

variable (r : Fin 4160) (j : Fin 768)

/-- Laid out as one sequence and back, an array is itself. -/
theorem there_and_back (x : Vec Ideal S4160x768 .f32) (h : S4160x768.ShapeCasts S1x4160x768) (h' : S1x4160x768.ShapeCasts S4160x768) :
    shapeCast S4160x768 (shapeCast S1x4160x768 x h) h' = x := by
  rw [shapeCast_shapeCast]

theorem v3_eq : val_main_v3 (F := Ideal) x0 = x0 := there_and_back _ _ _
theorem v4_eq : val_main_v4 (F := Ideal) x1 = x1 := there_and_back _ _ _
theorem v5_eq : val_main_v5 (F := Ideal) x2 = x2 := there_and_back _ _ _

theorem v9_at : val_main_v9 (F := Ideal) x0 x1 x3 (ix2 r j) = a (args x0 x1 x2 x3 x4 x5 x6 x7).par ((args x0 x1 x2 x3 x4 x5 x6 x7).row r) j := by
  unfold val_main_v9 val_main_v8 val_main_v7 val_main_v6
  rw [v3_eq, v4_eq]
  pointwise
  rfl

theorem v20_at : val_main_v20 (F := Ideal) x0 x1 x3 (ix2 r j) = th (args x0 x1 x2 x3 x4 x5 x6 x7).par ((args x0 x1 x2 x3 x4 x5 x6 x7).row r) j := by
  unfold val_main_v20 val_main_v19 val_main_v18 val_main_cst_1 val_main_v17 val_main_v16 val_main_v15 val_main_cst_0 val_main_v11 val_main_v10
  pointwise [v9_at x0 x1 x2 x3 x4 x5 x6 x7]
  rw [mul_assoc (a _ _ j)]
  rfl

theorem v14_at : val_main_v14 (F := Ideal) x0 x1 x3 (ix2 r j) = cThree * (a (args x0 x1 x2 x3 x4 x5 x6 x7).par ((args x0 x1 x2 x3 x4 x5 x6 x7).row r) j * a (args x0 x1 x2 x3 x4 x5 x6 x7).par ((args x0 x1 x2 x3 x4 x5 x6 x7).row r) j) := by
  unfold val_main_v14 val_main_v13 val_main_cst val_main_v12
  pointwise [v9_at x0 x1 x2 x3 x4 x5 x6 x7]

theorem v25_at : val_main_v25 (F := Ideal) x0 x1 x3 (ix2 r j) = (1 + th (args x0 x1 x2 x3 x4 x5 x6 x7).par ((args x0 x1 x2 x3 x4 x5 x6 x7).row r) j) * (1 - th (args x0 x1 x2 x3 x4 x5 x6 x7).par ((args x0 x1 x2 x3 x4 x5 x6 x7).row r) j) := by
  unfold val_main_v25 val_main_v24 val_main_v23 val_main_cst_3 val_main_v22 val_main_v21 val_main_cst_2
  pointwise [v20_at x0 x1 x2 x3 x4 x5 x6 x7]

theorem v29_at : val_main_v29 (F := Ideal) x0 x1 x3 (ix2 r j) = hf (args x0 x1 x2 x3 x4 x5 x6 x7).par ((args x0 x1 x2 x3 x4 x5 x6 x7).row r) j := by
  unfold val_main_v29 val_main_v28 val_main_cst_5 val_main_v27 val_main_v26 val_main_cst_4
  pointwise [v20_at x0 x1 x2 x3 x4 x5 x6 x7]
  rfl

theorem v30_at : val_main_v30 (F := Ideal) x0 x1 x3 (ix2 r j) = v (args x0 x1 x2 x3 x4 x5 x6 x7).par ((args x0 x1 x2 x3 x4 x5 x6 x7).row r) j := by
  unfold val_main_v30
  pointwise [v9_at x0 x1 x2 x3 x4 x5 x6 x7, v29_at x0 x1 x2 x3 x4 x5 x6 x7]
  rfl

theorem v40_at : val_main_v40 (F := Ideal) x0 x1 x3 x4 x5 (ix2 r j) = s (args x0 x1 x2 x3 x4 x5 x6 x7).par ((args x0 x1 x2 x3 x4 x5 x6 x7).row r) j := by
  unfold val_main_v40 val_main_v39 val_main_cst_7 val_main_v38 val_main_v37 val_main_cst_6 val_main_v36 val_main_v35 val_main_v34 val_main_v33 val_main_v32 val_main_v31
  pointwise [v30_at x0 x1 x2 x3 x4 x5 x6 x7]
  rfl

theorem v43_at : val_main_v43 (F := Ideal) x0 x1 x3 x4 x5 (ix2 r j) = s (args x0 x1 x2 x3 x4 x5 x6 x7).par ((args x0 x1 x2 x3 x4 x5 x6 x7).row r) j * (1 - s (args x0 x1 x2 x3 x4 x5 x6 x7).par ((args x0 x1 x2 x3 x4 x5 x6 x7).row r) j) := by
  unfold val_main_v43 val_main_v42 val_main_v41 val_main_cst_8
  pointwise [v40_at x0 x1 x2 x3 x4 x5 x6 x7]

theorem v44_at : val_main_v44 (F := Ideal) x0 x1 x3 x4 x5 (ix2 r j) = o (args x0 x1 x2 x3 x4 x5 x6 x7).par ((args x0 x1 x2 x3 x4 x5 x6 x7).row r) j := by
  unfold val_main_v44
  pointwise [v30_at x0 x1 x2 x3 x4 x5 x6 x7, v40_at x0 x1 x2 x3 x4 x5 x6 x7]
  rfl

theorem v45_2_at : val_main_v45_2 (F := Ideal) x2 (ix2 r j) = sz ((args x0 x1 x2 x3 x4 x5 x6 x7).row r) j := by
  unfold val_main_v45_2 val_main_call0_v4 val_main_call0_cst_0 val_main_call0_v3 val_main_call0_v2 val_main_call0_cst val_main_call0_v1 val_main_call0_v0
  rw [v5_eq]
  pointwise
  rfl

theorem v45_1_at : val_main_v45_1 (F := Ideal) x2 (ix2 r j) = sz ((args x0 x1 x2 x3 x4 x5 x6 x7).row r) j * (1 - sz ((args x0 x1 x2 x3 x4 x5 x6 x7).row r) j) := by
  unfold val_main_v45_1 val_main_call0_v7 val_main_call0_v6 val_main_call0_cst_1
  pointwise [v45_2_at x0 x1 x2 x3 x4 x5 x6 x7]

theorem v45_0_at : val_main_v45_0 (F := Ideal) x2 (ix2 r j) = zz ((args x0 x1 x2 x3 x4 x5 x6 x7).row r) j := by
  unfold val_main_v45_0
  rw [v5_eq]
  pointwise [v45_2_at x0 x1 x2 x3 x4 x5 x6 x7]
  rfl

theorem v46_at : val_main_v46 (F := Ideal) x0 x1 x2 x3 x4 x5 (ix2 r j) = q (args x0 x1 x2 x3 x4 x5 x6 x7).par ((args x0 x1 x2 x3 x4 x5 x6 x7).row r) j := by
  unfold val_main_v46
  pointwise [v44_at x0 x1 x2 x3 x4 x5 x6 x7, v45_0_at x0 x1 x2 x3 x4 x5 x6 x7]
  rfl

theorem v50_at : val_main_v50 (F := Ideal) x6 x7 (ix2 r j) = dq (args x0 x1 x2 x3 x4 x5 x6 x7).par ((args x0 x1 x2 x3 x4 x5 x6 x7).row r) j := by
  unfold val_main_v50
  pointwise
  rfl

theorem v52_at : val_main_v52 (F := Ideal) x2 x6 x7 (ix2 r j) = dout (args x0 x1 x2 x3 x4 x5 x6 x7).par ((args x0 x1 x2 x3 x4 x5 x6 x7).row r) j := by
  unfold val_main_v52
  pointwise [v50_at x0 x1 x2 x3 x4 x5 x6 x7, v45_0_at x0 x1 x2 x3 x4 x5 x6 x7]
  rfl

theorem v53_at : val_main_v53 (F := Ideal) x0 x1 x2 x3 x4 x5 x6 x7 (ix2 r j) = dz (args x0 x1 x2 x3 x4 x5 x6 x7).par ((args x0 x1 x2 x3 x4 x5 x6 x7).row r) j := by
  unfold val_main_v53 val_main_call1_v2 val_main_call1_v1 val_main_call1_v0 val_main_v51
  rw [v5_eq]
  pointwise [v44_at x0 x1 x2 x3 x4 x5 x6 x7, v50_at x0 x1 x2 x3 x4 x5 x6 x7, v45_2_at x0 x1 x2 x3 x4 x5 x6 x7, v45_1_at x0 x1 x2 x3 x4 x5 x6 x7]
  rfl

theorem v56_at : val_main_v56 (F := Ideal) x0 x1 x2 x3 x4 x5 x6 x7 (ix2 r j) = dg (args x0 x1 x2 x3 x4 x5 x6 x7).par ((args x0 x1 x2 x3 x4 x5 x6 x7).row r) j := by
  unfold val_main_v56 val_main_v54
  pointwise [v30_at x0 x1 x2 x3 x4 x5 x6 x7, v52_at x0 x1 x2 x3 x4 x5 x6 x7, v43_at x0 x1 x2 x3 x4 x5 x6 x7]
  rfl

theorem v63_at : val_main_v63 (F := Ideal) x0 x1 x2 x3 x4 x5 x6 x7 (ix2 r j) = dv (args x0 x1 x2 x3 x4 x5 x6 x7).par ((args x0 x1 x2 x3 x4 x5 x6 x7).row r) j := by
  unfold val_main_v63 val_main_v62 val_main_v55
  pointwise [v52_at x0 x1 x2 x3 x4 x5 x6 x7, v40_at x0 x1 x2 x3 x4 x5 x6 x7, v56_at x0 x1 x2 x3 x4 x5 x6 x7]
  rfl

theorem v70_at : val_main_v70 (F := Ideal) x0 x1 x2 x3 x4 x5 x6 x7 (ix2 r j) = dt (args x0 x1 x2 x3 x4 x5 x6 x7).par ((args x0 x1 x2 x3 x4 x5 x6 x7).row r) j := by
  unfold val_main_v70 val_main_v69 val_main_cst_12 val_main_v68 val_main_v67 val_main_v66 val_main_cst_11 val_main_v64
  pointwise [v9_at x0 x1 x2 x3 x4 x5 x6 x7, v63_at x0 x1 x2 x3 x4 x5 x6 x7, v25_at x0 x1 x2 x3 x4 x5 x6 x7]
  rfl

theorem v75_at : val_main_v75 (F := Ideal) x0 x1 x2 x3 x4 x5 x6 x7 (ix2 r j) = dy (args x0 x1 x2 x3 x4 x5 x6 x7).par ((args x0 x1 x2 x3 x4 x5 x6 x7).row r) j := by
  unfold val_main_v75 val_main_v74 val_main_v73 val_main_v72 val_main_cst_13 val_main_v71 val_main_v65
  pointwise [v63_at x0 x1 x2 x3 x4 x5 x6 x7, v29_at x0 x1 x2 x3 x4 x5 x6 x7, v70_at x0 x1 x2 x3 x4 x5 x6 x7, v14_at x0 x1 x2 x3 x4 x5 x6 x7]
  rfl

theorem v77_at : val_main_v77 (F := Ideal) x0 x1 x2 x3 x4 x5 x6 x7 (ix2 r j) = du (args x0 x1 x2 x3 x4 x5 x6 x7).par ((args x0 x1 x2 x3 x4 x5 x6 x7).row r) j := by
  unfold val_main_v77 val_main_v76 val_main_v6
  pointwise [v75_at x0 x1 x2 x3 x4 x5 x6 x7]
  rfl

/-! The seven results. -/

theorem res_dY : val_main_v85 (F := Ideal) x0 x1 x2 x3 x4 x5 x6 x7 = fun i : S4160x768.Idx => (args x0 x1 x2 x3 x4 x5 x6 x7).dY (i 0) (i 1) := by
  refine (there_and_back _ _ _).trans ?_
  funext y
  obtain ⟨r, j, rfl⟩ : ∃ (r : Fin 4160) (j : Fin 768), y = ix2 r j := ⟨_, _, eq_ix2 y⟩
  exact v75_at x0 x1 x2 x3 x4 x5 x6 x7 r j

theorem res_dU : val_main_v86 (F := Ideal) x0 x1 x2 x3 x4 x5 x6 x7 = fun i : S4160x768.Idx => (args x0 x1 x2 x3 x4 x5 x6 x7).dU (i 0) (i 1) := by
  refine (there_and_back _ _ _).trans ?_
  funext y
  obtain ⟨r, j, rfl⟩ : ∃ (r : Fin 4160) (j : Fin 768), y = ix2 r j := ⟨_, _, eq_ix2 y⟩
  exact v77_at x0 x1 x2 x3 x4 x5 x6 x7 r j

theorem res_dZ : val_main_v87 (F := Ideal) x0 x1 x2 x3 x4 x5 x6 x7 = fun i : S4160x768.Idx => (args x0 x1 x2 x3 x4 x5 x6 x7).dZ (i 0) (i 1) := by
  refine (there_and_back _ _ _).trans ?_
  funext y
  obtain ⟨r, j, rfl⟩ : ∃ (r : Fin 4160) (j : Fin 768), y = ix2 r j := ⟨_, _, eq_ix2 y⟩
  exact v53_at x0 x1 x2 x3 x4 x5 x6 x7 r j

theorem res_dD : val_main_v88 (F := Ideal) x0 x1 x2 x3 x4 x5 x6 x7 = fun i : S1x768.Idx => (args x0 x1 x2 x3 x4 x5 x6 x7).dD (i 1) := by
  funext y
  obtain ⟨r, j, rfl⟩ : ∃ (r : Fin 1) (j : Fin 768), y = ix2 r j := ⟨_, _, eq_ix2 y⟩
  unfold val_main_v88 val_main_v81 val_main_cst_15 val_main_v80 val_main_v79 val_main_cst_14 val_main_v78
  pointwise [v75_at x0 x1 x2 x3 x4 x5 x6 x7]
  rw [v4_eq]
  exact Fin.sum_univ_one _

theorem res_dBias : val_main_v89 (F := Ideal) x0 x1 x2 x3 x4 x5 x6 x7 = fun i : S1x768.Idx => (args x0 x1 x2 x3 x4 x5 x6 x7).dBias (i 1) := by
  funext y
  obtain ⟨r, j, rfl⟩ : ∃ (r : Fin 1) (j : Fin 768), y = ix2 r j := ⟨_, _, eq_ix2 y⟩
  unfold val_main_v89 val_main_v59 val_main_cst_10 val_main_v58 val_main_v57 val_main_cst_9
  pointwise [v56_at x0 x1 x2 x3 x4 x5 x6 x7]
  exact Fin.sum_univ_one _

theorem res_dGlu : val_main_v61 (F := Ideal) x0 x1 x2 x3 x4 x5 x6 x7 = fun i : S768x768.Idx => (args x0 x1 x2 x3 x4 x5 x6 x7).dGlu (i 0) (i 1) := by
  funext y
  obtain ⟨r, j, rfl⟩ : ∃ (r : Fin 768) (j : Fin 768), y = ix2 r j := ⟨_, _, eq_ix2 y⟩
  unfold val_main_v61 val_main_v60
  pointwise [v56_at x0 x1 x2 x3 x4 x5 x6 x7, v30_at x0 x1 x2 x3 x4 x5 x6 x7]
  exact Finset.sum_congr rfl fun _ _ => mul_comm _ _

theorem res_dBranch : val_main_v49 (F := Ideal) x0 x1 x2 x3 x4 x5 x7 = fun i : S768x1024.Idx => (args x0 x1 x2 x3 x4 x5 x6 x7).dBranch (i 0) (i 1) := by
  funext y
  obtain ⟨r, j, rfl⟩ : ∃ (r : Fin 768) (j : Fin 1024), y = ix2 r j := ⟨_, _, eq_ix2 y⟩
  unfold val_main_v49 val_main_v48
  pointwise [v46_at x0 x1 x2 x3 x4 x5 x6 x7]
  exact Finset.sum_congr rfl fun _ _ => mul_comm _ _

end Cert.S5.Ref
-- ==== Proof.S5.Equation.lean ====
/- The kernel and the reference on the same arguments. -/
module

public import proofs.«01_k».proof.Proof.S5.Array
public import proofs.«01_k».proof.Proof.S5.Reference

@[expose] public section

noncomputable section

namespace Cert.S5

open Idealize.ShloMosaic Idealize.ShloMosaic.TcCoe Idealize.SL.Sem Cert.S5TailIdeal

theorem args_same (m : (ℓ : Loc nD τ sig) → Buf (Elt Ideal) ℓ) (c : Dev nD) {x0 x1 x2 : Vec Ideal S4160x768 .f32} {x3 x4 : Vec Ideal S768 .f32}
    {x5 : Vec Ideal S768x768 .f32} {x6 : Vec Ideal S768x1024 .f32} {x7 : Vec Ideal S4160x1024 .f32}
    (h0 : x0 = m ((c : Thread nD τ).loc main_arg0)) (h1 : x1 = m ((c : Thread nD τ).loc main_arg1))
    (h2 : x2 = m ((c : Thread nD τ).loc main_arg2)) (h3 : x3 = m ((c : Thread nD τ).loc main_arg3))
    (h4 : x4 = m ((c : Thread nD τ).loc main_arg4)) (h5 : x5 = m ((c : Thread nD τ).loc main_arg5))
    (h6 : x6 = m ((c : Thread nD τ).loc main_arg6)) (h7 : x7 = m ((c : Thread nD τ).loc main_arg7)) :
    Ref.args x0 x1 x2 x3 x4 x5 x6 x7 = argsK m c := by
  subst h0 h1 h2 h3 h4 h5 h6 h7
  rfl

end Cert.S5
-- ==== Proof.Tail.Norm.lean ====
/- The root mean square norm of a row and its gradient, on the extended reals. `N` is the row's length as its word reads, `x`
   the row, `c` the cotangent of the normalised row. Both tails that end in such a norm are read to these. -/
module

public import Idealize.ShloMosaic.Lib.ValueIdx
public import Idealize.ShloMosaic.Lib.Pointwise
public import Idealize.ShloMosaic.PureOps.Ideal.Laws

@[expose] public section

noncomputable section

namespace Cert.Tail

open Idealize.ShloMosaic

/-- The norm's epsilon and minus one half, as their words read. -/
abbrev cEps : EReal := Ideal.ofBits .f32 0x3727C5AC#32
abbrev cNegHalf : EReal := Ideal.ofBits .f32 0xBF000000#32

variable {n : ℕ} (N : EReal) (x c : Fin n → EReal)

/-- Forward: the mean of the squares with epsilon, its reciprocal root, the normalised row. -/
def ms : EReal := Ideal.div (∑ j, x j * x j) N + cEps
def ir : EReal := Ideal.rsqrt (ms N x)
def nrm (j : Fin n) : EReal := x j * ir N x

/-- Backward: the derivative of the reciprocal root, what reaches each square through the mean, the row's gradient. -/
def dir : EReal := cNegHalf * Ideal.div (ir N x) (ms N x)
def dm : EReal := Ideal.div ((∑ j, x j * c j) * dir N x) N
def dx (j : Fin n) : EReal := c j * ir N x + x j * dm N x c + dm N x c * x j

end Cert.Tail
-- ==== Proof.Ssd.Row.lean ====
/- One row of the SSD branch's tail and its gradient, on the extended reals. `Par` holds what all rows share (the norm's scale,
   the branch matrix), `RowIn` what belongs to one row (the recurrence's result, the branch's gate logits, the cotangent of the
   branch's result). -/
module

public import proofs.«01_k».proof.Proof.Tail.Norm

@[expose] public section

noncomputable section

namespace Cert.Ssd

open Idealize.ShloMosaic Cert.Tail

structure Par where
  g : Fin 768 → EReal
  wb : Fin 768 → Fin 1024 → EReal

structure RowIn where
  y : Fin 768 → EReal
  z : Fin 768 → EReal
  ct : Fin 1024 → EReal

/-- The row's length, 768, as its word reads. -/
abbrev cLen : EReal := Ideal.ofBits .f32 0x44400000#32

variable (p : Par) (x : RowIn)

/-- Forward: the branch gate, the gated row, and the normalised and scaled row that the branch matrix multiplies. -/
def sz (j : Fin 768) : EReal := Ideal.logistic (x.z j)
def zz (j : Fin 768) : EReal := x.z j * sz x j
def v (j : Fin 768) : EReal := x.y j * zz x j
def q (j : Fin 768) : EReal := nrm cLen (v x) j * p.g j

/-- Backward: through the branch matrix, the norm's scale, the norm and the branch gate. -/
def dq (j : Fin 768) : EReal := ∑ k, x.ct k * p.wb j k
def dn (j : Fin 768) : EReal := dq p x j * p.g j
def dv (j : Fin 768) : EReal := dx cLen (v x) (dn p x) j
def dy (j : Fin 768) : EReal := dv p x j * zz x j
def dz (j : Fin 768) : EReal := x.y j * dv p x j * sz x j + x.z j * (x.y j * dv p x j) * (sz x j * (1 - sz x j))
def dg (j : Fin 768) : EReal := nrm cLen (v x) j * dq p x j

/-- The arguments, entry by entry. -/
structure Args where
  y : Fin 4160 → Fin 768 → EReal
  z : Fin 4160 → Fin 768 → EReal
  par : Par
  ct : Fin 4160 → Fin 1024 → EReal

variable (A : Args)

def Args.row (r : Fin 4160) : RowIn := ⟨A.y r, A.z r, A.ct r⟩

/-- The results: two by row, two summed over the rows. -/
def Args.dY (r : Fin 4160) (j : Fin 768) : EReal := Ssd.dy A.par (A.row r) j
def Args.dZ (r : Fin 4160) (j : Fin 768) : EReal := Ssd.dz A.par (A.row r) j
def Args.dG (j : Fin 768) : EReal := ∑ r, Ssd.dg A.par (A.row r) j
def Args.dBranch (i : Fin 768) (j : Fin 1024) : EReal := ∑ r, Ssd.q A.par (A.row r) i * A.ct r j

end Cert.Ssd
-- ==== Proof.Ssd.Block.lean ====
/- One grid point of the SSD tail kernel, read row by row: every value the body computes from its input blocks is the row
   function of Row.lean at that row. -/
module

public import proofs.«01_k».proof.Proof.Gen.SsdTailIdeal.Skeleton
public import proofs.«01_k».proof.Proof.Ssd.Row

@[expose] public section

set_option maxRecDepth 16384

noncomputable section

namespace Cert.Ssd

open Idealize.ShloMosaic Cert.SsdTailIdeal Cert.SsdTailIdeal.Gen Cert.Tail

/-- The blocks a grid point reads: the recurrence's result, the gate logits, the norm's scale, the branch matrix, the cotangent. -/
structure Blk where
  x0 : Vec Ideal S416x768 .f32
  x1 : Vec Ideal S416x768 .f32
  x2 : Vec Ideal S1x768 .f32
  x3 : Vec Ideal S768x1024 .bf16
  x4 : Vec Ideal S416x1024 .f32

namespace Blk

variable (b : Blk)

/-! The body's intermediate values, in its own order. -/

def v12 := k0_pay12 b.x0 b.x1
def v19 := k0_pay13 b.x0 b.x1
def v20 := k0_pay14 b.x0 b.x1
def v23 := k0_pay15 b.x0 b.x1
def v25 := k0_pay16 b.x0 b.x1
def v29 := k0_pay17 b.x3 b.x4
def v32 := k0_pay18 b.x0 b.x1 b.x2 b.x4
def v35 := k0_pay19 b.x0 b.x1 b.x3 b.x4
def v37 := k0_pay20 b.x2 b.x3 b.x4
def v39 := k0_pay21 b.x0 b.x1 b.x2 b.x3 b.x4
def v52 := k0_pay1 b.v12 b.v20 b.v23 b.v37 b.v39
def v54 := k0_pay2 (k0_pay11 b.x1) b.v12 b.v20 b.v23 b.v37 b.v39
def v58 := k0_pay3 b.x0 b.x1 (k0_pay9 b.x1) (k0_pay10 b.x1) b.v12 b.v20 b.v23 b.v37 b.v39

/-- The block's shared values and its row `r`, as Row.lean takes them. -/
def par : Par where
  g j := b.x2 (ix2 0 j)
  wb k j := b.x3 (ix2 k j)

def row (r : Fin 416) : RowIn where
  y j := b.x0 (ix2 r j)
  z j := b.x1 (ix2 r j)
  ct j := b.x4 (ix2 r j)

variable (r : Fin 416) (j : Fin 768)

theorem v7_at : k0_pay9 b.x1 (ix2 r j) = sz (b.row r) j := by
  unfold k0_pay9; pointwise; rfl

theorem v11_at : k0_pay11 b.x1 (ix2 r j) = zz (b.row r) j := by
  rw [zz, ← v7_at]; unfold k0_pay11; pointwise; rfl

theorem v12_at : b.v12 (ix2 r j) = v (b.row r) j := by
  rw [v, ← v11_at]; unfold v12 k0_pay12; pointwise; rfl

theorem v19_at : b.v19 (ix2 r 0) = ms cLen (v (b.row r)) := by
  simp only [ms, ← v12_at]; unfold v19 k0_pay13; pointwise; rfl

theorem v20_at : b.v20 (ix2 r 0) = ir cLen (v (b.row r)) := by
  rw [ir, ← v19_at]; unfold v20 k0_pay14; pointwise; rfl

theorem v23_at : b.v23 (ix2 r 0) = dir cLen (v (b.row r)) := by
  rw [dir, ← v19_at, ← v20_at]; unfold v23 k0_pay15; pointwise; rfl

theorem v25_at : b.v25 (ix2 r j) = nrm cLen (v (b.row r)) j := by
  rw [nrm, ← v12_at, ← v20_at]; unfold v25 k0_pay16; pointwise; rfl

theorem v29_at : b.v29 (ix2 r j) = dq b.par (b.row r) j := by
  unfold v29 k0_pay17; pointwise [dot_S416x1024_S768x1024_S416x768_1_1_0_0_n_n]; rfl

theorem v32_at (i : Fin 768) (j : Fin 1024) : b.v32 (ix2 i j) = ∑ r, q b.par (b.row r) i * (b.row r).ct j := by
  simp only [q, ← v25_at]; unfold v32 k0_pay18 k0_pay8
  pointwise [dot_S416x768_S416x1024_S768x1024_0_0_1_1_n_n]; rfl

theorem v35_at : b.v35 (ix2 0 j) = ∑ r, dg b.par (b.row r) j := by
  simp only [dg, ← v25_at, ← v29_at]; unfold v35 k0_pay19; pointwise; rfl

theorem v37_at : b.v37 (ix2 r j) = dn b.par (b.row r) j := by
  rw [dn, ← v29_at]; unfold v37 k0_pay20 k0_pay8; pointwise; rfl

theorem v39_at : b.v39 (ix1 r) = ∑ j, v (b.row r) j * dn b.par (b.row r) j := by
  simp only [← v12_at, ← v37_at]; unfold v39 k0_pay21; pointwise; rfl

theorem v52_at : b.v52 (ix2 r j) = dv b.par (b.row r) j := by
  simp only [dv, dx, dm]
  rw [← v39_at, ← v12_at, ← v20_at, ← v23_at, ← v37_at]
  unfold v52 k0_pay1
  pointwise
  simp only [Fin.sum_univ_one]

theorem v54_at : b.v54 (ix2 r j) = dy b.par (b.row r) j := by
  rw [dy, ← v52_at, ← v11_at]; unfold v54 k0_pay2; pointwise; rfl

theorem v58_at : b.v58 (ix2 r j) = dz b.par (b.row r) j := by
  rw [dz, ← v52_at, ← v7_at]; unfold v58 k0_pay3 k0_pay10; pointwise; rfl

/-! What the body adds to each of the two summed blocks, over what it finds there. -/

theorem add7 (w : Vec Ideal S1x768 .f32) :
    (k0_pay6 b.v35 w : Vec Ideal S1x768 .f32) (ix2 0 j) = w (ix2 0 j) + ∑ r, dg b.par (b.row r) j := by
  rw [← v35_at]; unfold k0_pay6; pointwise

theorem add8 (w : Vec Ideal S768x1024 .f32) (i : Fin 768) (j : Fin 1024) :
    (k0_pay7 b.v32 w : Vec Ideal S768x1024 .f32) (ix2 i j) = w (ix2 i j) + ∑ r, q b.par (b.row r) i * (b.row r).ct j := by
  rw [← v32_at]; unfold k0_pay7; pointwise

end Blk

theorem zero7 (j : Fin 768) : (k0_pay4 (F := Ideal) : Vec Ideal S1x768 .f32) (ix2 0 j) = (0 : EReal) := by
  unfold k0_pay4; pointwise
theorem zero8 (i : Fin 768) (j : Fin 1024) : (k0_pay5 (F := Ideal) : Vec Ideal S768x1024 .f32) (ix2 i j) = (0 : EReal) := by
  unfold k0_pay5; pointwise

end Cert.Ssd
-- ==== Proof.Tail.Rows.lean ====
/- Rows in 10 blocks of 416. -/
module

public import Idealize.ShloMosaic.PureOps.Ideal.Laws
public import Mathlib.Algebra.BigOperators.Fin
public import Mathlib.Logic.Equiv.Fin.Basic

@[expose] public section

namespace Cert.Tail

/-- Row `r` of block `t`. -/
def rowAt (t : Fin 10) (r : Fin 416) : Fin 4160 := ⟨t.val * 416 + r.val, by omega⟩

/-- A sum block by block is the sum over the rows. -/
theorem sum_blocks (f : Fin 4160 → EReal) : ∑ t, ∑ r, f (rowAt t r) = ∑ r, f r := by
  rw [← (finProdFinEquiv (m := 10) (n := 416)).sum_comp f, Fintype.sum_prod_type]
  refine Finset.sum_congr rfl fun t _ => Finset.sum_congr rfl fun r _ => congrArg f (Fin.ext ?_)
  show t.val * 416 + r.val = r.val + 416 * t.val
  omega

end Cert.Tail
-- ==== Proof.Ssd.Array.lean ====
/- The kernel's four result arrays. Point `t` reads rows 416t … 416t+415 of the row arrays and all of the shared ones, writes
   the same rows of two results, and adds to two blocks that stay in place over the 10 points. -/
module

public import proofs.«01_k».proof.Proof.Gen.SsdTailIdeal.Value
public import proofs.«01_k».proof.Proof.Ssd.Block
public import proofs.«01_k».proof.Proof.Tail.Rows
public import Idealize.ShloMosaic.Lib.Pipeline.ValueKit.Geometry
public import Idealize.ShloMosaic.Lib.Pipeline.ValueKit.Acc

@[expose] public section

set_option maxRecDepth 16384

noncomputable section

namespace Cert.Ssd

open Idealize.ShloMosaic Idealize.ShloMosaic.TcCoe Idealize.ShloMosaic.StableHlo Idealize.SL.Sem Cert.SsdTailIdeal Cert.SsdTailIdeal.Gen
open Idealize.ShloMosaic.Pipeline Cert.Tail

variable (m : (ℓ : Loc nD τ sig) → Buf (Elt Ideal) ℓ) (c : Dev nD)

/-- The kernel's arguments. -/
def argsK : Args where
  y r j := m ((c : Thread nD τ).loc main_arg0) (ix2 r j)
  z r j := m ((c : Thread nD τ).loc main_arg1) (ix2 r j)
  par := ⟨fun j => m ((c : Thread nD τ).loc main_arg2) (ix1 j), fun k j => m ((c : Thread nD τ).loc main_arg3) (ix2 k j)⟩
  ct r j := m ((c : Thread nD τ).loc main_arg4) (ix2 r j)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index2 : ∀ t : Fin cfg0.N, win0_2.index t = ![0, 0] := fun _ => rfl
theorem index3 : ∀ t : Fin cfg0.N, win0_3.index t = ![0, 0] := fun _ => rfl

/-! The host lines before the region lay the norm's scale out as a row and cast the matrix. -/

theorem V_v0 (j : Fin 768) : V m c main_v0 (ix2 0 j) = (argsK m c).par.g j := by
  unfold_abbrev_sides
  after_results
  pointwise

theorem V_v1 (k : Fin 768) (j : Fin 1024) : V m c main_v1 (ix2 k j) = (argsK m c).par.wb k j := by
  unfold_abbrev_sides
  after_results
  pointwise

/-! The blocks point `t` reads. -/

theorem iblk0 (t : Fin cfg0.N) (r : Fin 416) (j : Fin 768) : iblk m c 0 t (ix2 r j) = (argsK m c).y (rowAt t r) j := by
  refine Eq.trans ?_ (congrFun (V_main_arg0 m c) _)
  blk_simp [iblk]
  exact congrArg (V m c main_arg0) (by blk_ext [index0, rowAt])

theorem iblk1 (t : Fin cfg0.N) (r : Fin 416) (j : Fin 768) : iblk m c 1 t (ix2 r j) = (argsK m c).z (rowAt t r) j := by
  refine Eq.trans ?_ (congrFun (V_main_arg1 m c) _)
  blk_simp [iblk]
  exact congrArg (V m c main_arg1) (by blk_ext [index1, rowAt])

theorem iblk4 (t : Fin cfg0.N) (r : Fin 416) (j : Fin 1024) : iblk m c 4 t (ix2 r j) = (argsK m c).ct (rowAt t r) j := by
  refine Eq.trans ?_ (congrFun (V_main_arg4 m c) _)
  blk_simp [iblk]
  exact congrArg (V m c main_arg4) (by blk_ext [index4, rowAt])

theorem iblk2 (t : Fin cfg0.N) (j : Fin 768) : iblk m c 2 t (ix2 0 j) = (argsK m c).par.g j := by
  rw [← V_v0]
  blk_simp [iblk]
  exact congrArg (V m c main_v0) (by blk_ext [index2])

theorem iblk3 (t : Fin cfg0.N) (k : Fin 768) (j : Fin 1024) : iblk m c 3 t (ix2 k j) = (argsK m c).par.wb k j := by
  rw [← V_v1]
  blk_simp [iblk]
  exact congrArg (V m c main_v1) (by blk_ext [index3])

/-- Point `t`'s blocks. -/
def blkAt (t : Fin cfg0.N) : Blk := ⟨iblk m c 0 t, iblk m c 1 t, iblk m c 2 t, iblk m c 3 t, iblk m c 4 t⟩

theorem par_at (t : Fin cfg0.N) : (blkAt m c t).par = (argsK m c).par := by
  show Par.mk _ _ = Par.mk _ _
  congr 1
  · funext j; exact iblk2 m c t j
  · funext k j; exact iblk3 m c t k j

theorem row_at (t : Fin cfg0.N) (r : Fin 416) : (blkAt m c t).row r = (argsK m c).row (rowAt t r) := by
  show RowIn.mk _ _ _ = RowIn.mk _ _ _
  congr 1
  · funext j; exact iblk0 m c t r j
  · funext j; exact iblk1 m c t r j
  · funext j; exact iblk4 m c t r j

/-! The two results by row: what the body leaves at point `t`, whichever case it runs, is rows of the result. -/

theorem left5 (t : Fin cfg0.N) : (outsAt0 m c t.val t.isLt).1 = (blkAt m c t).v54 := by
  by_cases h0 : t.val % 10 = 0
  · rw [outsAt0_A m c t h0]; frame_out; rfl
  · rw [outsAt0_B m c t h0]; frame_out; rfl

theorem final5 : (dats m 0 c).arrAt 5 cfg0.N = fun i : S4160x768.Idx => (argsK m c).dY (i 0) (i 1) := by
  refine (dats m 0 c).arrAt_eq_of_covers 5 _ (by decide +kernel) fun t hf y => ?_
  blk_simp
  rw [after0_5, left5]
  obtain ⟨r, j, rfl⟩ : ∃ (r : Fin 416) (j : Fin 768), y = ix2 r j := ⟨_, _, eq_ix2 y⟩
  rw [show ((View.whole main_v2_0).slice (win0_5.rect t)).emb (ix2 r j) = ix2 (rowAt t r) j by blk_ext [index5, rowAt], Blk.v54_at, par_at,
    row_at]
  rfl

theorem left6 (t : Fin cfg0.N) : (outsAt0 m c t.val t.isLt).2.1 = (blkAt m c t).v58 := by
  by_cases h0 : t.val % 10 = 0
  · rw [outsAt0_A m c t h0]; frame_out; rfl
  · rw [outsAt0_B m c t h0]; frame_out; rfl

theorem final6 : (dats m 0 c).arrAt 6 cfg0.N = fun i : S4160x768.Idx => (argsK m c).dZ (i 0) (i 1) := by
  refine (dats m 0 c).arrAt_eq_of_covers 6 _ (by decide +kernel) fun t hf y => ?_
  blk_simp
  rw [after0_6, left6]
  obtain ⟨r, j, rfl⟩ : ∃ (r : Fin 416) (j : Fin 768), y = ix2 r j := ⟨_, _, eq_ix2 y⟩
  rw [show ((View.whole main_v2_1).slice (win0_6.rect t)).emb (ix2 r j) = ix2 (rowAt t r) j by blk_ext [index6, rowAt], Blk.v58_at, par_at,
    row_at]
  rfl

/-! The two summed results: the first point adds to zeros, every later one to what the point before left, and the block is
    written back after the last. -/

theorem first7 (t : Fin cfg0.N) (h0 : t.val % 10 = 0) : (outsAt0 m c t.val t.isLt).2.2.1 = k0_pay6 (blkAt m c t).v35 (k0_pay4 (F := Ideal)) := by
  rw [outsAt0_A m c t h0]; frame_out; rfl

theorem later7 (t : Fin cfg0.N) (h0 : ¬t.val % 10 = 0) : (outsAt0 m c t.val t.isLt).2.2.1 =
    k0_pay6 (blkAt m c t).v35 (outsAt0 m c (t.val - 1) (Nat.lt_of_le_of_lt (Nat.sub_le _ _) t.isLt)).2.2.1 := by
  rw [outsAt0_B m c t h0]; frame_out; rfl

theorem sum7 (j : Fin 768) (t : Fin cfg0.N) (ht : t.val + 1 = cfg0.N) :
    ((outsAt0 m c t.val t.isLt).2.2.1 (ix2 0 j) : EReal) = (argsK m c).dG j := by
  have e := eq_sum_fin_of_reset_step_last (M := EReal) (fun n h => (outsAt0 m c n h).2.2.1 (ix2 0 j)) 10 0
    (fun t => ∑ r, dg (argsK m c).par ((argsK m c).row (rowAt t r)) j)
    (fun t h0 => by
      refine (congrFun (first7 m c t h0) _).trans ((Blk.add7 (blkAt m c t) j _).trans ?_)
      rw [zero7 j, par_at]
      simp only [row_at])
    (fun t h0 => by
      refine (congrFun (later7 m c t h0) _).trans ((Blk.add7 (blkAt m c t) j _).trans ?_)
      rw [par_at]
      simp only [row_at])
    (le_of_eq N_0) t ht
  exact e.trans ((zero_add _).trans (sum_blocks fun r => dg (argsK m c).par ((argsK m c).row r) j))

theorem final7 : (dats m 0 c).arrAt 7 cfg0.N = fun i : S1x768.Idx => (argsK m c).dG (i 1) := by
  refine (dats m 0 c).arrAt_eq_of_after_last 7 (Fin.cast N_0.symm 9) (by decide +kernel) _ fun i => ?_
  blk_simp
  rw [after0_7]
  obtain ⟨r, j, rfl⟩ : ∃ (r : Fin 1) (j : Fin 768), i = ix2 r j := ⟨_, _, eq_ix2 i⟩
  obtain rfl : r = 0 := Subsingleton.elim _ _
  exact sum7 m c j (Fin.cast N_0.symm 9) rfl

theorem first8 (t : Fin cfg0.N) (h0 : t.val % 10 = 0) : (outsAt0 m c t.val t.isLt).2.2.2 = k0_pay7 (blkAt m c t).v32 (k0_pay5 (F := Ideal)) := by
  rw [outsAt0_A m c t h0]; frame_out; rfl

theorem later8 (t : Fin cfg0.N) (h0 : ¬t.val % 10 = 0) : (outsAt0 m c t.val t.isLt).2.2.2 =
    k0_pay7 (blkAt m c t).v32 (outsAt0 m c (t.val - 1) (Nat.lt_of_le_of_lt (Nat.sub_le _ _) t.isLt)).2.2.2 := by
  rw [outsAt0_B m c t h0]; frame_out; rfl

theorem sum8 (i : Fin 768) (j : Fin 1024) (t : Fin cfg0.N) (ht : t.val + 1 = cfg0.N) :
    ((outsAt0 m c t.val t.isLt).2.2.2 (ix2 i j) : EReal) = (argsK m c).dBranch i j := by
  have e := eq_sum_fin_of_reset_step_last (M := EReal) (fun n h => (outsAt0 m c n h).2.2.2 (ix2 i j)) 10 0
    (fun t => ∑ r, q (argsK m c).par ((argsK m c).row (rowAt t r)) i * ((argsK m c).row (rowAt t r)).ct j)
    (fun t h0 => by
      refine (congrFun (first8 m c t h0) _).trans ((Blk.add8 (blkAt m c t) _ i j).trans ?_)
      rw [zero8 i j, par_at]
      simp only [row_at])
    (fun t h0 => by
      refine (congrFun (later8 m c t h0) _).trans ((Blk.add8 (blkAt m c t) _ i j).trans ?_)
      rw [par_at]
      simp only [row_at])
    (le_of_eq N_0) t ht
  exact e.trans ((zero_add _).trans (sum_blocks fun r => q (argsK m c).par ((argsK m c).row r) i * ((argsK m c).row r).ct j))

theorem final8 : (dats m 0 c).arrAt 8 cfg0.N = fun i : S768x1024.Idx => (argsK m c).dBranch (i 0) (i 1) := by
  refine (dats m 0 c).arrAt_eq_of_after_last 8 (Fin.cast N_0.symm 9) (by decide +kernel) _ fun i => ?_
  blk_simp
  rw [after0_8]
  obtain ⟨r, j, rfl⟩ : ∃ (r : Fin 768) (j : Fin 1024), i = ix2 r j := ⟨_, _, eq_ix2 i⟩
  exact sum8 m c r j (Fin.cast N_0.symm 9) rfl

end Cert.Ssd
-- ==== Proof.Ssd.Reference.lean ====
/- The reference's arrays entry by entry, as the functions of Row.lean, and its four results. -/
module

public import proofs.«01_k».proof.Proof.Gen.SsdTailRefIdeal.Read
public import proofs.«01_k».proof.Proof.Gen.SsdTailRefIdeal.Run
public import proofs.«01_k».proof.Proof.Ssd.Row

@[expose] public section

set_option maxRecDepth 16384

noncomputable section

namespace Cert.Ssd.Ref

open Idealize.ShloMosaic Cert.SsdTailRefIdeal Cert.SsdTailRefIdeal.Read Cert.Tail

variable (x0 x1 : Vec Ideal S4160x768 .f32) (x2 : Vec Ideal S768 .f32) (x3 : Vec Ideal S768x1024 .f32) (x4 : Vec Ideal S4160x1024 .f32)

/-- What the rows share, and row `r`, of the reference's arguments. -/
def par : Par := ⟨fun j => x2 (ix1 j), fun k j => x3 (ix2 k j)⟩
def row (r : Fin 4160) : RowIn := ⟨fun j => x0 (ix2 r j), fun j => x1 (ix2 r j), fun j => x4 (ix2 r j)⟩
def args : Args := ⟨fun r j => x0 (ix2 r j), fun r j => x1 (ix2 r j), par x2 x3, fun r j => x4 (ix2 r j)⟩

variable (r : Fin 4160) (j : Fin 768)

/-- Laid out as one sequence and back, an array is itself. -/
theorem there_and_back (x : Vec Ideal S4160x768 .f32) (h : S4160x768.ShapeCasts S1x4160x768) (h' : S1x4160x768.ShapeCasts S4160x768) :
    shapeCast S4160x768 (shapeCast S1x4160x768 x h) h' = x := by
  rw [shapeCast_shapeCast]

theorem v2_eq : val_main_v2 (F := Ideal) x0 = x0 := there_and_back _ _ _
theorem v3_eq : val_main_v3 (F := Ideal) x1 = x1 := there_and_back _ _ _

theorem v4_2_at : val_main_v4_2 (F := Ideal) x1 (ix2 r j) = sz (row x0 x1 x4 r) j := by
  unfold val_main_v4_2 val_main_call0_v4 val_main_call0_cst_0 val_main_call0_v3 val_main_call0_v2 val_main_call0_cst val_main_call0_v1 val_main_call0_v0
  rw [v3_eq]
  pointwise
  rfl

theorem v4_0_at : val_main_v4_0 (F := Ideal) x1 (ix2 r j) = zz (row x0 x1 x4 r) j := by
  unfold val_main_v4_0
  rw [v3_eq]
  pointwise [v4_2_at x0 x1 x4]
  rfl

theorem v5_at : val_main_v5 (F := Ideal) x0 x1 (ix2 r j) = v (row x0 x1 x4 r) j := by
  unfold val_main_v5
  rw [v2_eq]
  pointwise [v4_0_at x0 x1 x4]
  rfl

theorem v12_at : val_main_v12 (F := Ideal) x0 x1 (ix2 r 0) = ms cLen (v (row x0 x1 x4 r)) := by
  unfold val_main_v12 val_main_v11 val_main_cst_1 val_main_v10 val_main_v9 val_main_cst_0 val_main_v8 val_main_v7 val_main_cst val_main_v6
  pointwise [v5_at x0 x1 x4]
  rfl

theorem v13_at : val_main_v13 (F := Ideal) x0 x1 (ix2 r 0) = ir cLen (v (row x0 x1 x4 r)) := by
  unfold val_main_v13
  pointwise [v12_at x0 x1 x4]
  rfl

theorem v16_at : val_main_v16 (F := Ideal) x0 x1 (ix2 r 0) = dir cLen (v (row x0 x1 x4 r)) := by
  unfold val_main_v16 val_main_v15 val_main_cst_2 val_main_v14
  pointwise [v12_at x0 x1 x4, v13_at x0 x1 x4]
  rfl

theorem v18_at : val_main_v18 (F := Ideal) x0 x1 (ix2 r j) = nrm cLen (v (row x0 x1 x4 r)) j := by
  unfold val_main_v18 val_main_v17
  pointwise [v5_at x0 x1 x4, v13_at x0 x1 x4]
  rfl

theorem v21_at : val_main_v21 (F := Ideal) x0 x1 x2 (ix2 r j) = q (par x2 x3) (row x0 x1 x4 r) j := by
  unfold val_main_v21 val_main_v20 val_main_v19
  pointwise [v18_at x0 x1 x4]
  rfl

theorem v25_at : val_main_v25 (F := Ideal) x3 x4 (ix2 r j) = dq (par x2 x3) (row x0 x1 x4 r) j := by
  unfold val_main_v25
  pointwise
  rfl

theorem v30_at : val_main_v30 (F := Ideal) x2 x3 x4 (ix2 r j) = dn (par x2 x3) (row x0 x1 x4 r) j := by
  unfold val_main_v30 val_main_v29 val_main_v19
  pointwise [v25_at x0 x1 x2 x3 x4]
  rfl

theorem v41_at : val_main_v41 (F := Ideal) x0 x1 x2 x3 x4 (ix2 r j) = dm cLen (v (row x0 x1 x4 r)) (dn (par x2 x3) (row x0 x1 x4 r)) := by
  unfold val_main_v41 val_main_v40 val_main_cst_7 val_main_v39 val_main_v38 val_main_cst_6 val_main_v37 val_main_v34 val_main_v33 val_main_cst_5
    val_main_v32
  pointwise [v5_at x0 x1 x4, v30_at x0 x1 x2 x3 x4]
  simp only [Fin.sum_univ_one, v16_at x0 x1 x4]
  rfl

theorem v45_at : val_main_v45 (F := Ideal) x0 x1 x2 x3 x4 (ix2 r j) = dv (par x2 x3) (row x0 x1 x4 r) j := by
  unfold val_main_v45 val_main_v44 val_main_v43 val_main_v42 val_main_v36 val_main_v35
  pointwise [v5_at x0 x1 x4, v13_at x0 x1 x4, v30_at x0 x1 x2 x3 x4, v41_at x0 x1 x2 x3 x4]
  rfl

theorem v47_at : val_main_v47 (F := Ideal) x0 x1 x2 x3 x4 (ix2 r j) = dy (par x2 x3) (row x0 x1 x4 r) j := by
  unfold val_main_v47
  pointwise [v45_at x0 x1 x2 x3 x4, v4_0_at x0 x1 x4]
  rfl

theorem v48_at : val_main_v48 (F := Ideal) x0 x1 x2 x3 x4 (ix2 r j) = dz (par x2 x3) (row x0 x1 x4 r) j := by
  unfold val_main_v48 val_main_call1_v2 val_main_call1_v1 val_main_call1_v0 val_main_v46 val_main_v4_1 val_main_call0_v7 val_main_call0_v6
    val_main_call0_cst_1
  rw [v2_eq, v3_eq]
  pointwise [v45_at x0 x1 x2 x3 x4, v4_2_at x0 x1 x4]
  rfl

/-! The four results. -/

theorem res_dY : val_main_v51 (F := Ideal) x0 x1 x2 x3 x4 = fun i : S4160x768.Idx => (args x0 x1 x2 x3 x4).dY (i 0) (i 1) := by
  refine (there_and_back _ _ _).trans ?_
  funext y
  obtain ⟨r, j, rfl⟩ : ∃ (r : Fin 4160) (j : Fin 768), y = ix2 r j := ⟨_, _, eq_ix2 y⟩
  exact v47_at x0 x1 x2 x3 x4 r j

theorem res_dZ : val_main_v52 (F := Ideal) x0 x1 x2 x3 x4 = fun i : S4160x768.Idx => (args x0 x1 x2 x3 x4).dZ (i 0) (i 1) := by
  refine (there_and_back _ _ _).trans ?_
  funext y
  obtain ⟨r, j, rfl⟩ : ∃ (r : Fin 4160) (j : Fin 768), y = ix2 r j := ⟨_, _, eq_ix2 y⟩
  exact v48_at x0 x1 x2 x3 x4 r j

theorem res_dG : val_main_v53 (F := Ideal) x0 x1 x3 x4 = fun i : S1x768.Idx => (args x0 x1 x2 x3 x4).dG (i 1) := by
  funext y
  obtain ⟨r, j, rfl⟩ : ∃ (r : Fin 1) (j : Fin 768), y = ix2 r j := ⟨_, _, eq_ix2 y⟩
  unfold val_main_v53 val_main_v31 val_main_cst_4 val_main_v28 val_main_v27 val_main_cst_3 val_main_v26
  pointwise [v18_at x0 x1 x4, v25_at x0 x1 x2 x3 x4]
  exact Fin.sum_univ_one _

theorem res_dBranch : val_main_v24 (F := Ideal) x0 x1 x2 x4 = fun i : S768x1024.Idx => (args x0 x1 x2 x3 x4).dBranch (i 0) (i 1) := by
  funext y
  obtain ⟨r, j, rfl⟩ : ∃ (r : Fin 768) (j : Fin 1024), y = ix2 r j := ⟨_, _, eq_ix2 y⟩
  unfold val_main_v24 val_main_v23
  pointwise [v21_at x0 x1 x2 x3 x4]
  exact Finset.sum_congr rfl fun _ _ => mul_comm _ _

end Cert.Ssd.Ref
-- ==== Proof.Ssd.Equation.lean ====
/- The kernel and the reference on the same arguments. -/
module

public import proofs.«01_k».proof.Proof.Ssd.Array
public import proofs.«01_k».proof.Proof.Ssd.Reference

@[expose] public section

noncomputable section

namespace Cert.Ssd

open Idealize.ShloMosaic Idealize.ShloMosaic.TcCoe Idealize.SL.Sem Cert.SsdTailIdeal

theorem args_same (m : (ℓ : Loc nD τ sig) → Buf (Elt Ideal) ℓ) (c : Dev nD) {x0 x1 : Vec Ideal S4160x768 .f32} {x2 : Vec Ideal S768 .f32}
    {x3 : Vec Ideal S768x1024 .f32} {x4 : Vec Ideal S4160x1024 .f32}
    (h0 : x0 = m ((c : Thread nD τ).loc main_arg0)) (h1 : x1 = m ((c : Thread nD τ).loc main_arg1))
    (h2 : x2 = m ((c : Thread nD τ).loc main_arg2)) (h3 : x3 = m ((c : Thread nD τ).loc main_arg3))
    (h4 : x4 = m ((c : Thread nD τ).loc main_arg4)) : Ref.args x0 x1 x2 x3 x4 = argsK m c := by
  subst h0 h1 h2 h3 h4
  rfl

end Cert.Ssd
-- ==== Proof.Gdn.Row.lean ====
/- One head of one row of the delta branch's tail and its gradient, on the extended reals, and the whole tail by heads. A head
   is 128 neighbouring columns of the 768; each is normalised by itself, with one scale for all heads. -/
module

public import proofs.«01_k».proof.Proof.Tail.Norm

@[expose] public section

noncomputable section

namespace Cert.Gdn

open Idealize.ShloMosaic Cert.Tail

/-- Column `j` of head `h`; a column's head, and its place in the head. -/
def col (h : Fin 6) (j : Fin 128) : Fin 768 := ⟨128 * h.val + j.val, by omega⟩
def hd (i : Fin 768) : Fin 6 := ⟨i.val / 128, by omega⟩
def ln (i : Fin 768) : Fin 128 := ⟨i.val % 128, by omega⟩

theorem col_hd_ln (i : Fin 768) : col (hd i) (ln i) = i := Fin.ext (by simp only [col, hd, ln]; omega)
theorem hd_col (h : Fin 6) (j : Fin 128) : hd (col h j) = h := Fin.ext (by simp only [col, hd]; omega)
theorem ln_col (h : Fin 6) (j : Fin 128) : ln (col h j) = j := Fin.ext (by simp only [col, ln]; omega)

/-- One head of one row: the recurrence's result, the gate logits, the cotangent of the gated head, and the norm's scale. -/
structure HeadIn where
  o : Fin 128 → EReal
  z : Fin 128 → EReal
  d : Fin 128 → EReal
  g : Fin 128 → EReal

/-- The head's width, 128, as its word reads. -/
abbrev cLen : EReal := Ideal.ofBits .f32 0x43000000#32

variable (x : HeadIn) (j : Fin 128)

/-- Forward: the scaled normalised head, the gate, the gated head that the branch matrix multiplies. -/
def sc : EReal := nrm cLen x.o j * x.g j
def sz : EReal := Ideal.logistic (x.z j)
def zz : EReal := x.z j * sz x j
def q : EReal := sc x j * zz x j

/-- Backward: through the gate, the norm's scale and the norm. -/
def ds : EReal := x.d j * zz x j
def dg : EReal := nrm cLen x.o j * ds x j
def dn : EReal := ds x j * x.g j
def dO : EReal := dx cLen x.o (dn x) j
def dz : EReal := sc x j * x.d j * sz x j + x.z j * (sc x j * x.d j) * (sz x j * (1 - sz x j))

/-- What the rows share: the norm's scale and the branch matrix. -/
structure Par where
  g : Fin 128 → EReal
  wb : Fin 768 → Fin 1024 → EReal

structure RowIn where
  o : Fin 768 → EReal
  z : Fin 768 → EReal
  ct : Fin 1024 → EReal

/-- Back through the branch matrix, and one head of a row. -/
def dq (p : Par) (x : RowIn) (i : Fin 768) : EReal := ∑ k, x.ct k * p.wb i k
def head (p : Par) (x : RowIn) (h : Fin 6) : HeadIn :=
  ⟨fun j => x.o (col h j), fun j => x.z (col h j), fun j => dq p x (col h j), p.g⟩

/-- The arguments, entry by entry. -/
structure Args where
  o : Fin 4160 → Fin 768 → EReal
  z : Fin 4160 → Fin 768 → EReal
  par : Par
  ct : Fin 4160 → Fin 1024 → EReal

variable (A : Args)

def Args.row (r : Fin 4160) : RowIn := ⟨A.o r, A.z r, A.ct r⟩

/-- The results: two by row, two summed over the rows. -/
def Args.dO (r : Fin 4160) (i : Fin 768) : EReal := Gdn.dO (head A.par (A.row r) (hd i)) (ln i)
def Args.dZ (r : Fin 4160) (i : Fin 768) : EReal := Gdn.dz (head A.par (A.row r) (hd i)) (ln i)
def Args.dG (j : Fin 128) : EReal := ∑ r, ∑ h, Gdn.dg (head A.par (A.row r) h) j
def Args.dBranch (i : Fin 768) (k : Fin 1024) : EReal := ∑ r, Gdn.q (head A.par (A.row r) (hd i)) (ln i) * A.ct r k

end Cert.Gdn
-- ==== Proof.Gdn.Head.lean ====
/- One head of a grid point, as vector operations: what the kernel does to each of the six heads. Each value reads, row by row,
   as the function of Row.lean. -/
module

public import proofs.«01_k».proof.Proof.Gen.GdnTailIdeal.Skeleton
public import proofs.«01_k».proof.Proof.Gdn.Row

@[expose] public section

set_option maxRecDepth 16384

noncomputable section

namespace Cert.Gdn

open Idealize.ShloMosaic Cert.GdnTailIdeal Cert.GdnTailIdeal.Gen Cert.Tail

/-- A head's columns of the recurrence's result, the gate logits and the cotangent of the gated row, and the norm's scale. -/
structure Hd where
  o : FVec Ideal S416x128 .f32
  z : FVec Ideal S416x128 .f32
  d : FVec Ideal S416x128 .f32
  g : FVec Ideal S1x128 .f32

namespace Hd

variable (b : Hd)

def ms : FVec Ideal S416x1 .f32 :=
  addf (divf (shapeCast S416x1 (multiReduction .add [1] S416 (mulf b.o b.o) 0x00000000#32 reduces_S416x128_S416 (.inl rfl) rfl)
    shapeCasts_S416_S416x1) (broadcast S416x1 (Scalar.ofBits .f32 0x43000000#32))) (broadcast S416x1 (Scalar.ofBits .f32 0x3727C5AC#32))
def ir : FVec Ideal S416x1 .f32 := rsqrt b.ms
def dir : FVec Ideal S416x1 .f32 := mulf (broadcast S416x1 (Scalar.ofBits .f32 0xBF000000#32)) (divf b.ir b.ms)
def nrm : FVec Ideal S416x128 .f32 := mulf b.o (broadcastTo S416x128 b.ir broadcasts_S416x1_S416x128)
def sc : FVec Ideal S416x128 .f32 := mulf b.nrm (broadcastTo S416x128 b.g broadcasts_S1x128_S416x128)
def sz : FVec Ideal S416x128 .f32 := logistic b.z
def zz : FVec Ideal S416x128 .f32 := mulf b.z b.sz
def q : FVec Ideal S416x128 .f32 := mulf b.sc b.zz
def ds : FVec Ideal S416x128 .f32 := mulf b.d b.zz
def dzz : FVec Ideal S416x128 .f32 := mulf b.sc b.d
def dz : FVec Ideal S416x128 .f32 :=
  addf (mulf b.dzz b.sz) (mulf (mulf b.z b.dzz) (mulf b.sz (subf (broadcast S416x128 (Scalar.ofBits .f32 0x3F800000#32)) b.sz)))
def dg : FVec Ideal S1x128 .f32 :=
  shapeCast S1x128 (multiReduction .add [0] S128 (mulf b.nrm b.ds) 0x00000000#32 reduces_S416x128_S128 (.inl rfl) rfl) shapeCasts_S128_S1x128
def dn : FVec Ideal S416x128 .f32 := mulf b.ds (broadcastTo S416x128 b.g broadcasts_S1x128_S416x128)
def cs : FVec Ideal S416x1 .f32 :=
  shapeCast S416x1 (multiReduction .add [1] S416 (mulf b.o b.dn) 0x00000000#32 reduces_S416x128_S416 (.inl rfl) rfl) shapeCasts_S416_S416x1
def dm : FVec Ideal S416x128 .f32 :=
  broadcastTo S416x128 (shapeCast S416x1 (multiReduction .add [1] S416 (divf (mulf b.cs b.dir)
    (broadcast S416x1 (Scalar.ofBits .f32 0x43000000#32))) 0x00000000#32 reduces_S416x1_S416 (.inl rfl) rfl) shapeCasts_S416_S416x1)
    broadcasts_S416x1_S416x128
def dO : FVec Ideal S416x128 .f32 :=
  addf (addf (mulf b.dn (broadcastTo S416x128 b.ir broadcasts_S416x1_S416x128)) (mulf b.o b.dm)) (mulf b.dm b.o)

/-- Row `r` of the head. -/
def row (r : Fin 416) : HeadIn := ⟨fun j => b.o (ix2 r j), fun j => b.z (ix2 r j), fun j => b.d (ix2 r j), fun j => b.g (ix2 0 j)⟩

variable (r : Fin 416) (j : Fin 128)

theorem ms_at : b.ms (ix2 r 0) = Tail.ms cLen (b.row r).o := by
  unfold ms; pointwise; rfl

theorem ir_at : b.ir (ix2 r 0) = Tail.ir cLen (b.row r).o := by
  rw [Tail.ir, ← ms_at]; unfold ir; pointwise

theorem dir_at : b.dir (ix2 r 0) = Tail.dir cLen (b.row r).o := by
  rw [Tail.dir, ← ms_at, ← ir_at]; unfold dir; pointwise

theorem nrm_at : b.nrm (ix2 r j) = Tail.nrm cLen (b.row r).o j := by
  rw [Tail.nrm, ← ir_at]; unfold nrm; pointwise; rfl

theorem sc_at : b.sc (ix2 r j) = Gdn.sc (b.row r) j := by
  rw [Gdn.sc, ← nrm_at]; unfold sc; pointwise; rfl

theorem sz_at : b.sz (ix2 r j) = Gdn.sz (b.row r) j := by
  unfold sz; pointwise; rfl

theorem zz_at : b.zz (ix2 r j) = Gdn.zz (b.row r) j := by
  rw [Gdn.zz, ← sz_at]; unfold zz; pointwise; rfl

theorem q_at : b.q (ix2 r j) = Gdn.q (b.row r) j := by
  rw [Gdn.q, ← sc_at, ← zz_at]; unfold q; pointwise

theorem ds_at : b.ds (ix2 r j) = Gdn.ds (b.row r) j := by
  rw [Gdn.ds, ← zz_at]; unfold ds; pointwise; rfl

theorem dz_at : b.dz (ix2 r j) = Gdn.dz (b.row r) j := by
  rw [Gdn.dz, ← sc_at, ← sz_at]; unfold dz dzz; pointwise; rfl

theorem dg_at : b.dg (ix2 0 j) = ∑ r, Gdn.dg (b.row r) j := by
  simp only [Gdn.dg, ← nrm_at, ← ds_at]; unfold dg; pointwise

theorem dn_at : b.dn (ix2 r j) = Gdn.dn (b.row r) j := by
  rw [Gdn.dn, ← ds_at]; unfold dn; pointwise; rfl

theorem cs_at : b.cs (ix2 r 0) = ∑ j, (b.row r).o j * Gdn.dn (b.row r) j := by
  simp only [← dn_at]; unfold cs; pointwise; rfl

theorem dm_at : b.dm (ix2 r j) = Tail.dm cLen (b.row r).o (Gdn.dn (b.row r)) := by
  rw [Tail.dm, ← cs_at, ← dir_at]; unfold dm; pointwise
  simp only [Fin.sum_univ_one]

theorem dO_at : b.dO (ix2 r j) = Gdn.dO (b.row r) j := by
  rw [Gdn.dO, dx, ← dn_at, ← dm_at, ← ir_at]; unfold dO; pointwise; rfl

end Hd

/-! The kernel lays a head's gradient among zeros: `padK` puts it at head `K`. -/

def pad0 (x : FVec Ideal S416x128 .f32) : FVec Ideal S416x768 .f32 :=
  concatenate S416x768 1 [⟨S416x128, x⟩, ⟨S416x640, broadcast S416x640 (Scalar.ofBits (F := Ideal) .f32 0x00000000#32)⟩]
    concatenates_S416x128_S416x640_S416x768_d1
def pad1 (x : FVec Ideal S416x128 .f32) : FVec Ideal S416x768 .f32 :=
  concatenate S416x768 1 [⟨S416x256, concatenate S416x256 1 [⟨S416x128, broadcast S416x128 (Scalar.ofBits (F := Ideal) .f32 0x00000000#32)⟩,
    ⟨S416x128, x⟩] concatenates_S416x128_S416x128_S416x256_d1⟩, ⟨S416x512, broadcast S416x512 (Scalar.ofBits (F := Ideal) .f32 0x00000000#32)⟩]
    concatenates_S416x256_S416x512_S416x768_d1
def pad2 (x : FVec Ideal S416x128 .f32) : FVec Ideal S416x768 .f32 :=
  concatenate S416x768 1 [⟨S416x384, concatenate S416x384 1 [⟨S416x256, broadcast S416x256 (Scalar.ofBits (F := Ideal) .f32 0x00000000#32)⟩,
    ⟨S416x128, x⟩] concatenates_S416x256_S416x128_S416x384_d1⟩, ⟨S416x384, broadcast S416x384 (Scalar.ofBits (F := Ideal) .f32 0x00000000#32)⟩]
    concatenates_S416x384_S416x384_S416x768_d1
def pad3 (x : FVec Ideal S416x128 .f32) : FVec Ideal S416x768 .f32 :=
  concatenate S416x768 1 [⟨S416x512, concatenate S416x512 1 [⟨S416x384, broadcast S416x384 (Scalar.ofBits (F := Ideal) .f32 0x00000000#32)⟩,
    ⟨S416x128, x⟩] concatenates_S416x384_S416x128_S416x512_d1⟩, ⟨S416x256, broadcast S416x256 (Scalar.ofBits (F := Ideal) .f32 0x00000000#32)⟩]
    concatenates_S416x512_S416x256_S416x768_d1
def pad4 (x : FVec Ideal S416x128 .f32) : FVec Ideal S416x768 .f32 :=
  concatenate S416x768 1 [⟨S416x640, concatenate S416x640 1 [⟨S416x512, broadcast S416x512 (Scalar.ofBits (F := Ideal) .f32 0x00000000#32)⟩,
    ⟨S416x128, x⟩] concatenates_S416x512_S416x128_S416x640_d1⟩, ⟨S416x128, broadcast S416x128 (Scalar.ofBits (F := Ideal) .f32 0x00000000#32)⟩]
    concatenates_S416x640_S416x128_S416x768_d1
def pad5 (x : FVec Ideal S416x128 .f32) : FVec Ideal S416x768 .f32 :=
  concatenate S416x768 1 [⟨S416x640, broadcast S416x640 (Scalar.ofBits (F := Ideal) .f32 0x00000000#32)⟩, ⟨S416x128, x⟩]
    concatenates_S416x640_S416x128_S416x768_d1

variable (x : FVec Ideal S416x128 .f32) (r : Fin 416) (h : Fin 6) (j : Fin 128)

/-- Two columns with one place in a head. -/
theorem same {j j' : Fin 128} (e : j'.val = j.val) : x (ix2 r j') = x (ix2 r j) := congrArg (fun j => x (ix2 r j)) (Fin.ext e)

theorem pad0_at : pad0 x (ix2 r (col h j)) = if h = 0 then x (ix2 r j) else 0 := by
  have e : (col h j).val = 128 * h.val + j.val := rfl
  have i : h = 0 ↔ h.val = 0 := Fin.ext_iff
  unfold pad0
  pointwise
  simp only [i]
  split_ifs <;> first | rfl | exact same x r (by simp only; omega) | (exfalso; omega) | exact (same x r (by simp only; omega)).trans (if_pos (by omega)).symm

theorem pad1_at : pad1 x (ix2 r (col h j)) = if h = 1 then x (ix2 r j) else 0 := by
  have e : (col h j).val = 128 * h.val + j.val := rfl
  have i : h = 1 ↔ h.val = 1 := Fin.ext_iff
  unfold pad1
  pointwise
  simp only [i]
  split_ifs <;> first | rfl | exact same x r (by simp only; omega) | (exfalso; omega) | exact (same x r (by simp only; omega)).trans (if_pos (by omega)).symm

theorem pad2_at : pad2 x (ix2 r (col h j)) = if h = 2 then x (ix2 r j) else 0 := by
  have e : (col h j).val = 128 * h.val + j.val := rfl
  have i : h = 2 ↔ h.val = 2 := Fin.ext_iff
  unfold pad2
  pointwise
  simp only [i]
  split_ifs <;> first | rfl | exact same x r (by simp only; omega) | (exfalso; omega) | exact (same x r (by simp only; omega)).trans (if_pos (by omega)).symm

theorem pad3_at : pad3 x (ix2 r (col h j)) = if h = 3 then x (ix2 r j) else 0 := by
  have e : (col h j).val = 128 * h.val + j.val := rfl
  have i : h = 3 ↔ h.val = 3 := Fin.ext_iff
  unfold pad3
  pointwise
  simp only [i]
  split_ifs <;> first | rfl | exact same x r (by simp only; omega) | (exfalso; omega) | exact (same x r (by simp only; omega)).trans (if_pos (by omega)).symm

theorem pad4_at : pad4 x (ix2 r (col h j)) = if h = 4 then x (ix2 r j) else 0 := by
  have e : (col h j).val = 128 * h.val + j.val := rfl
  have i : h = 4 ↔ h.val = 4 := Fin.ext_iff
  unfold pad4
  pointwise
  simp only [i]
  split_ifs <;> first | rfl | exact same x r (by simp only; omega) | (exfalso; omega) | exact (same x r (by simp only; omega)).trans (if_pos (by omega)).symm

theorem pad5_at : pad5 x (ix2 r (col h j)) = if h = 5 then x (ix2 r j) else 0 := by
  have e : (col h j).val = 128 * h.val + j.val := rfl
  have i : h = 5 ↔ h.val = 5 := Fin.ext_iff
  unfold pad5
  pointwise
  simp only [i]
  split_ifs <;> first | rfl | exact same x r (by simp only; omega) | (exfalso; omega) | exact (same x r (by simp only; omega)).trans (if_pos (by omega)).symm

end Cert.Gdn
-- ==== Proof.Gdn.Block.lean ====
/- One grid point of the delta branch's tail kernel: what it writes is the six heads' gradients laid side by side, what it adds
   to the two summed blocks is a sum over its rows (and, for the scale, over the heads). -/
module

public import proofs.«01_k».proof.Proof.Gdn.Head

@[expose] public section

set_option maxRecDepth 16384

noncomputable section

namespace Cert.Gdn

open Idealize.ShloMosaic Cert.GdnTailIdeal Cert.GdnTailIdeal.Gen Cert.Tail

/-! Six heads put together: side by side, as a sum of padded heads, and summed. -/

def cat (f : Fin 6 → FVec Ideal S416x128 .f32) : FVec Ideal S416x768 .f32 :=
  concatenate S416x768 1 [⟨S416x128, f 0⟩, ⟨S416x128, f 1⟩, ⟨S416x128, f 2⟩, ⟨S416x128, f 3⟩, ⟨S416x128, f 4⟩, ⟨S416x128, f 5⟩]
    concatenates_S416x128_S416x128_S416x128_S416x128_S416x128_S416x128_S416x768_d1
def tot (f : Fin 6 → FVec Ideal S416x128 .f32) : FVec Ideal S416x768 .f32 :=
  addf (addf (addf (addf (addf (pad5 (f 5)) (pad4 (f 4))) (pad3 (f 3))) (pad2 (f 2))) (pad1 (f 1))) (pad0 (f 0))
def totG (f : Fin 6 → FVec Ideal S1x128 .f32) : FVec Ideal S1x128 .f32 :=
  addf (addf (addf (addf (addf (f 5) (f 4)) (f 3)) (f 2)) (f 1)) (f 0)

theorem cat_at (f : Fin 6 → FVec Ideal S416x128 .f32) (r : Fin 416) (h : Fin 6) (j : Fin 128) :
    cat f (ix2 r (col h j)) = f h (ix2 r j) := by
  have e : (col h j).val = 128 * h.val + j.val := rfl
  have same : ∀ (k : ℕ) (hk : k < 6) (j' : Fin 128), k = h.val → j'.val = j.val → f ⟨k, hk⟩ (ix2 r j') = f h (ix2 r j) := by
    intro k hk j' eh ej
    obtain rfl := eh
    rw [Fin.ext ej]
  unfold cat
  pointwise
  split_ifs <;> first
  | exact same 0 (by decide) _ (by omega) (by simp only; omega)
  | exact same 1 (by decide) _ (by omega) (by simp only; omega)
  | exact same 2 (by decide) _ (by omega) (by simp only; omega)
  | exact same 3 (by decide) _ (by omega) (by simp only; omega)
  | exact same 4 (by decide) _ (by omega) (by simp only; omega)
  | exact same 5 (by decide) _ (by omega) (by simp only; omega)

theorem tot_at (f : Fin 6 → FVec Ideal S416x128 .f32) (r : Fin 416) (h : Fin 6) (j : Fin 128) :
    tot f (ix2 r (col h j)) = f h (ix2 r j) := by
  unfold tot
  pointwise [pad0_at, pad1_at, pad2_at, pad3_at, pad4_at, pad5_at]
  fin_cases h <;> simp

theorem totG_at (f : Fin 6 → FVec Ideal S1x128 .f32) (j : Fin 128) : totG f (ix2 0 j) = ∑ h, f h (ix2 0 j) := by
  unfold totG
  pointwise
  rw [Fin.sum_univ_six]
  ac_rfl

/-- The blocks a grid point reads: the recurrence's result, the gate logits, the norm's scale, the branch matrix, the cotangent. -/
structure Blk where
  x0 : Vec Ideal S416x768 .f32
  x1 : Vec Ideal S416x768 .f32
  x2 : Vec Ideal S1x128 .f32
  x3 : Vec Ideal S768x1024 .bf16
  x4 : Vec Ideal S416x1024 .f32

namespace Blk

variable (b : Blk)

/-! The body's intermediate values, in its own order. -/

def v3 := k0_pay2 b.x2
def v5 := k0_pay3 b.x3
def v30 := k0_pay15 b.x0
def v38 := k0_pay17 b.x0
def v41 := k0_pay19 (k0_pay18 b.x0) (Scalar.ofBits .f32 0xBF000000#32)
def v51 := k0_pay25 b.x1
def v74 := k0_pay36 b.x1
def v76 := k0_pay38 b.x0
def v89 := k0_pay42 b.x0
def v97 := k0_pay47 b.x1
def v114 := k0_pay54 b.x0 b.v3
def v137 := k0_pay65 b.x0 b.v3
def v138 := k0_pay66 b.x1
def v139 := k0_pay67 b.x1
def v150 := k0_pay70 b.x4 (k0_pay14 b.x0 b.x1 b.x2) (k0_pay26 b.x1 b.v3 b.v30 b.v38) (k0_pay37 b.x0 b.x1 b.v3) (k0_pay48 b.x1 b.v3 b.v89)
  (k0_pay59 b.x0 b.x1 b.v3) b.v137 b.v138 b.v139
def v151 := k0_pay71 b.v5 b.x4
def v152 := k0_pay72 b.v5 b.x4
def v153 := k0_pay73 b.v5 b.x4
def v154 := k0_pay74 b.v5 b.x4
def v164 := k0_pay78 b.v5 b.x4 b.v137 b.v138 b.v139
def v167 := k0_pay79 b.v5 b.x4 (k0_pay64 b.x0) b.v138 b.v139
def v186 := k0_pay80 b.v3 b.v5 b.x4 (k0_pay60 b.x0) (k0_pay62 b.x0) (k0_pay63 b.x0) b.v138 b.v139
def v188 := k0_pay82 b.v5 b.x4 (k0_pay58 b.x1)
def v189 := k0_pay83 b.v5 b.x4 b.v114 (k0_pay55 b.x1)
def v190 := k0_pay84 b.v5 b.x4 b.v114 (k0_pay56 b.x1)
def v223 := k0_pay85 b.v3 (k0_pay49 b.x0) (k0_pay51 b.x0) (k0_pay52 b.x0) b.v186 b.v188
def v234 := k0_pay87 (k0_pay43 b.v3 b.v89) (k0_pay44 b.x1) (k0_pay45 b.x1) (k0_pay46 b.x1) (k0_pay57 b.x1) b.v154 b.v164 b.v189 b.v190
def v238 := k0_pay88 b.v89 b.v97 (k0_pay53 b.x0) b.v154 b.v167 b.v188
def v260 := k0_pay91 b.v76 (k0_pay40 b.x0) (k0_pay41 b.x0) b.v223 (k0_pay89 b.v3 b.v97 b.v154) (k0_pay90 b.v3 b.v76 b.v97 b.v154)
def v271 := k0_pay93 (k0_pay32 b.x0 b.v3) (k0_pay33 b.x1) (k0_pay34 b.x1) (k0_pay35 b.x1) b.v153 b.v234
def v275 := k0_pay94 (k0_pay31 b.x0) b.v74 b.v153 b.v238
def v292 := k0_pay95 b.v3 (k0_pay27 b.x0) (k0_pay29 b.x0) (k0_pay30 b.x0) b.v74 b.v153
def v312 := k0_pay97 (k0_pay20 b.v30 b.v38) b.v51 b.v152 b.v275
def v334 := k0_pay98 b.v3 b.v30 b.v38 b.v41 b.v51 b.v152 b.v260 b.v292 (Scalar.ofBits .f32 0x00000000#32)
def v343 := k0_pay100 (k0_pay9 b.x0 b.x2) (k0_pay10 b.x1) (k0_pay11 b.x1) (k0_pay12 b.x1) (k0_pay21 b.v3 b.v30 b.v38) (k0_pay22 b.x1)
  (k0_pay23 b.x1) (k0_pay24 b.x1) b.v151 b.v152 b.v271
def v344 := k0_pay101 (k0_pay8 b.x0) (k0_pay13 b.x1) b.v151
def v367 := k0_pay102 b.v3 (k0_pay4 b.x0) (k0_pay6 b.x0) (k0_pay7 b.x0) b.v334 (k0_pay99 (k0_pay13 b.x1) b.v151)

/-- Head `h` of the block: its 128 columns. -/
theorem slices (h : Fin 6) : S416x768.Slices ![0, 128 * h.val] S416x128 := by
  revert h; decide

def hd (h : Fin 6) : Hd where
  o := extractStridedSlice S416x128 ![0, 128 * h.val] b.x0 (slices h)
  z := extractStridedSlice S416x128 ![0, 128 * h.val] b.x1 (slices h)
  d := extractStridedSlice S416x128 ![0, 128 * h.val] (k0_pay69 b.v5 b.x4) (slices h)
  g := b.v3

theorem v164_eq : b.v164 = pad5 (b.hd 5).dz := rfl
theorem v234_eq : b.v234 = addf (addf (pad5 (b.hd 5).dz) (pad4 (b.hd 4).dz)) (pad3 (b.hd 3).dz) := by
  rw [← v164_eq]; rfl
theorem v271_eq : b.v271 = addf b.v234 (pad2 (b.hd 2).dz) := rfl
theorem v343_eq : b.v343 = tot fun h => (b.hd h).dz := by
  unfold tot; rw [← v234_eq, ← v271_eq]; rfl

theorem v186_eq : b.v186 = pad5 (b.hd 5).dO := rfl
theorem v223_eq : b.v223 = addf b.v186 (pad4 (b.hd 4).dO) := rfl
theorem v260_eq : b.v260 = addf b.v223 (pad3 (b.hd 3).dO) := rfl
theorem v334_eq : b.v334 = addf (addf b.v260 (pad2 (b.hd 2).dO)) (pad1 (b.hd 1).dO) := rfl
theorem v367_eq : b.v367 = tot fun h => (b.hd h).dO := by
  unfold tot; rw [← v186_eq, ← v223_eq, ← v260_eq, ← v334_eq]; rfl

theorem v275_eq : addf (b.v275) (b.hd 1).dg = b.v312 := rfl
theorem v238_eq : addf (addf (addf (b.hd 5).dg (b.hd 4).dg) (b.hd 3).dg) (b.hd 2).dg = b.v275 := rfl
theorem add7_eq (w : Vec Ideal S1x128 .f32) : (k0_pay105 b.v312 b.v344 w : Vec Ideal S1x128 .f32) =
    addf (shapeCast S1x128 w shapeCasts_S1x128_S1x128) (totG fun h => (b.hd h).dg) := by
  unfold totG; rw [v238_eq, v275_eq]; rfl

def dB : FVec Ideal S768x1024 .f32 :=
  matmul dot_S416x768_S416x1024_S768x1024_0_0_1_1_n_n none (truncf .bf16 (cat fun h => (b.hd h).q) bitsLt_bf16_f32)
    (truncf .bf16 b.x4 bitsLt_bf16_f32) (constant S768x1024 .f32 0x00000000#32)
theorem v150_eq : b.v150 = b.dB := rfl

/-! The block's shared values, its rows and their heads, as Row.lean takes them. -/

def par : Par where
  g j := b.x2 (ix2 0 j)
  wb k j := b.x3 (ix2 k j)

def row (r : Fin 416) : RowIn where
  o j := b.x0 (ix2 r j)
  z j := b.x1 (ix2 r j)
  ct j := b.x4 (ix2 r j)

variable (r : Fin 416) (h : Fin 6) (j : Fin 128)

theorem slice_at (x : Vec Ideal S416x768 .f32) :
    extractStridedSlice S416x128 ![0, 128 * h.val] x (slices h) (ix2 r j) = x (ix2 r (col h j)) := by
  rw [Pointwise.extractStridedSlice_apply]
  refine congrArg x (funext fun a => ?_)
  fin_cases a
  · exact Fin.ext (Nat.zero_add _)
  · rfl

theorem v147_at (i : Fin 768) : k0_pay69 b.v5 b.x4 (ix2 r i) = dq b.par (b.row r) i := by
  unfold k0_pay69 v5 k0_pay3; pointwise [dot_S416x1024_S768x1024_S416x768_1_1_0_0_n_n]; rfl

theorem hd_row : (b.hd h).row r = head b.par (b.row r) h := by
  show HeadIn.mk _ _ _ _ = HeadIn.mk _ _ _ _
  congr 1
  · funext j; exact slice_at r h j b.x0
  · funext j; exact slice_at r h j b.x1
  · funext j; exact (slice_at r h j _).trans (v147_at b r _)
  · funext j; show b.v3 (ix2 0 j) = b.x2 (ix2 0 j); unfold v3 k0_pay2; pointwise

/-! What the body writes, and what it adds to the two summed blocks over what it finds there. -/

theorem v367_at (i : Fin 768) : b.v367 (ix2 r i) = dO (head b.par (b.row r) (Gdn.hd i)) (ln i) := by
  rw [v367_eq, ← hd_row, ← Hd.dO_at, ← tot_at (fun h => (b.hd h).dO), col_hd_ln]

theorem v343_at (i : Fin 768) : b.v343 (ix2 r i) = dz (head b.par (b.row r) (Gdn.hd i)) (ln i) := by
  rw [v343_eq, ← hd_row, ← Hd.dz_at, ← tot_at (fun h => (b.hd h).dz), col_hd_ln]

theorem add7 (w : Vec Ideal S1x128 .f32) : (k0_pay105 b.v312 b.v344 w : Vec Ideal S1x128 .f32) (ix2 0 j) =
    w (ix2 0 j) + ∑ r, ∑ h, dg (head b.par (b.row r) h) j := by
  rw [add7_eq]
  pointwise [totG_at, Hd.dg_at, hd_row]
  rw [Finset.sum_comm]

theorem add8 (w : Vec Ideal S768x1024 .f32) (i : Fin 768) (k : Fin 1024) : (k0_pay1 b.v150 w : Vec Ideal S768x1024 .f32) (ix2 i k) =
    w (ix2 i k) + ∑ r, q (head b.par (b.row r) (Gdn.hd i)) (ln i) * (b.row r).ct k := by
  have e : ∀ r, cat (fun h => (b.hd h).q) (ix2 r i) = q (head b.par (b.row r) (Gdn.hd i)) (ln i) := fun r => by
    rw [← hd_row, ← Hd.q_at, ← cat_at (fun h => (b.hd h).q), col_hd_ln]
  simp only [← e]
  rw [v150_eq]
  unfold k0_pay1 dB
  pointwise [dot_S416x768_S416x1024_S768x1024_0_0_1_1_n_n]
  rfl

end Blk

theorem zero7 (j : Fin 128) : (k0_pay103 (F := Ideal) : Vec Ideal S1x128 .f32) (ix2 0 j) = (0 : EReal) := by
  unfold k0_pay103; pointwise
theorem zero8 (i : Fin 768) (j : Fin 1024) : (k0_pay104 (F := Ideal) : Vec Ideal S768x1024 .f32) (ix2 i j) = (0 : EReal) := by
  unfold k0_pay104; pointwise

end Cert.Gdn
-- ==== Proof.Gdn.Array.lean ====
/- The kernel's four result arrays. Point `t` reads rows 416t … 416t+415 of the row arrays and all of the shared ones, writes
   the same rows of two results, and adds to two blocks that stay in place over the 10 points. -/
module

public import proofs.«01_k».proof.Proof.Gen.GdnTailIdeal.Value
public import proofs.«01_k».proof.Proof.Gdn.Block
public import proofs.«01_k».proof.Proof.Tail.Rows
public import Idealize.ShloMosaic.Lib.Pipeline.ValueKit.Geometry
public import Idealize.ShloMosaic.Lib.Pipeline.ValueKit.Acc

@[expose] public section

set_option maxRecDepth 16384

noncomputable section

namespace Cert.Gdn

open Idealize.ShloMosaic Idealize.ShloMosaic.TcCoe Idealize.ShloMosaic.StableHlo Idealize.SL.Sem Cert.GdnTailIdeal Cert.GdnTailIdeal.Gen
open Idealize.ShloMosaic.Pipeline Cert.Tail

variable (m : (ℓ : Loc nD τ sig) → Buf (Elt Ideal) ℓ) (c : Dev nD)

/-- The kernel's arguments. -/
def argsK : Args where
  o r j := m ((c : Thread nD τ).loc main_arg0) (ix2 r j)
  z r j := m ((c : Thread nD τ).loc main_arg1) (ix2 r j)
  par := ⟨fun j => m ((c : Thread nD τ).loc main_arg2) (ix1 j), fun k j => m ((c : Thread nD τ).loc main_arg3) (ix2 k j)⟩
  ct r j := m ((c : Thread nD τ).loc main_arg4) (ix2 r j)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index2 : ∀ t : Fin cfg0.N, win0_2.index t = ![0, 0] := fun _ => rfl
theorem index3 : ∀ t : Fin cfg0.N, win0_3.index t = ![0, 0] := fun _ => rfl

/-! The host lines before the region lay the norm's scale out as a row and cast the matrix. -/

theorem V_v0 (j : Fin 128) : V m c main_v0 (ix2 0 j) = (argsK m c).par.g j := by
  unfold_abbrev_sides
  after_results
  pointwise

theorem V_v1 (k : Fin 768) (j : Fin 1024) : V m c main_v1 (ix2 k j) = (argsK m c).par.wb k j := by
  unfold_abbrev_sides
  after_results
  pointwise

/-! The blocks point `t` reads. -/

theorem iblk0 (t : Fin cfg0.N) (r : Fin 416) (j : Fin 768) : iblk m c 0 t (ix2 r j) = (argsK m c).o (rowAt t r) j := by
  refine Eq.trans ?_ (congrFun (V_main_arg0 m c) _)
  blk_simp [iblk]
  exact congrArg (V m c main_arg0) (by blk_ext [index0, rowAt])

theorem iblk1 (t : Fin cfg0.N) (r : Fin 416) (j : Fin 768) : iblk m c 1 t (ix2 r j) = (argsK m c).z (rowAt t r) j := by
  refine Eq.trans ?_ (congrFun (V_main_arg1 m c) _)
  blk_simp [iblk]
  exact congrArg (V m c main_arg1) (by blk_ext [index1, rowAt])

theorem iblk4 (t : Fin cfg0.N) (r : Fin 416) (j : Fin 1024) : iblk m c 4 t (ix2 r j) = (argsK m c).ct (rowAt t r) j := by
  refine Eq.trans ?_ (congrFun (V_main_arg4 m c) _)
  blk_simp [iblk]
  exact congrArg (V m c main_arg4) (by blk_ext [index4, rowAt])

theorem iblk2 (t : Fin cfg0.N) (j : Fin 128) : iblk m c 2 t (ix2 0 j) = (argsK m c).par.g j := by
  rw [← V_v0]
  blk_simp [iblk]
  exact congrArg (V m c main_v0) (by blk_ext [index2])

theorem iblk3 (t : Fin cfg0.N) (k : Fin 768) (j : Fin 1024) : iblk m c 3 t (ix2 k j) = (argsK m c).par.wb k j := by
  rw [← V_v1]
  blk_simp [iblk]
  exact congrArg (V m c main_v1) (by blk_ext [index3])

/-- Point `t`'s blocks. -/
def blkAt (t : Fin cfg0.N) : Blk := ⟨iblk m c 0 t, iblk m c 1 t, iblk m c 2 t, iblk m c 3 t, iblk m c 4 t⟩

theorem par_at (t : Fin cfg0.N) : (blkAt m c t).par = (argsK m c).par := by
  show Par.mk _ _ = Par.mk _ _
  congr 1
  · funext j; exact iblk2 m c t j
  · funext k j; exact iblk3 m c t k j

theorem row_at (t : Fin cfg0.N) (r : Fin 416) : (blkAt m c t).row r = (argsK m c).row (rowAt t r) := by
  show RowIn.mk _ _ _ = RowIn.mk _ _ _
  congr 1
  · funext j; exact iblk0 m c t r j
  · funext j; exact iblk1 m c t r j
  · funext j; exact iblk4 m c t r j

/-! The two results by row: what the body leaves at point `t`, whichever case it runs, is rows of the result. -/

theorem left5 (t : Fin cfg0.N) : (outsAt0 m c t.val t.isLt).1 = (blkAt m c t).v367 := by
  by_cases h0 : t.val % 10 = 0
  · rw [outsAt0_A m c t h0]; frame_out; rfl
  · rw [outsAt0_B m c t h0]; frame_out; rfl

theorem final5 : (dats m 0 c).arrAt 5 cfg0.N = fun i : S4160x768.Idx => (argsK m c).dO (i 0) (i 1) := by
  refine (dats m 0 c).arrAt_eq_of_covers 5 _ (by decide +kernel) fun t hf y => ?_
  blk_simp
  rw [after0_5, left5]
  obtain ⟨r, j, rfl⟩ : ∃ (r : Fin 416) (j : Fin 768), y = ix2 r j := ⟨_, _, eq_ix2 y⟩
  rw [show ((View.whole main_v2_0).slice (win0_5.rect t)).emb (ix2 r j) = ix2 (rowAt t r) j by blk_ext [index5, rowAt], Blk.v367_at, par_at,
    row_at]
  rfl

theorem left6 (t : Fin cfg0.N) : (outsAt0 m c t.val t.isLt).2.1 = (blkAt m c t).v343 := by
  by_cases h0 : t.val % 10 = 0
  · rw [outsAt0_A m c t h0]; frame_out; rfl
  · rw [outsAt0_B m c t h0]; frame_out; rfl

theorem final6 : (dats m 0 c).arrAt 6 cfg0.N = fun i : S4160x768.Idx => (argsK m c).dZ (i 0) (i 1) := by
  refine (dats m 0 c).arrAt_eq_of_covers 6 _ (by decide +kernel) fun t hf y => ?_
  blk_simp
  rw [after0_6, left6]
  obtain ⟨r, j, rfl⟩ : ∃ (r : Fin 416) (j : Fin 768), y = ix2 r j := ⟨_, _, eq_ix2 y⟩
  rw [show ((View.whole main_v2_1).slice (win0_6.rect t)).emb (ix2 r j) = ix2 (rowAt t r) j by blk_ext [index6, rowAt], Blk.v343_at, par_at,
    row_at]
  rfl

/-! The two summed results: the first point adds to zeros, every later one to what the point before left, and the block is
    written back after the last. -/

theorem first7 (t : Fin cfg0.N) (h0 : t.val % 10 = 0) : (outsAt0 m c t.val t.isLt).2.2.1 = k0_pay105 (blkAt m c t).v312 (blkAt m c t).v344 (k0_pay103 (F := Ideal)) := by
  rw [outsAt0_A m c t h0]; frame_out; rfl

theorem later7 (t : Fin cfg0.N) (h0 : ¬t.val % 10 = 0) : (outsAt0 m c t.val t.isLt).2.2.1 =
    k0_pay105 (blkAt m c t).v312 (blkAt m c t).v344 (outsAt0 m c (t.val - 1) (Nat.lt_of_le_of_lt (Nat.sub_le _ _) t.isLt)).2.2.1 := by
  rw [outsAt0_B m c t h0]; frame_out; rfl

theorem sum7 (j : Fin 128) (t : Fin cfg0.N) (ht : t.val + 1 = cfg0.N) :
    ((outsAt0 m c t.val t.isLt).2.2.1 (ix2 0 j) : EReal) = (argsK m c).dG j := by
  have e := eq_sum_fin_of_reset_step_last (M := EReal) (fun n h => (outsAt0 m c n h).2.2.1 (ix2 0 j)) 10 0
    (fun t => ∑ r, ∑ h, dg (head (argsK m c).par ((argsK m c).row (rowAt t r)) h) j)
    (fun t h0 => by
      refine (congrFun (first7 m c t h0) _).trans ((Blk.add7 (blkAt m c t) j _).trans ?_)
      rw [zero7 j, par_at]
      simp only [row_at])
    (fun t h0 => by
      refine (congrFun (later7 m c t h0) _).trans ((Blk.add7 (blkAt m c t) j _).trans ?_)
      rw [par_at]
      simp only [row_at])
    (le_of_eq N_0) t ht
  exact e.trans ((zero_add _).trans (sum_blocks fun r => ∑ h, dg (head (argsK m c).par ((argsK m c).row r) h) j))

theorem final7 : (dats m 0 c).arrAt 7 cfg0.N = fun i : S1x128.Idx => (argsK m c).dG (i 1) := by
  refine (dats m 0 c).arrAt_eq_of_after_last 7 (Fin.cast N_0.symm 9) (by decide +kernel) _ fun i => ?_
  blk_simp
  rw [after0_7]
  obtain ⟨r, j, rfl⟩ : ∃ (r : Fin 1) (j : Fin 128), i = ix2 r j := ⟨_, _, eq_ix2 i⟩
  obtain rfl : r = 0 := Subsingleton.elim _ _
  exact sum7 m c j (Fin.cast N_0.symm 9) rfl

theorem first8 (t : Fin cfg0.N) (h0 : t.val % 10 = 0) : (outsAt0 m c t.val t.isLt).2.2.2 = k0_pay1 (blkAt m c t).v150 (k0_pay104 (F := Ideal)) := by
  rw [outsAt0_A m c t h0]; frame_out; rfl

theorem later8 (t : Fin cfg0.N) (h0 : ¬t.val % 10 = 0) : (outsAt0 m c t.val t.isLt).2.2.2 =
    k0_pay1 (blkAt m c t).v150 (outsAt0 m c (t.val - 1) (Nat.lt_of_le_of_lt (Nat.sub_le _ _) t.isLt)).2.2.2 := by
  rw [outsAt0_B m c t h0]; frame_out; rfl

theorem sum8 (i : Fin 768) (j : Fin 1024) (t : Fin cfg0.N) (ht : t.val + 1 = cfg0.N) :
    ((outsAt0 m c t.val t.isLt).2.2.2 (ix2 i j) : EReal) = (argsK m c).dBranch i j := by
  have e := eq_sum_fin_of_reset_step_last (M := EReal) (fun n h => (outsAt0 m c n h).2.2.2 (ix2 i j)) 10 0
    (fun t => ∑ r, q (head (argsK m c).par ((argsK m c).row (rowAt t r)) (hd i)) (ln i) * ((argsK m c).row (rowAt t r)).ct j)
    (fun t h0 => by
      refine (congrFun (first8 m c t h0) _).trans ((Blk.add8 (blkAt m c t) _ i j).trans ?_)
      rw [zero8 i j, par_at]
      simp only [row_at])
    (fun t h0 => by
      refine (congrFun (later8 m c t h0) _).trans ((Blk.add8 (blkAt m c t) _ i j).trans ?_)
      rw [par_at]
      simp only [row_at])
    (le_of_eq N_0) t ht
  exact e.trans ((zero_add _).trans (sum_blocks fun r => q (head (argsK m c).par ((argsK m c).row r) (hd i)) (ln i) * ((argsK m c).row r).ct j))

theorem final8 : (dats m 0 c).arrAt 8 cfg0.N = fun i : S768x1024.Idx => (argsK m c).dBranch (i 0) (i 1) := by
  refine (dats m 0 c).arrAt_eq_of_after_last 8 (Fin.cast N_0.symm 9) (by decide +kernel) _ fun i => ?_
  blk_simp
  rw [after0_8]
  obtain ⟨r, j, rfl⟩ : ∃ (r : Fin 768) (j : Fin 1024), i = ix2 r j := ⟨_, _, eq_ix2 i⟩
  exact sum8 m c r j (Fin.cast N_0.symm 9) rfl

end Cert.Gdn
-- ==== Proof.Gdn.Reference.lean ====
/- The reference's arrays entry by entry, as the functions of Row.lean, and its four results. The reference works by heads, on
   arrays of 4160 rows of 6 heads of 128. -/
module

public import proofs.«01_k».proof.Proof.Gen.GdnTailRefIdeal.Read
public import proofs.«01_k».proof.Proof.Gen.GdnTailRefIdeal.Run
public import proofs.«01_k».proof.Proof.Gdn.Row

@[expose] public section

set_option maxRecDepth 16384

noncomputable section

namespace Cert.Gdn.Ref

open Idealize.ShloMosaic Cert.GdnTailRefIdeal Cert.GdnTailRefIdeal.Read Cert.Tail

variable (x0 x1 : Vec Ideal S4160x768 .f32) (x2 : Vec Ideal S128 .f32) (x3 : Vec Ideal S768x1024 .f32) (x4 : Vec Ideal S4160x1024 .f32)

/-- The reference's arguments, and one head of one row of them. -/
def args : Args := ⟨fun r j => x0 (ix2 r j), fun r j => x1 (ix2 r j), ⟨fun j => x2 (ix1 j), fun k j => x3 (ix2 k j)⟩, fun r j => x4 (ix2 r j)⟩
def hdAt (r : Fin 4160) (h : Fin 6) : HeadIn := head (args x0 x1 x2 x3 x4).par ((args x0 x1 x2 x3 x4).row r) h

variable (r : Fin 4160) (h : Fin 6) (j : Fin 128)

/-- Reading a row as six heads, and six heads as a row. -/
theorem split_at (x : Vec Ideal S4160x768 .f32) (c : S4160x768.ShapeCasts S4160x6x128) :
    shapeCast S4160x6x128 x c (ix3 r h j) = x (ix2 r (col h j)) :=
  shapeCast_apply x c (ix3 r h j) (ix2 r (col h j)) (by
    rw [Shape.rowMajor_val_three, Shape.rowMajor_val_two]
    show r.val * 768 + (128 * h.val + j.val) = (r.val * 6 + h.val) * 128 + j.val
    omega)

theorem join_at (x : Vec Ideal S4160x6x128 .f32) (c : S4160x6x128.ShapeCasts S4160x768) :
    shapeCast S4160x768 x c (ix2 r (col h j)) = x (ix3 r h j) :=
  shapeCast_apply x c (ix2 r (col h j)) (ix3 r h j) (by
    rw [Shape.rowMajor_val_three, Shape.rowMajor_val_two]
    show (r.val * 6 + h.val) * 128 + j.val = r.val * 768 + (128 * h.val + j.val)
    omega)

/-- The host's sum over the first two axes of three. -/
theorem sum01 {n0 n1 n2 : ℕ} (h : (⟨3, ![n0, n1, n2]⟩ : Shape).ReducesTo [0, 1] (⟨1, ![n2]⟩ : Shape))
    (v : (⟨3, ![n0, n1, n2]⟩ : Shape).Idx → EReal) (init : EReal) (j : Fin n2) :
    Ideal.hostReduceAdd h v init (ix1 j) = init + ∑ k0 : Fin n0, ∑ k1 : Fin n1, v (ix3 k0 k1 j) := by
  have fiber : ∀ i : (⟨3, ![n0, n1, n2]⟩ : Shape).Idx, h.drop i = ix1 j ↔ ∃ k : Fin n0 × Fin n1, ix3 k.1 k.2 j = i := fun i => by
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  refine congrArg (init + ·) ((Finset.sum_filter_eq_sum_of_fiber _ (fun k : Fin n0 × Fin n1 => ix3 k.1 k.2 j)
    (fun _ _ e => Prod.ext (congrFun e 0) (congrFun e 1)) fiber v).trans ?_)
  simp only [Fintype.sum_prod_type]

/-! Forward. -/

theorem v0_at : val_main_v0 (F := Ideal) x0 (ix3 r h j) = (hdAt x0 x1 x2 x3 x4 r h).o j := split_at r h j x0 _

theorem v7_at : val_main_v7 (F := Ideal) x0 (ix3 r h 0) = ms cLen (hdAt x0 x1 x2 x3 x4 r h).o := by
  unfold val_main_v7 val_main_v6 val_main_cst_1 val_main_v5 val_main_v4 val_main_cst_0 val_main_v3 val_main_v2 val_main_cst val_main_v1
  pointwise [v0_at x0 x1 x2 x3 x4]
  rfl

theorem v8_at : val_main_v8 (F := Ideal) x0 (ix3 r h 0) = ir cLen (hdAt x0 x1 x2 x3 x4 r h).o := by
  unfold val_main_v8
  pointwise [v7_at x0 x1 x2 x3 x4]
  rfl

theorem v11_at : val_main_v11 (F := Ideal) x0 (ix3 r h 0) = dir cLen (hdAt x0 x1 x2 x3 x4 r h).o := by
  unfold val_main_v11 val_main_v10 val_main_cst_2 val_main_v9
  pointwise [v7_at x0 x1 x2 x3 x4, v8_at x0 x1 x2 x3 x4]
  rfl

theorem v13_at : val_main_v13 (F := Ideal) x0 (ix3 r h j) = nrm cLen (hdAt x0 x1 x2 x3 x4 r h).o j := by
  unfold val_main_v13 val_main_v12
  pointwise [v0_at x0 x1 x2 x3 x4, v8_at x0 x1 x2 x3 x4]
  rfl

theorem v17_at : val_main_v17 (F := Ideal) x0 x2 (ix2 r (col h j)) = sc (hdAt x0 x1 x2 x3 x4 r h) j := by
  refine (join_at r h j _ _).trans ?_
  unfold val_main_v16 val_main_v15 val_main_v14
  pointwise [v13_at x0 x1 x2 x3 x4]
  rfl

theorem v18_2_at : val_main_v18_2 (F := Ideal) x1 (ix2 r (col h j)) = sz (hdAt x0 x1 x2 x3 x4 r h) j := by
  unfold val_main_v18_2 val_main_call0_v4 val_main_call0_cst_0 val_main_call0_v3 val_main_call0_v2 val_main_call0_cst val_main_call0_v1 val_main_call0_v0
  pointwise
  rfl

theorem v18_0_at : val_main_v18_0 (F := Ideal) x1 (ix2 r (col h j)) = zz (hdAt x0 x1 x2 x3 x4 r h) j := by
  unfold val_main_v18_0
  pointwise [v18_2_at x0 x1 x2 x3 x4]
  rfl

theorem v19_at : val_main_v19 (F := Ideal) x0 x1 x2 (ix2 r (col h j)) = q (hdAt x0 x1 x2 x3 x4 r h) j := by
  unfold val_main_v19
  pointwise [v17_at x0 x1 x2 x3 x4, v18_0_at x0 x1 x2 x3 x4]
  rfl

/-! Backward. -/

theorem v23_at : val_main_v23 (F := Ideal) x3 x4 (ix2 r (col h j)) = (hdAt x0 x1 x2 x3 x4 r h).d j := by
  unfold val_main_v23
  pointwise
  rfl

theorem v26_at : val_main_v26 (F := Ideal) x0 x1 x2 x3 x4 (ix2 r (col h j)) = dz (hdAt x0 x1 x2 x3 x4 r h) j := by
  unfold val_main_v26 val_main_call1_v2 val_main_call1_v1 val_main_call1_v0 val_main_v24 val_main_v18_1 val_main_call0_v7 val_main_call0_v6
    val_main_call0_cst_1
  pointwise [v17_at x0 x1 x2 x3 x4, v18_2_at x0 x1 x2 x3 x4, v23_at x0 x1 x2 x3 x4]
  rfl

theorem v27_at : val_main_v27 (F := Ideal) x1 x3 x4 (ix3 r h j) = ds (hdAt x0 x1 x2 x3 x4 r h) j := by
  refine (split_at r h j _ _).trans ?_
  unfold val_main_v25
  pointwise [v18_0_at x0 x1 x2 x3 x4, v23_at x0 x1 x2 x3 x4]
  rfl

theorem v32_at : val_main_v32 (F := Ideal) x1 x2 x3 x4 (ix3 r h j) = dn (hdAt x0 x1 x2 x3 x4 r h) j := by
  unfold val_main_v32 val_main_v31 val_main_v14
  pointwise [v27_at x0 x1 x2 x3 x4]
  rfl

theorem v43_at : val_main_v43 (F := Ideal) x0 x1 x2 x3 x4 (ix3 r h j) = dm cLen (hdAt x0 x1 x2 x3 x4 r h).o (dn (hdAt x0 x1 x2 x3 x4 r h)) := by
  unfold val_main_v43 val_main_v42 val_main_cst_7 val_main_v41 val_main_v40 val_main_cst_6 val_main_v39 val_main_v36 val_main_v35 val_main_cst_5
    val_main_v34
  pointwise [v0_at x0 x1 x2 x3 x4, v32_at x0 x1 x2 x3 x4]
  simp only [Fin.sum_univ_one, v11_at x0 x1 x2 x3 x4]
  rfl

theorem v47_at : val_main_v47 (F := Ideal) x0 x1 x2 x3 x4 (ix3 r h j) = dO (hdAt x0 x1 x2 x3 x4 r h) j := by
  unfold val_main_v47 val_main_v46 val_main_v45 val_main_v44 val_main_v38 val_main_v37
  pointwise [v0_at x0 x1 x2 x3 x4, v8_at x0 x1 x2 x3 x4, v32_at x0 x1 x2 x3 x4, v43_at x0 x1 x2 x3 x4]
  rfl

/-! The four results. -/

theorem res_dO : val_main_v48 (F := Ideal) x0 x1 x2 x3 x4 = fun i : S4160x768.Idx => (args x0 x1 x2 x3 x4).dO (i 0) (i 1) := by
  funext y
  obtain ⟨r, i, rfl⟩ : ∃ (r : Fin 4160) (i : Fin 768), y = ix2 r i := ⟨_, _, eq_ix2 y⟩
  rw [← col_hd_ln i]
  refine (join_at r _ _ _ _).trans ((v47_at x0 x1 x2 x3 x4 r _ _).trans ?_)
  show _ = (args x0 x1 x2 x3 x4).dO r (col (hd i) (ln i))
  rw [col_hd_ln]
  rfl

theorem res_dZ : val_main_v26 (F := Ideal) x0 x1 x2 x3 x4 = fun i : S4160x768.Idx => (args x0 x1 x2 x3 x4).dZ (i 0) (i 1) := by
  funext y
  obtain ⟨r, i, rfl⟩ : ∃ (r : Fin 4160) (i : Fin 768), y = ix2 r i := ⟨_, _, eq_ix2 y⟩
  rw [← col_hd_ln i]
  refine (v26_at x0 x1 x2 x3 x4 r _ _).trans ?_
  show _ = (args x0 x1 x2 x3 x4).dZ r (col (hd i) (ln i))
  rw [col_hd_ln]
  rfl

theorem res_dG : val_main_v49 (F := Ideal) x0 x1 x3 x4 = fun i : S1x128.Idx => (args x0 x1 x2 x3 x4).dG (i 1) := by
  funext y
  obtain ⟨r, j, rfl⟩ : ∃ (r : Fin 1) (j : Fin 128), y = ix2 r j := ⟨_, _, eq_ix2 y⟩
  unfold val_main_v49 val_main_v33 val_main_cst_4 val_main_v30 val_main_v29 val_main_cst_3 val_main_v28
  pointwise [sum01]
  simp only [Fin.sum_univ_one]
  pointwise [sum01, v13_at x0 x1 x2 x3 x4, v27_at x0 x1 x2 x3 x4]
  rfl

theorem res_dBranch : val_main_v22 (F := Ideal) x0 x1 x2 x4 = fun i : S768x1024.Idx => (args x0 x1 x2 x3 x4).dBranch (i 0) (i 1) := by
  funext y
  obtain ⟨i, k, rfl⟩ : ∃ (i : Fin 768) (k : Fin 1024), y = ix2 i k := ⟨_, _, eq_ix2 y⟩
  have e : ∀ r, val_main_v19 (F := Ideal) x0 x1 x2 (ix2 r i) = q (hdAt x0 x1 x2 x3 x4 r (hd i)) (ln i) := fun r => by
    rw [← v19_at x0 x1 x2 x3 x4, col_hd_ln]
  unfold val_main_v22 val_main_v21
  pointwise [e]
  exact Finset.sum_congr rfl fun _ _ => mul_comm _ _

end Cert.Gdn.Ref
-- ==== Proof.Gdn.Equation.lean ====
/- The kernel and the reference on the same arguments. -/
module

public import proofs.«01_k».proof.Proof.Gdn.Array
public import proofs.«01_k».proof.Proof.Gdn.Reference

@[expose] public section

noncomputable section

namespace Cert.Gdn

open Idealize.ShloMosaic Idealize.ShloMosaic.TcCoe Idealize.SL.Sem Cert.GdnTailIdeal

theorem args_same (m : (ℓ : Loc nD τ sig) → Buf (Elt Ideal) ℓ) (c : Dev nD) {x0 x1 : Vec Ideal S4160x768 .f32} {x2 : Vec Ideal S128 .f32}
    {x3 : Vec Ideal S768x1024 .f32} {x4 : Vec Ideal S4160x1024 .f32}
    (h0 : x0 = m ((c : Thread nD τ).loc main_arg0)) (h1 : x1 = m ((c : Thread nD τ).loc main_arg1))
    (h2 : x2 = m ((c : Thread nD τ).loc main_arg2)) (h3 : x3 = m ((c : Thread nD τ).loc main_arg3))
    (h4 : x4 = m ((c : Thread nD τ).loc main_arg4)) : Ref.args x0 x1 x2 x3 x4 = argsK m c := by
  subst h0 h1 h2 h3 h4
  rfl

end Cert.Gdn
-- ==== Proof.Adam.Formula.lean ====
/- AdamW's step at one entry of a weight, as plain functions on the extended reals: the four pairs' partial gradients are
   added, both moments are moved toward the gradient and its square, and the step is the first over the root of the second,
   each divided by its bias correction, with weight decay. The constants are written as the words both programs hold. -/
module

public import Idealize.ShloMosaic.Lib.ValueIdx
public import Idealize.ShloMosaic.Lib.Pointwise
public import Idealize.ShloMosaic.PureOps.Ideal.Laws

@[expose] public section

noncomputable section

namespace Cert.Adam

open Idealize.ShloMosaic

/-- What one entry's step reads: four partial gradients, the weight, the two moments. -/
structure Entry where
  p : Fin 4 → EReal
  w : EReal
  m : EReal
  v : EReal

/-! From the gradient `g`, the weight and the moments. -/

def nextM (g m : EReal) : EReal := Ideal.ofBits .f32 0x3F666666#32 * m + Ideal.ofBits .f32 0x3DCCCCCD#32 * g
def nextV (g v : EReal) : EReal := Ideal.ofBits .f32 0x3F7FBE77#32 * v + Ideal.ofBits .f32 0x3A83126F#32 * (g * g)
def stepOf (g w m v : EReal) : EReal :=
  Ideal.ofBits .f32 0xBA83126F#32 * (Ideal.div (Ideal.div (nextM g m) (Ideal.ofBits .f32 0x3F26BD02#32)) (Ideal.sqrt (Ideal.div (nextV g v) (Ideal.ofBits .f32 0x3C231ACC#32))
    + Ideal.ofBits .f32 0x322BCC77#32) + Ideal.ofBits .f32 0x3C23D70A#32 * w)

/-! From an entry, whose gradient is the sum of four. -/

variable (e : Entry)

def grad : EReal := e.p 0 + e.p 1 + e.p 2 + e.p 3
def newM : EReal := nextM (grad e) e.m
def newV : EReal := nextV (grad e) e.v
def delta : EReal := stepOf (grad e) e.w e.m e.v

/-! Arrays of any height and width: the four parts stacked, and one matrix. -/

abbrev Parts (n k : ℕ) : Shape := ⟨3, ![4, n, k]⟩
abbrev Mat (n k : ℕ) : Shape := ⟨2, ![n, k]⟩

/-- The array of what each entry gives. -/
def array {n k : ℕ} (f : Entry → EReal) (x0 : Vec Ideal (Parts n k) .bf16) (x1 x2 x3 : Vec Ideal (Mat n k) .f32) :
    Vec Ideal (Mat n k) .f32 :=
  fun i => f ⟨fun q => x0 (ix3 q (i 0) (i 1)), x1 i, x2 i, x3 i⟩

/-- Two entries read alike give alike, in arrays of different heights too: a block and the rows it was cut from. -/
theorem array_at {n n' k : ℕ} (f : Entry → EReal) {x0 : Vec Ideal (Parts n k) .bf16} {x1 x2 x3 : Vec Ideal (Mat n k) .f32}
    {y0 : Vec Ideal (Parts n' k) .bf16} {y1 y2 y3 : Vec Ideal (Mat n' k) .f32} {r : Fin n} {r' : Fin n'} {j : Fin k}
    (h0 : ∀ q : Fin 4, y0 (ix3 q r' j) = x0 (ix3 q r j)) (h1 : y1 (ix2 r' j) = x1 (ix2 r j)) (h2 : y2 (ix2 r' j) = x2 (ix2 r j))
    (h3 : y3 (ix2 r' j) = x3 (ix2 r j)) : array f y0 y1 y2 y3 (ix2 r' j) = array f x0 x1 x2 x3 (ix2 r j) := by
  refine congrArg f ?_
  show Entry.mk _ _ _ _ = Entry.mk _ _ _ _
  congr 1
  funext q
  exact h0 q

end Cert.Adam
-- ==== Proof.Adam.In.lean ====
/- The AdamW call of one weight, 4096 × 1219: point `t` of 32 steps rows 128t … 128t+127 on their own, and the reference steps all
   of them, both by the functions of Formula.lean. -/
module

public import proofs.«01_k».proof.Proof.Gen.AdamInIdeal.Value
public import proofs.«01_k».proof.Proof.Gen.AdamInRefIdeal.Read
public import proofs.«01_k».proof.Proof.Gen.AdamInRefIdeal.Run
public import proofs.«01_k».proof.Proof.Adam.Formula
public import Idealize.ShloMosaic.Lib.Pipeline.ValueKit.Geometry
public import Idealize.ShloMosaic.Lib.Pipeline.ValueKit.Acc

@[expose] public section

set_option maxRecDepth 16384

noncomputable section

namespace Cert.Adam.In

open Idealize.ShloMosaic Idealize.ShloMosaic.TcCoe Idealize.SL.Sem Cert.AdamInIdeal Cert.AdamInIdeal.Gen

/-! What the body leaves, from the blocks it reads. -/

section Body

variable (y0 : Vec Ideal S4x128x1219 .bf16) (y1 y2 y3 : Vec Ideal S128x1219 .f32) (r : Fin 128) (j : Fin 1219)

theorem out4_at : out0_4 y0 y1 y2 y3 (ix2 r j) = array grad y0 y1 y2 y3 (ix2 r j) := by
  unfold out0_4
  frame_out
  unfold k0_pay2
  pointwise
  rfl

theorem out5_at : out0_5 y0 y1 y2 y3 (ix2 r j) = array delta y0 y1 y2 y3 (ix2 r j) := by
  unfold out0_5
  frame_out
  unfold k0_pay1 k0_pay5 k0_pay6 k0_pay3 k0_pay4 k0_pay2
  pointwise
  rfl

theorem out6_at : out0_6 y0 y1 y2 y3 (ix2 r j) = array newM y0 y1 y2 y3 (ix2 r j) := by
  unfold out0_6
  frame_out
  unfold k0_pay3 k0_pay2
  pointwise
  rfl

theorem out7_at : out0_7 y0 y1 y2 y3 (ix2 r j) = array newV y0 y1 y2 y3 (ix2 r j) := by
  unfold out0_7
  frame_out
  unfold k0_pay4 k0_pay2
  pointwise
  rfl

end Body

/-! The blocks of point `t` are rows 128t … of the arrays. -/

section Kernel

variable (m : (ℓ : Loc nD τ sig) → Buf (Elt Ideal) ℓ) (c : Dev nD)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `r` of point `t`'s blocks. -/
def rowAt (t : Fin cfg0.N) (r : Fin 128) : Fin 4096 := ⟨t.val * 128 + r.val, by have : t.val < 32 := t.isLt; omega⟩

theorem iblk0 (t : Fin cfg0.N) (k : Fin 4) (r : Fin 128) (j : Fin 1219) :
    iblk m c 0 t (ix3 k r j) = m ((c : Thread nD τ).loc main_arg0) (ix3 k (rowAt t r) j) := by
  refine Eq.trans ?_ (congrFun (V_main_arg0 m c) _)
  blk_simp [iblk]
  exact congrArg (V m c main_arg0) (by blk_ext [index0, rowAt])

theorem iblk1 (t : Fin cfg0.N) (r : Fin 128) (j : Fin 1219) :
    iblk m c 1 t (ix2 r j) = m ((c : Thread nD τ).loc main_arg1) (ix2 (rowAt t r) j) := by
  refine Eq.trans ?_ (congrFun (V_main_arg1 m c) _)
  blk_simp [iblk]
  exact congrArg (V m c main_arg1) (by blk_ext [index1, rowAt])

theorem iblk2 (t : Fin cfg0.N) (r : Fin 128) (j : Fin 1219) :
    iblk m c 2 t (ix2 r j) = m ((c : Thread nD τ).loc main_arg2) (ix2 (rowAt t r) j) := by
  refine Eq.trans ?_ (congrFun (V_main_arg2 m c) _)
  blk_simp [iblk]
  exact congrArg (V m c main_arg2) (by blk_ext [index2, rowAt])

theorem iblk3 (t : Fin cfg0.N) (r : Fin 128) (j : Fin 1219) :
    iblk m c 3 t (ix2 r j) = m ((c : Thread nD τ).loc main_arg3) (ix2 (rowAt t r) j) := by
  refine Eq.trans ?_ (congrFun (V_main_arg3 m c) _)
  blk_simp [iblk]
  exact congrArg (V m c main_arg3) (by blk_ext [index3, rowAt])

/-- What one entry gives, on the kernel's arguments. -/
def res (f : Entry → EReal) : Vec Ideal S4096x1219 .f32 := array f (m ((c : Thread nD τ).loc main_arg0))
  (m ((c : Thread nD τ).loc main_arg1)) (m ((c : Thread nD τ).loc main_arg2)) (m ((c : Thread nD τ).loc main_arg3))

theorem final4 : (dats m 0 c).arrAt 4 cfg0.N = res m c grad := by
  refine (dats m 0 c).arrAt_eq_of_covers 4 _ (by decide +kernel) fun t hf y => ?_
  blk_simp
  rw [after0_4]
  obtain ⟨r, j, rfl⟩ : ∃ (r : Fin 128) (j : Fin 1219), y = ix2 r j := ⟨_, _, eq_ix2 y⟩
  rw [show ((View.whole main_v0_0).slice (win0_4.rect t)).emb (ix2 r j) = ix2 (rowAt t r) j by blk_ext [index4, rowAt], out4_at]
  exact array_at grad (fun q => iblk0 m c t q r j) (iblk1 m c t r j) (iblk2 m c t r j) (iblk3 m c t r j)

theorem final5 : (dats m 0 c).arrAt 5 cfg0.N = res m c delta := by
  refine (dats m 0 c).arrAt_eq_of_covers 5 _ (by decide +kernel) fun t hf y => ?_
  blk_simp
  rw [after0_5]
  obtain ⟨r, j, rfl⟩ : ∃ (r : Fin 128) (j : Fin 1219), y = ix2 r j := ⟨_, _, eq_ix2 y⟩
  rw [show ((View.whole main_v0_1).slice (win0_5.rect t)).emb (ix2 r j) = ix2 (rowAt t r) j by blk_ext [index5, rowAt], out5_at]
  exact array_at delta (fun q => iblk0 m c t q r j) (iblk1 m c t r j) (iblk2 m c t r j) (iblk3 m c t r j)

theorem final6 : (dats m 0 c).arrAt 6 cfg0.N = res m c newM := by
  refine (dats m 0 c).arrAt_eq_of_covers 6 _ (by decide +kernel) fun t hf y => ?_
  blk_simp
  rw [after0_6]
  obtain ⟨r, j, rfl⟩ : ∃ (r : Fin 128) (j : Fin 1219), y = ix2 r j := ⟨_, _, eq_ix2 y⟩
  rw [show ((View.whole main_v0_2).slice (win0_6.rect t)).emb (ix2 r j) = ix2 (rowAt t r) j by blk_ext [index6, rowAt], out6_at]
  exact array_at newM (fun q => iblk0 m c t q r j) (iblk1 m c t r j) (iblk2 m c t r j) (iblk3 m c t r j)

theorem final7 : (dats m 0 c).arrAt 7 cfg0.N = res m c newV := by
  refine (dats m 0 c).arrAt_eq_of_covers 7 _ (by decide +kernel) fun t hf y => ?_
  blk_simp
  rw [after0_7]
  obtain ⟨r, j, rfl⟩ : ∃ (r : Fin 128) (j : Fin 1219), y = ix2 r j := ⟨_, _, eq_ix2 y⟩
  rw [show ((View.whole main_v0_3).slice (win0_7.rect t)).emb (ix2 r j) = ix2 (rowAt t r) j by blk_ext [index7, rowAt], out7_at]
  exact array_at newV (fun q => iblk0 m c t q r j) (iblk1 m c t r j) (iblk2 m c t r j) (iblk3 m c t r j)

/-- The reference's arguments being the kernel's, a result is the kernel's. -/
theorem same {x0 : Vec Ideal S4x4096x1219 .bf16} {x1 x2 x3 : Vec Ideal S4096x1219 .f32}
    (h : x0 = m ((c : Thread nD τ).loc main_arg0) ∧ x1 = m ((c : Thread nD τ).loc main_arg1) ∧ x2 = m ((c : Thread nD τ).loc main_arg2) ∧
      x3 = m ((c : Thread nD τ).loc main_arg3)) (f : Entry → EReal) {R : Vec Ideal S4096x1219 .f32} (hR : R = res m c f) : array f x0 x1 x2 x3 = R := by
  obtain ⟨rfl, rfl, rfl, rfl⟩ := h
  exact hR.symm

end Kernel

/-! The reference's four arrays. -/

section Reference

open Cert.AdamInRefIdeal.Read

variable (x0 : Vec Ideal S4x4096x1219 .bf16) (x1 x2 x3 : Vec Ideal S4096x1219 .f32)

theorem ref_grad : val_main_v1 (F := Ideal) x0 = array grad x0 x1 x2 x3 := by
  funext i
  obtain ⟨r, j, rfl⟩ : ∃ (r : Fin 4096) (j : Fin 1219), i = ix2 r j := ⟨_, _, eq_ix2 i⟩
  unfold val_main_v1 val_main_v0 val_main_cst
  pointwise
  exact Fin.sum_univ_four _

theorem ref_newM : val_main_v6 (F := Ideal) x0 x2 = array newM x0 x1 x2 x3 := by
  funext i
  unfold val_main_v6 val_main_v5 val_main_v4 val_main_cst_1 val_main_v3 val_main_v2 val_main_cst_0
  rw [ref_grad x0 x1 x2 x3]
  obtain ⟨r, j, rfl⟩ : ∃ (r : Fin 4096) (j : Fin 1219), i = ix2 r j := ⟨_, _, eq_ix2 i⟩
  pointwise
  rfl

theorem ref_newV : val_main_v12 (F := Ideal) x0 x3 = array newV x0 x1 x2 x3 := by
  funext i
  unfold val_main_v12 val_main_v11 val_main_v10 val_main_cst_3 val_main_v9 val_main_v8 val_main_v7 val_main_cst_2
  rw [ref_grad x0 x1 x2 x3]
  obtain ⟨r, j, rfl⟩ : ∃ (r : Fin 4096) (j : Fin 1219), i = ix2 r j := ⟨_, _, eq_ix2 i⟩
  pointwise
  rfl

theorem ref_delta : val_main_v25 (F := Ideal) x0 x1 x2 x3 = array delta x0 x1 x2 x3 := by
  funext i
  unfold val_main_v25 val_main_v24 val_main_cst_8 val_main_v23 val_main_v22 val_main_v21 val_main_cst_7 val_main_v20 val_main_v19
    val_main_v18 val_main_cst_6 val_main_v17 val_main_v16 val_main_v15 val_main_cst_5 val_main_v14 val_main_v13 val_main_cst_4
  rw [ref_newM x0 x1 x2 x3, ref_newV x0 x1 x2 x3]
  obtain ⟨r, j, rfl⟩ : ∃ (r : Fin 4096) (j : Fin 1219), i = ix2 r j := ⟨_, _, eq_ix2 i⟩
  pointwise
  rfl

end Reference

end Cert.Adam.In
-- ==== Proof.Adam.Glu.lean ====
/- The AdamW call of one weight, 384 × 768: point `t` of 2 steps rows 192t … 192t+191 on their own, and the reference steps all
   of them, both by the functions of Formula.lean. -/
module

public import proofs.«01_k».proof.Proof.Gen.AdamGluIdeal.Value
public import proofs.«01_k».proof.Proof.Gen.AdamGluRefIdeal.Read
public import proofs.«01_k».proof.Proof.Gen.AdamGluRefIdeal.Run
public import proofs.«01_k».proof.Proof.Adam.Formula
public import Idealize.ShloMosaic.Lib.Pipeline.ValueKit.Geometry
public import Idealize.ShloMosaic.Lib.Pipeline.ValueKit.Acc

@[expose] public section

set_option maxRecDepth 16384

noncomputable section

namespace Cert.Adam.Glu

open Idealize.ShloMosaic Idealize.ShloMosaic.TcCoe Idealize.SL.Sem Cert.AdamGluIdeal Cert.AdamGluIdeal.Gen

/-! What the body leaves, from the blocks it reads. -/

section Body

variable (y0 : Vec Ideal S4x192x768 .bf16) (y1 y2 y3 : Vec Ideal S192x768 .f32) (r : Fin 192) (j : Fin 768)

theorem out4_at : out0_4 y0 y1 y2 y3 (ix2 r j) = array grad y0 y1 y2 y3 (ix2 r j) := by
  unfold out0_4
  frame_out
  unfold k0_pay2
  pointwise
  rfl

theorem out5_at : out0_5 y0 y1 y2 y3 (ix2 r j) = array delta y0 y1 y2 y3 (ix2 r j) := by
  unfold out0_5
  frame_out
  unfold k0_pay1 k0_pay5 k0_pay6 k0_pay3 k0_pay4 k0_pay2
  pointwise
  rfl

theorem out6_at : out0_6 y0 y1 y2 y3 (ix2 r j) = array newM y0 y1 y2 y3 (ix2 r j) := by
  unfold out0_6
  frame_out
  unfold k0_pay3 k0_pay2
  pointwise
  rfl

theorem out7_at : out0_7 y0 y1 y2 y3 (ix2 r j) = array newV y0 y1 y2 y3 (ix2 r j) := by
  unfold out0_7
  frame_out
  unfold k0_pay4 k0_pay2
  pointwise
  rfl

end Body

/-! The blocks of point `t` are rows 192t … of the arrays. -/

section Kernel

variable (m : (ℓ : Loc nD τ sig) → Buf (Elt Ideal) ℓ) (c : Dev nD)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `r` of point `t`'s blocks. -/
def rowAt (t : Fin cfg0.N) (r : Fin 192) : Fin 384 := ⟨t.val * 192 + r.val, by have : t.val < 2 := t.isLt; omega⟩

theorem iblk0 (t : Fin cfg0.N) (k : Fin 4) (r : Fin 192) (j : Fin 768) :
    iblk m c 0 t (ix3 k r j) = m ((c : Thread nD τ).loc main_arg0) (ix3 k (rowAt t r) j) := by
  refine Eq.trans ?_ (congrFun (V_main_arg0 m c) _)
  blk_simp [iblk]
  exact congrArg (V m c main_arg0) (by blk_ext [index0, rowAt])

theorem iblk1 (t : Fin cfg0.N) (r : Fin 192) (j : Fin 768) :
    iblk m c 1 t (ix2 r j) = m ((c : Thread nD τ).loc main_arg1) (ix2 (rowAt t r) j) := by
  refine Eq.trans ?_ (congrFun (V_main_arg1 m c) _)
  blk_simp [iblk]
  exact congrArg (V m c main_arg1) (by blk_ext [index1, rowAt])

theorem iblk2 (t : Fin cfg0.N) (r : Fin 192) (j : Fin 768) :
    iblk m c 2 t (ix2 r j) = m ((c : Thread nD τ).loc main_arg2) (ix2 (rowAt t r) j) := by
  refine Eq.trans ?_ (congrFun (V_main_arg2 m c) _)
  blk_simp [iblk]
  exact congrArg (V m c main_arg2) (by blk_ext [index2, rowAt])

theorem iblk3 (t : Fin cfg0.N) (r : Fin 192) (j : Fin 768) :
    iblk m c 3 t (ix2 r j) = m ((c : Thread nD τ).loc main_arg3) (ix2 (rowAt t r) j) := by
  refine Eq.trans ?_ (congrFun (V_main_arg3 m c) _)
  blk_simp [iblk]
  exact congrArg (V m c main_arg3) (by blk_ext [index3, rowAt])

/-- What one entry gives, on the kernel's arguments. -/
def res (f : Entry → EReal) : Vec Ideal S384x768 .f32 := array f (m ((c : Thread nD τ).loc main_arg0))
  (m ((c : Thread nD τ).loc main_arg1)) (m ((c : Thread nD τ).loc main_arg2)) (m ((c : Thread nD τ).loc main_arg3))

theorem final4 : (dats m 0 c).arrAt 4 cfg0.N = res m c grad := by
  refine (dats m 0 c).arrAt_eq_of_covers 4 _ (by decide +kernel) fun t hf y => ?_
  blk_simp
  rw [after0_4]
  obtain ⟨r, j, rfl⟩ : ∃ (r : Fin 192) (j : Fin 768), y = ix2 r j := ⟨_, _, eq_ix2 y⟩
  rw [show ((View.whole main_v0_0).slice (win0_4.rect t)).emb (ix2 r j) = ix2 (rowAt t r) j by blk_ext [index4, rowAt], out4_at]
  exact array_at grad (fun q => iblk0 m c t q r j) (iblk1 m c t r j) (iblk2 m c t r j) (iblk3 m c t r j)

theorem final5 : (dats m 0 c).arrAt 5 cfg0.N = res m c delta := by
  refine (dats m 0 c).arrAt_eq_of_covers 5 _ (by decide +kernel) fun t hf y => ?_
  blk_simp
  rw [after0_5]
  obtain ⟨r, j, rfl⟩ : ∃ (r : Fin 192) (j : Fin 768), y = ix2 r j := ⟨_, _, eq_ix2 y⟩
  rw [show ((View.whole main_v0_1).slice (win0_5.rect t)).emb (ix2 r j) = ix2 (rowAt t r) j by blk_ext [index5, rowAt], out5_at]
  exact array_at delta (fun q => iblk0 m c t q r j) (iblk1 m c t r j) (iblk2 m c t r j) (iblk3 m c t r j)

theorem final6 : (dats m 0 c).arrAt 6 cfg0.N = res m c newM := by
  refine (dats m 0 c).arrAt_eq_of_covers 6 _ (by decide +kernel) fun t hf y => ?_
  blk_simp
  rw [after0_6]
  obtain ⟨r, j, rfl⟩ : ∃ (r : Fin 192) (j : Fin 768), y = ix2 r j := ⟨_, _, eq_ix2 y⟩
  rw [show ((View.whole main_v0_2).slice (win0_6.rect t)).emb (ix2 r j) = ix2 (rowAt t r) j by blk_ext [index6, rowAt], out6_at]
  exact array_at newM (fun q => iblk0 m c t q r j) (iblk1 m c t r j) (iblk2 m c t r j) (iblk3 m c t r j)

theorem final7 : (dats m 0 c).arrAt 7 cfg0.N = res m c newV := by
  refine (dats m 0 c).arrAt_eq_of_covers 7 _ (by decide +kernel) fun t hf y => ?_
  blk_simp
  rw [after0_7]
  obtain ⟨r, j, rfl⟩ : ∃ (r : Fin 192) (j : Fin 768), y = ix2 r j := ⟨_, _, eq_ix2 y⟩
  rw [show ((View.whole main_v0_3).slice (win0_7.rect t)).emb (ix2 r j) = ix2 (rowAt t r) j by blk_ext [index7, rowAt], out7_at]
  exact array_at newV (fun q => iblk0 m c t q r j) (iblk1 m c t r j) (iblk2 m c t r j) (iblk3 m c t r j)

/-- The reference's arguments being the kernel's, a result is the kernel's. -/
theorem same {x0 : Vec Ideal S4x384x768 .bf16} {x1 x2 x3 : Vec Ideal S384x768 .f32}
    (h : x0 = m ((c : Thread nD τ).loc main_arg0) ∧ x1 = m ((c : Thread nD τ).loc main_arg1) ∧ x2 = m ((c : Thread nD τ).loc main_arg2) ∧
      x3 = m ((c : Thread nD τ).loc main_arg3)) (f : Entry → EReal) {R : Vec Ideal S384x768 .f32} (hR : R = res m c f) : array f x0 x1 x2 x3 = R := by
  obtain ⟨rfl, rfl, rfl, rfl⟩ := h
  exact hR.symm

end Kernel

/-! The reference's four arrays. -/

section Reference

open Cert.AdamGluRefIdeal.Read

variable (x0 : Vec Ideal S4x384x768 .bf16) (x1 x2 x3 : Vec Ideal S384x768 .f32)

theorem ref_grad : val_main_v1 (F := Ideal) x0 = array grad x0 x1 x2 x3 := by
  funext i
  obtain ⟨r, j, rfl⟩ : ∃ (r : Fin 384) (j : Fin 768), i = ix2 r j := ⟨_, _, eq_ix2 i⟩
  unfold val_main_v1 val_main_v0 val_main_cst
  pointwise
  exact Fin.sum_univ_four _

theorem ref_newM : val_main_v6 (F := Ideal) x0 x2 = array newM x0 x1 x2 x3 := by
  funext i
  unfold val_main_v6 val_main_v5 val_main_v4 val_main_cst_1 val_main_v3 val_main_v2 val_main_cst_0
  rw [ref_grad x0 x1 x2 x3]
  obtain ⟨r, j, rfl⟩ : ∃ (r : Fin 384) (j : Fin 768), i = ix2 r j := ⟨_, _, eq_ix2 i⟩
  pointwise
  rfl

theorem ref_newV : val_main_v12 (F := Ideal) x0 x3 = array newV x0 x1 x2 x3 := by
  funext i
  unfold val_main_v12 val_main_v11 val_main_v10 val_main_cst_3 val_main_v9 val_main_v8 val_main_v7 val_main_cst_2
  rw [ref_grad x0 x1 x2 x3]
  obtain ⟨r, j, rfl⟩ : ∃ (r : Fin 384) (j : Fin 768), i = ix2 r j := ⟨_, _, eq_ix2 i⟩
  pointwise
  rfl

theorem ref_delta : val_main_v25 (F := Ideal) x0 x1 x2 x3 = array delta x0 x1 x2 x3 := by
  funext i
  unfold val_main_v25 val_main_v24 val_main_cst_8 val_main_v23 val_main_v22 val_main_v21 val_main_cst_7 val_main_v20 val_main_v19
    val_main_v18 val_main_cst_6 val_main_v17 val_main_v16 val_main_v15 val_main_cst_5 val_main_v14 val_main_v13 val_main_cst_4
  rw [ref_newM x0 x1 x2 x3, ref_newV x0 x1 x2 x3]
  obtain ⟨r, j, rfl⟩ : ∃ (r : Fin 384) (j : Fin 768), i = ix2 r j := ⟨_, _, eq_ix2 i⟩
  pointwise
  rfl

end Reference

end Cert.Adam.Glu
-- ==== Proof.Adam.Branch.lean ====
/- The AdamW call of one weight, 9216 × 128: point `t` of 6 steps rows 1536t … 1536t+1535 on their own, and the reference steps all
   of them, both by the functions of Formula.lean. -/
module

public import proofs.«01_k».proof.Proof.Gen.AdamBranchIdeal.Value
public import proofs.«01_k».proof.Proof.Gen.AdamBranchRefIdeal.Read
public import proofs.«01_k».proof.Proof.Gen.AdamBranchRefIdeal.Run
public import proofs.«01_k».proof.Proof.Adam.Formula
public import Idealize.ShloMosaic.Lib.Pipeline.ValueKit.Geometry
public import Idealize.ShloMosaic.Lib.Pipeline.ValueKit.Acc

@[expose] public section

set_option maxRecDepth 16384

noncomputable section

namespace Cert.Adam.Branch

open Idealize.ShloMosaic Idealize.ShloMosaic.TcCoe Idealize.SL.Sem Cert.AdamBranchIdeal Cert.AdamBranchIdeal.Gen

/-! What the body leaves, from the blocks it reads. -/

section Body

variable (y0 : Vec Ideal S4x1536x128 .bf16) (y1 y2 y3 : Vec Ideal S1536x128 .f32) (r : Fin 1536) (j : Fin 128)

theorem out4_at : out0_4 y0 y1 y2 y3 (ix2 r j) = array grad y0 y1 y2 y3 (ix2 r j) := by
  unfold out0_4
  frame_out
  unfold k0_pay2
  pointwise
  rfl

theorem out5_at : out0_5 y0 y1 y2 y3 (ix2 r j) = array delta y0 y1 y2 y3 (ix2 r j) := by
  unfold out0_5
  frame_out
  unfold k0_pay1 k0_pay5 k0_pay6 k0_pay3 k0_pay4 k0_pay2
  pointwise
  rfl

theorem out6_at : out0_6 y0 y1 y2 y3 (ix2 r j) = array newM y0 y1 y2 y3 (ix2 r j) := by
  unfold out0_6
  frame_out
  unfold k0_pay3 k0_pay2
  pointwise
  rfl

theorem out7_at : out0_7 y0 y1 y2 y3 (ix2 r j) = array newV y0 y1 y2 y3 (ix2 r j) := by
  unfold out0_7
  frame_out
  unfold k0_pay4 k0_pay2
  pointwise
  rfl

end Body

/-! The blocks of point `t` are rows 1536t … of the arrays. -/

section Kernel

variable (m : (ℓ : Loc nD τ sig) → Buf (Elt Ideal) ℓ) (c : Dev nD)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `r` of point `t`'s blocks. -/
def rowAt (t : Fin cfg0.N) (r : Fin 1536) : Fin 9216 := ⟨t.val * 1536 + r.val, by have : t.val < 6 := t.isLt; omega⟩

theorem iblk0 (t : Fin cfg0.N) (k : Fin 4) (r : Fin 1536) (j : Fin 128) :
    iblk m c 0 t (ix3 k r j) = m ((c : Thread nD τ).loc main_arg0) (ix3 k (rowAt t r) j) := by
  refine Eq.trans ?_ (congrFun (V_main_arg0 m c) _)
  blk_simp [iblk]
  exact congrArg (V m c main_arg0) (by blk_ext [index0, rowAt])

theorem iblk1 (t : Fin cfg0.N) (r : Fin 1536) (j : Fin 128) :
    iblk m c 1 t (ix2 r j) = m ((c : Thread nD τ).loc main_arg1) (ix2 (rowAt t r) j) := by
  refine Eq.trans ?_ (congrFun (V_main_arg1 m c) _)
  blk_simp [iblk]
  exact congrArg (V m c main_arg1) (by blk_ext [index1, rowAt])

theorem iblk2 (t : Fin cfg0.N) (r : Fin 1536) (j : Fin 128) :
    iblk m c 2 t (ix2 r j) = m ((c : Thread nD τ).loc main_arg2) (ix2 (rowAt t r) j) := by
  refine Eq.trans ?_ (congrFun (V_main_arg2 m c) _)
  blk_simp [iblk]
  exact congrArg (V m c main_arg2) (by blk_ext [index2, rowAt])

theorem iblk3 (t : Fin cfg0.N) (r : Fin 1536) (j : Fin 128) :
    iblk m c 3 t (ix2 r j) = m ((c : Thread nD τ).loc main_arg3) (ix2 (rowAt t r) j) := by
  refine Eq.trans ?_ (congrFun (V_main_arg3 m c) _)
  blk_simp [iblk]
  exact congrArg (V m c main_arg3) (by blk_ext [index3, rowAt])

/-- What one entry gives, on the kernel's arguments. -/
def res (f : Entry → EReal) : Vec Ideal S9216x128 .f32 := array f (m ((c : Thread nD τ).loc main_arg0))
  (m ((c : Thread nD τ).loc main_arg1)) (m ((c : Thread nD τ).loc main_arg2)) (m ((c : Thread nD τ).loc main_arg3))

theorem final4 : (dats m 0 c).arrAt 4 cfg0.N = res m c grad := by
  refine (dats m 0 c).arrAt_eq_of_covers 4 _ (by decide +kernel) fun t hf y => ?_
  blk_simp
  rw [after0_4]
  obtain ⟨r, j, rfl⟩ : ∃ (r : Fin 1536) (j : Fin 128), y = ix2 r j := ⟨_, _, eq_ix2 y⟩
  rw [show ((View.whole main_v0_0).slice (win0_4.rect t)).emb (ix2 r j) = ix2 (rowAt t r) j by blk_ext [index4, rowAt], out4_at]
  exact array_at grad (fun q => iblk0 m c t q r j) (iblk1 m c t r j) (iblk2 m c t r j) (iblk3 m c t r j)

theorem final5 : (dats m 0 c).arrAt 5 cfg0.N = res m c delta := by
  refine (dats m 0 c).arrAt_eq_of_covers 5 _ (by decide +kernel) fun t hf y => ?_
  blk_simp
  rw [after0_5]
  obtain ⟨r, j, rfl⟩ : ∃ (r : Fin 1536) (j : Fin 128), y = ix2 r j := ⟨_, _, eq_ix2 y⟩
  rw [show ((View.whole main_v0_1).slice (win0_5.rect t)).emb (ix2 r j) = ix2 (rowAt t r) j by blk_ext [index5, rowAt], out5_at]
  exact array_at delta (fun q => iblk0 m c t q r j) (iblk1 m c t r j) (iblk2 m c t r j) (iblk3 m c t r j)

theorem final6 : (dats m 0 c).arrAt 6 cfg0.N = res m c newM := by
  refine (dats m 0 c).arrAt_eq_of_covers 6 _ (by decide +kernel) fun t hf y => ?_
  blk_simp
  rw [after0_6]
  obtain ⟨r, j, rfl⟩ : ∃ (r : Fin 1536) (j : Fin 128), y = ix2 r j := ⟨_, _, eq_ix2 y⟩
  rw [show ((View.whole main_v0_2).slice (win0_6.rect t)).emb (ix2 r j) = ix2 (rowAt t r) j by blk_ext [index6, rowAt], out6_at]
  exact array_at newM (fun q => iblk0 m c t q r j) (iblk1 m c t r j) (iblk2 m c t r j) (iblk3 m c t r j)

theorem final7 : (dats m 0 c).arrAt 7 cfg0.N = res m c newV := by
  refine (dats m 0 c).arrAt_eq_of_covers 7 _ (by decide +kernel) fun t hf y => ?_
  blk_simp
  rw [after0_7]
  obtain ⟨r, j, rfl⟩ : ∃ (r : Fin 1536) (j : Fin 128), y = ix2 r j := ⟨_, _, eq_ix2 y⟩
  rw [show ((View.whole main_v0_3).slice (win0_7.rect t)).emb (ix2 r j) = ix2 (rowAt t r) j by blk_ext [index7, rowAt], out7_at]
  exact array_at newV (fun q => iblk0 m c t q r j) (iblk1 m c t r j) (iblk2 m c t r j) (iblk3 m c t r j)

/-- The reference's arguments being the kernel's, a result is the kernel's. -/
theorem same {x0 : Vec Ideal S4x9216x128 .bf16} {x1 x2 x3 : Vec Ideal S9216x128 .f32}
    (h : x0 = m ((c : Thread nD τ).loc main_arg0) ∧ x1 = m ((c : Thread nD τ).loc main_arg1) ∧ x2 = m ((c : Thread nD τ).loc main_arg2) ∧
      x3 = m ((c : Thread nD τ).loc main_arg3)) (f : Entry → EReal) {R : Vec Ideal S9216x128 .f32} (hR : R = res m c f) : array f x0 x1 x2 x3 = R := by
  obtain ⟨rfl, rfl, rfl, rfl⟩ := h
  exact hR.symm

end Kernel

/-! The reference's four arrays. -/

section Reference

open Cert.AdamBranchRefIdeal.Read

variable (x0 : Vec Ideal S4x9216x128 .bf16) (x1 x2 x3 : Vec Ideal S9216x128 .f32)

theorem ref_grad : val_main_v1 (F := Ideal) x0 = array grad x0 x1 x2 x3 := by
  funext i
  obtain ⟨r, j, rfl⟩ : ∃ (r : Fin 9216) (j : Fin 128), i = ix2 r j := ⟨_, _, eq_ix2 i⟩
  unfold val_main_v1 val_main_v0 val_main_cst
  pointwise
  exact Fin.sum_univ_four _

theorem ref_newM : val_main_v6 (F := Ideal) x0 x2 = array newM x0 x1 x2 x3 := by
  funext i
  unfold val_main_v6 val_main_v5 val_main_v4 val_main_cst_1 val_main_v3 val_main_v2 val_main_cst_0
  rw [ref_grad x0 x1 x2 x3]
  obtain ⟨r, j, rfl⟩ : ∃ (r : Fin 9216) (j : Fin 128), i = ix2 r j := ⟨_, _, eq_ix2 i⟩
  pointwise
  rfl

theorem ref_newV : val_main_v12 (F := Ideal) x0 x3 = array newV x0 x1 x2 x3 := by
  funext i
  unfold val_main_v12 val_main_v11 val_main_v10 val_main_cst_3 val_main_v9 val_main_v8 val_main_v7 val_main_cst_2
  rw [ref_grad x0 x1 x2 x3]
  obtain ⟨r, j, rfl⟩ : ∃ (r : Fin 9216) (j : Fin 128), i = ix2 r j := ⟨_, _, eq_ix2 i⟩
  pointwise
  rfl

theorem ref_delta : val_main_v25 (F := Ideal) x0 x1 x2 x3 = array delta x0 x1 x2 x3 := by
  funext i
  unfold val_main_v25 val_main_v24 val_main_cst_8 val_main_v23 val_main_v22 val_main_v21 val_main_cst_7 val_main_v20 val_main_v19
    val_main_v18 val_main_cst_6 val_main_v17 val_main_v16 val_main_v15 val_main_cst_5 val_main_v14 val_main_v13 val_main_cst_4
  rw [ref_newM x0 x1 x2 x3, ref_newV x0 x1 x2 x3]
  obtain ⟨r, j, rfl⟩ : ∃ (r : Fin 9216) (j : Fin 128), i = ix2 r j := ⟨_, _, eq_ix2 i⟩
  pointwise
  rfl

end Reference

end Cert.Adam.Branch
-- ==== Proof.Adam.Out.lean ====
/- The AdamW call of one weight, 512 × 1024: point `t` of 2 steps rows 256t … 256t+255 on their own, and the reference steps all
   of them, both by the functions of Formula.lean. -/
module

public import proofs.«01_k».proof.Proof.Gen.AdamOutIdeal.Value
public import proofs.«01_k».proof.Proof.Gen.AdamOutRefIdeal.Read
public import proofs.«01_k».proof.Proof.Gen.AdamOutRefIdeal.Run
public import proofs.«01_k».proof.Proof.Adam.Formula
public import Idealize.ShloMosaic.Lib.Pipeline.ValueKit.Geometry
public import Idealize.ShloMosaic.Lib.Pipeline.ValueKit.Acc

@[expose] public section

set_option maxRecDepth 16384

noncomputable section

namespace Cert.Adam.Out

open Idealize.ShloMosaic Idealize.ShloMosaic.TcCoe Idealize.SL.Sem Cert.AdamOutIdeal Cert.AdamOutIdeal.Gen

/-! What the body leaves, from the blocks it reads. -/

section Body

variable (y0 : Vec Ideal S4x256x1024 .bf16) (y1 y2 y3 : Vec Ideal S256x1024 .f32) (r : Fin 256) (j : Fin 1024)

theorem out4_at : out0_4 y0 y1 y2 y3 (ix2 r j) = array grad y0 y1 y2 y3 (ix2 r j) := by
  unfold out0_4
  frame_out
  unfold k0_pay2
  pointwise
  rfl

theorem out5_at : out0_5 y0 y1 y2 y3 (ix2 r j) = array delta y0 y1 y2 y3 (ix2 r j) := by
  unfold out0_5
  frame_out
  unfold k0_pay1 k0_pay5 k0_pay6 k0_pay3 k0_pay4 k0_pay2
  pointwise
  rfl

theorem out6_at : out0_6 y0 y1 y2 y3 (ix2 r j) = array newM y0 y1 y2 y3 (ix2 r j) := by
  unfold out0_6
  frame_out
  unfold k0_pay3 k0_pay2
  pointwise
  rfl

theorem out7_at : out0_7 y0 y1 y2 y3 (ix2 r j) = array newV y0 y1 y2 y3 (ix2 r j) := by
  unfold out0_7
  frame_out
  unfold k0_pay4 k0_pay2
  pointwise
  rfl

end Body

/-! The blocks of point `t` are rows 256t … of the arrays. -/

section Kernel

variable (m : (ℓ : Loc nD τ sig) → Buf (Elt Ideal) ℓ) (c : Dev nD)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `r` of point `t`'s blocks. -/
def rowAt (t : Fin cfg0.N) (r : Fin 256) : Fin 512 := ⟨t.val * 256 + r.val, by have : t.val < 2 := t.isLt; omega⟩

theorem iblk0 (t : Fin cfg0.N) (k : Fin 4) (r : Fin 256) (j : Fin 1024) :
    iblk m c 0 t (ix3 k r j) = m ((c : Thread nD τ).loc main_arg0) (ix3 k (rowAt t r) j) := by
  refine Eq.trans ?_ (congrFun (V_main_arg0 m c) _)
  blk_simp [iblk]
  exact congrArg (V m c main_arg0) (by blk_ext [index0, rowAt])

theorem iblk1 (t : Fin cfg0.N) (r : Fin 256) (j : Fin 1024) :
    iblk m c 1 t (ix2 r j) = m ((c : Thread nD τ).loc main_arg1) (ix2 (rowAt t r) j) := by
  refine Eq.trans ?_ (congrFun (V_main_arg1 m c) _)
  blk_simp [iblk]
  exact congrArg (V m c main_arg1) (by blk_ext [index1, rowAt])

theorem iblk2 (t : Fin cfg0.N) (r : Fin 256) (j : Fin 1024) :
    iblk m c 2 t (ix2 r j) = m ((c : Thread nD τ).loc main_arg2) (ix2 (rowAt t r) j) := by
  refine Eq.trans ?_ (congrFun (V_main_arg2 m c) _)
  blk_simp [iblk]
  exact congrArg (V m c main_arg2) (by blk_ext [index2, rowAt])

theorem iblk3 (t : Fin cfg0.N) (r : Fin 256) (j : Fin 1024) :
    iblk m c 3 t (ix2 r j) = m ((c : Thread nD τ).loc main_arg3) (ix2 (rowAt t r) j) := by
  refine Eq.trans ?_ (congrFun (V_main_arg3 m c) _)
  blk_simp [iblk]
  exact congrArg (V m c main_arg3) (by blk_ext [index3, rowAt])

/-- What one entry gives, on the kernel's arguments. -/
def res (f : Entry → EReal) : Vec Ideal S512x1024 .f32 := array f (m ((c : Thread nD τ).loc main_arg0))
  (m ((c : Thread nD τ).loc main_arg1)) (m ((c : Thread nD τ).loc main_arg2)) (m ((c : Thread nD τ).loc main_arg3))

theorem final4 : (dats m 0 c).arrAt 4 cfg0.N = res m c grad := by
  refine (dats m 0 c).arrAt_eq_of_covers 4 _ (by decide +kernel) fun t hf y => ?_
  blk_simp
  rw [after0_4]
  obtain ⟨r, j, rfl⟩ : ∃ (r : Fin 256) (j : Fin 1024), y = ix2 r j := ⟨_, _, eq_ix2 y⟩
  rw [show ((View.whole main_v0_0).slice (win0_4.rect t)).emb (ix2 r j) = ix2 (rowAt t r) j by blk_ext [index4, rowAt], out4_at]
  exact array_at grad (fun q => iblk0 m c t q r j) (iblk1 m c t r j) (iblk2 m c t r j) (iblk3 m c t r j)

theorem final5 : (dats m 0 c).arrAt 5 cfg0.N = res m c delta := by
  refine (dats m 0 c).arrAt_eq_of_covers 5 _ (by decide +kernel) fun t hf y => ?_
  blk_simp
  rw [after0_5]
  obtain ⟨r, j, rfl⟩ : ∃ (r : Fin 256) (j : Fin 1024), y = ix2 r j := ⟨_, _, eq_ix2 y⟩
  rw [show ((View.whole main_v0_1).slice (win0_5.rect t)).emb (ix2 r j) = ix2 (rowAt t r) j by blk_ext [index5, rowAt], out5_at]
  exact array_at delta (fun q => iblk0 m c t q r j) (iblk1 m c t r j) (iblk2 m c t r j) (iblk3 m c t r j)

theorem final6 : (dats m 0 c).arrAt 6 cfg0.N = res m c newM := by
  refine (dats m 0 c).arrAt_eq_of_covers 6 _ (by decide +kernel) fun t hf y => ?_
  blk_simp
  rw [after0_6]
  obtain ⟨r, j, rfl⟩ : ∃ (r : Fin 256) (j : Fin 1024), y = ix2 r j := ⟨_, _, eq_ix2 y⟩
  rw [show ((View.whole main_v0_2).slice (win0_6.rect t)).emb (ix2 r j) = ix2 (rowAt t r) j by blk_ext [index6, rowAt], out6_at]
  exact array_at newM (fun q => iblk0 m c t q r j) (iblk1 m c t r j) (iblk2 m c t r j) (iblk3 m c t r j)

theorem final7 : (dats m 0 c).arrAt 7 cfg0.N = res m c newV := by
  refine (dats m 0 c).arrAt_eq_of_covers 7 _ (by decide +kernel) fun t hf y => ?_
  blk_simp
  rw [after0_7]
  obtain ⟨r, j, rfl⟩ : ∃ (r : Fin 256) (j : Fin 1024), y = ix2 r j := ⟨_, _, eq_ix2 y⟩
  rw [show ((View.whole main_v0_3).slice (win0_7.rect t)).emb (ix2 r j) = ix2 (rowAt t r) j by blk_ext [index7, rowAt], out7_at]
  exact array_at newV (fun q => iblk0 m c t q r j) (iblk1 m c t r j) (iblk2 m c t r j) (iblk3 m c t r j)

/-- The reference's arguments being the kernel's, a result is the kernel's. -/
theorem same {x0 : Vec Ideal S4x512x1024 .bf16} {x1 x2 x3 : Vec Ideal S512x1024 .f32}
    (h : x0 = m ((c : Thread nD τ).loc main_arg0) ∧ x1 = m ((c : Thread nD τ).loc main_arg1) ∧ x2 = m ((c : Thread nD τ).loc main_arg2) ∧
      x3 = m ((c : Thread nD τ).loc main_arg3)) (f : Entry → EReal) {R : Vec Ideal S512x1024 .f32} (hR : R = res m c f) : array f x0 x1 x2 x3 = R := by
  obtain ⟨rfl, rfl, rfl, rfl⟩ := h
  exact hR.symm

end Kernel

/-! The reference's four arrays. -/

section Reference

open Cert.AdamOutRefIdeal.Read

variable (x0 : Vec Ideal S4x512x1024 .bf16) (x1 x2 x3 : Vec Ideal S512x1024 .f32)

theorem ref_grad : val_main_v1 (F := Ideal) x0 = array grad x0 x1 x2 x3 := by
  funext i
  obtain ⟨r, j, rfl⟩ : ∃ (r : Fin 512) (j : Fin 1024), i = ix2 r j := ⟨_, _, eq_ix2 i⟩
  unfold val_main_v1 val_main_v0 val_main_cst
  pointwise
  exact Fin.sum_univ_four _

theorem ref_newM : val_main_v6 (F := Ideal) x0 x2 = array newM x0 x1 x2 x3 := by
  funext i
  unfold val_main_v6 val_main_v5 val_main_v4 val_main_cst_1 val_main_v3 val_main_v2 val_main_cst_0
  rw [ref_grad x0 x1 x2 x3]
  obtain ⟨r, j, rfl⟩ : ∃ (r : Fin 512) (j : Fin 1024), i = ix2 r j := ⟨_, _, eq_ix2 i⟩
  pointwise
  rfl

theorem ref_newV : val_main_v12 (F := Ideal) x0 x3 = array newV x0 x1 x2 x3 := by
  funext i
  unfold val_main_v12 val_main_v11 val_main_v10 val_main_cst_3 val_main_v9 val_main_v8 val_main_v7 val_main_cst_2
  rw [ref_grad x0 x1 x2 x3]
  obtain ⟨r, j, rfl⟩ : ∃ (r : Fin 512) (j : Fin 1024), i = ix2 r j := ⟨_, _, eq_ix2 i⟩
  pointwise
  rfl

theorem ref_delta : val_main_v25 (F := Ideal) x0 x1 x2 x3 = array delta x0 x1 x2 x3 := by
  funext i
  unfold val_main_v25 val_main_v24 val_main_cst_8 val_main_v23 val_main_v22 val_main_v21 val_main_cst_7 val_main_v20 val_main_v19
    val_main_v18 val_main_cst_6 val_main_v17 val_main_v16 val_main_v15 val_main_cst_5 val_main_v14 val_main_v13 val_main_cst_4
  rw [ref_newM x0 x1 x2 x3, ref_newV x0 x1 x2 x3]
  obtain ⟨r, j, rfl⟩ : ∃ (r : Fin 512) (j : Fin 1024), i = ix2 r j := ⟨_, _, eq_ix2 i⟩
  pointwise
  rfl

end Reference

end Cert.Adam.Out
-- ==== Proof.Adam.Layout.lean ====
/- Arrays laid end to end, filled up with one value and cut into rows: doing something to every entry before that or after
   that comes to the same. -/
module

public import Idealize.ShloMosaic.Lib.Pointwise

@[expose] public section

namespace Cert.Adam

open Idealize.ShloMosaic

variable {α β : Type}

/-- The pieces with `f` done to every entry. -/
def mapped (f : α → β) (xs : List ((s : Shape) × (s.Idx → α))) : List ((s : Shape) × (s.Idx → β)) :=
  xs.map fun p => ⟨p.1, fun i => f (p.2 i)⟩

theorem mapped_shapes (f : α → β) (xs : List ((s : Shape) × (s.Idx → α))) : (mapped f xs).map (·.1) = xs.map (·.1) := by
  unfold mapped
  rw [List.map_map]
  rfl

/-- Where an entry of pieces laid end to end is read depends on their shapes only. -/
theorem concatenateAt_mapped (f : α → β) (t : Shape) (a : Fin t.rank) (j : t.Idx) : (xs : List ((s : Shape) × (s.Idx → α))) →
    (hs : ∀ s ∈ xs.map (·.1), s.FitsOff t a) → (hs' : ∀ s ∈ (mapped f xs).map (·.1), s.FitsOff t a) → (c : ℕ) →
    (hc : c < (axisSizes t a xs).sum) → (hc' : c < (axisSizes t a (mapped f xs)).sum) →
    concatenateAt t a j (mapped f xs) hs' c hc' = f (concatenateAt t a j xs hs c hc)
  | [], _, _, _, hc, _ => absurd hc (Nat.not_lt_zero _)
  | [p], _, _, _, _, _ => rfl
  | p :: q :: xs, hs, hs', c, hc, hc' => by
    have hp : p.1.FitsOff t a := hs p.1 List.mem_cons_self
    show concatenateAt t a j (_ :: _ :: _) _ c _ = _
    refine (concatenateAt_cons ..).trans (Eq.trans ?_ (congrArg f (concatenateAt_cons ..).symm))
    by_cases h : c < p.1.size (a.cast hp.rank_eq.symm)
    · rw [dif_pos h, dif_pos h]
    · rw [dif_neg h, dif_neg h]
      exact concatenateAt_mapped f t a j (q :: xs) _ _ _ _ _

theorem concatenate_mapped (f : α → β) (t : Shape) (a : Fin t.rank) (xs : List ((s : Shape) × (s.Idx → α)))
    (h : Shape.Concatenates (xs.map (·.1)) t a) (h' : Shape.Concatenates ((mapped f xs).map (·.1)) t a) (j : t.Idx) :
    concatenate t a (mapped f xs) h' j = f (concatenate t a xs h j) := by
  rw [concatenate_apply, concatenate_apply]
  exact concatenateAt_mapped f t a j xs _ _ _ _ _

theorem pad_mapped (f : α → β) {s : Shape} (t : Shape) (lo hi interior : Fin s.rank → Nat) (x : s.Idx → α) {u : Shape} (v : u.Idx → α)
    (h : s.Pads lo hi interior t) (hu : 0 < u.numel) (j : t.Idx) :
    pad t lo hi interior (fun i => f (x i)) (fun i => f (v i)) h hu j = f (pad t lo hi interior x v h hu j) := by
  unfold pad
  split <;> rfl

end Cert.Adam
-- ==== Proof.Adam.Packed.lean ====
/- How the remaining weights' arrays are handed to AdamW's one call: every array laid out as a row, the rows end to end, filled
   up with zeros, the whole cut into 7168 rows of 128. And the reference's AdamW of one weight of any shape, read at an entry. -/
module

public import proofs.«01_k».proof.Proof.Gen.AdamRestRefIdeal
public import proofs.«01_k».proof.Proof.Adam.Formula
public import proofs.«01_k».proof.Proof.Adam.Layout

@[expose] public section

set_option maxRecDepth 16384

noncomputable section

namespace Cert.Adam.Rest

open Idealize.ShloMosaic Cert.AdamRestRefIdeal Cert.AdamRestRefIdeal.Gen

variable {α β : Type}

/-- The shapes of the twenty-five weights. -/
abbrev shapeOf : Fin 25 → Shape
  | ⟨0, _⟩ => S16x128 | ⟨1, _⟩ => S4x4x160 | ⟨2, _⟩ => S4x4x288 | ⟨3, _⟩ => S4x3x128 | ⟨4, _⟩ => S1024 | ⟨5, _⟩ => S1024 | ⟨6, _⟩ => S4x48x64
  | ⟨7, _⟩ => S4x48x64 | ⟨8, _⟩ => S4x48 | ⟨9, _⟩ => S4x48x64x16 | ⟨10, _⟩ => S4x48x64x16 | ⟨11, _⟩ => S4x48x16x64 | ⟨12, _⟩ => S4x48x16x64 |
  ⟨13, _⟩ => S4x768 | ⟨14, _⟩ => S4x768 | ⟨15, _⟩ => S4x1280 | ⟨16, _⟩ => S4x12 | ⟨17, _⟩ => S4x12 | ⟨18, _⟩ => S4x12 | ⟨19, _⟩ => S4x768 |
  ⟨20, _⟩ => S4x6 | ⟨21, _⟩ => S4x6 | ⟨22, _⟩ => S4x128 | ⟨23, _⟩ => S4x1024 | ⟨24, _⟩ => S4x1024
  | ⟨n + 25, h⟩ => absurd h (by omega)

/-- One array for each weight. -/
abbrev Pieces (α : Type) : Type := (k : Fin 25) → (shapeOf k).Idx → α

def pieces (x0 : S16x128.Idx → α) (x1 : S4x4x160.Idx → α) (x2 : S4x4x288.Idx → α) (x3 : S4x3x128.Idx → α) (x4 : S1024.Idx → α)
    (x5 : S1024.Idx → α) (x6 : S4x48x64.Idx → α) (x7 : S4x48x64.Idx → α) (x8 : S4x48.Idx → α) (x9 : S4x48x64x16.Idx → α)
    (x10 : S4x48x64x16.Idx → α) (x11 : S4x48x16x64.Idx → α) (x12 : S4x48x16x64.Idx → α) (x13 : S4x768.Idx → α) (x14 : S4x768.Idx → α)
    (x15 : S4x1280.Idx → α) (x16 : S4x12.Idx → α) (x17 : S4x12.Idx → α) (x18 : S4x12.Idx → α) (x19 : S4x768.Idx → α) (x20 : S4x6.Idx → α)
    (x21 : S4x6.Idx → α) (x22 : S4x128.Idx → α) (x23 : S4x1024.Idx → α) (x24 : S4x1024.Idx → α) : Pieces α
  | ⟨0, _⟩ => x0 | ⟨1, _⟩ => x1 | ⟨2, _⟩ => x2 | ⟨3, _⟩ => x3 | ⟨4, _⟩ => x4 | ⟨5, _⟩ => x5 | ⟨6, _⟩ => x6 | ⟨7, _⟩ => x7 | ⟨8, _⟩ => x8 |
  ⟨9, _⟩ => x9 | ⟨10, _⟩ => x10 | ⟨11, _⟩ => x11 | ⟨12, _⟩ => x12 | ⟨13, _⟩ => x13 | ⟨14, _⟩ => x14 | ⟨15, _⟩ => x15 | ⟨16, _⟩ => x16 |
  ⟨17, _⟩ => x17 | ⟨18, _⟩ => x18 | ⟨19, _⟩ => x19 | ⟨20, _⟩ => x20 | ⟨21, _⟩ => x21 | ⟨22, _⟩ => x22 | ⟨23, _⟩ => x23 | ⟨24, _⟩ => x24
  | ⟨n + 25, h⟩ => absurd h (by omega)

def firstParts (X : Pieces α) : List ((s : Shape) × (s.Idx → α)) :=
  [⟨S2048, shapeCast _ (X 0) shapeCasts_S16x128_S2048⟩, ⟨S2560, shapeCast _ (X 1) shapeCasts_S4x4x160_S2560⟩,
    ⟨S4608, shapeCast _ (X 2) shapeCasts_S4x4x288_S4608⟩, ⟨S1536, shapeCast _ (X 3) shapeCasts_S4x3x128_S1536⟩, ⟨S1024, X 4⟩, ⟨S1024, X 5⟩,
    ⟨S12288, shapeCast _ (X 6) shapeCasts_S4x48x64_S12288⟩, ⟨S12288, shapeCast _ (X 7) shapeCasts_S4x48x64_S12288⟩,
    ⟨S192, shapeCast _ (X 8) shapeCasts_S4x48_S192⟩, ⟨S196608, shapeCast _ (X 9) shapeCasts_S4x48x64x16_S196608⟩,
    ⟨S196608, shapeCast _ (X 10) shapeCasts_S4x48x64x16_S196608⟩, ⟨S196608, shapeCast _ (X 11) shapeCasts_S4x48x16x64_S196608⟩,
    ⟨S196608, shapeCast _ (X 12) shapeCasts_S4x48x16x64_S196608⟩, ⟨S3072, shapeCast _ (X 13) shapeCasts_S4x768_S3072⟩,
    ⟨S3072, shapeCast _ (X 14) shapeCasts_S4x768_S3072⟩, ⟨S5120, shapeCast _ (X 15) shapeCasts_S4x1280_S5120⟩]

def lastParts (X : Pieces α) : List ((s : Shape) × (s.Idx → α)) :=
  [⟨S48, shapeCast _ (X 16) shapeCasts_S4x12_S48⟩, ⟨S48, shapeCast _ (X 17) shapeCasts_S4x12_S48⟩, ⟨S48, shapeCast _ (X 18) shapeCasts_S4x12_S48⟩,
    ⟨S3072, shapeCast _ (X 19) shapeCasts_S4x768_S3072⟩, ⟨S24, shapeCast _ (X 20) shapeCasts_S4x6_S24⟩, ⟨S24, shapeCast _ (X 21) shapeCasts_S4x6_S24⟩,
    ⟨S512, shapeCast _ (X 22) shapeCasts_S4x128_S512⟩, ⟨S4096, shapeCast _ (X 23) shapeCasts_S4x1024_S4096⟩,
    ⟨S4096, shapeCast _ (X 24) shapeCasts_S4x1024_S4096⟩]

def firstRow (X : Pieces α) : S835264.Idx → α := concatenate S835264 0 (firstParts X)
  concatenates_S2048_S2560_S4608_S1536_S1024_S1024_S12288_S12288_S192_S196608_S196608_S196608_S196608_S3072_S3072_S5120_S835264_d0

def lastRow (X : Pieces α) : S11968.Idx → α := concatenate S11968 0 (lastParts X)
  concatenates_S48_S48_S48_S3072_S24_S24_S512_S4096_S4096_S11968_d0

def row (X : Pieces α) : S847232.Idx → α :=
  concatenate S847232 0 [⟨S835264, firstRow X⟩, ⟨S11968, lastRow X⟩] concatenates_S835264_S11968_S847232_d0

/-- The rows of 128, `z` after the arrays' end. -/
def packed (z : α) (X : Pieces α) : S7168x128.Idx → α :=
  shapeCast _ (pad S917504 ![0] ![70272] ![0] (row X) (fun _ : S_.Idx => z) pads_S847232_S917504_0702720 h_S_) shapeCasts_S917504_S7168x128

theorem firstRow_mapped (f : α → β) (X : Pieces α) : firstRow (fun k i => f (X k i)) = fun i => f (firstRow X i) :=
  funext fun i => concatenate_mapped f S835264 0 (firstParts X) _ _ i

theorem lastRow_mapped (f : α → β) (X : Pieces α) : lastRow (fun k i => f (X k i)) = fun i => f (lastRow X i) :=
  funext fun i => concatenate_mapped f S11968 0 (lastParts X) _ _ i

theorem row_mapped (f : α → β) (X : Pieces α) : row (fun k i => f (X k i)) = fun i => f (row X i) := by
  unfold row
  rw [firstRow_mapped, lastRow_mapped]
  exact funext fun i => concatenate_mapped f S847232 0 [⟨S835264, firstRow X⟩, ⟨S11968, lastRow X⟩] concatenates_S835264_S11968_S847232_d0 _ i

/-- Laying out what `f` gives of every entry is what `f` gives of the entries laid out. -/
theorem packed_mapped (f : α → β) (z : α) (X : Pieces α) (i : S7168x128.Idx) :
    packed (f z) (fun k j => f (X k j)) i = f (packed z X i) := by
  unfold packed
  rw [row_mapped]
  exact pad_mapped f S917504 ![0] ![70272] ![0] (row X) (fun _ : S_.Idx => z) _ _ _

/-! One entry of a weight: its gradient, itself, its moments. -/

structure One where
  g : EReal
  w : EReal
  m : EReal
  v : EReal

/-- The entries of four families of arrays. -/
def together (G W M V : Pieces EReal) : Pieces One := fun k i => ⟨G k i, W k i, M k i, V k i⟩

/-- The value after the arrays' end. -/
def fill : EReal := sitofp (F := Ideal) .f32 (constantI S_ 32 0#32) (Shape.Idx.first h_S_)

theorem fill_eq : fill = 0 := by
  show (((0#32 : BitVec 32).toInt : ℝ) : EReal) = 0
  simp

/-- A step's result of an entry. -/
abbrev gOf (e : One) : EReal := e.g
abbrev mOf (e : One) : EReal := nextM e.g e.m
abbrev vOf (e : One) : EReal := nextV e.g e.v
abbrev dOf (e : One) : EReal := stepOf e.g e.w e.m e.v

abbrev blank : One := ⟨fill, fill, fill, fill⟩

theorem mOf_blank : mOf blank = fill := by
  show nextM fill fill = fill
  rw [fill_eq]; unfold nextM; simp

theorem vOf_blank : vOf blank = fill := by
  show nextV fill fill = fill
  rw [fill_eq]; unfold nextV; simp

theorem zero_div {y : EReal} (h : y ≠ 0) : Ideal.div 0 y = 0 := by
  unfold Ideal.div
  rw [if_neg h, zero_mul]

theorem sqrt_zero : Ideal.sqrt 0 = 0 := by
  show (if (0 : ℝ) < 0 then ⊥ else (Real.sqrt 0 : EReal)) = 0
  simp

theorem dOf_blank : dOf blank = fill := by
  show stepOf fill fill fill fill = fill
  have hm : nextM fill fill = fill := mOf_blank
  have hv : nextV fill fill = fill := vOf_blank
  have h1 : Ideal.ofBits .f32 0x3F26BD02#32 ≠ 0 := by simp [Ideal.ofBits, Ideal.ieee, -EReal.coe_mul]
  have h2 : Ideal.ofBits .f32 0x3C231ACC#32 ≠ 0 := by simp [Ideal.ofBits, Ideal.ieee, -EReal.coe_mul]
  have h3 : Ideal.ofBits .f32 0x322BCC77#32 ≠ 0 := by simp [Ideal.ofBits, Ideal.ieee, -EReal.coe_mul]
  unfold stepOf
  rw [hm, hv, fill_eq, zero_div h2, sqrt_zero, zero_add, zero_div h1, zero_div h3, mul_zero, add_zero, mul_zero]

/-- What a step gives in the packed arrays: `f` of the four packed arrays' entries. -/
theorem packed_of (f : One → EReal) (hf : f blank = fill) (G W M V : Pieces EReal) :
    packed fill (fun k i => f (together G W M V k i))
      = fun i => f ⟨packed fill G i, packed fill W i, packed fill M i, packed fill V i⟩ := by
  funext i
  have h := packed_mapped f blank (together G W M V) i
  rw [hf] at h
  refine h.trans (congrArg f ?_)
  have hg := packed_mapped One.g blank (together G W M V) i
  have hw := packed_mapped One.w blank (together G W M V) i
  have hm := packed_mapped One.m blank (together G W M V) i
  have hv := packed_mapped One.v blank (together G W M V) i
  show One.mk _ _ _ _ = One.mk _ _ _ _
  congr 1
  · exact hg.symm
  · exact hw.symm
  · exact hm.symm
  · exact hv.symm

/-! The reference's lines for one weight. -/

section OneWeight

variable {s : Shape} (h : S_.BroadcastsInDim s (![] : Fin 0 → Fin s.rank)) (g w m v : Vec Ideal s .f32)

/-- A constant at every entry. -/
abbrev lit (b : BitVec 32) : FVec Ideal s .f32 := broadcastInDim s ![] h (constant (F := Ideal) S_ .f32 b)

abbrev lineM : FVec Ideal s .f32 := addf (mulf (lit h 0x3F666666#32) m) (mulf (lit h 0x3DCCCCCD#32) g)
abbrev lineV : FVec Ideal s .f32 := addf (mulf (lit h 0x3F7FBE77#32) v) (mulf (lit h 0x3A83126F#32) (mulf g g))
abbrev lineD : FVec Ideal s .f32 :=
  mulf (lit h 0xBA83126F#32) (addf (Host.divf (Host.divf (lineM h g m) (lit h 0x3F26BD02#32))
    (addf (Host.sqrt (Host.divf (lineV h g v) (lit h 0x3C231ACC#32))) (lit h 0x322BCC77#32))) (mulf (lit h 0x3C23D70A#32) w))

theorem lineM_eq : lineM h g m = fun i => nextM (g i) (m i) := by
  funext i
  pointwise
  rfl

theorem lineV_eq : lineV h g v = fun i => nextV (g i) (v i) := by
  funext i
  pointwise
  rfl

theorem lineD_eq : lineD h g w m v = fun i => stepOf (g i) (w i) (m i) (v i) := by
  funext i
  pointwise
  rfl

end OneWeight

end Cert.Adam.Rest
-- ==== Proof.Adam.RestHost.lean ====
/- The host lines before the region of AdamW's call on the remaining weights: the gradients', weights' and moments' arrays, packed. -/
module

public import proofs.«01_k».proof.Proof.Gen.AdamRestIdeal.Launch
public import proofs.«01_k».proof.Proof.Adam.Packed

@[expose] public section

set_option maxRecDepth 65536
set_option maxHeartbeats 2000000

noncomputable section

namespace Cert.Adam.Rest

open Idealize.ShloMosaic Idealize.ShloMosaic.TcCoe Idealize.SL.Sem Cert.AdamRestIdeal Cert.AdamRestIdeal.Gen

variable (W : Valuation τ sig (Elt Ideal))

def gradients : Pieces EReal :=
  pieces (W (Proc.devRef .tc main_arg0)) (W (Proc.devRef .tc main_arg1)) (W (Proc.devRef .tc main_arg2)) (W (Proc.devRef .tc main_arg3))
    (W (Proc.devRef .tc main_arg4)) (W (Proc.devRef .tc main_arg5)) (W (Proc.devRef .tc main_arg6)) (W (Proc.devRef .tc main_arg7))
    (W (Proc.devRef .tc main_arg8)) (W (Proc.devRef .tc main_arg9)) (W (Proc.devRef .tc main_arg10)) (W (Proc.devRef .tc main_arg11))
    (W (Proc.devRef .tc main_arg12)) (W (Proc.devRef .tc main_arg13)) (W (Proc.devRef .tc main_arg14)) (W (Proc.devRef .tc main_arg15))
    (W (Proc.devRef .tc main_arg16)) (W (Proc.devRef .tc main_arg17)) (W (Proc.devRef .tc main_arg18)) (W (Proc.devRef .tc main_arg19))
    (W (Proc.devRef .tc main_arg20)) (W (Proc.devRef .tc main_arg21)) (W (Proc.devRef .tc main_arg22)) (W (Proc.devRef .tc main_arg23))
    (W (Proc.devRef .tc main_arg24))

def weights : Pieces EReal :=
  pieces (W (Proc.devRef .tc main_arg25)) (W (Proc.devRef .tc main_arg26)) (W (Proc.devRef .tc main_arg27)) (W (Proc.devRef .tc main_arg28))
    (W (Proc.devRef .tc main_arg29)) (W (Proc.devRef .tc main_arg30)) (W (Proc.devRef .tc main_arg31)) (W (Proc.devRef .tc main_arg32))
    (W (Proc.devRef .tc main_arg33)) (W (Proc.devRef .tc main_arg34)) (W (Proc.devRef .tc main_arg35)) (W (Proc.devRef .tc main_arg36))
    (W (Proc.devRef .tc main_arg37)) (W (Proc.devRef .tc main_arg38)) (W (Proc.devRef .tc main_arg39)) (W (Proc.devRef .tc main_arg40))
    (W (Proc.devRef .tc main_arg41)) (W (Proc.devRef .tc main_arg42)) (W (Proc.devRef .tc main_arg43)) (W (Proc.devRef .tc main_arg44))
    (W (Proc.devRef .tc main_arg45)) (W (Proc.devRef .tc main_arg46)) (W (Proc.devRef .tc main_arg47)) (W (Proc.devRef .tc main_arg48))
    (W (Proc.devRef .tc main_arg49))

def firstMoments : Pieces EReal :=
  pieces (W (Proc.devRef .tc main_arg50)) (W (Proc.devRef .tc main_arg51)) (W (Proc.devRef .tc main_arg52)) (W (Proc.devRef .tc main_arg53))
    (W (Proc.devRef .tc main_arg54)) (W (Proc.devRef .tc main_arg55)) (W (Proc.devRef .tc main_arg56)) (W (Proc.devRef .tc main_arg57))
    (W (Proc.devRef .tc main_arg58)) (W (Proc.devRef .tc main_arg59)) (W (Proc.devRef .tc main_arg60)) (W (Proc.devRef .tc main_arg61))
    (W (Proc.devRef .tc main_arg62)) (W (Proc.devRef .tc main_arg63)) (W (Proc.devRef .tc main_arg64)) (W (Proc.devRef .tc main_arg65))
    (W (Proc.devRef .tc main_arg66)) (W (Proc.devRef .tc main_arg67)) (W (Proc.devRef .tc main_arg68)) (W (Proc.devRef .tc main_arg69))
    (W (Proc.devRef .tc main_arg70)) (W (Proc.devRef .tc main_arg71)) (W (Proc.devRef .tc main_arg72)) (W (Proc.devRef .tc main_arg73))
    (W (Proc.devRef .tc main_arg74))

def secondMoments : Pieces EReal :=
  pieces (W (Proc.devRef .tc main_arg75)) (W (Proc.devRef .tc main_arg76)) (W (Proc.devRef .tc main_arg77)) (W (Proc.devRef .tc main_arg78))
    (W (Proc.devRef .tc main_arg79)) (W (Proc.devRef .tc main_arg80)) (W (Proc.devRef .tc main_arg81)) (W (Proc.devRef .tc main_arg82))
    (W (Proc.devRef .tc main_arg83)) (W (Proc.devRef .tc main_arg84)) (W (Proc.devRef .tc main_arg85)) (W (Proc.devRef .tc main_arg86))
    (W (Proc.devRef .tc main_arg87)) (W (Proc.devRef .tc main_arg88)) (W (Proc.devRef .tc main_arg89)) (W (Proc.devRef .tc main_arg90))
    (W (Proc.devRef .tc main_arg91)) (W (Proc.devRef .tc main_arg92)) (W (Proc.devRef .tc main_arg93)) (W (Proc.devRef .tc main_arg94))
    (W (Proc.devRef .tc main_arg95)) (W (Proc.devRef .tc main_arg96)) (W (Proc.devRef .tc main_arg97)) (W (Proc.devRef .tc main_arg98))
    (W (Proc.devRef .tc main_arg99))

/-- What the host lines leave in each buffer. -/
abbrev left : Valuation τ sig (Elt Ideal) :=
  StableHlo.after (List.flatten [hostOps0, hostOps0_1, hostOps0_2, hostOps0_3, hostOps0_4, hostOps0_5, hostOps0_6, hostOps0_7, hostOps0_8]) W

theorem left_gradients : left W (Proc.devRef .tc main_v28)
    = broadcastInDim S1x7168x128 ![1, 2] bcast_S7168x128_S1x7168x128_1_2 (packed fill (gradients W)) := by
  unfold left hostOps0 hostOps0_1 hostOps0_2 hostOps0_3 hostOps0_4 hostOps0_5 hostOps0_6 hostOps0_7 hostOps0_8
  simp only [List.flatten_cons, List.flatten_nil, List.append_nil, List.cons_append, List.nil_append]
  after_results
  rfl

theorem left_weights : left W (Proc.devRef .tc main_v56) = packed fill (weights W) := by
  unfold left hostOps0 hostOps0_1 hostOps0_2 hostOps0_3 hostOps0_4 hostOps0_5 hostOps0_6 hostOps0_7 hostOps0_8
  simp only [List.flatten_cons, List.flatten_nil, List.append_nil, List.cons_append, List.nil_append]
  after_results
  rfl

theorem left_firstMoments : left W (Proc.devRef .tc main_v84) = packed fill (firstMoments W) := by
  unfold left hostOps0 hostOps0_1 hostOps0_2 hostOps0_3 hostOps0_4 hostOps0_5 hostOps0_6 hostOps0_7 hostOps0_8
  simp only [List.flatten_cons, List.flatten_nil, List.append_nil, List.cons_append, List.nil_append]
  after_results
  rfl

theorem left_secondMoments : left W (Proc.devRef .tc main_v112) = packed fill (secondMoments W) := by
  unfold left hostOps0 hostOps0_1 hostOps0_2 hostOps0_3 hostOps0_4 hostOps0_5 hostOps0_6 hostOps0_7 hostOps0_8
  simp only [List.flatten_cons, List.flatten_nil, List.append_nil, List.cons_append, List.nil_append]
  after_results
  rfl

end Cert.Adam.Rest
-- ==== Proof.Adam.RestKernel.lean ====
/- AdamW's call on the remaining weights, packed in 7168 rows of 128: point `t` of 4 steps rows 1792t … 1792t+1791, every entry
   by the functions of Formula.lean. -/
module

public import proofs.«01_k».proof.Proof.Gen.AdamRestIdeal.Frame
public import proofs.«01_k».proof.Proof.Adam.RestHost
public import Idealize.ShloMosaic.Lib.Pipeline.ValueKit.Geometry
public import Idealize.ShloMosaic.Lib.Pipeline.ValueKit.Acc

@[expose] public section

set_option maxRecDepth 16384

noncomputable section

namespace Cert.Adam.Rest

open Idealize.ShloMosaic Idealize.ShloMosaic.TcCoe Idealize.SL.Sem Cert.AdamRestIdeal Cert.AdamRestIdeal.Gen

/-! What the body leaves, from the blocks it reads. -/

section Body

variable (y0 : Vec Ideal S1x1792x128 .f32) (y1 y2 y3 : Vec Ideal S1792x128 .f32) (r : Fin 1792) (j : Fin 128)

/-- The block's entry. -/
def entry : One := ⟨y0 (ix3 0 r j), y1 (ix2 r j), y2 (ix2 r j), y3 (ix2 r j)⟩

theorem out4_at : out0_4 y0 y1 y2 y3 (ix2 r j) = gOf (entry y0 y1 y2 y3 r j) := by
  unfold out0_4
  frame_out
  unfold k0_pay1
  pointwise
  rfl

theorem out5_at : out0_5 y0 y1 y2 y3 (ix2 r j) = dOf (entry y0 y1 y2 y3 r j) := by
  unfold out0_5
  frame_out
  unfold k0_pay4 k0_pay2 k0_pay3 k0_pay1
  pointwise
  rfl

theorem out6_at : out0_6 y0 y1 y2 y3 (ix2 r j) = mOf (entry y0 y1 y2 y3 r j) := by
  unfold out0_6
  frame_out
  unfold k0_pay2 k0_pay1
  pointwise
  rfl

theorem out7_at : out0_7 y0 y1 y2 y3 (ix2 r j) = vOf (entry y0 y1 y2 y3 r j) := by
  unfold out0_7
  frame_out
  unfold k0_pay3 k0_pay1
  pointwise
  rfl

end Body

/-! The blocks of point `t` are rows 1792t … of the packed arrays. -/

section Kernel

variable (m : (ℓ : Loc nD τ sig) → Buf (Elt Ideal) ℓ) (c : Dev nD)

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `r` of point `t`'s blocks. -/
def rowAt (t : Fin cfg0.N) (r : Fin 1792) : Fin 7168 := ⟨t.val * 1792 + r.val, by have : t.val < 4 := t.isLt; omega⟩

/-- The memory as the host lines find it. -/
abbrev start : Valuation τ sig (Elt Ideal) := fun b => m (c, b)

/-- What one entry gives, on the kernel's arguments packed. -/
def res (f : One → EReal) : Vec Ideal S7168x128 .f32 := fun i => f ⟨packed fill (gradients (start m c)) i, packed fill (weights (start m c)) i,
  packed fill (firstMoments (start m c)) i, packed fill (secondMoments (start m c)) i⟩

theorem iblk0 (t : Fin cfg0.N) (r : Fin 1792) (j : Fin 128) :
    iblk m c 0 t (ix3 0 r j) = packed fill (gradients (start m c)) (ix2 (rowAt t r) j) := by
  have h : V m c main_v28 (ix3 0 (rowAt t r) j) = packed fill (gradients (start m c)) (ix2 (rowAt t r) j) := by
    refine (congrFun (left_gradients (start m c)) _).trans ?_
    generalize packed fill (gradients (start m c)) = P
    pointwise
  refine Eq.trans ?_ h
  blk_simp [iblk]
  exact congrArg (V m c main_v28) (by blk_ext [index0, rowAt])

theorem iblk1 (t : Fin cfg0.N) (r : Fin 1792) (j : Fin 128) :
    iblk m c 1 t (ix2 r j) = packed fill (weights (start m c)) (ix2 (rowAt t r) j) := by
  refine Eq.trans ?_ (congrFun (left_weights (start m c)) _)
  blk_simp [iblk]
  exact congrArg (V m c main_v56) (by blk_ext [index1, rowAt])

theorem iblk2 (t : Fin cfg0.N) (r : Fin 1792) (j : Fin 128) :
    iblk m c 2 t (ix2 r j) = packed fill (firstMoments (start m c)) (ix2 (rowAt t r) j) := by
  refine Eq.trans ?_ (congrFun (left_firstMoments (start m c)) _)
  blk_simp [iblk]
  exact congrArg (V m c main_v84) (by blk_ext [index2, rowAt])

theorem iblk3 (t : Fin cfg0.N) (r : Fin 1792) (j : Fin 128) :
    iblk m c 3 t (ix2 r j) = packed fill (secondMoments (start m c)) (ix2 (rowAt t r) j) := by
  refine Eq.trans ?_ (congrFun (left_secondMoments (start m c)) _)
  blk_simp [iblk]
  exact congrArg (V m c main_v112) (by blk_ext [index3, rowAt])

theorem one_congr {g g' w w' p p' v v' : EReal} (hg : g = g') (hw : w = w') (hp : p = p') (hv : v = v') :
    One.mk g w p v = One.mk g' w' p' v' := by
  rw [hg, hw, hp, hv]

/-- A block's entry is the packed arrays' own. -/
theorem entry_at (f : One → EReal) (t : Fin cfg0.N) (r : Fin 1792) (j : Fin 128) :
    f (entry (iblk m c 0 t) (iblk m c 1 t) (iblk m c 2 t) (iblk m c 3 t) r j) = res m c f (ix2 (rowAt t r) j) := by
  have e : entry (iblk m c 0 t) (iblk m c 1 t) (iblk m c 2 t) (iblk m c 3 t) r j = One.mk _ _ _ _ :=
    one_congr (iblk0 m c t r j) (iblk1 m c t r j) (iblk2 m c t r j) (iblk3 m c t r j)
  rw [e]
  unfold res
  with_reducible rfl

theorem final4 : (dats m 0 c).arrAt 4 cfg0.N = res m c gOf := by
  refine (dats m 0 c).arrAt_eq_of_covers 4 _ (by decide +kernel) fun t hf y => ?_
  blk_simp
  rw [after0_4]
  obtain ⟨r, j, rfl⟩ : ∃ (r : Fin 1792) (j : Fin 128), y = ix2 r j := ⟨_, _, eq_ix2 y⟩
  rw [show ((View.whole main_v113_0).slice (win0_4.rect t)).emb (ix2 r j) = ix2 (rowAt t r) j by blk_ext [index4, rowAt], out4_at]
  exact entry_at m c gOf t r j

theorem final5 : (dats m 0 c).arrAt 5 cfg0.N = res m c dOf := by
  refine (dats m 0 c).arrAt_eq_of_covers 5 _ (by decide +kernel) fun t hf y => ?_
  blk_simp
  rw [after0_5]
  obtain ⟨r, j, rfl⟩ : ∃ (r : Fin 1792) (j : Fin 128), y = ix2 r j := ⟨_, _, eq_ix2 y⟩
  rw [show ((View.whole main_v113_1).slice (win0_5.rect t)).emb (ix2 r j) = ix2 (rowAt t r) j by blk_ext [index5, rowAt], out5_at]
  exact entry_at m c dOf t r j

theorem final6 : (dats m 0 c).arrAt 6 cfg0.N = res m c mOf := by
  refine (dats m 0 c).arrAt_eq_of_covers 6 _ (by decide +kernel) fun t hf y => ?_
  blk_simp
  rw [after0_6]
  obtain ⟨r, j, rfl⟩ : ∃ (r : Fin 1792) (j : Fin 128), y = ix2 r j := ⟨_, _, eq_ix2 y⟩
  rw [show ((View.whole main_v113_2).slice (win0_6.rect t)).emb (ix2 r j) = ix2 (rowAt t r) j by blk_ext [index6, rowAt], out6_at]
  exact entry_at m c mOf t r j

theorem final7 : (dats m 0 c).arrAt 7 cfg0.N = res m c vOf := by
  refine (dats m 0 c).arrAt_eq_of_covers 7 _ (by decide +kernel) fun t hf y => ?_
  blk_simp
  rw [after0_7]
  obtain ⟨r, j, rfl⟩ : ∃ (r : Fin 1792) (j : Fin 128), y = ix2 r j := ⟨_, _, eq_ix2 y⟩
  rw [show ((View.whole main_v113_3).slice (win0_7.rect t)).emb (ix2 r j) = ix2 (rowAt t r) j by blk_ext [index7, rowAt], out7_at]
  exact entry_at m c vOf t r j

end Kernel

end Cert.Adam.Rest
-- ==== Proof.Adam.RestReference.lean ====
/- The reference's AdamW of the remaining weights: its four results are the packing of what the functions of Formula.lean give
   at every entry, and so the kernel's. -/
module

public import proofs.«01_k».proof.Proof.Gen.AdamRestRefIdeal.Read
public import proofs.«01_k».proof.Proof.Adam.RestKernel

@[expose] public section

set_option maxRecDepth 65536
set_option maxHeartbeats 2000000

noncomputable section

namespace Cert.Adam.Rest

open Idealize.ShloMosaic Idealize.ShloMosaic.TcCoe

/-! Every weight's lines. -/

section Lines

open Cert.AdamRestRefIdeal Cert.AdamRestRefIdeal.Gen

variable (G W M V : Pieces EReal)

theorem spreads (s : Shape) : S_.BroadcastsInDim s (![] : Fin 0 → Fin s.rank) :=
  ⟨fun a => a.elim0, fun a => a.elim0⟩

def linesM : Pieces EReal := fun k => lineM (spreads (shapeOf k)) (G k) (M k)
def linesV : Pieces EReal := fun k => lineV (spreads (shapeOf k)) (G k) (V k)
def linesD : Pieces EReal := fun k => lineD (spreads (shapeOf k)) (G k) (W k) (M k) (V k)

theorem packed_G : packed fill G = fun i => gOf ⟨packed fill G i, packed fill W i, packed fill M i, packed fill V i⟩ := rfl

theorem packed_M : packed fill (linesM G M) = fun i => mOf ⟨packed fill G i, packed fill W i, packed fill M i, packed fill V i⟩ :=
  (congrArg (packed fill) (funext fun k => lineM_eq (spreads (shapeOf k)) (G k) (M k))).trans (packed_of mOf mOf_blank G W M V)

theorem packed_V : packed fill (linesV G V) = fun i => vOf ⟨packed fill G i, packed fill W i, packed fill M i, packed fill V i⟩ :=
  (congrArg (packed fill) (funext fun k => lineV_eq (spreads (shapeOf k)) (G k) (V k))).trans (packed_of vOf vOf_blank G W M V)

theorem packed_D : packed fill (linesD G W M V) = fun i => dOf ⟨packed fill G i, packed fill W i, packed fill M i, packed fill V i⟩ :=
  (congrArg (packed fill) (funext fun k => lineD_eq (spreads (shapeOf k)) (G k) (W k) (M k) (V k))).trans (packed_of dOf dOf_blank G W M V)

end Lines

section Arrays

open Cert.AdamRestRefIdeal Cert.AdamRestRefIdeal.Read

variable (x0 : Vec Ideal S16x128 .f32) (x1 : Vec Ideal S4x4x160 .f32) (x2 : Vec Ideal S4x4x288 .f32) (x3 : Vec Ideal S4x3x128 .f32)
  (x4 : Vec Ideal S1024 .f32) (x5 : Vec Ideal S1024 .f32) (x6 : Vec Ideal S4x48x64 .f32) (x7 : Vec Ideal S4x48x64 .f32)
  (x8 : Vec Ideal S4x48 .f32) (x9 : Vec Ideal S4x48x64x16 .f32) (x10 : Vec Ideal S4x48x64x16 .f32) (x11 : Vec Ideal S4x48x16x64 .f32)
  (x12 : Vec Ideal S4x48x16x64 .f32) (x13 : Vec Ideal S4x768 .f32) (x14 : Vec Ideal S4x768 .f32) (x15 : Vec Ideal S4x1280 .f32)
  (x16 : Vec Ideal S4x12 .f32) (x17 : Vec Ideal S4x12 .f32) (x18 : Vec Ideal S4x12 .f32) (x19 : Vec Ideal S4x768 .f32)
  (x20 : Vec Ideal S4x6 .f32) (x21 : Vec Ideal S4x6 .f32) (x22 : Vec Ideal S4x128 .f32) (x23 : Vec Ideal S4x1024 .f32)
  (x24 : Vec Ideal S4x1024 .f32) (x25 : Vec Ideal S16x128 .f32) (x26 : Vec Ideal S4x4x160 .f32) (x27 : Vec Ideal S4x4x288 .f32)
  (x28 : Vec Ideal S4x3x128 .f32) (x29 : Vec Ideal S1024 .f32) (x30 : Vec Ideal S1024 .f32) (x31 : Vec Ideal S4x48x64 .f32)
  (x32 : Vec Ideal S4x48x64 .f32) (x33 : Vec Ideal S4x48 .f32) (x34 : Vec Ideal S4x48x64x16 .f32) (x35 : Vec Ideal S4x48x64x16 .f32)
  (x36 : Vec Ideal S4x48x16x64 .f32) (x37 : Vec Ideal S4x48x16x64 .f32) (x38 : Vec Ideal S4x768 .f32) (x39 : Vec Ideal S4x768 .f32)
  (x40 : Vec Ideal S4x1280 .f32) (x41 : Vec Ideal S4x12 .f32) (x42 : Vec Ideal S4x12 .f32) (x43 : Vec Ideal S4x12 .f32)
  (x44 : Vec Ideal S4x768 .f32) (x45 : Vec Ideal S4x6 .f32) (x46 : Vec Ideal S4x6 .f32) (x47 : Vec Ideal S4x128 .f32)
  (x48 : Vec Ideal S4x1024 .f32) (x49 : Vec Ideal S4x1024 .f32) (x50 : Vec Ideal S16x128 .f32) (x51 : Vec Ideal S4x4x160 .f32)
  (x52 : Vec Ideal S4x4x288 .f32) (x53 : Vec Ideal S4x3x128 .f32) (x54 : Vec Ideal S1024 .f32) (x55 : Vec Ideal S1024 .f32)
  (x56 : Vec Ideal S4x48x64 .f32) (x57 : Vec Ideal S4x48x64 .f32) (x58 : Vec Ideal S4x48 .f32) (x59 : Vec Ideal S4x48x64x16 .f32)
  (x60 : Vec Ideal S4x48x64x16 .f32) (x61 : Vec Ideal S4x48x16x64 .f32) (x62 : Vec Ideal S4x48x16x64 .f32) (x63 : Vec Ideal S4x768 .f32)
  (x64 : Vec Ideal S4x768 .f32) (x65 : Vec Ideal S4x1280 .f32) (x66 : Vec Ideal S4x12 .f32) (x67 : Vec Ideal S4x12 .f32)
  (x68 : Vec Ideal S4x12 .f32) (x69 : Vec Ideal S4x768 .f32) (x70 : Vec Ideal S4x6 .f32) (x71 : Vec Ideal S4x6 .f32)
  (x72 : Vec Ideal S4x128 .f32) (x73 : Vec Ideal S4x1024 .f32) (x74 : Vec Ideal S4x1024 .f32) (x75 : Vec Ideal S16x128 .f32)
  (x76 : Vec Ideal S4x4x160 .f32) (x77 : Vec Ideal S4x4x288 .f32) (x78 : Vec Ideal S4x3x128 .f32) (x79 : Vec Ideal S1024 .f32)
  (x80 : Vec Ideal S1024 .f32) (x81 : Vec Ideal S4x48x64 .f32) (x82 : Vec Ideal S4x48x64 .f32) (x83 : Vec Ideal S4x48 .f32)
  (x84 : Vec Ideal S4x48x64x16 .f32) (x85 : Vec Ideal S4x48x64x16 .f32) (x86 : Vec Ideal S4x48x16x64 .f32) (x87 : Vec Ideal S4x48x16x64 .f32)
  (x88 : Vec Ideal S4x768 .f32) (x89 : Vec Ideal S4x768 .f32) (x90 : Vec Ideal S4x1280 .f32) (x91 : Vec Ideal S4x12 .f32)
  (x92 : Vec Ideal S4x12 .f32) (x93 : Vec Ideal S4x12 .f32) (x94 : Vec Ideal S4x768 .f32) (x95 : Vec Ideal S4x6 .f32)
  (x96 : Vec Ideal S4x6 .f32) (x97 : Vec Ideal S4x128 .f32) (x98 : Vec Ideal S4x1024 .f32) (x99 : Vec Ideal S4x1024 .f32)

theorem ref_G : val_main_v627 (F := Ideal) x0 x1 x2 x3 x4 x5 x6 x7 x8 x9 x10 x11 x12 x13 x14 x15 x16 x17 x18 x19 x20 x21 x22 x23 x24
    = packed fill (pieces x0 x1 x2 x3 x4 x5 x6 x7 x8 x9 x10 x11 x12 x13 x14 x15 x16 x17 x18 x19 x20 x21 x22 x23 x24) := by
  rfl

theorem ref_D : val_main_v655 (F := Ideal) x0 x1 x2 x3 x4 x5 x6 x7 x8 x9 x10 x11 x12 x13 x14 x15 x16 x17 x18 x19 x20 x21 x22 x23 x24 x25 x26 x27 x28 x29 x30
    x31 x32 x33 x34 x35 x36 x37 x38 x39 x40 x41 x42 x43 x44 x45 x46 x47 x48 x49 x50 x51 x52 x53 x54 x55 x56 x57 x58 x59 x60 x61 x62 x63 x64 x65
    x66 x67 x68 x69 x70 x71 x72 x73 x74 x75 x76 x77 x78 x79 x80 x81 x82 x83 x84 x85 x86 x87 x88 x89 x90 x91 x92 x93 x94 x95 x96 x97 x98 x99
    = packed fill (linesD (pieces x0 x1 x2 x3 x4 x5 x6 x7 x8 x9 x10 x11 x12 x13 x14 x15 x16 x17 x18 x19 x20 x21 x22 x23 x24) (pieces x25 x26 x27
      x28 x29 x30 x31 x32 x33 x34 x35 x36 x37 x38 x39 x40 x41 x42 x43 x44 x45 x46 x47 x48 x49) (pieces x50 x51 x52 x53 x54 x55 x56 x57 x58 x59 x60
      x61 x62 x63 x64 x65 x66 x67 x68 x69 x70 x71 x72 x73 x74) (pieces x75 x76 x77 x78 x79 x80 x81 x82 x83 x84 x85 x86 x87 x88 x89 x90 x91 x92 x93
      x94 x95 x96 x97 x98 x99)) := by
  rfl

theorem ref_M : val_main_v683 (F := Ideal) x0 x1 x2 x3 x4 x5 x6 x7 x8 x9 x10 x11 x12 x13 x14 x15 x16 x17 x18 x19 x20 x21 x22 x23 x24 x50 x51 x52 x53 x54 x55
    x56 x57 x58 x59 x60 x61 x62 x63 x64 x65 x66 x67 x68 x69 x70 x71 x72 x73 x74
    = packed fill (linesM (pieces x0 x1 x2 x3 x4 x5 x6 x7 x8 x9 x10 x11 x12 x13 x14 x15 x16 x17 x18 x19 x20 x21 x22 x23 x24) (pieces x50 x51 x52
      x53 x54 x55 x56 x57 x58 x59 x60 x61 x62 x63 x64 x65 x66 x67 x68 x69 x70 x71 x72 x73 x74)) := by
  rfl

theorem ref_V : val_main_v711 (F := Ideal) x0 x1 x2 x3 x4 x5 x6 x7 x8 x9 x10 x11 x12 x13 x14 x15 x16 x17 x18 x19 x20 x21 x22 x23 x24 x75 x76 x77 x78 x79 x80
    x81 x82 x83 x84 x85 x86 x87 x88 x89 x90 x91 x92 x93 x94 x95 x96 x97 x98 x99
    = packed fill (linesV (pieces x0 x1 x2 x3 x4 x5 x6 x7 x8 x9 x10 x11 x12 x13 x14 x15 x16 x17 x18 x19 x20 x21 x22 x23 x24) (pieces x75 x76 x77
      x78 x79 x80 x81 x82 x83 x84 x85 x86 x87 x88 x89 x90 x91 x92 x93 x94 x95 x96 x97 x98 x99)) := by
  rfl

end Arrays

section Same

open Cert.AdamRestIdeal

/-- The four families being the kernel's arguments. -/
theorem families (m : (ℓ : Loc nD τ sig) → Buf (Elt Ideal) ℓ) (c : Dev nD)
  {x0 : Vec Ideal S16x128 .f32} {x1 : Vec Ideal S4x4x160 .f32} {x2 : Vec Ideal S4x4x288 .f32} {x3 : Vec Ideal S4x3x128 .f32}
  {x4 : Vec Ideal S1024 .f32} {x5 : Vec Ideal S1024 .f32} {x6 : Vec Ideal S4x48x64 .f32} {x7 : Vec Ideal S4x48x64 .f32}
  {x8 : Vec Ideal S4x48 .f32} {x9 : Vec Ideal S4x48x64x16 .f32} {x10 : Vec Ideal S4x48x64x16 .f32} {x11 : Vec Ideal S4x48x16x64 .f32}
  {x12 : Vec Ideal S4x48x16x64 .f32} {x13 : Vec Ideal S4x768 .f32} {x14 : Vec Ideal S4x768 .f32} {x15 : Vec Ideal S4x1280 .f32}
  {x16 : Vec Ideal S4x12 .f32} {x17 : Vec Ideal S4x12 .f32} {x18 : Vec Ideal S4x12 .f32} {x19 : Vec Ideal S4x768 .f32}
  {x20 : Vec Ideal S4x6 .f32} {x21 : Vec Ideal S4x6 .f32} {x22 : Vec Ideal S4x128 .f32} {x23 : Vec Ideal S4x1024 .f32}
  {x24 : Vec Ideal S4x1024 .f32} {x25 : Vec Ideal S16x128 .f32} {x26 : Vec Ideal S4x4x160 .f32} {x27 : Vec Ideal S4x4x288 .f32}
  {x28 : Vec Ideal S4x3x128 .f32} {x29 : Vec Ideal S1024 .f32} {x30 : Vec Ideal S1024 .f32} {x31 : Vec Ideal S4x48x64 .f32}
  {x32 : Vec Ideal S4x48x64 .f32} {x33 : Vec Ideal S4x48 .f32} {x34 : Vec Ideal S4x48x64x16 .f32} {x35 : Vec Ideal S4x48x64x16 .f32}
  {x36 : Vec Ideal S4x48x16x64 .f32} {x37 : Vec Ideal S4x48x16x64 .f32} {x38 : Vec Ideal S4x768 .f32} {x39 : Vec Ideal S4x768 .f32}
  {x40 : Vec Ideal S4x1280 .f32} {x41 : Vec Ideal S4x12 .f32} {x42 : Vec Ideal S4x12 .f32} {x43 : Vec Ideal S4x12 .f32}
  {x44 : Vec Ideal S4x768 .f32} {x45 : Vec Ideal S4x6 .f32} {x46 : Vec Ideal S4x6 .f32} {x47 : Vec Ideal S4x128 .f32}
  {x48 : Vec Ideal S4x1024 .f32} {x49 : Vec Ideal S4x1024 .f32} {x50 : Vec Ideal S16x128 .f32} {x51 : Vec Ideal S4x4x160 .f32}
  {x52 : Vec Ideal S4x4x288 .f32} {x53 : Vec Ideal S4x3x128 .f32} {x54 : Vec Ideal S1024 .f32} {x55 : Vec Ideal S1024 .f32}
  {x56 : Vec Ideal S4x48x64 .f32} {x57 : Vec Ideal S4x48x64 .f32} {x58 : Vec Ideal S4x48 .f32} {x59 : Vec Ideal S4x48x64x16 .f32}
  {x60 : Vec Ideal S4x48x64x16 .f32} {x61 : Vec Ideal S4x48x16x64 .f32} {x62 : Vec Ideal S4x48x16x64 .f32} {x63 : Vec Ideal S4x768 .f32}
  {x64 : Vec Ideal S4x768 .f32} {x65 : Vec Ideal S4x1280 .f32} {x66 : Vec Ideal S4x12 .f32} {x67 : Vec Ideal S4x12 .f32}
  {x68 : Vec Ideal S4x12 .f32} {x69 : Vec Ideal S4x768 .f32} {x70 : Vec Ideal S4x6 .f32} {x71 : Vec Ideal S4x6 .f32}
  {x72 : Vec Ideal S4x128 .f32} {x73 : Vec Ideal S4x1024 .f32} {x74 : Vec Ideal S4x1024 .f32} {x75 : Vec Ideal S16x128 .f32}
  {x76 : Vec Ideal S4x4x160 .f32} {x77 : Vec Ideal S4x4x288 .f32} {x78 : Vec Ideal S4x3x128 .f32} {x79 : Vec Ideal S1024 .f32}
  {x80 : Vec Ideal S1024 .f32} {x81 : Vec Ideal S4x48x64 .f32} {x82 : Vec Ideal S4x48x64 .f32} {x83 : Vec Ideal S4x48 .f32}
  {x84 : Vec Ideal S4x48x64x16 .f32} {x85 : Vec Ideal S4x48x64x16 .f32} {x86 : Vec Ideal S4x48x16x64 .f32} {x87 : Vec Ideal S4x48x16x64 .f32}
  {x88 : Vec Ideal S4x768 .f32} {x89 : Vec Ideal S4x768 .f32} {x90 : Vec Ideal S4x1280 .f32} {x91 : Vec Ideal S4x12 .f32}
  {x92 : Vec Ideal S4x12 .f32} {x93 : Vec Ideal S4x12 .f32} {x94 : Vec Ideal S4x768 .f32} {x95 : Vec Ideal S4x6 .f32}
  {x96 : Vec Ideal S4x6 .f32} {x97 : Vec Ideal S4x128 .f32} {x98 : Vec Ideal S4x1024 .f32} {x99 : Vec Ideal S4x1024 .f32}
    (h : x0 = m ((c : Thread nD τ).loc main_arg0) ∧ x1 = m ((c : Thread nD τ).loc main_arg1) ∧ x2 = m ((c : Thread nD τ).loc main_arg2) ∧ x3 = m ((c
      : Thread nD τ).loc main_arg3) ∧ x4 = m ((c : Thread nD τ).loc main_arg4) ∧ x5 = m ((c : Thread nD τ).loc main_arg5) ∧ x6 = m ((c : Thread nD
      τ).loc main_arg6) ∧ x7 = m ((c : Thread nD τ).loc main_arg7) ∧ x8 = m ((c : Thread nD τ).loc main_arg8) ∧ x9 = m ((c : Thread nD τ).loc
      main_arg9) ∧ x10 = m ((c : Thread nD τ).loc main_arg10) ∧ x11 = m ((c : Thread nD τ).loc main_arg11) ∧ x12 = m ((c : Thread nD τ).loc
      main_arg12) ∧ x13 = m ((c : Thread nD τ).loc main_arg13) ∧ x14 = m ((c : Thread nD τ).loc main_arg14) ∧ x15 = m ((c : Thread nD τ).loc
      main_arg15) ∧ x16 = m ((c : Thread nD τ).loc main_arg16) ∧ x17 = m ((c : Thread nD τ).loc main_arg17) ∧ x18 = m ((c : Thread nD τ).loc
      main_arg18) ∧ x19 = m ((c : Thread nD τ).loc main_arg19) ∧ x20 = m ((c : Thread nD τ).loc main_arg20) ∧ x21 = m ((c : Thread nD τ).loc
      main_arg21) ∧ x22 = m ((c : Thread nD τ).loc main_arg22) ∧ x23 = m ((c : Thread nD τ).loc main_arg23) ∧ x24 = m ((c : Thread nD τ).loc
      main_arg24) ∧ x25 = m ((c : Thread nD τ).loc main_arg25) ∧ x26 = m ((c : Thread nD τ).loc main_arg26) ∧ x27 = m ((c : Thread nD τ).loc
      main_arg27) ∧ x28 = m ((c : Thread nD τ).loc main_arg28) ∧ x29 = m ((c : Thread nD τ).loc main_arg29) ∧ x30 = m ((c : Thread nD τ).loc
      main_arg30) ∧ x31 = m ((c : Thread nD τ).loc main_arg31) ∧ x32 = m ((c : Thread nD τ).loc main_arg32) ∧ x33 = m ((c : Thread nD τ).loc
      main_arg33) ∧ x34 = m ((c : Thread nD τ).loc main_arg34) ∧ x35 = m ((c : Thread nD τ).loc main_arg35) ∧ x36 = m ((c : Thread nD τ).loc
      main_arg36) ∧ x37 = m ((c : Thread nD τ).loc main_arg37) ∧ x38 = m ((c : Thread nD τ).loc main_arg38) ∧ x39 = m ((c : Thread nD τ).loc
      main_arg39) ∧ x40 = m ((c : Thread nD τ).loc main_arg40) ∧ x41 = m ((c : Thread nD τ).loc main_arg41) ∧ x42 = m ((c : Thread nD τ).loc
      main_arg42) ∧ x43 = m ((c : Thread nD τ).loc main_arg43) ∧ x44 = m ((c : Thread nD τ).loc main_arg44) ∧ x45 = m ((c : Thread nD τ).loc
      main_arg45) ∧ x46 = m ((c : Thread nD τ).loc main_arg46) ∧ x47 = m ((c : Thread nD τ).loc main_arg47) ∧ x48 = m ((c : Thread nD τ).loc
      main_arg48) ∧ x49 = m ((c : Thread nD τ).loc main_arg49) ∧ x50 = m ((c : Thread nD τ).loc main_arg50) ∧ x51 = m ((c : Thread nD τ).loc
      main_arg51) ∧ x52 = m ((c : Thread nD τ).loc main_arg52) ∧ x53 = m ((c : Thread nD τ).loc main_arg53) ∧ x54 = m ((c : Thread nD τ).loc
      main_arg54) ∧ x55 = m ((c : Thread nD τ).loc main_arg55) ∧ x56 = m ((c : Thread nD τ).loc main_arg56) ∧ x57 = m ((c : Thread nD τ).loc
      main_arg57) ∧ x58 = m ((c : Thread nD τ).loc main_arg58) ∧ x59 = m ((c : Thread nD τ).loc main_arg59) ∧ x60 = m ((c : Thread nD τ).loc
      main_arg60) ∧ x61 = m ((c : Thread nD τ).loc main_arg61) ∧ x62 = m ((c : Thread nD τ).loc main_arg62) ∧ x63 = m ((c : Thread nD τ).loc
      main_arg63) ∧ x64 = m ((c : Thread nD τ).loc main_arg64) ∧ x65 = m ((c : Thread nD τ).loc main_arg65) ∧ x66 = m ((c : Thread nD τ).loc
      main_arg66) ∧ x67 = m ((c : Thread nD τ).loc main_arg67) ∧ x68 = m ((c : Thread nD τ).loc main_arg68) ∧ x69 = m ((c : Thread nD τ).loc
      main_arg69) ∧ x70 = m ((c : Thread nD τ).loc main_arg70) ∧ x71 = m ((c : Thread nD τ).loc main_arg71) ∧ x72 = m ((c : Thread nD τ).loc
      main_arg72) ∧ x73 = m ((c : Thread nD τ).loc main_arg73) ∧ x74 = m ((c : Thread nD τ).loc main_arg74) ∧ x75 = m ((c : Thread nD τ).loc
      main_arg75) ∧ x76 = m ((c : Thread nD τ).loc main_arg76) ∧ x77 = m ((c : Thread nD τ).loc main_arg77) ∧ x78 = m ((c : Thread nD τ).loc
      main_arg78) ∧ x79 = m ((c : Thread nD τ).loc main_arg79) ∧ x80 = m ((c : Thread nD τ).loc main_arg80) ∧ x81 = m ((c : Thread nD τ).loc
      main_arg81) ∧ x82 = m ((c : Thread nD τ).loc main_arg82) ∧ x83 = m ((c : Thread nD τ).loc main_arg83) ∧ x84 = m ((c : Thread nD τ).loc
      main_arg84) ∧ x85 = m ((c : Thread nD τ).loc main_arg85) ∧ x86 = m ((c : Thread nD τ).loc main_arg86) ∧ x87 = m ((c : Thread nD τ).loc
      main_arg87) ∧ x88 = m ((c : Thread nD τ).loc main_arg88) ∧ x89 = m ((c : Thread nD τ).loc main_arg89) ∧ x90 = m ((c : Thread nD τ).loc
      main_arg90) ∧ x91 = m ((c : Thread nD τ).loc main_arg91) ∧ x92 = m ((c : Thread nD τ).loc main_arg92) ∧ x93 = m ((c : Thread nD τ).loc
      main_arg93) ∧ x94 = m ((c : Thread nD τ).loc main_arg94) ∧ x95 = m ((c : Thread nD τ).loc main_arg95) ∧ x96 = m ((c : Thread nD τ).loc
      main_arg96) ∧ x97 = m ((c : Thread nD τ).loc main_arg97) ∧ x98 = m ((c : Thread nD τ).loc main_arg98) ∧ x99 = m ((c : Thread nD τ).loc
      main_arg99)) :
    (pieces x0 x1 x2 x3 x4 x5 x6 x7 x8 x9 x10 x11 x12 x13 x14 x15 x16 x17 x18 x19 x20 x21 x22 x23 x24) = gradients (start m c) ∧ (pieces x25 x26
      x27 x28 x29 x30 x31 x32 x33 x34 x35 x36 x37 x38 x39 x40 x41 x42 x43 x44 x45 x46 x47 x48 x49) = weights (start m c) ∧ (pieces x50 x51 x52 x53
      x54 x55 x56 x57 x58 x59 x60 x61 x62 x63 x64 x65 x66 x67 x68 x69 x70 x71 x72 x73 x74) = firstMoments (start m c) ∧ (pieces x75 x76 x77 x78
      x79 x80 x81 x82 x83 x84 x85 x86 x87 x88 x89 x90 x91 x92 x93 x94 x95 x96 x97 x98 x99) = secondMoments (start m c) := by
  obtain ⟨rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩ := h
  exact ⟨rfl, rfl, rfl, rfl⟩

/-- A result of the reference on families that are the kernel's arguments is the kernel's. -/
theorem same (m : (ℓ : Loc nD τ sig) → Buf (Elt Ideal) ℓ) (c : Dev nD) {G W M V : Pieces EReal}
    (h : G = gradients (start m c) ∧ W = weights (start m c) ∧ M = firstMoments (start m c) ∧ V = secondMoments (start m c))
    (f : One → EReal) {R : Vec Ideal S7168x128 .f32} (hR : R = res m c f) :
    (fun i => f ⟨packed fill G i, packed fill W i, packed fill M i, packed fill V i⟩) = R := by
  obtain ⟨rfl, rfl, rfl, rfl⟩ := h
  exact hR.symm

end Same

end Cert.Adam.Rest
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InDaIdeal.Value
public import proofs.«01_k».proof.Proof.Gen.InDaRefIdeal.Run
public import proofs.«01_k».proof.Proof.Gen.InDaRefIdeal.Read
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Gen.DbGateIdeal.Value
public import proofs.«01_k».proof.Proof.Gen.DbGateRefIdeal.Run
public import proofs.«01_k».proof.Proof.Gen.DbGateRefIdeal.Read
public import proofs.«01_k».proof.Proof.Gen.DbQkvIdeal.Value
public import proofs.«01_k».proof.Proof.Gen.DbQkvRefIdeal.Run
public import proofs.«01_k».proof.Proof.Gen.DbQkvRefIdeal.Read
public import proofs.«01_k».proof.Proof.Gen.DbXbcIdeal.Value
public import proofs.«01_k».proof.Proof.Gen.DbXbcRefIdeal.Run
public import proofs.«01_k».proof.Proof.Gen.DbXbcRefIdeal.Read
public import proofs.«01_k».proof.Proof.Gen.DbS5uIdeal.Value
public import proofs.«01_k».proof.Proof.Gen.DbS5uRefIdeal.Run
public import proofs.«01_k».proof.Proof.Gen.DbS5uRefIdeal.Read
public import proofs.«01_k».proof.Proof.Gen.S5TailIdeal.Value
public import proofs.«01_k».proof.Proof.Gen.S5TailRefIdeal.Run
public import proofs.«01_k».proof.Proof.Gen.S5TailRefIdeal.Read
public import proofs.«01_k».proof.Proof.Gen.SsdTailIdeal.Value
public import proofs.«01_k».proof.Proof.Gen.SsdTailRefIdeal.Run
public import proofs.«01_k».proof.Proof.Gen.SsdTailRefIdeal.Read
public import proofs.«01_k».proof.Proof.Gen.GdnTailIdeal.Value
public import proofs.«01_k».proof.Proof.Gen.AdamRestIdeal.Value
public import proofs.«01_k».proof.Proof.Gen.GdnTailRefIdeal.Run
public import proofs.«01_k».proof.Proof.Gen.AdamRestRefIdeal.Run
public import proofs.«01_k».proof.Proof.Gen.GdnTailRefIdeal.Read
public import proofs.«01_k».proof.Proof.Gen.AdamRestRefIdeal.Read
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamGluIdeal.Value
public import proofs.«01_k».proof.Proof.Gen.AdamGluRefIdeal.Run
public import proofs.«01_k».proof.Proof.Gen.AdamGluRefIdeal.Read
public import proofs.«01_k».proof.Proof.Gen.AdamBranchIdeal.Value
public import proofs.«01_k».proof.Proof.Gen.AdamBranchRefIdeal.Run
public import proofs.«01_k».proof.Proof.Gen.AdamBranchRefIdeal.Read
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.InDa
public import proofs.«01_k».proof.Proof.Gen.InDa.Frame
public import proofs.«01_k».proof.Proof.Gen.InDaIdeal
public import proofs.«01_k».proof.Proof.Gen.InDaIdeal.Frame
public import proofs.«01_k».proof.Proof.Gen.InDaRefIdeal
public import proofs.«01_k».proof.Proof.Gen.InFwd
public import proofs.«01_k».proof.Proof.Gen.InFwd.Frame
public import proofs.«01_k».proof.Proof.Gen.InFwdIdeal
public import proofs.«01_k».proof.Proof.Gen.InFwdIdeal.Frame
public import proofs.«01_k».proof.Proof.Gen.InFwdRefIdeal
public import proofs.«01_k».proof.Proof.Gen.DbGate
public import proofs.«01_k».proof.Proof.Gen.DbGate.Frame
public import proofs.«01_k».proof.Proof.Gen.DbGateIdeal
public import proofs.«01_k».proof.Proof.Gen.DbGateIdeal.Frame
public import proofs.«01_k».proof.Proof.Gen.DbGateRefIdeal
public import proofs.«01_k».proof.Proof.Gen.DbQkv
public import proofs.«01_k».proof.Proof.Gen.DbQkv.Frame
public import proofs.«01_k».proof.Proof.Gen.DbQkvIdeal
public import proofs.«01_k».proof.Proof.Gen.DbQkvIdeal.Frame
public import proofs.«01_k».proof.Proof.Gen.DbQkvRefIdeal
public import proofs.«01_k».proof.Proof.Gen.DbXbc
public import proofs.«01_k».proof.Proof.Gen.DbXbc.Frame
public import proofs.«01_k».proof.Proof.Gen.DbXbcIdeal
public import proofs.«01_k».proof.Proof.Gen.DbXbcIdeal.Frame
public import proofs.«01_k».proof.Proof.Gen.DbXbcRefIdeal
public import proofs.«01_k».proof.Proof.Gen.DbS5u
public import proofs.«01_k».proof.Proof.Gen.DbS5u.Frame
public import proofs.«01_k».proof.Proof.Gen.DbS5uIdeal
public import proofs.«01_k».proof.Proof.Gen.DbS5uIdeal.Frame
public import proofs.«01_k».proof.Proof.Gen.DbS5uRefIdeal
public import proofs.«01_k».proof.Proof.Gen.S5Tail
public import proofs.«01_k».proof.Proof.Gen.S5Tail.Frame
public import proofs.«01_k».proof.Proof.Gen.S5TailIdeal
public import proofs.«01_k».proof.Proof.Gen.S5TailIdeal.Frame
public import proofs.«01_k».proof.Proof.Gen.S5TailRefIdeal
public import proofs.«01_k».proof.Proof.Gen.SsdTail
public import proofs.«01_k».proof.Proof.Gen.SsdTail.Frame
public import proofs.«01_k».proof.Proof.Gen.SsdTailIdeal
public import proofs.«01_k».proof.Proof.Gen.SsdTailIdeal.Frame
public import proofs.«01_k».proof.Proof.Gen.SsdTailRefIdeal
public import proofs.«01_k».proof.Proof.Gen.GdnTail
public import proofs.«01_k».proof.Proof.Gen.AdamRest
public import proofs.«01_k».proof.Proof.Gen.GdnTail.Frame
public import proofs.«01_k».proof.Proof.Gen.AdamRest.Frame
public import proofs.«01_k».proof.Proof.Gen.GdnTailIdeal
public import proofs.«01_k».proof.Proof.Gen.AdamRestIdeal
public import proofs.«01_k».proof.Proof.Gen.GdnTailIdeal.Frame
public import proofs.«01_k».proof.Proof.Gen.AdamRestIdeal.Frame
public import proofs.«01_k».proof.Proof.Gen.GdnTailRefIdeal
public import proofs.«01_k».proof.Proof.Gen.AdamRestRefIdeal
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamGlu
public import proofs.«01_k».proof.Proof.Gen.AdamGlu.Frame
public import proofs.«01_k».proof.Proof.Gen.AdamGluIdeal
public import proofs.«01_k».proof.Proof.Gen.AdamGluIdeal.Frame
public import proofs.«01_k».proof.Proof.Gen.AdamGluRefIdeal
public import proofs.«01_k».proof.Proof.Gen.AdamBranch
public import proofs.«01_k».proof.Proof.Gen.AdamBranch.Frame
public import proofs.«01_k».proof.Proof.Gen.AdamBranchIdeal
public import proofs.«01_k».proof.Proof.Gen.AdamBranchIdeal.Frame
public import proofs.«01_k».proof.Proof.Gen.AdamBranchRefIdeal
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutRefIdeal
public import proofs.«01_k».proof.Proof.Merge.Equation
public import proofs.«01_k».proof.Proof.Products.DaRef
public import proofs.«01_k».proof.Proof.Products.FwdRef
public import proofs.«01_k».proof.Proof.Products.DbGate
public import proofs.«01_k».proof.Proof.Products.DbQkv
public import proofs.«01_k».proof.Proof.Products.DbXbc
public import proofs.«01_k».proof.Proof.Products.DbS5u
public import proofs.«01_k».proof.Proof.S5.Equation
public import proofs.«01_k».proof.Proof.Ssd.Equation
public import proofs.«01_k».proof.Proof.Gdn.Equation
public import proofs.«01_k».proof.Proof.Adam.In
public import proofs.«01_k».proof.Proof.Adam.Glu
public import proofs.«01_k».proof.Proof.Adam.Branch
public import proofs.«01_k».proof.Proof.Adam.Out
public import proofs.«01_k».proof.Proof.Adam.RestReference
public import Idealize.ShloMosaic.Lib.Quiescent
public import Idealize.ShloMosaic.Adequacy
public import Idealize.ShloMosaic.Init

@[expose] public section

noncomputable section

namespace Cert.Proof

open Idealize.ShloMosaic Idealize.SL.Sem Cert.Kernel Cert.Merge

theorem frame_kernel : Cert.quiescent_Kernel := fun m ρ _ => Cert.Kernel.Gen.frame m ρ
theorem frame_kernelIdeal : Cert.quiescent_KernelIdeal := fun m ρ _ => Cert.KernelIdeal.Gen.frame m ρ
theorem frame_reference : Cert.quiescent_ReferenceIdeal := fun m ρ _ => (θ_run _ _ _).mono
  (fun r h => ⟨fun c => (h c).2.2.2.2.2.2.2.2.2, sem_eq_zero_of_no_sems (by decide) r.2⟩) (Cert.ReferenceIdeal.Value.run (F := Ideal) m ρ)

/-- The merge's backward call computes its nine gradients. -/
theorem algebraic : Cert.algebraic_KernelIdeal_ReferenceIdeal := fun m g m' g' _ hargs => by
  have same : ∀ c, Same m m' c := fun c => by
    obtain ⟨a0, a1, a2, a3, a4, a5, a6, _, a8, a9⟩ := hargs c
    exact ⟨a0, a1, a2, a3, a4, a5, a6, a8, a9⟩
  refine ⟨fun c => res11 m c, fun c => res12 m c, fun c => res13 m c, fun c => res14 m c, fun c => res15 m c, fun c => res16 m c,
    fun c => res17 m c, fun c => res18 m c, fun c => res19 m c, ?_, ?_⟩
  · refine (θ_run _ _ _).mono (fun r h c => ?_) (Cert.KernelIdeal.Value.run_blocks (F := Ideal) m g)
    obtain ⟨h11, h12, h13, h14, h15, h16, h17, h18, h19, hr⟩ := h c
    exact ⟨h11.trans (final11 m c), h12.trans (final12 m c), h13.trans (final13 m c), h14.trans (final14 m c), h15.trans (final15 m c),
      h16.trans (final16 m c), h17.trans (final17 m c), h18.trans (final18 m c), h19.trans (final19 m c), hr⟩
  · refine (θ_run _ _ _).mono (fun r h c => ?_) (Cert.ReferenceIdeal.Value.run (F := Ideal) m' g')
    obtain ⟨h11, h12, h13, h14, h15, h16, h17, h18, h19, hr⟩ := h c
    exact ⟨h11.trans ((Cert.ReferenceIdeal.Read.val_main_v106_eq m' c).trans (eq11 (same c))),
      h12.trans ((Cert.ReferenceIdeal.Read.val_main_v108_eq m' c).trans (eq12 (same c))),
      h13.trans ((Cert.ReferenceIdeal.Read.val_main_v110_eq m' c).trans (eq13 (same c))),
      h14.trans ((Cert.ReferenceIdeal.Read.val_main_v103_eq m' c).trans (eq14 (same c))),
      h15.trans ((Cert.ReferenceIdeal.Read.val_main_v94_eq m' c).trans (eq15 (same c))),
      h16.trans ((Cert.ReferenceIdeal.Read.val_main_v111_eq m' c).trans (eq16 (same c))),
      h17.trans ((Cert.ReferenceIdeal.Read.val_main_v112_eq m' c).trans (eq17 (same c))),
      h18.trans ((Cert.ReferenceIdeal.Read.val_main_v113_eq _).trans (eq18 (same c))),
      h19.trans ((Cert.ReferenceIdeal.Read.val_main_v90_eq m' c).trans (eq19 (same c))), hr⟩

/-! The products of the shared projection: the two arguments' rows and columns as they stand in memory. -/

theorem frame_inDaRef : Cert.quiescent_InDaRefIdeal := fun m ρ _ => (θ_run _ _ _).mono
  (fun r h => ⟨fun c => (h c).2, sem_eq_zero_of_no_sems (by decide) r.2⟩) (Cert.InDaRefIdeal.Value.run (F := Ideal) m ρ)

theorem algebraic_inDa : Cert.algebraic_InDaIdeal_InDaRefIdeal := fun m g m' g' _ hargs => by
  refine ⟨fun c => (Cert.InDaIdeal.Gen.dats m 0 c).arrAt 16 Cert.InDaIdeal.cfg0.N, Cert.InDaIdeal.Value.run_blocks (F := Ideal) m g, ?_⟩
  refine (θ_run _ _ _).mono (fun r h c => ?_) (Cert.InDaRefIdeal.Value.run (F := Ideal) m' g')
  obtain ⟨a0, a1, a2, a3, a4, a5, a6, a7, a8⟩ := hargs c
  exact ⟨(h c).1.trans ((Cert.InDaRefIdeal.Read.val_main_v16_eq ..).trans (Products.Da.equal m c _ _ _ _ _ _ _ _ _ a0 a1 a2 a3 a4 a5 a6 a7 a8)), (h c).2⟩

theorem frame_inFwdRef : Cert.quiescent_InFwdRefIdeal := fun m ρ _ => (θ_run _ _ _).mono
  (fun r h => ⟨fun c => (h c).2.2.2.2.2.2.2.2, sem_eq_zero_of_no_sems (by decide) r.2⟩) (Cert.InFwdRefIdeal.Value.run (F := Ideal) m ρ)

open Cert.InFwdIdeal.Gen Cert.InFwdRefIdeal.Read in
theorem algebraic_inFwd : Cert.algebraic_InFwdIdeal_InFwdRefIdeal := fun m g m' g' _ hargs => by
  refine ⟨fun c => (dats m 0 c).arrAt 9 Cert.InFwdIdeal.cfg0.N, fun c => (dats m 0 c).arrAt 10 Cert.InFwdIdeal.cfg0.N,
    fun c => (dats m 0 c).arrAt 11 Cert.InFwdIdeal.cfg0.N, fun c => (dats m 0 c).arrAt 12 Cert.InFwdIdeal.cfg0.N,
    fun c => (dats m 0 c).arrAt 13 Cert.InFwdIdeal.cfg0.N, fun c => (dats m 0 c).arrAt 14 Cert.InFwdIdeal.cfg0.N,
    fun c => (dats m 0 c).arrAt 15 Cert.InFwdIdeal.cfg0.N, fun c => (dats m 0 c).arrAt 16 Cert.InFwdIdeal.cfg0.N,
    Cert.InFwdIdeal.Value.run_blocks (F := Ideal) m g, ?_⟩
  refine (θ_run _ _ _).mono (fun r h c => ?_) (Cert.InFwdRefIdeal.Value.run (F := Ideal) m' g')
  obtain ⟨a0, a1⟩ := hargs c
  obtain ⟨h9, h10, h11, h12, h13, h14, h15, h16, hr⟩ := h c
  exact ⟨h9.trans ((val_main_v1_eq ..).trans (Products.Fwd.equal9 m c _ _ a0 a1)),
    h10.trans ((val_main_v2_eq ..).trans (Products.Fwd.equal10 m c _ _ a0 a1)),
    h11.trans ((val_main_v3_eq ..).trans (Products.Fwd.equal11 m c _ _ a0 a1)),
    h12.trans ((val_main_v5_eq ..).trans (Products.Fwd.equal12 m c _ _ a0 a1)),
    h13.trans ((val_main_v6_eq ..).trans (Products.Fwd.equal13 m c _ _ a0 a1)),
    h14.trans ((val_main_v9_eq ..).trans (Products.Fwd.equal14 m c _ _ a0 a1)),
    h15.trans ((val_main_v10_eq ..).trans (Products.Fwd.equal15 m c _ _ a0 a1)),
    h16.trans ((val_main_v12_eq ..).trans (Products.Fwd.equal16 m c _ _ a0 a1)), hr⟩

theorem frame_dbGateRef : Cert.quiescent_DbGateRefIdeal := fun m ρ _ => (θ_run _ _ _).mono
  (fun r h => ⟨fun c => (h c).2, sem_eq_zero_of_no_sems (by decide) r.2⟩) (Cert.DbGateRefIdeal.Value.run (F := Ideal) m ρ)

theorem algebraic_dbGate : Cert.algebraic_DbGateIdeal_DbGateRefIdeal := fun m g m' g' _ hargs =>
  ⟨fun c => Cert.DbGateIdeal.Value.G2 m c, Cert.DbGateIdeal.Value.run (F := Ideal) m g,
    (θ_run _ _ _).mono (fun r h c => ⟨(h c).1.trans ((Cert.DbGateRefIdeal.Read.val_main_v4_eq ..).trans
      (Products.DbGate.equal m c _ _ (hargs c).1 (hargs c).2)), (h c).2⟩) (Cert.DbGateRefIdeal.Value.run (F := Ideal) m' g')⟩

theorem frame_dbQkvRef : Cert.quiescent_DbQkvRefIdeal := fun m ρ _ => (θ_run _ _ _).mono
  (fun r h => ⟨fun c => (h c).2, sem_eq_zero_of_no_sems (by decide) r.2⟩) (Cert.DbQkvRefIdeal.Value.run (F := Ideal) m ρ)

theorem algebraic_dbQkv : Cert.algebraic_DbQkvIdeal_DbQkvRefIdeal := fun m g m' g' _ hargs =>
  ⟨fun c => Cert.DbQkvIdeal.Value.G2 m c, Cert.DbQkvIdeal.Value.run (F := Ideal) m g,
    (θ_run _ _ _).mono (fun r h c => ⟨(h c).1.trans ((Cert.DbQkvRefIdeal.Read.val_main_v4_eq ..).trans
      (Products.DbQkv.equal m c _ _ (hargs c).1 (hargs c).2)), (h c).2⟩) (Cert.DbQkvRefIdeal.Value.run (F := Ideal) m' g')⟩

theorem frame_dbXbcRef : Cert.quiescent_DbXbcRefIdeal := fun m ρ _ => (θ_run _ _ _).mono
  (fun r h => ⟨fun c => (h c).2, sem_eq_zero_of_no_sems (by decide) r.2⟩) (Cert.DbXbcRefIdeal.Value.run (F := Ideal) m ρ)

theorem algebraic_dbXbc : Cert.algebraic_DbXbcIdeal_DbXbcRefIdeal := fun m g m' g' _ hargs =>
  ⟨fun c => Cert.DbXbcIdeal.Value.G2 m c, Cert.DbXbcIdeal.Value.run (F := Ideal) m g,
    (θ_run _ _ _).mono (fun r h c => ⟨(h c).1.trans ((Cert.DbXbcRefIdeal.Read.val_main_v4_eq ..).trans
      (Products.DbXbc.equal m c _ _ (hargs c).1 (hargs c).2)), (h c).2⟩) (Cert.DbXbcRefIdeal.Value.run (F := Ideal) m' g')⟩

theorem frame_dbS5uRef : Cert.quiescent_DbS5uRefIdeal := fun m ρ _ => (θ_run _ _ _).mono
  (fun r h => ⟨fun c => (h c).2, sem_eq_zero_of_no_sems (by decide) r.2⟩) (Cert.DbS5uRefIdeal.Value.run (F := Ideal) m ρ)

theorem algebraic_dbS5u : Cert.algebraic_DbS5uIdeal_DbS5uRefIdeal := fun m g m' g' _ hargs =>
  ⟨fun c => Cert.DbS5uIdeal.Value.G2 m c, Cert.DbS5uIdeal.Value.run (F := Ideal) m g,
    (θ_run _ _ _).mono (fun r h c => ⟨(h c).1.trans ((Cert.DbS5uRefIdeal.Read.val_main_v4_eq ..).trans
      (Products.DbS5u.equal m c _ _ (hargs c).1 (hargs c).2)), (h c).2⟩) (Cert.DbS5uRefIdeal.Value.run (F := Ideal) m' g')⟩

/-! The gradient of the S5 branch's tail. -/

theorem frame_s5TailRef : Cert.quiescent_S5TailRefIdeal := fun m ρ _ => (θ_run _ _ _).mono
  (fun r h => ⟨fun c => (h c).2.2.2.2.2.2.2, sem_eq_zero_of_no_sems (by decide) r.2⟩) (Cert.S5TailRefIdeal.Value.run (F := Ideal) m ρ)

open Cert.S5TailIdeal.Gen Cert.S5TailRefIdeal.Read in
theorem algebraic_s5Tail : Cert.algebraic_S5TailIdeal_S5TailRefIdeal := fun m g m' g' _ hargs => by
  refine ⟨fun c => (dats m 0 c).arrAt 8 Cert.S5TailIdeal.cfg0.N, fun c => (dats m 0 c).arrAt 9 Cert.S5TailIdeal.cfg0.N, fun c => (dats m 0 c).arrAt 10 Cert.S5TailIdeal.cfg0.N, fun c => (dats m 0 c).arrAt 11 Cert.S5TailIdeal.cfg0.N, fun c => (dats m 0 c).arrAt 12 Cert.S5TailIdeal.cfg0.N, fun c => (dats m 0 c).arrAt 13 Cert.S5TailIdeal.cfg0.N, fun c => (dats m 0 c).arrAt 14 Cert.S5TailIdeal.cfg0.N,
    Cert.S5TailIdeal.Value.run_blocks (F := Ideal) m g, ?_⟩
  refine (θ_run _ _ _).mono (fun r h c => ?_) (Cert.S5TailRefIdeal.Value.run (F := Ideal) m' g')
  obtain ⟨a0, a1, a2, a3, a4, a5, a6, a7⟩ := hargs c
  obtain ⟨h8, h9, h10, h11, h12, h13, h14, hr⟩ := h c
  have e := S5.args_same m c a0 a1 a2 a3 a4 a5 a6 a7
  exact ⟨h8.trans ((val_main_v85_eq ..).trans ((S5.Ref.res_dY ..).trans (by rw [e]; exact (S5.final8 m c).symm))),
    h9.trans ((val_main_v86_eq ..).trans ((S5.Ref.res_dU ..).trans (by rw [e]; exact (S5.final9 m c).symm))),
    h10.trans ((val_main_v87_eq ..).trans ((S5.Ref.res_dZ ..).trans (by rw [e]; exact (S5.final10 m c).symm))),
    h11.trans ((val_main_v88_eq ..).trans ((S5.Ref.res_dD ..).trans (by rw [e]; exact (S5.final11 m c).symm))),
    h12.trans ((val_main_v89_eq ..).trans ((S5.Ref.res_dBias ..).trans (by rw [e]; exact (S5.final12 m c).symm))),
    h13.trans ((val_main_v61_eq ..).trans ((S5.Ref.res_dGlu ..).trans (by rw [e]; exact (S5.final13 m c).symm))),
    h14.trans ((val_main_v49_eq ..).trans ((S5.Ref.res_dBranch ..).trans (by rw [e]; exact (S5.final14 m c).symm))), hr⟩

/-! The gradient of the state-space branch's tail. -/

theorem frame_ssdTailRef : Cert.quiescent_SsdTailRefIdeal := fun m ρ _ => (θ_run _ _ _).mono
  (fun r h => ⟨fun c => (h c).2.2.2.2, sem_eq_zero_of_no_sems (by decide) r.2⟩) (Cert.SsdTailRefIdeal.Value.run (F := Ideal) m ρ)

open Cert.SsdTailIdeal.Gen Cert.SsdTailRefIdeal.Read in
theorem algebraic_ssdTail : Cert.algebraic_SsdTailIdeal_SsdTailRefIdeal := fun m g m' g' _ hargs => by
  refine ⟨fun c => (dats m 0 c).arrAt 5 Cert.SsdTailIdeal.cfg0.N, fun c => (dats m 0 c).arrAt 6 Cert.SsdTailIdeal.cfg0.N, fun c => (dats m 0 c).arrAt 7 Cert.SsdTailIdeal.cfg0.N, fun c => (dats m 0 c).arrAt 8 Cert.SsdTailIdeal.cfg0.N,
    Cert.SsdTailIdeal.Value.run_blocks (F := Ideal) m g, ?_⟩
  refine (θ_run _ _ _).mono (fun r h c => ?_) (Cert.SsdTailRefIdeal.Value.run (F := Ideal) m' g')
  obtain ⟨a0, a1, a2, a3, a4⟩ := hargs c
  obtain ⟨h5, h6, h7, h8, hr⟩ := h c
  have e := Ssd.args_same m c a0 a1 a2 a3 a4
  exact ⟨h5.trans ((val_main_v51_eq ..).trans ((Ssd.Ref.res_dY ..).trans (by rw [e]; exact (Ssd.final5 m c).symm))),
    h6.trans ((val_main_v52_eq ..).trans ((Ssd.Ref.res_dZ ..).trans (by rw [e]; exact (Ssd.final6 m c).symm))),
    h7.trans ((val_main_v53_eq ..).trans ((Ssd.Ref.res_dG ..).trans (by rw [e]; exact (Ssd.final7 m c).symm))),
    h8.trans ((val_main_v24_eq ..).trans ((Ssd.Ref.res_dBranch ..).trans (by rw [e]; exact (Ssd.final8 m c).symm))), hr⟩

/-! The gradient of the gated delta net branch's tail. -/

theorem frame_gdnTailRef : Cert.quiescent_GdnTailRefIdeal := fun m ρ _ => (θ_run _ _ _).mono
  (fun r h => ⟨fun c => (h c).2.2.2.2, sem_eq_zero_of_no_sems (by decide) r.2⟩) (Cert.GdnTailRefIdeal.Value.run (F := Ideal) m ρ)

open Cert.GdnTailIdeal.Gen Cert.GdnTailRefIdeal.Read in
theorem algebraic_gdnTail : Cert.algebraic_GdnTailIdeal_GdnTailRefIdeal := fun m g m' g' _ hargs => by
  refine ⟨fun c => (dats m 0 c).arrAt 5 Cert.GdnTailIdeal.cfg0.N, fun c => (dats m 0 c).arrAt 6 Cert.GdnTailIdeal.cfg0.N, fun c => (dats m 0 c).arrAt 7 Cert.GdnTailIdeal.cfg0.N, fun c => (dats m 0 c).arrAt 8 Cert.GdnTailIdeal.cfg0.N,
    Cert.GdnTailIdeal.Value.run_blocks (F := Ideal) m g, ?_⟩
  refine (θ_run _ _ _).mono (fun r h c => ?_) (Cert.GdnTailRefIdeal.Value.run (F := Ideal) m' g')
  obtain ⟨a0, a1, a2, a3, a4⟩ := hargs c
  obtain ⟨h5, h6, h7, h8, hr⟩ := h c
  have e := Gdn.args_same m c a0 a1 a2 a3 a4
  exact ⟨h5.trans ((val_main_v48_eq ..).trans ((Gdn.Ref.res_dO ..).trans (by rw [e]; exact (Gdn.final5 m c).symm))),
    h6.trans ((val_main_v26_eq ..).trans ((Gdn.Ref.res_dZ ..).trans (by rw [e]; exact (Gdn.final6 m c).symm))),
    h7.trans ((val_main_v49_eq ..).trans ((Gdn.Ref.res_dG ..).trans (by rw [e]; exact (Gdn.final7 m c).symm))),
    h8.trans ((val_main_v22_eq ..).trans ((Gdn.Ref.res_dBranch ..).trans (by rw [e]; exact (Gdn.final8 m c).symm))), hr⟩

/-! AdamW's step of four weights. -/

theorem frame_adamInRef : Cert.quiescent_AdamInRefIdeal := fun m ρ _ => (θ_run _ _ _).mono
  (fun r h => ⟨fun c => (h c).2.2.2.2, sem_eq_zero_of_no_sems (by decide) r.2⟩) (Cert.AdamInRefIdeal.Value.run (F := Ideal) m ρ)

open Cert.AdamInIdeal.Gen Cert.AdamInRefIdeal.Read in
theorem algebraic_adamIn : Cert.algebraic_AdamInIdeal_AdamInRefIdeal := fun m g m' g' _ hargs => by
  refine ⟨fun c => (dats m 0 c).arrAt 4 Cert.AdamInIdeal.cfg0.N, fun c => (dats m 0 c).arrAt 5 Cert.AdamInIdeal.cfg0.N, fun c => (dats m 0 c).arrAt 6 Cert.AdamInIdeal.cfg0.N, fun c => (dats m 0 c).arrAt 7 Cert.AdamInIdeal.cfg0.N,
    Cert.AdamInIdeal.Value.run_blocks (F := Ideal) m g, ?_⟩
  refine (θ_run _ _ _).mono (fun r h c => ?_) (Cert.AdamInRefIdeal.Value.run (F := Ideal) m' g')
  obtain ⟨h4, h5, h6, h7, hr⟩ := h c
  exact ⟨h4.trans ((val_main_v1_eq ..).trans ((Adam.In.ref_grad ..).trans (Adam.In.same m c (hargs c) Adam.grad (Adam.In.final4 m c)))),
    h5.trans ((val_main_v25_eq ..).trans ((Adam.In.ref_delta ..).trans (Adam.In.same m c (hargs c) Adam.delta (Adam.In.final5 m c)))),
    h6.trans ((val_main_v6_eq ..).trans ((Adam.In.ref_newM ..).trans (Adam.In.same m c (hargs c) Adam.newM (Adam.In.final6 m c)))),
    h7.trans ((val_main_v12_eq ..).trans ((Adam.In.ref_newV ..).trans (Adam.In.same m c (hargs c) Adam.newV (Adam.In.final7 m c)))), hr⟩

theorem frame_adamGluRef : Cert.quiescent_AdamGluRefIdeal := fun m ρ _ => (θ_run _ _ _).mono
  (fun r h => ⟨fun c => (h c).2.2.2.2, sem_eq_zero_of_no_sems (by decide) r.2⟩) (Cert.AdamGluRefIdeal.Value.run (F := Ideal) m ρ)

open Cert.AdamGluIdeal.Gen Cert.AdamGluRefIdeal.Read in
theorem algebraic_adamGlu : Cert.algebraic_AdamGluIdeal_AdamGluRefIdeal := fun m g m' g' _ hargs => by
  refine ⟨fun c => (dats m 0 c).arrAt 4 Cert.AdamGluIdeal.cfg0.N, fun c => (dats m 0 c).arrAt 5 Cert.AdamGluIdeal.cfg0.N, fun c => (dats m 0 c).arrAt 6 Cert.AdamGluIdeal.cfg0.N, fun c => (dats m 0 c).arrAt 7 Cert.AdamGluIdeal.cfg0.N,
    Cert.AdamGluIdeal.Value.run_blocks (F := Ideal) m g, ?_⟩
  refine (θ_run _ _ _).mono (fun r h c => ?_) (Cert.AdamGluRefIdeal.Value.run (F := Ideal) m' g')
  obtain ⟨h4, h5, h6, h7, hr⟩ := h c
  exact ⟨h4.trans ((val_main_v1_eq ..).trans ((Adam.Glu.ref_grad ..).trans (Adam.Glu.same m c (hargs c) Adam.grad (Adam.Glu.final4 m c)))),
    h5.trans ((val_main_v25_eq ..).trans ((Adam.Glu.ref_delta ..).trans (Adam.Glu.same m c (hargs c) Adam.delta (Adam.Glu.final5 m c)))),
    h6.trans ((val_main_v6_eq ..).trans ((Adam.Glu.ref_newM ..).trans (Adam.Glu.same m c (hargs c) Adam.newM (Adam.Glu.final6 m c)))),
    h7.trans ((val_main_v12_eq ..).trans ((Adam.Glu.ref_newV ..).trans (Adam.Glu.same m c (hargs c) Adam.newV (Adam.Glu.final7 m c)))), hr⟩

theorem frame_adamBranchRef : Cert.quiescent_AdamBranchRefIdeal := fun m ρ _ => (θ_run _ _ _).mono
  (fun r h => ⟨fun c => (h c).2.2.2.2, sem_eq_zero_of_no_sems (by decide) r.2⟩) (Cert.AdamBranchRefIdeal.Value.run (F := Ideal) m ρ)

open Cert.AdamBranchIdeal.Gen Cert.AdamBranchRefIdeal.Read in
theorem algebraic_adamBranch : Cert.algebraic_AdamBranchIdeal_AdamBranchRefIdeal := fun m g m' g' _ hargs => by
  refine ⟨fun c => (dats m 0 c).arrAt 4 Cert.AdamBranchIdeal.cfg0.N, fun c => (dats m 0 c).arrAt 5 Cert.AdamBranchIdeal.cfg0.N, fun c => (dats m 0 c).arrAt 6 Cert.AdamBranchIdeal.cfg0.N, fun c => (dats m 0 c).arrAt 7 Cert.AdamBranchIdeal.cfg0.N,
    Cert.AdamBranchIdeal.Value.run_blocks (F := Ideal) m g, ?_⟩
  refine (θ_run _ _ _).mono (fun r h c => ?_) (Cert.AdamBranchRefIdeal.Value.run (F := Ideal) m' g')
  obtain ⟨h4, h5, h6, h7, hr⟩ := h c
  exact ⟨h4.trans ((val_main_v1_eq ..).trans ((Adam.Branch.ref_grad ..).trans (Adam.Branch.same m c (hargs c) Adam.grad (Adam.Branch.final4 m c)))),
    h5.trans ((val_main_v25_eq ..).trans ((Adam.Branch.ref_delta ..).trans (Adam.Branch.same m c (hargs c) Adam.delta (Adam.Branch.final5 m c)))),
    h6.trans ((val_main_v6_eq ..).trans ((Adam.Branch.ref_newM ..).trans (Adam.Branch.same m c (hargs c) Adam.newM (Adam.Branch.final6 m c)))),
    h7.trans ((val_main_v12_eq ..).trans ((Adam.Branch.ref_newV ..).trans (Adam.Branch.same m c (hargs c) Adam.newV (Adam.Branch.final7 m c)))), hr⟩

theorem frame_adamOutRef : Cert.quiescent_AdamOutRefIdeal := fun m ρ _ => (θ_run _ _ _).mono
  (fun r h => ⟨fun c => (h c).2.2.2.2, sem_eq_zero_of_no_sems (by decide) r.2⟩) (Cert.AdamOutRefIdeal.Value.run (F := Ideal) m ρ)

open Cert.AdamOutIdeal.Gen Cert.AdamOutRefIdeal.Read in
theorem algebraic_adamOut : Cert.algebraic_AdamOutIdeal_AdamOutRefIdeal := fun m g m' g' _ hargs => by
  refine ⟨fun c => (dats m 0 c).arrAt 4 Cert.AdamOutIdeal.cfg0.N, fun c => (dats m 0 c).arrAt 5 Cert.AdamOutIdeal.cfg0.N, fun c => (dats m 0 c).arrAt 6 Cert.AdamOutIdeal.cfg0.N, fun c => (dats m 0 c).arrAt 7 Cert.AdamOutIdeal.cfg0.N,
    Cert.AdamOutIdeal.Value.run_blocks (F := Ideal) m g, ?_⟩
  refine (θ_run _ _ _).mono (fun r h c => ?_) (Cert.AdamOutRefIdeal.Value.run (F := Ideal) m' g')
  obtain ⟨h4, h5, h6, h7, hr⟩ := h c
  exact ⟨h4.trans ((val_main_v1_eq ..).trans ((Adam.Out.ref_grad ..).trans (Adam.Out.same m c (hargs c) Adam.grad (Adam.Out.final4 m c)))),
    h5.trans ((val_main_v25_eq ..).trans ((Adam.Out.ref_delta ..).trans (Adam.Out.same m c (hargs c) Adam.delta (Adam.Out.final5 m c)))),
    h6.trans ((val_main_v6_eq ..).trans ((Adam.Out.ref_newM ..).trans (Adam.Out.same m c (hargs c) Adam.newM (Adam.Out.final6 m c)))),
    h7.trans ((val_main_v12_eq ..).trans ((Adam.Out.ref_newV ..).trans (Adam.Out.same m c (hargs c) Adam.newV (Adam.Out.final7 m c)))), hr⟩

theorem frame_adamRestRef : Cert.quiescent_AdamRestRefIdeal := fun m ρ _ => (θ_run _ _ _).mono
  (fun r h => ⟨fun c => (h c).2.2.2.2, sem_eq_zero_of_no_sems (by decide) r.2⟩) (Cert.AdamRestRefIdeal.Value.run (F := Ideal) m ρ)

open Cert.AdamRestIdeal.Gen Cert.AdamRestRefIdeal.Read in
theorem algebraic_adamRest : Cert.algebraic_AdamRestIdeal_AdamRestRefIdeal := fun m g m' g' _ hargs => by
  refine ⟨fun c => (dats m 0 c).arrAt 4 Cert.AdamRestIdeal.cfg0.N, fun c => (dats m 0 c).arrAt 5 Cert.AdamRestIdeal.cfg0.N, fun c => (dats m 0 c).arrAt 6 Cert.AdamRestIdeal.cfg0.N, fun c => (dats m 0 c).arrAt 7 Cert.AdamRestIdeal.cfg0.N,
    Cert.AdamRestIdeal.Value.run_blocks (F := Ideal) m g, ?_⟩
  refine (θ_run _ _ _).mono (fun r h c => ?_) (Cert.AdamRestRefIdeal.Value.run (F := Ideal) m' g')
  obtain ⟨h4, h5, h6, h7, hr⟩ := h c
  have hf := Adam.Rest.families m c (hargs c)
  exact ⟨h4.trans ((val_main_v627_eq ..).trans ((Adam.Rest.ref_G ..).trans ((Adam.Rest.packed_G ..).trans (Adam.Rest.same m c hf Adam.Rest.gOf (Adam.Rest.final4 m c))))),
    h5.trans ((val_main_v655_eq ..).trans ((Adam.Rest.ref_D ..).trans ((Adam.Rest.packed_D ..).trans (Adam.Rest.same m c hf Adam.Rest.dOf (Adam.Rest.final5 m c))))),
    h6.trans ((val_main_v683_eq ..).trans ((Adam.Rest.ref_M ..).trans ((Adam.Rest.packed_M ..).trans (Adam.Rest.same m c hf Adam.Rest.mOf (Adam.Rest.final6 m c))))),
    h7.trans ((val_main_v711_eq ..).trans ((Adam.Rest.ref_V ..).trans ((Adam.Rest.packed_V ..).trans (Adam.Rest.same m c hf Adam.Rest.vOf (Adam.Rest.final7 m c))))), hr⟩

theorem claim : Cert.Claim := ⟨Cert.Kernel.Gen.facts, Cert.KernelIdeal.Gen.facts, Cert.ReferenceIdeal.Gen.facts,
  Cert.InDa.Gen.facts, Cert.InDaIdeal.Gen.facts, Cert.InDaRefIdeal.Gen.facts,
  Cert.InFwd.Gen.facts, Cert.InFwdIdeal.Gen.facts, Cert.InFwdRefIdeal.Gen.facts,
  Cert.DbGate.Gen.facts, Cert.DbGateIdeal.Gen.facts, Cert.DbGateRefIdeal.Gen.facts,
  Cert.DbQkv.Gen.facts, Cert.DbQkvIdeal.Gen.facts, Cert.DbQkvRefIdeal.Gen.facts,
  Cert.DbXbc.Gen.facts, Cert.DbXbcIdeal.Gen.facts, Cert.DbXbcRefIdeal.Gen.facts,
  Cert.DbS5u.Gen.facts, Cert.DbS5uIdeal.Gen.facts, Cert.DbS5uRefIdeal.Gen.facts,
  Cert.S5Tail.Gen.facts, Cert.S5TailIdeal.Gen.facts, Cert.S5TailRefIdeal.Gen.facts,
  Cert.AdamIn.Gen.facts, Cert.AdamInIdeal.Gen.facts, Cert.AdamInRefIdeal.Gen.facts,
  Cert.AdamGlu.Gen.facts, Cert.AdamGluIdeal.Gen.facts, Cert.AdamGluRefIdeal.Gen.facts,
  Cert.AdamBranch.Gen.facts, Cert.AdamBranchIdeal.Gen.facts, Cert.AdamBranchRefIdeal.Gen.facts,
  Cert.AdamOut.Gen.facts, Cert.AdamOutIdeal.Gen.facts, Cert.AdamOutRefIdeal.Gen.facts,
  Cert.SsdTail.Gen.facts, Cert.SsdTailIdeal.Gen.facts, Cert.SsdTailRefIdeal.Gen.facts,
  Cert.GdnTail.Gen.facts, Cert.GdnTailIdeal.Gen.facts, Cert.GdnTailRefIdeal.Gen.facts,
  Cert.AdamRest.Gen.facts, Cert.AdamRestIdeal.Gen.facts, Cert.AdamRestRefIdeal.Gen.facts,
  frame_kernel, frame_kernelIdeal, frame_reference,
  fun m ρ _ => Cert.InDa.Gen.frame m ρ, fun m ρ _ => Cert.InDaIdeal.Gen.frame m ρ, frame_inDaRef,
  fun m ρ _ => Cert.InFwd.Gen.frame m ρ, fun m ρ _ => Cert.InFwdIdeal.Gen.frame m ρ, frame_inFwdRef,
  fun m ρ _ => Cert.DbGate.Gen.frame m ρ, fun m ρ _ => Cert.DbGateIdeal.Gen.frame m ρ, frame_dbGateRef,
  fun m ρ _ => Cert.DbQkv.Gen.frame m ρ, fun m ρ _ => Cert.DbQkvIdeal.Gen.frame m ρ, frame_dbQkvRef,
  fun m ρ _ => Cert.DbXbc.Gen.frame m ρ, fun m ρ _ => Cert.DbXbcIdeal.Gen.frame m ρ, frame_dbXbcRef,
  fun m ρ _ => Cert.DbS5u.Gen.frame m ρ, fun m ρ _ => Cert.DbS5uIdeal.Gen.frame m ρ, frame_dbS5uRef,
  fun m ρ _ => Cert.S5Tail.Gen.frame m ρ, fun m ρ _ => Cert.S5TailIdeal.Gen.frame m ρ, frame_s5TailRef,
  fun m ρ _ => Cert.AdamIn.Gen.frame m ρ, fun m ρ _ => Cert.AdamInIdeal.Gen.frame m ρ, frame_adamInRef,
  fun m ρ _ => Cert.AdamGlu.Gen.frame m ρ, fun m ρ _ => Cert.AdamGluIdeal.Gen.frame m ρ, frame_adamGluRef,
  fun m ρ _ => Cert.AdamBranch.Gen.frame m ρ, fun m ρ _ => Cert.AdamBranchIdeal.Gen.frame m ρ, frame_adamBranchRef,
  fun m ρ _ => Cert.AdamOut.Gen.frame m ρ, fun m ρ _ => Cert.AdamOutIdeal.Gen.frame m ρ, frame_adamOutRef,
  fun m ρ _ => Cert.SsdTail.Gen.frame m ρ, fun m ρ _ => Cert.SsdTailIdeal.Gen.frame m ρ, frame_ssdTailRef,
  fun m ρ _ => Cert.GdnTail.Gen.frame m ρ, fun m ρ _ => Cert.GdnTailIdeal.Gen.frame m ρ, frame_gdnTailRef,
  fun m ρ _ => Cert.AdamRest.Gen.frame m ρ, fun m ρ _ => Cert.AdamRestIdeal.Gen.frame m ρ, frame_adamRestRef,
  trivial, algebraic, trivial, algebraic_inDa, trivial, algebraic_inFwd, trivial, algebraic_dbGate, trivial, algebraic_dbQkv, trivial, algebraic_dbXbc, trivial, algebraic_dbS5u,
  trivial, algebraic_s5Tail, trivial, algebraic_adamIn, trivial, algebraic_adamGlu, trivial, algebraic_adamBranch, trivial, algebraic_adamOut,
  trivial, algebraic_ssdTail, trivial, algebraic_gdnTail, trivial, algebraic_adamRest⟩

end Cert.Proof

end
